-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S512x512 : Shape := ⟨2, ![512, 512]⟩
abbrev S496x512 : Shape := ⟨2, ![496, 512]⟩
abbrev S48 : Shape := ⟨1, ![48]⟩
abbrev S_ : Shape := ⟨0, ![]⟩
abbrev S128x256 : Shape := ⟨2, ![128, 256]⟩
abbrev S128x1 : Shape := ⟨2, ![128, 1]⟩
abbrev S1x256x512 : Shape := ⟨3, ![1, 256, 512]⟩
abbrev S256x512 : Shape := ⟨2, ![256, 512]⟩
abbrev S128x512 : Shape := ⟨2, ![128, 512]⟩
abbrev S1 : Shape := ⟨1, ![1]⟩
abbrev S256x256 : Shape := ⟨2, ![256, 256]⟩
abbrev S256x1 : Shape := ⟨2, ![256, 1]⟩
abbrev S16x512 : Shape := ⟨2, ![16, 512]⟩
abbrev S240x512 : Shape := ⟨2, ![240, 512]⟩
abbrev S15x16x512 : Shape := ⟨3, ![15, 16, 512]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S512x512, .f32⟩
  | .local _ .vmem, ⟨4, _⟩ => ⟨S512x512, .bf16⟩
  | .local _ .vmem, ⟨5, _⟩ => ⟨S496x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_40 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_39 : BitVec 32 := 1#32
  let v87 : BitVec 32 := Scalar.muli v85 c1_i32_39
  let v88 : BitVec 32 := Scalar.addi c0_i32_40 v87
  v88.toNat
def k0_dev2 (d0 : Dev nD) : Nat :=
  let c0_i32_70 : BitVec 32 := 0#32
  let c8_i32_60 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c1_i32_41 : BitVec 32 := 1#32
  let v89 : BitVec 32 := Scalar.addi v69 c1_i32_41
  let c16_i32 : BitVec 32 := 16#32
  let c0_i32_42 : BitVec 32 := 0#32
  let v90 : BitVec 1 := Scalar.cmpi .eq c16_i32 c0_i32_42
  let c1_i32_43 : BitVec 32 := 1#32
  let v91 : BitVec 32 := Scalar.select v90 c1_i32_43 c16_i32
  let v92 : BitVec 32 := Scalar.remsi v89 v91
  let c0_i32_45 : BitVec 32 := 0#32
  let v94 : BitVec 1 := Scalar.cmpi .slt v92 c0_i32_45
  let c0_i32_46 : BitVec 32 := 0#32
  let v95 : BitVec 1 := Scalar.cmpi .slt v91 c0_i32_46
  let v96 : BitVec 1 := Scalar.xori v94 v95
  let c0_i32_44 : BitVec 32 := 0#32
  let v93 : BitVec 1 := Scalar.cmpi .ne v92 c0_i32_44
  let v97 : BitVec 1 := Scalar.andi v96 v93
  let v98 : BitVec 32 := Scalar.addi v92 v91
  let v99 : BitVec 32 := Scalar.select v97 v98 v92
  let c4_i32_54 : BitVec 32 := 4#32
  let c0_i32_55 : BitVec 32 := 0#32
  let v117 : BitVec 1 := Scalar.cmpi .eq c4_i32_54 c0_i32_55
  let c1_i32_56 : BitVec 32 := 1#32
  let v118 : BitVec 32 := Scalar.select v117 c1_i32_56 c4_i32_54
  let v119 : BitVec 32 := Scalar.remsi v99 v118
  let c0_i32_58 : BitVec 32 := 0#32
  let v121 : BitVec 1 := Scalar.cmpi .slt v119 c0_i32_58
  let c0_i32_59 : BitVec 32 := 0#32
  let v122 : BitVec 1 := Scalar.cmpi .slt v118 c0_i32_59
  let v123 : BitVec 1 := Scalar.xori v121 v122
  let c0_i32_57 : BitVec 32 := 0#32
  let v120 : BitVec 1 := Scalar.cmpi .ne v119 c0_i32_57
  let v124 : BitVec 1 := Scalar.andi v123 v120
  let v125 : BitVec 32 := Scalar.addi v119 v118
  let v126 : BitVec 32 := Scalar.select v124 v125 v119
  let v127 : BitVec 32 := Scalar.muli c8_i32_60 v126
  let c2_i32_61 : BitVec 32 := 2#32
  let c0_i32_48 : BitVec 32 := 0#32
  let v101 : BitVec 1 := Scalar.cmpi .sgt v99 c0_i32_48
  let v102 : BitVec 32 := Scalar.extui v101
  let c0_i32_49 : BitVec 32 := 0#32
  let v103 : BitVec 1 := Scalar.cmpi .slt v99 c0_i32_49
  let v104 : BitVec 32 := Scalar.extui v103
  let v105 : BitVec 32 := Scalar.subi v102 v104
  let c4_i32_47 : BitVec 32 := 4#32
  let c0_i32_50 : BitVec 32 := 0#32
  let v106 : BitVec 1 := Scalar.cmpi .sgt c4_i32_47 c0_i32_50
  let v107 : BitVec 32 := Scalar.extui v106
  let c0_i32_51 : BitVec 32 := 0#32
  let v108 : BitVec 1 := Scalar.cmpi .slt c4_i32_47 c0_i32_51
  let v109 : BitVec 32 := Scalar.extui v108
  let v110 : BitVec 32 := Scalar.subi v107 v109
  let v111 : BitVec 1 := Scalar.cmpi .ne v105 v110
  let v112 : BitVec 32 := Scalar.remsi v99 c4_i32_47
  let c0_i32_52 : BitVec 32 := 0#32
  let v113 : BitVec 1 := Scalar.cmpi .ne v112 c0_i32_52
  let v114 : BitVec 1 := Scalar.andi v111 v113
  let v100 : BitVec 32 := Scalar.divsi v99 c4_i32_47
  let c1_i32_53 : BitVec 32 := 1#32
  let v115 : BitVec 32 := Scalar.subi v100 c1_i32_53
  let v116 : BitVec 32 := Scalar.select v114 v115 v100
  let v128 : BitVec 32 := Scalar.muli c2_i32_61 v116
  let v129 : BitVec 32 := Scalar.addi v127 v128
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_62 : BitVec 32 := 2#32
  let c0_i32_63 : BitVec 32 := 0#32
  let v130 : BitVec 1 := Scalar.cmpi .eq c2_i32_62 c0_i32_63
  let c1_i32_64 : BitVec 32 := 1#32
  let v131 : BitVec 32 := Scalar.select v130 c1_i32_64 c2_i32_62
  let v132 : BitVec 32 := Scalar.remsi v116 v131
  let c0_i32_66 : BitVec 32 := 0#32
  let v134 : BitVec 1 := Scalar.cmpi .slt v132 c0_i32_66
  let c0_i32_67 : BitVec 32 := 0#32
  let v135 : BitVec 1 := Scalar.cmpi .slt v131 c0_i32_67
  let v136 : BitVec 1 := Scalar.xori v134 v135
  let c0_i32_65 : BitVec 32 := 0#32
  let v133 : BitVec 1 := Scalar.cmpi .ne v132 c0_i32_65
  let v137 : BitVec 1 := Scalar.andi v136 v133
  let v138 : BitVec 32 := Scalar.addi v132 v131
  let v139 : BitVec 32 := Scalar.select v137 v138 v132
  let v140 : BitVec 32 := Scalar.xori v67 v139
  let v141 : BitVec 32 := Scalar.addi v129 v140
  let c1_i32_69 : BitVec 32 := 1#32
  let v142 : BitVec 32 := Scalar.muli v141 c1_i32_69
  let v143 : BitVec 32 := Scalar.addi c0_i32_70 v142
  v143.toNat
def k0_dev3 (d0 : Dev nD) : Nat :=
  let c0_i32_101 : BitVec 32 := 0#32
  let c8_i32_91 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c2_i32_71 : BitVec 32 := 2#32
  let v144 : BitVec 32 := Scalar.addi v69 c2_i32_71
  let c16_i32_72 : BitVec 32 := 16#32
  let c0_i32_73 : BitVec 32 := 0#32
  let v145 : BitVec 1 := Scalar.cmpi .eq c16_i32_72 c0_i32_73
  let c1_i32_74 : BitVec 32 := 1#32
  let v146 : BitVec 32 := Scalar.select v145 c1_i32_74 c16_i32_72
  let v147 : BitVec 32 := Scalar.remsi v144 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c4_i32_85 : BitVec 32 := 4#32
  let c0_i32_86 : BitVec 32 := 0#32
  let v172 : BitVec 1 := Scalar.cmpi .eq c4_i32_85 c0_i32_86
  let c1_i32_87 : BitVec 32 := 1#32
  let v173 : BitVec 32 := Scalar.select v172 c1_i32_87 c4_i32_85
  let v174 : BitVec 32 := Scalar.remsi v154 v173
  let c0_i32_89 : BitVec 32 := 0#32
  let v176 : BitVec 1 := Scalar.cmpi .slt v174 c0_i32_89
  let c0_i32_90 : BitVec 32 := 0#32
  let v177 : BitVec 1 := Scalar.cmpi .slt v173 c0_i32_90
  let v178 : BitVec 1 := Scalar.xori v176 v177
  let c0_i32_88 : BitVec 32 := 0#32
  let v175 : BitVec 1 := Scalar.cmpi .ne v174 c0_i32_88
  let v179 : BitVec 1 := Scalar.andi v178 v175
  let v180 : BitVec 32 := Scalar.addi v174 v173
  let v181 : BitVec 32 := Scalar.select v179 v180 v174
  let v182 : BitVec 32 := Scalar.muli c8_i32_91 v181
  let c2_i32_92 : BitVec 32 := 2#32
  let c0_i32_79 : BitVec 32 := 0#32
  let v156 : BitVec 1 := Scalar.cmpi .sgt v154 c0_i32_79
  let v157 : BitVec 32 := Scalar.extui v156
  let c0_i32_80 : BitVec 32 := 0#32
  let v158 : BitVec 1 := Scalar.cmpi .slt v154 c0_i32_80
  let v159 : BitVec 32 := Scalar.extui v158
  let v160 : BitVec 32 := Scalar.subi v157 v159
  let c4_i32_78 : BitVec 32 := 4#32
  let c0_i32_81 : BitVec 32 := 0#32
  let v161 : BitVec 1 := Scalar.cmpi .sgt c4_i32_78 c0_i32_81
  let v162 : BitVec 32 := Scalar.extui v161
  let c0_i32_82 : BitVec 32 := 0#32
  let v163 : BitVec 1 := Scalar.cmpi .slt c4_i32_78 c0_i32_82
  let v164 : BitVec 32 := Scalar.extui v163
  let v165 : BitVec 32 := Scalar.subi v162 v164
  let v166 : BitVec 1 := Scalar.cmpi .ne v160 v165
  let v167 : BitVec 32 := Scalar.remsi v154 c4_i32_78
  let c0_i32_83 : BitVec 32 := 0#32
  let v168 : BitVec 1 := Scalar.cmpi .ne v167 c0_i32_83
  let v169 : BitVec 1 := Scalar.andi v166 v168
  let v155 : BitVec 32 := Scalar.divsi v154 c4_i32_78
  let c1_i32_84 : BitVec 32 := 1#32
  let v170 : BitVec 32 := Scalar.subi v155 c1_i32_84
  let v171 : BitVec 32 := Scalar.select v169 v170 v155
  let v183 : BitVec 32 := Scalar.muli c2_i32_92 v171
  let v184 : BitVec 32 := Scalar.addi v182 v183
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_93 : BitVec 32 := 2#32
  let c0_i32_94 : BitVec 32 := 0#32
  let v185 : BitVec 1 := Scalar.cmpi .eq c2_i32_93 c0_i32_94
  let c1_i32_95 : BitVec 32 := 1#32
  let v186 : BitVec 32 := Scalar.select v185 c1_i32_95 c2_i32_93
  let v187 : BitVec 32 := Scalar.remsi v171 v186
  let c0_i32_97 : BitVec 32 := 0#32
  let v189 : BitVec 1 := Scalar.cmpi .slt v187 c0_i32_97
  let c0_i32_98 : BitVec 32 := 0#32
  let v190 : BitVec 1 := Scalar.cmpi .slt v186 c0_i32_98
  let v191 : BitVec 1 := Scalar.xori v189 v190
  let c0_i32_96 : BitVec 32 := 0#32
  let v188 : BitVec 1 := Scalar.cmpi .ne v187 c0_i32_96
  let v192 : BitVec 1 := Scalar.andi v191 v188
  let v193 : BitVec 32 := Scalar.addi v187 v186
  let v194 : BitVec 32 := Scalar.select v192 v193 v187
  let v195 : BitVec 32 := Scalar.xori v67 v194
  let v196 : BitVec 32 := Scalar.addi v184 v195
  let c1_i32_100 : BitVec 32 := 1#32
  let v197 : BitVec 32 := Scalar.muli v196 c1_i32_100
  let v198 : BitVec 32 := Scalar.addi c0_i32_101 v197
  v198.toNat
def k0_dev4 (d0 : Dev nD) : Nat :=
  let c0_i32_131 : BitVec 32 := 0#32
  let c8_i32_121 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c3_i32 : BitVec 32 := 3#32
  let v199 : BitVec 32 := Scalar.addi v69 c3_i32
  let c16_i32_102 : BitVec 32 := 16#32
  let c0_i32_103 : BitVec 32 := 0#32
  let v200 : BitVec 1 := Scalar.cmpi .eq c16_i32_102 c0_i32_103
  let c1_i32_104 : BitVec 32 := 1#32
  let v201 : BitVec 32 := Scalar.select v200 c1_i32_104 c16_i32_102
  let v202 : BitVec 32 := Scalar.remsi v199 v201
  let c0_i32_106 : BitVec 32 := 0#32
  let v204 : BitVec 1 := Scalar.cmpi .slt v202 c0_i32_106
  let c0_i32_107 : BitVec 32 := 0#32
  let v205 : BitVec 1 := Scalar.cmpi .slt v201 c0_i32_107
  let v206 : BitVec 1 := Scalar.xori v204 v205
  let c0_i32_105 : BitVec 32 := 0#32
  let v203 : BitVec 1 := Scalar.cmpi .ne v202 c0_i32_105
  let v207 : BitVec 1 := Scalar.andi v206 v203
  let v208 : BitVec 32 := Scalar.addi v202 v201
  let v209 : BitVec 32 := Scalar.select v207 v208 v202
  let c4_i32_115 : BitVec 32 := 4#32
  let c0_i32_116 : BitVec 32 := 0#32
  let v227 : BitVec 1 := Scalar.cmpi .eq c4_i32_115 c0_i32_116
  let c1_i32_117 : BitVec 32 := 1#32
  let v228 : BitVec 32 := Scalar.select v227 c1_i32_117 c4_i32_115
  let v229 : BitVec 32 := Scalar.remsi v209 v228
  let c0_i32_119 : BitVec 32 := 0#32
  let v231 : BitVec 1 := Scalar.cmpi .slt v229 c0_i32_119
  let c0_i32_120 : BitVec 32 := 0#32
  let v232 : BitVec 1 := Scalar.cmpi .slt v228 c0_i32_120
  let v233 : BitVec 1 := Scalar.xori v231 v232
  let c0_i32_118 : BitVec 32 := 0#32
  let v230 : BitVec 1 := Scalar.cmpi .ne v229 c0_i32_118
  let v234 : BitVec 1 := Scalar.andi v233 v230
  let v235 : BitVec 32 := Scalar.addi v229 v228
  let v236 : BitVec 32 := Scalar.select v234 v235 v229
  let v237 : BitVec 32 := Scalar.muli c8_i32_121 v236
  let c2_i32_122 : BitVec 32 := 2#32
  let c0_i32_109 : BitVec 32 := 0#32
  let v211 : BitVec 1 := Scalar.cmpi .sgt v209 c0_i32_109
  let v212 : BitVec 32 := Scalar.extui v211
  let c0_i32_110 : BitVec 32 := 0#32
  let v213 : BitVec 1 := Scalar.cmpi .slt v209 c0_i32_110
  let v214 : BitVec 32 := Scalar.extui v213
  let v215 : BitVec 32 := Scalar.subi v212 v214
  let c4_i32_108 : BitVec 32 := 4#32
  let c0_i32_111 : BitVec 32 := 0#32
  let v216 : BitVec 1 := Scalar.cmpi .sgt c4_i32_108 c0_i32_111
  let v217 : BitVec 32 := Scalar.extui v216
  let c0_i32_112 : BitVec 32 := 0#32
  let v218 : BitVec 1 := Scalar.cmpi .slt c4_i32_108 c0_i32_112
  let v219 : BitVec 32 := Scalar.extui v218
  let v220 : BitVec 32 := Scalar.subi v217 v219
  let v221 : BitVec 1 := Scalar.cmpi .ne v215 v220
  let v222 : BitVec 32 := Scalar.remsi v209 c4_i32_108
  let c0_i32_113 : BitVec 32 := 0#32
  let v223 : BitVec 1 := Scalar.cmpi .ne v222 c0_i32_113
  let v224 : BitVec 1 := Scalar.andi v221 v223
  let v210 : BitVec 32 := Scalar.divsi v209 c4_i32_108
  let c1_i32_114 : BitVec 32 := 1#32
  let v225 : BitVec 32 := Scalar.subi v210 c1_i32_114
  let v226 : BitVec 32 := Scalar.select v224 v225 v210
  let v238 : BitVec 32 := Scalar.muli c2_i32_122 v226
  let v239 : BitVec 32 := Scalar.addi v237 v238
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_123 : BitVec 32 := 2#32
  let c0_i32_124 : BitVec 32 := 0#32
  let v240 : BitVec 1 := Scalar.cmpi .eq c2_i32_123 c0_i32_124
  let c1_i32_125 : BitVec 32 := 1#32
  let v241 : BitVec 32 := Scalar.select v240 c1_i32_125 c2_i32_123
  let v242 : BitVec 32 := Scalar.remsi v226 v241
  let c0_i32_127 : BitVec 32 := 0#32
  let v244 : BitVec 1 := Scalar.cmpi .slt v242 c0_i32_127
  let c0_i32_128 : BitVec 32 := 0#32
  let v245 : BitVec 1 := Scalar.cmpi .slt v241 c0_i32_128
  let v246 : BitVec 1 := Scalar.xori v244 v245
  let c0_i32_126 : BitVec 32 := 0#32
  let v243 : BitVec 1 := Scalar.cmpi .ne v242 c0_i32_126
  let v247 : BitVec 1 := Scalar.andi v246 v243
  let v248 : BitVec 32 := Scalar.addi v242 v241
  let v249 : BitVec 32 := Scalar.select v247 v248 v242
  let v250 : BitVec 32 := Scalar.xori v67 v249
  let v251 : BitVec 32 := Scalar.addi v239 v250
  let c1_i32_130 : BitVec 32 := 1#32
  let v252 : BitVec 32 := Scalar.muli v251 c1_i32_130
  let v253 : BitVec 32 := Scalar.addi c0_i32_131 v252
  v253.toNat
def k0_dev5 (d0 : Dev nD) : Nat :=
  let c0_i32_162 : BitVec 32 := 0#32
  let c8_i32_152 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c4_i32_132 : BitVec 32 := 4#32
  let v254 : BitVec 32 := Scalar.addi v69 c4_i32_132
  let c16_i32_133 : BitVec 32 := 16#32
  let c0_i32_134 : BitVec 32 := 0#32
  let v255 : BitVec 1 := Scalar.cmpi .eq c16_i32_133 c0_i32_134
  let c1_i32_135 : BitVec 32 := 1#32
  let v256 : BitVec 32 := Scalar.select v255 c1_i32_135 c16_i32_133
  let v257 : BitVec 32 := Scalar.remsi v254 v256
  let c0_i32_137 : BitVec 32 := 0#32
  let v259 : BitVec 1 := Scalar.cmpi .slt v257 c0_i32_137
  let c0_i32_138 : BitVec 32 := 0#32
  let v260 : BitVec 1 := Scalar.cmpi .slt v256 c0_i32_138
  let v261 : BitVec 1 := Scalar.xori v259 v260
  let c0_i32_136 : BitVec 32 := 0#32
  let v258 : BitVec 1 := Scalar.cmpi .ne v257 c0_i32_136
  let v262 : BitVec 1 := Scalar.andi v261 v258
  let v263 : BitVec 32 := Scalar.addi v257 v256
  let v264 : BitVec 32 := Scalar.select v262 v263 v257
  let c4_i32_146 : BitVec 32 := 4#32
  let c0_i32_147 : BitVec 32 := 0#32
  let v282 : BitVec 1 := Scalar.cmpi .eq c4_i32_146 c0_i32_147
  let c1_i32_148 : BitVec 32 := 1#32
  let v283 : BitVec 32 := Scalar.select v282 c1_i32_148 c4_i32_146
  let v284 : BitVec 32 := Scalar.remsi v264 v283
  let c0_i32_150 : BitVec 32 := 0#32
  let v286 : BitVec 1 := Scalar.cmpi .slt v284 c0_i32_150
  let c0_i32_151 : BitVec 32 := 0#32
  let v287 : BitVec 1 := Scalar.cmpi .slt v283 c0_i32_151
  let v288 : BitVec 1 := Scalar.xori v286 v287
  let c0_i32_149 : BitVec 32 := 0#32
  let v285 : BitVec 1 := Scalar.cmpi .ne v284 c0_i32_149
  let v289 : BitVec 1 := Scalar.andi v288 v285
  let v290 : BitVec 32 := Scalar.addi v284 v283
  let v291 : BitVec 32 := Scalar.select v289 v290 v284
  let v292 : BitVec 32 := Scalar.muli c8_i32_152 v291
  let c2_i32_153 : BitVec 32 := 2#32
  let c0_i32_140 : BitVec 32 := 0#32
  let v266 : BitVec 1 := Scalar.cmpi .sgt v264 c0_i32_140
  let v267 : BitVec 32 := Scalar.extui v266
  let c0_i32_141 : BitVec 32 := 0#32
  let v268 : BitVec 1 := Scalar.cmpi .slt v264 c0_i32_141
  let v269 : BitVec 32 := Scalar.extui v268
  let v270 : BitVec 32 := Scalar.subi v267 v269
  let c4_i32_139 : BitVec 32 := 4#32
  let c0_i32_142 : BitVec 32 := 0#32
  let v271 : BitVec 1 := Scalar.cmpi .sgt c4_i32_139 c0_i32_142
  let v272 : BitVec 32 := Scalar.extui v271
  let c0_i32_143 : BitVec 32 := 0#32
  let v273 : BitVec 1 := Scalar.cmpi .slt c4_i32_139 c0_i32_143
  let v274 : BitVec 32 := Scalar.extui v273
  let v275 : BitVec 32 := Scalar.subi v272 v274
  let v276 : BitVec 1 := Scalar.cmpi .ne v270 v275
  let v277 : BitVec 32 := Scalar.remsi v264 c4_i32_139
  let c0_i32_144 : BitVec 32 := 0#32
  let v278 : BitVec 1 := Scalar.cmpi .ne v277 c0_i32_144
  let v279 : BitVec 1 := Scalar.andi v276 v278
  let v265 : BitVec 32 := Scalar.divsi v264 c4_i32_139
  let c1_i32_145 : BitVec 32 := 1#32
  let v280 : BitVec 32 := Scalar.subi v265 c1_i32_145
  let v281 : BitVec 32 := Scalar.select v279 v280 v265
  let v293 : BitVec 32 := Scalar.muli c2_i32_153 v281
  let v294 : BitVec 32 := Scalar.addi v292 v293
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_154 : BitVec 32 := 2#32
  let c0_i32_155 : BitVec 32 := 0#32
  let v295 : BitVec 1 := Scalar.cmpi .eq c2_i32_154 c0_i32_155
  let c1_i32_156 : BitVec 32 := 1#32
  let v296 : BitVec 32 := Scalar.select v295 c1_i32_156 c2_i32_154
  let v297 : BitVec 32 := Scalar.remsi v281 v296
  let c0_i32_158 : BitVec 32 := 0#32
  let v299 : BitVec 1 := Scalar.cmpi .slt v297 c0_i32_158
  let c0_i32_159 : BitVec 32 := 0#32
  let v300 : BitVec 1 := Scalar.cmpi .slt v296 c0_i32_159
  let v301 : BitVec 1 := Scalar.xori v299 v300
  let c0_i32_157 : BitVec 32 := 0#32
  let v298 : BitVec 1 := Scalar.cmpi .ne v297 c0_i32_157
  let v302 : BitVec 1 := Scalar.andi v301 v298
  let v303 : BitVec 32 := Scalar.addi v297 v296
  let v304 : BitVec 32 := Scalar.select v302 v303 v297
  let v305 : BitVec 32 := Scalar.xori v67 v304
  let v306 : BitVec 32 := Scalar.addi v294 v305
  let c1_i32_161 : BitVec 32 := 1#32
  let v307 : BitVec 32 := Scalar.muli v306 c1_i32_161
  let v308 : BitVec 32 := Scalar.addi c0_i32_162 v307
  v308.toNat
def k0_dev6 (d0 : Dev nD) : Nat :=
  let c0_i32_192 : BitVec 32 := 0#32
  let c8_i32_182 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c5_i32 : BitVec 32 := 5#32
  let v309 : BitVec 32 := Scalar.addi v69 c5_i32
  let c16_i32_163 : BitVec 32 := 16#32
  let c0_i32_164 : BitVec 32 := 0#32
  let v310 : BitVec 1 := Scalar.cmpi .eq c16_i32_163 c0_i32_164
  let c1_i32_165 : BitVec 32 := 1#32
  let v311 : BitVec 32 := Scalar.select v310 c1_i32_165 c16_i32_163
  let v312 : BitVec 32 := Scalar.remsi v309 v311
  let c0_i32_167 : BitVec 32 := 0#32
  let v314 : BitVec 1 := Scalar.cmpi .slt v312 c0_i32_167
  let c0_i32_168 : BitVec 32 := 0#32
  let v315 : BitVec 1 := Scalar.cmpi .slt v311 c0_i32_168
  let v316 : BitVec 1 := Scalar.xori v314 v315
  let c0_i32_166 : BitVec 32 := 0#32
  let v313 : BitVec 1 := Scalar.cmpi .ne v312 c0_i32_166
  let v317 : BitVec 1 := Scalar.andi v316 v313
  let v318 : BitVec 32 := Scalar.addi v312 v311
  let v319 : BitVec 32 := Scalar.select v317 v318 v312
  let c4_i32_176 : BitVec 32 := 4#32
  let c0_i32_177 : BitVec 32 := 0#32
  let v337 : BitVec 1 := Scalar.cmpi .eq c4_i32_176 c0_i32_177
  let c1_i32_178 : BitVec 32 := 1#32
  let v338 : BitVec 32 := Scalar.select v337 c1_i32_178 c4_i32_176
  let v339 : BitVec 32 := Scalar.remsi v319 v338
  let c0_i32_180 : BitVec 32 := 0#32
  let v341 : BitVec 1 := Scalar.cmpi .slt v339 c0_i32_180
  let c0_i32_181 : BitVec 32 := 0#32
  let v342 : BitVec 1 := Scalar.cmpi .slt v338 c0_i32_181
  let v343 : BitVec 1 := Scalar.xori v341 v342
  let c0_i32_179 : BitVec 32 := 0#32
  let v340 : BitVec 1 := Scalar.cmpi .ne v339 c0_i32_179
  let v344 : BitVec 1 := Scalar.andi v343 v340
  let v345 : BitVec 32 := Scalar.addi v339 v338
  let v346 : BitVec 32 := Scalar.select v344 v345 v339
  let v347 : BitVec 32 := Scalar.muli c8_i32_182 v346
  let c2_i32_183 : BitVec 32 := 2#32
  let c0_i32_170 : BitVec 32 := 0#32
  let v321 : BitVec 1 := Scalar.cmpi .sgt v319 c0_i32_170
  let v322 : BitVec 32 := Scalar.extui v321
  let c0_i32_171 : BitVec 32 := 0#32
  let v323 : BitVec 1 := Scalar.cmpi .slt v319 c0_i32_171
  let v324 : BitVec 32 := Scalar.extui v323
  let v325 : BitVec 32 := Scalar.subi v322 v324
  let c4_i32_169 : BitVec 32 := 4#32
  let c0_i32_172 : BitVec 32 := 0#32
  let v326 : BitVec 1 := Scalar.cmpi .sgt c4_i32_169 c0_i32_172
  let v327 : BitVec 32 := Scalar.extui v326
  let c0_i32_173 : BitVec 32 := 0#32
  let v328 : BitVec 1 := Scalar.cmpi .slt c4_i32_169 c0_i32_173
  let v329 : BitVec 32 := Scalar.extui v328
  let v330 : BitVec 32 := Scalar.subi v327 v329
  let v331 : BitVec 1 := Scalar.cmpi .ne v325 v330
  let v332 : BitVec 32 := Scalar.remsi v319 c4_i32_169
  let c0_i32_174 : BitVec 32 := 0#32
  let v333 : BitVec 1 := Scalar.cmpi .ne v332 c0_i32_174
  let v334 : BitVec 1 := Scalar.andi v331 v333
  let v320 : BitVec 32 := Scalar.divsi v319 c4_i32_169
  let c1_i32_175 : BitVec 32 := 1#32
  let v335 : BitVec 32 := Scalar.subi v320 c1_i32_175
  let v336 : BitVec 32 := Scalar.select v334 v335 v320
  let v348 : BitVec 32 := Scalar.muli c2_i32_183 v336
  let v349 : BitVec 32 := Scalar.addi v347 v348
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_184 : BitVec 32 := 2#32
  let c0_i32_185 : BitVec 32 := 0#32
  let v350 : BitVec 1 := Scalar.cmpi .eq c2_i32_184 c0_i32_185
  let c1_i32_186 : BitVec 32 := 1#32
  let v351 : BitVec 32 := Scalar.select v350 c1_i32_186 c2_i32_184
  let v352 : BitVec 32 := Scalar.remsi v336 v351
  let c0_i32_188 : BitVec 32 := 0#32
  let v354 : BitVec 1 := Scalar.cmpi .slt v352 c0_i32_188
  let c0_i32_189 : BitVec 32 := 0#32
  let v355 : BitVec 1 := Scalar.cmpi .slt v351 c0_i32_189
  let v356 : BitVec 1 := Scalar.xori v354 v355
  let c0_i32_187 : BitVec 32 := 0#32
  let v353 : BitVec 1 := Scalar.cmpi .ne v352 c0_i32_187
  let v357 : BitVec 1 := Scalar.andi v356 v353
  let v358 : BitVec 32 := Scalar.addi v352 v351
  let v359 : BitVec 32 := Scalar.select v357 v358 v352
  let v360 : BitVec 32 := Scalar.xori v67 v359
  let v361 : BitVec 32 := Scalar.addi v349 v360
  let c1_i32_191 : BitVec 32 := 1#32
  let v362 : BitVec 32 := Scalar.muli v361 c1_i32_191
  let v363 : BitVec 32 := Scalar.addi c0_i32_192 v362
  v363.toNat
def k0_dev7 (d0 : Dev nD) : Nat :=
  let c0_i32_222 : BitVec 32 := 0#32
  let c8_i32_212 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c6_i32 : BitVec 32 := 6#32
  let v364 : BitVec 32 := Scalar.addi v69 c6_i32
  let c16_i32_193 : BitVec 32 := 16#32
  let c0_i32_194 : BitVec 32 := 0#32
  let v365 : BitVec 1 := Scalar.cmpi .eq c16_i32_193 c0_i32_194
  let c1_i32_195 : BitVec 32 := 1#32
  let v366 : BitVec 32 := Scalar.select v365 c1_i32_195 c16_i32_193
  let v367 : BitVec 32 := Scalar.remsi v364 v366
  let c0_i32_197 : BitVec 32 := 0#32
  let v369 : BitVec 1 := Scalar.cmpi .slt v367 c0_i32_197
  let c0_i32_198 : BitVec 32 := 0#32
  let v370 : BitVec 1 := Scalar.cmpi .slt v366 c0_i32_198
  let v371 : BitVec 1 := Scalar.xori v369 v370
  let c0_i32_196 : BitVec 32 := 0#32
  let v368 : BitVec 1 := Scalar.cmpi .ne v367 c0_i32_196
  let v372 : BitVec 1 := Scalar.andi v371 v368
  let v373 : BitVec 32 := Scalar.addi v367 v366
  let v374 : BitVec 32 := Scalar.select v372 v373 v367
  let c4_i32_206 : BitVec 32 := 4#32
  let c0_i32_207 : BitVec 32 := 0#32
  let v392 : BitVec 1 := Scalar.cmpi .eq c4_i32_206 c0_i32_207
  let c1_i32_208 : BitVec 32 := 1#32
  let v393 : BitVec 32 := Scalar.select v392 c1_i32_208 c4_i32_206
  let v394 : BitVec 32 := Scalar.remsi v374 v393
  let c0_i32_210 : BitVec 32 := 0#32
  let v396 : BitVec 1 := Scalar.cmpi .slt v394 c0_i32_210
  let c0_i32_211 : BitVec 32 := 0#32
  let v397 : BitVec 1 := Scalar.cmpi .slt v393 c0_i32_211
  let v398 : BitVec 1 := Scalar.xori v396 v397
  let c0_i32_209 : BitVec 32 := 0#32
  let v395 : BitVec 1 := Scalar.cmpi .ne v394 c0_i32_209
  let v399 : BitVec 1 := Scalar.andi v398 v395
  let v400 : BitVec 32 := Scalar.addi v394 v393
  let v401 : BitVec 32 := Scalar.select v399 v400 v394
  let v402 : BitVec 32 := Scalar.muli c8_i32_212 v401
  let c2_i32_213 : BitVec 32 := 2#32
  let c0_i32_200 : BitVec 32 := 0#32
  let v376 : BitVec 1 := Scalar.cmpi .sgt v374 c0_i32_200
  let v377 : BitVec 32 := Scalar.extui v376
  let c0_i32_201 : BitVec 32 := 0#32
  let v378 : BitVec 1 := Scalar.cmpi .slt v374 c0_i32_201
  let v379 : BitVec 32 := Scalar.extui v378
  let v380 : BitVec 32 := Scalar.subi v377 v379
  let c4_i32_199 : BitVec 32 := 4#32
  let c0_i32_202 : BitVec 32 := 0#32
  let v381 : BitVec 1 := Scalar.cmpi .sgt c4_i32_199 c0_i32_202
  let v382 : BitVec 32 := Scalar.extui v381
  let c0_i32_203 : BitVec 32 := 0#32
  let v383 : BitVec 1 := Scalar.cmpi .slt c4_i32_199 c0_i32_203
  let v384 : BitVec 32 := Scalar.extui v383
  let v385 : BitVec 32 := Scalar.subi v382 v384
  let v386 : BitVec 1 := Scalar.cmpi .ne v380 v385
  let v387 : BitVec 32 := Scalar.remsi v374 c4_i32_199
  let c0_i32_204 : BitVec 32 := 0#32
  let v388 : BitVec 1 := Scalar.cmpi .ne v387 c0_i32_204
  let v389 : BitVec 1 := Scalar.andi v386 v388
  let v375 : BitVec 32 := Scalar.divsi v374 c4_i32_199
  let c1_i32_205 : BitVec 32 := 1#32
  let v390 : BitVec 32 := Scalar.subi v375 c1_i32_205
  let v391 : BitVec 32 := Scalar.select v389 v390 v375
  let v403 : BitVec 32 := Scalar.muli c2_i32_213 v391
  let v404 : BitVec 32 := Scalar.addi v402 v403
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_214 : BitVec 32 := 2#32
  let c0_i32_215 : BitVec 32 := 0#32
  let v405 : BitVec 1 := Scalar.cmpi .eq c2_i32_214 c0_i32_215
  let c1_i32_216 : BitVec 32 := 1#32
  let v406 : BitVec 32 := Scalar.select v405 c1_i32_216 c2_i32_214
  let v407 : BitVec 32 := Scalar.remsi v391 v406
  let c0_i32_218 : BitVec 32 := 0#32
  let v409 : BitVec 1 := Scalar.cmpi .slt v407 c0_i32_218
  let c0_i32_219 : BitVec 32 := 0#32
  let v410 : BitVec 1 := Scalar.cmpi .slt v406 c0_i32_219
  let v411 : BitVec 1 := Scalar.xori v409 v410
  let c0_i32_217 : BitVec 32 := 0#32
  let v408 : BitVec 1 := Scalar.cmpi .ne v407 c0_i32_217
  let v412 : BitVec 1 := Scalar.andi v411 v408
  let v413 : BitVec 32 := Scalar.addi v407 v406
  let v414 : BitVec 32 := Scalar.select v412 v413 v407
  let v415 : BitVec 32 := Scalar.xori v67 v414
  let v416 : BitVec 32 := Scalar.addi v404 v415
  let c1_i32_221 : BitVec 32 := 1#32
  let v417 : BitVec 32 := Scalar.muli v416 c1_i32_221
  let v418 : BitVec 32 := Scalar.addi c0_i32_222 v417
  v418.toNat
def k0_dev8 (d0 : Dev nD) : Nat :=
  let c0_i32_252 : BitVec 32 := 0#32
  let c8_i32_242 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c7_i32 : BitVec 32 := 7#32
  let v419 : BitVec 32 := Scalar.addi v69 c7_i32
  let c16_i32_223 : BitVec 32 := 16#32
  let c0_i32_224 : BitVec 32 := 0#32
  let v420 : BitVec 1 := Scalar.cmpi .eq c16_i32_223 c0_i32_224
  let c1_i32_225 : BitVec 32 := 1#32
  let v421 : BitVec 32 := Scalar.select v420 c1_i32_225 c16_i32_223
  let v422 : BitVec 32 := Scalar.remsi v419 v421
  let c0_i32_227 : BitVec 32 := 0#32
  let v424 : BitVec 1 := Scalar.cmpi .slt v422 c0_i32_227
  let c0_i32_228 : BitVec 32 := 0#32
  let v425 : BitVec 1 := Scalar.cmpi .slt v421 c0_i32_228
  let v426 : BitVec 1 := Scalar.xori v424 v425
  let c0_i32_226 : BitVec 32 := 0#32
  let v423 : BitVec 1 := Scalar.cmpi .ne v422 c0_i32_226
  let v427 : BitVec 1 := Scalar.andi v426 v423
  let v428 : BitVec 32 := Scalar.addi v422 v421
  let v429 : BitVec 32 := Scalar.select v427 v428 v422
  let c4_i32_236 : BitVec 32 := 4#32
  let c0_i32_237 : BitVec 32 := 0#32
  let v447 : BitVec 1 := Scalar.cmpi .eq c4_i32_236 c0_i32_237
  let c1_i32_238 : BitVec 32 := 1#32
  let v448 : BitVec 32 := Scalar.select v447 c1_i32_238 c4_i32_236
  let v449 : BitVec 32 := Scalar.remsi v429 v448
  let c0_i32_240 : BitVec 32 := 0#32
  let v451 : BitVec 1 := Scalar.cmpi .slt v449 c0_i32_240
  let c0_i32_241 : BitVec 32 := 0#32
  let v452 : BitVec 1 := Scalar.cmpi .slt v448 c0_i32_241
  let v453 : BitVec 1 := Scalar.xori v451 v452
  let c0_i32_239 : BitVec 32 := 0#32
  let v450 : BitVec 1 := Scalar.cmpi .ne v449 c0_i32_239
  let v454 : BitVec 1 := Scalar.andi v453 v450
  let v455 : BitVec 32 := Scalar.addi v449 v448
  let v456 : BitVec 32 := Scalar.select v454 v455 v449
  let v457 : BitVec 32 := Scalar.muli c8_i32_242 v456
  let c2_i32_243 : BitVec 32 := 2#32
  let c0_i32_230 : BitVec 32 := 0#32
  let v431 : BitVec 1 := Scalar.cmpi .sgt v429 c0_i32_230
  let v432 : BitVec 32 := Scalar.extui v431
  let c0_i32_231 : BitVec 32 := 0#32
  let v433 : BitVec 1 := Scalar.cmpi .slt v429 c0_i32_231
  let v434 : BitVec 32 := Scalar.extui v433
  let v435 : BitVec 32 := Scalar.subi v432 v434
  let c4_i32_229 : BitVec 32 := 4#32
  let c0_i32_232 : BitVec 32 := 0#32
  let v436 : BitVec 1 := Scalar.cmpi .sgt c4_i32_229 c0_i32_232
  let v437 : BitVec 32 := Scalar.extui v436
  let c0_i32_233 : BitVec 32 := 0#32
  let v438 : BitVec 1 := Scalar.cmpi .slt c4_i32_229 c0_i32_233
  let v439 : BitVec 32 := Scalar.extui v438
  let v440 : BitVec 32 := Scalar.subi v437 v439
  let v441 : BitVec 1 := Scalar.cmpi .ne v435 v440
  let v442 : BitVec 32 := Scalar.remsi v429 c4_i32_229
  let c0_i32_234 : BitVec 32 := 0#32
  let v443 : BitVec 1 := Scalar.cmpi .ne v442 c0_i32_234
  let v444 : BitVec 1 := Scalar.andi v441 v443
  let v430 : BitVec 32 := Scalar.divsi v429 c4_i32_229
  let c1_i32_235 : BitVec 32 := 1#32
  let v445 : BitVec 32 := Scalar.subi v430 c1_i32_235
  let v446 : BitVec 32 := Scalar.select v444 v445 v430
  let v458 : BitVec 32 := Scalar.muli c2_i32_243 v446
  let v459 : BitVec 32 := Scalar.addi v457 v458
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_244 : BitVec 32 := 2#32
  let c0_i32_245 : BitVec 32 := 0#32
  let v460 : BitVec 1 := Scalar.cmpi .eq c2_i32_244 c0_i32_245
  let c1_i32_246 : BitVec 32 := 1#32
  let v461 : BitVec 32 := Scalar.select v460 c1_i32_246 c2_i32_244
  let v462 : BitVec 32 := Scalar.remsi v446 v461
  let c0_i32_248 : BitVec 32 := 0#32
  let v464 : BitVec 1 := Scalar.cmpi .slt v462 c0_i32_248
  let c0_i32_249 : BitVec 32 := 0#32
  let v465 : BitVec 1 := Scalar.cmpi .slt v461 c0_i32_249
  let v466 : BitVec 1 := Scalar.xori v464 v465
  let c0_i32_247 : BitVec 32 := 0#32
  let v463 : BitVec 1 := Scalar.cmpi .ne v462 c0_i32_247
  let v467 : BitVec 1 := Scalar.andi v466 v463
  let v468 : BitVec 32 := Scalar.addi v462 v461
  let v469 : BitVec 32 := Scalar.select v467 v468 v462
  let v470 : BitVec 32 := Scalar.xori v67 v469
  let v471 : BitVec 32 := Scalar.addi v459 v470
  let c1_i32_251 : BitVec 32 := 1#32
  let v472 : BitVec 32 := Scalar.muli v471 c1_i32_251
  let v473 : BitVec 32 := Scalar.addi c0_i32_252 v472
  v473.toNat
def k0_dev9 (d0 : Dev nD) : Nat :=
  let c0_i32_283 : BitVec 32 := 0#32
  let c8_i32_273 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c8_i32_253 : BitVec 32 := 8#32
  let v474 : BitVec 32 := Scalar.addi v69 c8_i32_253
  let c16_i32_254 : BitVec 32 := 16#32
  let c0_i32_255 : BitVec 32 := 0#32
  let v475 : BitVec 1 := Scalar.cmpi .eq c16_i32_254 c0_i32_255
  let c1_i32_256 : BitVec 32 := 1#32
  let v476 : BitVec 32 := Scalar.select v475 c1_i32_256 c16_i32_254
  let v477 : BitVec 32 := Scalar.remsi v474 v476
  let c0_i32_258 : BitVec 32 := 0#32
  let v479 : BitVec 1 := Scalar.cmpi .slt v477 c0_i32_258
  let c0_i32_259 : BitVec 32 := 0#32
  let v480 : BitVec 1 := Scalar.cmpi .slt v476 c0_i32_259
  let v481 : BitVec 1 := Scalar.xori v479 v480
  let c0_i32_257 : BitVec 32 := 0#32
  let v478 : BitVec 1 := Scalar.cmpi .ne v477 c0_i32_257
  let v482 : BitVec 1 := Scalar.andi v481 v478
  let v483 : BitVec 32 := Scalar.addi v477 v476
  let v484 : BitVec 32 := Scalar.select v482 v483 v477
  let c4_i32_267 : BitVec 32 := 4#32
  let c0_i32_268 : BitVec 32 := 0#32
  let v502 : BitVec 1 := Scalar.cmpi .eq c4_i32_267 c0_i32_268
  let c1_i32_269 : BitVec 32 := 1#32
  let v503 : BitVec 32 := Scalar.select v502 c1_i32_269 c4_i32_267
  let v504 : BitVec 32 := Scalar.remsi v484 v503
  let c0_i32_271 : BitVec 32 := 0#32
  let v506 : BitVec 1 := Scalar.cmpi .slt v504 c0_i32_271
  let c0_i32_272 : BitVec 32 := 0#32
  let v507 : BitVec 1 := Scalar.cmpi .slt v503 c0_i32_272
  let v508 : BitVec 1 := Scalar.xori v506 v507
  let c0_i32_270 : BitVec 32 := 0#32
  let v505 : BitVec 1 := Scalar.cmpi .ne v504 c0_i32_270
  let v509 : BitVec 1 := Scalar.andi v508 v505
  let v510 : BitVec 32 := Scalar.addi v504 v503
  let v511 : BitVec 32 := Scalar.select v509 v510 v504
  let v512 : BitVec 32 := Scalar.muli c8_i32_273 v511
  let c2_i32_274 : BitVec 32 := 2#32
  let c0_i32_261 : BitVec 32 := 0#32
  let v486 : BitVec 1 := Scalar.cmpi .sgt v484 c0_i32_261
  let v487 : BitVec 32 := Scalar.extui v486
  let c0_i32_262 : BitVec 32 := 0#32
  let v488 : BitVec 1 := Scalar.cmpi .slt v484 c0_i32_262
  let v489 : BitVec 32 := Scalar.extui v488
  let v490 : BitVec 32 := Scalar.subi v487 v489
  let c4_i32_260 : BitVec 32 := 4#32
  let c0_i32_263 : BitVec 32 := 0#32
  let v491 : BitVec 1 := Scalar.cmpi .sgt c4_i32_260 c0_i32_263
  let v492 : BitVec 32 := Scalar.extui v491
  let c0_i32_264 : BitVec 32 := 0#32
  let v493 : BitVec 1 := Scalar.cmpi .slt c4_i32_260 c0_i32_264
  let v494 : BitVec 32 := Scalar.extui v493
  let v495 : BitVec 32 := Scalar.subi v492 v494
  let v496 : BitVec 1 := Scalar.cmpi .ne v490 v495
  let v497 : BitVec 32 := Scalar.remsi v484 c4_i32_260
  let c0_i32_265 : BitVec 32 := 0#32
  let v498 : BitVec 1 := Scalar.cmpi .ne v497 c0_i32_265
  let v499 : BitVec 1 := Scalar.andi v496 v498
  let v485 : BitVec 32 := Scalar.divsi v484 c4_i32_260
  let c1_i32_266 : BitVec 32 := 1#32
  let v500 : BitVec 32 := Scalar.subi v485 c1_i32_266
  let v501 : BitVec 32 := Scalar.select v499 v500 v485
  let v513 : BitVec 32 := Scalar.muli c2_i32_274 v501
  let v514 : BitVec 32 := Scalar.addi v512 v513
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_275 : BitVec 32 := 2#32
  let c0_i32_276 : BitVec 32 := 0#32
  let v515 : BitVec 1 := Scalar.cmpi .eq c2_i32_275 c0_i32_276
  let c1_i32_277 : BitVec 32 := 1#32
  let v516 : BitVec 32 := Scalar.select v515 c1_i32_277 c2_i32_275
  let v517 : BitVec 32 := Scalar.remsi v501 v516
  let c0_i32_279 : BitVec 32 := 0#32
  let v519 : BitVec 1 := Scalar.cmpi .slt v517 c0_i32_279
  let c0_i32_280 : BitVec 32 := 0#32
  let v520 : BitVec 1 := Scalar.cmpi .slt v516 c0_i32_280
  let v521 : BitVec 1 := Scalar.xori v519 v520
  let c0_i32_278 : BitVec 32 := 0#32
  let v518 : BitVec 1 := Scalar.cmpi .ne v517 c0_i32_278
  let v522 : BitVec 1 := Scalar.andi v521 v518
  let v523 : BitVec 32 := Scalar.addi v517 v516
  let v524 : BitVec 32 := Scalar.select v522 v523 v517
  let v525 : BitVec 32 := Scalar.xori v67 v524
  let v526 : BitVec 32 := Scalar.addi v514 v525
  let c1_i32_282 : BitVec 32 := 1#32
  let v527 : BitVec 32 := Scalar.muli v526 c1_i32_282
  let v528 : BitVec 32 := Scalar.addi c0_i32_283 v527
  v528.toNat
def k0_dev10 (d0 : Dev nD) : Nat :=
  let c0_i32_313 : BitVec 32 := 0#32
  let c8_i32_303 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c9_i32 : BitVec 32 := 9#32
  let v529 : BitVec 32 := Scalar.addi v69 c9_i32
  let c16_i32_284 : BitVec 32 := 16#32
  let c0_i32_285 : BitVec 32 := 0#32
  let v530 : BitVec 1 := Scalar.cmpi .eq c16_i32_284 c0_i32_285
  let c1_i32_286 : BitVec 32 := 1#32
  let v531 : BitVec 32 := Scalar.select v530 c1_i32_286 c16_i32_284
  let v532 : BitVec 32 := Scalar.remsi v529 v531
  let c0_i32_288 : BitVec 32 := 0#32
  let v534 : BitVec 1 := Scalar.cmpi .slt v532 c0_i32_288
  let c0_i32_289 : BitVec 32 := 0#32
  let v535 : BitVec 1 := Scalar.cmpi .slt v531 c0_i32_289
  let v536 : BitVec 1 := Scalar.xori v534 v535
  let c0_i32_287 : BitVec 32 := 0#32
  let v533 : BitVec 1 := Scalar.cmpi .ne v532 c0_i32_287
  let v537 : BitVec 1 := Scalar.andi v536 v533
  let v538 : BitVec 32 := Scalar.addi v532 v531
  let v539 : BitVec 32 := Scalar.select v537 v538 v532
  let c4_i32_297 : BitVec 32 := 4#32
  let c0_i32_298 : BitVec 32 := 0#32
  let v557 : BitVec 1 := Scalar.cmpi .eq c4_i32_297 c0_i32_298
  let c1_i32_299 : BitVec 32 := 1#32
  let v558 : BitVec 32 := Scalar.select v557 c1_i32_299 c4_i32_297
  let v559 : BitVec 32 := Scalar.remsi v539 v558
  let c0_i32_301 : BitVec 32 := 0#32
  let v561 : BitVec 1 := Scalar.cmpi .slt v559 c0_i32_301
  let c0_i32_302 : BitVec 32 := 0#32
  let v562 : BitVec 1 := Scalar.cmpi .slt v558 c0_i32_302
  let v563 : BitVec 1 := Scalar.xori v561 v562
  let c0_i32_300 : BitVec 32 := 0#32
  let v560 : BitVec 1 := Scalar.cmpi .ne v559 c0_i32_300
  let v564 : BitVec 1 := Scalar.andi v563 v560
  let v565 : BitVec 32 := Scalar.addi v559 v558
  let v566 : BitVec 32 := Scalar.select v564 v565 v559
  let v567 : BitVec 32 := Scalar.muli c8_i32_303 v566
  let c2_i32_304 : BitVec 32 := 2#32
  let c0_i32_291 : BitVec 32 := 0#32
  let v541 : BitVec 1 := Scalar.cmpi .sgt v539 c0_i32_291
  let v542 : BitVec 32 := Scalar.extui v541
  let c0_i32_292 : BitVec 32 := 0#32
  let v543 : BitVec 1 := Scalar.cmpi .slt v539 c0_i32_292
  let v544 : BitVec 32 := Scalar.extui v543
  let v545 : BitVec 32 := Scalar.subi v542 v544
  let c4_i32_290 : BitVec 32 := 4#32
  let c0_i32_293 : BitVec 32 := 0#32
  let v546 : BitVec 1 := Scalar.cmpi .sgt c4_i32_290 c0_i32_293
  let v547 : BitVec 32 := Scalar.extui v546
  let c0_i32_294 : BitVec 32 := 0#32
  let v548 : BitVec 1 := Scalar.cmpi .slt c4_i32_290 c0_i32_294
  let v549 : BitVec 32 := Scalar.extui v548
  let v550 : BitVec 32 := Scalar.subi v547 v549
  let v551 : BitVec 1 := Scalar.cmpi .ne v545 v550
  let v552 : BitVec 32 := Scalar.remsi v539 c4_i32_290
  let c0_i32_295 : BitVec 32 := 0#32
  let v553 : BitVec 1 := Scalar.cmpi .ne v552 c0_i32_295
  let v554 : BitVec 1 := Scalar.andi v551 v553
  let v540 : BitVec 32 := Scalar.divsi v539 c4_i32_290
  let c1_i32_296 : BitVec 32 := 1#32
  let v555 : BitVec 32 := Scalar.subi v540 c1_i32_296
  let v556 : BitVec 32 := Scalar.select v554 v555 v540
  let v568 : BitVec 32 := Scalar.muli c2_i32_304 v556
  let v569 : BitVec 32 := Scalar.addi v567 v568
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_305 : BitVec 32 := 2#32
  let c0_i32_306 : BitVec 32 := 0#32
  let v570 : BitVec 1 := Scalar.cmpi .eq c2_i32_305 c0_i32_306
  let c1_i32_307 : BitVec 32 := 1#32
  let v571 : BitVec 32 := Scalar.select v570 c1_i32_307 c2_i32_305
  let v572 : BitVec 32 := Scalar.remsi v556 v571
  let c0_i32_309 : BitVec 32 := 0#32
  let v574 : BitVec 1 := Scalar.cmpi .slt v572 c0_i32_309
  let c0_i32_310 : BitVec 32 := 0#32
  let v575 : BitVec 1 := Scalar.cmpi .slt v571 c0_i32_310
  let v576 : BitVec 1 := Scalar.xori v574 v575
  let c0_i32_308 : BitVec 32 := 0#32
  let v573 : BitVec 1 := Scalar.cmpi .ne v572 c0_i32_308
  let v577 : BitVec 1 := Scalar.andi v576 v573
  let v578 : BitVec 32 := Scalar.addi v572 v571
  let v579 : BitVec 32 := Scalar.select v577 v578 v572
  let v580 : BitVec 32 := Scalar.xori v67 v579
  let v581 : BitVec 32 := Scalar.addi v569 v580
  let c1_i32_312 : BitVec 32 := 1#32
  let v582 : BitVec 32 := Scalar.muli v581 c1_i32_312
  let v583 : BitVec 32 := Scalar.addi c0_i32_313 v582
  v583.toNat
def k0_dev11 (d0 : Dev nD) : Nat :=
  let c0_i32_343 : BitVec 32 := 0#32
  let c8_i32_333 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c10_i32 : BitVec 32 := 10#32
  let v584 : BitVec 32 := Scalar.addi v69 c10_i32
  let c16_i32_314 : BitVec 32 := 16#32
  let c0_i32_315 : BitVec 32 := 0#32
  let v585 : BitVec 1 := Scalar.cmpi .eq c16_i32_314 c0_i32_315
  let c1_i32_316 : BitVec 32 := 1#32
  let v586 : BitVec 32 := Scalar.select v585 c1_i32_316 c16_i32_314
  let v587 : BitVec 32 := Scalar.remsi v584 v586
  let c0_i32_318 : BitVec 32 := 0#32
  let v589 : BitVec 1 := Scalar.cmpi .slt v587 c0_i32_318
  let c0_i32_319 : BitVec 32 := 0#32
  let v590 : BitVec 1 := Scalar.cmpi .slt v586 c0_i32_319
  let v591 : BitVec 1 := Scalar.xori v589 v590
  let c0_i32_317 : BitVec 32 := 0#32
  let v588 : BitVec 1 := Scalar.cmpi .ne v587 c0_i32_317
  let v592 : BitVec 1 := Scalar.andi v591 v588
  let v593 : BitVec 32 := Scalar.addi v587 v586
  let v594 : BitVec 32 := Scalar.select v592 v593 v587
  let c4_i32_327 : BitVec 32 := 4#32
  let c0_i32_328 : BitVec 32 := 0#32
  let v612 : BitVec 1 := Scalar.cmpi .eq c4_i32_327 c0_i32_328
  let c1_i32_329 : BitVec 32 := 1#32
  let v613 : BitVec 32 := Scalar.select v612 c1_i32_329 c4_i32_327
  let v614 : BitVec 32 := Scalar.remsi v594 v613
  let c0_i32_331 : BitVec 32 := 0#32
  let v616 : BitVec 1 := Scalar.cmpi .slt v614 c0_i32_331
  let c0_i32_332 : BitVec 32 := 0#32
  let v617 : BitVec 1 := Scalar.cmpi .slt v613 c0_i32_332
  let v618 : BitVec 1 := Scalar.xori v616 v617
  let c0_i32_330 : BitVec 32 := 0#32
  let v615 : BitVec 1 := Scalar.cmpi .ne v614 c0_i32_330
  let v619 : BitVec 1 := Scalar.andi v618 v615
  let v620 : BitVec 32 := Scalar.addi v614 v613
  let v621 : BitVec 32 := Scalar.select v619 v620 v614
  let v622 : BitVec 32 := Scalar.muli c8_i32_333 v621
  let c2_i32_334 : BitVec 32 := 2#32
  let c0_i32_321 : BitVec 32 := 0#32
  let v596 : BitVec 1 := Scalar.cmpi .sgt v594 c0_i32_321
  let v597 : BitVec 32 := Scalar.extui v596
  let c0_i32_322 : BitVec 32 := 0#32
  let v598 : BitVec 1 := Scalar.cmpi .slt v594 c0_i32_322
  let v599 : BitVec 32 := Scalar.extui v598
  let v600 : BitVec 32 := Scalar.subi v597 v599
  let c4_i32_320 : BitVec 32 := 4#32
  let c0_i32_323 : BitVec 32 := 0#32
  let v601 : BitVec 1 := Scalar.cmpi .sgt c4_i32_320 c0_i32_323
  let v602 : BitVec 32 := Scalar.extui v601
  let c0_i32_324 : BitVec 32 := 0#32
  let v603 : BitVec 1 := Scalar.cmpi .slt c4_i32_320 c0_i32_324
  let v604 : BitVec 32 := Scalar.extui v603
  let v605 : BitVec 32 := Scalar.subi v602 v604
  let v606 : BitVec 1 := Scalar.cmpi .ne v600 v605
  let v607 : BitVec 32 := Scalar.remsi v594 c4_i32_320
  let c0_i32_325 : BitVec 32 := 0#32
  let v608 : BitVec 1 := Scalar.cmpi .ne v607 c0_i32_325
  let v609 : BitVec 1 := Scalar.andi v606 v608
  let v595 : BitVec 32 := Scalar.divsi v594 c4_i32_320
  let c1_i32_326 : BitVec 32 := 1#32
  let v610 : BitVec 32 := Scalar.subi v595 c1_i32_326
  let v611 : BitVec 32 := Scalar.select v609 v610 v595
  let v623 : BitVec 32 := Scalar.muli c2_i32_334 v611
  let v624 : BitVec 32 := Scalar.addi v622 v623
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_335 : BitVec 32 := 2#32
  let c0_i32_336 : BitVec 32 := 0#32
  let v625 : BitVec 1 := Scalar.cmpi .eq c2_i32_335 c0_i32_336
  let c1_i32_337 : BitVec 32 := 1#32
  let v626 : BitVec 32 := Scalar.select v625 c1_i32_337 c2_i32_335
  let v627 : BitVec 32 := Scalar.remsi v611 v626
  let c0_i32_339 : BitVec 32 := 0#32
  let v629 : BitVec 1 := Scalar.cmpi .slt v627 c0_i32_339
  let c0_i32_340 : BitVec 32 := 0#32
  let v630 : BitVec 1 := Scalar.cmpi .slt v626 c0_i32_340
  let v631 : BitVec 1 := Scalar.xori v629 v630
  let c0_i32_338 : BitVec 32 := 0#32
  let v628 : BitVec 1 := Scalar.cmpi .ne v627 c0_i32_338
  let v632 : BitVec 1 := Scalar.andi v631 v628
  let v633 : BitVec 32 := Scalar.addi v627 v626
  let v634 : BitVec 32 := Scalar.select v632 v633 v627
  let v635 : BitVec 32 := Scalar.xori v67 v634
  let v636 : BitVec 32 := Scalar.addi v624 v635
  let c1_i32_342 : BitVec 32 := 1#32
  let v637 : BitVec 32 := Scalar.muli v636 c1_i32_342
  let v638 : BitVec 32 := Scalar.addi c0_i32_343 v637
  v638.toNat
def k0_dev12 (d0 : Dev nD) : Nat :=
  let c0_i32_373 : BitVec 32 := 0#32
  let c8_i32_363 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c11_i32 : BitVec 32 := 11#32
  let v639 : BitVec 32 := Scalar.addi v69 c11_i32
  let c16_i32_344 : BitVec 32 := 16#32
  let c0_i32_345 : BitVec 32 := 0#32
  let v640 : BitVec 1 := Scalar.cmpi .eq c16_i32_344 c0_i32_345
  let c1_i32_346 : BitVec 32 := 1#32
  let v641 : BitVec 32 := Scalar.select v640 c1_i32_346 c16_i32_344
  let v642 : BitVec 32 := Scalar.remsi v639 v641
  let c0_i32_348 : BitVec 32 := 0#32
  let v644 : BitVec 1 := Scalar.cmpi .slt v642 c0_i32_348
  let c0_i32_349 : BitVec 32 := 0#32
  let v645 : BitVec 1 := Scalar.cmpi .slt v641 c0_i32_349
  let v646 : BitVec 1 := Scalar.xori v644 v645
  let c0_i32_347 : BitVec 32 := 0#32
  let v643 : BitVec 1 := Scalar.cmpi .ne v642 c0_i32_347
  let v647 : BitVec 1 := Scalar.andi v646 v643
  let v648 : BitVec 32 := Scalar.addi v642 v641
  let v649 : BitVec 32 := Scalar.select v647 v648 v642
  let c4_i32_357 : BitVec 32 := 4#32
  let c0_i32_358 : BitVec 32 := 0#32
  let v667 : BitVec 1 := Scalar.cmpi .eq c4_i32_357 c0_i32_358
  let c1_i32_359 : BitVec 32 := 1#32
  let v668 : BitVec 32 := Scalar.select v667 c1_i32_359 c4_i32_357
  let v669 : BitVec 32 := Scalar.remsi v649 v668
  let c0_i32_361 : BitVec 32 := 0#32
  let v671 : BitVec 1 := Scalar.cmpi .slt v669 c0_i32_361
  let c0_i32_362 : BitVec 32 := 0#32
  let v672 : BitVec 1 := Scalar.cmpi .slt v668 c0_i32_362
  let v673 : BitVec 1 := Scalar.xori v671 v672
  let c0_i32_360 : BitVec 32 := 0#32
  let v670 : BitVec 1 := Scalar.cmpi .ne v669 c0_i32_360
  let v674 : BitVec 1 := Scalar.andi v673 v670
  let v675 : BitVec 32 := Scalar.addi v669 v668
  let v676 : BitVec 32 := Scalar.select v674 v675 v669
  let v677 : BitVec 32 := Scalar.muli c8_i32_363 v676
  let c2_i32_364 : BitVec 32 := 2#32
  let c0_i32_351 : BitVec 32 := 0#32
  let v651 : BitVec 1 := Scalar.cmpi .sgt v649 c0_i32_351
  let v652 : BitVec 32 := Scalar.extui v651
  let c0_i32_352 : BitVec 32 := 0#32
  let v653 : BitVec 1 := Scalar.cmpi .slt v649 c0_i32_352
  let v654 : BitVec 32 := Scalar.extui v653
  let v655 : BitVec 32 := Scalar.subi v652 v654
  let c4_i32_350 : BitVec 32 := 4#32
  let c0_i32_353 : BitVec 32 := 0#32
  let v656 : BitVec 1 := Scalar.cmpi .sgt c4_i32_350 c0_i32_353
  let v657 : BitVec 32 := Scalar.extui v656
  let c0_i32_354 : BitVec 32 := 0#32
  let v658 : BitVec 1 := Scalar.cmpi .slt c4_i32_350 c0_i32_354
  let v659 : BitVec 32 := Scalar.extui v658
  let v660 : BitVec 32 := Scalar.subi v657 v659
  let v661 : BitVec 1 := Scalar.cmpi .ne v655 v660
  let v662 : BitVec 32 := Scalar.remsi v649 c4_i32_350
  let c0_i32_355 : BitVec 32 := 0#32
  let v663 : BitVec 1 := Scalar.cmpi .ne v662 c0_i32_355
  let v664 : BitVec 1 := Scalar.andi v661 v663
  let v650 : BitVec 32 := Scalar.divsi v649 c4_i32_350
  let c1_i32_356 : BitVec 32 := 1#32
  let v665 : BitVec 32 := Scalar.subi v650 c1_i32_356
  let v666 : BitVec 32 := Scalar.select v664 v665 v650
  let v678 : BitVec 32 := Scalar.muli c2_i32_364 v666
  let v679 : BitVec 32 := Scalar.addi v677 v678
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_365 : BitVec 32 := 2#32
  let c0_i32_366 : BitVec 32 := 0#32
  let v680 : BitVec 1 := Scalar.cmpi .eq c2_i32_365 c0_i32_366
  let c1_i32_367 : BitVec 32 := 1#32
  let v681 : BitVec 32 := Scalar.select v680 c1_i32_367 c2_i32_365
  let v682 : BitVec 32 := Scalar.remsi v666 v681
  let c0_i32_369 : BitVec 32 := 0#32
  let v684 : BitVec 1 := Scalar.cmpi .slt v682 c0_i32_369
  let c0_i32_370 : BitVec 32 := 0#32
  let v685 : BitVec 1 := Scalar.cmpi .slt v681 c0_i32_370
  let v686 : BitVec 1 := Scalar.xori v684 v685
  let c0_i32_368 : BitVec 32 := 0#32
  let v683 : BitVec 1 := Scalar.cmpi .ne v682 c0_i32_368
  let v687 : BitVec 1 := Scalar.andi v686 v683
  let v688 : BitVec 32 := Scalar.addi v682 v681
  let v689 : BitVec 32 := Scalar.select v687 v688 v682
  let v690 : BitVec 32 := Scalar.xori v67 v689
  let v691 : BitVec 32 := Scalar.addi v679 v690
  let c1_i32_372 : BitVec 32 := 1#32
  let v692 : BitVec 32 := Scalar.muli v691 c1_i32_372
  let v693 : BitVec 32 := Scalar.addi c0_i32_373 v692
  v693.toNat
def k0_dev13 (d0 : Dev nD) : Nat :=
  let c0_i32_403 : BitVec 32 := 0#32
  let c8_i32_393 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c12_i32 : BitVec 32 := 12#32
  let v694 : BitVec 32 := Scalar.addi v69 c12_i32
  let c16_i32_374 : BitVec 32 := 16#32
  let c0_i32_375 : BitVec 32 := 0#32
  let v695 : BitVec 1 := Scalar.cmpi .eq c16_i32_374 c0_i32_375
  let c1_i32_376 : BitVec 32 := 1#32
  let v696 : BitVec 32 := Scalar.select v695 c1_i32_376 c16_i32_374
  let v697 : BitVec 32 := Scalar.remsi v694 v696
  let c0_i32_378 : BitVec 32 := 0#32
  let v699 : BitVec 1 := Scalar.cmpi .slt v697 c0_i32_378
  let c0_i32_379 : BitVec 32 := 0#32
  let v700 : BitVec 1 := Scalar.cmpi .slt v696 c0_i32_379
  let v701 : BitVec 1 := Scalar.xori v699 v700
  let c0_i32_377 : BitVec 32 := 0#32
  let v698 : BitVec 1 := Scalar.cmpi .ne v697 c0_i32_377
  let v702 : BitVec 1 := Scalar.andi v701 v698
  let v703 : BitVec 32 := Scalar.addi v697 v696
  let v704 : BitVec 32 := Scalar.select v702 v703 v697
  let c4_i32_387 : BitVec 32 := 4#32
  let c0_i32_388 : BitVec 32 := 0#32
  let v722 : BitVec 1 := Scalar.cmpi .eq c4_i32_387 c0_i32_388
  let c1_i32_389 : BitVec 32 := 1#32
  let v723 : BitVec 32 := Scalar.select v722 c1_i32_389 c4_i32_387
  let v724 : BitVec 32 := Scalar.remsi v704 v723
  let c0_i32_391 : BitVec 32 := 0#32
  let v726 : BitVec 1 := Scalar.cmpi .slt v724 c0_i32_391
  let c0_i32_392 : BitVec 32 := 0#32
  let v727 : BitVec 1 := Scalar.cmpi .slt v723 c0_i32_392
  let v728 : BitVec 1 := Scalar.xori v726 v727
  let c0_i32_390 : BitVec 32 := 0#32
  let v725 : BitVec 1 := Scalar.cmpi .ne v724 c0_i32_390
  let v729 : BitVec 1 := Scalar.andi v728 v725
  let v730 : BitVec 32 := Scalar.addi v724 v723
  let v731 : BitVec 32 := Scalar.select v729 v730 v724
  let v732 : BitVec 32 := Scalar.muli c8_i32_393 v731
  let c2_i32_394 : BitVec 32 := 2#32
  let c0_i32_381 : BitVec 32 := 0#32
  let v706 : BitVec 1 := Scalar.cmpi .sgt v704 c0_i32_381
  let v707 : BitVec 32 := Scalar.extui v706
  let c0_i32_382 : BitVec 32 := 0#32
  let v708 : BitVec 1 := Scalar.cmpi .slt v704 c0_i32_382
  let v709 : BitVec 32 := Scalar.extui v708
  let v710 : BitVec 32 := Scalar.subi v707 v709
  let c4_i32_380 : BitVec 32 := 4#32
  let c0_i32_383 : BitVec 32 := 0#32
  let v711 : BitVec 1 := Scalar.cmpi .sgt c4_i32_380 c0_i32_383
  let v712 : BitVec 32 := Scalar.extui v711
  let c0_i32_384 : BitVec 32 := 0#32
  let v713 : BitVec 1 := Scalar.cmpi .slt c4_i32_380 c0_i32_384
  let v714 : BitVec 32 := Scalar.extui v713
  let v715 : BitVec 32 := Scalar.subi v712 v714
  let v716 : BitVec 1 := Scalar.cmpi .ne v710 v715
  let v717 : BitVec 32 := Scalar.remsi v704 c4_i32_380
  let c0_i32_385 : BitVec 32 := 0#32
  let v718 : BitVec 1 := Scalar.cmpi .ne v717 c0_i32_385
  let v719 : BitVec 1 := Scalar.andi v716 v718
  let v705 : BitVec 32 := Scalar.divsi v704 c4_i32_380
  let c1_i32_386 : BitVec 32 := 1#32
  let v720 : BitVec 32 := Scalar.subi v705 c1_i32_386
  let v721 : BitVec 32 := Scalar.select v719 v720 v705
  let v733 : BitVec 32 := Scalar.muli c2_i32_394 v721
  let v734 : BitVec 32 := Scalar.addi v732 v733
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_395 : BitVec 32 := 2#32
  let c0_i32_396 : BitVec 32 := 0#32
  let v735 : BitVec 1 := Scalar.cmpi .eq c2_i32_395 c0_i32_396
  let c1_i32_397 : BitVec 32 := 1#32
  let v736 : BitVec 32 := Scalar.select v735 c1_i32_397 c2_i32_395
  let v737 : BitVec 32 := Scalar.remsi v721 v736
  let c0_i32_399 : BitVec 32 := 0#32
  let v739 : BitVec 1 := Scalar.cmpi .slt v737 c0_i32_399
  let c0_i32_400 : BitVec 32 := 0#32
  let v740 : BitVec 1 := Scalar.cmpi .slt v736 c0_i32_400
  let v741 : BitVec 1 := Scalar.xori v739 v740
  let c0_i32_398 : BitVec 32 := 0#32
  let v738 : BitVec 1 := Scalar.cmpi .ne v737 c0_i32_398
  let v742 : BitVec 1 := Scalar.andi v741 v738
  let v743 : BitVec 32 := Scalar.addi v737 v736
  let v744 : BitVec 32 := Scalar.select v742 v743 v737
  let v745 : BitVec 32 := Scalar.xori v67 v744
  let v746 : BitVec 32 := Scalar.addi v734 v745
  let c1_i32_402 : BitVec 32 := 1#32
  let v747 : BitVec 32 := Scalar.muli v746 c1_i32_402
  let v748 : BitVec 32 := Scalar.addi c0_i32_403 v747
  v748.toNat
def k0_dev14 (d0 : Dev nD) : Nat :=
  let c0_i32_433 : BitVec 32 := 0#32
  let c8_i32_423 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c13_i32 : BitVec 32 := 13#32
  let v749 : BitVec 32 := Scalar.addi v69 c13_i32
  let c16_i32_404 : BitVec 32 := 16#32
  let c0_i32_405 : BitVec 32 := 0#32
  let v750 : BitVec 1 := Scalar.cmpi .eq c16_i32_404 c0_i32_405
  let c1_i32_406 : BitVec 32 := 1#32
  let v751 : BitVec 32 := Scalar.select v750 c1_i32_406 c16_i32_404
  let v752 : BitVec 32 := Scalar.remsi v749 v751
  let c0_i32_408 : BitVec 32 := 0#32
  let v754 : BitVec 1 := Scalar.cmpi .slt v752 c0_i32_408
  let c0_i32_409 : BitVec 32 := 0#32
  let v755 : BitVec 1 := Scalar.cmpi .slt v751 c0_i32_409
  let v756 : BitVec 1 := Scalar.xori v754 v755
  let c0_i32_407 : BitVec 32 := 0#32
  let v753 : BitVec 1 := Scalar.cmpi .ne v752 c0_i32_407
  let v757 : BitVec 1 := Scalar.andi v756 v753
  let v758 : BitVec 32 := Scalar.addi v752 v751
  let v759 : BitVec 32 := Scalar.select v757 v758 v752
  let c4_i32_417 : BitVec 32 := 4#32
  let c0_i32_418 : BitVec 32 := 0#32
  let v777 : BitVec 1 := Scalar.cmpi .eq c4_i32_417 c0_i32_418
  let c1_i32_419 : BitVec 32 := 1#32
  let v778 : BitVec 32 := Scalar.select v777 c1_i32_419 c4_i32_417
  let v779 : BitVec 32 := Scalar.remsi v759 v778
  let c0_i32_421 : BitVec 32 := 0#32
  let v781 : BitVec 1 := Scalar.cmpi .slt v779 c0_i32_421
  let c0_i32_422 : BitVec 32 := 0#32
  let v782 : BitVec 1 := Scalar.cmpi .slt v778 c0_i32_422
  let v783 : BitVec 1 := Scalar.xori v781 v782
  let c0_i32_420 : BitVec 32 := 0#32
  let v780 : BitVec 1 := Scalar.cmpi .ne v779 c0_i32_420
  let v784 : BitVec 1 := Scalar.andi v783 v780
  let v785 : BitVec 32 := Scalar.addi v779 v778
  let v786 : BitVec 32 := Scalar.select v784 v785 v779
  let v787 : BitVec 32 := Scalar.muli c8_i32_423 v786
  let c2_i32_424 : BitVec 32 := 2#32
  let c0_i32_411 : BitVec 32 := 0#32
  let v761 : BitVec 1 := Scalar.cmpi .sgt v759 c0_i32_411
  let v762 : BitVec 32 := Scalar.extui v761
  let c0_i32_412 : BitVec 32 := 0#32
  let v763 : BitVec 1 := Scalar.cmpi .slt v759 c0_i32_412
  let v764 : BitVec 32 := Scalar.extui v763
  let v765 : BitVec 32 := Scalar.subi v762 v764
  let c4_i32_410 : BitVec 32 := 4#32
  let c0_i32_413 : BitVec 32 := 0#32
  let v766 : BitVec 1 := Scalar.cmpi .sgt c4_i32_410 c0_i32_413
  let v767 : BitVec 32 := Scalar.extui v766
  let c0_i32_414 : BitVec 32 := 0#32
  let v768 : BitVec 1 := Scalar.cmpi .slt c4_i32_410 c0_i32_414
  let v769 : BitVec 32 := Scalar.extui v768
  let v770 : BitVec 32 := Scalar.subi v767 v769
  let v771 : BitVec 1 := Scalar.cmpi .ne v765 v770
  let v772 : BitVec 32 := Scalar.remsi v759 c4_i32_410
  let c0_i32_415 : BitVec 32 := 0#32
  let v773 : BitVec 1 := Scalar.cmpi .ne v772 c0_i32_415
  let v774 : BitVec 1 := Scalar.andi v771 v773
  let v760 : BitVec 32 := Scalar.divsi v759 c4_i32_410
  let c1_i32_416 : BitVec 32 := 1#32
  let v775 : BitVec 32 := Scalar.subi v760 c1_i32_416
  let v776 : BitVec 32 := Scalar.select v774 v775 v760
  let v788 : BitVec 32 := Scalar.muli c2_i32_424 v776
  let v789 : BitVec 32 := Scalar.addi v787 v788
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_425 : BitVec 32 := 2#32
  let c0_i32_426 : BitVec 32 := 0#32
  let v790 : BitVec 1 := Scalar.cmpi .eq c2_i32_425 c0_i32_426
  let c1_i32_427 : BitVec 32 := 1#32
  let v791 : BitVec 32 := Scalar.select v790 c1_i32_427 c2_i32_425
  let v792 : BitVec 32 := Scalar.remsi v776 v791
  let c0_i32_429 : BitVec 32 := 0#32
  let v794 : BitVec 1 := Scalar.cmpi .slt v792 c0_i32_429
  let c0_i32_430 : BitVec 32 := 0#32
  let v795 : BitVec 1 := Scalar.cmpi .slt v791 c0_i32_430
  let v796 : BitVec 1 := Scalar.xori v794 v795
  let c0_i32_428 : BitVec 32 := 0#32
  let v793 : BitVec 1 := Scalar.cmpi .ne v792 c0_i32_428
  let v797 : BitVec 1 := Scalar.andi v796 v793
  let v798 : BitVec 32 := Scalar.addi v792 v791
  let v799 : BitVec 32 := Scalar.select v797 v798 v792
  let v800 : BitVec 32 := Scalar.xori v67 v799
  let v801 : BitVec 32 := Scalar.addi v789 v800
  let c1_i32_432 : BitVec 32 := 1#32
  let v802 : BitVec 32 := Scalar.muli v801 c1_i32_432
  let v803 : BitVec 32 := Scalar.addi c0_i32_433 v802
  v803.toNat
def k0_dev15 (d0 : Dev nD) : Nat :=
  let c0_i32_463 : BitVec 32 := 0#32
  let c8_i32_453 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c14_i32 : BitVec 32 := 14#32
  let v804 : BitVec 32 := Scalar.addi v69 c14_i32
  let c16_i32_434 : BitVec 32 := 16#32
  let c0_i32_435 : BitVec 32 := 0#32
  let v805 : BitVec 1 := Scalar.cmpi .eq c16_i32_434 c0_i32_435
  let c1_i32_436 : BitVec 32 := 1#32
  let v806 : BitVec 32 := Scalar.select v805 c1_i32_436 c16_i32_434
  let v807 : BitVec 32 := Scalar.remsi v804 v806
  let c0_i32_438 : BitVec 32 := 0#32
  let v809 : BitVec 1 := Scalar.cmpi .slt v807 c0_i32_438
  let c0_i32_439 : BitVec 32 := 0#32
  let v810 : BitVec 1 := Scalar.cmpi .slt v806 c0_i32_439
  let v811 : BitVec 1 := Scalar.xori v809 v810
  let c0_i32_437 : BitVec 32 := 0#32
  let v808 : BitVec 1 := Scalar.cmpi .ne v807 c0_i32_437
  let v812 : BitVec 1 := Scalar.andi v811 v808
  let v813 : BitVec 32 := Scalar.addi v807 v806
  let v814 : BitVec 32 := Scalar.select v812 v813 v807
  let c4_i32_447 : BitVec 32 := 4#32
  let c0_i32_448 : BitVec 32 := 0#32
  let v832 : BitVec 1 := Scalar.cmpi .eq c4_i32_447 c0_i32_448
  let c1_i32_449 : BitVec 32 := 1#32
  let v833 : BitVec 32 := Scalar.select v832 c1_i32_449 c4_i32_447
  let v834 : BitVec 32 := Scalar.remsi v814 v833
  let c0_i32_451 : BitVec 32 := 0#32
  let v836 : BitVec 1 := Scalar.cmpi .slt v834 c0_i32_451
  let c0_i32_452 : BitVec 32 := 0#32
  let v837 : BitVec 1 := Scalar.cmpi .slt v833 c0_i32_452
  let v838 : BitVec 1 := Scalar.xori v836 v837
  let c0_i32_450 : BitVec 32 := 0#32
  let v835 : BitVec 1 := Scalar.cmpi .ne v834 c0_i32_450
  let v839 : BitVec 1 := Scalar.andi v838 v835
  let v840 : BitVec 32 := Scalar.addi v834 v833
  let v841 : BitVec 32 := Scalar.select v839 v840 v834
  let v842 : BitVec 32 := Scalar.muli c8_i32_453 v841
  let c2_i32_454 : BitVec 32 := 2#32
  let c0_i32_441 : BitVec 32 := 0#32
  let v816 : BitVec 1 := Scalar.cmpi .sgt v814 c0_i32_441
  let v817 : BitVec 32 := Scalar.extui v816
  let c0_i32_442 : BitVec 32 := 0#32
  let v818 : BitVec 1 := Scalar.cmpi .slt v814 c0_i32_442
  let v819 : BitVec 32 := Scalar.extui v818
  let v820 : BitVec 32 := Scalar.subi v817 v819
  let c4_i32_440 : BitVec 32 := 4#32
  let c0_i32_443 : BitVec 32 := 0#32
  let v821 : BitVec 1 := Scalar.cmpi .sgt c4_i32_440 c0_i32_443
  let v822 : BitVec 32 := Scalar.extui v821
  let c0_i32_444 : BitVec 32 := 0#32
  let v823 : BitVec 1 := Scalar.cmpi .slt c4_i32_440 c0_i32_444
  let v824 : BitVec 32 := Scalar.extui v823
  let v825 : BitVec 32 := Scalar.subi v822 v824
  let v826 : BitVec 1 := Scalar.cmpi .ne v820 v825
  let v827 : BitVec 32 := Scalar.remsi v814 c4_i32_440
  let c0_i32_445 : BitVec 32 := 0#32
  let v828 : BitVec 1 := Scalar.cmpi .ne v827 c0_i32_445
  let v829 : BitVec 1 := Scalar.andi v826 v828
  let v815 : BitVec 32 := Scalar.divsi v814 c4_i32_440
  let c1_i32_446 : BitVec 32 := 1#32
  let v830 : BitVec 32 := Scalar.subi v815 c1_i32_446
  let v831 : BitVec 32 := Scalar.select v829 v830 v815
  let v843 : BitVec 32 := Scalar.muli c2_i32_454 v831
  let v844 : BitVec 32 := Scalar.addi v842 v843
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_455 : BitVec 32 := 2#32
  let c0_i32_456 : BitVec 32 := 0#32
  let v845 : BitVec 1 := Scalar.cmpi .eq c2_i32_455 c0_i32_456
  let c1_i32_457 : BitVec 32 := 1#32
  let v846 : BitVec 32 := Scalar.select v845 c1_i32_457 c2_i32_455
  let v847 : BitVec 32 := Scalar.remsi v831 v846
  let c0_i32_459 : BitVec 32 := 0#32
  let v849 : BitVec 1 := Scalar.cmpi .slt v847 c0_i32_459
  let c0_i32_460 : BitVec 32 := 0#32
  let v850 : BitVec 1 := Scalar.cmpi .slt v846 c0_i32_460
  let v851 : BitVec 1 := Scalar.xori v849 v850
  let c0_i32_458 : BitVec 32 := 0#32
  let v848 : BitVec 1 := Scalar.cmpi .ne v847 c0_i32_458
  let v852 : BitVec 1 := Scalar.andi v851 v848
  let v853 : BitVec 32 := Scalar.addi v847 v846
  let v854 : BitVec 32 := Scalar.select v852 v853 v847
  let v855 : BitVec 32 := Scalar.xori v67 v854
  let v856 : BitVec 32 := Scalar.addi v844 v855
  let c1_i32_462 : BitVec 32 := 1#32
  let v857 : BitVec 32 := Scalar.muli v856 c1_i32_462
  let v858 : BitVec 32 := Scalar.addi c0_i32_463 v857
  v858.toNat
def k0_dev16 (d0 : Dev nD) : Nat :=
  let c0_i32_493 : BitVec 32 := 0#32
  let c8_i32_483 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c15_i32 : BitVec 32 := 15#32
  let v859 : BitVec 32 := Scalar.addi v69 c15_i32
  let c16_i32_464 : BitVec 32 := 16#32
  let c0_i32_465 : BitVec 32 := 0#32
  let v860 : BitVec 1 := Scalar.cmpi .eq c16_i32_464 c0_i32_465
  let c1_i32_466 : BitVec 32 := 1#32
  let v861 : BitVec 32 := Scalar.select v860 c1_i32_466 c16_i32_464
  let v862 : BitVec 32 := Scalar.remsi v859 v861
  let c0_i32_468 : BitVec 32 := 0#32
  let v864 : BitVec 1 := Scalar.cmpi .slt v862 c0_i32_468
  let c0_i32_469 : BitVec 32 := 0#32
  let v865 : BitVec 1 := Scalar.cmpi .slt v861 c0_i32_469
  let v866 : BitVec 1 := Scalar.xori v864 v865
  let c0_i32_467 : BitVec 32 := 0#32
  let v863 : BitVec 1 := Scalar.cmpi .ne v862 c0_i32_467
  let v867 : BitVec 1 := Scalar.andi v866 v863
  let v868 : BitVec 32 := Scalar.addi v862 v861
  let v869 : BitVec 32 := Scalar.select v867 v868 v862
  let c4_i32_477 : BitVec 32 := 4#32
  let c0_i32_478 : BitVec 32 := 0#32
  let v887 : BitVec 1 := Scalar.cmpi .eq c4_i32_477 c0_i32_478
  let c1_i32_479 : BitVec 32 := 1#32
  let v888 : BitVec 32 := Scalar.select v887 c1_i32_479 c4_i32_477
  let v889 : BitVec 32 := Scalar.remsi v869 v888
  let c0_i32_481 : BitVec 32 := 0#32
  let v891 : BitVec 1 := Scalar.cmpi .slt v889 c0_i32_481
  let c0_i32_482 : BitVec 32 := 0#32
  let v892 : BitVec 1 := Scalar.cmpi .slt v888 c0_i32_482
  let v893 : BitVec 1 := Scalar.xori v891 v892
  let c0_i32_480 : BitVec 32 := 0#32
  let v890 : BitVec 1 := Scalar.cmpi .ne v889 c0_i32_480
  let v894 : BitVec 1 := Scalar.andi v893 v890
  let v895 : BitVec 32 := Scalar.addi v889 v888
  let v896 : BitVec 32 := Scalar.select v894 v895 v889
  let v897 : BitVec 32 := Scalar.muli c8_i32_483 v896
  let c2_i32_484 : BitVec 32 := 2#32
  let c0_i32_471 : BitVec 32 := 0#32
  let v871 : BitVec 1 := Scalar.cmpi .sgt v869 c0_i32_471
  let v872 : BitVec 32 := Scalar.extui v871
  let c0_i32_472 : BitVec 32 := 0#32
  let v873 : BitVec 1 := Scalar.cmpi .slt v869 c0_i32_472
  let v874 : BitVec 32 := Scalar.extui v873
  let v875 : BitVec 32 := Scalar.subi v872 v874
  let c4_i32_470 : BitVec 32 := 4#32
  let c0_i32_473 : BitVec 32 := 0#32
  let v876 : BitVec 1 := Scalar.cmpi .sgt c4_i32_470 c0_i32_473
  let v877 : BitVec 32 := Scalar.extui v876
  let c0_i32_474 : BitVec 32 := 0#32
  let v878 : BitVec 1 := Scalar.cmpi .slt c4_i32_470 c0_i32_474
  let v879 : BitVec 32 := Scalar.extui v878
  let v880 : BitVec 32 := Scalar.subi v877 v879
  let v881 : BitVec 1 := Scalar.cmpi .ne v875 v880
  let v882 : BitVec 32 := Scalar.remsi v869 c4_i32_470
  let c0_i32_475 : BitVec 32 := 0#32
  let v883 : BitVec 1 := Scalar.cmpi .ne v882 c0_i32_475
  let v884 : BitVec 1 := Scalar.andi v881 v883
  let v870 : BitVec 32 := Scalar.divsi v869 c4_i32_470
  let c1_i32_476 : BitVec 32 := 1#32
  let v885 : BitVec 32 := Scalar.subi v870 c1_i32_476
  let v886 : BitVec 32 := Scalar.select v884 v885 v870
  let v898 : BitVec 32 := Scalar.muli c2_i32_484 v886
  let v899 : BitVec 32 := Scalar.addi v897 v898
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_485 : BitVec 32 := 2#32
  let c0_i32_486 : BitVec 32 := 0#32
  let v900 : BitVec 1 := Scalar.cmpi .eq c2_i32_485 c0_i32_486
  let c1_i32_487 : BitVec 32 := 1#32
  let v901 : BitVec 32 := Scalar.select v900 c1_i32_487 c2_i32_485
  let v902 : BitVec 32 := Scalar.remsi v886 v901
  let c0_i32_489 : BitVec 32 := 0#32
  let v904 : BitVec 1 := Scalar.cmpi .slt v902 c0_i32_489
  let c0_i32_490 : BitVec 32 := 0#32
  let v905 : BitVec 1 := Scalar.cmpi .slt v901 c0_i32_490
  let v906 : BitVec 1 := Scalar.xori v904 v905
  let c0_i32_488 : BitVec 32 := 0#32
  let v903 : BitVec 1 := Scalar.cmpi .ne v902 c0_i32_488
  let v907 : BitVec 1 := Scalar.andi v906 v903
  let v908 : BitVec 32 := Scalar.addi v902 v901
  let v909 : BitVec 32 := Scalar.select v907 v908 v902
  let v910 : BitVec 32 := Scalar.xori v67 v909
  let v911 : BitVec 32 := Scalar.addi v899 v910
  let c1_i32_492 : BitVec 32 := 1#32
  let v912 : BitVec 32 := Scalar.muli v911 c1_i32_492
  let v913 : BitVec 32 := Scalar.addi c0_i32_493 v912
  v913.toNat
def k0_off1 (d0 : Dev nD) : Fin 2 → Nat :=
  let c256_i32_496 : BitVec 32 := 256#32
  let c1_i32_495 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v916 : BitVec 32 := Scalar.subi c1_i32_495 v67
  let v917 : BitVec 32 := Scalar.muli c256_i32_496 v916
  let v918 : Index := Scalar.indexCast v917
  let c0 : Index := 0#32
  ![v918.toNat, 0]
def k0_off2 (d0 : Dev nD) : Fin 2 → Nat :=
  let c256_i32_496 : BitVec 32 := 256#32
  let c1_i32_495 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v916 : BitVec 32 := Scalar.subi c1_i32_495 v67
  let v917 : BitVec 32 := Scalar.muli c256_i32_496 v916
  let v921 : Index := Scalar.indexCast v917
  let c0_497 : Index := 0#32
  ![v921.toNat, 0]
def k0_off3 (d0 : Dev nD) : Fin 2 → Nat :=
  let c256_i32_496 : BitVec 32 := 256#32
  let c1_i32_495 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v916 : BitVec 32 := Scalar.subi c1_i32_495 v67
  let v917 : BitVec 32 := Scalar.muli c256_i32_496 v916
  let v945 : Index := Scalar.indexCast v917
  let c0_505 : Index := 0#32
  ![v945.toNat, 0]
def k0_off4 (d0 : Dev nD) : Fin 2 → Nat :=
  let c256_i32_496 : BitVec 32 := 256#32
  let c1_i32_495 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v916 : BitVec 32 := Scalar.subi c1_i32_495 v67
  let v917 : BitVec 32 := Scalar.muli c256_i32_496 v916
  let c0_i32_513 : BitVec 32 := 0#32
  ![v917.toNat, 0]
def k0_dev17 (d0 : Dev nD) : Nat :=
  let c0_i32_510 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_509 : BitVec 32 := 1#32
  let v949 : BitVec 32 := Scalar.muli v85 c1_i32_509
  let v950 : BitVec 32 := Scalar.addi c0_i32_510 v949
  v950.toNat
def k0_off5 (d0 : Dev nD) : Fin 2 → Nat :=
  let c256_i32_496 : BitVec 32 := 256#32
  let c1_i32_495 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v916 : BitVec 32 := Scalar.subi c1_i32_495 v67
  let v917 : BitVec 32 := Scalar.muli c256_i32_496 v916
  let c128_i32 : BitVec 32 := 128#32
  let v957 : BitVec 32 := Scalar.addi v917 c128_i32
  let v958 : Index := Scalar.indexCast v957
  let c0_514 : Index := 0#32
  ![v958.toNat, 0]
def k0_off6 (d0 : Dev nD) : Fin 2 → Nat :=
  let c256_i32_496 : BitVec 32 := 256#32
  let c1_i32_495 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v916 : BitVec 32 := Scalar.subi c1_i32_495 v67
  let v917 : BitVec 32 := Scalar.muli c256_i32_496 v916
  let c128_i32 : BitVec 32 := 128#32
  let v957 : BitVec 32 := Scalar.addi v917 c128_i32
  let v961 : Index := Scalar.indexCast v957
  let c0_515 : Index := 0#32
  ![v961.toNat, 0]
def k0_off7 (d0 : Dev nD) : Fin 2 → Nat :=
  let c256_i32_496 : BitVec 32 := 256#32
  let c1_i32_495 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v916 : BitVec 32 := Scalar.subi c1_i32_495 v67
  let v917 : BitVec 32 := Scalar.muli c256_i32_496 v916
  let c128_i32 : BitVec 32 := 128#32
  let v957 : BitVec 32 := Scalar.addi v917 c128_i32
  let v985 : Index := Scalar.indexCast v957
  let c0_525 : Index := 0#32
  ![v985.toNat, 0]
def k0_off8 (d0 : Dev nD) : Fin 2 → Nat :=
  let c256_i32_496 : BitVec 32 := 256#32
  let c1_i32_495 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v916 : BitVec 32 := Scalar.subi c1_i32_495 v67
  let v917 : BitVec 32 := Scalar.muli c256_i32_496 v916
  let c128_i32_526 : BitVec 32 := 128#32
  let v989 : BitVec 32 := Scalar.addi v917 c128_i32_526
  let c0_i32_532 : BitVec 32 := 0#32
  ![v989.toNat, 0]
def k0_dev18 (d0 : Dev nD) : Nat :=
  let c0_i32_529 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_528 : BitVec 32 := 1#32
  let v990 : BitVec 32 := Scalar.muli v85 c1_i32_528
  let v991 : BitVec 32 := Scalar.addi c0_i32_529 v990
  v991.toNat
def k0_off9 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let v998 : Index := Scalar.indexCast v915
  let c0_533 : Index := 0#32
  ![v998.toNat, 0]
def k0_off10 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let v1001 : Index := Scalar.indexCast v915
  let c0_534 : Index := 0#32
  ![v1001.toNat, 0]
def k0_off11 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let v1025 : Index := Scalar.indexCast v915
  let c0_544 : Index := 0#32
  ![v1025.toNat, 0]
def k0_off12 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let v1862 : Index := Scalar.indexCast v915
  let c0_988 : Index := 0#32
  ![v1862.toNat, 0]
def k0_cond1 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c1_i32_992 : BitVec 32 := 1#32
  let v1870 : BitVec 32 := Scalar.subi v69 c1_i32_992
  let c16_i32_993 : BitVec 32 := 16#32
  let c0_i32_994 : BitVec 32 := 0#32
  let v1871 : BitVec 1 := Scalar.cmpi .eq c16_i32_993 c0_i32_994
  let c1_i32_995 : BitVec 32 := 1#32
  let v1872 : BitVec 32 := Scalar.select v1871 c1_i32_995 c16_i32_993
  let v1873 : BitVec 32 := Scalar.remsi v1870 v1872
  let c0_i32_997 : BitVec 32 := 0#32
  let v1875 : BitVec 1 := Scalar.cmpi .slt v1873 c0_i32_997
  let c0_i32_998 : BitVec 32 := 0#32
  let v1876 : BitVec 1 := Scalar.cmpi .slt v1872 c0_i32_998
  let v1877 : BitVec 1 := Scalar.xori v1875 v1876
  let c0_i32_996 : BitVec 32 := 0#32
  let v1874 : BitVec 1 := Scalar.cmpi .ne v1873 c0_i32_996
  let v1878 : BitVec 1 := Scalar.andi v1877 v1874
  let v1879 : BitVec 32 := Scalar.addi v1873 v1872
  let v1880 : BitVec 32 := Scalar.select v1878 v1879 v1873
  let c8_i32_999 : BitVec 32 := 8#32
  let v1881 : BitVec 1 := Scalar.cmpi .slt v1880 c8_i32_999
  let v1882 : BitVec 32 := Scalar.extui v1881
  let c0_i32_1002 : BitVec 32 := 0#32
  let v1883 : BitVec 1 := Scalar.cmpi .ne v1882 c0_i32_1002
  v1883

def k0_off13 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_553 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c1_i32_546 : BitVec 32 := 1#32
  let v1031 : BitVec 32 := Scalar.subi v69 c1_i32_546
  let c16_i32_547 : BitVec 32 := 16#32
  let c0_i32_548 : BitVec 32 := 0#32
  let v1032 : BitVec 1 := Scalar.cmpi .eq c16_i32_547 c0_i32_548
  let c1_i32_549 : BitVec 32 := 1#32
  let v1033 : BitVec 32 := Scalar.select v1032 c1_i32_549 c16_i32_547
  let v1034 : BitVec 32 := Scalar.remsi v1031 v1033
  let c0_i32_551 : BitVec 32 := 0#32
  let v1036 : BitVec 1 := Scalar.cmpi .slt v1034 c0_i32_551
  let c0_i32_552 : BitVec 32 := 0#32
  let v1037 : BitVec 1 := Scalar.cmpi .slt v1033 c0_i32_552
  let v1038 : BitVec 1 := Scalar.xori v1036 v1037
  let c0_i32_550 : BitVec 32 := 0#32
  let v1035 : BitVec 1 := Scalar.cmpi .ne v1034 c0_i32_550
  let v1039 : BitVec 1 := Scalar.andi v1038 v1035
  let v1040 : BitVec 32 := Scalar.addi v1034 v1033
  let v1041 : BitVec 32 := Scalar.select v1039 v1040 v1034
  let v1042 : BitVec 32 := Scalar.muli c16_i32_553 v1041
  let v1043 : BitVec 32 := Scalar.addi v915 v1042
  let c0_i32_2594 : BitVec 32 := 0#32
  ![v1043.toNat, 0]
def k0_dev19 (d0 : Dev nD) : Nat :=
  let c0_i32_2591 : BitVec 32 := 0#32
  let c8_i32_567 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c1_i32_546 : BitVec 32 := 1#32
  let v1031 : BitVec 32 := Scalar.subi v69 c1_i32_546
  let c16_i32_547 : BitVec 32 := 16#32
  let c0_i32_548 : BitVec 32 := 0#32
  let v1032 : BitVec 1 := Scalar.cmpi .eq c16_i32_547 c0_i32_548
  let c1_i32_549 : BitVec 32 := 1#32
  let v1033 : BitVec 32 := Scalar.select v1032 c1_i32_549 c16_i32_547
  let v1034 : BitVec 32 := Scalar.remsi v1031 v1033
  let c0_i32_551 : BitVec 32 := 0#32
  let v1036 : BitVec 1 := Scalar.cmpi .slt v1034 c0_i32_551
  let c0_i32_552 : BitVec 32 := 0#32
  let v1037 : BitVec 1 := Scalar.cmpi .slt v1033 c0_i32_552
  let v1038 : BitVec 1 := Scalar.xori v1036 v1037
  let c0_i32_550 : BitVec 32 := 0#32
  let v1035 : BitVec 1 := Scalar.cmpi .ne v1034 c0_i32_550
  let v1039 : BitVec 1 := Scalar.andi v1038 v1035
  let v1040 : BitVec 32 := Scalar.addi v1034 v1033
  let v1041 : BitVec 32 := Scalar.select v1039 v1040 v1034
  let c4_i32_561 : BitVec 32 := 4#32
  let c0_i32_562 : BitVec 32 := 0#32
  let v1061 : BitVec 1 := Scalar.cmpi .eq c4_i32_561 c0_i32_562
  let c1_i32_563 : BitVec 32 := 1#32
  let v1062 : BitVec 32 := Scalar.select v1061 c1_i32_563 c4_i32_561
  let v1063 : BitVec 32 := Scalar.remsi v1041 v1062
  let c0_i32_565 : BitVec 32 := 0#32
  let v1065 : BitVec 1 := Scalar.cmpi .slt v1063 c0_i32_565
  let c0_i32_566 : BitVec 32 := 0#32
  let v1066 : BitVec 1 := Scalar.cmpi .slt v1062 c0_i32_566
  let v1067 : BitVec 1 := Scalar.xori v1065 v1066
  let c0_i32_564 : BitVec 32 := 0#32
  let v1064 : BitVec 1 := Scalar.cmpi .ne v1063 c0_i32_564
  let v1068 : BitVec 1 := Scalar.andi v1067 v1064
  let v1069 : BitVec 32 := Scalar.addi v1063 v1062
  let v1070 : BitVec 32 := Scalar.select v1068 v1069 v1063
  let v1071 : BitVec 32 := Scalar.muli c8_i32_567 v1070
  let c2_i32_568 : BitVec 32 := 2#32
  let c0_i32_555 : BitVec 32 := 0#32
  let v1045 : BitVec 1 := Scalar.cmpi .sgt v1041 c0_i32_555
  let v1046 : BitVec 32 := Scalar.extui v1045
  let c0_i32_556 : BitVec 32 := 0#32
  let v1047 : BitVec 1 := Scalar.cmpi .slt v1041 c0_i32_556
  let v1048 : BitVec 32 := Scalar.extui v1047
  let v1049 : BitVec 32 := Scalar.subi v1046 v1048
  let c4_i32_554 : BitVec 32 := 4#32
  let c0_i32_557 : BitVec 32 := 0#32
  let v1050 : BitVec 1 := Scalar.cmpi .sgt c4_i32_554 c0_i32_557
  let v1051 : BitVec 32 := Scalar.extui v1050
  let c0_i32_558 : BitVec 32 := 0#32
  let v1052 : BitVec 1 := Scalar.cmpi .slt c4_i32_554 c0_i32_558
  let v1053 : BitVec 32 := Scalar.extui v1052
  let v1054 : BitVec 32 := Scalar.subi v1051 v1053
  let v1055 : BitVec 1 := Scalar.cmpi .ne v1049 v1054
  let v1056 : BitVec 32 := Scalar.remsi v1041 c4_i32_554
  let c0_i32_559 : BitVec 32 := 0#32
  let v1057 : BitVec 1 := Scalar.cmpi .ne v1056 c0_i32_559
  let v1058 : BitVec 1 := Scalar.andi v1055 v1057
  let v1044 : BitVec 32 := Scalar.divsi v1041 c4_i32_554
  let c1_i32_560 : BitVec 32 := 1#32
  let v1059 : BitVec 32 := Scalar.subi v1044 c1_i32_560
  let v1060 : BitVec 32 := Scalar.select v1058 v1059 v1044
  let v1072 : BitVec 32 := Scalar.muli c2_i32_568 v1060
  let v1073 : BitVec 32 := Scalar.addi v1071 v1072
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_569 : BitVec 32 := 2#32
  let c0_i32_570 : BitVec 32 := 0#32
  let v1074 : BitVec 1 := Scalar.cmpi .eq c2_i32_569 c0_i32_570
  let c1_i32_571 : BitVec 32 := 1#32
  let v1075 : BitVec 32 := Scalar.select v1074 c1_i32_571 c2_i32_569
  let v1076 : BitVec 32 := Scalar.remsi v1060 v1075
  let c0_i32_573 : BitVec 32 := 0#32
  let v1078 : BitVec 1 := Scalar.cmpi .slt v1076 c0_i32_573
  let c0_i32_574 : BitVec 32 := 0#32
  let v1079 : BitVec 1 := Scalar.cmpi .slt v1075 c0_i32_574
  let v1080 : BitVec 1 := Scalar.xori v1078 v1079
  let c0_i32_572 : BitVec 32 := 0#32
  let v1077 : BitVec 1 := Scalar.cmpi .ne v1076 c0_i32_572
  let v1081 : BitVec 1 := Scalar.andi v1080 v1077
  let v1082 : BitVec 32 := Scalar.addi v1076 v1075
  let v1083 : BitVec 32 := Scalar.select v1081 v1082 v1076
  let v1084 : BitVec 32 := Scalar.xori v67 v1083
  let v1085 : BitVec 32 := Scalar.addi v1073 v1084
  let c1_i32_2590 : BitVec 32 := 1#32
  let v4061 : BitVec 32 := Scalar.muli v1085 c1_i32_2590
  let v4062 : BitVec 32 := Scalar.addi c0_i32_2591 v4061
  v4062.toNat
def k0_cond2 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c2_i32_1003 : BitVec 32 := 2#32
  let v1884 : BitVec 32 := Scalar.subi v69 c2_i32_1003
  let c16_i32_1004 : BitVec 32 := 16#32
  let c0_i32_1005 : BitVec 32 := 0#32
  let v1885 : BitVec 1 := Scalar.cmpi .eq c16_i32_1004 c0_i32_1005
  let c1_i32_1006 : BitVec 32 := 1#32
  let v1886 : BitVec 32 := Scalar.select v1885 c1_i32_1006 c16_i32_1004
  let v1887 : BitVec 32 := Scalar.remsi v1884 v1886
  let c0_i32_1008 : BitVec 32 := 0#32
  let v1889 : BitVec 1 := Scalar.cmpi .slt v1887 c0_i32_1008
  let c0_i32_1009 : BitVec 32 := 0#32
  let v1890 : BitVec 1 := Scalar.cmpi .slt v1886 c0_i32_1009
  let v1891 : BitVec 1 := Scalar.xori v1889 v1890
  let c0_i32_1007 : BitVec 32 := 0#32
  let v1888 : BitVec 1 := Scalar.cmpi .ne v1887 c0_i32_1007
  let v1892 : BitVec 1 := Scalar.andi v1891 v1888
  let v1893 : BitVec 32 := Scalar.addi v1887 v1886
  let v1894 : BitVec 32 := Scalar.select v1892 v1893 v1887
  let c8_i32_1010 : BitVec 32 := 8#32
  let v1895 : BitVec 1 := Scalar.cmpi .slt v1894 c8_i32_1010
  let v1896 : BitVec 32 := Scalar.extui v1895
  let c0_i32_1013 : BitVec 32 := 0#32
  let v1897 : BitVec 1 := Scalar.cmpi .ne v1896 c0_i32_1013
  v1897

def k0_off14 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_582 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c2_i32_575 : BitVec 32 := 2#32
  let v1086 : BitVec 32 := Scalar.subi v69 c2_i32_575
  let c16_i32_576 : BitVec 32 := 16#32
  let c0_i32_577 : BitVec 32 := 0#32
  let v1087 : BitVec 1 := Scalar.cmpi .eq c16_i32_576 c0_i32_577
  let c1_i32_578 : BitVec 32 := 1#32
  let v1088 : BitVec 32 := Scalar.select v1087 c1_i32_578 c16_i32_576
  let v1089 : BitVec 32 := Scalar.remsi v1086 v1088
  let c0_i32_580 : BitVec 32 := 0#32
  let v1091 : BitVec 1 := Scalar.cmpi .slt v1089 c0_i32_580
  let c0_i32_581 : BitVec 32 := 0#32
  let v1092 : BitVec 1 := Scalar.cmpi .slt v1088 c0_i32_581
  let v1093 : BitVec 1 := Scalar.xori v1091 v1092
  let c0_i32_579 : BitVec 32 := 0#32
  let v1090 : BitVec 1 := Scalar.cmpi .ne v1089 c0_i32_579
  let v1094 : BitVec 1 := Scalar.andi v1093 v1090
  let v1095 : BitVec 32 := Scalar.addi v1089 v1088
  let v1096 : BitVec 32 := Scalar.select v1094 v1095 v1089
  let v1097 : BitVec 32 := Scalar.muli c16_i32_582 v1096
  let v1098 : BitVec 32 := Scalar.addi v915 v1097
  let c0_i32_2594 : BitVec 32 := 0#32
  ![v1098.toNat, 0]
def k0_dev20 (d0 : Dev nD) : Nat :=
  let c0_i32_2591 : BitVec 32 := 0#32
  let c8_i32_596 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c2_i32_575 : BitVec 32 := 2#32
  let v1086 : BitVec 32 := Scalar.subi v69 c2_i32_575
  let c16_i32_576 : BitVec 32 := 16#32
  let c0_i32_577 : BitVec 32 := 0#32
  let v1087 : BitVec 1 := Scalar.cmpi .eq c16_i32_576 c0_i32_577
  let c1_i32_578 : BitVec 32 := 1#32
  let v1088 : BitVec 32 := Scalar.select v1087 c1_i32_578 c16_i32_576
  let v1089 : BitVec 32 := Scalar.remsi v1086 v1088
  let c0_i32_580 : BitVec 32 := 0#32
  let v1091 : BitVec 1 := Scalar.cmpi .slt v1089 c0_i32_580
  let c0_i32_581 : BitVec 32 := 0#32
  let v1092 : BitVec 1 := Scalar.cmpi .slt v1088 c0_i32_581
  let v1093 : BitVec 1 := Scalar.xori v1091 v1092
  let c0_i32_579 : BitVec 32 := 0#32
  let v1090 : BitVec 1 := Scalar.cmpi .ne v1089 c0_i32_579
  let v1094 : BitVec 1 := Scalar.andi v1093 v1090
  let v1095 : BitVec 32 := Scalar.addi v1089 v1088
  let v1096 : BitVec 32 := Scalar.select v1094 v1095 v1089
  let c4_i32_590 : BitVec 32 := 4#32
  let c0_i32_591 : BitVec 32 := 0#32
  let v1116 : BitVec 1 := Scalar.cmpi .eq c4_i32_590 c0_i32_591
  let c1_i32_592 : BitVec 32 := 1#32
  let v1117 : BitVec 32 := Scalar.select v1116 c1_i32_592 c4_i32_590
  let v1118 : BitVec 32 := Scalar.remsi v1096 v1117
  let c0_i32_594 : BitVec 32 := 0#32
  let v1120 : BitVec 1 := Scalar.cmpi .slt v1118 c0_i32_594
  let c0_i32_595 : BitVec 32 := 0#32
  let v1121 : BitVec 1 := Scalar.cmpi .slt v1117 c0_i32_595
  let v1122 : BitVec 1 := Scalar.xori v1120 v1121
  let c0_i32_593 : BitVec 32 := 0#32
  let v1119 : BitVec 1 := Scalar.cmpi .ne v1118 c0_i32_593
  let v1123 : BitVec 1 := Scalar.andi v1122 v1119
  let v1124 : BitVec 32 := Scalar.addi v1118 v1117
  let v1125 : BitVec 32 := Scalar.select v1123 v1124 v1118
  let v1126 : BitVec 32 := Scalar.muli c8_i32_596 v1125
  let c2_i32_597 : BitVec 32 := 2#32
  let c0_i32_584 : BitVec 32 := 0#32
  let v1100 : BitVec 1 := Scalar.cmpi .sgt v1096 c0_i32_584
  let v1101 : BitVec 32 := Scalar.extui v1100
  let c0_i32_585 : BitVec 32 := 0#32
  let v1102 : BitVec 1 := Scalar.cmpi .slt v1096 c0_i32_585
  let v1103 : BitVec 32 := Scalar.extui v1102
  let v1104 : BitVec 32 := Scalar.subi v1101 v1103
  let c4_i32_583 : BitVec 32 := 4#32
  let c0_i32_586 : BitVec 32 := 0#32
  let v1105 : BitVec 1 := Scalar.cmpi .sgt c4_i32_583 c0_i32_586
  let v1106 : BitVec 32 := Scalar.extui v1105
  let c0_i32_587 : BitVec 32 := 0#32
  let v1107 : BitVec 1 := Scalar.cmpi .slt c4_i32_583 c0_i32_587
  let v1108 : BitVec 32 := Scalar.extui v1107
  let v1109 : BitVec 32 := Scalar.subi v1106 v1108
  let v1110 : BitVec 1 := Scalar.cmpi .ne v1104 v1109
  let v1111 : BitVec 32 := Scalar.remsi v1096 c4_i32_583
  let c0_i32_588 : BitVec 32 := 0#32
  let v1112 : BitVec 1 := Scalar.cmpi .ne v1111 c0_i32_588
  let v1113 : BitVec 1 := Scalar.andi v1110 v1112
  let v1099 : BitVec 32 := Scalar.divsi v1096 c4_i32_583
  let c1_i32_589 : BitVec 32 := 1#32
  let v1114 : BitVec 32 := Scalar.subi v1099 c1_i32_589
  let v1115 : BitVec 32 := Scalar.select v1113 v1114 v1099
  let v1127 : BitVec 32 := Scalar.muli c2_i32_597 v1115
  let v1128 : BitVec 32 := Scalar.addi v1126 v1127
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_598 : BitVec 32 := 2#32
  let c0_i32_599 : BitVec 32 := 0#32
  let v1129 : BitVec 1 := Scalar.cmpi .eq c2_i32_598 c0_i32_599
  let c1_i32_600 : BitVec 32 := 1#32
  let v1130 : BitVec 32 := Scalar.select v1129 c1_i32_600 c2_i32_598
  let v1131 : BitVec 32 := Scalar.remsi v1115 v1130
  let c0_i32_602 : BitVec 32 := 0#32
  let v1133 : BitVec 1 := Scalar.cmpi .slt v1131 c0_i32_602
  let c0_i32_603 : BitVec 32 := 0#32
  let v1134 : BitVec 1 := Scalar.cmpi .slt v1130 c0_i32_603
  let v1135 : BitVec 1 := Scalar.xori v1133 v1134
  let c0_i32_601 : BitVec 32 := 0#32
  let v1132 : BitVec 1 := Scalar.cmpi .ne v1131 c0_i32_601
  let v1136 : BitVec 1 := Scalar.andi v1135 v1132
  let v1137 : BitVec 32 := Scalar.addi v1131 v1130
  let v1138 : BitVec 32 := Scalar.select v1136 v1137 v1131
  let v1139 : BitVec 32 := Scalar.xori v67 v1138
  let v1140 : BitVec 32 := Scalar.addi v1128 v1139
  let c1_i32_2590 : BitVec 32 := 1#32
  let v4061 : BitVec 32 := Scalar.muli v1140 c1_i32_2590
  let v4062 : BitVec 32 := Scalar.addi c0_i32_2591 v4061
  v4062.toNat
def k0_cond3 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c3_i32_1014 : BitVec 32 := 3#32
  let v1898 : BitVec 32 := Scalar.subi v69 c3_i32_1014
  let c16_i32_1015 : BitVec 32 := 16#32
  let c0_i32_1016 : BitVec 32 := 0#32
  let v1899 : BitVec 1 := Scalar.cmpi .eq c16_i32_1015 c0_i32_1016
  let c1_i32_1017 : BitVec 32 := 1#32
  let v1900 : BitVec 32 := Scalar.select v1899 c1_i32_1017 c16_i32_1015
  let v1901 : BitVec 32 := Scalar.remsi v1898 v1900
  let c0_i32_1019 : BitVec 32 := 0#32
  let v1903 : BitVec 1 := Scalar.cmpi .slt v1901 c0_i32_1019
  let c0_i32_1020 : BitVec 32 := 0#32
  let v1904 : BitVec 1 := Scalar.cmpi .slt v1900 c0_i32_1020
  let v1905 : BitVec 1 := Scalar.xori v1903 v1904
  let c0_i32_1018 : BitVec 32 := 0#32
  let v1902 : BitVec 1 := Scalar.cmpi .ne v1901 c0_i32_1018
  let v1906 : BitVec 1 := Scalar.andi v1905 v1902
  let v1907 : BitVec 32 := Scalar.addi v1901 v1900
  let v1908 : BitVec 32 := Scalar.select v1906 v1907 v1901
  let c8_i32_1021 : BitVec 32 := 8#32
  let v1909 : BitVec 1 := Scalar.cmpi .slt v1908 c8_i32_1021
  let v1910 : BitVec 32 := Scalar.extui v1909
  let c0_i32_1024 : BitVec 32 := 0#32
  let v1911 : BitVec 1 := Scalar.cmpi .ne v1910 c0_i32_1024
  v1911

def k0_off15 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_611 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c3_i32_604 : BitVec 32 := 3#32
  let v1141 : BitVec 32 := Scalar.subi v69 c3_i32_604
  let c16_i32_605 : BitVec 32 := 16#32
  let c0_i32_606 : BitVec 32 := 0#32
  let v1142 : BitVec 1 := Scalar.cmpi .eq c16_i32_605 c0_i32_606
  let c1_i32_607 : BitVec 32 := 1#32
  let v1143 : BitVec 32 := Scalar.select v1142 c1_i32_607 c16_i32_605
  let v1144 : BitVec 32 := Scalar.remsi v1141 v1143
  let c0_i32_609 : BitVec 32 := 0#32
  let v1146 : BitVec 1 := Scalar.cmpi .slt v1144 c0_i32_609
  let c0_i32_610 : BitVec 32 := 0#32
  let v1147 : BitVec 1 := Scalar.cmpi .slt v1143 c0_i32_610
  let v1148 : BitVec 1 := Scalar.xori v1146 v1147
  let c0_i32_608 : BitVec 32 := 0#32
  let v1145 : BitVec 1 := Scalar.cmpi .ne v1144 c0_i32_608
  let v1149 : BitVec 1 := Scalar.andi v1148 v1145
  let v1150 : BitVec 32 := Scalar.addi v1144 v1143
  let v1151 : BitVec 32 := Scalar.select v1149 v1150 v1144
  let v1152 : BitVec 32 := Scalar.muli c16_i32_611 v1151
  let v1153 : BitVec 32 := Scalar.addi v915 v1152
  let c0_i32_2594 : BitVec 32 := 0#32
  ![v1153.toNat, 0]
def k0_dev21 (d0 : Dev nD) : Nat :=
  let c0_i32_2591 : BitVec 32 := 0#32
  let c8_i32_625 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c3_i32_604 : BitVec 32 := 3#32
  let v1141 : BitVec 32 := Scalar.subi v69 c3_i32_604
  let c16_i32_605 : BitVec 32 := 16#32
  let c0_i32_606 : BitVec 32 := 0#32
  let v1142 : BitVec 1 := Scalar.cmpi .eq c16_i32_605 c0_i32_606
  let c1_i32_607 : BitVec 32 := 1#32
  let v1143 : BitVec 32 := Scalar.select v1142 c1_i32_607 c16_i32_605
  let v1144 : BitVec 32 := Scalar.remsi v1141 v1143
  let c0_i32_609 : BitVec 32 := 0#32
  let v1146 : BitVec 1 := Scalar.cmpi .slt v1144 c0_i32_609
  let c0_i32_610 : BitVec 32 := 0#32
  let v1147 : BitVec 1 := Scalar.cmpi .slt v1143 c0_i32_610
  let v1148 : BitVec 1 := Scalar.xori v1146 v1147
  let c0_i32_608 : BitVec 32 := 0#32
  let v1145 : BitVec 1 := Scalar.cmpi .ne v1144 c0_i32_608
  let v1149 : BitVec 1 := Scalar.andi v1148 v1145
  let v1150 : BitVec 32 := Scalar.addi v1144 v1143
  let v1151 : BitVec 32 := Scalar.select v1149 v1150 v1144
  let c4_i32_619 : BitVec 32 := 4#32
  let c0_i32_620 : BitVec 32 := 0#32
  let v1171 : BitVec 1 := Scalar.cmpi .eq c4_i32_619 c0_i32_620
  let c1_i32_621 : BitVec 32 := 1#32
  let v1172 : BitVec 32 := Scalar.select v1171 c1_i32_621 c4_i32_619
  let v1173 : BitVec 32 := Scalar.remsi v1151 v1172
  let c0_i32_623 : BitVec 32 := 0#32
  let v1175 : BitVec 1 := Scalar.cmpi .slt v1173 c0_i32_623
  let c0_i32_624 : BitVec 32 := 0#32
  let v1176 : BitVec 1 := Scalar.cmpi .slt v1172 c0_i32_624
  let v1177 : BitVec 1 := Scalar.xori v1175 v1176
  let c0_i32_622 : BitVec 32 := 0#32
  let v1174 : BitVec 1 := Scalar.cmpi .ne v1173 c0_i32_622
  let v1178 : BitVec 1 := Scalar.andi v1177 v1174
  let v1179 : BitVec 32 := Scalar.addi v1173 v1172
  let v1180 : BitVec 32 := Scalar.select v1178 v1179 v1173
  let v1181 : BitVec 32 := Scalar.muli c8_i32_625 v1180
  let c2_i32_626 : BitVec 32 := 2#32
  let c0_i32_613 : BitVec 32 := 0#32
  let v1155 : BitVec 1 := Scalar.cmpi .sgt v1151 c0_i32_613
  let v1156 : BitVec 32 := Scalar.extui v1155
  let c0_i32_614 : BitVec 32 := 0#32
  let v1157 : BitVec 1 := Scalar.cmpi .slt v1151 c0_i32_614
  let v1158 : BitVec 32 := Scalar.extui v1157
  let v1159 : BitVec 32 := Scalar.subi v1156 v1158
  let c4_i32_612 : BitVec 32 := 4#32
  let c0_i32_615 : BitVec 32 := 0#32
  let v1160 : BitVec 1 := Scalar.cmpi .sgt c4_i32_612 c0_i32_615
  let v1161 : BitVec 32 := Scalar.extui v1160
  let c0_i32_616 : BitVec 32 := 0#32
  let v1162 : BitVec 1 := Scalar.cmpi .slt c4_i32_612 c0_i32_616
  let v1163 : BitVec 32 := Scalar.extui v1162
  let v1164 : BitVec 32 := Scalar.subi v1161 v1163
  let v1165 : BitVec 1 := Scalar.cmpi .ne v1159 v1164
  let v1166 : BitVec 32 := Scalar.remsi v1151 c4_i32_612
  let c0_i32_617 : BitVec 32 := 0#32
  let v1167 : BitVec 1 := Scalar.cmpi .ne v1166 c0_i32_617
  let v1168 : BitVec 1 := Scalar.andi v1165 v1167
  let v1154 : BitVec 32 := Scalar.divsi v1151 c4_i32_612
  let c1_i32_618 : BitVec 32 := 1#32
  let v1169 : BitVec 32 := Scalar.subi v1154 c1_i32_618
  let v1170 : BitVec 32 := Scalar.select v1168 v1169 v1154
  let v1182 : BitVec 32 := Scalar.muli c2_i32_626 v1170
  let v1183 : BitVec 32 := Scalar.addi v1181 v1182
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_627 : BitVec 32 := 2#32
  let c0_i32_628 : BitVec 32 := 0#32
  let v1184 : BitVec 1 := Scalar.cmpi .eq c2_i32_627 c0_i32_628
  let c1_i32_629 : BitVec 32 := 1#32
  let v1185 : BitVec 32 := Scalar.select v1184 c1_i32_629 c2_i32_627
  let v1186 : BitVec 32 := Scalar.remsi v1170 v1185
  let c0_i32_631 : BitVec 32 := 0#32
  let v1188 : BitVec 1 := Scalar.cmpi .slt v1186 c0_i32_631
  let c0_i32_632 : BitVec 32 := 0#32
  let v1189 : BitVec 1 := Scalar.cmpi .slt v1185 c0_i32_632
  let v1190 : BitVec 1 := Scalar.xori v1188 v1189
  let c0_i32_630 : BitVec 32 := 0#32
  let v1187 : BitVec 1 := Scalar.cmpi .ne v1186 c0_i32_630
  let v1191 : BitVec 1 := Scalar.andi v1190 v1187
  let v1192 : BitVec 32 := Scalar.addi v1186 v1185
  let v1193 : BitVec 32 := Scalar.select v1191 v1192 v1186
  let v1194 : BitVec 32 := Scalar.xori v67 v1193
  let v1195 : BitVec 32 := Scalar.addi v1183 v1194
  let c1_i32_2590 : BitVec 32 := 1#32
  let v4061 : BitVec 32 := Scalar.muli v1195 c1_i32_2590
  let v4062 : BitVec 32 := Scalar.addi c0_i32_2591 v4061
  v4062.toNat
def k0_cond4 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c4_i32_1025 : BitVec 32 := 4#32
  let v1912 : BitVec 32 := Scalar.subi v69 c4_i32_1025
  let c16_i32_1026 : BitVec 32 := 16#32
  let c0_i32_1027 : BitVec 32 := 0#32
  let v1913 : BitVec 1 := Scalar.cmpi .eq c16_i32_1026 c0_i32_1027
  let c1_i32_1028 : BitVec 32 := 1#32
  let v1914 : BitVec 32 := Scalar.select v1913 c1_i32_1028 c16_i32_1026
  let v1915 : BitVec 32 := Scalar.remsi v1912 v1914
  let c0_i32_1030 : BitVec 32 := 0#32
  let v1917 : BitVec 1 := Scalar.cmpi .slt v1915 c0_i32_1030
  let c0_i32_1031 : BitVec 32 := 0#32
  let v1918 : BitVec 1 := Scalar.cmpi .slt v1914 c0_i32_1031
  let v1919 : BitVec 1 := Scalar.xori v1917 v1918
  let c0_i32_1029 : BitVec 32 := 0#32
  let v1916 : BitVec 1 := Scalar.cmpi .ne v1915 c0_i32_1029
  let v1920 : BitVec 1 := Scalar.andi v1919 v1916
  let v1921 : BitVec 32 := Scalar.addi v1915 v1914
  let v1922 : BitVec 32 := Scalar.select v1920 v1921 v1915
  let c8_i32_1032 : BitVec 32 := 8#32
  let v1923 : BitVec 1 := Scalar.cmpi .slt v1922 c8_i32_1032
  let v1924 : BitVec 32 := Scalar.extui v1923
  let c0_i32_1035 : BitVec 32 := 0#32
  let v1925 : BitVec 1 := Scalar.cmpi .ne v1924 c0_i32_1035
  v1925

def k0_off16 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_640 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c4_i32_633 : BitVec 32 := 4#32
  let v1196 : BitVec 32 := Scalar.subi v69 c4_i32_633
  let c16_i32_634 : BitVec 32 := 16#32
  let c0_i32_635 : BitVec 32 := 0#32
  let v1197 : BitVec 1 := Scalar.cmpi .eq c16_i32_634 c0_i32_635
  let c1_i32_636 : BitVec 32 := 1#32
  let v1198 : BitVec 32 := Scalar.select v1197 c1_i32_636 c16_i32_634
  let v1199 : BitVec 32 := Scalar.remsi v1196 v1198
  let c0_i32_638 : BitVec 32 := 0#32
  let v1201 : BitVec 1 := Scalar.cmpi .slt v1199 c0_i32_638
  let c0_i32_639 : BitVec 32 := 0#32
  let v1202 : BitVec 1 := Scalar.cmpi .slt v1198 c0_i32_639
  let v1203 : BitVec 1 := Scalar.xori v1201 v1202
  let c0_i32_637 : BitVec 32 := 0#32
  let v1200 : BitVec 1 := Scalar.cmpi .ne v1199 c0_i32_637
  let v1204 : BitVec 1 := Scalar.andi v1203 v1200
  let v1205 : BitVec 32 := Scalar.addi v1199 v1198
  let v1206 : BitVec 32 := Scalar.select v1204 v1205 v1199
  let v1207 : BitVec 32 := Scalar.muli c16_i32_640 v1206
  let v1208 : BitVec 32 := Scalar.addi v915 v1207
  let c0_i32_2594 : BitVec 32 := 0#32
  ![v1208.toNat, 0]
def k0_dev22 (d0 : Dev nD) : Nat :=
  let c0_i32_2591 : BitVec 32 := 0#32
  let c8_i32_654 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c4_i32_633 : BitVec 32 := 4#32
  let v1196 : BitVec 32 := Scalar.subi v69 c4_i32_633
  let c16_i32_634 : BitVec 32 := 16#32
  let c0_i32_635 : BitVec 32 := 0#32
  let v1197 : BitVec 1 := Scalar.cmpi .eq c16_i32_634 c0_i32_635
  let c1_i32_636 : BitVec 32 := 1#32
  let v1198 : BitVec 32 := Scalar.select v1197 c1_i32_636 c16_i32_634
  let v1199 : BitVec 32 := Scalar.remsi v1196 v1198
  let c0_i32_638 : BitVec 32 := 0#32
  let v1201 : BitVec 1 := Scalar.cmpi .slt v1199 c0_i32_638
  let c0_i32_639 : BitVec 32 := 0#32
  let v1202 : BitVec 1 := Scalar.cmpi .slt v1198 c0_i32_639
  let v1203 : BitVec 1 := Scalar.xori v1201 v1202
  let c0_i32_637 : BitVec 32 := 0#32
  let v1200 : BitVec 1 := Scalar.cmpi .ne v1199 c0_i32_637
  let v1204 : BitVec 1 := Scalar.andi v1203 v1200
  let v1205 : BitVec 32 := Scalar.addi v1199 v1198
  let v1206 : BitVec 32 := Scalar.select v1204 v1205 v1199
  let c4_i32_648 : BitVec 32 := 4#32
  let c0_i32_649 : BitVec 32 := 0#32
  let v1226 : BitVec 1 := Scalar.cmpi .eq c4_i32_648 c0_i32_649
  let c1_i32_650 : BitVec 32 := 1#32
  let v1227 : BitVec 32 := Scalar.select v1226 c1_i32_650 c4_i32_648
  let v1228 : BitVec 32 := Scalar.remsi v1206 v1227
  let c0_i32_652 : BitVec 32 := 0#32
  let v1230 : BitVec 1 := Scalar.cmpi .slt v1228 c0_i32_652
  let c0_i32_653 : BitVec 32 := 0#32
  let v1231 : BitVec 1 := Scalar.cmpi .slt v1227 c0_i32_653
  let v1232 : BitVec 1 := Scalar.xori v1230 v1231
  let c0_i32_651 : BitVec 32 := 0#32
  let v1229 : BitVec 1 := Scalar.cmpi .ne v1228 c0_i32_651
  let v1233 : BitVec 1 := Scalar.andi v1232 v1229
  let v1234 : BitVec 32 := Scalar.addi v1228 v1227
  let v1235 : BitVec 32 := Scalar.select v1233 v1234 v1228
  let v1236 : BitVec 32 := Scalar.muli c8_i32_654 v1235
  let c2_i32_655 : BitVec 32 := 2#32
  let c0_i32_642 : BitVec 32 := 0#32
  let v1210 : BitVec 1 := Scalar.cmpi .sgt v1206 c0_i32_642
  let v1211 : BitVec 32 := Scalar.extui v1210
  let c0_i32_643 : BitVec 32 := 0#32
  let v1212 : BitVec 1 := Scalar.cmpi .slt v1206 c0_i32_643
  let v1213 : BitVec 32 := Scalar.extui v1212
  let v1214 : BitVec 32 := Scalar.subi v1211 v1213
  let c4_i32_641 : BitVec 32 := 4#32
  let c0_i32_644 : BitVec 32 := 0#32
  let v1215 : BitVec 1 := Scalar.cmpi .sgt c4_i32_641 c0_i32_644
  let v1216 : BitVec 32 := Scalar.extui v1215
  let c0_i32_645 : BitVec 32 := 0#32
  let v1217 : BitVec 1 := Scalar.cmpi .slt c4_i32_641 c0_i32_645
  let v1218 : BitVec 32 := Scalar.extui v1217
  let v1219 : BitVec 32 := Scalar.subi v1216 v1218
  let v1220 : BitVec 1 := Scalar.cmpi .ne v1214 v1219
  let v1221 : BitVec 32 := Scalar.remsi v1206 c4_i32_641
  let c0_i32_646 : BitVec 32 := 0#32
  let v1222 : BitVec 1 := Scalar.cmpi .ne v1221 c0_i32_646
  let v1223 : BitVec 1 := Scalar.andi v1220 v1222
  let v1209 : BitVec 32 := Scalar.divsi v1206 c4_i32_641
  let c1_i32_647 : BitVec 32 := 1#32
  let v1224 : BitVec 32 := Scalar.subi v1209 c1_i32_647
  let v1225 : BitVec 32 := Scalar.select v1223 v1224 v1209
  let v1237 : BitVec 32 := Scalar.muli c2_i32_655 v1225
  let v1238 : BitVec 32 := Scalar.addi v1236 v1237
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_656 : BitVec 32 := 2#32
  let c0_i32_657 : BitVec 32 := 0#32
  let v1239 : BitVec 1 := Scalar.cmpi .eq c2_i32_656 c0_i32_657
  let c1_i32_658 : BitVec 32 := 1#32
  let v1240 : BitVec 32 := Scalar.select v1239 c1_i32_658 c2_i32_656
  let v1241 : BitVec 32 := Scalar.remsi v1225 v1240
  let c0_i32_660 : BitVec 32 := 0#32
  let v1243 : BitVec 1 := Scalar.cmpi .slt v1241 c0_i32_660
  let c0_i32_661 : BitVec 32 := 0#32
  let v1244 : BitVec 1 := Scalar.cmpi .slt v1240 c0_i32_661
  let v1245 : BitVec 1 := Scalar.xori v1243 v1244
  let c0_i32_659 : BitVec 32 := 0#32
  let v1242 : BitVec 1 := Scalar.cmpi .ne v1241 c0_i32_659
  let v1246 : BitVec 1 := Scalar.andi v1245 v1242
  let v1247 : BitVec 32 := Scalar.addi v1241 v1240
  let v1248 : BitVec 32 := Scalar.select v1246 v1247 v1241
  let v1249 : BitVec 32 := Scalar.xori v67 v1248
  let v1250 : BitVec 32 := Scalar.addi v1238 v1249
  let c1_i32_2590 : BitVec 32 := 1#32
  let v4061 : BitVec 32 := Scalar.muli v1250 c1_i32_2590
  let v4062 : BitVec 32 := Scalar.addi c0_i32_2591 v4061
  v4062.toNat
def k0_cond5 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c5_i32_1036 : BitVec 32 := 5#32
  let v1926 : BitVec 32 := Scalar.subi v69 c5_i32_1036
  let c16_i32_1037 : BitVec 32 := 16#32
  let c0_i32_1038 : BitVec 32 := 0#32
  let v1927 : BitVec 1 := Scalar.cmpi .eq c16_i32_1037 c0_i32_1038
  let c1_i32_1039 : BitVec 32 := 1#32
  let v1928 : BitVec 32 := Scalar.select v1927 c1_i32_1039 c16_i32_1037
  let v1929 : BitVec 32 := Scalar.remsi v1926 v1928
  let c0_i32_1041 : BitVec 32 := 0#32
  let v1931 : BitVec 1 := Scalar.cmpi .slt v1929 c0_i32_1041
  let c0_i32_1042 : BitVec 32 := 0#32
  let v1932 : BitVec 1 := Scalar.cmpi .slt v1928 c0_i32_1042
  let v1933 : BitVec 1 := Scalar.xori v1931 v1932
  let c0_i32_1040 : BitVec 32 := 0#32
  let v1930 : BitVec 1 := Scalar.cmpi .ne v1929 c0_i32_1040
  let v1934 : BitVec 1 := Scalar.andi v1933 v1930
  let v1935 : BitVec 32 := Scalar.addi v1929 v1928
  let v1936 : BitVec 32 := Scalar.select v1934 v1935 v1929
  let c8_i32_1043 : BitVec 32 := 8#32
  let v1937 : BitVec 1 := Scalar.cmpi .slt v1936 c8_i32_1043
  let v1938 : BitVec 32 := Scalar.extui v1937
  let c0_i32_1046 : BitVec 32 := 0#32
  let v1939 : BitVec 1 := Scalar.cmpi .ne v1938 c0_i32_1046
  v1939

def k0_off17 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_669 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c5_i32_662 : BitVec 32 := 5#32
  let v1251 : BitVec 32 := Scalar.subi v69 c5_i32_662
  let c16_i32_663 : BitVec 32 := 16#32
  let c0_i32_664 : BitVec 32 := 0#32
  let v1252 : BitVec 1 := Scalar.cmpi .eq c16_i32_663 c0_i32_664
  let c1_i32_665 : BitVec 32 := 1#32
  let v1253 : BitVec 32 := Scalar.select v1252 c1_i32_665 c16_i32_663
  let v1254 : BitVec 32 := Scalar.remsi v1251 v1253
  let c0_i32_667 : BitVec 32 := 0#32
  let v1256 : BitVec 1 := Scalar.cmpi .slt v1254 c0_i32_667
  let c0_i32_668 : BitVec 32 := 0#32
  let v1257 : BitVec 1 := Scalar.cmpi .slt v1253 c0_i32_668
  let v1258 : BitVec 1 := Scalar.xori v1256 v1257
  let c0_i32_666 : BitVec 32 := 0#32
  let v1255 : BitVec 1 := Scalar.cmpi .ne v1254 c0_i32_666
  let v1259 : BitVec 1 := Scalar.andi v1258 v1255
  let v1260 : BitVec 32 := Scalar.addi v1254 v1253
  let v1261 : BitVec 32 := Scalar.select v1259 v1260 v1254
  let v1262 : BitVec 32 := Scalar.muli c16_i32_669 v1261
  let v1263 : BitVec 32 := Scalar.addi v915 v1262
  let c0_i32_2594 : BitVec 32 := 0#32
  ![v1263.toNat, 0]
def k0_dev23 (d0 : Dev nD) : Nat :=
  let c0_i32_2591 : BitVec 32 := 0#32
  let c8_i32_683 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c5_i32_662 : BitVec 32 := 5#32
  let v1251 : BitVec 32 := Scalar.subi v69 c5_i32_662
  let c16_i32_663 : BitVec 32 := 16#32
  let c0_i32_664 : BitVec 32 := 0#32
  let v1252 : BitVec 1 := Scalar.cmpi .eq c16_i32_663 c0_i32_664
  let c1_i32_665 : BitVec 32 := 1#32
  let v1253 : BitVec 32 := Scalar.select v1252 c1_i32_665 c16_i32_663
  let v1254 : BitVec 32 := Scalar.remsi v1251 v1253
  let c0_i32_667 : BitVec 32 := 0#32
  let v1256 : BitVec 1 := Scalar.cmpi .slt v1254 c0_i32_667
  let c0_i32_668 : BitVec 32 := 0#32
  let v1257 : BitVec 1 := Scalar.cmpi .slt v1253 c0_i32_668
  let v1258 : BitVec 1 := Scalar.xori v1256 v1257
  let c0_i32_666 : BitVec 32 := 0#32
  let v1255 : BitVec 1 := Scalar.cmpi .ne v1254 c0_i32_666
  let v1259 : BitVec 1 := Scalar.andi v1258 v1255
  let v1260 : BitVec 32 := Scalar.addi v1254 v1253
  let v1261 : BitVec 32 := Scalar.select v1259 v1260 v1254
  let c4_i32_677 : BitVec 32 := 4#32
  let c0_i32_678 : BitVec 32 := 0#32
  let v1281 : BitVec 1 := Scalar.cmpi .eq c4_i32_677 c0_i32_678
  let c1_i32_679 : BitVec 32 := 1#32
  let v1282 : BitVec 32 := Scalar.select v1281 c1_i32_679 c4_i32_677
  let v1283 : BitVec 32 := Scalar.remsi v1261 v1282
  let c0_i32_681 : BitVec 32 := 0#32
  let v1285 : BitVec 1 := Scalar.cmpi .slt v1283 c0_i32_681
  let c0_i32_682 : BitVec 32 := 0#32
  let v1286 : BitVec 1 := Scalar.cmpi .slt v1282 c0_i32_682
  let v1287 : BitVec 1 := Scalar.xori v1285 v1286
  let c0_i32_680 : BitVec 32 := 0#32
  let v1284 : BitVec 1 := Scalar.cmpi .ne v1283 c0_i32_680
  let v1288 : BitVec 1 := Scalar.andi v1287 v1284
  let v1289 : BitVec 32 := Scalar.addi v1283 v1282
  let v1290 : BitVec 32 := Scalar.select v1288 v1289 v1283
  let v1291 : BitVec 32 := Scalar.muli c8_i32_683 v1290
  let c2_i32_684 : BitVec 32 := 2#32
  let c0_i32_671 : BitVec 32 := 0#32
  let v1265 : BitVec 1 := Scalar.cmpi .sgt v1261 c0_i32_671
  let v1266 : BitVec 32 := Scalar.extui v1265
  let c0_i32_672 : BitVec 32 := 0#32
  let v1267 : BitVec 1 := Scalar.cmpi .slt v1261 c0_i32_672
  let v1268 : BitVec 32 := Scalar.extui v1267
  let v1269 : BitVec 32 := Scalar.subi v1266 v1268
  let c4_i32_670 : BitVec 32 := 4#32
  let c0_i32_673 : BitVec 32 := 0#32
  let v1270 : BitVec 1 := Scalar.cmpi .sgt c4_i32_670 c0_i32_673
  let v1271 : BitVec 32 := Scalar.extui v1270
  let c0_i32_674 : BitVec 32 := 0#32
  let v1272 : BitVec 1 := Scalar.cmpi .slt c4_i32_670 c0_i32_674
  let v1273 : BitVec 32 := Scalar.extui v1272
  let v1274 : BitVec 32 := Scalar.subi v1271 v1273
  let v1275 : BitVec 1 := Scalar.cmpi .ne v1269 v1274
  let v1276 : BitVec 32 := Scalar.remsi v1261 c4_i32_670
  let c0_i32_675 : BitVec 32 := 0#32
  let v1277 : BitVec 1 := Scalar.cmpi .ne v1276 c0_i32_675
  let v1278 : BitVec 1 := Scalar.andi v1275 v1277
  let v1264 : BitVec 32 := Scalar.divsi v1261 c4_i32_670
  let c1_i32_676 : BitVec 32 := 1#32
  let v1279 : BitVec 32 := Scalar.subi v1264 c1_i32_676
  let v1280 : BitVec 32 := Scalar.select v1278 v1279 v1264
  let v1292 : BitVec 32 := Scalar.muli c2_i32_684 v1280
  let v1293 : BitVec 32 := Scalar.addi v1291 v1292
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_685 : BitVec 32 := 2#32
  let c0_i32_686 : BitVec 32 := 0#32
  let v1294 : BitVec 1 := Scalar.cmpi .eq c2_i32_685 c0_i32_686
  let c1_i32_687 : BitVec 32 := 1#32
  let v1295 : BitVec 32 := Scalar.select v1294 c1_i32_687 c2_i32_685
  let v1296 : BitVec 32 := Scalar.remsi v1280 v1295
  let c0_i32_689 : BitVec 32 := 0#32
  let v1298 : BitVec 1 := Scalar.cmpi .slt v1296 c0_i32_689
  let c0_i32_690 : BitVec 32 := 0#32
  let v1299 : BitVec 1 := Scalar.cmpi .slt v1295 c0_i32_690
  let v1300 : BitVec 1 := Scalar.xori v1298 v1299
  let c0_i32_688 : BitVec 32 := 0#32
  let v1297 : BitVec 1 := Scalar.cmpi .ne v1296 c0_i32_688
  let v1301 : BitVec 1 := Scalar.andi v1300 v1297
  let v1302 : BitVec 32 := Scalar.addi v1296 v1295
  let v1303 : BitVec 32 := Scalar.select v1301 v1302 v1296
  let v1304 : BitVec 32 := Scalar.xori v67 v1303
  let v1305 : BitVec 32 := Scalar.addi v1293 v1304
  let c1_i32_2590 : BitVec 32 := 1#32
  let v4061 : BitVec 32 := Scalar.muli v1305 c1_i32_2590
  let v4062 : BitVec 32 := Scalar.addi c0_i32_2591 v4061
  v4062.toNat
def k0_cond6 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c6_i32_1047 : BitVec 32 := 6#32
  let v1940 : BitVec 32 := Scalar.subi v69 c6_i32_1047
  let c16_i32_1048 : BitVec 32 := 16#32
  let c0_i32_1049 : BitVec 32 := 0#32
  let v1941 : BitVec 1 := Scalar.cmpi .eq c16_i32_1048 c0_i32_1049
  let c1_i32_1050 : BitVec 32 := 1#32
  let v1942 : BitVec 32 := Scalar.select v1941 c1_i32_1050 c16_i32_1048
  let v1943 : BitVec 32 := Scalar.remsi v1940 v1942
  let c0_i32_1052 : BitVec 32 := 0#32
  let v1945 : BitVec 1 := Scalar.cmpi .slt v1943 c0_i32_1052
  let c0_i32_1053 : BitVec 32 := 0#32
  let v1946 : BitVec 1 := Scalar.cmpi .slt v1942 c0_i32_1053
  let v1947 : BitVec 1 := Scalar.xori v1945 v1946
  let c0_i32_1051 : BitVec 32 := 0#32
  let v1944 : BitVec 1 := Scalar.cmpi .ne v1943 c0_i32_1051
  let v1948 : BitVec 1 := Scalar.andi v1947 v1944
  let v1949 : BitVec 32 := Scalar.addi v1943 v1942
  let v1950 : BitVec 32 := Scalar.select v1948 v1949 v1943
  let c8_i32_1054 : BitVec 32 := 8#32
  let v1951 : BitVec 1 := Scalar.cmpi .slt v1950 c8_i32_1054
  let v1952 : BitVec 32 := Scalar.extui v1951
  let c0_i32_1057 : BitVec 32 := 0#32
  let v1953 : BitVec 1 := Scalar.cmpi .ne v1952 c0_i32_1057
  v1953

def k0_off18 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_698 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c6_i32_691 : BitVec 32 := 6#32
  let v1306 : BitVec 32 := Scalar.subi v69 c6_i32_691
  let c16_i32_692 : BitVec 32 := 16#32
  let c0_i32_693 : BitVec 32 := 0#32
  let v1307 : BitVec 1 := Scalar.cmpi .eq c16_i32_692 c0_i32_693
  let c1_i32_694 : BitVec 32 := 1#32
  let v1308 : BitVec 32 := Scalar.select v1307 c1_i32_694 c16_i32_692
  let v1309 : BitVec 32 := Scalar.remsi v1306 v1308
  let c0_i32_696 : BitVec 32 := 0#32
  let v1311 : BitVec 1 := Scalar.cmpi .slt v1309 c0_i32_696
  let c0_i32_697 : BitVec 32 := 0#32
  let v1312 : BitVec 1 := Scalar.cmpi .slt v1308 c0_i32_697
  let v1313 : BitVec 1 := Scalar.xori v1311 v1312
  let c0_i32_695 : BitVec 32 := 0#32
  let v1310 : BitVec 1 := Scalar.cmpi .ne v1309 c0_i32_695
  let v1314 : BitVec 1 := Scalar.andi v1313 v1310
  let v1315 : BitVec 32 := Scalar.addi v1309 v1308
  let v1316 : BitVec 32 := Scalar.select v1314 v1315 v1309
  let v1317 : BitVec 32 := Scalar.muli c16_i32_698 v1316
  let v1318 : BitVec 32 := Scalar.addi v915 v1317
  let c0_i32_2594 : BitVec 32 := 0#32
  ![v1318.toNat, 0]
def k0_dev24 (d0 : Dev nD) : Nat :=
  let c0_i32_2591 : BitVec 32 := 0#32
  let c8_i32_712 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c6_i32_691 : BitVec 32 := 6#32
  let v1306 : BitVec 32 := Scalar.subi v69 c6_i32_691
  let c16_i32_692 : BitVec 32 := 16#32
  let c0_i32_693 : BitVec 32 := 0#32
  let v1307 : BitVec 1 := Scalar.cmpi .eq c16_i32_692 c0_i32_693
  let c1_i32_694 : BitVec 32 := 1#32
  let v1308 : BitVec 32 := Scalar.select v1307 c1_i32_694 c16_i32_692
  let v1309 : BitVec 32 := Scalar.remsi v1306 v1308
  let c0_i32_696 : BitVec 32 := 0#32
  let v1311 : BitVec 1 := Scalar.cmpi .slt v1309 c0_i32_696
  let c0_i32_697 : BitVec 32 := 0#32
  let v1312 : BitVec 1 := Scalar.cmpi .slt v1308 c0_i32_697
  let v1313 : BitVec 1 := Scalar.xori v1311 v1312
  let c0_i32_695 : BitVec 32 := 0#32
  let v1310 : BitVec 1 := Scalar.cmpi .ne v1309 c0_i32_695
  let v1314 : BitVec 1 := Scalar.andi v1313 v1310
  let v1315 : BitVec 32 := Scalar.addi v1309 v1308
  let v1316 : BitVec 32 := Scalar.select v1314 v1315 v1309
  let c4_i32_706 : BitVec 32 := 4#32
  let c0_i32_707 : BitVec 32 := 0#32
  let v1336 : BitVec 1 := Scalar.cmpi .eq c4_i32_706 c0_i32_707
  let c1_i32_708 : BitVec 32 := 1#32
  let v1337 : BitVec 32 := Scalar.select v1336 c1_i32_708 c4_i32_706
  let v1338 : BitVec 32 := Scalar.remsi v1316 v1337
  let c0_i32_710 : BitVec 32 := 0#32
  let v1340 : BitVec 1 := Scalar.cmpi .slt v1338 c0_i32_710
  let c0_i32_711 : BitVec 32 := 0#32
  let v1341 : BitVec 1 := Scalar.cmpi .slt v1337 c0_i32_711
  let v1342 : BitVec 1 := Scalar.xori v1340 v1341
  let c0_i32_709 : BitVec 32 := 0#32
  let v1339 : BitVec 1 := Scalar.cmpi .ne v1338 c0_i32_709
  let v1343 : BitVec 1 := Scalar.andi v1342 v1339
  let v1344 : BitVec 32 := Scalar.addi v1338 v1337
  let v1345 : BitVec 32 := Scalar.select v1343 v1344 v1338
  let v1346 : BitVec 32 := Scalar.muli c8_i32_712 v1345
  let c2_i32_713 : BitVec 32 := 2#32
  let c0_i32_700 : BitVec 32 := 0#32
  let v1320 : BitVec 1 := Scalar.cmpi .sgt v1316 c0_i32_700
  let v1321 : BitVec 32 := Scalar.extui v1320
  let c0_i32_701 : BitVec 32 := 0#32
  let v1322 : BitVec 1 := Scalar.cmpi .slt v1316 c0_i32_701
  let v1323 : BitVec 32 := Scalar.extui v1322
  let v1324 : BitVec 32 := Scalar.subi v1321 v1323
  let c4_i32_699 : BitVec 32 := 4#32
  let c0_i32_702 : BitVec 32 := 0#32
  let v1325 : BitVec 1 := Scalar.cmpi .sgt c4_i32_699 c0_i32_702
  let v1326 : BitVec 32 := Scalar.extui v1325
  let c0_i32_703 : BitVec 32 := 0#32
  let v1327 : BitVec 1 := Scalar.cmpi .slt c4_i32_699 c0_i32_703
  let v1328 : BitVec 32 := Scalar.extui v1327
  let v1329 : BitVec 32 := Scalar.subi v1326 v1328
  let v1330 : BitVec 1 := Scalar.cmpi .ne v1324 v1329
  let v1331 : BitVec 32 := Scalar.remsi v1316 c4_i32_699
  let c0_i32_704 : BitVec 32 := 0#32
  let v1332 : BitVec 1 := Scalar.cmpi .ne v1331 c0_i32_704
  let v1333 : BitVec 1 := Scalar.andi v1330 v1332
  let v1319 : BitVec 32 := Scalar.divsi v1316 c4_i32_699
  let c1_i32_705 : BitVec 32 := 1#32
  let v1334 : BitVec 32 := Scalar.subi v1319 c1_i32_705
  let v1335 : BitVec 32 := Scalar.select v1333 v1334 v1319
  let v1347 : BitVec 32 := Scalar.muli c2_i32_713 v1335
  let v1348 : BitVec 32 := Scalar.addi v1346 v1347
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_714 : BitVec 32 := 2#32
  let c0_i32_715 : BitVec 32 := 0#32
  let v1349 : BitVec 1 := Scalar.cmpi .eq c2_i32_714 c0_i32_715
  let c1_i32_716 : BitVec 32 := 1#32
  let v1350 : BitVec 32 := Scalar.select v1349 c1_i32_716 c2_i32_714
  let v1351 : BitVec 32 := Scalar.remsi v1335 v1350
  let c0_i32_718 : BitVec 32 := 0#32
  let v1353 : BitVec 1 := Scalar.cmpi .slt v1351 c0_i32_718
  let c0_i32_719 : BitVec 32 := 0#32
  let v1354 : BitVec 1 := Scalar.cmpi .slt v1350 c0_i32_719
  let v1355 : BitVec 1 := Scalar.xori v1353 v1354
  let c0_i32_717 : BitVec 32 := 0#32
  let v1352 : BitVec 1 := Scalar.cmpi .ne v1351 c0_i32_717
  let v1356 : BitVec 1 := Scalar.andi v1355 v1352
  let v1357 : BitVec 32 := Scalar.addi v1351 v1350
  let v1358 : BitVec 32 := Scalar.select v1356 v1357 v1351
  let v1359 : BitVec 32 := Scalar.xori v67 v1358
  let v1360 : BitVec 32 := Scalar.addi v1348 v1359
  let c1_i32_2590 : BitVec 32 := 1#32
  let v4061 : BitVec 32 := Scalar.muli v1360 c1_i32_2590
  let v4062 : BitVec 32 := Scalar.addi c0_i32_2591 v4061
  v4062.toNat
def k0_cond7 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c7_i32_1058 : BitVec 32 := 7#32
  let v1954 : BitVec 32 := Scalar.subi v69 c7_i32_1058
  let c16_i32_1059 : BitVec 32 := 16#32
  let c0_i32_1060 : BitVec 32 := 0#32
  let v1955 : BitVec 1 := Scalar.cmpi .eq c16_i32_1059 c0_i32_1060
  let c1_i32_1061 : BitVec 32 := 1#32
  let v1956 : BitVec 32 := Scalar.select v1955 c1_i32_1061 c16_i32_1059
  let v1957 : BitVec 32 := Scalar.remsi v1954 v1956
  let c0_i32_1063 : BitVec 32 := 0#32
  let v1959 : BitVec 1 := Scalar.cmpi .slt v1957 c0_i32_1063
  let c0_i32_1064 : BitVec 32 := 0#32
  let v1960 : BitVec 1 := Scalar.cmpi .slt v1956 c0_i32_1064
  let v1961 : BitVec 1 := Scalar.xori v1959 v1960
  let c0_i32_1062 : BitVec 32 := 0#32
  let v1958 : BitVec 1 := Scalar.cmpi .ne v1957 c0_i32_1062
  let v1962 : BitVec 1 := Scalar.andi v1961 v1958
  let v1963 : BitVec 32 := Scalar.addi v1957 v1956
  let v1964 : BitVec 32 := Scalar.select v1962 v1963 v1957
  let c8_i32_1065 : BitVec 32 := 8#32
  let v1965 : BitVec 1 := Scalar.cmpi .slt v1964 c8_i32_1065
  let v1966 : BitVec 32 := Scalar.extui v1965
  let c0_i32_1068 : BitVec 32 := 0#32
  let v1967 : BitVec 1 := Scalar.cmpi .ne v1966 c0_i32_1068
  v1967

def k0_off19 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_727 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c7_i32_720 : BitVec 32 := 7#32
  let v1361 : BitVec 32 := Scalar.subi v69 c7_i32_720
  let c16_i32_721 : BitVec 32 := 16#32
  let c0_i32_722 : BitVec 32 := 0#32
  let v1362 : BitVec 1 := Scalar.cmpi .eq c16_i32_721 c0_i32_722
  let c1_i32_723 : BitVec 32 := 1#32
  let v1363 : BitVec 32 := Scalar.select v1362 c1_i32_723 c16_i32_721
  let v1364 : BitVec 32 := Scalar.remsi v1361 v1363
  let c0_i32_725 : BitVec 32 := 0#32
  let v1366 : BitVec 1 := Scalar.cmpi .slt v1364 c0_i32_725
  let c0_i32_726 : BitVec 32 := 0#32
  let v1367 : BitVec 1 := Scalar.cmpi .slt v1363 c0_i32_726
  let v1368 : BitVec 1 := Scalar.xori v1366 v1367
  let c0_i32_724 : BitVec 32 := 0#32
  let v1365 : BitVec 1 := Scalar.cmpi .ne v1364 c0_i32_724
  let v1369 : BitVec 1 := Scalar.andi v1368 v1365
  let v1370 : BitVec 32 := Scalar.addi v1364 v1363
  let v1371 : BitVec 32 := Scalar.select v1369 v1370 v1364
  let v1372 : BitVec 32 := Scalar.muli c16_i32_727 v1371
  let v1373 : BitVec 32 := Scalar.addi v915 v1372
  let c0_i32_2594 : BitVec 32 := 0#32
  ![v1373.toNat, 0]
def k0_dev25 (d0 : Dev nD) : Nat :=
  let c0_i32_2591 : BitVec 32 := 0#32
  let c8_i32_741 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c7_i32_720 : BitVec 32 := 7#32
  let v1361 : BitVec 32 := Scalar.subi v69 c7_i32_720
  let c16_i32_721 : BitVec 32 := 16#32
  let c0_i32_722 : BitVec 32 := 0#32
  let v1362 : BitVec 1 := Scalar.cmpi .eq c16_i32_721 c0_i32_722
  let c1_i32_723 : BitVec 32 := 1#32
  let v1363 : BitVec 32 := Scalar.select v1362 c1_i32_723 c16_i32_721
  let v1364 : BitVec 32 := Scalar.remsi v1361 v1363
  let c0_i32_725 : BitVec 32 := 0#32
  let v1366 : BitVec 1 := Scalar.cmpi .slt v1364 c0_i32_725
  let c0_i32_726 : BitVec 32 := 0#32
  let v1367 : BitVec 1 := Scalar.cmpi .slt v1363 c0_i32_726
  let v1368 : BitVec 1 := Scalar.xori v1366 v1367
  let c0_i32_724 : BitVec 32 := 0#32
  let v1365 : BitVec 1 := Scalar.cmpi .ne v1364 c0_i32_724
  let v1369 : BitVec 1 := Scalar.andi v1368 v1365
  let v1370 : BitVec 32 := Scalar.addi v1364 v1363
  let v1371 : BitVec 32 := Scalar.select v1369 v1370 v1364
  let c4_i32_735 : BitVec 32 := 4#32
  let c0_i32_736 : BitVec 32 := 0#32
  let v1391 : BitVec 1 := Scalar.cmpi .eq c4_i32_735 c0_i32_736
  let c1_i32_737 : BitVec 32 := 1#32
  let v1392 : BitVec 32 := Scalar.select v1391 c1_i32_737 c4_i32_735
  let v1393 : BitVec 32 := Scalar.remsi v1371 v1392
  let c0_i32_739 : BitVec 32 := 0#32
  let v1395 : BitVec 1 := Scalar.cmpi .slt v1393 c0_i32_739
  let c0_i32_740 : BitVec 32 := 0#32
  let v1396 : BitVec 1 := Scalar.cmpi .slt v1392 c0_i32_740
  let v1397 : BitVec 1 := Scalar.xori v1395 v1396
  let c0_i32_738 : BitVec 32 := 0#32
  let v1394 : BitVec 1 := Scalar.cmpi .ne v1393 c0_i32_738
  let v1398 : BitVec 1 := Scalar.andi v1397 v1394
  let v1399 : BitVec 32 := Scalar.addi v1393 v1392
  let v1400 : BitVec 32 := Scalar.select v1398 v1399 v1393
  let v1401 : BitVec 32 := Scalar.muli c8_i32_741 v1400
  let c2_i32_742 : BitVec 32 := 2#32
  let c0_i32_729 : BitVec 32 := 0#32
  let v1375 : BitVec 1 := Scalar.cmpi .sgt v1371 c0_i32_729
  let v1376 : BitVec 32 := Scalar.extui v1375
  let c0_i32_730 : BitVec 32 := 0#32
  let v1377 : BitVec 1 := Scalar.cmpi .slt v1371 c0_i32_730
  let v1378 : BitVec 32 := Scalar.extui v1377
  let v1379 : BitVec 32 := Scalar.subi v1376 v1378
  let c4_i32_728 : BitVec 32 := 4#32
  let c0_i32_731 : BitVec 32 := 0#32
  let v1380 : BitVec 1 := Scalar.cmpi .sgt c4_i32_728 c0_i32_731
  let v1381 : BitVec 32 := Scalar.extui v1380
  let c0_i32_732 : BitVec 32 := 0#32
  let v1382 : BitVec 1 := Scalar.cmpi .slt c4_i32_728 c0_i32_732
  let v1383 : BitVec 32 := Scalar.extui v1382
  let v1384 : BitVec 32 := Scalar.subi v1381 v1383
  let v1385 : BitVec 1 := Scalar.cmpi .ne v1379 v1384
  let v1386 : BitVec 32 := Scalar.remsi v1371 c4_i32_728
  let c0_i32_733 : BitVec 32 := 0#32
  let v1387 : BitVec 1 := Scalar.cmpi .ne v1386 c0_i32_733
  let v1388 : BitVec 1 := Scalar.andi v1385 v1387
  let v1374 : BitVec 32 := Scalar.divsi v1371 c4_i32_728
  let c1_i32_734 : BitVec 32 := 1#32
  let v1389 : BitVec 32 := Scalar.subi v1374 c1_i32_734
  let v1390 : BitVec 32 := Scalar.select v1388 v1389 v1374
  let v1402 : BitVec 32 := Scalar.muli c2_i32_742 v1390
  let v1403 : BitVec 32 := Scalar.addi v1401 v1402
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_743 : BitVec 32 := 2#32
  let c0_i32_744 : BitVec 32 := 0#32
  let v1404 : BitVec 1 := Scalar.cmpi .eq c2_i32_743 c0_i32_744
  let c1_i32_745 : BitVec 32 := 1#32
  let v1405 : BitVec 32 := Scalar.select v1404 c1_i32_745 c2_i32_743
  let v1406 : BitVec 32 := Scalar.remsi v1390 v1405
  let c0_i32_747 : BitVec 32 := 0#32
  let v1408 : BitVec 1 := Scalar.cmpi .slt v1406 c0_i32_747
  let c0_i32_748 : BitVec 32 := 0#32
  let v1409 : BitVec 1 := Scalar.cmpi .slt v1405 c0_i32_748
  let v1410 : BitVec 1 := Scalar.xori v1408 v1409
  let c0_i32_746 : BitVec 32 := 0#32
  let v1407 : BitVec 1 := Scalar.cmpi .ne v1406 c0_i32_746
  let v1411 : BitVec 1 := Scalar.andi v1410 v1407
  let v1412 : BitVec 32 := Scalar.addi v1406 v1405
  let v1413 : BitVec 32 := Scalar.select v1411 v1412 v1406
  let v1414 : BitVec 32 := Scalar.xori v67 v1413
  let v1415 : BitVec 32 := Scalar.addi v1403 v1414
  let c1_i32_2590 : BitVec 32 := 1#32
  let v4061 : BitVec 32 := Scalar.muli v1415 c1_i32_2590
  let v4062 : BitVec 32 := Scalar.addi c0_i32_2591 v4061
  v4062.toNat
def k0_cond8 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c8_i32_1069 : BitVec 32 := 8#32
  let v1968 : BitVec 32 := Scalar.subi v69 c8_i32_1069
  let c16_i32_1070 : BitVec 32 := 16#32
  let c0_i32_1071 : BitVec 32 := 0#32
  let v1969 : BitVec 1 := Scalar.cmpi .eq c16_i32_1070 c0_i32_1071
  let c1_i32_1072 : BitVec 32 := 1#32
  let v1970 : BitVec 32 := Scalar.select v1969 c1_i32_1072 c16_i32_1070
  let v1971 : BitVec 32 := Scalar.remsi v1968 v1970
  let c0_i32_1074 : BitVec 32 := 0#32
  let v1973 : BitVec 1 := Scalar.cmpi .slt v1971 c0_i32_1074
  let c0_i32_1075 : BitVec 32 := 0#32
  let v1974 : BitVec 1 := Scalar.cmpi .slt v1970 c0_i32_1075
  let v1975 : BitVec 1 := Scalar.xori v1973 v1974
  let c0_i32_1073 : BitVec 32 := 0#32
  let v1972 : BitVec 1 := Scalar.cmpi .ne v1971 c0_i32_1073
  let v1976 : BitVec 1 := Scalar.andi v1975 v1972
  let v1977 : BitVec 32 := Scalar.addi v1971 v1970
  let v1978 : BitVec 32 := Scalar.select v1976 v1977 v1971
  let c8_i32_1076 : BitVec 32 := 8#32
  let v1979 : BitVec 1 := Scalar.cmpi .slt v1978 c8_i32_1076
  let v1980 : BitVec 32 := Scalar.extui v1979
  let c0_i32_1079 : BitVec 32 := 0#32
  let v1981 : BitVec 1 := Scalar.cmpi .ne v1980 c0_i32_1079
  v1981

def k0_off20 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_756 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c8_i32_749 : BitVec 32 := 8#32
  let v1416 : BitVec 32 := Scalar.subi v69 c8_i32_749
  let c16_i32_750 : BitVec 32 := 16#32
  let c0_i32_751 : BitVec 32 := 0#32
  let v1417 : BitVec 1 := Scalar.cmpi .eq c16_i32_750 c0_i32_751
  let c1_i32_752 : BitVec 32 := 1#32
  let v1418 : BitVec 32 := Scalar.select v1417 c1_i32_752 c16_i32_750
  let v1419 : BitVec 32 := Scalar.remsi v1416 v1418
  let c0_i32_754 : BitVec 32 := 0#32
  let v1421 : BitVec 1 := Scalar.cmpi .slt v1419 c0_i32_754
  let c0_i32_755 : BitVec 32 := 0#32
  let v1422 : BitVec 1 := Scalar.cmpi .slt v1418 c0_i32_755
  let v1423 : BitVec 1 := Scalar.xori v1421 v1422
  let c0_i32_753 : BitVec 32 := 0#32
  let v1420 : BitVec 1 := Scalar.cmpi .ne v1419 c0_i32_753
  let v1424 : BitVec 1 := Scalar.andi v1423 v1420
  let v1425 : BitVec 32 := Scalar.addi v1419 v1418
  let v1426 : BitVec 32 := Scalar.select v1424 v1425 v1419
  let v1427 : BitVec 32 := Scalar.muli c16_i32_756 v1426
  let v1428 : BitVec 32 := Scalar.addi v915 v1427
  let c0_i32_2594 : BitVec 32 := 0#32
  ![v1428.toNat, 0]
def k0_dev26 (d0 : Dev nD) : Nat :=
  let c0_i32_2591 : BitVec 32 := 0#32
  let c8_i32_770 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c8_i32_749 : BitVec 32 := 8#32
  let v1416 : BitVec 32 := Scalar.subi v69 c8_i32_749
  let c16_i32_750 : BitVec 32 := 16#32
  let c0_i32_751 : BitVec 32 := 0#32
  let v1417 : BitVec 1 := Scalar.cmpi .eq c16_i32_750 c0_i32_751
  let c1_i32_752 : BitVec 32 := 1#32
  let v1418 : BitVec 32 := Scalar.select v1417 c1_i32_752 c16_i32_750
  let v1419 : BitVec 32 := Scalar.remsi v1416 v1418
  let c0_i32_754 : BitVec 32 := 0#32
  let v1421 : BitVec 1 := Scalar.cmpi .slt v1419 c0_i32_754
  let c0_i32_755 : BitVec 32 := 0#32
  let v1422 : BitVec 1 := Scalar.cmpi .slt v1418 c0_i32_755
  let v1423 : BitVec 1 := Scalar.xori v1421 v1422
  let c0_i32_753 : BitVec 32 := 0#32
  let v1420 : BitVec 1 := Scalar.cmpi .ne v1419 c0_i32_753
  let v1424 : BitVec 1 := Scalar.andi v1423 v1420
  let v1425 : BitVec 32 := Scalar.addi v1419 v1418
  let v1426 : BitVec 32 := Scalar.select v1424 v1425 v1419
  let c4_i32_764 : BitVec 32 := 4#32
  let c0_i32_765 : BitVec 32 := 0#32
  let v1446 : BitVec 1 := Scalar.cmpi .eq c4_i32_764 c0_i32_765
  let c1_i32_766 : BitVec 32 := 1#32
  let v1447 : BitVec 32 := Scalar.select v1446 c1_i32_766 c4_i32_764
  let v1448 : BitVec 32 := Scalar.remsi v1426 v1447
  let c0_i32_768 : BitVec 32 := 0#32
  let v1450 : BitVec 1 := Scalar.cmpi .slt v1448 c0_i32_768
  let c0_i32_769 : BitVec 32 := 0#32
  let v1451 : BitVec 1 := Scalar.cmpi .slt v1447 c0_i32_769
  let v1452 : BitVec 1 := Scalar.xori v1450 v1451
  let c0_i32_767 : BitVec 32 := 0#32
  let v1449 : BitVec 1 := Scalar.cmpi .ne v1448 c0_i32_767
  let v1453 : BitVec 1 := Scalar.andi v1452 v1449
  let v1454 : BitVec 32 := Scalar.addi v1448 v1447
  let v1455 : BitVec 32 := Scalar.select v1453 v1454 v1448
  let v1456 : BitVec 32 := Scalar.muli c8_i32_770 v1455
  let c2_i32_771 : BitVec 32 := 2#32
  let c0_i32_758 : BitVec 32 := 0#32
  let v1430 : BitVec 1 := Scalar.cmpi .sgt v1426 c0_i32_758
  let v1431 : BitVec 32 := Scalar.extui v1430
  let c0_i32_759 : BitVec 32 := 0#32
  let v1432 : BitVec 1 := Scalar.cmpi .slt v1426 c0_i32_759
  let v1433 : BitVec 32 := Scalar.extui v1432
  let v1434 : BitVec 32 := Scalar.subi v1431 v1433
  let c4_i32_757 : BitVec 32 := 4#32
  let c0_i32_760 : BitVec 32 := 0#32
  let v1435 : BitVec 1 := Scalar.cmpi .sgt c4_i32_757 c0_i32_760
  let v1436 : BitVec 32 := Scalar.extui v1435
  let c0_i32_761 : BitVec 32 := 0#32
  let v1437 : BitVec 1 := Scalar.cmpi .slt c4_i32_757 c0_i32_761
  let v1438 : BitVec 32 := Scalar.extui v1437
  let v1439 : BitVec 32 := Scalar.subi v1436 v1438
  let v1440 : BitVec 1 := Scalar.cmpi .ne v1434 v1439
  let v1441 : BitVec 32 := Scalar.remsi v1426 c4_i32_757
  let c0_i32_762 : BitVec 32 := 0#32
  let v1442 : BitVec 1 := Scalar.cmpi .ne v1441 c0_i32_762
  let v1443 : BitVec 1 := Scalar.andi v1440 v1442
  let v1429 : BitVec 32 := Scalar.divsi v1426 c4_i32_757
  let c1_i32_763 : BitVec 32 := 1#32
  let v1444 : BitVec 32 := Scalar.subi v1429 c1_i32_763
  let v1445 : BitVec 32 := Scalar.select v1443 v1444 v1429
  let v1457 : BitVec 32 := Scalar.muli c2_i32_771 v1445
  let v1458 : BitVec 32 := Scalar.addi v1456 v1457
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_772 : BitVec 32 := 2#32
  let c0_i32_773 : BitVec 32 := 0#32
  let v1459 : BitVec 1 := Scalar.cmpi .eq c2_i32_772 c0_i32_773
  let c1_i32_774 : BitVec 32 := 1#32
  let v1460 : BitVec 32 := Scalar.select v1459 c1_i32_774 c2_i32_772
  let v1461 : BitVec 32 := Scalar.remsi v1445 v1460
  let c0_i32_776 : BitVec 32 := 0#32
  let v1463 : BitVec 1 := Scalar.cmpi .slt v1461 c0_i32_776
  let c0_i32_777 : BitVec 32 := 0#32
  let v1464 : BitVec 1 := Scalar.cmpi .slt v1460 c0_i32_777
  let v1465 : BitVec 1 := Scalar.xori v1463 v1464
  let c0_i32_775 : BitVec 32 := 0#32
  let v1462 : BitVec 1 := Scalar.cmpi .ne v1461 c0_i32_775
  let v1466 : BitVec 1 := Scalar.andi v1465 v1462
  let v1467 : BitVec 32 := Scalar.addi v1461 v1460
  let v1468 : BitVec 32 := Scalar.select v1466 v1467 v1461
  let v1469 : BitVec 32 := Scalar.xori v67 v1468
  let v1470 : BitVec 32 := Scalar.addi v1458 v1469
  let c1_i32_2590 : BitVec 32 := 1#32
  let v4061 : BitVec 32 := Scalar.muli v1470 c1_i32_2590
  let v4062 : BitVec 32 := Scalar.addi c0_i32_2591 v4061
  v4062.toNat
def k0_cond9 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c9_i32_1080 : BitVec 32 := 9#32
  let v1982 : BitVec 32 := Scalar.subi v69 c9_i32_1080
  let c16_i32_1081 : BitVec 32 := 16#32
  let c0_i32_1082 : BitVec 32 := 0#32
  let v1983 : BitVec 1 := Scalar.cmpi .eq c16_i32_1081 c0_i32_1082
  let c1_i32_1083 : BitVec 32 := 1#32
  let v1984 : BitVec 32 := Scalar.select v1983 c1_i32_1083 c16_i32_1081
  let v1985 : BitVec 32 := Scalar.remsi v1982 v1984
  let c0_i32_1085 : BitVec 32 := 0#32
  let v1987 : BitVec 1 := Scalar.cmpi .slt v1985 c0_i32_1085
  let c0_i32_1086 : BitVec 32 := 0#32
  let v1988 : BitVec 1 := Scalar.cmpi .slt v1984 c0_i32_1086
  let v1989 : BitVec 1 := Scalar.xori v1987 v1988
  let c0_i32_1084 : BitVec 32 := 0#32
  let v1986 : BitVec 1 := Scalar.cmpi .ne v1985 c0_i32_1084
  let v1990 : BitVec 1 := Scalar.andi v1989 v1986
  let v1991 : BitVec 32 := Scalar.addi v1985 v1984
  let v1992 : BitVec 32 := Scalar.select v1990 v1991 v1985
  let c8_i32_1087 : BitVec 32 := 8#32
  let v1993 : BitVec 1 := Scalar.cmpi .slt v1992 c8_i32_1087
  let v1994 : BitVec 32 := Scalar.extui v1993
  let c0_i32_1090 : BitVec 32 := 0#32
  let v1995 : BitVec 1 := Scalar.cmpi .ne v1994 c0_i32_1090
  v1995

def k0_off21 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_785 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c9_i32_778 : BitVec 32 := 9#32
  let v1471 : BitVec 32 := Scalar.subi v69 c9_i32_778
  let c16_i32_779 : BitVec 32 := 16#32
  let c0_i32_780 : BitVec 32 := 0#32
  let v1472 : BitVec 1 := Scalar.cmpi .eq c16_i32_779 c0_i32_780
  let c1_i32_781 : BitVec 32 := 1#32
  let v1473 : BitVec 32 := Scalar.select v1472 c1_i32_781 c16_i32_779
  let v1474 : BitVec 32 := Scalar.remsi v1471 v1473
  let c0_i32_783 : BitVec 32 := 0#32
  let v1476 : BitVec 1 := Scalar.cmpi .slt v1474 c0_i32_783
  let c0_i32_784 : BitVec 32 := 0#32
  let v1477 : BitVec 1 := Scalar.cmpi .slt v1473 c0_i32_784
  let v1478 : BitVec 1 := Scalar.xori v1476 v1477
  let c0_i32_782 : BitVec 32 := 0#32
  let v1475 : BitVec 1 := Scalar.cmpi .ne v1474 c0_i32_782
  let v1479 : BitVec 1 := Scalar.andi v1478 v1475
  let v1480 : BitVec 32 := Scalar.addi v1474 v1473
  let v1481 : BitVec 32 := Scalar.select v1479 v1480 v1474
  let v1482 : BitVec 32 := Scalar.muli c16_i32_785 v1481
  let v1483 : BitVec 32 := Scalar.addi v915 v1482
  let c0_i32_2594 : BitVec 32 := 0#32
  ![v1483.toNat, 0]
def k0_dev27 (d0 : Dev nD) : Nat :=
  let c0_i32_2591 : BitVec 32 := 0#32
  let c8_i32_799 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c9_i32_778 : BitVec 32 := 9#32
  let v1471 : BitVec 32 := Scalar.subi v69 c9_i32_778
  let c16_i32_779 : BitVec 32 := 16#32
  let c0_i32_780 : BitVec 32 := 0#32
  let v1472 : BitVec 1 := Scalar.cmpi .eq c16_i32_779 c0_i32_780
  let c1_i32_781 : BitVec 32 := 1#32
  let v1473 : BitVec 32 := Scalar.select v1472 c1_i32_781 c16_i32_779
  let v1474 : BitVec 32 := Scalar.remsi v1471 v1473
  let c0_i32_783 : BitVec 32 := 0#32
  let v1476 : BitVec 1 := Scalar.cmpi .slt v1474 c0_i32_783
  let c0_i32_784 : BitVec 32 := 0#32
  let v1477 : BitVec 1 := Scalar.cmpi .slt v1473 c0_i32_784
  let v1478 : BitVec 1 := Scalar.xori v1476 v1477
  let c0_i32_782 : BitVec 32 := 0#32
  let v1475 : BitVec 1 := Scalar.cmpi .ne v1474 c0_i32_782
  let v1479 : BitVec 1 := Scalar.andi v1478 v1475
  let v1480 : BitVec 32 := Scalar.addi v1474 v1473
  let v1481 : BitVec 32 := Scalar.select v1479 v1480 v1474
  let c4_i32_793 : BitVec 32 := 4#32
  let c0_i32_794 : BitVec 32 := 0#32
  let v1501 : BitVec 1 := Scalar.cmpi .eq c4_i32_793 c0_i32_794
  let c1_i32_795 : BitVec 32 := 1#32
  let v1502 : BitVec 32 := Scalar.select v1501 c1_i32_795 c4_i32_793
  let v1503 : BitVec 32 := Scalar.remsi v1481 v1502
  let c0_i32_797 : BitVec 32 := 0#32
  let v1505 : BitVec 1 := Scalar.cmpi .slt v1503 c0_i32_797
  let c0_i32_798 : BitVec 32 := 0#32
  let v1506 : BitVec 1 := Scalar.cmpi .slt v1502 c0_i32_798
  let v1507 : BitVec 1 := Scalar.xori v1505 v1506
  let c0_i32_796 : BitVec 32 := 0#32
  let v1504 : BitVec 1 := Scalar.cmpi .ne v1503 c0_i32_796
  let v1508 : BitVec 1 := Scalar.andi v1507 v1504
  let v1509 : BitVec 32 := Scalar.addi v1503 v1502
  let v1510 : BitVec 32 := Scalar.select v1508 v1509 v1503
  let v1511 : BitVec 32 := Scalar.muli c8_i32_799 v1510
  let c2_i32_800 : BitVec 32 := 2#32
  let c0_i32_787 : BitVec 32 := 0#32
  let v1485 : BitVec 1 := Scalar.cmpi .sgt v1481 c0_i32_787
  let v1486 : BitVec 32 := Scalar.extui v1485
  let c0_i32_788 : BitVec 32 := 0#32
  let v1487 : BitVec 1 := Scalar.cmpi .slt v1481 c0_i32_788
  let v1488 : BitVec 32 := Scalar.extui v1487
  let v1489 : BitVec 32 := Scalar.subi v1486 v1488
  let c4_i32_786 : BitVec 32 := 4#32
  let c0_i32_789 : BitVec 32 := 0#32
  let v1490 : BitVec 1 := Scalar.cmpi .sgt c4_i32_786 c0_i32_789
  let v1491 : BitVec 32 := Scalar.extui v1490
  let c0_i32_790 : BitVec 32 := 0#32
  let v1492 : BitVec 1 := Scalar.cmpi .slt c4_i32_786 c0_i32_790
  let v1493 : BitVec 32 := Scalar.extui v1492
  let v1494 : BitVec 32 := Scalar.subi v1491 v1493
  let v1495 : BitVec 1 := Scalar.cmpi .ne v1489 v1494
  let v1496 : BitVec 32 := Scalar.remsi v1481 c4_i32_786
  let c0_i32_791 : BitVec 32 := 0#32
  let v1497 : BitVec 1 := Scalar.cmpi .ne v1496 c0_i32_791
  let v1498 : BitVec 1 := Scalar.andi v1495 v1497
  let v1484 : BitVec 32 := Scalar.divsi v1481 c4_i32_786
  let c1_i32_792 : BitVec 32 := 1#32
  let v1499 : BitVec 32 := Scalar.subi v1484 c1_i32_792
  let v1500 : BitVec 32 := Scalar.select v1498 v1499 v1484
  let v1512 : BitVec 32 := Scalar.muli c2_i32_800 v1500
  let v1513 : BitVec 32 := Scalar.addi v1511 v1512
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_801 : BitVec 32 := 2#32
  let c0_i32_802 : BitVec 32 := 0#32
  let v1514 : BitVec 1 := Scalar.cmpi .eq c2_i32_801 c0_i32_802
  let c1_i32_803 : BitVec 32 := 1#32
  let v1515 : BitVec 32 := Scalar.select v1514 c1_i32_803 c2_i32_801
  let v1516 : BitVec 32 := Scalar.remsi v1500 v1515
  let c0_i32_805 : BitVec 32 := 0#32
  let v1518 : BitVec 1 := Scalar.cmpi .slt v1516 c0_i32_805
  let c0_i32_806 : BitVec 32 := 0#32
  let v1519 : BitVec 1 := Scalar.cmpi .slt v1515 c0_i32_806
  let v1520 : BitVec 1 := Scalar.xori v1518 v1519
  let c0_i32_804 : BitVec 32 := 0#32
  let v1517 : BitVec 1 := Scalar.cmpi .ne v1516 c0_i32_804
  let v1521 : BitVec 1 := Scalar.andi v1520 v1517
  let v1522 : BitVec 32 := Scalar.addi v1516 v1515
  let v1523 : BitVec 32 := Scalar.select v1521 v1522 v1516
  let v1524 : BitVec 32 := Scalar.xori v67 v1523
  let v1525 : BitVec 32 := Scalar.addi v1513 v1524
  let c1_i32_2590 : BitVec 32 := 1#32
  let v4061 : BitVec 32 := Scalar.muli v1525 c1_i32_2590
  let v4062 : BitVec 32 := Scalar.addi c0_i32_2591 v4061
  v4062.toNat
def k0_cond10 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c10_i32_1091 : BitVec 32 := 10#32
  let v1996 : BitVec 32 := Scalar.subi v69 c10_i32_1091
  let c16_i32_1092 : BitVec 32 := 16#32
  let c0_i32_1093 : BitVec 32 := 0#32
  let v1997 : BitVec 1 := Scalar.cmpi .eq c16_i32_1092 c0_i32_1093
  let c1_i32_1094 : BitVec 32 := 1#32
  let v1998 : BitVec 32 := Scalar.select v1997 c1_i32_1094 c16_i32_1092
  let v1999 : BitVec 32 := Scalar.remsi v1996 v1998
  let c0_i32_1096 : BitVec 32 := 0#32
  let v2001 : BitVec 1 := Scalar.cmpi .slt v1999 c0_i32_1096
  let c0_i32_1097 : BitVec 32 := 0#32
  let v2002 : BitVec 1 := Scalar.cmpi .slt v1998 c0_i32_1097
  let v2003 : BitVec 1 := Scalar.xori v2001 v2002
  let c0_i32_1095 : BitVec 32 := 0#32
  let v2000 : BitVec 1 := Scalar.cmpi .ne v1999 c0_i32_1095
  let v2004 : BitVec 1 := Scalar.andi v2003 v2000
  let v2005 : BitVec 32 := Scalar.addi v1999 v1998
  let v2006 : BitVec 32 := Scalar.select v2004 v2005 v1999
  let c8_i32_1098 : BitVec 32 := 8#32
  let v2007 : BitVec 1 := Scalar.cmpi .slt v2006 c8_i32_1098
  let v2008 : BitVec 32 := Scalar.extui v2007
  let c0_i32_1101 : BitVec 32 := 0#32
  let v2009 : BitVec 1 := Scalar.cmpi .ne v2008 c0_i32_1101
  v2009

def k0_off22 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_814 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c10_i32_807 : BitVec 32 := 10#32
  let v1526 : BitVec 32 := Scalar.subi v69 c10_i32_807
  let c16_i32_808 : BitVec 32 := 16#32
  let c0_i32_809 : BitVec 32 := 0#32
  let v1527 : BitVec 1 := Scalar.cmpi .eq c16_i32_808 c0_i32_809
  let c1_i32_810 : BitVec 32 := 1#32
  let v1528 : BitVec 32 := Scalar.select v1527 c1_i32_810 c16_i32_808
  let v1529 : BitVec 32 := Scalar.remsi v1526 v1528
  let c0_i32_812 : BitVec 32 := 0#32
  let v1531 : BitVec 1 := Scalar.cmpi .slt v1529 c0_i32_812
  let c0_i32_813 : BitVec 32 := 0#32
  let v1532 : BitVec 1 := Scalar.cmpi .slt v1528 c0_i32_813
  let v1533 : BitVec 1 := Scalar.xori v1531 v1532
  let c0_i32_811 : BitVec 32 := 0#32
  let v1530 : BitVec 1 := Scalar.cmpi .ne v1529 c0_i32_811
  let v1534 : BitVec 1 := Scalar.andi v1533 v1530
  let v1535 : BitVec 32 := Scalar.addi v1529 v1528
  let v1536 : BitVec 32 := Scalar.select v1534 v1535 v1529
  let v1537 : BitVec 32 := Scalar.muli c16_i32_814 v1536
  let v1538 : BitVec 32 := Scalar.addi v915 v1537
  let c0_i32_2594 : BitVec 32 := 0#32
  ![v1538.toNat, 0]
def k0_dev28 (d0 : Dev nD) : Nat :=
  let c0_i32_2591 : BitVec 32 := 0#32
  let c8_i32_828 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c10_i32_807 : BitVec 32 := 10#32
  let v1526 : BitVec 32 := Scalar.subi v69 c10_i32_807
  let c16_i32_808 : BitVec 32 := 16#32
  let c0_i32_809 : BitVec 32 := 0#32
  let v1527 : BitVec 1 := Scalar.cmpi .eq c16_i32_808 c0_i32_809
  let c1_i32_810 : BitVec 32 := 1#32
  let v1528 : BitVec 32 := Scalar.select v1527 c1_i32_810 c16_i32_808
  let v1529 : BitVec 32 := Scalar.remsi v1526 v1528
  let c0_i32_812 : BitVec 32 := 0#32
  let v1531 : BitVec 1 := Scalar.cmpi .slt v1529 c0_i32_812
  let c0_i32_813 : BitVec 32 := 0#32
  let v1532 : BitVec 1 := Scalar.cmpi .slt v1528 c0_i32_813
  let v1533 : BitVec 1 := Scalar.xori v1531 v1532
  let c0_i32_811 : BitVec 32 := 0#32
  let v1530 : BitVec 1 := Scalar.cmpi .ne v1529 c0_i32_811
  let v1534 : BitVec 1 := Scalar.andi v1533 v1530
  let v1535 : BitVec 32 := Scalar.addi v1529 v1528
  let v1536 : BitVec 32 := Scalar.select v1534 v1535 v1529
  let c4_i32_822 : BitVec 32 := 4#32
  let c0_i32_823 : BitVec 32 := 0#32
  let v1556 : BitVec 1 := Scalar.cmpi .eq c4_i32_822 c0_i32_823
  let c1_i32_824 : BitVec 32 := 1#32
  let v1557 : BitVec 32 := Scalar.select v1556 c1_i32_824 c4_i32_822
  let v1558 : BitVec 32 := Scalar.remsi v1536 v1557
  let c0_i32_826 : BitVec 32 := 0#32
  let v1560 : BitVec 1 := Scalar.cmpi .slt v1558 c0_i32_826
  let c0_i32_827 : BitVec 32 := 0#32
  let v1561 : BitVec 1 := Scalar.cmpi .slt v1557 c0_i32_827
  let v1562 : BitVec 1 := Scalar.xori v1560 v1561
  let c0_i32_825 : BitVec 32 := 0#32
  let v1559 : BitVec 1 := Scalar.cmpi .ne v1558 c0_i32_825
  let v1563 : BitVec 1 := Scalar.andi v1562 v1559
  let v1564 : BitVec 32 := Scalar.addi v1558 v1557
  let v1565 : BitVec 32 := Scalar.select v1563 v1564 v1558
  let v1566 : BitVec 32 := Scalar.muli c8_i32_828 v1565
  let c2_i32_829 : BitVec 32 := 2#32
  let c0_i32_816 : BitVec 32 := 0#32
  let v1540 : BitVec 1 := Scalar.cmpi .sgt v1536 c0_i32_816
  let v1541 : BitVec 32 := Scalar.extui v1540
  let c0_i32_817 : BitVec 32 := 0#32
  let v1542 : BitVec 1 := Scalar.cmpi .slt v1536 c0_i32_817
  let v1543 : BitVec 32 := Scalar.extui v1542
  let v1544 : BitVec 32 := Scalar.subi v1541 v1543
  let c4_i32_815 : BitVec 32 := 4#32
  let c0_i32_818 : BitVec 32 := 0#32
  let v1545 : BitVec 1 := Scalar.cmpi .sgt c4_i32_815 c0_i32_818
  let v1546 : BitVec 32 := Scalar.extui v1545
  let c0_i32_819 : BitVec 32 := 0#32
  let v1547 : BitVec 1 := Scalar.cmpi .slt c4_i32_815 c0_i32_819
  let v1548 : BitVec 32 := Scalar.extui v1547
  let v1549 : BitVec 32 := Scalar.subi v1546 v1548
  let v1550 : BitVec 1 := Scalar.cmpi .ne v1544 v1549
  let v1551 : BitVec 32 := Scalar.remsi v1536 c4_i32_815
  let c0_i32_820 : BitVec 32 := 0#32
  let v1552 : BitVec 1 := Scalar.cmpi .ne v1551 c0_i32_820
  let v1553 : BitVec 1 := Scalar.andi v1550 v1552
  let v1539 : BitVec 32 := Scalar.divsi v1536 c4_i32_815
  let c1_i32_821 : BitVec 32 := 1#32
  let v1554 : BitVec 32 := Scalar.subi v1539 c1_i32_821
  let v1555 : BitVec 32 := Scalar.select v1553 v1554 v1539
  let v1567 : BitVec 32 := Scalar.muli c2_i32_829 v1555
  let v1568 : BitVec 32 := Scalar.addi v1566 v1567
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_830 : BitVec 32 := 2#32
  let c0_i32_831 : BitVec 32 := 0#32
  let v1569 : BitVec 1 := Scalar.cmpi .eq c2_i32_830 c0_i32_831
  let c1_i32_832 : BitVec 32 := 1#32
  let v1570 : BitVec 32 := Scalar.select v1569 c1_i32_832 c2_i32_830
  let v1571 : BitVec 32 := Scalar.remsi v1555 v1570
  let c0_i32_834 : BitVec 32 := 0#32
  let v1573 : BitVec 1 := Scalar.cmpi .slt v1571 c0_i32_834
  let c0_i32_835 : BitVec 32 := 0#32
  let v1574 : BitVec 1 := Scalar.cmpi .slt v1570 c0_i32_835
  let v1575 : BitVec 1 := Scalar.xori v1573 v1574
  let c0_i32_833 : BitVec 32 := 0#32
  let v1572 : BitVec 1 := Scalar.cmpi .ne v1571 c0_i32_833
  let v1576 : BitVec 1 := Scalar.andi v1575 v1572
  let v1577 : BitVec 32 := Scalar.addi v1571 v1570
  let v1578 : BitVec 32 := Scalar.select v1576 v1577 v1571
  let v1579 : BitVec 32 := Scalar.xori v67 v1578
  let v1580 : BitVec 32 := Scalar.addi v1568 v1579
  let c1_i32_2590 : BitVec 32 := 1#32
  let v4061 : BitVec 32 := Scalar.muli v1580 c1_i32_2590
  let v4062 : BitVec 32 := Scalar.addi c0_i32_2591 v4061
  v4062.toNat
def k0_cond11 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c11_i32_1102 : BitVec 32 := 11#32
  let v2010 : BitVec 32 := Scalar.subi v69 c11_i32_1102
  let c16_i32_1103 : BitVec 32 := 16#32
  let c0_i32_1104 : BitVec 32 := 0#32
  let v2011 : BitVec 1 := Scalar.cmpi .eq c16_i32_1103 c0_i32_1104
  let c1_i32_1105 : BitVec 32 := 1#32
  let v2012 : BitVec 32 := Scalar.select v2011 c1_i32_1105 c16_i32_1103
  let v2013 : BitVec 32 := Scalar.remsi v2010 v2012
  let c0_i32_1107 : BitVec 32 := 0#32
  let v2015 : BitVec 1 := Scalar.cmpi .slt v2013 c0_i32_1107
  let c0_i32_1108 : BitVec 32 := 0#32
  let v2016 : BitVec 1 := Scalar.cmpi .slt v2012 c0_i32_1108
  let v2017 : BitVec 1 := Scalar.xori v2015 v2016
  let c0_i32_1106 : BitVec 32 := 0#32
  let v2014 : BitVec 1 := Scalar.cmpi .ne v2013 c0_i32_1106
  let v2018 : BitVec 1 := Scalar.andi v2017 v2014
  let v2019 : BitVec 32 := Scalar.addi v2013 v2012
  let v2020 : BitVec 32 := Scalar.select v2018 v2019 v2013
  let c8_i32_1109 : BitVec 32 := 8#32
  let v2021 : BitVec 1 := Scalar.cmpi .slt v2020 c8_i32_1109
  let v2022 : BitVec 32 := Scalar.extui v2021
  let c0_i32_1112 : BitVec 32 := 0#32
  let v2023 : BitVec 1 := Scalar.cmpi .ne v2022 c0_i32_1112
  v2023

def k0_off23 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_843 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c11_i32_836 : BitVec 32 := 11#32
  let v1581 : BitVec 32 := Scalar.subi v69 c11_i32_836
  let c16_i32_837 : BitVec 32 := 16#32
  let c0_i32_838 : BitVec 32 := 0#32
  let v1582 : BitVec 1 := Scalar.cmpi .eq c16_i32_837 c0_i32_838
  let c1_i32_839 : BitVec 32 := 1#32
  let v1583 : BitVec 32 := Scalar.select v1582 c1_i32_839 c16_i32_837
  let v1584 : BitVec 32 := Scalar.remsi v1581 v1583
  let c0_i32_841 : BitVec 32 := 0#32
  let v1586 : BitVec 1 := Scalar.cmpi .slt v1584 c0_i32_841
  let c0_i32_842 : BitVec 32 := 0#32
  let v1587 : BitVec 1 := Scalar.cmpi .slt v1583 c0_i32_842
  let v1588 : BitVec 1 := Scalar.xori v1586 v1587
  let c0_i32_840 : BitVec 32 := 0#32
  let v1585 : BitVec 1 := Scalar.cmpi .ne v1584 c0_i32_840
  let v1589 : BitVec 1 := Scalar.andi v1588 v1585
  let v1590 : BitVec 32 := Scalar.addi v1584 v1583
  let v1591 : BitVec 32 := Scalar.select v1589 v1590 v1584
  let v1592 : BitVec 32 := Scalar.muli c16_i32_843 v1591
  let v1593 : BitVec 32 := Scalar.addi v915 v1592
  let c0_i32_2594 : BitVec 32 := 0#32
  ![v1593.toNat, 0]
def k0_dev29 (d0 : Dev nD) : Nat :=
  let c0_i32_2591 : BitVec 32 := 0#32
  let c8_i32_857 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c11_i32_836 : BitVec 32 := 11#32
  let v1581 : BitVec 32 := Scalar.subi v69 c11_i32_836
  let c16_i32_837 : BitVec 32 := 16#32
  let c0_i32_838 : BitVec 32 := 0#32
  let v1582 : BitVec 1 := Scalar.cmpi .eq c16_i32_837 c0_i32_838
  let c1_i32_839 : BitVec 32 := 1#32
  let v1583 : BitVec 32 := Scalar.select v1582 c1_i32_839 c16_i32_837
  let v1584 : BitVec 32 := Scalar.remsi v1581 v1583
  let c0_i32_841 : BitVec 32 := 0#32
  let v1586 : BitVec 1 := Scalar.cmpi .slt v1584 c0_i32_841
  let c0_i32_842 : BitVec 32 := 0#32
  let v1587 : BitVec 1 := Scalar.cmpi .slt v1583 c0_i32_842
  let v1588 : BitVec 1 := Scalar.xori v1586 v1587
  let c0_i32_840 : BitVec 32 := 0#32
  let v1585 : BitVec 1 := Scalar.cmpi .ne v1584 c0_i32_840
  let v1589 : BitVec 1 := Scalar.andi v1588 v1585
  let v1590 : BitVec 32 := Scalar.addi v1584 v1583
  let v1591 : BitVec 32 := Scalar.select v1589 v1590 v1584
  let c4_i32_851 : BitVec 32 := 4#32
  let c0_i32_852 : BitVec 32 := 0#32
  let v1611 : BitVec 1 := Scalar.cmpi .eq c4_i32_851 c0_i32_852
  let c1_i32_853 : BitVec 32 := 1#32
  let v1612 : BitVec 32 := Scalar.select v1611 c1_i32_853 c4_i32_851
  let v1613 : BitVec 32 := Scalar.remsi v1591 v1612
  let c0_i32_855 : BitVec 32 := 0#32
  let v1615 : BitVec 1 := Scalar.cmpi .slt v1613 c0_i32_855
  let c0_i32_856 : BitVec 32 := 0#32
  let v1616 : BitVec 1 := Scalar.cmpi .slt v1612 c0_i32_856
  let v1617 : BitVec 1 := Scalar.xori v1615 v1616
  let c0_i32_854 : BitVec 32 := 0#32
  let v1614 : BitVec 1 := Scalar.cmpi .ne v1613 c0_i32_854
  let v1618 : BitVec 1 := Scalar.andi v1617 v1614
  let v1619 : BitVec 32 := Scalar.addi v1613 v1612
  let v1620 : BitVec 32 := Scalar.select v1618 v1619 v1613
  let v1621 : BitVec 32 := Scalar.muli c8_i32_857 v1620
  let c2_i32_858 : BitVec 32 := 2#32
  let c0_i32_845 : BitVec 32 := 0#32
  let v1595 : BitVec 1 := Scalar.cmpi .sgt v1591 c0_i32_845
  let v1596 : BitVec 32 := Scalar.extui v1595
  let c0_i32_846 : BitVec 32 := 0#32
  let v1597 : BitVec 1 := Scalar.cmpi .slt v1591 c0_i32_846
  let v1598 : BitVec 32 := Scalar.extui v1597
  let v1599 : BitVec 32 := Scalar.subi v1596 v1598
  let c4_i32_844 : BitVec 32 := 4#32
  let c0_i32_847 : BitVec 32 := 0#32
  let v1600 : BitVec 1 := Scalar.cmpi .sgt c4_i32_844 c0_i32_847
  let v1601 : BitVec 32 := Scalar.extui v1600
  let c0_i32_848 : BitVec 32 := 0#32
  let v1602 : BitVec 1 := Scalar.cmpi .slt c4_i32_844 c0_i32_848
  let v1603 : BitVec 32 := Scalar.extui v1602
  let v1604 : BitVec 32 := Scalar.subi v1601 v1603
  let v1605 : BitVec 1 := Scalar.cmpi .ne v1599 v1604
  let v1606 : BitVec 32 := Scalar.remsi v1591 c4_i32_844
  let c0_i32_849 : BitVec 32 := 0#32
  let v1607 : BitVec 1 := Scalar.cmpi .ne v1606 c0_i32_849
  let v1608 : BitVec 1 := Scalar.andi v1605 v1607
  let v1594 : BitVec 32 := Scalar.divsi v1591 c4_i32_844
  let c1_i32_850 : BitVec 32 := 1#32
  let v1609 : BitVec 32 := Scalar.subi v1594 c1_i32_850
  let v1610 : BitVec 32 := Scalar.select v1608 v1609 v1594
  let v1622 : BitVec 32 := Scalar.muli c2_i32_858 v1610
  let v1623 : BitVec 32 := Scalar.addi v1621 v1622
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_859 : BitVec 32 := 2#32
  let c0_i32_860 : BitVec 32 := 0#32
  let v1624 : BitVec 1 := Scalar.cmpi .eq c2_i32_859 c0_i32_860
  let c1_i32_861 : BitVec 32 := 1#32
  let v1625 : BitVec 32 := Scalar.select v1624 c1_i32_861 c2_i32_859
  let v1626 : BitVec 32 := Scalar.remsi v1610 v1625
  let c0_i32_863 : BitVec 32 := 0#32
  let v1628 : BitVec 1 := Scalar.cmpi .slt v1626 c0_i32_863
  let c0_i32_864 : BitVec 32 := 0#32
  let v1629 : BitVec 1 := Scalar.cmpi .slt v1625 c0_i32_864
  let v1630 : BitVec 1 := Scalar.xori v1628 v1629
  let c0_i32_862 : BitVec 32 := 0#32
  let v1627 : BitVec 1 := Scalar.cmpi .ne v1626 c0_i32_862
  let v1631 : BitVec 1 := Scalar.andi v1630 v1627
  let v1632 : BitVec 32 := Scalar.addi v1626 v1625
  let v1633 : BitVec 32 := Scalar.select v1631 v1632 v1626
  let v1634 : BitVec 32 := Scalar.xori v67 v1633
  let v1635 : BitVec 32 := Scalar.addi v1623 v1634
  let c1_i32_2590 : BitVec 32 := 1#32
  let v4061 : BitVec 32 := Scalar.muli v1635 c1_i32_2590
  let v4062 : BitVec 32 := Scalar.addi c0_i32_2591 v4061
  v4062.toNat
def k0_cond12 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c12_i32_1113 : BitVec 32 := 12#32
  let v2024 : BitVec 32 := Scalar.subi v69 c12_i32_1113
  let c16_i32_1114 : BitVec 32 := 16#32
  let c0_i32_1115 : BitVec 32 := 0#32
  let v2025 : BitVec 1 := Scalar.cmpi .eq c16_i32_1114 c0_i32_1115
  let c1_i32_1116 : BitVec 32 := 1#32
  let v2026 : BitVec 32 := Scalar.select v2025 c1_i32_1116 c16_i32_1114
  let v2027 : BitVec 32 := Scalar.remsi v2024 v2026
  let c0_i32_1118 : BitVec 32 := 0#32
  let v2029 : BitVec 1 := Scalar.cmpi .slt v2027 c0_i32_1118
  let c0_i32_1119 : BitVec 32 := 0#32
  let v2030 : BitVec 1 := Scalar.cmpi .slt v2026 c0_i32_1119
  let v2031 : BitVec 1 := Scalar.xori v2029 v2030
  let c0_i32_1117 : BitVec 32 := 0#32
  let v2028 : BitVec 1 := Scalar.cmpi .ne v2027 c0_i32_1117
  let v2032 : BitVec 1 := Scalar.andi v2031 v2028
  let v2033 : BitVec 32 := Scalar.addi v2027 v2026
  let v2034 : BitVec 32 := Scalar.select v2032 v2033 v2027
  let c8_i32_1120 : BitVec 32 := 8#32
  let v2035 : BitVec 1 := Scalar.cmpi .slt v2034 c8_i32_1120
  let v2036 : BitVec 32 := Scalar.extui v2035
  let c0_i32_1123 : BitVec 32 := 0#32
  let v2037 : BitVec 1 := Scalar.cmpi .ne v2036 c0_i32_1123
  v2037

def k0_off24 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_872 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c12_i32_865 : BitVec 32 := 12#32
  let v1636 : BitVec 32 := Scalar.subi v69 c12_i32_865
  let c16_i32_866 : BitVec 32 := 16#32
  let c0_i32_867 : BitVec 32 := 0#32
  let v1637 : BitVec 1 := Scalar.cmpi .eq c16_i32_866 c0_i32_867
  let c1_i32_868 : BitVec 32 := 1#32
  let v1638 : BitVec 32 := Scalar.select v1637 c1_i32_868 c16_i32_866
  let v1639 : BitVec 32 := Scalar.remsi v1636 v1638
  let c0_i32_870 : BitVec 32 := 0#32
  let v1641 : BitVec 1 := Scalar.cmpi .slt v1639 c0_i32_870
  let c0_i32_871 : BitVec 32 := 0#32
  let v1642 : BitVec 1 := Scalar.cmpi .slt v1638 c0_i32_871
  let v1643 : BitVec 1 := Scalar.xori v1641 v1642
  let c0_i32_869 : BitVec 32 := 0#32
  let v1640 : BitVec 1 := Scalar.cmpi .ne v1639 c0_i32_869
  let v1644 : BitVec 1 := Scalar.andi v1643 v1640
  let v1645 : BitVec 32 := Scalar.addi v1639 v1638
  let v1646 : BitVec 32 := Scalar.select v1644 v1645 v1639
  let v1647 : BitVec 32 := Scalar.muli c16_i32_872 v1646
  let v1648 : BitVec 32 := Scalar.addi v915 v1647
  let c0_i32_2594 : BitVec 32 := 0#32
  ![v1648.toNat, 0]
def k0_dev30 (d0 : Dev nD) : Nat :=
  let c0_i32_2591 : BitVec 32 := 0#32
  let c8_i32_886 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c12_i32_865 : BitVec 32 := 12#32
  let v1636 : BitVec 32 := Scalar.subi v69 c12_i32_865
  let c16_i32_866 : BitVec 32 := 16#32
  let c0_i32_867 : BitVec 32 := 0#32
  let v1637 : BitVec 1 := Scalar.cmpi .eq c16_i32_866 c0_i32_867
  let c1_i32_868 : BitVec 32 := 1#32
  let v1638 : BitVec 32 := Scalar.select v1637 c1_i32_868 c16_i32_866
  let v1639 : BitVec 32 := Scalar.remsi v1636 v1638
  let c0_i32_870 : BitVec 32 := 0#32
  let v1641 : BitVec 1 := Scalar.cmpi .slt v1639 c0_i32_870
  let c0_i32_871 : BitVec 32 := 0#32
  let v1642 : BitVec 1 := Scalar.cmpi .slt v1638 c0_i32_871
  let v1643 : BitVec 1 := Scalar.xori v1641 v1642
  let c0_i32_869 : BitVec 32 := 0#32
  let v1640 : BitVec 1 := Scalar.cmpi .ne v1639 c0_i32_869
  let v1644 : BitVec 1 := Scalar.andi v1643 v1640
  let v1645 : BitVec 32 := Scalar.addi v1639 v1638
  let v1646 : BitVec 32 := Scalar.select v1644 v1645 v1639
  let c4_i32_880 : BitVec 32 := 4#32
  let c0_i32_881 : BitVec 32 := 0#32
  let v1666 : BitVec 1 := Scalar.cmpi .eq c4_i32_880 c0_i32_881
  let c1_i32_882 : BitVec 32 := 1#32
  let v1667 : BitVec 32 := Scalar.select v1666 c1_i32_882 c4_i32_880
  let v1668 : BitVec 32 := Scalar.remsi v1646 v1667
  let c0_i32_884 : BitVec 32 := 0#32
  let v1670 : BitVec 1 := Scalar.cmpi .slt v1668 c0_i32_884
  let c0_i32_885 : BitVec 32 := 0#32
  let v1671 : BitVec 1 := Scalar.cmpi .slt v1667 c0_i32_885
  let v1672 : BitVec 1 := Scalar.xori v1670 v1671
  let c0_i32_883 : BitVec 32 := 0#32
  let v1669 : BitVec 1 := Scalar.cmpi .ne v1668 c0_i32_883
  let v1673 : BitVec 1 := Scalar.andi v1672 v1669
  let v1674 : BitVec 32 := Scalar.addi v1668 v1667
  let v1675 : BitVec 32 := Scalar.select v1673 v1674 v1668
  let v1676 : BitVec 32 := Scalar.muli c8_i32_886 v1675
  let c2_i32_887 : BitVec 32 := 2#32
  let c0_i32_874 : BitVec 32 := 0#32
  let v1650 : BitVec 1 := Scalar.cmpi .sgt v1646 c0_i32_874
  let v1651 : BitVec 32 := Scalar.extui v1650
  let c0_i32_875 : BitVec 32 := 0#32
  let v1652 : BitVec 1 := Scalar.cmpi .slt v1646 c0_i32_875
  let v1653 : BitVec 32 := Scalar.extui v1652
  let v1654 : BitVec 32 := Scalar.subi v1651 v1653
  let c4_i32_873 : BitVec 32 := 4#32
  let c0_i32_876 : BitVec 32 := 0#32
  let v1655 : BitVec 1 := Scalar.cmpi .sgt c4_i32_873 c0_i32_876
  let v1656 : BitVec 32 := Scalar.extui v1655
  let c0_i32_877 : BitVec 32 := 0#32
  let v1657 : BitVec 1 := Scalar.cmpi .slt c4_i32_873 c0_i32_877
  let v1658 : BitVec 32 := Scalar.extui v1657
  let v1659 : BitVec 32 := Scalar.subi v1656 v1658
  let v1660 : BitVec 1 := Scalar.cmpi .ne v1654 v1659
  let v1661 : BitVec 32 := Scalar.remsi v1646 c4_i32_873
  let c0_i32_878 : BitVec 32 := 0#32
  let v1662 : BitVec 1 := Scalar.cmpi .ne v1661 c0_i32_878
  let v1663 : BitVec 1 := Scalar.andi v1660 v1662
  let v1649 : BitVec 32 := Scalar.divsi v1646 c4_i32_873
  let c1_i32_879 : BitVec 32 := 1#32
  let v1664 : BitVec 32 := Scalar.subi v1649 c1_i32_879
  let v1665 : BitVec 32 := Scalar.select v1663 v1664 v1649
  let v1677 : BitVec 32 := Scalar.muli c2_i32_887 v1665
  let v1678 : BitVec 32 := Scalar.addi v1676 v1677
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_888 : BitVec 32 := 2#32
  let c0_i32_889 : BitVec 32 := 0#32
  let v1679 : BitVec 1 := Scalar.cmpi .eq c2_i32_888 c0_i32_889
  let c1_i32_890 : BitVec 32 := 1#32
  let v1680 : BitVec 32 := Scalar.select v1679 c1_i32_890 c2_i32_888
  let v1681 : BitVec 32 := Scalar.remsi v1665 v1680
  let c0_i32_892 : BitVec 32 := 0#32
  let v1683 : BitVec 1 := Scalar.cmpi .slt v1681 c0_i32_892
  let c0_i32_893 : BitVec 32 := 0#32
  let v1684 : BitVec 1 := Scalar.cmpi .slt v1680 c0_i32_893
  let v1685 : BitVec 1 := Scalar.xori v1683 v1684
  let c0_i32_891 : BitVec 32 := 0#32
  let v1682 : BitVec 1 := Scalar.cmpi .ne v1681 c0_i32_891
  let v1686 : BitVec 1 := Scalar.andi v1685 v1682
  let v1687 : BitVec 32 := Scalar.addi v1681 v1680
  let v1688 : BitVec 32 := Scalar.select v1686 v1687 v1681
  let v1689 : BitVec 32 := Scalar.xori v67 v1688
  let v1690 : BitVec 32 := Scalar.addi v1678 v1689
  let c1_i32_2590 : BitVec 32 := 1#32
  let v4061 : BitVec 32 := Scalar.muli v1690 c1_i32_2590
  let v4062 : BitVec 32 := Scalar.addi c0_i32_2591 v4061
  v4062.toNat
def k0_cond13 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c13_i32_1124 : BitVec 32 := 13#32
  let v2038 : BitVec 32 := Scalar.subi v69 c13_i32_1124
  let c16_i32_1125 : BitVec 32 := 16#32
  let c0_i32_1126 : BitVec 32 := 0#32
  let v2039 : BitVec 1 := Scalar.cmpi .eq c16_i32_1125 c0_i32_1126
  let c1_i32_1127 : BitVec 32 := 1#32
  let v2040 : BitVec 32 := Scalar.select v2039 c1_i32_1127 c16_i32_1125
  let v2041 : BitVec 32 := Scalar.remsi v2038 v2040
  let c0_i32_1129 : BitVec 32 := 0#32
  let v2043 : BitVec 1 := Scalar.cmpi .slt v2041 c0_i32_1129
  let c0_i32_1130 : BitVec 32 := 0#32
  let v2044 : BitVec 1 := Scalar.cmpi .slt v2040 c0_i32_1130
  let v2045 : BitVec 1 := Scalar.xori v2043 v2044
  let c0_i32_1128 : BitVec 32 := 0#32
  let v2042 : BitVec 1 := Scalar.cmpi .ne v2041 c0_i32_1128
  let v2046 : BitVec 1 := Scalar.andi v2045 v2042
  let v2047 : BitVec 32 := Scalar.addi v2041 v2040
  let v2048 : BitVec 32 := Scalar.select v2046 v2047 v2041
  let c8_i32_1131 : BitVec 32 := 8#32
  let v2049 : BitVec 1 := Scalar.cmpi .slt v2048 c8_i32_1131
  let v2050 : BitVec 32 := Scalar.extui v2049
  let c0_i32_1134 : BitVec 32 := 0#32
  let v2051 : BitVec 1 := Scalar.cmpi .ne v2050 c0_i32_1134
  v2051

def k0_off25 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_901 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c13_i32_894 : BitVec 32 := 13#32
  let v1691 : BitVec 32 := Scalar.subi v69 c13_i32_894
  let c16_i32_895 : BitVec 32 := 16#32
  let c0_i32_896 : BitVec 32 := 0#32
  let v1692 : BitVec 1 := Scalar.cmpi .eq c16_i32_895 c0_i32_896
  let c1_i32_897 : BitVec 32 := 1#32
  let v1693 : BitVec 32 := Scalar.select v1692 c1_i32_897 c16_i32_895
  let v1694 : BitVec 32 := Scalar.remsi v1691 v1693
  let c0_i32_899 : BitVec 32 := 0#32
  let v1696 : BitVec 1 := Scalar.cmpi .slt v1694 c0_i32_899
  let c0_i32_900 : BitVec 32 := 0#32
  let v1697 : BitVec 1 := Scalar.cmpi .slt v1693 c0_i32_900
  let v1698 : BitVec 1 := Scalar.xori v1696 v1697
  let c0_i32_898 : BitVec 32 := 0#32
  let v1695 : BitVec 1 := Scalar.cmpi .ne v1694 c0_i32_898
  let v1699 : BitVec 1 := Scalar.andi v1698 v1695
  let v1700 : BitVec 32 := Scalar.addi v1694 v1693
  let v1701 : BitVec 32 := Scalar.select v1699 v1700 v1694
  let v1702 : BitVec 32 := Scalar.muli c16_i32_901 v1701
  let v1703 : BitVec 32 := Scalar.addi v915 v1702
  let c0_i32_2594 : BitVec 32 := 0#32
  ![v1703.toNat, 0]
def k0_dev31 (d0 : Dev nD) : Nat :=
  let c0_i32_2591 : BitVec 32 := 0#32
  let c8_i32_915 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c13_i32_894 : BitVec 32 := 13#32
  let v1691 : BitVec 32 := Scalar.subi v69 c13_i32_894
  let c16_i32_895 : BitVec 32 := 16#32
  let c0_i32_896 : BitVec 32 := 0#32
  let v1692 : BitVec 1 := Scalar.cmpi .eq c16_i32_895 c0_i32_896
  let c1_i32_897 : BitVec 32 := 1#32
  let v1693 : BitVec 32 := Scalar.select v1692 c1_i32_897 c16_i32_895
  let v1694 : BitVec 32 := Scalar.remsi v1691 v1693
  let c0_i32_899 : BitVec 32 := 0#32
  let v1696 : BitVec 1 := Scalar.cmpi .slt v1694 c0_i32_899
  let c0_i32_900 : BitVec 32 := 0#32
  let v1697 : BitVec 1 := Scalar.cmpi .slt v1693 c0_i32_900
  let v1698 : BitVec 1 := Scalar.xori v1696 v1697
  let c0_i32_898 : BitVec 32 := 0#32
  let v1695 : BitVec 1 := Scalar.cmpi .ne v1694 c0_i32_898
  let v1699 : BitVec 1 := Scalar.andi v1698 v1695
  let v1700 : BitVec 32 := Scalar.addi v1694 v1693
  let v1701 : BitVec 32 := Scalar.select v1699 v1700 v1694
  let c4_i32_909 : BitVec 32 := 4#32
  let c0_i32_910 : BitVec 32 := 0#32
  let v1721 : BitVec 1 := Scalar.cmpi .eq c4_i32_909 c0_i32_910
  let c1_i32_911 : BitVec 32 := 1#32
  let v1722 : BitVec 32 := Scalar.select v1721 c1_i32_911 c4_i32_909
  let v1723 : BitVec 32 := Scalar.remsi v1701 v1722
  let c0_i32_913 : BitVec 32 := 0#32
  let v1725 : BitVec 1 := Scalar.cmpi .slt v1723 c0_i32_913
  let c0_i32_914 : BitVec 32 := 0#32
  let v1726 : BitVec 1 := Scalar.cmpi .slt v1722 c0_i32_914
  let v1727 : BitVec 1 := Scalar.xori v1725 v1726
  let c0_i32_912 : BitVec 32 := 0#32
  let v1724 : BitVec 1 := Scalar.cmpi .ne v1723 c0_i32_912
  let v1728 : BitVec 1 := Scalar.andi v1727 v1724
  let v1729 : BitVec 32 := Scalar.addi v1723 v1722
  let v1730 : BitVec 32 := Scalar.select v1728 v1729 v1723
  let v1731 : BitVec 32 := Scalar.muli c8_i32_915 v1730
  let c2_i32_916 : BitVec 32 := 2#32
  let c0_i32_903 : BitVec 32 := 0#32
  let v1705 : BitVec 1 := Scalar.cmpi .sgt v1701 c0_i32_903
  let v1706 : BitVec 32 := Scalar.extui v1705
  let c0_i32_904 : BitVec 32 := 0#32
  let v1707 : BitVec 1 := Scalar.cmpi .slt v1701 c0_i32_904
  let v1708 : BitVec 32 := Scalar.extui v1707
  let v1709 : BitVec 32 := Scalar.subi v1706 v1708
  let c4_i32_902 : BitVec 32 := 4#32
  let c0_i32_905 : BitVec 32 := 0#32
  let v1710 : BitVec 1 := Scalar.cmpi .sgt c4_i32_902 c0_i32_905
  let v1711 : BitVec 32 := Scalar.extui v1710
  let c0_i32_906 : BitVec 32 := 0#32
  let v1712 : BitVec 1 := Scalar.cmpi .slt c4_i32_902 c0_i32_906
  let v1713 : BitVec 32 := Scalar.extui v1712
  let v1714 : BitVec 32 := Scalar.subi v1711 v1713
  let v1715 : BitVec 1 := Scalar.cmpi .ne v1709 v1714
  let v1716 : BitVec 32 := Scalar.remsi v1701 c4_i32_902
  let c0_i32_907 : BitVec 32 := 0#32
  let v1717 : BitVec 1 := Scalar.cmpi .ne v1716 c0_i32_907
  let v1718 : BitVec 1 := Scalar.andi v1715 v1717
  let v1704 : BitVec 32 := Scalar.divsi v1701 c4_i32_902
  let c1_i32_908 : BitVec 32 := 1#32
  let v1719 : BitVec 32 := Scalar.subi v1704 c1_i32_908
  let v1720 : BitVec 32 := Scalar.select v1718 v1719 v1704
  let v1732 : BitVec 32 := Scalar.muli c2_i32_916 v1720
  let v1733 : BitVec 32 := Scalar.addi v1731 v1732
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_917 : BitVec 32 := 2#32
  let c0_i32_918 : BitVec 32 := 0#32
  let v1734 : BitVec 1 := Scalar.cmpi .eq c2_i32_917 c0_i32_918
  let c1_i32_919 : BitVec 32 := 1#32
  let v1735 : BitVec 32 := Scalar.select v1734 c1_i32_919 c2_i32_917
  let v1736 : BitVec 32 := Scalar.remsi v1720 v1735
  let c0_i32_921 : BitVec 32 := 0#32
  let v1738 : BitVec 1 := Scalar.cmpi .slt v1736 c0_i32_921
  let c0_i32_922 : BitVec 32 := 0#32
  let v1739 : BitVec 1 := Scalar.cmpi .slt v1735 c0_i32_922
  let v1740 : BitVec 1 := Scalar.xori v1738 v1739
  let c0_i32_920 : BitVec 32 := 0#32
  let v1737 : BitVec 1 := Scalar.cmpi .ne v1736 c0_i32_920
  let v1741 : BitVec 1 := Scalar.andi v1740 v1737
  let v1742 : BitVec 32 := Scalar.addi v1736 v1735
  let v1743 : BitVec 32 := Scalar.select v1741 v1742 v1736
  let v1744 : BitVec 32 := Scalar.xori v67 v1743
  let v1745 : BitVec 32 := Scalar.addi v1733 v1744
  let c1_i32_2590 : BitVec 32 := 1#32
  let v4061 : BitVec 32 := Scalar.muli v1745 c1_i32_2590
  let v4062 : BitVec 32 := Scalar.addi c0_i32_2591 v4061
  v4062.toNat
def k0_cond14 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c14_i32_1135 : BitVec 32 := 14#32
  let v2052 : BitVec 32 := Scalar.subi v69 c14_i32_1135
  let c16_i32_1136 : BitVec 32 := 16#32
  let c0_i32_1137 : BitVec 32 := 0#32
  let v2053 : BitVec 1 := Scalar.cmpi .eq c16_i32_1136 c0_i32_1137
  let c1_i32_1138 : BitVec 32 := 1#32
  let v2054 : BitVec 32 := Scalar.select v2053 c1_i32_1138 c16_i32_1136
  let v2055 : BitVec 32 := Scalar.remsi v2052 v2054
  let c0_i32_1140 : BitVec 32 := 0#32
  let v2057 : BitVec 1 := Scalar.cmpi .slt v2055 c0_i32_1140
  let c0_i32_1141 : BitVec 32 := 0#32
  let v2058 : BitVec 1 := Scalar.cmpi .slt v2054 c0_i32_1141
  let v2059 : BitVec 1 := Scalar.xori v2057 v2058
  let c0_i32_1139 : BitVec 32 := 0#32
  let v2056 : BitVec 1 := Scalar.cmpi .ne v2055 c0_i32_1139
  let v2060 : BitVec 1 := Scalar.andi v2059 v2056
  let v2061 : BitVec 32 := Scalar.addi v2055 v2054
  let v2062 : BitVec 32 := Scalar.select v2060 v2061 v2055
  let c8_i32_1142 : BitVec 32 := 8#32
  let v2063 : BitVec 1 := Scalar.cmpi .slt v2062 c8_i32_1142
  let v2064 : BitVec 32 := Scalar.extui v2063
  let c0_i32_1145 : BitVec 32 := 0#32
  let v2065 : BitVec 1 := Scalar.cmpi .ne v2064 c0_i32_1145
  v2065

def k0_off26 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_930 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c14_i32_923 : BitVec 32 := 14#32
  let v1746 : BitVec 32 := Scalar.subi v69 c14_i32_923
  let c16_i32_924 : BitVec 32 := 16#32
  let c0_i32_925 : BitVec 32 := 0#32
  let v1747 : BitVec 1 := Scalar.cmpi .eq c16_i32_924 c0_i32_925
  let c1_i32_926 : BitVec 32 := 1#32
  let v1748 : BitVec 32 := Scalar.select v1747 c1_i32_926 c16_i32_924
  let v1749 : BitVec 32 := Scalar.remsi v1746 v1748
  let c0_i32_928 : BitVec 32 := 0#32
  let v1751 : BitVec 1 := Scalar.cmpi .slt v1749 c0_i32_928
  let c0_i32_929 : BitVec 32 := 0#32
  let v1752 : BitVec 1 := Scalar.cmpi .slt v1748 c0_i32_929
  let v1753 : BitVec 1 := Scalar.xori v1751 v1752
  let c0_i32_927 : BitVec 32 := 0#32
  let v1750 : BitVec 1 := Scalar.cmpi .ne v1749 c0_i32_927
  let v1754 : BitVec 1 := Scalar.andi v1753 v1750
  let v1755 : BitVec 32 := Scalar.addi v1749 v1748
  let v1756 : BitVec 32 := Scalar.select v1754 v1755 v1749
  let v1757 : BitVec 32 := Scalar.muli c16_i32_930 v1756
  let v1758 : BitVec 32 := Scalar.addi v915 v1757
  let c0_i32_2594 : BitVec 32 := 0#32
  ![v1758.toNat, 0]
def k0_dev32 (d0 : Dev nD) : Nat :=
  let c0_i32_2591 : BitVec 32 := 0#32
  let c8_i32_944 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c14_i32_923 : BitVec 32 := 14#32
  let v1746 : BitVec 32 := Scalar.subi v69 c14_i32_923
  let c16_i32_924 : BitVec 32 := 16#32
  let c0_i32_925 : BitVec 32 := 0#32
  let v1747 : BitVec 1 := Scalar.cmpi .eq c16_i32_924 c0_i32_925
  let c1_i32_926 : BitVec 32 := 1#32
  let v1748 : BitVec 32 := Scalar.select v1747 c1_i32_926 c16_i32_924
  let v1749 : BitVec 32 := Scalar.remsi v1746 v1748
  let c0_i32_928 : BitVec 32 := 0#32
  let v1751 : BitVec 1 := Scalar.cmpi .slt v1749 c0_i32_928
  let c0_i32_929 : BitVec 32 := 0#32
  let v1752 : BitVec 1 := Scalar.cmpi .slt v1748 c0_i32_929
  let v1753 : BitVec 1 := Scalar.xori v1751 v1752
  let c0_i32_927 : BitVec 32 := 0#32
  let v1750 : BitVec 1 := Scalar.cmpi .ne v1749 c0_i32_927
  let v1754 : BitVec 1 := Scalar.andi v1753 v1750
  let v1755 : BitVec 32 := Scalar.addi v1749 v1748
  let v1756 : BitVec 32 := Scalar.select v1754 v1755 v1749
  let c4_i32_938 : BitVec 32 := 4#32
  let c0_i32_939 : BitVec 32 := 0#32
  let v1776 : BitVec 1 := Scalar.cmpi .eq c4_i32_938 c0_i32_939
  let c1_i32_940 : BitVec 32 := 1#32
  let v1777 : BitVec 32 := Scalar.select v1776 c1_i32_940 c4_i32_938
  let v1778 : BitVec 32 := Scalar.remsi v1756 v1777
  let c0_i32_942 : BitVec 32 := 0#32
  let v1780 : BitVec 1 := Scalar.cmpi .slt v1778 c0_i32_942
  let c0_i32_943 : BitVec 32 := 0#32
  let v1781 : BitVec 1 := Scalar.cmpi .slt v1777 c0_i32_943
  let v1782 : BitVec 1 := Scalar.xori v1780 v1781
  let c0_i32_941 : BitVec 32 := 0#32
  let v1779 : BitVec 1 := Scalar.cmpi .ne v1778 c0_i32_941
  let v1783 : BitVec 1 := Scalar.andi v1782 v1779
  let v1784 : BitVec 32 := Scalar.addi v1778 v1777
  let v1785 : BitVec 32 := Scalar.select v1783 v1784 v1778
  let v1786 : BitVec 32 := Scalar.muli c8_i32_944 v1785
  let c2_i32_945 : BitVec 32 := 2#32
  let c0_i32_932 : BitVec 32 := 0#32
  let v1760 : BitVec 1 := Scalar.cmpi .sgt v1756 c0_i32_932
  let v1761 : BitVec 32 := Scalar.extui v1760
  let c0_i32_933 : BitVec 32 := 0#32
  let v1762 : BitVec 1 := Scalar.cmpi .slt v1756 c0_i32_933
  let v1763 : BitVec 32 := Scalar.extui v1762
  let v1764 : BitVec 32 := Scalar.subi v1761 v1763
  let c4_i32_931 : BitVec 32 := 4#32
  let c0_i32_934 : BitVec 32 := 0#32
  let v1765 : BitVec 1 := Scalar.cmpi .sgt c4_i32_931 c0_i32_934
  let v1766 : BitVec 32 := Scalar.extui v1765
  let c0_i32_935 : BitVec 32 := 0#32
  let v1767 : BitVec 1 := Scalar.cmpi .slt c4_i32_931 c0_i32_935
  let v1768 : BitVec 32 := Scalar.extui v1767
  let v1769 : BitVec 32 := Scalar.subi v1766 v1768
  let v1770 : BitVec 1 := Scalar.cmpi .ne v1764 v1769
  let v1771 : BitVec 32 := Scalar.remsi v1756 c4_i32_931
  let c0_i32_936 : BitVec 32 := 0#32
  let v1772 : BitVec 1 := Scalar.cmpi .ne v1771 c0_i32_936
  let v1773 : BitVec 1 := Scalar.andi v1770 v1772
  let v1759 : BitVec 32 := Scalar.divsi v1756 c4_i32_931
  let c1_i32_937 : BitVec 32 := 1#32
  let v1774 : BitVec 32 := Scalar.subi v1759 c1_i32_937
  let v1775 : BitVec 32 := Scalar.select v1773 v1774 v1759
  let v1787 : BitVec 32 := Scalar.muli c2_i32_945 v1775
  let v1788 : BitVec 32 := Scalar.addi v1786 v1787
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_946 : BitVec 32 := 2#32
  let c0_i32_947 : BitVec 32 := 0#32
  let v1789 : BitVec 1 := Scalar.cmpi .eq c2_i32_946 c0_i32_947
  let c1_i32_948 : BitVec 32 := 1#32
  let v1790 : BitVec 32 := Scalar.select v1789 c1_i32_948 c2_i32_946
  let v1791 : BitVec 32 := Scalar.remsi v1775 v1790
  let c0_i32_950 : BitVec 32 := 0#32
  let v1793 : BitVec 1 := Scalar.cmpi .slt v1791 c0_i32_950
  let c0_i32_951 : BitVec 32 := 0#32
  let v1794 : BitVec 1 := Scalar.cmpi .slt v1790 c0_i32_951
  let v1795 : BitVec 1 := Scalar.xori v1793 v1794
  let c0_i32_949 : BitVec 32 := 0#32
  let v1792 : BitVec 1 := Scalar.cmpi .ne v1791 c0_i32_949
  let v1796 : BitVec 1 := Scalar.andi v1795 v1792
  let v1797 : BitVec 32 := Scalar.addi v1791 v1790
  let v1798 : BitVec 32 := Scalar.select v1796 v1797 v1791
  let v1799 : BitVec 32 := Scalar.xori v67 v1798
  let v1800 : BitVec 32 := Scalar.addi v1788 v1799
  let c1_i32_2590 : BitVec 32 := 1#32
  let v4061 : BitVec 32 := Scalar.muli v1800 c1_i32_2590
  let v4062 : BitVec 32 := Scalar.addi c0_i32_2591 v4061
  v4062.toNat
def k0_cond15 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c15_i32_1146 : BitVec 32 := 15#32
  let v2066 : BitVec 32 := Scalar.subi v69 c15_i32_1146
  let c16_i32_1147 : BitVec 32 := 16#32
  let c0_i32_1148 : BitVec 32 := 0#32
  let v2067 : BitVec 1 := Scalar.cmpi .eq c16_i32_1147 c0_i32_1148
  let c1_i32_1149 : BitVec 32 := 1#32
  let v2068 : BitVec 32 := Scalar.select v2067 c1_i32_1149 c16_i32_1147
  let v2069 : BitVec 32 := Scalar.remsi v2066 v2068
  let c0_i32_1151 : BitVec 32 := 0#32
  let v2071 : BitVec 1 := Scalar.cmpi .slt v2069 c0_i32_1151
  let c0_i32_1152 : BitVec 32 := 0#32
  let v2072 : BitVec 1 := Scalar.cmpi .slt v2068 c0_i32_1152
  let v2073 : BitVec 1 := Scalar.xori v2071 v2072
  let c0_i32_1150 : BitVec 32 := 0#32
  let v2070 : BitVec 1 := Scalar.cmpi .ne v2069 c0_i32_1150
  let v2074 : BitVec 1 := Scalar.andi v2073 v2070
  let v2075 : BitVec 32 := Scalar.addi v2069 v2068
  let v2076 : BitVec 32 := Scalar.select v2074 v2075 v2069
  let c8_i32_1153 : BitVec 32 := 8#32
  let v2077 : BitVec 1 := Scalar.cmpi .slt v2076 c8_i32_1153
  let v2078 : BitVec 32 := Scalar.extui v2077
  let c0_i32_1156 : BitVec 32 := 0#32
  let v2079 : BitVec 1 := Scalar.cmpi .ne v2078 c0_i32_1156
  v2079

def k0_off27 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_959 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c15_i32_952 : BitVec 32 := 15#32
  let v1801 : BitVec 32 := Scalar.subi v69 c15_i32_952
  let c16_i32_953 : BitVec 32 := 16#32
  let c0_i32_954 : BitVec 32 := 0#32
  let v1802 : BitVec 1 := Scalar.cmpi .eq c16_i32_953 c0_i32_954
  let c1_i32_955 : BitVec 32 := 1#32
  let v1803 : BitVec 32 := Scalar.select v1802 c1_i32_955 c16_i32_953
  let v1804 : BitVec 32 := Scalar.remsi v1801 v1803
  let c0_i32_957 : BitVec 32 := 0#32
  let v1806 : BitVec 1 := Scalar.cmpi .slt v1804 c0_i32_957
  let c0_i32_958 : BitVec 32 := 0#32
  let v1807 : BitVec 1 := Scalar.cmpi .slt v1803 c0_i32_958
  let v1808 : BitVec 1 := Scalar.xori v1806 v1807
  let c0_i32_956 : BitVec 32 := 0#32
  let v1805 : BitVec 1 := Scalar.cmpi .ne v1804 c0_i32_956
  let v1809 : BitVec 1 := Scalar.andi v1808 v1805
  let v1810 : BitVec 32 := Scalar.addi v1804 v1803
  let v1811 : BitVec 32 := Scalar.select v1809 v1810 v1804
  let v1812 : BitVec 32 := Scalar.muli c16_i32_959 v1811
  let v1813 : BitVec 32 := Scalar.addi v915 v1812
  let c0_i32_2594 : BitVec 32 := 0#32
  ![v1813.toNat, 0]
def k0_dev33 (d0 : Dev nD) : Nat :=
  let c0_i32_2591 : BitVec 32 := 0#32
  let c8_i32_973 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c15_i32_952 : BitVec 32 := 15#32
  let v1801 : BitVec 32 := Scalar.subi v69 c15_i32_952
  let c16_i32_953 : BitVec 32 := 16#32
  let c0_i32_954 : BitVec 32 := 0#32
  let v1802 : BitVec 1 := Scalar.cmpi .eq c16_i32_953 c0_i32_954
  let c1_i32_955 : BitVec 32 := 1#32
  let v1803 : BitVec 32 := Scalar.select v1802 c1_i32_955 c16_i32_953
  let v1804 : BitVec 32 := Scalar.remsi v1801 v1803
  let c0_i32_957 : BitVec 32 := 0#32
  let v1806 : BitVec 1 := Scalar.cmpi .slt v1804 c0_i32_957
  let c0_i32_958 : BitVec 32 := 0#32
  let v1807 : BitVec 1 := Scalar.cmpi .slt v1803 c0_i32_958
  let v1808 : BitVec 1 := Scalar.xori v1806 v1807
  let c0_i32_956 : BitVec 32 := 0#32
  let v1805 : BitVec 1 := Scalar.cmpi .ne v1804 c0_i32_956
  let v1809 : BitVec 1 := Scalar.andi v1808 v1805
  let v1810 : BitVec 32 := Scalar.addi v1804 v1803
  let v1811 : BitVec 32 := Scalar.select v1809 v1810 v1804
  let c4_i32_967 : BitVec 32 := 4#32
  let c0_i32_968 : BitVec 32 := 0#32
  let v1831 : BitVec 1 := Scalar.cmpi .eq c4_i32_967 c0_i32_968
  let c1_i32_969 : BitVec 32 := 1#32
  let v1832 : BitVec 32 := Scalar.select v1831 c1_i32_969 c4_i32_967
  let v1833 : BitVec 32 := Scalar.remsi v1811 v1832
  let c0_i32_971 : BitVec 32 := 0#32
  let v1835 : BitVec 1 := Scalar.cmpi .slt v1833 c0_i32_971
  let c0_i32_972 : BitVec 32 := 0#32
  let v1836 : BitVec 1 := Scalar.cmpi .slt v1832 c0_i32_972
  let v1837 : BitVec 1 := Scalar.xori v1835 v1836
  let c0_i32_970 : BitVec 32 := 0#32
  let v1834 : BitVec 1 := Scalar.cmpi .ne v1833 c0_i32_970
  let v1838 : BitVec 1 := Scalar.andi v1837 v1834
  let v1839 : BitVec 32 := Scalar.addi v1833 v1832
  let v1840 : BitVec 32 := Scalar.select v1838 v1839 v1833
  let v1841 : BitVec 32 := Scalar.muli c8_i32_973 v1840
  let c2_i32_974 : BitVec 32 := 2#32
  let c0_i32_961 : BitVec 32 := 0#32
  let v1815 : BitVec 1 := Scalar.cmpi .sgt v1811 c0_i32_961
  let v1816 : BitVec 32 := Scalar.extui v1815
  let c0_i32_962 : BitVec 32 := 0#32
  let v1817 : BitVec 1 := Scalar.cmpi .slt v1811 c0_i32_962
  let v1818 : BitVec 32 := Scalar.extui v1817
  let v1819 : BitVec 32 := Scalar.subi v1816 v1818
  let c4_i32_960 : BitVec 32 := 4#32
  let c0_i32_963 : BitVec 32 := 0#32
  let v1820 : BitVec 1 := Scalar.cmpi .sgt c4_i32_960 c0_i32_963
  let v1821 : BitVec 32 := Scalar.extui v1820
  let c0_i32_964 : BitVec 32 := 0#32
  let v1822 : BitVec 1 := Scalar.cmpi .slt c4_i32_960 c0_i32_964
  let v1823 : BitVec 32 := Scalar.extui v1822
  let v1824 : BitVec 32 := Scalar.subi v1821 v1823
  let v1825 : BitVec 1 := Scalar.cmpi .ne v1819 v1824
  let v1826 : BitVec 32 := Scalar.remsi v1811 c4_i32_960
  let c0_i32_965 : BitVec 32 := 0#32
  let v1827 : BitVec 1 := Scalar.cmpi .ne v1826 c0_i32_965
  let v1828 : BitVec 1 := Scalar.andi v1825 v1827
  let v1814 : BitVec 32 := Scalar.divsi v1811 c4_i32_960
  let c1_i32_966 : BitVec 32 := 1#32
  let v1829 : BitVec 32 := Scalar.subi v1814 c1_i32_966
  let v1830 : BitVec 32 := Scalar.select v1828 v1829 v1814
  let v1842 : BitVec 32 := Scalar.muli c2_i32_974 v1830
  let v1843 : BitVec 32 := Scalar.addi v1841 v1842
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_975 : BitVec 32 := 2#32
  let c0_i32_976 : BitVec 32 := 0#32
  let v1844 : BitVec 1 := Scalar.cmpi .eq c2_i32_975 c0_i32_976
  let c1_i32_977 : BitVec 32 := 1#32
  let v1845 : BitVec 32 := Scalar.select v1844 c1_i32_977 c2_i32_975
  let v1846 : BitVec 32 := Scalar.remsi v1830 v1845
  let c0_i32_979 : BitVec 32 := 0#32
  let v1848 : BitVec 1 := Scalar.cmpi .slt v1846 c0_i32_979
  let c0_i32_980 : BitVec 32 := 0#32
  let v1849 : BitVec 1 := Scalar.cmpi .slt v1845 c0_i32_980
  let v1850 : BitVec 1 := Scalar.xori v1848 v1849
  let c0_i32_978 : BitVec 32 := 0#32
  let v1847 : BitVec 1 := Scalar.cmpi .ne v1846 c0_i32_978
  let v1851 : BitVec 1 := Scalar.andi v1850 v1847
  let v1852 : BitVec 32 := Scalar.addi v1846 v1845
  let v1853 : BitVec 32 := Scalar.select v1851 v1852 v1846
  let v1854 : BitVec 32 := Scalar.xori v67 v1853
  let v1855 : BitVec 32 := Scalar.addi v1843 v1854
  let c1_i32_2590 : BitVec 32 := 1#32
  let v4061 : BitVec 32 := Scalar.muli v1855 c1_i32_2590
  let v4062 : BitVec 32 := Scalar.addi c0_i32_2591 v4061
  v4062.toNat
def k0_off28 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c128_i32_1164 : BitVec 32 := 128#32
  let v2086 : BitVec 32 := Scalar.addi v915 c128_i32_1164
  let v2087 : Index := Scalar.indexCast v2086
  let c0_1165 : Index := 0#32
  ![v2087.toNat, 0]
def k0_cond16 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c1_i32_1169 : BitVec 32 := 1#32
  let v2096 : BitVec 32 := Scalar.subi v69 c1_i32_1169
  let c16_i32_1170 : BitVec 32 := 16#32
  let c0_i32_1171 : BitVec 32 := 0#32
  let v2097 : BitVec 1 := Scalar.cmpi .eq c16_i32_1170 c0_i32_1171
  let c1_i32_1172 : BitVec 32 := 1#32
  let v2098 : BitVec 32 := Scalar.select v2097 c1_i32_1172 c16_i32_1170
  let v2099 : BitVec 32 := Scalar.remsi v2096 v2098
  let c0_i32_1174 : BitVec 32 := 0#32
  let v2101 : BitVec 1 := Scalar.cmpi .slt v2099 c0_i32_1174
  let c0_i32_1175 : BitVec 32 := 0#32
  let v2102 : BitVec 1 := Scalar.cmpi .slt v2098 c0_i32_1175
  let v2103 : BitVec 1 := Scalar.xori v2101 v2102
  let c0_i32_1173 : BitVec 32 := 0#32
  let v2100 : BitVec 1 := Scalar.cmpi .ne v2099 c0_i32_1173
  let v2104 : BitVec 1 := Scalar.andi v2103 v2100
  let v2105 : BitVec 32 := Scalar.addi v2099 v2098
  let v2106 : BitVec 32 := Scalar.select v2104 v2105 v2099
  let c8_i32_1176 : BitVec 32 := 8#32
  let v2107 : BitVec 1 := Scalar.cmpi .sge v2106 c8_i32_1176
  let v2108 : BitVec 32 := Scalar.extui v2107
  let c0_i32_1179 : BitVec 32 := 0#32
  let v2109 : BitVec 1 := Scalar.cmpi .ne v2108 c0_i32_1179
  v2109

def k0_off29 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_553 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c1_i32_546 : BitVec 32 := 1#32
  let v1031 : BitVec 32 := Scalar.subi v69 c1_i32_546
  let c16_i32_547 : BitVec 32 := 16#32
  let c0_i32_548 : BitVec 32 := 0#32
  let v1032 : BitVec 1 := Scalar.cmpi .eq c16_i32_547 c0_i32_548
  let c1_i32_549 : BitVec 32 := 1#32
  let v1033 : BitVec 32 := Scalar.select v1032 c1_i32_549 c16_i32_547
  let v1034 : BitVec 32 := Scalar.remsi v1031 v1033
  let c0_i32_551 : BitVec 32 := 0#32
  let v1036 : BitVec 1 := Scalar.cmpi .slt v1034 c0_i32_551
  let c0_i32_552 : BitVec 32 := 0#32
  let v1037 : BitVec 1 := Scalar.cmpi .slt v1033 c0_i32_552
  let v1038 : BitVec 1 := Scalar.xori v1036 v1037
  let c0_i32_550 : BitVec 32 := 0#32
  let v1035 : BitVec 1 := Scalar.cmpi .ne v1034 c0_i32_550
  let v1039 : BitVec 1 := Scalar.andi v1038 v1035
  let v1040 : BitVec 32 := Scalar.addi v1034 v1033
  let v1041 : BitVec 32 := Scalar.select v1039 v1040 v1034
  let v1042 : BitVec 32 := Scalar.muli c16_i32_553 v1041
  let v1043 : BitVec 32 := Scalar.addi v915 v1042
  let c0_i32_2594 : BitVec 32 := 0#32
  ![v1043.toNat, 0]
def k0_dev34 (d0 : Dev nD) : Nat :=
  let c0_i32_2591 : BitVec 32 := 0#32
  let c8_i32_567 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c1_i32_546 : BitVec 32 := 1#32
  let v1031 : BitVec 32 := Scalar.subi v69 c1_i32_546
  let c16_i32_547 : BitVec 32 := 16#32
  let c0_i32_548 : BitVec 32 := 0#32
  let v1032 : BitVec 1 := Scalar.cmpi .eq c16_i32_547 c0_i32_548
  let c1_i32_549 : BitVec 32 := 1#32
  let v1033 : BitVec 32 := Scalar.select v1032 c1_i32_549 c16_i32_547
  let v1034 : BitVec 32 := Scalar.remsi v1031 v1033
  let c0_i32_551 : BitVec 32 := 0#32
  let v1036 : BitVec 1 := Scalar.cmpi .slt v1034 c0_i32_551
  let c0_i32_552 : BitVec 32 := 0#32
  let v1037 : BitVec 1 := Scalar.cmpi .slt v1033 c0_i32_552
  let v1038 : BitVec 1 := Scalar.xori v1036 v1037
  let c0_i32_550 : BitVec 32 := 0#32
  let v1035 : BitVec 1 := Scalar.cmpi .ne v1034 c0_i32_550
  let v1039 : BitVec 1 := Scalar.andi v1038 v1035
  let v1040 : BitVec 32 := Scalar.addi v1034 v1033
  let v1041 : BitVec 32 := Scalar.select v1039 v1040 v1034
  let c4_i32_561 : BitVec 32 := 4#32
  let c0_i32_562 : BitVec 32 := 0#32
  let v1061 : BitVec 1 := Scalar.cmpi .eq c4_i32_561 c0_i32_562
  let c1_i32_563 : BitVec 32 := 1#32
  let v1062 : BitVec 32 := Scalar.select v1061 c1_i32_563 c4_i32_561
  let v1063 : BitVec 32 := Scalar.remsi v1041 v1062
  let c0_i32_565 : BitVec 32 := 0#32
  let v1065 : BitVec 1 := Scalar.cmpi .slt v1063 c0_i32_565
  let c0_i32_566 : BitVec 32 := 0#32
  let v1066 : BitVec 1 := Scalar.cmpi .slt v1062 c0_i32_566
  let v1067 : BitVec 1 := Scalar.xori v1065 v1066
  let c0_i32_564 : BitVec 32 := 0#32
  let v1064 : BitVec 1 := Scalar.cmpi .ne v1063 c0_i32_564
  let v1068 : BitVec 1 := Scalar.andi v1067 v1064
  let v1069 : BitVec 32 := Scalar.addi v1063 v1062
  let v1070 : BitVec 32 := Scalar.select v1068 v1069 v1063
  let v1071 : BitVec 32 := Scalar.muli c8_i32_567 v1070
  let c2_i32_568 : BitVec 32 := 2#32
  let c0_i32_555 : BitVec 32 := 0#32
  let v1045 : BitVec 1 := Scalar.cmpi .sgt v1041 c0_i32_555
  let v1046 : BitVec 32 := Scalar.extui v1045
  let c0_i32_556 : BitVec 32 := 0#32
  let v1047 : BitVec 1 := Scalar.cmpi .slt v1041 c0_i32_556
  let v1048 : BitVec 32 := Scalar.extui v1047
  let v1049 : BitVec 32 := Scalar.subi v1046 v1048
  let c4_i32_554 : BitVec 32 := 4#32
  let c0_i32_557 : BitVec 32 := 0#32
  let v1050 : BitVec 1 := Scalar.cmpi .sgt c4_i32_554 c0_i32_557
  let v1051 : BitVec 32 := Scalar.extui v1050
  let c0_i32_558 : BitVec 32 := 0#32
  let v1052 : BitVec 1 := Scalar.cmpi .slt c4_i32_554 c0_i32_558
  let v1053 : BitVec 32 := Scalar.extui v1052
  let v1054 : BitVec 32 := Scalar.subi v1051 v1053
  let v1055 : BitVec 1 := Scalar.cmpi .ne v1049 v1054
  let v1056 : BitVec 32 := Scalar.remsi v1041 c4_i32_554
  let c0_i32_559 : BitVec 32 := 0#32
  let v1057 : BitVec 1 := Scalar.cmpi .ne v1056 c0_i32_559
  let v1058 : BitVec 1 := Scalar.andi v1055 v1057
  let v1044 : BitVec 32 := Scalar.divsi v1041 c4_i32_554
  let c1_i32_560 : BitVec 32 := 1#32
  let v1059 : BitVec 32 := Scalar.subi v1044 c1_i32_560
  let v1060 : BitVec 32 := Scalar.select v1058 v1059 v1044
  let v1072 : BitVec 32 := Scalar.muli c2_i32_568 v1060
  let v1073 : BitVec 32 := Scalar.addi v1071 v1072
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_569 : BitVec 32 := 2#32
  let c0_i32_570 : BitVec 32 := 0#32
  let v1074 : BitVec 1 := Scalar.cmpi .eq c2_i32_569 c0_i32_570
  let c1_i32_571 : BitVec 32 := 1#32
  let v1075 : BitVec 32 := Scalar.select v1074 c1_i32_571 c2_i32_569
  let v1076 : BitVec 32 := Scalar.remsi v1060 v1075
  let c0_i32_573 : BitVec 32 := 0#32
  let v1078 : BitVec 1 := Scalar.cmpi .slt v1076 c0_i32_573
  let c0_i32_574 : BitVec 32 := 0#32
  let v1079 : BitVec 1 := Scalar.cmpi .slt v1075 c0_i32_574
  let v1080 : BitVec 1 := Scalar.xori v1078 v1079
  let c0_i32_572 : BitVec 32 := 0#32
  let v1077 : BitVec 1 := Scalar.cmpi .ne v1076 c0_i32_572
  let v1081 : BitVec 1 := Scalar.andi v1080 v1077
  let v1082 : BitVec 32 := Scalar.addi v1076 v1075
  let v1083 : BitVec 32 := Scalar.select v1081 v1082 v1076
  let v1084 : BitVec 32 := Scalar.xori v67 v1083
  let v1085 : BitVec 32 := Scalar.addi v1073 v1084
  let c1_i32_2590 : BitVec 32 := 1#32
  let v4061 : BitVec 32 := Scalar.muli v1085 c1_i32_2590
  let v4062 : BitVec 32 := Scalar.addi c0_i32_2591 v4061
  v4062.toNat
def k0_cond17 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c2_i32_1180 : BitVec 32 := 2#32
  let v2110 : BitVec 32 := Scalar.subi v69 c2_i32_1180
  let c16_i32_1181 : BitVec 32 := 16#32
  let c0_i32_1182 : BitVec 32 := 0#32
  let v2111 : BitVec 1 := Scalar.cmpi .eq c16_i32_1181 c0_i32_1182
  let c1_i32_1183 : BitVec 32 := 1#32
  let v2112 : BitVec 32 := Scalar.select v2111 c1_i32_1183 c16_i32_1181
  let v2113 : BitVec 32 := Scalar.remsi v2110 v2112
  let c0_i32_1185 : BitVec 32 := 0#32
  let v2115 : BitVec 1 := Scalar.cmpi .slt v2113 c0_i32_1185
  let c0_i32_1186 : BitVec 32 := 0#32
  let v2116 : BitVec 1 := Scalar.cmpi .slt v2112 c0_i32_1186
  let v2117 : BitVec 1 := Scalar.xori v2115 v2116
  let c0_i32_1184 : BitVec 32 := 0#32
  let v2114 : BitVec 1 := Scalar.cmpi .ne v2113 c0_i32_1184
  let v2118 : BitVec 1 := Scalar.andi v2117 v2114
  let v2119 : BitVec 32 := Scalar.addi v2113 v2112
  let v2120 : BitVec 32 := Scalar.select v2118 v2119 v2113
  let c8_i32_1187 : BitVec 32 := 8#32
  let v2121 : BitVec 1 := Scalar.cmpi .sge v2120 c8_i32_1187
  let v2122 : BitVec 32 := Scalar.extui v2121
  let c0_i32_1190 : BitVec 32 := 0#32
  let v2123 : BitVec 1 := Scalar.cmpi .ne v2122 c0_i32_1190
  v2123

def k0_off30 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_582 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c2_i32_575 : BitVec 32 := 2#32
  let v1086 : BitVec 32 := Scalar.subi v69 c2_i32_575
  let c16_i32_576 : BitVec 32 := 16#32
  let c0_i32_577 : BitVec 32 := 0#32
  let v1087 : BitVec 1 := Scalar.cmpi .eq c16_i32_576 c0_i32_577
  let c1_i32_578 : BitVec 32 := 1#32
  let v1088 : BitVec 32 := Scalar.select v1087 c1_i32_578 c16_i32_576
  let v1089 : BitVec 32 := Scalar.remsi v1086 v1088
  let c0_i32_580 : BitVec 32 := 0#32
  let v1091 : BitVec 1 := Scalar.cmpi .slt v1089 c0_i32_580
  let c0_i32_581 : BitVec 32 := 0#32
  let v1092 : BitVec 1 := Scalar.cmpi .slt v1088 c0_i32_581
  let v1093 : BitVec 1 := Scalar.xori v1091 v1092
  let c0_i32_579 : BitVec 32 := 0#32
  let v1090 : BitVec 1 := Scalar.cmpi .ne v1089 c0_i32_579
  let v1094 : BitVec 1 := Scalar.andi v1093 v1090
  let v1095 : BitVec 32 := Scalar.addi v1089 v1088
  let v1096 : BitVec 32 := Scalar.select v1094 v1095 v1089
  let v1097 : BitVec 32 := Scalar.muli c16_i32_582 v1096
  let v1098 : BitVec 32 := Scalar.addi v915 v1097
  let c0_i32_2594 : BitVec 32 := 0#32
  ![v1098.toNat, 0]
def k0_dev35 (d0 : Dev nD) : Nat :=
  let c0_i32_2591 : BitVec 32 := 0#32
  let c8_i32_596 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c2_i32_575 : BitVec 32 := 2#32
  let v1086 : BitVec 32 := Scalar.subi v69 c2_i32_575
  let c16_i32_576 : BitVec 32 := 16#32
  let c0_i32_577 : BitVec 32 := 0#32
  let v1087 : BitVec 1 := Scalar.cmpi .eq c16_i32_576 c0_i32_577
  let c1_i32_578 : BitVec 32 := 1#32
  let v1088 : BitVec 32 := Scalar.select v1087 c1_i32_578 c16_i32_576
  let v1089 : BitVec 32 := Scalar.remsi v1086 v1088
  let c0_i32_580 : BitVec 32 := 0#32
  let v1091 : BitVec 1 := Scalar.cmpi .slt v1089 c0_i32_580
  let c0_i32_581 : BitVec 32 := 0#32
  let v1092 : BitVec 1 := Scalar.cmpi .slt v1088 c0_i32_581
  let v1093 : BitVec 1 := Scalar.xori v1091 v1092
  let c0_i32_579 : BitVec 32 := 0#32
  let v1090 : BitVec 1 := Scalar.cmpi .ne v1089 c0_i32_579
  let v1094 : BitVec 1 := Scalar.andi v1093 v1090
  let v1095 : BitVec 32 := Scalar.addi v1089 v1088
  let v1096 : BitVec 32 := Scalar.select v1094 v1095 v1089
  let c4_i32_590 : BitVec 32 := 4#32
  let c0_i32_591 : BitVec 32 := 0#32
  let v1116 : BitVec 1 := Scalar.cmpi .eq c4_i32_590 c0_i32_591
  let c1_i32_592 : BitVec 32 := 1#32
  let v1117 : BitVec 32 := Scalar.select v1116 c1_i32_592 c4_i32_590
  let v1118 : BitVec 32 := Scalar.remsi v1096 v1117
  let c0_i32_594 : BitVec 32 := 0#32
  let v1120 : BitVec 1 := Scalar.cmpi .slt v1118 c0_i32_594
  let c0_i32_595 : BitVec 32 := 0#32
  let v1121 : BitVec 1 := Scalar.cmpi .slt v1117 c0_i32_595
  let v1122 : BitVec 1 := Scalar.xori v1120 v1121
  let c0_i32_593 : BitVec 32 := 0#32
  let v1119 : BitVec 1 := Scalar.cmpi .ne v1118 c0_i32_593
  let v1123 : BitVec 1 := Scalar.andi v1122 v1119
  let v1124 : BitVec 32 := Scalar.addi v1118 v1117
  let v1125 : BitVec 32 := Scalar.select v1123 v1124 v1118
  let v1126 : BitVec 32 := Scalar.muli c8_i32_596 v1125
  let c2_i32_597 : BitVec 32 := 2#32
  let c0_i32_584 : BitVec 32 := 0#32
  let v1100 : BitVec 1 := Scalar.cmpi .sgt v1096 c0_i32_584
  let v1101 : BitVec 32 := Scalar.extui v1100
  let c0_i32_585 : BitVec 32 := 0#32
  let v1102 : BitVec 1 := Scalar.cmpi .slt v1096 c0_i32_585
  let v1103 : BitVec 32 := Scalar.extui v1102
  let v1104 : BitVec 32 := Scalar.subi v1101 v1103
  let c4_i32_583 : BitVec 32 := 4#32
  let c0_i32_586 : BitVec 32 := 0#32
  let v1105 : BitVec 1 := Scalar.cmpi .sgt c4_i32_583 c0_i32_586
  let v1106 : BitVec 32 := Scalar.extui v1105
  let c0_i32_587 : BitVec 32 := 0#32
  let v1107 : BitVec 1 := Scalar.cmpi .slt c4_i32_583 c0_i32_587
  let v1108 : BitVec 32 := Scalar.extui v1107
  let v1109 : BitVec 32 := Scalar.subi v1106 v1108
  let v1110 : BitVec 1 := Scalar.cmpi .ne v1104 v1109
  let v1111 : BitVec 32 := Scalar.remsi v1096 c4_i32_583
  let c0_i32_588 : BitVec 32 := 0#32
  let v1112 : BitVec 1 := Scalar.cmpi .ne v1111 c0_i32_588
  let v1113 : BitVec 1 := Scalar.andi v1110 v1112
  let v1099 : BitVec 32 := Scalar.divsi v1096 c4_i32_583
  let c1_i32_589 : BitVec 32 := 1#32
  let v1114 : BitVec 32 := Scalar.subi v1099 c1_i32_589
  let v1115 : BitVec 32 := Scalar.select v1113 v1114 v1099
  let v1127 : BitVec 32 := Scalar.muli c2_i32_597 v1115
  let v1128 : BitVec 32 := Scalar.addi v1126 v1127
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_598 : BitVec 32 := 2#32
  let c0_i32_599 : BitVec 32 := 0#32
  let v1129 : BitVec 1 := Scalar.cmpi .eq c2_i32_598 c0_i32_599
  let c1_i32_600 : BitVec 32 := 1#32
  let v1130 : BitVec 32 := Scalar.select v1129 c1_i32_600 c2_i32_598
  let v1131 : BitVec 32 := Scalar.remsi v1115 v1130
  let c0_i32_602 : BitVec 32 := 0#32
  let v1133 : BitVec 1 := Scalar.cmpi .slt v1131 c0_i32_602
  let c0_i32_603 : BitVec 32 := 0#32
  let v1134 : BitVec 1 := Scalar.cmpi .slt v1130 c0_i32_603
  let v1135 : BitVec 1 := Scalar.xori v1133 v1134
  let c0_i32_601 : BitVec 32 := 0#32
  let v1132 : BitVec 1 := Scalar.cmpi .ne v1131 c0_i32_601
  let v1136 : BitVec 1 := Scalar.andi v1135 v1132
  let v1137 : BitVec 32 := Scalar.addi v1131 v1130
  let v1138 : BitVec 32 := Scalar.select v1136 v1137 v1131
  let v1139 : BitVec 32 := Scalar.xori v67 v1138
  let v1140 : BitVec 32 := Scalar.addi v1128 v1139
  let c1_i32_2590 : BitVec 32 := 1#32
  let v4061 : BitVec 32 := Scalar.muli v1140 c1_i32_2590
  let v4062 : BitVec 32 := Scalar.addi c0_i32_2591 v4061
  v4062.toNat
def k0_cond18 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c3_i32_1191 : BitVec 32 := 3#32
  let v2124 : BitVec 32 := Scalar.subi v69 c3_i32_1191
  let c16_i32_1192 : BitVec 32 := 16#32
  let c0_i32_1193 : BitVec 32 := 0#32
  let v2125 : BitVec 1 := Scalar.cmpi .eq c16_i32_1192 c0_i32_1193
  let c1_i32_1194 : BitVec 32 := 1#32
  let v2126 : BitVec 32 := Scalar.select v2125 c1_i32_1194 c16_i32_1192
  let v2127 : BitVec 32 := Scalar.remsi v2124 v2126
  let c0_i32_1196 : BitVec 32 := 0#32
  let v2129 : BitVec 1 := Scalar.cmpi .slt v2127 c0_i32_1196
  let c0_i32_1197 : BitVec 32 := 0#32
  let v2130 : BitVec 1 := Scalar.cmpi .slt v2126 c0_i32_1197
  let v2131 : BitVec 1 := Scalar.xori v2129 v2130
  let c0_i32_1195 : BitVec 32 := 0#32
  let v2128 : BitVec 1 := Scalar.cmpi .ne v2127 c0_i32_1195
  let v2132 : BitVec 1 := Scalar.andi v2131 v2128
  let v2133 : BitVec 32 := Scalar.addi v2127 v2126
  let v2134 : BitVec 32 := Scalar.select v2132 v2133 v2127
  let c8_i32_1198 : BitVec 32 := 8#32
  let v2135 : BitVec 1 := Scalar.cmpi .sge v2134 c8_i32_1198
  let v2136 : BitVec 32 := Scalar.extui v2135
  let c0_i32_1201 : BitVec 32 := 0#32
  let v2137 : BitVec 1 := Scalar.cmpi .ne v2136 c0_i32_1201
  v2137

def k0_off31 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_611 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c3_i32_604 : BitVec 32 := 3#32
  let v1141 : BitVec 32 := Scalar.subi v69 c3_i32_604
  let c16_i32_605 : BitVec 32 := 16#32
  let c0_i32_606 : BitVec 32 := 0#32
  let v1142 : BitVec 1 := Scalar.cmpi .eq c16_i32_605 c0_i32_606
  let c1_i32_607 : BitVec 32 := 1#32
  let v1143 : BitVec 32 := Scalar.select v1142 c1_i32_607 c16_i32_605
  let v1144 : BitVec 32 := Scalar.remsi v1141 v1143
  let c0_i32_609 : BitVec 32 := 0#32
  let v1146 : BitVec 1 := Scalar.cmpi .slt v1144 c0_i32_609
  let c0_i32_610 : BitVec 32 := 0#32
  let v1147 : BitVec 1 := Scalar.cmpi .slt v1143 c0_i32_610
  let v1148 : BitVec 1 := Scalar.xori v1146 v1147
  let c0_i32_608 : BitVec 32 := 0#32
  let v1145 : BitVec 1 := Scalar.cmpi .ne v1144 c0_i32_608
  let v1149 : BitVec 1 := Scalar.andi v1148 v1145
  let v1150 : BitVec 32 := Scalar.addi v1144 v1143
  let v1151 : BitVec 32 := Scalar.select v1149 v1150 v1144
  let v1152 : BitVec 32 := Scalar.muli c16_i32_611 v1151
  let v1153 : BitVec 32 := Scalar.addi v915 v1152
  let c0_i32_2594 : BitVec 32 := 0#32
  ![v1153.toNat, 0]
def k0_dev36 (d0 : Dev nD) : Nat :=
  let c0_i32_2591 : BitVec 32 := 0#32
  let c8_i32_625 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c3_i32_604 : BitVec 32 := 3#32
  let v1141 : BitVec 32 := Scalar.subi v69 c3_i32_604
  let c16_i32_605 : BitVec 32 := 16#32
  let c0_i32_606 : BitVec 32 := 0#32
  let v1142 : BitVec 1 := Scalar.cmpi .eq c16_i32_605 c0_i32_606
  let c1_i32_607 : BitVec 32 := 1#32
  let v1143 : BitVec 32 := Scalar.select v1142 c1_i32_607 c16_i32_605
  let v1144 : BitVec 32 := Scalar.remsi v1141 v1143
  let c0_i32_609 : BitVec 32 := 0#32
  let v1146 : BitVec 1 := Scalar.cmpi .slt v1144 c0_i32_609
  let c0_i32_610 : BitVec 32 := 0#32
  let v1147 : BitVec 1 := Scalar.cmpi .slt v1143 c0_i32_610
  let v1148 : BitVec 1 := Scalar.xori v1146 v1147
  let c0_i32_608 : BitVec 32 := 0#32
  let v1145 : BitVec 1 := Scalar.cmpi .ne v1144 c0_i32_608
  let v1149 : BitVec 1 := Scalar.andi v1148 v1145
  let v1150 : BitVec 32 := Scalar.addi v1144 v1143
  let v1151 : BitVec 32 := Scalar.select v1149 v1150 v1144
  let c4_i32_619 : BitVec 32 := 4#32
  let c0_i32_620 : BitVec 32 := 0#32
  let v1171 : BitVec 1 := Scalar.cmpi .eq c4_i32_619 c0_i32_620
  let c1_i32_621 : BitVec 32 := 1#32
  let v1172 : BitVec 32 := Scalar.select v1171 c1_i32_621 c4_i32_619
  let v1173 : BitVec 32 := Scalar.remsi v1151 v1172
  let c0_i32_623 : BitVec 32 := 0#32
  let v1175 : BitVec 1 := Scalar.cmpi .slt v1173 c0_i32_623
  let c0_i32_624 : BitVec 32 := 0#32
  let v1176 : BitVec 1 := Scalar.cmpi .slt v1172 c0_i32_624
  let v1177 : BitVec 1 := Scalar.xori v1175 v1176
  let c0_i32_622 : BitVec 32 := 0#32
  let v1174 : BitVec 1 := Scalar.cmpi .ne v1173 c0_i32_622
  let v1178 : BitVec 1 := Scalar.andi v1177 v1174
  let v1179 : BitVec 32 := Scalar.addi v1173 v1172
  let v1180 : BitVec 32 := Scalar.select v1178 v1179 v1173
  let v1181 : BitVec 32 := Scalar.muli c8_i32_625 v1180
  let c2_i32_626 : BitVec 32 := 2#32
  let c0_i32_613 : BitVec 32 := 0#32
  let v1155 : BitVec 1 := Scalar.cmpi .sgt v1151 c0_i32_613
  let v1156 : BitVec 32 := Scalar.extui v1155
  let c0_i32_614 : BitVec 32 := 0#32
  let v1157 : BitVec 1 := Scalar.cmpi .slt v1151 c0_i32_614
  let v1158 : BitVec 32 := Scalar.extui v1157
  let v1159 : BitVec 32 := Scalar.subi v1156 v1158
  let c4_i32_612 : BitVec 32 := 4#32
  let c0_i32_615 : BitVec 32 := 0#32
  let v1160 : BitVec 1 := Scalar.cmpi .sgt c4_i32_612 c0_i32_615
  let v1161 : BitVec 32 := Scalar.extui v1160
  let c0_i32_616 : BitVec 32 := 0#32
  let v1162 : BitVec 1 := Scalar.cmpi .slt c4_i32_612 c0_i32_616
  let v1163 : BitVec 32 := Scalar.extui v1162
  let v1164 : BitVec 32 := Scalar.subi v1161 v1163
  let v1165 : BitVec 1 := Scalar.cmpi .ne v1159 v1164
  let v1166 : BitVec 32 := Scalar.remsi v1151 c4_i32_612
  let c0_i32_617 : BitVec 32 := 0#32
  let v1167 : BitVec 1 := Scalar.cmpi .ne v1166 c0_i32_617
  let v1168 : BitVec 1 := Scalar.andi v1165 v1167
  let v1154 : BitVec 32 := Scalar.divsi v1151 c4_i32_612
  let c1_i32_618 : BitVec 32 := 1#32
  let v1169 : BitVec 32 := Scalar.subi v1154 c1_i32_618
  let v1170 : BitVec 32 := Scalar.select v1168 v1169 v1154
  let v1182 : BitVec 32 := Scalar.muli c2_i32_626 v1170
  let v1183 : BitVec 32 := Scalar.addi v1181 v1182
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_627 : BitVec 32 := 2#32
  let c0_i32_628 : BitVec 32 := 0#32
  let v1184 : BitVec 1 := Scalar.cmpi .eq c2_i32_627 c0_i32_628
  let c1_i32_629 : BitVec 32 := 1#32
  let v1185 : BitVec 32 := Scalar.select v1184 c1_i32_629 c2_i32_627
  let v1186 : BitVec 32 := Scalar.remsi v1170 v1185
  let c0_i32_631 : BitVec 32 := 0#32
  let v1188 : BitVec 1 := Scalar.cmpi .slt v1186 c0_i32_631
  let c0_i32_632 : BitVec 32 := 0#32
  let v1189 : BitVec 1 := Scalar.cmpi .slt v1185 c0_i32_632
  let v1190 : BitVec 1 := Scalar.xori v1188 v1189
  let c0_i32_630 : BitVec 32 := 0#32
  let v1187 : BitVec 1 := Scalar.cmpi .ne v1186 c0_i32_630
  let v1191 : BitVec 1 := Scalar.andi v1190 v1187
  let v1192 : BitVec 32 := Scalar.addi v1186 v1185
  let v1193 : BitVec 32 := Scalar.select v1191 v1192 v1186
  let v1194 : BitVec 32 := Scalar.xori v67 v1193
  let v1195 : BitVec 32 := Scalar.addi v1183 v1194
  let c1_i32_2590 : BitVec 32 := 1#32
  let v4061 : BitVec 32 := Scalar.muli v1195 c1_i32_2590
  let v4062 : BitVec 32 := Scalar.addi c0_i32_2591 v4061
  v4062.toNat
def k0_cond19 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c4_i32_1202 : BitVec 32 := 4#32
  let v2138 : BitVec 32 := Scalar.subi v69 c4_i32_1202
  let c16_i32_1203 : BitVec 32 := 16#32
  let c0_i32_1204 : BitVec 32 := 0#32
  let v2139 : BitVec 1 := Scalar.cmpi .eq c16_i32_1203 c0_i32_1204
  let c1_i32_1205 : BitVec 32 := 1#32
  let v2140 : BitVec 32 := Scalar.select v2139 c1_i32_1205 c16_i32_1203
  let v2141 : BitVec 32 := Scalar.remsi v2138 v2140
  let c0_i32_1207 : BitVec 32 := 0#32
  let v2143 : BitVec 1 := Scalar.cmpi .slt v2141 c0_i32_1207
  let c0_i32_1208 : BitVec 32 := 0#32
  let v2144 : BitVec 1 := Scalar.cmpi .slt v2140 c0_i32_1208
  let v2145 : BitVec 1 := Scalar.xori v2143 v2144
  let c0_i32_1206 : BitVec 32 := 0#32
  let v2142 : BitVec 1 := Scalar.cmpi .ne v2141 c0_i32_1206
  let v2146 : BitVec 1 := Scalar.andi v2145 v2142
  let v2147 : BitVec 32 := Scalar.addi v2141 v2140
  let v2148 : BitVec 32 := Scalar.select v2146 v2147 v2141
  let c8_i32_1209 : BitVec 32 := 8#32
  let v2149 : BitVec 1 := Scalar.cmpi .sge v2148 c8_i32_1209
  let v2150 : BitVec 32 := Scalar.extui v2149
  let c0_i32_1212 : BitVec 32 := 0#32
  let v2151 : BitVec 1 := Scalar.cmpi .ne v2150 c0_i32_1212
  v2151

def k0_off32 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_640 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c4_i32_633 : BitVec 32 := 4#32
  let v1196 : BitVec 32 := Scalar.subi v69 c4_i32_633
  let c16_i32_634 : BitVec 32 := 16#32
  let c0_i32_635 : BitVec 32 := 0#32
  let v1197 : BitVec 1 := Scalar.cmpi .eq c16_i32_634 c0_i32_635
  let c1_i32_636 : BitVec 32 := 1#32
  let v1198 : BitVec 32 := Scalar.select v1197 c1_i32_636 c16_i32_634
  let v1199 : BitVec 32 := Scalar.remsi v1196 v1198
  let c0_i32_638 : BitVec 32 := 0#32
  let v1201 : BitVec 1 := Scalar.cmpi .slt v1199 c0_i32_638
  let c0_i32_639 : BitVec 32 := 0#32
  let v1202 : BitVec 1 := Scalar.cmpi .slt v1198 c0_i32_639
  let v1203 : BitVec 1 := Scalar.xori v1201 v1202
  let c0_i32_637 : BitVec 32 := 0#32
  let v1200 : BitVec 1 := Scalar.cmpi .ne v1199 c0_i32_637
  let v1204 : BitVec 1 := Scalar.andi v1203 v1200
  let v1205 : BitVec 32 := Scalar.addi v1199 v1198
  let v1206 : BitVec 32 := Scalar.select v1204 v1205 v1199
  let v1207 : BitVec 32 := Scalar.muli c16_i32_640 v1206
  let v1208 : BitVec 32 := Scalar.addi v915 v1207
  let c0_i32_2594 : BitVec 32 := 0#32
  ![v1208.toNat, 0]
def k0_dev37 (d0 : Dev nD) : Nat :=
  let c0_i32_2591 : BitVec 32 := 0#32
  let c8_i32_654 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c4_i32_633 : BitVec 32 := 4#32
  let v1196 : BitVec 32 := Scalar.subi v69 c4_i32_633
  let c16_i32_634 : BitVec 32 := 16#32
  let c0_i32_635 : BitVec 32 := 0#32
  let v1197 : BitVec 1 := Scalar.cmpi .eq c16_i32_634 c0_i32_635
  let c1_i32_636 : BitVec 32 := 1#32
  let v1198 : BitVec 32 := Scalar.select v1197 c1_i32_636 c16_i32_634
  let v1199 : BitVec 32 := Scalar.remsi v1196 v1198
  let c0_i32_638 : BitVec 32 := 0#32
  let v1201 : BitVec 1 := Scalar.cmpi .slt v1199 c0_i32_638
  let c0_i32_639 : BitVec 32 := 0#32
  let v1202 : BitVec 1 := Scalar.cmpi .slt v1198 c0_i32_639
  let v1203 : BitVec 1 := Scalar.xori v1201 v1202
  let c0_i32_637 : BitVec 32 := 0#32
  let v1200 : BitVec 1 := Scalar.cmpi .ne v1199 c0_i32_637
  let v1204 : BitVec 1 := Scalar.andi v1203 v1200
  let v1205 : BitVec 32 := Scalar.addi v1199 v1198
  let v1206 : BitVec 32 := Scalar.select v1204 v1205 v1199
  let c4_i32_648 : BitVec 32 := 4#32
  let c0_i32_649 : BitVec 32 := 0#32
  let v1226 : BitVec 1 := Scalar.cmpi .eq c4_i32_648 c0_i32_649
  let c1_i32_650 : BitVec 32 := 1#32
  let v1227 : BitVec 32 := Scalar.select v1226 c1_i32_650 c4_i32_648
  let v1228 : BitVec 32 := Scalar.remsi v1206 v1227
  let c0_i32_652 : BitVec 32 := 0#32
  let v1230 : BitVec 1 := Scalar.cmpi .slt v1228 c0_i32_652
  let c0_i32_653 : BitVec 32 := 0#32
  let v1231 : BitVec 1 := Scalar.cmpi .slt v1227 c0_i32_653
  let v1232 : BitVec 1 := Scalar.xori v1230 v1231
  let c0_i32_651 : BitVec 32 := 0#32
  let v1229 : BitVec 1 := Scalar.cmpi .ne v1228 c0_i32_651
  let v1233 : BitVec 1 := Scalar.andi v1232 v1229
  let v1234 : BitVec 32 := Scalar.addi v1228 v1227
  let v1235 : BitVec 32 := Scalar.select v1233 v1234 v1228
  let v1236 : BitVec 32 := Scalar.muli c8_i32_654 v1235
  let c2_i32_655 : BitVec 32 := 2#32
  let c0_i32_642 : BitVec 32 := 0#32
  let v1210 : BitVec 1 := Scalar.cmpi .sgt v1206 c0_i32_642
  let v1211 : BitVec 32 := Scalar.extui v1210
  let c0_i32_643 : BitVec 32 := 0#32
  let v1212 : BitVec 1 := Scalar.cmpi .slt v1206 c0_i32_643
  let v1213 : BitVec 32 := Scalar.extui v1212
  let v1214 : BitVec 32 := Scalar.subi v1211 v1213
  let c4_i32_641 : BitVec 32 := 4#32
  let c0_i32_644 : BitVec 32 := 0#32
  let v1215 : BitVec 1 := Scalar.cmpi .sgt c4_i32_641 c0_i32_644
  let v1216 : BitVec 32 := Scalar.extui v1215
  let c0_i32_645 : BitVec 32 := 0#32
  let v1217 : BitVec 1 := Scalar.cmpi .slt c4_i32_641 c0_i32_645
  let v1218 : BitVec 32 := Scalar.extui v1217
  let v1219 : BitVec 32 := Scalar.subi v1216 v1218
  let v1220 : BitVec 1 := Scalar.cmpi .ne v1214 v1219
  let v1221 : BitVec 32 := Scalar.remsi v1206 c4_i32_641
  let c0_i32_646 : BitVec 32 := 0#32
  let v1222 : BitVec 1 := Scalar.cmpi .ne v1221 c0_i32_646
  let v1223 : BitVec 1 := Scalar.andi v1220 v1222
  let v1209 : BitVec 32 := Scalar.divsi v1206 c4_i32_641
  let c1_i32_647 : BitVec 32 := 1#32
  let v1224 : BitVec 32 := Scalar.subi v1209 c1_i32_647
  let v1225 : BitVec 32 := Scalar.select v1223 v1224 v1209
  let v1237 : BitVec 32 := Scalar.muli c2_i32_655 v1225
  let v1238 : BitVec 32 := Scalar.addi v1236 v1237
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_656 : BitVec 32 := 2#32
  let c0_i32_657 : BitVec 32 := 0#32
  let v1239 : BitVec 1 := Scalar.cmpi .eq c2_i32_656 c0_i32_657
  let c1_i32_658 : BitVec 32 := 1#32
  let v1240 : BitVec 32 := Scalar.select v1239 c1_i32_658 c2_i32_656
  let v1241 : BitVec 32 := Scalar.remsi v1225 v1240
  let c0_i32_660 : BitVec 32 := 0#32
  let v1243 : BitVec 1 := Scalar.cmpi .slt v1241 c0_i32_660
  let c0_i32_661 : BitVec 32 := 0#32
  let v1244 : BitVec 1 := Scalar.cmpi .slt v1240 c0_i32_661
  let v1245 : BitVec 1 := Scalar.xori v1243 v1244
  let c0_i32_659 : BitVec 32 := 0#32
  let v1242 : BitVec 1 := Scalar.cmpi .ne v1241 c0_i32_659
  let v1246 : BitVec 1 := Scalar.andi v1245 v1242
  let v1247 : BitVec 32 := Scalar.addi v1241 v1240
  let v1248 : BitVec 32 := Scalar.select v1246 v1247 v1241
  let v1249 : BitVec 32 := Scalar.xori v67 v1248
  let v1250 : BitVec 32 := Scalar.addi v1238 v1249
  let c1_i32_2590 : BitVec 32 := 1#32
  let v4061 : BitVec 32 := Scalar.muli v1250 c1_i32_2590
  let v4062 : BitVec 32 := Scalar.addi c0_i32_2591 v4061
  v4062.toNat
def k0_cond20 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c5_i32_1213 : BitVec 32 := 5#32
  let v2152 : BitVec 32 := Scalar.subi v69 c5_i32_1213
  let c16_i32_1214 : BitVec 32 := 16#32
  let c0_i32_1215 : BitVec 32 := 0#32
  let v2153 : BitVec 1 := Scalar.cmpi .eq c16_i32_1214 c0_i32_1215
  let c1_i32_1216 : BitVec 32 := 1#32
  let v2154 : BitVec 32 := Scalar.select v2153 c1_i32_1216 c16_i32_1214
  let v2155 : BitVec 32 := Scalar.remsi v2152 v2154
  let c0_i32_1218 : BitVec 32 := 0#32
  let v2157 : BitVec 1 := Scalar.cmpi .slt v2155 c0_i32_1218
  let c0_i32_1219 : BitVec 32 := 0#32
  let v2158 : BitVec 1 := Scalar.cmpi .slt v2154 c0_i32_1219
  let v2159 : BitVec 1 := Scalar.xori v2157 v2158
  let c0_i32_1217 : BitVec 32 := 0#32
  let v2156 : BitVec 1 := Scalar.cmpi .ne v2155 c0_i32_1217
  let v2160 : BitVec 1 := Scalar.andi v2159 v2156
  let v2161 : BitVec 32 := Scalar.addi v2155 v2154
  let v2162 : BitVec 32 := Scalar.select v2160 v2161 v2155
  let c8_i32_1220 : BitVec 32 := 8#32
  let v2163 : BitVec 1 := Scalar.cmpi .sge v2162 c8_i32_1220
  let v2164 : BitVec 32 := Scalar.extui v2163
  let c0_i32_1223 : BitVec 32 := 0#32
  let v2165 : BitVec 1 := Scalar.cmpi .ne v2164 c0_i32_1223
  v2165

def k0_off33 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_669 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c5_i32_662 : BitVec 32 := 5#32
  let v1251 : BitVec 32 := Scalar.subi v69 c5_i32_662
  let c16_i32_663 : BitVec 32 := 16#32
  let c0_i32_664 : BitVec 32 := 0#32
  let v1252 : BitVec 1 := Scalar.cmpi .eq c16_i32_663 c0_i32_664
  let c1_i32_665 : BitVec 32 := 1#32
  let v1253 : BitVec 32 := Scalar.select v1252 c1_i32_665 c16_i32_663
  let v1254 : BitVec 32 := Scalar.remsi v1251 v1253
  let c0_i32_667 : BitVec 32 := 0#32
  let v1256 : BitVec 1 := Scalar.cmpi .slt v1254 c0_i32_667
  let c0_i32_668 : BitVec 32 := 0#32
  let v1257 : BitVec 1 := Scalar.cmpi .slt v1253 c0_i32_668
  let v1258 : BitVec 1 := Scalar.xori v1256 v1257
  let c0_i32_666 : BitVec 32 := 0#32
  let v1255 : BitVec 1 := Scalar.cmpi .ne v1254 c0_i32_666
  let v1259 : BitVec 1 := Scalar.andi v1258 v1255
  let v1260 : BitVec 32 := Scalar.addi v1254 v1253
  let v1261 : BitVec 32 := Scalar.select v1259 v1260 v1254
  let v1262 : BitVec 32 := Scalar.muli c16_i32_669 v1261
  let v1263 : BitVec 32 := Scalar.addi v915 v1262
  let c0_i32_2594 : BitVec 32 := 0#32
  ![v1263.toNat, 0]
def k0_dev38 (d0 : Dev nD) : Nat :=
  let c0_i32_2591 : BitVec 32 := 0#32
  let c8_i32_683 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c5_i32_662 : BitVec 32 := 5#32
  let v1251 : BitVec 32 := Scalar.subi v69 c5_i32_662
  let c16_i32_663 : BitVec 32 := 16#32
  let c0_i32_664 : BitVec 32 := 0#32
  let v1252 : BitVec 1 := Scalar.cmpi .eq c16_i32_663 c0_i32_664
  let c1_i32_665 : BitVec 32 := 1#32
  let v1253 : BitVec 32 := Scalar.select v1252 c1_i32_665 c16_i32_663
  let v1254 : BitVec 32 := Scalar.remsi v1251 v1253
  let c0_i32_667 : BitVec 32 := 0#32
  let v1256 : BitVec 1 := Scalar.cmpi .slt v1254 c0_i32_667
  let c0_i32_668 : BitVec 32 := 0#32
  let v1257 : BitVec 1 := Scalar.cmpi .slt v1253 c0_i32_668
  let v1258 : BitVec 1 := Scalar.xori v1256 v1257
  let c0_i32_666 : BitVec 32 := 0#32
  let v1255 : BitVec 1 := Scalar.cmpi .ne v1254 c0_i32_666
  let v1259 : BitVec 1 := Scalar.andi v1258 v1255
  let v1260 : BitVec 32 := Scalar.addi v1254 v1253
  let v1261 : BitVec 32 := Scalar.select v1259 v1260 v1254
  let c4_i32_677 : BitVec 32 := 4#32
  let c0_i32_678 : BitVec 32 := 0#32
  let v1281 : BitVec 1 := Scalar.cmpi .eq c4_i32_677 c0_i32_678
  let c1_i32_679 : BitVec 32 := 1#32
  let v1282 : BitVec 32 := Scalar.select v1281 c1_i32_679 c4_i32_677
  let v1283 : BitVec 32 := Scalar.remsi v1261 v1282
  let c0_i32_681 : BitVec 32 := 0#32
  let v1285 : BitVec 1 := Scalar.cmpi .slt v1283 c0_i32_681
  let c0_i32_682 : BitVec 32 := 0#32
  let v1286 : BitVec 1 := Scalar.cmpi .slt v1282 c0_i32_682
  let v1287 : BitVec 1 := Scalar.xori v1285 v1286
  let c0_i32_680 : BitVec 32 := 0#32
  let v1284 : BitVec 1 := Scalar.cmpi .ne v1283 c0_i32_680
  let v1288 : BitVec 1 := Scalar.andi v1287 v1284
  let v1289 : BitVec 32 := Scalar.addi v1283 v1282
  let v1290 : BitVec 32 := Scalar.select v1288 v1289 v1283
  let v1291 : BitVec 32 := Scalar.muli c8_i32_683 v1290
  let c2_i32_684 : BitVec 32 := 2#32
  let c0_i32_671 : BitVec 32 := 0#32
  let v1265 : BitVec 1 := Scalar.cmpi .sgt v1261 c0_i32_671
  let v1266 : BitVec 32 := Scalar.extui v1265
  let c0_i32_672 : BitVec 32 := 0#32
  let v1267 : BitVec 1 := Scalar.cmpi .slt v1261 c0_i32_672
  let v1268 : BitVec 32 := Scalar.extui v1267
  let v1269 : BitVec 32 := Scalar.subi v1266 v1268
  let c4_i32_670 : BitVec 32 := 4#32
  let c0_i32_673 : BitVec 32 := 0#32
  let v1270 : BitVec 1 := Scalar.cmpi .sgt c4_i32_670 c0_i32_673
  let v1271 : BitVec 32 := Scalar.extui v1270
  let c0_i32_674 : BitVec 32 := 0#32
  let v1272 : BitVec 1 := Scalar.cmpi .slt c4_i32_670 c0_i32_674
  let v1273 : BitVec 32 := Scalar.extui v1272
  let v1274 : BitVec 32 := Scalar.subi v1271 v1273
  let v1275 : BitVec 1 := Scalar.cmpi .ne v1269 v1274
  let v1276 : BitVec 32 := Scalar.remsi v1261 c4_i32_670
  let c0_i32_675 : BitVec 32 := 0#32
  let v1277 : BitVec 1 := Scalar.cmpi .ne v1276 c0_i32_675
  let v1278 : BitVec 1 := Scalar.andi v1275 v1277
  let v1264 : BitVec 32 := Scalar.divsi v1261 c4_i32_670
  let c1_i32_676 : BitVec 32 := 1#32
  let v1279 : BitVec 32 := Scalar.subi v1264 c1_i32_676
  let v1280 : BitVec 32 := Scalar.select v1278 v1279 v1264
  let v1292 : BitVec 32 := Scalar.muli c2_i32_684 v1280
  let v1293 : BitVec 32 := Scalar.addi v1291 v1292
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_685 : BitVec 32 := 2#32
  let c0_i32_686 : BitVec 32 := 0#32
  let v1294 : BitVec 1 := Scalar.cmpi .eq c2_i32_685 c0_i32_686
  let c1_i32_687 : BitVec 32 := 1#32
  let v1295 : BitVec 32 := Scalar.select v1294 c1_i32_687 c2_i32_685
  let v1296 : BitVec 32 := Scalar.remsi v1280 v1295
  let c0_i32_689 : BitVec 32 := 0#32
  let v1298 : BitVec 1 := Scalar.cmpi .slt v1296 c0_i32_689
  let c0_i32_690 : BitVec 32 := 0#32
  let v1299 : BitVec 1 := Scalar.cmpi .slt v1295 c0_i32_690
  let v1300 : BitVec 1 := Scalar.xori v1298 v1299
  let c0_i32_688 : BitVec 32 := 0#32
  let v1297 : BitVec 1 := Scalar.cmpi .ne v1296 c0_i32_688
  let v1301 : BitVec 1 := Scalar.andi v1300 v1297
  let v1302 : BitVec 32 := Scalar.addi v1296 v1295
  let v1303 : BitVec 32 := Scalar.select v1301 v1302 v1296
  let v1304 : BitVec 32 := Scalar.xori v67 v1303
  let v1305 : BitVec 32 := Scalar.addi v1293 v1304
  let c1_i32_2590 : BitVec 32 := 1#32
  let v4061 : BitVec 32 := Scalar.muli v1305 c1_i32_2590
  let v4062 : BitVec 32 := Scalar.addi c0_i32_2591 v4061
  v4062.toNat
def k0_cond21 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c6_i32_1224 : BitVec 32 := 6#32
  let v2166 : BitVec 32 := Scalar.subi v69 c6_i32_1224
  let c16_i32_1225 : BitVec 32 := 16#32
  let c0_i32_1226 : BitVec 32 := 0#32
  let v2167 : BitVec 1 := Scalar.cmpi .eq c16_i32_1225 c0_i32_1226
  let c1_i32_1227 : BitVec 32 := 1#32
  let v2168 : BitVec 32 := Scalar.select v2167 c1_i32_1227 c16_i32_1225
  let v2169 : BitVec 32 := Scalar.remsi v2166 v2168
  let c0_i32_1229 : BitVec 32 := 0#32
  let v2171 : BitVec 1 := Scalar.cmpi .slt v2169 c0_i32_1229
  let c0_i32_1230 : BitVec 32 := 0#32
  let v2172 : BitVec 1 := Scalar.cmpi .slt v2168 c0_i32_1230
  let v2173 : BitVec 1 := Scalar.xori v2171 v2172
  let c0_i32_1228 : BitVec 32 := 0#32
  let v2170 : BitVec 1 := Scalar.cmpi .ne v2169 c0_i32_1228
  let v2174 : BitVec 1 := Scalar.andi v2173 v2170
  let v2175 : BitVec 32 := Scalar.addi v2169 v2168
  let v2176 : BitVec 32 := Scalar.select v2174 v2175 v2169
  let c8_i32_1231 : BitVec 32 := 8#32
  let v2177 : BitVec 1 := Scalar.cmpi .sge v2176 c8_i32_1231
  let v2178 : BitVec 32 := Scalar.extui v2177
  let c0_i32_1234 : BitVec 32 := 0#32
  let v2179 : BitVec 1 := Scalar.cmpi .ne v2178 c0_i32_1234
  v2179

def k0_off34 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_698 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c6_i32_691 : BitVec 32 := 6#32
  let v1306 : BitVec 32 := Scalar.subi v69 c6_i32_691
  let c16_i32_692 : BitVec 32 := 16#32
  let c0_i32_693 : BitVec 32 := 0#32
  let v1307 : BitVec 1 := Scalar.cmpi .eq c16_i32_692 c0_i32_693
  let c1_i32_694 : BitVec 32 := 1#32
  let v1308 : BitVec 32 := Scalar.select v1307 c1_i32_694 c16_i32_692
  let v1309 : BitVec 32 := Scalar.remsi v1306 v1308
  let c0_i32_696 : BitVec 32 := 0#32
  let v1311 : BitVec 1 := Scalar.cmpi .slt v1309 c0_i32_696
  let c0_i32_697 : BitVec 32 := 0#32
  let v1312 : BitVec 1 := Scalar.cmpi .slt v1308 c0_i32_697
  let v1313 : BitVec 1 := Scalar.xori v1311 v1312
  let c0_i32_695 : BitVec 32 := 0#32
  let v1310 : BitVec 1 := Scalar.cmpi .ne v1309 c0_i32_695
  let v1314 : BitVec 1 := Scalar.andi v1313 v1310
  let v1315 : BitVec 32 := Scalar.addi v1309 v1308
  let v1316 : BitVec 32 := Scalar.select v1314 v1315 v1309
  let v1317 : BitVec 32 := Scalar.muli c16_i32_698 v1316
  let v1318 : BitVec 32 := Scalar.addi v915 v1317
  let c0_i32_2594 : BitVec 32 := 0#32
  ![v1318.toNat, 0]
def k0_dev39 (d0 : Dev nD) : Nat :=
  let c0_i32_2591 : BitVec 32 := 0#32
  let c8_i32_712 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c6_i32_691 : BitVec 32 := 6#32
  let v1306 : BitVec 32 := Scalar.subi v69 c6_i32_691
  let c16_i32_692 : BitVec 32 := 16#32
  let c0_i32_693 : BitVec 32 := 0#32
  let v1307 : BitVec 1 := Scalar.cmpi .eq c16_i32_692 c0_i32_693
  let c1_i32_694 : BitVec 32 := 1#32
  let v1308 : BitVec 32 := Scalar.select v1307 c1_i32_694 c16_i32_692
  let v1309 : BitVec 32 := Scalar.remsi v1306 v1308
  let c0_i32_696 : BitVec 32 := 0#32
  let v1311 : BitVec 1 := Scalar.cmpi .slt v1309 c0_i32_696
  let c0_i32_697 : BitVec 32 := 0#32
  let v1312 : BitVec 1 := Scalar.cmpi .slt v1308 c0_i32_697
  let v1313 : BitVec 1 := Scalar.xori v1311 v1312
  let c0_i32_695 : BitVec 32 := 0#32
  let v1310 : BitVec 1 := Scalar.cmpi .ne v1309 c0_i32_695
  let v1314 : BitVec 1 := Scalar.andi v1313 v1310
  let v1315 : BitVec 32 := Scalar.addi v1309 v1308
  let v1316 : BitVec 32 := Scalar.select v1314 v1315 v1309
  let c4_i32_706 : BitVec 32 := 4#32
  let c0_i32_707 : BitVec 32 := 0#32
  let v1336 : BitVec 1 := Scalar.cmpi .eq c4_i32_706 c0_i32_707
  let c1_i32_708 : BitVec 32 := 1#32
  let v1337 : BitVec 32 := Scalar.select v1336 c1_i32_708 c4_i32_706
  let v1338 : BitVec 32 := Scalar.remsi v1316 v1337
  let c0_i32_710 : BitVec 32 := 0#32
  let v1340 : BitVec 1 := Scalar.cmpi .slt v1338 c0_i32_710
  let c0_i32_711 : BitVec 32 := 0#32
  let v1341 : BitVec 1 := Scalar.cmpi .slt v1337 c0_i32_711
  let v1342 : BitVec 1 := Scalar.xori v1340 v1341
  let c0_i32_709 : BitVec 32 := 0#32
  let v1339 : BitVec 1 := Scalar.cmpi .ne v1338 c0_i32_709
  let v1343 : BitVec 1 := Scalar.andi v1342 v1339
  let v1344 : BitVec 32 := Scalar.addi v1338 v1337
  let v1345 : BitVec 32 := Scalar.select v1343 v1344 v1338
  let v1346 : BitVec 32 := Scalar.muli c8_i32_712 v1345
  let c2_i32_713 : BitVec 32 := 2#32
  let c0_i32_700 : BitVec 32 := 0#32
  let v1320 : BitVec 1 := Scalar.cmpi .sgt v1316 c0_i32_700
  let v1321 : BitVec 32 := Scalar.extui v1320
  let c0_i32_701 : BitVec 32 := 0#32
  let v1322 : BitVec 1 := Scalar.cmpi .slt v1316 c0_i32_701
  let v1323 : BitVec 32 := Scalar.extui v1322
  let v1324 : BitVec 32 := Scalar.subi v1321 v1323
  let c4_i32_699 : BitVec 32 := 4#32
  let c0_i32_702 : BitVec 32 := 0#32
  let v1325 : BitVec 1 := Scalar.cmpi .sgt c4_i32_699 c0_i32_702
  let v1326 : BitVec 32 := Scalar.extui v1325
  let c0_i32_703 : BitVec 32 := 0#32
  let v1327 : BitVec 1 := Scalar.cmpi .slt c4_i32_699 c0_i32_703
  let v1328 : BitVec 32 := Scalar.extui v1327
  let v1329 : BitVec 32 := Scalar.subi v1326 v1328
  let v1330 : BitVec 1 := Scalar.cmpi .ne v1324 v1329
  let v1331 : BitVec 32 := Scalar.remsi v1316 c4_i32_699
  let c0_i32_704 : BitVec 32 := 0#32
  let v1332 : BitVec 1 := Scalar.cmpi .ne v1331 c0_i32_704
  let v1333 : BitVec 1 := Scalar.andi v1330 v1332
  let v1319 : BitVec 32 := Scalar.divsi v1316 c4_i32_699
  let c1_i32_705 : BitVec 32 := 1#32
  let v1334 : BitVec 32 := Scalar.subi v1319 c1_i32_705
  let v1335 : BitVec 32 := Scalar.select v1333 v1334 v1319
  let v1347 : BitVec 32 := Scalar.muli c2_i32_713 v1335
  let v1348 : BitVec 32 := Scalar.addi v1346 v1347
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_714 : BitVec 32 := 2#32
  let c0_i32_715 : BitVec 32 := 0#32
  let v1349 : BitVec 1 := Scalar.cmpi .eq c2_i32_714 c0_i32_715
  let c1_i32_716 : BitVec 32 := 1#32
  let v1350 : BitVec 32 := Scalar.select v1349 c1_i32_716 c2_i32_714
  let v1351 : BitVec 32 := Scalar.remsi v1335 v1350
  let c0_i32_718 : BitVec 32 := 0#32
  let v1353 : BitVec 1 := Scalar.cmpi .slt v1351 c0_i32_718
  let c0_i32_719 : BitVec 32 := 0#32
  let v1354 : BitVec 1 := Scalar.cmpi .slt v1350 c0_i32_719
  let v1355 : BitVec 1 := Scalar.xori v1353 v1354
  let c0_i32_717 : BitVec 32 := 0#32
  let v1352 : BitVec 1 := Scalar.cmpi .ne v1351 c0_i32_717
  let v1356 : BitVec 1 := Scalar.andi v1355 v1352
  let v1357 : BitVec 32 := Scalar.addi v1351 v1350
  let v1358 : BitVec 32 := Scalar.select v1356 v1357 v1351
  let v1359 : BitVec 32 := Scalar.xori v67 v1358
  let v1360 : BitVec 32 := Scalar.addi v1348 v1359
  let c1_i32_2590 : BitVec 32 := 1#32
  let v4061 : BitVec 32 := Scalar.muli v1360 c1_i32_2590
  let v4062 : BitVec 32 := Scalar.addi c0_i32_2591 v4061
  v4062.toNat
def k0_cond22 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c7_i32_1235 : BitVec 32 := 7#32
  let v2180 : BitVec 32 := Scalar.subi v69 c7_i32_1235
  let c16_i32_1236 : BitVec 32 := 16#32
  let c0_i32_1237 : BitVec 32 := 0#32
  let v2181 : BitVec 1 := Scalar.cmpi .eq c16_i32_1236 c0_i32_1237
  let c1_i32_1238 : BitVec 32 := 1#32
  let v2182 : BitVec 32 := Scalar.select v2181 c1_i32_1238 c16_i32_1236
  let v2183 : BitVec 32 := Scalar.remsi v2180 v2182
  let c0_i32_1240 : BitVec 32 := 0#32
  let v2185 : BitVec 1 := Scalar.cmpi .slt v2183 c0_i32_1240
  let c0_i32_1241 : BitVec 32 := 0#32
  let v2186 : BitVec 1 := Scalar.cmpi .slt v2182 c0_i32_1241
  let v2187 : BitVec 1 := Scalar.xori v2185 v2186
  let c0_i32_1239 : BitVec 32 := 0#32
  let v2184 : BitVec 1 := Scalar.cmpi .ne v2183 c0_i32_1239
  let v2188 : BitVec 1 := Scalar.andi v2187 v2184
  let v2189 : BitVec 32 := Scalar.addi v2183 v2182
  let v2190 : BitVec 32 := Scalar.select v2188 v2189 v2183
  let c8_i32_1242 : BitVec 32 := 8#32
  let v2191 : BitVec 1 := Scalar.cmpi .sge v2190 c8_i32_1242
  let v2192 : BitVec 32 := Scalar.extui v2191
  let c0_i32_1245 : BitVec 32 := 0#32
  let v2193 : BitVec 1 := Scalar.cmpi .ne v2192 c0_i32_1245
  v2193

def k0_off35 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_727 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c7_i32_720 : BitVec 32 := 7#32
  let v1361 : BitVec 32 := Scalar.subi v69 c7_i32_720
  let c16_i32_721 : BitVec 32 := 16#32
  let c0_i32_722 : BitVec 32 := 0#32
  let v1362 : BitVec 1 := Scalar.cmpi .eq c16_i32_721 c0_i32_722
  let c1_i32_723 : BitVec 32 := 1#32
  let v1363 : BitVec 32 := Scalar.select v1362 c1_i32_723 c16_i32_721
  let v1364 : BitVec 32 := Scalar.remsi v1361 v1363
  let c0_i32_725 : BitVec 32 := 0#32
  let v1366 : BitVec 1 := Scalar.cmpi .slt v1364 c0_i32_725
  let c0_i32_726 : BitVec 32 := 0#32
  let v1367 : BitVec 1 := Scalar.cmpi .slt v1363 c0_i32_726
  let v1368 : BitVec 1 := Scalar.xori v1366 v1367
  let c0_i32_724 : BitVec 32 := 0#32
  let v1365 : BitVec 1 := Scalar.cmpi .ne v1364 c0_i32_724
  let v1369 : BitVec 1 := Scalar.andi v1368 v1365
  let v1370 : BitVec 32 := Scalar.addi v1364 v1363
  let v1371 : BitVec 32 := Scalar.select v1369 v1370 v1364
  let v1372 : BitVec 32 := Scalar.muli c16_i32_727 v1371
  let v1373 : BitVec 32 := Scalar.addi v915 v1372
  let c0_i32_2594 : BitVec 32 := 0#32
  ![v1373.toNat, 0]
def k0_dev40 (d0 : Dev nD) : Nat :=
  let c0_i32_2591 : BitVec 32 := 0#32
  let c8_i32_741 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c7_i32_720 : BitVec 32 := 7#32
  let v1361 : BitVec 32 := Scalar.subi v69 c7_i32_720
  let c16_i32_721 : BitVec 32 := 16#32
  let c0_i32_722 : BitVec 32 := 0#32
  let v1362 : BitVec 1 := Scalar.cmpi .eq c16_i32_721 c0_i32_722
  let c1_i32_723 : BitVec 32 := 1#32
  let v1363 : BitVec 32 := Scalar.select v1362 c1_i32_723 c16_i32_721
  let v1364 : BitVec 32 := Scalar.remsi v1361 v1363
  let c0_i32_725 : BitVec 32 := 0#32
  let v1366 : BitVec 1 := Scalar.cmpi .slt v1364 c0_i32_725
  let c0_i32_726 : BitVec 32 := 0#32
  let v1367 : BitVec 1 := Scalar.cmpi .slt v1363 c0_i32_726
  let v1368 : BitVec 1 := Scalar.xori v1366 v1367
  let c0_i32_724 : BitVec 32 := 0#32
  let v1365 : BitVec 1 := Scalar.cmpi .ne v1364 c0_i32_724
  let v1369 : BitVec 1 := Scalar.andi v1368 v1365
  let v1370 : BitVec 32 := Scalar.addi v1364 v1363
  let v1371 : BitVec 32 := Scalar.select v1369 v1370 v1364
  let c4_i32_735 : BitVec 32 := 4#32
  let c0_i32_736 : BitVec 32 := 0#32
  let v1391 : BitVec 1 := Scalar.cmpi .eq c4_i32_735 c0_i32_736
  let c1_i32_737 : BitVec 32 := 1#32
  let v1392 : BitVec 32 := Scalar.select v1391 c1_i32_737 c4_i32_735
  let v1393 : BitVec 32 := Scalar.remsi v1371 v1392
  let c0_i32_739 : BitVec 32 := 0#32
  let v1395 : BitVec 1 := Scalar.cmpi .slt v1393 c0_i32_739
  let c0_i32_740 : BitVec 32 := 0#32
  let v1396 : BitVec 1 := Scalar.cmpi .slt v1392 c0_i32_740
  let v1397 : BitVec 1 := Scalar.xori v1395 v1396
  let c0_i32_738 : BitVec 32 := 0#32
  let v1394 : BitVec 1 := Scalar.cmpi .ne v1393 c0_i32_738
  let v1398 : BitVec 1 := Scalar.andi v1397 v1394
  let v1399 : BitVec 32 := Scalar.addi v1393 v1392
  let v1400 : BitVec 32 := Scalar.select v1398 v1399 v1393
  let v1401 : BitVec 32 := Scalar.muli c8_i32_741 v1400
  let c2_i32_742 : BitVec 32 := 2#32
  let c0_i32_729 : BitVec 32 := 0#32
  let v1375 : BitVec 1 := Scalar.cmpi .sgt v1371 c0_i32_729
  let v1376 : BitVec 32 := Scalar.extui v1375
  let c0_i32_730 : BitVec 32 := 0#32
  let v1377 : BitVec 1 := Scalar.cmpi .slt v1371 c0_i32_730
  let v1378 : BitVec 32 := Scalar.extui v1377
  let v1379 : BitVec 32 := Scalar.subi v1376 v1378
  let c4_i32_728 : BitVec 32 := 4#32
  let c0_i32_731 : BitVec 32 := 0#32
  let v1380 : BitVec 1 := Scalar.cmpi .sgt c4_i32_728 c0_i32_731
  let v1381 : BitVec 32 := Scalar.extui v1380
  let c0_i32_732 : BitVec 32 := 0#32
  let v1382 : BitVec 1 := Scalar.cmpi .slt c4_i32_728 c0_i32_732
  let v1383 : BitVec 32 := Scalar.extui v1382
  let v1384 : BitVec 32 := Scalar.subi v1381 v1383
  let v1385 : BitVec 1 := Scalar.cmpi .ne v1379 v1384
  let v1386 : BitVec 32 := Scalar.remsi v1371 c4_i32_728
  let c0_i32_733 : BitVec 32 := 0#32
  let v1387 : BitVec 1 := Scalar.cmpi .ne v1386 c0_i32_733
  let v1388 : BitVec 1 := Scalar.andi v1385 v1387
  let v1374 : BitVec 32 := Scalar.divsi v1371 c4_i32_728
  let c1_i32_734 : BitVec 32 := 1#32
  let v1389 : BitVec 32 := Scalar.subi v1374 c1_i32_734
  let v1390 : BitVec 32 := Scalar.select v1388 v1389 v1374
  let v1402 : BitVec 32 := Scalar.muli c2_i32_742 v1390
  let v1403 : BitVec 32 := Scalar.addi v1401 v1402
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_743 : BitVec 32 := 2#32
  let c0_i32_744 : BitVec 32 := 0#32
  let v1404 : BitVec 1 := Scalar.cmpi .eq c2_i32_743 c0_i32_744
  let c1_i32_745 : BitVec 32 := 1#32
  let v1405 : BitVec 32 := Scalar.select v1404 c1_i32_745 c2_i32_743
  let v1406 : BitVec 32 := Scalar.remsi v1390 v1405
  let c0_i32_747 : BitVec 32 := 0#32
  let v1408 : BitVec 1 := Scalar.cmpi .slt v1406 c0_i32_747
  let c0_i32_748 : BitVec 32 := 0#32
  let v1409 : BitVec 1 := Scalar.cmpi .slt v1405 c0_i32_748
  let v1410 : BitVec 1 := Scalar.xori v1408 v1409
  let c0_i32_746 : BitVec 32 := 0#32
  let v1407 : BitVec 1 := Scalar.cmpi .ne v1406 c0_i32_746
  let v1411 : BitVec 1 := Scalar.andi v1410 v1407
  let v1412 : BitVec 32 := Scalar.addi v1406 v1405
  let v1413 : BitVec 32 := Scalar.select v1411 v1412 v1406
  let v1414 : BitVec 32 := Scalar.xori v67 v1413
  let v1415 : BitVec 32 := Scalar.addi v1403 v1414
  let c1_i32_2590 : BitVec 32 := 1#32
  let v4061 : BitVec 32 := Scalar.muli v1415 c1_i32_2590
  let v4062 : BitVec 32 := Scalar.addi c0_i32_2591 v4061
  v4062.toNat
def k0_cond23 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c8_i32_1246 : BitVec 32 := 8#32
  let v2194 : BitVec 32 := Scalar.subi v69 c8_i32_1246
  let c16_i32_1247 : BitVec 32 := 16#32
  let c0_i32_1248 : BitVec 32 := 0#32
  let v2195 : BitVec 1 := Scalar.cmpi .eq c16_i32_1247 c0_i32_1248
  let c1_i32_1249 : BitVec 32 := 1#32
  let v2196 : BitVec 32 := Scalar.select v2195 c1_i32_1249 c16_i32_1247
  let v2197 : BitVec 32 := Scalar.remsi v2194 v2196
  let c0_i32_1251 : BitVec 32 := 0#32
  let v2199 : BitVec 1 := Scalar.cmpi .slt v2197 c0_i32_1251
  let c0_i32_1252 : BitVec 32 := 0#32
  let v2200 : BitVec 1 := Scalar.cmpi .slt v2196 c0_i32_1252
  let v2201 : BitVec 1 := Scalar.xori v2199 v2200
  let c0_i32_1250 : BitVec 32 := 0#32
  let v2198 : BitVec 1 := Scalar.cmpi .ne v2197 c0_i32_1250
  let v2202 : BitVec 1 := Scalar.andi v2201 v2198
  let v2203 : BitVec 32 := Scalar.addi v2197 v2196
  let v2204 : BitVec 32 := Scalar.select v2202 v2203 v2197
  let c8_i32_1253 : BitVec 32 := 8#32
  let v2205 : BitVec 1 := Scalar.cmpi .sge v2204 c8_i32_1253
  let v2206 : BitVec 32 := Scalar.extui v2205
  let c0_i32_1256 : BitVec 32 := 0#32
  let v2207 : BitVec 1 := Scalar.cmpi .ne v2206 c0_i32_1256
  v2207

def k0_off36 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_756 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c8_i32_749 : BitVec 32 := 8#32
  let v1416 : BitVec 32 := Scalar.subi v69 c8_i32_749
  let c16_i32_750 : BitVec 32 := 16#32
  let c0_i32_751 : BitVec 32 := 0#32
  let v1417 : BitVec 1 := Scalar.cmpi .eq c16_i32_750 c0_i32_751
  let c1_i32_752 : BitVec 32 := 1#32
  let v1418 : BitVec 32 := Scalar.select v1417 c1_i32_752 c16_i32_750
  let v1419 : BitVec 32 := Scalar.remsi v1416 v1418
  let c0_i32_754 : BitVec 32 := 0#32
  let v1421 : BitVec 1 := Scalar.cmpi .slt v1419 c0_i32_754
  let c0_i32_755 : BitVec 32 := 0#32
  let v1422 : BitVec 1 := Scalar.cmpi .slt v1418 c0_i32_755
  let v1423 : BitVec 1 := Scalar.xori v1421 v1422
  let c0_i32_753 : BitVec 32 := 0#32
  let v1420 : BitVec 1 := Scalar.cmpi .ne v1419 c0_i32_753
  let v1424 : BitVec 1 := Scalar.andi v1423 v1420
  let v1425 : BitVec 32 := Scalar.addi v1419 v1418
  let v1426 : BitVec 32 := Scalar.select v1424 v1425 v1419
  let v1427 : BitVec 32 := Scalar.muli c16_i32_756 v1426
  let v1428 : BitVec 32 := Scalar.addi v915 v1427
  let c0_i32_2594 : BitVec 32 := 0#32
  ![v1428.toNat, 0]
def k0_dev41 (d0 : Dev nD) : Nat :=
  let c0_i32_2591 : BitVec 32 := 0#32
  let c8_i32_770 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c8_i32_749 : BitVec 32 := 8#32
  let v1416 : BitVec 32 := Scalar.subi v69 c8_i32_749
  let c16_i32_750 : BitVec 32 := 16#32
  let c0_i32_751 : BitVec 32 := 0#32
  let v1417 : BitVec 1 := Scalar.cmpi .eq c16_i32_750 c0_i32_751
  let c1_i32_752 : BitVec 32 := 1#32
  let v1418 : BitVec 32 := Scalar.select v1417 c1_i32_752 c16_i32_750
  let v1419 : BitVec 32 := Scalar.remsi v1416 v1418
  let c0_i32_754 : BitVec 32 := 0#32
  let v1421 : BitVec 1 := Scalar.cmpi .slt v1419 c0_i32_754
  let c0_i32_755 : BitVec 32 := 0#32
  let v1422 : BitVec 1 := Scalar.cmpi .slt v1418 c0_i32_755
  let v1423 : BitVec 1 := Scalar.xori v1421 v1422
  let c0_i32_753 : BitVec 32 := 0#32
  let v1420 : BitVec 1 := Scalar.cmpi .ne v1419 c0_i32_753
  let v1424 : BitVec 1 := Scalar.andi v1423 v1420
  let v1425 : BitVec 32 := Scalar.addi v1419 v1418
  let v1426 : BitVec 32 := Scalar.select v1424 v1425 v1419
  let c4_i32_764 : BitVec 32 := 4#32
  let c0_i32_765 : BitVec 32 := 0#32
  let v1446 : BitVec 1 := Scalar.cmpi .eq c4_i32_764 c0_i32_765
  let c1_i32_766 : BitVec 32 := 1#32
  let v1447 : BitVec 32 := Scalar.select v1446 c1_i32_766 c4_i32_764
  let v1448 : BitVec 32 := Scalar.remsi v1426 v1447
  let c0_i32_768 : BitVec 32 := 0#32
  let v1450 : BitVec 1 := Scalar.cmpi .slt v1448 c0_i32_768
  let c0_i32_769 : BitVec 32 := 0#32
  let v1451 : BitVec 1 := Scalar.cmpi .slt v1447 c0_i32_769
  let v1452 : BitVec 1 := Scalar.xori v1450 v1451
  let c0_i32_767 : BitVec 32 := 0#32
  let v1449 : BitVec 1 := Scalar.cmpi .ne v1448 c0_i32_767
  let v1453 : BitVec 1 := Scalar.andi v1452 v1449
  let v1454 : BitVec 32 := Scalar.addi v1448 v1447
  let v1455 : BitVec 32 := Scalar.select v1453 v1454 v1448
  let v1456 : BitVec 32 := Scalar.muli c8_i32_770 v1455
  let c2_i32_771 : BitVec 32 := 2#32
  let c0_i32_758 : BitVec 32 := 0#32
  let v1430 : BitVec 1 := Scalar.cmpi .sgt v1426 c0_i32_758
  let v1431 : BitVec 32 := Scalar.extui v1430
  let c0_i32_759 : BitVec 32 := 0#32
  let v1432 : BitVec 1 := Scalar.cmpi .slt v1426 c0_i32_759
  let v1433 : BitVec 32 := Scalar.extui v1432
  let v1434 : BitVec 32 := Scalar.subi v1431 v1433
  let c4_i32_757 : BitVec 32 := 4#32
  let c0_i32_760 : BitVec 32 := 0#32
  let v1435 : BitVec 1 := Scalar.cmpi .sgt c4_i32_757 c0_i32_760
  let v1436 : BitVec 32 := Scalar.extui v1435
  let c0_i32_761 : BitVec 32 := 0#32
  let v1437 : BitVec 1 := Scalar.cmpi .slt c4_i32_757 c0_i32_761
  let v1438 : BitVec 32 := Scalar.extui v1437
  let v1439 : BitVec 32 := Scalar.subi v1436 v1438
  let v1440 : BitVec 1 := Scalar.cmpi .ne v1434 v1439
  let v1441 : BitVec 32 := Scalar.remsi v1426 c4_i32_757
  let c0_i32_762 : BitVec 32 := 0#32
  let v1442 : BitVec 1 := Scalar.cmpi .ne v1441 c0_i32_762
  let v1443 : BitVec 1 := Scalar.andi v1440 v1442
  let v1429 : BitVec 32 := Scalar.divsi v1426 c4_i32_757
  let c1_i32_763 : BitVec 32 := 1#32
  let v1444 : BitVec 32 := Scalar.subi v1429 c1_i32_763
  let v1445 : BitVec 32 := Scalar.select v1443 v1444 v1429
  let v1457 : BitVec 32 := Scalar.muli c2_i32_771 v1445
  let v1458 : BitVec 32 := Scalar.addi v1456 v1457
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_772 : BitVec 32 := 2#32
  let c0_i32_773 : BitVec 32 := 0#32
  let v1459 : BitVec 1 := Scalar.cmpi .eq c2_i32_772 c0_i32_773
  let c1_i32_774 : BitVec 32 := 1#32
  let v1460 : BitVec 32 := Scalar.select v1459 c1_i32_774 c2_i32_772
  let v1461 : BitVec 32 := Scalar.remsi v1445 v1460
  let c0_i32_776 : BitVec 32 := 0#32
  let v1463 : BitVec 1 := Scalar.cmpi .slt v1461 c0_i32_776
  let c0_i32_777 : BitVec 32 := 0#32
  let v1464 : BitVec 1 := Scalar.cmpi .slt v1460 c0_i32_777
  let v1465 : BitVec 1 := Scalar.xori v1463 v1464
  let c0_i32_775 : BitVec 32 := 0#32
  let v1462 : BitVec 1 := Scalar.cmpi .ne v1461 c0_i32_775
  let v1466 : BitVec 1 := Scalar.andi v1465 v1462
  let v1467 : BitVec 32 := Scalar.addi v1461 v1460
  let v1468 : BitVec 32 := Scalar.select v1466 v1467 v1461
  let v1469 : BitVec 32 := Scalar.xori v67 v1468
  let v1470 : BitVec 32 := Scalar.addi v1458 v1469
  let c1_i32_2590 : BitVec 32 := 1#32
  let v4061 : BitVec 32 := Scalar.muli v1470 c1_i32_2590
  let v4062 : BitVec 32 := Scalar.addi c0_i32_2591 v4061
  v4062.toNat
def k0_cond24 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c9_i32_1257 : BitVec 32 := 9#32
  let v2208 : BitVec 32 := Scalar.subi v69 c9_i32_1257
  let c16_i32_1258 : BitVec 32 := 16#32
  let c0_i32_1259 : BitVec 32 := 0#32
  let v2209 : BitVec 1 := Scalar.cmpi .eq c16_i32_1258 c0_i32_1259
  let c1_i32_1260 : BitVec 32 := 1#32
  let v2210 : BitVec 32 := Scalar.select v2209 c1_i32_1260 c16_i32_1258
  let v2211 : BitVec 32 := Scalar.remsi v2208 v2210
  let c0_i32_1262 : BitVec 32 := 0#32
  let v2213 : BitVec 1 := Scalar.cmpi .slt v2211 c0_i32_1262
  let c0_i32_1263 : BitVec 32 := 0#32
  let v2214 : BitVec 1 := Scalar.cmpi .slt v2210 c0_i32_1263
  let v2215 : BitVec 1 := Scalar.xori v2213 v2214
  let c0_i32_1261 : BitVec 32 := 0#32
  let v2212 : BitVec 1 := Scalar.cmpi .ne v2211 c0_i32_1261
  let v2216 : BitVec 1 := Scalar.andi v2215 v2212
  let v2217 : BitVec 32 := Scalar.addi v2211 v2210
  let v2218 : BitVec 32 := Scalar.select v2216 v2217 v2211
  let c8_i32_1264 : BitVec 32 := 8#32
  let v2219 : BitVec 1 := Scalar.cmpi .sge v2218 c8_i32_1264
  let v2220 : BitVec 32 := Scalar.extui v2219
  let c0_i32_1267 : BitVec 32 := 0#32
  let v2221 : BitVec 1 := Scalar.cmpi .ne v2220 c0_i32_1267
  v2221

def k0_off37 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_785 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c9_i32_778 : BitVec 32 := 9#32
  let v1471 : BitVec 32 := Scalar.subi v69 c9_i32_778
  let c16_i32_779 : BitVec 32 := 16#32
  let c0_i32_780 : BitVec 32 := 0#32
  let v1472 : BitVec 1 := Scalar.cmpi .eq c16_i32_779 c0_i32_780
  let c1_i32_781 : BitVec 32 := 1#32
  let v1473 : BitVec 32 := Scalar.select v1472 c1_i32_781 c16_i32_779
  let v1474 : BitVec 32 := Scalar.remsi v1471 v1473
  let c0_i32_783 : BitVec 32 := 0#32
  let v1476 : BitVec 1 := Scalar.cmpi .slt v1474 c0_i32_783
  let c0_i32_784 : BitVec 32 := 0#32
  let v1477 : BitVec 1 := Scalar.cmpi .slt v1473 c0_i32_784
  let v1478 : BitVec 1 := Scalar.xori v1476 v1477
  let c0_i32_782 : BitVec 32 := 0#32
  let v1475 : BitVec 1 := Scalar.cmpi .ne v1474 c0_i32_782
  let v1479 : BitVec 1 := Scalar.andi v1478 v1475
  let v1480 : BitVec 32 := Scalar.addi v1474 v1473
  let v1481 : BitVec 32 := Scalar.select v1479 v1480 v1474
  let v1482 : BitVec 32 := Scalar.muli c16_i32_785 v1481
  let v1483 : BitVec 32 := Scalar.addi v915 v1482
  let c0_i32_2594 : BitVec 32 := 0#32
  ![v1483.toNat, 0]
def k0_dev42 (d0 : Dev nD) : Nat :=
  let c0_i32_2591 : BitVec 32 := 0#32
  let c8_i32_799 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c9_i32_778 : BitVec 32 := 9#32
  let v1471 : BitVec 32 := Scalar.subi v69 c9_i32_778
  let c16_i32_779 : BitVec 32 := 16#32
  let c0_i32_780 : BitVec 32 := 0#32
  let v1472 : BitVec 1 := Scalar.cmpi .eq c16_i32_779 c0_i32_780
  let c1_i32_781 : BitVec 32 := 1#32
  let v1473 : BitVec 32 := Scalar.select v1472 c1_i32_781 c16_i32_779
  let v1474 : BitVec 32 := Scalar.remsi v1471 v1473
  let c0_i32_783 : BitVec 32 := 0#32
  let v1476 : BitVec 1 := Scalar.cmpi .slt v1474 c0_i32_783
  let c0_i32_784 : BitVec 32 := 0#32
  let v1477 : BitVec 1 := Scalar.cmpi .slt v1473 c0_i32_784
  let v1478 : BitVec 1 := Scalar.xori v1476 v1477
  let c0_i32_782 : BitVec 32 := 0#32
  let v1475 : BitVec 1 := Scalar.cmpi .ne v1474 c0_i32_782
  let v1479 : BitVec 1 := Scalar.andi v1478 v1475
  let v1480 : BitVec 32 := Scalar.addi v1474 v1473
  let v1481 : BitVec 32 := Scalar.select v1479 v1480 v1474
  let c4_i32_793 : BitVec 32 := 4#32
  let c0_i32_794 : BitVec 32 := 0#32
  let v1501 : BitVec 1 := Scalar.cmpi .eq c4_i32_793 c0_i32_794
  let c1_i32_795 : BitVec 32 := 1#32
  let v1502 : BitVec 32 := Scalar.select v1501 c1_i32_795 c4_i32_793
  let v1503 : BitVec 32 := Scalar.remsi v1481 v1502
  let c0_i32_797 : BitVec 32 := 0#32
  let v1505 : BitVec 1 := Scalar.cmpi .slt v1503 c0_i32_797
  let c0_i32_798 : BitVec 32 := 0#32
  let v1506 : BitVec 1 := Scalar.cmpi .slt v1502 c0_i32_798
  let v1507 : BitVec 1 := Scalar.xori v1505 v1506
  let c0_i32_796 : BitVec 32 := 0#32
  let v1504 : BitVec 1 := Scalar.cmpi .ne v1503 c0_i32_796
  let v1508 : BitVec 1 := Scalar.andi v1507 v1504
  let v1509 : BitVec 32 := Scalar.addi v1503 v1502
  let v1510 : BitVec 32 := Scalar.select v1508 v1509 v1503
  let v1511 : BitVec 32 := Scalar.muli c8_i32_799 v1510
  let c2_i32_800 : BitVec 32 := 2#32
  let c0_i32_787 : BitVec 32 := 0#32
  let v1485 : BitVec 1 := Scalar.cmpi .sgt v1481 c0_i32_787
  let v1486 : BitVec 32 := Scalar.extui v1485
  let c0_i32_788 : BitVec 32 := 0#32
  let v1487 : BitVec 1 := Scalar.cmpi .slt v1481 c0_i32_788
  let v1488 : BitVec 32 := Scalar.extui v1487
  let v1489 : BitVec 32 := Scalar.subi v1486 v1488
  let c4_i32_786 : BitVec 32 := 4#32
  let c0_i32_789 : BitVec 32 := 0#32
  let v1490 : BitVec 1 := Scalar.cmpi .sgt c4_i32_786 c0_i32_789
  let v1491 : BitVec 32 := Scalar.extui v1490
  let c0_i32_790 : BitVec 32 := 0#32
  let v1492 : BitVec 1 := Scalar.cmpi .slt c4_i32_786 c0_i32_790
  let v1493 : BitVec 32 := Scalar.extui v1492
  let v1494 : BitVec 32 := Scalar.subi v1491 v1493
  let v1495 : BitVec 1 := Scalar.cmpi .ne v1489 v1494
  let v1496 : BitVec 32 := Scalar.remsi v1481 c4_i32_786
  let c0_i32_791 : BitVec 32 := 0#32
  let v1497 : BitVec 1 := Scalar.cmpi .ne v1496 c0_i32_791
  let v1498 : BitVec 1 := Scalar.andi v1495 v1497
  let v1484 : BitVec 32 := Scalar.divsi v1481 c4_i32_786
  let c1_i32_792 : BitVec 32 := 1#32
  let v1499 : BitVec 32 := Scalar.subi v1484 c1_i32_792
  let v1500 : BitVec 32 := Scalar.select v1498 v1499 v1484
  let v1512 : BitVec 32 := Scalar.muli c2_i32_800 v1500
  let v1513 : BitVec 32 := Scalar.addi v1511 v1512
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_801 : BitVec 32 := 2#32
  let c0_i32_802 : BitVec 32 := 0#32
  let v1514 : BitVec 1 := Scalar.cmpi .eq c2_i32_801 c0_i32_802
  let c1_i32_803 : BitVec 32 := 1#32
  let v1515 : BitVec 32 := Scalar.select v1514 c1_i32_803 c2_i32_801
  let v1516 : BitVec 32 := Scalar.remsi v1500 v1515
  let c0_i32_805 : BitVec 32 := 0#32
  let v1518 : BitVec 1 := Scalar.cmpi .slt v1516 c0_i32_805
  let c0_i32_806 : BitVec 32 := 0#32
  let v1519 : BitVec 1 := Scalar.cmpi .slt v1515 c0_i32_806
  let v1520 : BitVec 1 := Scalar.xori v1518 v1519
  let c0_i32_804 : BitVec 32 := 0#32
  let v1517 : BitVec 1 := Scalar.cmpi .ne v1516 c0_i32_804
  let v1521 : BitVec 1 := Scalar.andi v1520 v1517
  let v1522 : BitVec 32 := Scalar.addi v1516 v1515
  let v1523 : BitVec 32 := Scalar.select v1521 v1522 v1516
  let v1524 : BitVec 32 := Scalar.xori v67 v1523
  let v1525 : BitVec 32 := Scalar.addi v1513 v1524
  let c1_i32_2590 : BitVec 32 := 1#32
  let v4061 : BitVec 32 := Scalar.muli v1525 c1_i32_2590
  let v4062 : BitVec 32 := Scalar.addi c0_i32_2591 v4061
  v4062.toNat
def k0_cond25 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c10_i32_1268 : BitVec 32 := 10#32
  let v2222 : BitVec 32 := Scalar.subi v69 c10_i32_1268
  let c16_i32_1269 : BitVec 32 := 16#32
  let c0_i32_1270 : BitVec 32 := 0#32
  let v2223 : BitVec 1 := Scalar.cmpi .eq c16_i32_1269 c0_i32_1270
  let c1_i32_1271 : BitVec 32 := 1#32
  let v2224 : BitVec 32 := Scalar.select v2223 c1_i32_1271 c16_i32_1269
  let v2225 : BitVec 32 := Scalar.remsi v2222 v2224
  let c0_i32_1273 : BitVec 32 := 0#32
  let v2227 : BitVec 1 := Scalar.cmpi .slt v2225 c0_i32_1273
  let c0_i32_1274 : BitVec 32 := 0#32
  let v2228 : BitVec 1 := Scalar.cmpi .slt v2224 c0_i32_1274
  let v2229 : BitVec 1 := Scalar.xori v2227 v2228
  let c0_i32_1272 : BitVec 32 := 0#32
  let v2226 : BitVec 1 := Scalar.cmpi .ne v2225 c0_i32_1272
  let v2230 : BitVec 1 := Scalar.andi v2229 v2226
  let v2231 : BitVec 32 := Scalar.addi v2225 v2224
  let v2232 : BitVec 32 := Scalar.select v2230 v2231 v2225
  let c8_i32_1275 : BitVec 32 := 8#32
  let v2233 : BitVec 1 := Scalar.cmpi .sge v2232 c8_i32_1275
  let v2234 : BitVec 32 := Scalar.extui v2233
  let c0_i32_1278 : BitVec 32 := 0#32
  let v2235 : BitVec 1 := Scalar.cmpi .ne v2234 c0_i32_1278
  v2235

def k0_off38 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_814 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c10_i32_807 : BitVec 32 := 10#32
  let v1526 : BitVec 32 := Scalar.subi v69 c10_i32_807
  let c16_i32_808 : BitVec 32 := 16#32
  let c0_i32_809 : BitVec 32 := 0#32
  let v1527 : BitVec 1 := Scalar.cmpi .eq c16_i32_808 c0_i32_809
  let c1_i32_810 : BitVec 32 := 1#32
  let v1528 : BitVec 32 := Scalar.select v1527 c1_i32_810 c16_i32_808
  let v1529 : BitVec 32 := Scalar.remsi v1526 v1528
  let c0_i32_812 : BitVec 32 := 0#32
  let v1531 : BitVec 1 := Scalar.cmpi .slt v1529 c0_i32_812
  let c0_i32_813 : BitVec 32 := 0#32
  let v1532 : BitVec 1 := Scalar.cmpi .slt v1528 c0_i32_813
  let v1533 : BitVec 1 := Scalar.xori v1531 v1532
  let c0_i32_811 : BitVec 32 := 0#32
  let v1530 : BitVec 1 := Scalar.cmpi .ne v1529 c0_i32_811
  let v1534 : BitVec 1 := Scalar.andi v1533 v1530
  let v1535 : BitVec 32 := Scalar.addi v1529 v1528
  let v1536 : BitVec 32 := Scalar.select v1534 v1535 v1529
  let v1537 : BitVec 32 := Scalar.muli c16_i32_814 v1536
  let v1538 : BitVec 32 := Scalar.addi v915 v1537
  let c0_i32_2594 : BitVec 32 := 0#32
  ![v1538.toNat, 0]
def k0_dev43 (d0 : Dev nD) : Nat :=
  let c0_i32_2591 : BitVec 32 := 0#32
  let c8_i32_828 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c10_i32_807 : BitVec 32 := 10#32
  let v1526 : BitVec 32 := Scalar.subi v69 c10_i32_807
  let c16_i32_808 : BitVec 32 := 16#32
  let c0_i32_809 : BitVec 32 := 0#32
  let v1527 : BitVec 1 := Scalar.cmpi .eq c16_i32_808 c0_i32_809
  let c1_i32_810 : BitVec 32 := 1#32
  let v1528 : BitVec 32 := Scalar.select v1527 c1_i32_810 c16_i32_808
  let v1529 : BitVec 32 := Scalar.remsi v1526 v1528
  let c0_i32_812 : BitVec 32 := 0#32
  let v1531 : BitVec 1 := Scalar.cmpi .slt v1529 c0_i32_812
  let c0_i32_813 : BitVec 32 := 0#32
  let v1532 : BitVec 1 := Scalar.cmpi .slt v1528 c0_i32_813
  let v1533 : BitVec 1 := Scalar.xori v1531 v1532
  let c0_i32_811 : BitVec 32 := 0#32
  let v1530 : BitVec 1 := Scalar.cmpi .ne v1529 c0_i32_811
  let v1534 : BitVec 1 := Scalar.andi v1533 v1530
  let v1535 : BitVec 32 := Scalar.addi v1529 v1528
  let v1536 : BitVec 32 := Scalar.select v1534 v1535 v1529
  let c4_i32_822 : BitVec 32 := 4#32
  let c0_i32_823 : BitVec 32 := 0#32
  let v1556 : BitVec 1 := Scalar.cmpi .eq c4_i32_822 c0_i32_823
  let c1_i32_824 : BitVec 32 := 1#32
  let v1557 : BitVec 32 := Scalar.select v1556 c1_i32_824 c4_i32_822
  let v1558 : BitVec 32 := Scalar.remsi v1536 v1557
  let c0_i32_826 : BitVec 32 := 0#32
  let v1560 : BitVec 1 := Scalar.cmpi .slt v1558 c0_i32_826
  let c0_i32_827 : BitVec 32 := 0#32
  let v1561 : BitVec 1 := Scalar.cmpi .slt v1557 c0_i32_827
  let v1562 : BitVec 1 := Scalar.xori v1560 v1561
  let c0_i32_825 : BitVec 32 := 0#32
  let v1559 : BitVec 1 := Scalar.cmpi .ne v1558 c0_i32_825
  let v1563 : BitVec 1 := Scalar.andi v1562 v1559
  let v1564 : BitVec 32 := Scalar.addi v1558 v1557
  let v1565 : BitVec 32 := Scalar.select v1563 v1564 v1558
  let v1566 : BitVec 32 := Scalar.muli c8_i32_828 v1565
  let c2_i32_829 : BitVec 32 := 2#32
  let c0_i32_816 : BitVec 32 := 0#32
  let v1540 : BitVec 1 := Scalar.cmpi .sgt v1536 c0_i32_816
  let v1541 : BitVec 32 := Scalar.extui v1540
  let c0_i32_817 : BitVec 32 := 0#32
  let v1542 : BitVec 1 := Scalar.cmpi .slt v1536 c0_i32_817
  let v1543 : BitVec 32 := Scalar.extui v1542
  let v1544 : BitVec 32 := Scalar.subi v1541 v1543
  let c4_i32_815 : BitVec 32 := 4#32
  let c0_i32_818 : BitVec 32 := 0#32
  let v1545 : BitVec 1 := Scalar.cmpi .sgt c4_i32_815 c0_i32_818
  let v1546 : BitVec 32 := Scalar.extui v1545
  let c0_i32_819 : BitVec 32 := 0#32
  let v1547 : BitVec 1 := Scalar.cmpi .slt c4_i32_815 c0_i32_819
  let v1548 : BitVec 32 := Scalar.extui v1547
  let v1549 : BitVec 32 := Scalar.subi v1546 v1548
  let v1550 : BitVec 1 := Scalar.cmpi .ne v1544 v1549
  let v1551 : BitVec 32 := Scalar.remsi v1536 c4_i32_815
  let c0_i32_820 : BitVec 32 := 0#32
  let v1552 : BitVec 1 := Scalar.cmpi .ne v1551 c0_i32_820
  let v1553 : BitVec 1 := Scalar.andi v1550 v1552
  let v1539 : BitVec 32 := Scalar.divsi v1536 c4_i32_815
  let c1_i32_821 : BitVec 32 := 1#32
  let v1554 : BitVec 32 := Scalar.subi v1539 c1_i32_821
  let v1555 : BitVec 32 := Scalar.select v1553 v1554 v1539
  let v1567 : BitVec 32 := Scalar.muli c2_i32_829 v1555
  let v1568 : BitVec 32 := Scalar.addi v1566 v1567
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_830 : BitVec 32 := 2#32
  let c0_i32_831 : BitVec 32 := 0#32
  let v1569 : BitVec 1 := Scalar.cmpi .eq c2_i32_830 c0_i32_831
  let c1_i32_832 : BitVec 32 := 1#32
  let v1570 : BitVec 32 := Scalar.select v1569 c1_i32_832 c2_i32_830
  let v1571 : BitVec 32 := Scalar.remsi v1555 v1570
  let c0_i32_834 : BitVec 32 := 0#32
  let v1573 : BitVec 1 := Scalar.cmpi .slt v1571 c0_i32_834
  let c0_i32_835 : BitVec 32 := 0#32
  let v1574 : BitVec 1 := Scalar.cmpi .slt v1570 c0_i32_835
  let v1575 : BitVec 1 := Scalar.xori v1573 v1574
  let c0_i32_833 : BitVec 32 := 0#32
  let v1572 : BitVec 1 := Scalar.cmpi .ne v1571 c0_i32_833
  let v1576 : BitVec 1 := Scalar.andi v1575 v1572
  let v1577 : BitVec 32 := Scalar.addi v1571 v1570
  let v1578 : BitVec 32 := Scalar.select v1576 v1577 v1571
  let v1579 : BitVec 32 := Scalar.xori v67 v1578
  let v1580 : BitVec 32 := Scalar.addi v1568 v1579
  let c1_i32_2590 : BitVec 32 := 1#32
  let v4061 : BitVec 32 := Scalar.muli v1580 c1_i32_2590
  let v4062 : BitVec 32 := Scalar.addi c0_i32_2591 v4061
  v4062.toNat
def k0_cond26 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c11_i32_1279 : BitVec 32 := 11#32
  let v2236 : BitVec 32 := Scalar.subi v69 c11_i32_1279
  let c16_i32_1280 : BitVec 32 := 16#32
  let c0_i32_1281 : BitVec 32 := 0#32
  let v2237 : BitVec 1 := Scalar.cmpi .eq c16_i32_1280 c0_i32_1281
  let c1_i32_1282 : BitVec 32 := 1#32
  let v2238 : BitVec 32 := Scalar.select v2237 c1_i32_1282 c16_i32_1280
  let v2239 : BitVec 32 := Scalar.remsi v2236 v2238
  let c0_i32_1284 : BitVec 32 := 0#32
  let v2241 : BitVec 1 := Scalar.cmpi .slt v2239 c0_i32_1284
  let c0_i32_1285 : BitVec 32 := 0#32
  let v2242 : BitVec 1 := Scalar.cmpi .slt v2238 c0_i32_1285
  let v2243 : BitVec 1 := Scalar.xori v2241 v2242
  let c0_i32_1283 : BitVec 32 := 0#32
  let v2240 : BitVec 1 := Scalar.cmpi .ne v2239 c0_i32_1283
  let v2244 : BitVec 1 := Scalar.andi v2243 v2240
  let v2245 : BitVec 32 := Scalar.addi v2239 v2238
  let v2246 : BitVec 32 := Scalar.select v2244 v2245 v2239
  let c8_i32_1286 : BitVec 32 := 8#32
  let v2247 : BitVec 1 := Scalar.cmpi .sge v2246 c8_i32_1286
  let v2248 : BitVec 32 := Scalar.extui v2247
  let c0_i32_1289 : BitVec 32 := 0#32
  let v2249 : BitVec 1 := Scalar.cmpi .ne v2248 c0_i32_1289
  v2249

def k0_off39 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_843 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c11_i32_836 : BitVec 32 := 11#32
  let v1581 : BitVec 32 := Scalar.subi v69 c11_i32_836
  let c16_i32_837 : BitVec 32 := 16#32
  let c0_i32_838 : BitVec 32 := 0#32
  let v1582 : BitVec 1 := Scalar.cmpi .eq c16_i32_837 c0_i32_838
  let c1_i32_839 : BitVec 32 := 1#32
  let v1583 : BitVec 32 := Scalar.select v1582 c1_i32_839 c16_i32_837
  let v1584 : BitVec 32 := Scalar.remsi v1581 v1583
  let c0_i32_841 : BitVec 32 := 0#32
  let v1586 : BitVec 1 := Scalar.cmpi .slt v1584 c0_i32_841
  let c0_i32_842 : BitVec 32 := 0#32
  let v1587 : BitVec 1 := Scalar.cmpi .slt v1583 c0_i32_842
  let v1588 : BitVec 1 := Scalar.xori v1586 v1587
  let c0_i32_840 : BitVec 32 := 0#32
  let v1585 : BitVec 1 := Scalar.cmpi .ne v1584 c0_i32_840
  let v1589 : BitVec 1 := Scalar.andi v1588 v1585
  let v1590 : BitVec 32 := Scalar.addi v1584 v1583
  let v1591 : BitVec 32 := Scalar.select v1589 v1590 v1584
  let v1592 : BitVec 32 := Scalar.muli c16_i32_843 v1591
  let v1593 : BitVec 32 := Scalar.addi v915 v1592
  let c0_i32_2594 : BitVec 32 := 0#32
  ![v1593.toNat, 0]
def k0_dev44 (d0 : Dev nD) : Nat :=
  let c0_i32_2591 : BitVec 32 := 0#32
  let c8_i32_857 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c11_i32_836 : BitVec 32 := 11#32
  let v1581 : BitVec 32 := Scalar.subi v69 c11_i32_836
  let c16_i32_837 : BitVec 32 := 16#32
  let c0_i32_838 : BitVec 32 := 0#32
  let v1582 : BitVec 1 := Scalar.cmpi .eq c16_i32_837 c0_i32_838
  let c1_i32_839 : BitVec 32 := 1#32
  let v1583 : BitVec 32 := Scalar.select v1582 c1_i32_839 c16_i32_837
  let v1584 : BitVec 32 := Scalar.remsi v1581 v1583
  let c0_i32_841 : BitVec 32 := 0#32
  let v1586 : BitVec 1 := Scalar.cmpi .slt v1584 c0_i32_841
  let c0_i32_842 : BitVec 32 := 0#32
  let v1587 : BitVec 1 := Scalar.cmpi .slt v1583 c0_i32_842
  let v1588 : BitVec 1 := Scalar.xori v1586 v1587
  let c0_i32_840 : BitVec 32 := 0#32
  let v1585 : BitVec 1 := Scalar.cmpi .ne v1584 c0_i32_840
  let v1589 : BitVec 1 := Scalar.andi v1588 v1585
  let v1590 : BitVec 32 := Scalar.addi v1584 v1583
  let v1591 : BitVec 32 := Scalar.select v1589 v1590 v1584
  let c4_i32_851 : BitVec 32 := 4#32
  let c0_i32_852 : BitVec 32 := 0#32
  let v1611 : BitVec 1 := Scalar.cmpi .eq c4_i32_851 c0_i32_852
  let c1_i32_853 : BitVec 32 := 1#32
  let v1612 : BitVec 32 := Scalar.select v1611 c1_i32_853 c4_i32_851
  let v1613 : BitVec 32 := Scalar.remsi v1591 v1612
  let c0_i32_855 : BitVec 32 := 0#32
  let v1615 : BitVec 1 := Scalar.cmpi .slt v1613 c0_i32_855
  let c0_i32_856 : BitVec 32 := 0#32
  let v1616 : BitVec 1 := Scalar.cmpi .slt v1612 c0_i32_856
  let v1617 : BitVec 1 := Scalar.xori v1615 v1616
  let c0_i32_854 : BitVec 32 := 0#32
  let v1614 : BitVec 1 := Scalar.cmpi .ne v1613 c0_i32_854
  let v1618 : BitVec 1 := Scalar.andi v1617 v1614
  let v1619 : BitVec 32 := Scalar.addi v1613 v1612
  let v1620 : BitVec 32 := Scalar.select v1618 v1619 v1613
  let v1621 : BitVec 32 := Scalar.muli c8_i32_857 v1620
  let c2_i32_858 : BitVec 32 := 2#32
  let c0_i32_845 : BitVec 32 := 0#32
  let v1595 : BitVec 1 := Scalar.cmpi .sgt v1591 c0_i32_845
  let v1596 : BitVec 32 := Scalar.extui v1595
  let c0_i32_846 : BitVec 32 := 0#32
  let v1597 : BitVec 1 := Scalar.cmpi .slt v1591 c0_i32_846
  let v1598 : BitVec 32 := Scalar.extui v1597
  let v1599 : BitVec 32 := Scalar.subi v1596 v1598
  let c4_i32_844 : BitVec 32 := 4#32
  let c0_i32_847 : BitVec 32 := 0#32
  let v1600 : BitVec 1 := Scalar.cmpi .sgt c4_i32_844 c0_i32_847
  let v1601 : BitVec 32 := Scalar.extui v1600
  let c0_i32_848 : BitVec 32 := 0#32
  let v1602 : BitVec 1 := Scalar.cmpi .slt c4_i32_844 c0_i32_848
  let v1603 : BitVec 32 := Scalar.extui v1602
  let v1604 : BitVec 32 := Scalar.subi v1601 v1603
  let v1605 : BitVec 1 := Scalar.cmpi .ne v1599 v1604
  let v1606 : BitVec 32 := Scalar.remsi v1591 c4_i32_844
  let c0_i32_849 : BitVec 32 := 0#32
  let v1607 : BitVec 1 := Scalar.cmpi .ne v1606 c0_i32_849
  let v1608 : BitVec 1 := Scalar.andi v1605 v1607
  let v1594 : BitVec 32 := Scalar.divsi v1591 c4_i32_844
  let c1_i32_850 : BitVec 32 := 1#32
  let v1609 : BitVec 32 := Scalar.subi v1594 c1_i32_850
  let v1610 : BitVec 32 := Scalar.select v1608 v1609 v1594
  let v1622 : BitVec 32 := Scalar.muli c2_i32_858 v1610
  let v1623 : BitVec 32 := Scalar.addi v1621 v1622
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_859 : BitVec 32 := 2#32
  let c0_i32_860 : BitVec 32 := 0#32
  let v1624 : BitVec 1 := Scalar.cmpi .eq c2_i32_859 c0_i32_860
  let c1_i32_861 : BitVec 32 := 1#32
  let v1625 : BitVec 32 := Scalar.select v1624 c1_i32_861 c2_i32_859
  let v1626 : BitVec 32 := Scalar.remsi v1610 v1625
  let c0_i32_863 : BitVec 32 := 0#32
  let v1628 : BitVec 1 := Scalar.cmpi .slt v1626 c0_i32_863
  let c0_i32_864 : BitVec 32 := 0#32
  let v1629 : BitVec 1 := Scalar.cmpi .slt v1625 c0_i32_864
  let v1630 : BitVec 1 := Scalar.xori v1628 v1629
  let c0_i32_862 : BitVec 32 := 0#32
  let v1627 : BitVec 1 := Scalar.cmpi .ne v1626 c0_i32_862
  let v1631 : BitVec 1 := Scalar.andi v1630 v1627
  let v1632 : BitVec 32 := Scalar.addi v1626 v1625
  let v1633 : BitVec 32 := Scalar.select v1631 v1632 v1626
  let v1634 : BitVec 32 := Scalar.xori v67 v1633
  let v1635 : BitVec 32 := Scalar.addi v1623 v1634
  let c1_i32_2590 : BitVec 32 := 1#32
  let v4061 : BitVec 32 := Scalar.muli v1635 c1_i32_2590
  let v4062 : BitVec 32 := Scalar.addi c0_i32_2591 v4061
  v4062.toNat
def k0_cond27 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c12_i32_1290 : BitVec 32 := 12#32
  let v2250 : BitVec 32 := Scalar.subi v69 c12_i32_1290
  let c16_i32_1291 : BitVec 32 := 16#32
  let c0_i32_1292 : BitVec 32 := 0#32
  let v2251 : BitVec 1 := Scalar.cmpi .eq c16_i32_1291 c0_i32_1292
  let c1_i32_1293 : BitVec 32 := 1#32
  let v2252 : BitVec 32 := Scalar.select v2251 c1_i32_1293 c16_i32_1291
  let v2253 : BitVec 32 := Scalar.remsi v2250 v2252
  let c0_i32_1295 : BitVec 32 := 0#32
  let v2255 : BitVec 1 := Scalar.cmpi .slt v2253 c0_i32_1295
  let c0_i32_1296 : BitVec 32 := 0#32
  let v2256 : BitVec 1 := Scalar.cmpi .slt v2252 c0_i32_1296
  let v2257 : BitVec 1 := Scalar.xori v2255 v2256
  let c0_i32_1294 : BitVec 32 := 0#32
  let v2254 : BitVec 1 := Scalar.cmpi .ne v2253 c0_i32_1294
  let v2258 : BitVec 1 := Scalar.andi v2257 v2254
  let v2259 : BitVec 32 := Scalar.addi v2253 v2252
  let v2260 : BitVec 32 := Scalar.select v2258 v2259 v2253
  let c8_i32_1297 : BitVec 32 := 8#32
  let v2261 : BitVec 1 := Scalar.cmpi .sge v2260 c8_i32_1297
  let v2262 : BitVec 32 := Scalar.extui v2261
  let c0_i32_1300 : BitVec 32 := 0#32
  let v2263 : BitVec 1 := Scalar.cmpi .ne v2262 c0_i32_1300
  v2263

def k0_off40 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_872 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c12_i32_865 : BitVec 32 := 12#32
  let v1636 : BitVec 32 := Scalar.subi v69 c12_i32_865
  let c16_i32_866 : BitVec 32 := 16#32
  let c0_i32_867 : BitVec 32 := 0#32
  let v1637 : BitVec 1 := Scalar.cmpi .eq c16_i32_866 c0_i32_867
  let c1_i32_868 : BitVec 32 := 1#32
  let v1638 : BitVec 32 := Scalar.select v1637 c1_i32_868 c16_i32_866
  let v1639 : BitVec 32 := Scalar.remsi v1636 v1638
  let c0_i32_870 : BitVec 32 := 0#32
  let v1641 : BitVec 1 := Scalar.cmpi .slt v1639 c0_i32_870
  let c0_i32_871 : BitVec 32 := 0#32
  let v1642 : BitVec 1 := Scalar.cmpi .slt v1638 c0_i32_871
  let v1643 : BitVec 1 := Scalar.xori v1641 v1642
  let c0_i32_869 : BitVec 32 := 0#32
  let v1640 : BitVec 1 := Scalar.cmpi .ne v1639 c0_i32_869
  let v1644 : BitVec 1 := Scalar.andi v1643 v1640
  let v1645 : BitVec 32 := Scalar.addi v1639 v1638
  let v1646 : BitVec 32 := Scalar.select v1644 v1645 v1639
  let v1647 : BitVec 32 := Scalar.muli c16_i32_872 v1646
  let v1648 : BitVec 32 := Scalar.addi v915 v1647
  let c0_i32_2594 : BitVec 32 := 0#32
  ![v1648.toNat, 0]
def k0_dev45 (d0 : Dev nD) : Nat :=
  let c0_i32_2591 : BitVec 32 := 0#32
  let c8_i32_886 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c12_i32_865 : BitVec 32 := 12#32
  let v1636 : BitVec 32 := Scalar.subi v69 c12_i32_865
  let c16_i32_866 : BitVec 32 := 16#32
  let c0_i32_867 : BitVec 32 := 0#32
  let v1637 : BitVec 1 := Scalar.cmpi .eq c16_i32_866 c0_i32_867
  let c1_i32_868 : BitVec 32 := 1#32
  let v1638 : BitVec 32 := Scalar.select v1637 c1_i32_868 c16_i32_866
  let v1639 : BitVec 32 := Scalar.remsi v1636 v1638
  let c0_i32_870 : BitVec 32 := 0#32
  let v1641 : BitVec 1 := Scalar.cmpi .slt v1639 c0_i32_870
  let c0_i32_871 : BitVec 32 := 0#32
  let v1642 : BitVec 1 := Scalar.cmpi .slt v1638 c0_i32_871
  let v1643 : BitVec 1 := Scalar.xori v1641 v1642
  let c0_i32_869 : BitVec 32 := 0#32
  let v1640 : BitVec 1 := Scalar.cmpi .ne v1639 c0_i32_869
  let v1644 : BitVec 1 := Scalar.andi v1643 v1640
  let v1645 : BitVec 32 := Scalar.addi v1639 v1638
  let v1646 : BitVec 32 := Scalar.select v1644 v1645 v1639
  let c4_i32_880 : BitVec 32 := 4#32
  let c0_i32_881 : BitVec 32 := 0#32
  let v1666 : BitVec 1 := Scalar.cmpi .eq c4_i32_880 c0_i32_881
  let c1_i32_882 : BitVec 32 := 1#32
  let v1667 : BitVec 32 := Scalar.select v1666 c1_i32_882 c4_i32_880
  let v1668 : BitVec 32 := Scalar.remsi v1646 v1667
  let c0_i32_884 : BitVec 32 := 0#32
  let v1670 : BitVec 1 := Scalar.cmpi .slt v1668 c0_i32_884
  let c0_i32_885 : BitVec 32 := 0#32
  let v1671 : BitVec 1 := Scalar.cmpi .slt v1667 c0_i32_885
  let v1672 : BitVec 1 := Scalar.xori v1670 v1671
  let c0_i32_883 : BitVec 32 := 0#32
  let v1669 : BitVec 1 := Scalar.cmpi .ne v1668 c0_i32_883
  let v1673 : BitVec 1 := Scalar.andi v1672 v1669
  let v1674 : BitVec 32 := Scalar.addi v1668 v1667
  let v1675 : BitVec 32 := Scalar.select v1673 v1674 v1668
  let v1676 : BitVec 32 := Scalar.muli c8_i32_886 v1675
  let c2_i32_887 : BitVec 32 := 2#32
  let c0_i32_874 : BitVec 32 := 0#32
  let v1650 : BitVec 1 := Scalar.cmpi .sgt v1646 c0_i32_874
  let v1651 : BitVec 32 := Scalar.extui v1650
  let c0_i32_875 : BitVec 32 := 0#32
  let v1652 : BitVec 1 := Scalar.cmpi .slt v1646 c0_i32_875
  let v1653 : BitVec 32 := Scalar.extui v1652
  let v1654 : BitVec 32 := Scalar.subi v1651 v1653
  let c4_i32_873 : BitVec 32 := 4#32
  let c0_i32_876 : BitVec 32 := 0#32
  let v1655 : BitVec 1 := Scalar.cmpi .sgt c4_i32_873 c0_i32_876
  let v1656 : BitVec 32 := Scalar.extui v1655
  let c0_i32_877 : BitVec 32 := 0#32
  let v1657 : BitVec 1 := Scalar.cmpi .slt c4_i32_873 c0_i32_877
  let v1658 : BitVec 32 := Scalar.extui v1657
  let v1659 : BitVec 32 := Scalar.subi v1656 v1658
  let v1660 : BitVec 1 := Scalar.cmpi .ne v1654 v1659
  let v1661 : BitVec 32 := Scalar.remsi v1646 c4_i32_873
  let c0_i32_878 : BitVec 32 := 0#32
  let v1662 : BitVec 1 := Scalar.cmpi .ne v1661 c0_i32_878
  let v1663 : BitVec 1 := Scalar.andi v1660 v1662
  let v1649 : BitVec 32 := Scalar.divsi v1646 c4_i32_873
  let c1_i32_879 : BitVec 32 := 1#32
  let v1664 : BitVec 32 := Scalar.subi v1649 c1_i32_879
  let v1665 : BitVec 32 := Scalar.select v1663 v1664 v1649
  let v1677 : BitVec 32 := Scalar.muli c2_i32_887 v1665
  let v1678 : BitVec 32 := Scalar.addi v1676 v1677
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_888 : BitVec 32 := 2#32
  let c0_i32_889 : BitVec 32 := 0#32
  let v1679 : BitVec 1 := Scalar.cmpi .eq c2_i32_888 c0_i32_889
  let c1_i32_890 : BitVec 32 := 1#32
  let v1680 : BitVec 32 := Scalar.select v1679 c1_i32_890 c2_i32_888
  let v1681 : BitVec 32 := Scalar.remsi v1665 v1680
  let c0_i32_892 : BitVec 32 := 0#32
  let v1683 : BitVec 1 := Scalar.cmpi .slt v1681 c0_i32_892
  let c0_i32_893 : BitVec 32 := 0#32
  let v1684 : BitVec 1 := Scalar.cmpi .slt v1680 c0_i32_893
  let v1685 : BitVec 1 := Scalar.xori v1683 v1684
  let c0_i32_891 : BitVec 32 := 0#32
  let v1682 : BitVec 1 := Scalar.cmpi .ne v1681 c0_i32_891
  let v1686 : BitVec 1 := Scalar.andi v1685 v1682
  let v1687 : BitVec 32 := Scalar.addi v1681 v1680
  let v1688 : BitVec 32 := Scalar.select v1686 v1687 v1681
  let v1689 : BitVec 32 := Scalar.xori v67 v1688
  let v1690 : BitVec 32 := Scalar.addi v1678 v1689
  let c1_i32_2590 : BitVec 32 := 1#32
  let v4061 : BitVec 32 := Scalar.muli v1690 c1_i32_2590
  let v4062 : BitVec 32 := Scalar.addi c0_i32_2591 v4061
  v4062.toNat
def k0_cond28 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c13_i32_1301 : BitVec 32 := 13#32
  let v2264 : BitVec 32 := Scalar.subi v69 c13_i32_1301
  let c16_i32_1302 : BitVec 32 := 16#32
  let c0_i32_1303 : BitVec 32 := 0#32
  let v2265 : BitVec 1 := Scalar.cmpi .eq c16_i32_1302 c0_i32_1303
  let c1_i32_1304 : BitVec 32 := 1#32
  let v2266 : BitVec 32 := Scalar.select v2265 c1_i32_1304 c16_i32_1302
  let v2267 : BitVec 32 := Scalar.remsi v2264 v2266
  let c0_i32_1306 : BitVec 32 := 0#32
  let v2269 : BitVec 1 := Scalar.cmpi .slt v2267 c0_i32_1306
  let c0_i32_1307 : BitVec 32 := 0#32
  let v2270 : BitVec 1 := Scalar.cmpi .slt v2266 c0_i32_1307
  let v2271 : BitVec 1 := Scalar.xori v2269 v2270
  let c0_i32_1305 : BitVec 32 := 0#32
  let v2268 : BitVec 1 := Scalar.cmpi .ne v2267 c0_i32_1305
  let v2272 : BitVec 1 := Scalar.andi v2271 v2268
  let v2273 : BitVec 32 := Scalar.addi v2267 v2266
  let v2274 : BitVec 32 := Scalar.select v2272 v2273 v2267
  let c8_i32_1308 : BitVec 32 := 8#32
  let v2275 : BitVec 1 := Scalar.cmpi .sge v2274 c8_i32_1308
  let v2276 : BitVec 32 := Scalar.extui v2275
  let c0_i32_1311 : BitVec 32 := 0#32
  let v2277 : BitVec 1 := Scalar.cmpi .ne v2276 c0_i32_1311
  v2277

def k0_off41 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_901 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c13_i32_894 : BitVec 32 := 13#32
  let v1691 : BitVec 32 := Scalar.subi v69 c13_i32_894
  let c16_i32_895 : BitVec 32 := 16#32
  let c0_i32_896 : BitVec 32 := 0#32
  let v1692 : BitVec 1 := Scalar.cmpi .eq c16_i32_895 c0_i32_896
  let c1_i32_897 : BitVec 32 := 1#32
  let v1693 : BitVec 32 := Scalar.select v1692 c1_i32_897 c16_i32_895
  let v1694 : BitVec 32 := Scalar.remsi v1691 v1693
  let c0_i32_899 : BitVec 32 := 0#32
  let v1696 : BitVec 1 := Scalar.cmpi .slt v1694 c0_i32_899
  let c0_i32_900 : BitVec 32 := 0#32
  let v1697 : BitVec 1 := Scalar.cmpi .slt v1693 c0_i32_900
  let v1698 : BitVec 1 := Scalar.xori v1696 v1697
  let c0_i32_898 : BitVec 32 := 0#32
  let v1695 : BitVec 1 := Scalar.cmpi .ne v1694 c0_i32_898
  let v1699 : BitVec 1 := Scalar.andi v1698 v1695
  let v1700 : BitVec 32 := Scalar.addi v1694 v1693
  let v1701 : BitVec 32 := Scalar.select v1699 v1700 v1694
  let v1702 : BitVec 32 := Scalar.muli c16_i32_901 v1701
  let v1703 : BitVec 32 := Scalar.addi v915 v1702
  let c0_i32_2594 : BitVec 32 := 0#32
  ![v1703.toNat, 0]
def k0_dev46 (d0 : Dev nD) : Nat :=
  let c0_i32_2591 : BitVec 32 := 0#32
  let c8_i32_915 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c13_i32_894 : BitVec 32 := 13#32
  let v1691 : BitVec 32 := Scalar.subi v69 c13_i32_894
  let c16_i32_895 : BitVec 32 := 16#32
  let c0_i32_896 : BitVec 32 := 0#32
  let v1692 : BitVec 1 := Scalar.cmpi .eq c16_i32_895 c0_i32_896
  let c1_i32_897 : BitVec 32 := 1#32
  let v1693 : BitVec 32 := Scalar.select v1692 c1_i32_897 c16_i32_895
  let v1694 : BitVec 32 := Scalar.remsi v1691 v1693
  let c0_i32_899 : BitVec 32 := 0#32
  let v1696 : BitVec 1 := Scalar.cmpi .slt v1694 c0_i32_899
  let c0_i32_900 : BitVec 32 := 0#32
  let v1697 : BitVec 1 := Scalar.cmpi .slt v1693 c0_i32_900
  let v1698 : BitVec 1 := Scalar.xori v1696 v1697
  let c0_i32_898 : BitVec 32 := 0#32
  let v1695 : BitVec 1 := Scalar.cmpi .ne v1694 c0_i32_898
  let v1699 : BitVec 1 := Scalar.andi v1698 v1695
  let v1700 : BitVec 32 := Scalar.addi v1694 v1693
  let v1701 : BitVec 32 := Scalar.select v1699 v1700 v1694
  let c4_i32_909 : BitVec 32 := 4#32
  let c0_i32_910 : BitVec 32 := 0#32
  let v1721 : BitVec 1 := Scalar.cmpi .eq c4_i32_909 c0_i32_910
  let c1_i32_911 : BitVec 32 := 1#32
  let v1722 : BitVec 32 := Scalar.select v1721 c1_i32_911 c4_i32_909
  let v1723 : BitVec 32 := Scalar.remsi v1701 v1722
  let c0_i32_913 : BitVec 32 := 0#32
  let v1725 : BitVec 1 := Scalar.cmpi .slt v1723 c0_i32_913
  let c0_i32_914 : BitVec 32 := 0#32
  let v1726 : BitVec 1 := Scalar.cmpi .slt v1722 c0_i32_914
  let v1727 : BitVec 1 := Scalar.xori v1725 v1726
  let c0_i32_912 : BitVec 32 := 0#32
  let v1724 : BitVec 1 := Scalar.cmpi .ne v1723 c0_i32_912
  let v1728 : BitVec 1 := Scalar.andi v1727 v1724
  let v1729 : BitVec 32 := Scalar.addi v1723 v1722
  let v1730 : BitVec 32 := Scalar.select v1728 v1729 v1723
  let v1731 : BitVec 32 := Scalar.muli c8_i32_915 v1730
  let c2_i32_916 : BitVec 32 := 2#32
  let c0_i32_903 : BitVec 32 := 0#32
  let v1705 : BitVec 1 := Scalar.cmpi .sgt v1701 c0_i32_903
  let v1706 : BitVec 32 := Scalar.extui v1705
  let c0_i32_904 : BitVec 32 := 0#32
  let v1707 : BitVec 1 := Scalar.cmpi .slt v1701 c0_i32_904
  let v1708 : BitVec 32 := Scalar.extui v1707
  let v1709 : BitVec 32 := Scalar.subi v1706 v1708
  let c4_i32_902 : BitVec 32 := 4#32
  let c0_i32_905 : BitVec 32 := 0#32
  let v1710 : BitVec 1 := Scalar.cmpi .sgt c4_i32_902 c0_i32_905
  let v1711 : BitVec 32 := Scalar.extui v1710
  let c0_i32_906 : BitVec 32 := 0#32
  let v1712 : BitVec 1 := Scalar.cmpi .slt c4_i32_902 c0_i32_906
  let v1713 : BitVec 32 := Scalar.extui v1712
  let v1714 : BitVec 32 := Scalar.subi v1711 v1713
  let v1715 : BitVec 1 := Scalar.cmpi .ne v1709 v1714
  let v1716 : BitVec 32 := Scalar.remsi v1701 c4_i32_902
  let c0_i32_907 : BitVec 32 := 0#32
  let v1717 : BitVec 1 := Scalar.cmpi .ne v1716 c0_i32_907
  let v1718 : BitVec 1 := Scalar.andi v1715 v1717
  let v1704 : BitVec 32 := Scalar.divsi v1701 c4_i32_902
  let c1_i32_908 : BitVec 32 := 1#32
  let v1719 : BitVec 32 := Scalar.subi v1704 c1_i32_908
  let v1720 : BitVec 32 := Scalar.select v1718 v1719 v1704
  let v1732 : BitVec 32 := Scalar.muli c2_i32_916 v1720
  let v1733 : BitVec 32 := Scalar.addi v1731 v1732
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_917 : BitVec 32 := 2#32
  let c0_i32_918 : BitVec 32 := 0#32
  let v1734 : BitVec 1 := Scalar.cmpi .eq c2_i32_917 c0_i32_918
  let c1_i32_919 : BitVec 32 := 1#32
  let v1735 : BitVec 32 := Scalar.select v1734 c1_i32_919 c2_i32_917
  let v1736 : BitVec 32 := Scalar.remsi v1720 v1735
  let c0_i32_921 : BitVec 32 := 0#32
  let v1738 : BitVec 1 := Scalar.cmpi .slt v1736 c0_i32_921
  let c0_i32_922 : BitVec 32 := 0#32
  let v1739 : BitVec 1 := Scalar.cmpi .slt v1735 c0_i32_922
  let v1740 : BitVec 1 := Scalar.xori v1738 v1739
  let c0_i32_920 : BitVec 32 := 0#32
  let v1737 : BitVec 1 := Scalar.cmpi .ne v1736 c0_i32_920
  let v1741 : BitVec 1 := Scalar.andi v1740 v1737
  let v1742 : BitVec 32 := Scalar.addi v1736 v1735
  let v1743 : BitVec 32 := Scalar.select v1741 v1742 v1736
  let v1744 : BitVec 32 := Scalar.xori v67 v1743
  let v1745 : BitVec 32 := Scalar.addi v1733 v1744
  let c1_i32_2590 : BitVec 32 := 1#32
  let v4061 : BitVec 32 := Scalar.muli v1745 c1_i32_2590
  let v4062 : BitVec 32 := Scalar.addi c0_i32_2591 v4061
  v4062.toNat
def k0_cond29 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c14_i32_1312 : BitVec 32 := 14#32
  let v2278 : BitVec 32 := Scalar.subi v69 c14_i32_1312
  let c16_i32_1313 : BitVec 32 := 16#32
  let c0_i32_1314 : BitVec 32 := 0#32
  let v2279 : BitVec 1 := Scalar.cmpi .eq c16_i32_1313 c0_i32_1314
  let c1_i32_1315 : BitVec 32 := 1#32
  let v2280 : BitVec 32 := Scalar.select v2279 c1_i32_1315 c16_i32_1313
  let v2281 : BitVec 32 := Scalar.remsi v2278 v2280
  let c0_i32_1317 : BitVec 32 := 0#32
  let v2283 : BitVec 1 := Scalar.cmpi .slt v2281 c0_i32_1317
  let c0_i32_1318 : BitVec 32 := 0#32
  let v2284 : BitVec 1 := Scalar.cmpi .slt v2280 c0_i32_1318
  let v2285 : BitVec 1 := Scalar.xori v2283 v2284
  let c0_i32_1316 : BitVec 32 := 0#32
  let v2282 : BitVec 1 := Scalar.cmpi .ne v2281 c0_i32_1316
  let v2286 : BitVec 1 := Scalar.andi v2285 v2282
  let v2287 : BitVec 32 := Scalar.addi v2281 v2280
  let v2288 : BitVec 32 := Scalar.select v2286 v2287 v2281
  let c8_i32_1319 : BitVec 32 := 8#32
  let v2289 : BitVec 1 := Scalar.cmpi .sge v2288 c8_i32_1319
  let v2290 : BitVec 32 := Scalar.extui v2289
  let c0_i32_1322 : BitVec 32 := 0#32
  let v2291 : BitVec 1 := Scalar.cmpi .ne v2290 c0_i32_1322
  v2291

def k0_off42 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_930 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c14_i32_923 : BitVec 32 := 14#32
  let v1746 : BitVec 32 := Scalar.subi v69 c14_i32_923
  let c16_i32_924 : BitVec 32 := 16#32
  let c0_i32_925 : BitVec 32 := 0#32
  let v1747 : BitVec 1 := Scalar.cmpi .eq c16_i32_924 c0_i32_925
  let c1_i32_926 : BitVec 32 := 1#32
  let v1748 : BitVec 32 := Scalar.select v1747 c1_i32_926 c16_i32_924
  let v1749 : BitVec 32 := Scalar.remsi v1746 v1748
  let c0_i32_928 : BitVec 32 := 0#32
  let v1751 : BitVec 1 := Scalar.cmpi .slt v1749 c0_i32_928
  let c0_i32_929 : BitVec 32 := 0#32
  let v1752 : BitVec 1 := Scalar.cmpi .slt v1748 c0_i32_929
  let v1753 : BitVec 1 := Scalar.xori v1751 v1752
  let c0_i32_927 : BitVec 32 := 0#32
  let v1750 : BitVec 1 := Scalar.cmpi .ne v1749 c0_i32_927
  let v1754 : BitVec 1 := Scalar.andi v1753 v1750
  let v1755 : BitVec 32 := Scalar.addi v1749 v1748
  let v1756 : BitVec 32 := Scalar.select v1754 v1755 v1749
  let v1757 : BitVec 32 := Scalar.muli c16_i32_930 v1756
  let v1758 : BitVec 32 := Scalar.addi v915 v1757
  let c0_i32_2594 : BitVec 32 := 0#32
  ![v1758.toNat, 0]
def k0_dev47 (d0 : Dev nD) : Nat :=
  let c0_i32_2591 : BitVec 32 := 0#32
  let c8_i32_944 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c14_i32_923 : BitVec 32 := 14#32
  let v1746 : BitVec 32 := Scalar.subi v69 c14_i32_923
  let c16_i32_924 : BitVec 32 := 16#32
  let c0_i32_925 : BitVec 32 := 0#32
  let v1747 : BitVec 1 := Scalar.cmpi .eq c16_i32_924 c0_i32_925
  let c1_i32_926 : BitVec 32 := 1#32
  let v1748 : BitVec 32 := Scalar.select v1747 c1_i32_926 c16_i32_924
  let v1749 : BitVec 32 := Scalar.remsi v1746 v1748
  let c0_i32_928 : BitVec 32 := 0#32
  let v1751 : BitVec 1 := Scalar.cmpi .slt v1749 c0_i32_928
  let c0_i32_929 : BitVec 32 := 0#32
  let v1752 : BitVec 1 := Scalar.cmpi .slt v1748 c0_i32_929
  let v1753 : BitVec 1 := Scalar.xori v1751 v1752
  let c0_i32_927 : BitVec 32 := 0#32
  let v1750 : BitVec 1 := Scalar.cmpi .ne v1749 c0_i32_927
  let v1754 : BitVec 1 := Scalar.andi v1753 v1750
  let v1755 : BitVec 32 := Scalar.addi v1749 v1748
  let v1756 : BitVec 32 := Scalar.select v1754 v1755 v1749
  let c4_i32_938 : BitVec 32 := 4#32
  let c0_i32_939 : BitVec 32 := 0#32
  let v1776 : BitVec 1 := Scalar.cmpi .eq c4_i32_938 c0_i32_939
  let c1_i32_940 : BitVec 32 := 1#32
  let v1777 : BitVec 32 := Scalar.select v1776 c1_i32_940 c4_i32_938
  let v1778 : BitVec 32 := Scalar.remsi v1756 v1777
  let c0_i32_942 : BitVec 32 := 0#32
  let v1780 : BitVec 1 := Scalar.cmpi .slt v1778 c0_i32_942
  let c0_i32_943 : BitVec 32 := 0#32
  let v1781 : BitVec 1 := Scalar.cmpi .slt v1777 c0_i32_943
  let v1782 : BitVec 1 := Scalar.xori v1780 v1781
  let c0_i32_941 : BitVec 32 := 0#32
  let v1779 : BitVec 1 := Scalar.cmpi .ne v1778 c0_i32_941
  let v1783 : BitVec 1 := Scalar.andi v1782 v1779
  let v1784 : BitVec 32 := Scalar.addi v1778 v1777
  let v1785 : BitVec 32 := Scalar.select v1783 v1784 v1778
  let v1786 : BitVec 32 := Scalar.muli c8_i32_944 v1785
  let c2_i32_945 : BitVec 32 := 2#32
  let c0_i32_932 : BitVec 32 := 0#32
  let v1760 : BitVec 1 := Scalar.cmpi .sgt v1756 c0_i32_932
  let v1761 : BitVec 32 := Scalar.extui v1760
  let c0_i32_933 : BitVec 32 := 0#32
  let v1762 : BitVec 1 := Scalar.cmpi .slt v1756 c0_i32_933
  let v1763 : BitVec 32 := Scalar.extui v1762
  let v1764 : BitVec 32 := Scalar.subi v1761 v1763
  let c4_i32_931 : BitVec 32 := 4#32
  let c0_i32_934 : BitVec 32 := 0#32
  let v1765 : BitVec 1 := Scalar.cmpi .sgt c4_i32_931 c0_i32_934
  let v1766 : BitVec 32 := Scalar.extui v1765
  let c0_i32_935 : BitVec 32 := 0#32
  let v1767 : BitVec 1 := Scalar.cmpi .slt c4_i32_931 c0_i32_935
  let v1768 : BitVec 32 := Scalar.extui v1767
  let v1769 : BitVec 32 := Scalar.subi v1766 v1768
  let v1770 : BitVec 1 := Scalar.cmpi .ne v1764 v1769
  let v1771 : BitVec 32 := Scalar.remsi v1756 c4_i32_931
  let c0_i32_936 : BitVec 32 := 0#32
  let v1772 : BitVec 1 := Scalar.cmpi .ne v1771 c0_i32_936
  let v1773 : BitVec 1 := Scalar.andi v1770 v1772
  let v1759 : BitVec 32 := Scalar.divsi v1756 c4_i32_931
  let c1_i32_937 : BitVec 32 := 1#32
  let v1774 : BitVec 32 := Scalar.subi v1759 c1_i32_937
  let v1775 : BitVec 32 := Scalar.select v1773 v1774 v1759
  let v1787 : BitVec 32 := Scalar.muli c2_i32_945 v1775
  let v1788 : BitVec 32 := Scalar.addi v1786 v1787
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_946 : BitVec 32 := 2#32
  let c0_i32_947 : BitVec 32 := 0#32
  let v1789 : BitVec 1 := Scalar.cmpi .eq c2_i32_946 c0_i32_947
  let c1_i32_948 : BitVec 32 := 1#32
  let v1790 : BitVec 32 := Scalar.select v1789 c1_i32_948 c2_i32_946
  let v1791 : BitVec 32 := Scalar.remsi v1775 v1790
  let c0_i32_950 : BitVec 32 := 0#32
  let v1793 : BitVec 1 := Scalar.cmpi .slt v1791 c0_i32_950
  let c0_i32_951 : BitVec 32 := 0#32
  let v1794 : BitVec 1 := Scalar.cmpi .slt v1790 c0_i32_951
  let v1795 : BitVec 1 := Scalar.xori v1793 v1794
  let c0_i32_949 : BitVec 32 := 0#32
  let v1792 : BitVec 1 := Scalar.cmpi .ne v1791 c0_i32_949
  let v1796 : BitVec 1 := Scalar.andi v1795 v1792
  let v1797 : BitVec 32 := Scalar.addi v1791 v1790
  let v1798 : BitVec 32 := Scalar.select v1796 v1797 v1791
  let v1799 : BitVec 32 := Scalar.xori v67 v1798
  let v1800 : BitVec 32 := Scalar.addi v1788 v1799
  let c1_i32_2590 : BitVec 32 := 1#32
  let v4061 : BitVec 32 := Scalar.muli v1800 c1_i32_2590
  let v4062 : BitVec 32 := Scalar.addi c0_i32_2591 v4061
  v4062.toNat
def k0_cond30 (d0 : Dev nD) : BitVec 1 :=
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c15_i32_1323 : BitVec 32 := 15#32
  let v2292 : BitVec 32 := Scalar.subi v69 c15_i32_1323
  let c16_i32_1324 : BitVec 32 := 16#32
  let c0_i32_1325 : BitVec 32 := 0#32
  let v2293 : BitVec 1 := Scalar.cmpi .eq c16_i32_1324 c0_i32_1325
  let c1_i32_1326 : BitVec 32 := 1#32
  let v2294 : BitVec 32 := Scalar.select v2293 c1_i32_1326 c16_i32_1324
  let v2295 : BitVec 32 := Scalar.remsi v2292 v2294
  let c0_i32_1328 : BitVec 32 := 0#32
  let v2297 : BitVec 1 := Scalar.cmpi .slt v2295 c0_i32_1328
  let c0_i32_1329 : BitVec 32 := 0#32
  let v2298 : BitVec 1 := Scalar.cmpi .slt v2294 c0_i32_1329
  let v2299 : BitVec 1 := Scalar.xori v2297 v2298
  let c0_i32_1327 : BitVec 32 := 0#32
  let v2296 : BitVec 1 := Scalar.cmpi .ne v2295 c0_i32_1327
  let v2300 : BitVec 1 := Scalar.andi v2299 v2296
  let v2301 : BitVec 32 := Scalar.addi v2295 v2294
  let v2302 : BitVec 32 := Scalar.select v2300 v2301 v2295
  let c8_i32_1330 : BitVec 32 := 8#32
  let v2303 : BitVec 1 := Scalar.cmpi .sge v2302 c8_i32_1330
  let v2304 : BitVec 32 := Scalar.extui v2303
  let c0_i32_1333 : BitVec 32 := 0#32
  let v2305 : BitVec 1 := Scalar.cmpi .ne v2304 c0_i32_1333
  v2305

def k0_off43 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_959 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c15_i32_952 : BitVec 32 := 15#32
  let v1801 : BitVec 32 := Scalar.subi v69 c15_i32_952
  let c16_i32_953 : BitVec 32 := 16#32
  let c0_i32_954 : BitVec 32 := 0#32
  let v1802 : BitVec 1 := Scalar.cmpi .eq c16_i32_953 c0_i32_954
  let c1_i32_955 : BitVec 32 := 1#32
  let v1803 : BitVec 32 := Scalar.select v1802 c1_i32_955 c16_i32_953
  let v1804 : BitVec 32 := Scalar.remsi v1801 v1803
  let c0_i32_957 : BitVec 32 := 0#32
  let v1806 : BitVec 1 := Scalar.cmpi .slt v1804 c0_i32_957
  let c0_i32_958 : BitVec 32 := 0#32
  let v1807 : BitVec 1 := Scalar.cmpi .slt v1803 c0_i32_958
  let v1808 : BitVec 1 := Scalar.xori v1806 v1807
  let c0_i32_956 : BitVec 32 := 0#32
  let v1805 : BitVec 1 := Scalar.cmpi .ne v1804 c0_i32_956
  let v1809 : BitVec 1 := Scalar.andi v1808 v1805
  let v1810 : BitVec 32 := Scalar.addi v1804 v1803
  let v1811 : BitVec 32 := Scalar.select v1809 v1810 v1804
  let v1812 : BitVec 32 := Scalar.muli c16_i32_959 v1811
  let v1813 : BitVec 32 := Scalar.addi v915 v1812
  let c0_i32_2594 : BitVec 32 := 0#32
  ![v1813.toNat, 0]
def k0_dev48 (d0 : Dev nD) : Nat :=
  let c0_i32_2591 : BitVec 32 := 0#32
  let c8_i32_973 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c15_i32_952 : BitVec 32 := 15#32
  let v1801 : BitVec 32 := Scalar.subi v69 c15_i32_952
  let c16_i32_953 : BitVec 32 := 16#32
  let c0_i32_954 : BitVec 32 := 0#32
  let v1802 : BitVec 1 := Scalar.cmpi .eq c16_i32_953 c0_i32_954
  let c1_i32_955 : BitVec 32 := 1#32
  let v1803 : BitVec 32 := Scalar.select v1802 c1_i32_955 c16_i32_953
  let v1804 : BitVec 32 := Scalar.remsi v1801 v1803
  let c0_i32_957 : BitVec 32 := 0#32
  let v1806 : BitVec 1 := Scalar.cmpi .slt v1804 c0_i32_957
  let c0_i32_958 : BitVec 32 := 0#32
  let v1807 : BitVec 1 := Scalar.cmpi .slt v1803 c0_i32_958
  let v1808 : BitVec 1 := Scalar.xori v1806 v1807
  let c0_i32_956 : BitVec 32 := 0#32
  let v1805 : BitVec 1 := Scalar.cmpi .ne v1804 c0_i32_956
  let v1809 : BitVec 1 := Scalar.andi v1808 v1805
  let v1810 : BitVec 32 := Scalar.addi v1804 v1803
  let v1811 : BitVec 32 := Scalar.select v1809 v1810 v1804
  let c4_i32_967 : BitVec 32 := 4#32
  let c0_i32_968 : BitVec 32 := 0#32
  let v1831 : BitVec 1 := Scalar.cmpi .eq c4_i32_967 c0_i32_968
  let c1_i32_969 : BitVec 32 := 1#32
  let v1832 : BitVec 32 := Scalar.select v1831 c1_i32_969 c4_i32_967
  let v1833 : BitVec 32 := Scalar.remsi v1811 v1832
  let c0_i32_971 : BitVec 32 := 0#32
  let v1835 : BitVec 1 := Scalar.cmpi .slt v1833 c0_i32_971
  let c0_i32_972 : BitVec 32 := 0#32
  let v1836 : BitVec 1 := Scalar.cmpi .slt v1832 c0_i32_972
  let v1837 : BitVec 1 := Scalar.xori v1835 v1836
  let c0_i32_970 : BitVec 32 := 0#32
  let v1834 : BitVec 1 := Scalar.cmpi .ne v1833 c0_i32_970
  let v1838 : BitVec 1 := Scalar.andi v1837 v1834
  let v1839 : BitVec 32 := Scalar.addi v1833 v1832
  let v1840 : BitVec 32 := Scalar.select v1838 v1839 v1833
  let v1841 : BitVec 32 := Scalar.muli c8_i32_973 v1840
  let c2_i32_974 : BitVec 32 := 2#32
  let c0_i32_961 : BitVec 32 := 0#32
  let v1815 : BitVec 1 := Scalar.cmpi .sgt v1811 c0_i32_961
  let v1816 : BitVec 32 := Scalar.extui v1815
  let c0_i32_962 : BitVec 32 := 0#32
  let v1817 : BitVec 1 := Scalar.cmpi .slt v1811 c0_i32_962
  let v1818 : BitVec 32 := Scalar.extui v1817
  let v1819 : BitVec 32 := Scalar.subi v1816 v1818
  let c4_i32_960 : BitVec 32 := 4#32
  let c0_i32_963 : BitVec 32 := 0#32
  let v1820 : BitVec 1 := Scalar.cmpi .sgt c4_i32_960 c0_i32_963
  let v1821 : BitVec 32 := Scalar.extui v1820
  let c0_i32_964 : BitVec 32 := 0#32
  let v1822 : BitVec 1 := Scalar.cmpi .slt c4_i32_960 c0_i32_964
  let v1823 : BitVec 32 := Scalar.extui v1822
  let v1824 : BitVec 32 := Scalar.subi v1821 v1823
  let v1825 : BitVec 1 := Scalar.cmpi .ne v1819 v1824
  let v1826 : BitVec 32 := Scalar.remsi v1811 c4_i32_960
  let c0_i32_965 : BitVec 32 := 0#32
  let v1827 : BitVec 1 := Scalar.cmpi .ne v1826 c0_i32_965
  let v1828 : BitVec 1 := Scalar.andi v1825 v1827
  let v1814 : BitVec 32 := Scalar.divsi v1811 c4_i32_960
  let c1_i32_966 : BitVec 32 := 1#32
  let v1829 : BitVec 32 := Scalar.subi v1814 c1_i32_966
  let v1830 : BitVec 32 := Scalar.select v1828 v1829 v1814
  let v1842 : BitVec 32 := Scalar.muli c2_i32_974 v1830
  let v1843 : BitVec 32 := Scalar.addi v1841 v1842
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_975 : BitVec 32 := 2#32
  let c0_i32_976 : BitVec 32 := 0#32
  let v1844 : BitVec 1 := Scalar.cmpi .eq c2_i32_975 c0_i32_976
  let c1_i32_977 : BitVec 32 := 1#32
  let v1845 : BitVec 32 := Scalar.select v1844 c1_i32_977 c2_i32_975
  let v1846 : BitVec 32 := Scalar.remsi v1830 v1845
  let c0_i32_979 : BitVec 32 := 0#32
  let v1848 : BitVec 1 := Scalar.cmpi .slt v1846 c0_i32_979
  let c0_i32_980 : BitVec 32 := 0#32
  let v1849 : BitVec 1 := Scalar.cmpi .slt v1845 c0_i32_980
  let v1850 : BitVec 1 := Scalar.xori v1848 v1849
  let c0_i32_978 : BitVec 32 := 0#32
  let v1847 : BitVec 1 := Scalar.cmpi .ne v1846 c0_i32_978
  let v1851 : BitVec 1 := Scalar.andi v1850 v1847
  let v1852 : BitVec 32 := Scalar.addi v1846 v1845
  let v1853 : BitVec 32 := Scalar.select v1851 v1852 v1846
  let v1854 : BitVec 32 := Scalar.xori v67 v1853
  let v1855 : BitVec 32 := Scalar.addi v1843 v1854
  let c1_i32_2590 : BitVec 32 := 1#32
  let v4061 : BitVec 32 := Scalar.muli v1855 c1_i32_2590
  let v4062 : BitVec 32 := Scalar.addi c0_i32_2591 v4061
  v4062.toNat
def k0_off44 (d0 : Dev nD) (c1_i32_546 : BitVec 32) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_553 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let v1031 : BitVec 32 := Scalar.subi v69 c1_i32_546
  let c16_i32_547 : BitVec 32 := 16#32
  let c0_i32_548 : BitVec 32 := 0#32
  let v1032 : BitVec 1 := Scalar.cmpi .eq c16_i32_547 c0_i32_548
  let c1_i32_549 : BitVec 32 := 1#32
  let v1033 : BitVec 32 := Scalar.select v1032 c1_i32_549 c16_i32_547
  let v1034 : BitVec 32 := Scalar.remsi v1031 v1033
  let c0_i32_551 : BitVec 32 := 0#32
  let v1036 : BitVec 1 := Scalar.cmpi .slt v1034 c0_i32_551
  let c0_i32_552 : BitVec 32 := 0#32
  let v1037 : BitVec 1 := Scalar.cmpi .slt v1033 c0_i32_552
  let v1038 : BitVec 1 := Scalar.xori v1036 v1037
  let c0_i32_550 : BitVec 32 := 0#32
  let v1035 : BitVec 1 := Scalar.cmpi .ne v1034 c0_i32_550
  let v1039 : BitVec 1 := Scalar.andi v1038 v1035
  let v1040 : BitVec 32 := Scalar.addi v1034 v1033
  let v1041 : BitVec 32 := Scalar.select v1039 v1040 v1034
  let v1042 : BitVec 32 := Scalar.muli c16_i32_553 v1041
  let v1043 : BitVec 32 := Scalar.addi v915 v1042
  let c0_i32_1340 : BitVec 32 := 0#32
  ![v1043.toNat, 0]
def k0_off45 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_545 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let v1029 : BitVec 32 := Scalar.muli c16_i32_545 v69
  let v1030 : BitVec 32 := Scalar.addi v915 v1029
  let v2398 : Index := Scalar.indexCast v1030
  let c0_1426 : Index := 0#32
  ![v2398.toNat, 0]
def k0_off46 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_1430 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let v2410 : BitVec 32 := Scalar.muli c16_i32_1430 v69
  let v2411 : BitVec 32 := Scalar.addi v915 v2410
  let c0_i32_1434 : BitVec 32 := 0#32
  ![v2411.toNat, 0]
def k0_dev49 (d0 : Dev nD) : Nat :=
  let c0_i32_1433 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_1432 : BitVec 32 := 1#32
  let v2412 : BitVec 32 := Scalar.muli v85 c1_i32_1432
  let v2413 : BitVec 32 := Scalar.addi c0_i32_1433 v2412
  v2413.toNat
def k0_dev50 (d0 : Dev nD) : Nat :=
  let c0_i32_1467 : BitVec 32 := 0#32
  let c8_i32_1456 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c1_i32_1436 : BitVec 32 := 1#32
  let v2420 : BitVec 32 := Scalar.subi v69 c1_i32_1436
  let c16_i32_1437 : BitVec 32 := 16#32
  let c0_i32_1438 : BitVec 32 := 0#32
  let v2421 : BitVec 1 := Scalar.cmpi .eq c16_i32_1437 c0_i32_1438
  let c1_i32_1439 : BitVec 32 := 1#32
  let v2422 : BitVec 32 := Scalar.select v2421 c1_i32_1439 c16_i32_1437
  let v2423 : BitVec 32 := Scalar.remsi v2420 v2422
  let c0_i32_1441 : BitVec 32 := 0#32
  let v2425 : BitVec 1 := Scalar.cmpi .slt v2423 c0_i32_1441
  let c0_i32_1442 : BitVec 32 := 0#32
  let v2426 : BitVec 1 := Scalar.cmpi .slt v2422 c0_i32_1442
  let v2427 : BitVec 1 := Scalar.xori v2425 v2426
  let c0_i32_1440 : BitVec 32 := 0#32
  let v2424 : BitVec 1 := Scalar.cmpi .ne v2423 c0_i32_1440
  let v2428 : BitVec 1 := Scalar.andi v2427 v2424
  let v2429 : BitVec 32 := Scalar.addi v2423 v2422
  let v2430 : BitVec 32 := Scalar.select v2428 v2429 v2423
  let c4_i32_1450 : BitVec 32 := 4#32
  let c0_i32_1451 : BitVec 32 := 0#32
  let v2448 : BitVec 1 := Scalar.cmpi .eq c4_i32_1450 c0_i32_1451
  let c1_i32_1452 : BitVec 32 := 1#32
  let v2449 : BitVec 32 := Scalar.select v2448 c1_i32_1452 c4_i32_1450
  let v2450 : BitVec 32 := Scalar.remsi v2430 v2449
  let c0_i32_1454 : BitVec 32 := 0#32
  let v2452 : BitVec 1 := Scalar.cmpi .slt v2450 c0_i32_1454
  let c0_i32_1455 : BitVec 32 := 0#32
  let v2453 : BitVec 1 := Scalar.cmpi .slt v2449 c0_i32_1455
  let v2454 : BitVec 1 := Scalar.xori v2452 v2453
  let c0_i32_1453 : BitVec 32 := 0#32
  let v2451 : BitVec 1 := Scalar.cmpi .ne v2450 c0_i32_1453
  let v2455 : BitVec 1 := Scalar.andi v2454 v2451
  let v2456 : BitVec 32 := Scalar.addi v2450 v2449
  let v2457 : BitVec 32 := Scalar.select v2455 v2456 v2450
  let v2458 : BitVec 32 := Scalar.muli c8_i32_1456 v2457
  let c2_i32_1457 : BitVec 32 := 2#32
  let c0_i32_1444 : BitVec 32 := 0#32
  let v2432 : BitVec 1 := Scalar.cmpi .sgt v2430 c0_i32_1444
  let v2433 : BitVec 32 := Scalar.extui v2432
  let c0_i32_1445 : BitVec 32 := 0#32
  let v2434 : BitVec 1 := Scalar.cmpi .slt v2430 c0_i32_1445
  let v2435 : BitVec 32 := Scalar.extui v2434
  let v2436 : BitVec 32 := Scalar.subi v2433 v2435
  let c4_i32_1443 : BitVec 32 := 4#32
  let c0_i32_1446 : BitVec 32 := 0#32
  let v2437 : BitVec 1 := Scalar.cmpi .sgt c4_i32_1443 c0_i32_1446
  let v2438 : BitVec 32 := Scalar.extui v2437
  let c0_i32_1447 : BitVec 32 := 0#32
  let v2439 : BitVec 1 := Scalar.cmpi .slt c4_i32_1443 c0_i32_1447
  let v2440 : BitVec 32 := Scalar.extui v2439
  let v2441 : BitVec 32 := Scalar.subi v2438 v2440
  let v2442 : BitVec 1 := Scalar.cmpi .ne v2436 v2441
  let v2443 : BitVec 32 := Scalar.remsi v2430 c4_i32_1443
  let c0_i32_1448 : BitVec 32 := 0#32
  let v2444 : BitVec 1 := Scalar.cmpi .ne v2443 c0_i32_1448
  let v2445 : BitVec 1 := Scalar.andi v2442 v2444
  let v2431 : BitVec 32 := Scalar.divsi v2430 c4_i32_1443
  let c1_i32_1449 : BitVec 32 := 1#32
  let v2446 : BitVec 32 := Scalar.subi v2431 c1_i32_1449
  let v2447 : BitVec 32 := Scalar.select v2445 v2446 v2431
  let v2459 : BitVec 32 := Scalar.muli c2_i32_1457 v2447
  let v2460 : BitVec 32 := Scalar.addi v2458 v2459
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1458 : BitVec 32 := 2#32
  let c0_i32_1459 : BitVec 32 := 0#32
  let v2461 : BitVec 1 := Scalar.cmpi .eq c2_i32_1458 c0_i32_1459
  let c1_i32_1460 : BitVec 32 := 1#32
  let v2462 : BitVec 32 := Scalar.select v2461 c1_i32_1460 c2_i32_1458
  let v2463 : BitVec 32 := Scalar.remsi v2447 v2462
  let c0_i32_1462 : BitVec 32 := 0#32
  let v2465 : BitVec 1 := Scalar.cmpi .slt v2463 c0_i32_1462
  let c0_i32_1463 : BitVec 32 := 0#32
  let v2466 : BitVec 1 := Scalar.cmpi .slt v2462 c0_i32_1463
  let v2467 : BitVec 1 := Scalar.xori v2465 v2466
  let c0_i32_1461 : BitVec 32 := 0#32
  let v2464 : BitVec 1 := Scalar.cmpi .ne v2463 c0_i32_1461
  let v2468 : BitVec 1 := Scalar.andi v2467 v2464
  let v2469 : BitVec 32 := Scalar.addi v2463 v2462
  let v2470 : BitVec 32 := Scalar.select v2468 v2469 v2463
  let v2471 : BitVec 32 := Scalar.xori v67 v2470
  let v2472 : BitVec 32 := Scalar.addi v2460 v2471
  let c1_i32_1466 : BitVec 32 := 1#32
  let v2473 : BitVec 32 := Scalar.muli v2472 c1_i32_1466
  let v2474 : BitVec 32 := Scalar.addi c0_i32_1467 v2473
  v2474.toNat
def k0_dev51 (d0 : Dev nD) : Nat :=
  let c0_i32_1500 : BitVec 32 := 0#32
  let c8_i32_1490 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c2_i32_1470 : BitVec 32 := 2#32
  let v2481 : BitVec 32 := Scalar.subi v69 c2_i32_1470
  let c16_i32_1471 : BitVec 32 := 16#32
  let c0_i32_1472 : BitVec 32 := 0#32
  let v2482 : BitVec 1 := Scalar.cmpi .eq c16_i32_1471 c0_i32_1472
  let c1_i32_1473 : BitVec 32 := 1#32
  let v2483 : BitVec 32 := Scalar.select v2482 c1_i32_1473 c16_i32_1471
  let v2484 : BitVec 32 := Scalar.remsi v2481 v2483
  let c0_i32_1475 : BitVec 32 := 0#32
  let v2486 : BitVec 1 := Scalar.cmpi .slt v2484 c0_i32_1475
  let c0_i32_1476 : BitVec 32 := 0#32
  let v2487 : BitVec 1 := Scalar.cmpi .slt v2483 c0_i32_1476
  let v2488 : BitVec 1 := Scalar.xori v2486 v2487
  let c0_i32_1474 : BitVec 32 := 0#32
  let v2485 : BitVec 1 := Scalar.cmpi .ne v2484 c0_i32_1474
  let v2489 : BitVec 1 := Scalar.andi v2488 v2485
  let v2490 : BitVec 32 := Scalar.addi v2484 v2483
  let v2491 : BitVec 32 := Scalar.select v2489 v2490 v2484
  let c4_i32_1484 : BitVec 32 := 4#32
  let c0_i32_1485 : BitVec 32 := 0#32
  let v2509 : BitVec 1 := Scalar.cmpi .eq c4_i32_1484 c0_i32_1485
  let c1_i32_1486 : BitVec 32 := 1#32
  let v2510 : BitVec 32 := Scalar.select v2509 c1_i32_1486 c4_i32_1484
  let v2511 : BitVec 32 := Scalar.remsi v2491 v2510
  let c0_i32_1488 : BitVec 32 := 0#32
  let v2513 : BitVec 1 := Scalar.cmpi .slt v2511 c0_i32_1488
  let c0_i32_1489 : BitVec 32 := 0#32
  let v2514 : BitVec 1 := Scalar.cmpi .slt v2510 c0_i32_1489
  let v2515 : BitVec 1 := Scalar.xori v2513 v2514
  let c0_i32_1487 : BitVec 32 := 0#32
  let v2512 : BitVec 1 := Scalar.cmpi .ne v2511 c0_i32_1487
  let v2516 : BitVec 1 := Scalar.andi v2515 v2512
  let v2517 : BitVec 32 := Scalar.addi v2511 v2510
  let v2518 : BitVec 32 := Scalar.select v2516 v2517 v2511
  let v2519 : BitVec 32 := Scalar.muli c8_i32_1490 v2518
  let c2_i32_1491 : BitVec 32 := 2#32
  let c0_i32_1478 : BitVec 32 := 0#32
  let v2493 : BitVec 1 := Scalar.cmpi .sgt v2491 c0_i32_1478
  let v2494 : BitVec 32 := Scalar.extui v2493
  let c0_i32_1479 : BitVec 32 := 0#32
  let v2495 : BitVec 1 := Scalar.cmpi .slt v2491 c0_i32_1479
  let v2496 : BitVec 32 := Scalar.extui v2495
  let v2497 : BitVec 32 := Scalar.subi v2494 v2496
  let c4_i32_1477 : BitVec 32 := 4#32
  let c0_i32_1480 : BitVec 32 := 0#32
  let v2498 : BitVec 1 := Scalar.cmpi .sgt c4_i32_1477 c0_i32_1480
  let v2499 : BitVec 32 := Scalar.extui v2498
  let c0_i32_1481 : BitVec 32 := 0#32
  let v2500 : BitVec 1 := Scalar.cmpi .slt c4_i32_1477 c0_i32_1481
  let v2501 : BitVec 32 := Scalar.extui v2500
  let v2502 : BitVec 32 := Scalar.subi v2499 v2501
  let v2503 : BitVec 1 := Scalar.cmpi .ne v2497 v2502
  let v2504 : BitVec 32 := Scalar.remsi v2491 c4_i32_1477
  let c0_i32_1482 : BitVec 32 := 0#32
  let v2505 : BitVec 1 := Scalar.cmpi .ne v2504 c0_i32_1482
  let v2506 : BitVec 1 := Scalar.andi v2503 v2505
  let v2492 : BitVec 32 := Scalar.divsi v2491 c4_i32_1477
  let c1_i32_1483 : BitVec 32 := 1#32
  let v2507 : BitVec 32 := Scalar.subi v2492 c1_i32_1483
  let v2508 : BitVec 32 := Scalar.select v2506 v2507 v2492
  let v2520 : BitVec 32 := Scalar.muli c2_i32_1491 v2508
  let v2521 : BitVec 32 := Scalar.addi v2519 v2520
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1492 : BitVec 32 := 2#32
  let c0_i32_1493 : BitVec 32 := 0#32
  let v2522 : BitVec 1 := Scalar.cmpi .eq c2_i32_1492 c0_i32_1493
  let c1_i32_1494 : BitVec 32 := 1#32
  let v2523 : BitVec 32 := Scalar.select v2522 c1_i32_1494 c2_i32_1492
  let v2524 : BitVec 32 := Scalar.remsi v2508 v2523
  let c0_i32_1496 : BitVec 32 := 0#32
  let v2526 : BitVec 1 := Scalar.cmpi .slt v2524 c0_i32_1496
  let c0_i32_1497 : BitVec 32 := 0#32
  let v2527 : BitVec 1 := Scalar.cmpi .slt v2523 c0_i32_1497
  let v2528 : BitVec 1 := Scalar.xori v2526 v2527
  let c0_i32_1495 : BitVec 32 := 0#32
  let v2525 : BitVec 1 := Scalar.cmpi .ne v2524 c0_i32_1495
  let v2529 : BitVec 1 := Scalar.andi v2528 v2525
  let v2530 : BitVec 32 := Scalar.addi v2524 v2523
  let v2531 : BitVec 32 := Scalar.select v2529 v2530 v2524
  let v2532 : BitVec 32 := Scalar.xori v67 v2531
  let v2533 : BitVec 32 := Scalar.addi v2521 v2532
  let c1_i32_1499 : BitVec 32 := 1#32
  let v2534 : BitVec 32 := Scalar.muli v2533 c1_i32_1499
  let v2535 : BitVec 32 := Scalar.addi c0_i32_1500 v2534
  v2535.toNat
def k0_dev52 (d0 : Dev nD) : Nat :=
  let c0_i32_1533 : BitVec 32 := 0#32
  let c8_i32_1523 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c3_i32_1503 : BitVec 32 := 3#32
  let v2542 : BitVec 32 := Scalar.subi v69 c3_i32_1503
  let c16_i32_1504 : BitVec 32 := 16#32
  let c0_i32_1505 : BitVec 32 := 0#32
  let v2543 : BitVec 1 := Scalar.cmpi .eq c16_i32_1504 c0_i32_1505
  let c1_i32_1506 : BitVec 32 := 1#32
  let v2544 : BitVec 32 := Scalar.select v2543 c1_i32_1506 c16_i32_1504
  let v2545 : BitVec 32 := Scalar.remsi v2542 v2544
  let c0_i32_1508 : BitVec 32 := 0#32
  let v2547 : BitVec 1 := Scalar.cmpi .slt v2545 c0_i32_1508
  let c0_i32_1509 : BitVec 32 := 0#32
  let v2548 : BitVec 1 := Scalar.cmpi .slt v2544 c0_i32_1509
  let v2549 : BitVec 1 := Scalar.xori v2547 v2548
  let c0_i32_1507 : BitVec 32 := 0#32
  let v2546 : BitVec 1 := Scalar.cmpi .ne v2545 c0_i32_1507
  let v2550 : BitVec 1 := Scalar.andi v2549 v2546
  let v2551 : BitVec 32 := Scalar.addi v2545 v2544
  let v2552 : BitVec 32 := Scalar.select v2550 v2551 v2545
  let c4_i32_1517 : BitVec 32 := 4#32
  let c0_i32_1518 : BitVec 32 := 0#32
  let v2570 : BitVec 1 := Scalar.cmpi .eq c4_i32_1517 c0_i32_1518
  let c1_i32_1519 : BitVec 32 := 1#32
  let v2571 : BitVec 32 := Scalar.select v2570 c1_i32_1519 c4_i32_1517
  let v2572 : BitVec 32 := Scalar.remsi v2552 v2571
  let c0_i32_1521 : BitVec 32 := 0#32
  let v2574 : BitVec 1 := Scalar.cmpi .slt v2572 c0_i32_1521
  let c0_i32_1522 : BitVec 32 := 0#32
  let v2575 : BitVec 1 := Scalar.cmpi .slt v2571 c0_i32_1522
  let v2576 : BitVec 1 := Scalar.xori v2574 v2575
  let c0_i32_1520 : BitVec 32 := 0#32
  let v2573 : BitVec 1 := Scalar.cmpi .ne v2572 c0_i32_1520
  let v2577 : BitVec 1 := Scalar.andi v2576 v2573
  let v2578 : BitVec 32 := Scalar.addi v2572 v2571
  let v2579 : BitVec 32 := Scalar.select v2577 v2578 v2572
  let v2580 : BitVec 32 := Scalar.muli c8_i32_1523 v2579
  let c2_i32_1524 : BitVec 32 := 2#32
  let c0_i32_1511 : BitVec 32 := 0#32
  let v2554 : BitVec 1 := Scalar.cmpi .sgt v2552 c0_i32_1511
  let v2555 : BitVec 32 := Scalar.extui v2554
  let c0_i32_1512 : BitVec 32 := 0#32
  let v2556 : BitVec 1 := Scalar.cmpi .slt v2552 c0_i32_1512
  let v2557 : BitVec 32 := Scalar.extui v2556
  let v2558 : BitVec 32 := Scalar.subi v2555 v2557
  let c4_i32_1510 : BitVec 32 := 4#32
  let c0_i32_1513 : BitVec 32 := 0#32
  let v2559 : BitVec 1 := Scalar.cmpi .sgt c4_i32_1510 c0_i32_1513
  let v2560 : BitVec 32 := Scalar.extui v2559
  let c0_i32_1514 : BitVec 32 := 0#32
  let v2561 : BitVec 1 := Scalar.cmpi .slt c4_i32_1510 c0_i32_1514
  let v2562 : BitVec 32 := Scalar.extui v2561
  let v2563 : BitVec 32 := Scalar.subi v2560 v2562
  let v2564 : BitVec 1 := Scalar.cmpi .ne v2558 v2563
  let v2565 : BitVec 32 := Scalar.remsi v2552 c4_i32_1510
  let c0_i32_1515 : BitVec 32 := 0#32
  let v2566 : BitVec 1 := Scalar.cmpi .ne v2565 c0_i32_1515
  let v2567 : BitVec 1 := Scalar.andi v2564 v2566
  let v2553 : BitVec 32 := Scalar.divsi v2552 c4_i32_1510
  let c1_i32_1516 : BitVec 32 := 1#32
  let v2568 : BitVec 32 := Scalar.subi v2553 c1_i32_1516
  let v2569 : BitVec 32 := Scalar.select v2567 v2568 v2553
  let v2581 : BitVec 32 := Scalar.muli c2_i32_1524 v2569
  let v2582 : BitVec 32 := Scalar.addi v2580 v2581
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1525 : BitVec 32 := 2#32
  let c0_i32_1526 : BitVec 32 := 0#32
  let v2583 : BitVec 1 := Scalar.cmpi .eq c2_i32_1525 c0_i32_1526
  let c1_i32_1527 : BitVec 32 := 1#32
  let v2584 : BitVec 32 := Scalar.select v2583 c1_i32_1527 c2_i32_1525
  let v2585 : BitVec 32 := Scalar.remsi v2569 v2584
  let c0_i32_1529 : BitVec 32 := 0#32
  let v2587 : BitVec 1 := Scalar.cmpi .slt v2585 c0_i32_1529
  let c0_i32_1530 : BitVec 32 := 0#32
  let v2588 : BitVec 1 := Scalar.cmpi .slt v2584 c0_i32_1530
  let v2589 : BitVec 1 := Scalar.xori v2587 v2588
  let c0_i32_1528 : BitVec 32 := 0#32
  let v2586 : BitVec 1 := Scalar.cmpi .ne v2585 c0_i32_1528
  let v2590 : BitVec 1 := Scalar.andi v2589 v2586
  let v2591 : BitVec 32 := Scalar.addi v2585 v2584
  let v2592 : BitVec 32 := Scalar.select v2590 v2591 v2585
  let v2593 : BitVec 32 := Scalar.xori v67 v2592
  let v2594 : BitVec 32 := Scalar.addi v2582 v2593
  let c1_i32_1532 : BitVec 32 := 1#32
  let v2595 : BitVec 32 := Scalar.muli v2594 c1_i32_1532
  let v2596 : BitVec 32 := Scalar.addi c0_i32_1533 v2595
  v2596.toNat
def k0_dev53 (d0 : Dev nD) : Nat :=
  let c0_i32_1566 : BitVec 32 := 0#32
  let c8_i32_1556 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c4_i32_1536 : BitVec 32 := 4#32
  let v2603 : BitVec 32 := Scalar.subi v69 c4_i32_1536
  let c16_i32_1537 : BitVec 32 := 16#32
  let c0_i32_1538 : BitVec 32 := 0#32
  let v2604 : BitVec 1 := Scalar.cmpi .eq c16_i32_1537 c0_i32_1538
  let c1_i32_1539 : BitVec 32 := 1#32
  let v2605 : BitVec 32 := Scalar.select v2604 c1_i32_1539 c16_i32_1537
  let v2606 : BitVec 32 := Scalar.remsi v2603 v2605
  let c0_i32_1541 : BitVec 32 := 0#32
  let v2608 : BitVec 1 := Scalar.cmpi .slt v2606 c0_i32_1541
  let c0_i32_1542 : BitVec 32 := 0#32
  let v2609 : BitVec 1 := Scalar.cmpi .slt v2605 c0_i32_1542
  let v2610 : BitVec 1 := Scalar.xori v2608 v2609
  let c0_i32_1540 : BitVec 32 := 0#32
  let v2607 : BitVec 1 := Scalar.cmpi .ne v2606 c0_i32_1540
  let v2611 : BitVec 1 := Scalar.andi v2610 v2607
  let v2612 : BitVec 32 := Scalar.addi v2606 v2605
  let v2613 : BitVec 32 := Scalar.select v2611 v2612 v2606
  let c4_i32_1550 : BitVec 32 := 4#32
  let c0_i32_1551 : BitVec 32 := 0#32
  let v2631 : BitVec 1 := Scalar.cmpi .eq c4_i32_1550 c0_i32_1551
  let c1_i32_1552 : BitVec 32 := 1#32
  let v2632 : BitVec 32 := Scalar.select v2631 c1_i32_1552 c4_i32_1550
  let v2633 : BitVec 32 := Scalar.remsi v2613 v2632
  let c0_i32_1554 : BitVec 32 := 0#32
  let v2635 : BitVec 1 := Scalar.cmpi .slt v2633 c0_i32_1554
  let c0_i32_1555 : BitVec 32 := 0#32
  let v2636 : BitVec 1 := Scalar.cmpi .slt v2632 c0_i32_1555
  let v2637 : BitVec 1 := Scalar.xori v2635 v2636
  let c0_i32_1553 : BitVec 32 := 0#32
  let v2634 : BitVec 1 := Scalar.cmpi .ne v2633 c0_i32_1553
  let v2638 : BitVec 1 := Scalar.andi v2637 v2634
  let v2639 : BitVec 32 := Scalar.addi v2633 v2632
  let v2640 : BitVec 32 := Scalar.select v2638 v2639 v2633
  let v2641 : BitVec 32 := Scalar.muli c8_i32_1556 v2640
  let c2_i32_1557 : BitVec 32 := 2#32
  let c0_i32_1544 : BitVec 32 := 0#32
  let v2615 : BitVec 1 := Scalar.cmpi .sgt v2613 c0_i32_1544
  let v2616 : BitVec 32 := Scalar.extui v2615
  let c0_i32_1545 : BitVec 32 := 0#32
  let v2617 : BitVec 1 := Scalar.cmpi .slt v2613 c0_i32_1545
  let v2618 : BitVec 32 := Scalar.extui v2617
  let v2619 : BitVec 32 := Scalar.subi v2616 v2618
  let c4_i32_1543 : BitVec 32 := 4#32
  let c0_i32_1546 : BitVec 32 := 0#32
  let v2620 : BitVec 1 := Scalar.cmpi .sgt c4_i32_1543 c0_i32_1546
  let v2621 : BitVec 32 := Scalar.extui v2620
  let c0_i32_1547 : BitVec 32 := 0#32
  let v2622 : BitVec 1 := Scalar.cmpi .slt c4_i32_1543 c0_i32_1547
  let v2623 : BitVec 32 := Scalar.extui v2622
  let v2624 : BitVec 32 := Scalar.subi v2621 v2623
  let v2625 : BitVec 1 := Scalar.cmpi .ne v2619 v2624
  let v2626 : BitVec 32 := Scalar.remsi v2613 c4_i32_1543
  let c0_i32_1548 : BitVec 32 := 0#32
  let v2627 : BitVec 1 := Scalar.cmpi .ne v2626 c0_i32_1548
  let v2628 : BitVec 1 := Scalar.andi v2625 v2627
  let v2614 : BitVec 32 := Scalar.divsi v2613 c4_i32_1543
  let c1_i32_1549 : BitVec 32 := 1#32
  let v2629 : BitVec 32 := Scalar.subi v2614 c1_i32_1549
  let v2630 : BitVec 32 := Scalar.select v2628 v2629 v2614
  let v2642 : BitVec 32 := Scalar.muli c2_i32_1557 v2630
  let v2643 : BitVec 32 := Scalar.addi v2641 v2642
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1558 : BitVec 32 := 2#32
  let c0_i32_1559 : BitVec 32 := 0#32
  let v2644 : BitVec 1 := Scalar.cmpi .eq c2_i32_1558 c0_i32_1559
  let c1_i32_1560 : BitVec 32 := 1#32
  let v2645 : BitVec 32 := Scalar.select v2644 c1_i32_1560 c2_i32_1558
  let v2646 : BitVec 32 := Scalar.remsi v2630 v2645
  let c0_i32_1562 : BitVec 32 := 0#32
  let v2648 : BitVec 1 := Scalar.cmpi .slt v2646 c0_i32_1562
  let c0_i32_1563 : BitVec 32 := 0#32
  let v2649 : BitVec 1 := Scalar.cmpi .slt v2645 c0_i32_1563
  let v2650 : BitVec 1 := Scalar.xori v2648 v2649
  let c0_i32_1561 : BitVec 32 := 0#32
  let v2647 : BitVec 1 := Scalar.cmpi .ne v2646 c0_i32_1561
  let v2651 : BitVec 1 := Scalar.andi v2650 v2647
  let v2652 : BitVec 32 := Scalar.addi v2646 v2645
  let v2653 : BitVec 32 := Scalar.select v2651 v2652 v2646
  let v2654 : BitVec 32 := Scalar.xori v67 v2653
  let v2655 : BitVec 32 := Scalar.addi v2643 v2654
  let c1_i32_1565 : BitVec 32 := 1#32
  let v2656 : BitVec 32 := Scalar.muli v2655 c1_i32_1565
  let v2657 : BitVec 32 := Scalar.addi c0_i32_1566 v2656
  v2657.toNat
def k0_dev54 (d0 : Dev nD) : Nat :=
  let c0_i32_1599 : BitVec 32 := 0#32
  let c8_i32_1589 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c5_i32_1569 : BitVec 32 := 5#32
  let v2664 : BitVec 32 := Scalar.subi v69 c5_i32_1569
  let c16_i32_1570 : BitVec 32 := 16#32
  let c0_i32_1571 : BitVec 32 := 0#32
  let v2665 : BitVec 1 := Scalar.cmpi .eq c16_i32_1570 c0_i32_1571
  let c1_i32_1572 : BitVec 32 := 1#32
  let v2666 : BitVec 32 := Scalar.select v2665 c1_i32_1572 c16_i32_1570
  let v2667 : BitVec 32 := Scalar.remsi v2664 v2666
  let c0_i32_1574 : BitVec 32 := 0#32
  let v2669 : BitVec 1 := Scalar.cmpi .slt v2667 c0_i32_1574
  let c0_i32_1575 : BitVec 32 := 0#32
  let v2670 : BitVec 1 := Scalar.cmpi .slt v2666 c0_i32_1575
  let v2671 : BitVec 1 := Scalar.xori v2669 v2670
  let c0_i32_1573 : BitVec 32 := 0#32
  let v2668 : BitVec 1 := Scalar.cmpi .ne v2667 c0_i32_1573
  let v2672 : BitVec 1 := Scalar.andi v2671 v2668
  let v2673 : BitVec 32 := Scalar.addi v2667 v2666
  let v2674 : BitVec 32 := Scalar.select v2672 v2673 v2667
  let c4_i32_1583 : BitVec 32 := 4#32
  let c0_i32_1584 : BitVec 32 := 0#32
  let v2692 : BitVec 1 := Scalar.cmpi .eq c4_i32_1583 c0_i32_1584
  let c1_i32_1585 : BitVec 32 := 1#32
  let v2693 : BitVec 32 := Scalar.select v2692 c1_i32_1585 c4_i32_1583
  let v2694 : BitVec 32 := Scalar.remsi v2674 v2693
  let c0_i32_1587 : BitVec 32 := 0#32
  let v2696 : BitVec 1 := Scalar.cmpi .slt v2694 c0_i32_1587
  let c0_i32_1588 : BitVec 32 := 0#32
  let v2697 : BitVec 1 := Scalar.cmpi .slt v2693 c0_i32_1588
  let v2698 : BitVec 1 := Scalar.xori v2696 v2697
  let c0_i32_1586 : BitVec 32 := 0#32
  let v2695 : BitVec 1 := Scalar.cmpi .ne v2694 c0_i32_1586
  let v2699 : BitVec 1 := Scalar.andi v2698 v2695
  let v2700 : BitVec 32 := Scalar.addi v2694 v2693
  let v2701 : BitVec 32 := Scalar.select v2699 v2700 v2694
  let v2702 : BitVec 32 := Scalar.muli c8_i32_1589 v2701
  let c2_i32_1590 : BitVec 32 := 2#32
  let c0_i32_1577 : BitVec 32 := 0#32
  let v2676 : BitVec 1 := Scalar.cmpi .sgt v2674 c0_i32_1577
  let v2677 : BitVec 32 := Scalar.extui v2676
  let c0_i32_1578 : BitVec 32 := 0#32
  let v2678 : BitVec 1 := Scalar.cmpi .slt v2674 c0_i32_1578
  let v2679 : BitVec 32 := Scalar.extui v2678
  let v2680 : BitVec 32 := Scalar.subi v2677 v2679
  let c4_i32_1576 : BitVec 32 := 4#32
  let c0_i32_1579 : BitVec 32 := 0#32
  let v2681 : BitVec 1 := Scalar.cmpi .sgt c4_i32_1576 c0_i32_1579
  let v2682 : BitVec 32 := Scalar.extui v2681
  let c0_i32_1580 : BitVec 32 := 0#32
  let v2683 : BitVec 1 := Scalar.cmpi .slt c4_i32_1576 c0_i32_1580
  let v2684 : BitVec 32 := Scalar.extui v2683
  let v2685 : BitVec 32 := Scalar.subi v2682 v2684
  let v2686 : BitVec 1 := Scalar.cmpi .ne v2680 v2685
  let v2687 : BitVec 32 := Scalar.remsi v2674 c4_i32_1576
  let c0_i32_1581 : BitVec 32 := 0#32
  let v2688 : BitVec 1 := Scalar.cmpi .ne v2687 c0_i32_1581
  let v2689 : BitVec 1 := Scalar.andi v2686 v2688
  let v2675 : BitVec 32 := Scalar.divsi v2674 c4_i32_1576
  let c1_i32_1582 : BitVec 32 := 1#32
  let v2690 : BitVec 32 := Scalar.subi v2675 c1_i32_1582
  let v2691 : BitVec 32 := Scalar.select v2689 v2690 v2675
  let v2703 : BitVec 32 := Scalar.muli c2_i32_1590 v2691
  let v2704 : BitVec 32 := Scalar.addi v2702 v2703
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1591 : BitVec 32 := 2#32
  let c0_i32_1592 : BitVec 32 := 0#32
  let v2705 : BitVec 1 := Scalar.cmpi .eq c2_i32_1591 c0_i32_1592
  let c1_i32_1593 : BitVec 32 := 1#32
  let v2706 : BitVec 32 := Scalar.select v2705 c1_i32_1593 c2_i32_1591
  let v2707 : BitVec 32 := Scalar.remsi v2691 v2706
  let c0_i32_1595 : BitVec 32 := 0#32
  let v2709 : BitVec 1 := Scalar.cmpi .slt v2707 c0_i32_1595
  let c0_i32_1596 : BitVec 32 := 0#32
  let v2710 : BitVec 1 := Scalar.cmpi .slt v2706 c0_i32_1596
  let v2711 : BitVec 1 := Scalar.xori v2709 v2710
  let c0_i32_1594 : BitVec 32 := 0#32
  let v2708 : BitVec 1 := Scalar.cmpi .ne v2707 c0_i32_1594
  let v2712 : BitVec 1 := Scalar.andi v2711 v2708
  let v2713 : BitVec 32 := Scalar.addi v2707 v2706
  let v2714 : BitVec 32 := Scalar.select v2712 v2713 v2707
  let v2715 : BitVec 32 := Scalar.xori v67 v2714
  let v2716 : BitVec 32 := Scalar.addi v2704 v2715
  let c1_i32_1598 : BitVec 32 := 1#32
  let v2717 : BitVec 32 := Scalar.muli v2716 c1_i32_1598
  let v2718 : BitVec 32 := Scalar.addi c0_i32_1599 v2717
  v2718.toNat
def k0_dev55 (d0 : Dev nD) : Nat :=
  let c0_i32_1632 : BitVec 32 := 0#32
  let c8_i32_1622 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c6_i32_1602 : BitVec 32 := 6#32
  let v2725 : BitVec 32 := Scalar.subi v69 c6_i32_1602
  let c16_i32_1603 : BitVec 32 := 16#32
  let c0_i32_1604 : BitVec 32 := 0#32
  let v2726 : BitVec 1 := Scalar.cmpi .eq c16_i32_1603 c0_i32_1604
  let c1_i32_1605 : BitVec 32 := 1#32
  let v2727 : BitVec 32 := Scalar.select v2726 c1_i32_1605 c16_i32_1603
  let v2728 : BitVec 32 := Scalar.remsi v2725 v2727
  let c0_i32_1607 : BitVec 32 := 0#32
  let v2730 : BitVec 1 := Scalar.cmpi .slt v2728 c0_i32_1607
  let c0_i32_1608 : BitVec 32 := 0#32
  let v2731 : BitVec 1 := Scalar.cmpi .slt v2727 c0_i32_1608
  let v2732 : BitVec 1 := Scalar.xori v2730 v2731
  let c0_i32_1606 : BitVec 32 := 0#32
  let v2729 : BitVec 1 := Scalar.cmpi .ne v2728 c0_i32_1606
  let v2733 : BitVec 1 := Scalar.andi v2732 v2729
  let v2734 : BitVec 32 := Scalar.addi v2728 v2727
  let v2735 : BitVec 32 := Scalar.select v2733 v2734 v2728
  let c4_i32_1616 : BitVec 32 := 4#32
  let c0_i32_1617 : BitVec 32 := 0#32
  let v2753 : BitVec 1 := Scalar.cmpi .eq c4_i32_1616 c0_i32_1617
  let c1_i32_1618 : BitVec 32 := 1#32
  let v2754 : BitVec 32 := Scalar.select v2753 c1_i32_1618 c4_i32_1616
  let v2755 : BitVec 32 := Scalar.remsi v2735 v2754
  let c0_i32_1620 : BitVec 32 := 0#32
  let v2757 : BitVec 1 := Scalar.cmpi .slt v2755 c0_i32_1620
  let c0_i32_1621 : BitVec 32 := 0#32
  let v2758 : BitVec 1 := Scalar.cmpi .slt v2754 c0_i32_1621
  let v2759 : BitVec 1 := Scalar.xori v2757 v2758
  let c0_i32_1619 : BitVec 32 := 0#32
  let v2756 : BitVec 1 := Scalar.cmpi .ne v2755 c0_i32_1619
  let v2760 : BitVec 1 := Scalar.andi v2759 v2756
  let v2761 : BitVec 32 := Scalar.addi v2755 v2754
  let v2762 : BitVec 32 := Scalar.select v2760 v2761 v2755
  let v2763 : BitVec 32 := Scalar.muli c8_i32_1622 v2762
  let c2_i32_1623 : BitVec 32 := 2#32
  let c0_i32_1610 : BitVec 32 := 0#32
  let v2737 : BitVec 1 := Scalar.cmpi .sgt v2735 c0_i32_1610
  let v2738 : BitVec 32 := Scalar.extui v2737
  let c0_i32_1611 : BitVec 32 := 0#32
  let v2739 : BitVec 1 := Scalar.cmpi .slt v2735 c0_i32_1611
  let v2740 : BitVec 32 := Scalar.extui v2739
  let v2741 : BitVec 32 := Scalar.subi v2738 v2740
  let c4_i32_1609 : BitVec 32 := 4#32
  let c0_i32_1612 : BitVec 32 := 0#32
  let v2742 : BitVec 1 := Scalar.cmpi .sgt c4_i32_1609 c0_i32_1612
  let v2743 : BitVec 32 := Scalar.extui v2742
  let c0_i32_1613 : BitVec 32 := 0#32
  let v2744 : BitVec 1 := Scalar.cmpi .slt c4_i32_1609 c0_i32_1613
  let v2745 : BitVec 32 := Scalar.extui v2744
  let v2746 : BitVec 32 := Scalar.subi v2743 v2745
  let v2747 : BitVec 1 := Scalar.cmpi .ne v2741 v2746
  let v2748 : BitVec 32 := Scalar.remsi v2735 c4_i32_1609
  let c0_i32_1614 : BitVec 32 := 0#32
  let v2749 : BitVec 1 := Scalar.cmpi .ne v2748 c0_i32_1614
  let v2750 : BitVec 1 := Scalar.andi v2747 v2749
  let v2736 : BitVec 32 := Scalar.divsi v2735 c4_i32_1609
  let c1_i32_1615 : BitVec 32 := 1#32
  let v2751 : BitVec 32 := Scalar.subi v2736 c1_i32_1615
  let v2752 : BitVec 32 := Scalar.select v2750 v2751 v2736
  let v2764 : BitVec 32 := Scalar.muli c2_i32_1623 v2752
  let v2765 : BitVec 32 := Scalar.addi v2763 v2764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1624 : BitVec 32 := 2#32
  let c0_i32_1625 : BitVec 32 := 0#32
  let v2766 : BitVec 1 := Scalar.cmpi .eq c2_i32_1624 c0_i32_1625
  let c1_i32_1626 : BitVec 32 := 1#32
  let v2767 : BitVec 32 := Scalar.select v2766 c1_i32_1626 c2_i32_1624
  let v2768 : BitVec 32 := Scalar.remsi v2752 v2767
  let c0_i32_1628 : BitVec 32 := 0#32
  let v2770 : BitVec 1 := Scalar.cmpi .slt v2768 c0_i32_1628
  let c0_i32_1629 : BitVec 32 := 0#32
  let v2771 : BitVec 1 := Scalar.cmpi .slt v2767 c0_i32_1629
  let v2772 : BitVec 1 := Scalar.xori v2770 v2771
  let c0_i32_1627 : BitVec 32 := 0#32
  let v2769 : BitVec 1 := Scalar.cmpi .ne v2768 c0_i32_1627
  let v2773 : BitVec 1 := Scalar.andi v2772 v2769
  let v2774 : BitVec 32 := Scalar.addi v2768 v2767
  let v2775 : BitVec 32 := Scalar.select v2773 v2774 v2768
  let v2776 : BitVec 32 := Scalar.xori v67 v2775
  let v2777 : BitVec 32 := Scalar.addi v2765 v2776
  let c1_i32_1631 : BitVec 32 := 1#32
  let v2778 : BitVec 32 := Scalar.muli v2777 c1_i32_1631
  let v2779 : BitVec 32 := Scalar.addi c0_i32_1632 v2778
  v2779.toNat
def k0_dev56 (d0 : Dev nD) : Nat :=
  let c0_i32_1665 : BitVec 32 := 0#32
  let c8_i32_1655 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c7_i32_1635 : BitVec 32 := 7#32
  let v2786 : BitVec 32 := Scalar.subi v69 c7_i32_1635
  let c16_i32_1636 : BitVec 32 := 16#32
  let c0_i32_1637 : BitVec 32 := 0#32
  let v2787 : BitVec 1 := Scalar.cmpi .eq c16_i32_1636 c0_i32_1637
  let c1_i32_1638 : BitVec 32 := 1#32
  let v2788 : BitVec 32 := Scalar.select v2787 c1_i32_1638 c16_i32_1636
  let v2789 : BitVec 32 := Scalar.remsi v2786 v2788
  let c0_i32_1640 : BitVec 32 := 0#32
  let v2791 : BitVec 1 := Scalar.cmpi .slt v2789 c0_i32_1640
  let c0_i32_1641 : BitVec 32 := 0#32
  let v2792 : BitVec 1 := Scalar.cmpi .slt v2788 c0_i32_1641
  let v2793 : BitVec 1 := Scalar.xori v2791 v2792
  let c0_i32_1639 : BitVec 32 := 0#32
  let v2790 : BitVec 1 := Scalar.cmpi .ne v2789 c0_i32_1639
  let v2794 : BitVec 1 := Scalar.andi v2793 v2790
  let v2795 : BitVec 32 := Scalar.addi v2789 v2788
  let v2796 : BitVec 32 := Scalar.select v2794 v2795 v2789
  let c4_i32_1649 : BitVec 32 := 4#32
  let c0_i32_1650 : BitVec 32 := 0#32
  let v2814 : BitVec 1 := Scalar.cmpi .eq c4_i32_1649 c0_i32_1650
  let c1_i32_1651 : BitVec 32 := 1#32
  let v2815 : BitVec 32 := Scalar.select v2814 c1_i32_1651 c4_i32_1649
  let v2816 : BitVec 32 := Scalar.remsi v2796 v2815
  let c0_i32_1653 : BitVec 32 := 0#32
  let v2818 : BitVec 1 := Scalar.cmpi .slt v2816 c0_i32_1653
  let c0_i32_1654 : BitVec 32 := 0#32
  let v2819 : BitVec 1 := Scalar.cmpi .slt v2815 c0_i32_1654
  let v2820 : BitVec 1 := Scalar.xori v2818 v2819
  let c0_i32_1652 : BitVec 32 := 0#32
  let v2817 : BitVec 1 := Scalar.cmpi .ne v2816 c0_i32_1652
  let v2821 : BitVec 1 := Scalar.andi v2820 v2817
  let v2822 : BitVec 32 := Scalar.addi v2816 v2815
  let v2823 : BitVec 32 := Scalar.select v2821 v2822 v2816
  let v2824 : BitVec 32 := Scalar.muli c8_i32_1655 v2823
  let c2_i32_1656 : BitVec 32 := 2#32
  let c0_i32_1643 : BitVec 32 := 0#32
  let v2798 : BitVec 1 := Scalar.cmpi .sgt v2796 c0_i32_1643
  let v2799 : BitVec 32 := Scalar.extui v2798
  let c0_i32_1644 : BitVec 32 := 0#32
  let v2800 : BitVec 1 := Scalar.cmpi .slt v2796 c0_i32_1644
  let v2801 : BitVec 32 := Scalar.extui v2800
  let v2802 : BitVec 32 := Scalar.subi v2799 v2801
  let c4_i32_1642 : BitVec 32 := 4#32
  let c0_i32_1645 : BitVec 32 := 0#32
  let v2803 : BitVec 1 := Scalar.cmpi .sgt c4_i32_1642 c0_i32_1645
  let v2804 : BitVec 32 := Scalar.extui v2803
  let c0_i32_1646 : BitVec 32 := 0#32
  let v2805 : BitVec 1 := Scalar.cmpi .slt c4_i32_1642 c0_i32_1646
  let v2806 : BitVec 32 := Scalar.extui v2805
  let v2807 : BitVec 32 := Scalar.subi v2804 v2806
  let v2808 : BitVec 1 := Scalar.cmpi .ne v2802 v2807
  let v2809 : BitVec 32 := Scalar.remsi v2796 c4_i32_1642
  let c0_i32_1647 : BitVec 32 := 0#32
  let v2810 : BitVec 1 := Scalar.cmpi .ne v2809 c0_i32_1647
  let v2811 : BitVec 1 := Scalar.andi v2808 v2810
  let v2797 : BitVec 32 := Scalar.divsi v2796 c4_i32_1642
  let c1_i32_1648 : BitVec 32 := 1#32
  let v2812 : BitVec 32 := Scalar.subi v2797 c1_i32_1648
  let v2813 : BitVec 32 := Scalar.select v2811 v2812 v2797
  let v2825 : BitVec 32 := Scalar.muli c2_i32_1656 v2813
  let v2826 : BitVec 32 := Scalar.addi v2824 v2825
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1657 : BitVec 32 := 2#32
  let c0_i32_1658 : BitVec 32 := 0#32
  let v2827 : BitVec 1 := Scalar.cmpi .eq c2_i32_1657 c0_i32_1658
  let c1_i32_1659 : BitVec 32 := 1#32
  let v2828 : BitVec 32 := Scalar.select v2827 c1_i32_1659 c2_i32_1657
  let v2829 : BitVec 32 := Scalar.remsi v2813 v2828
  let c0_i32_1661 : BitVec 32 := 0#32
  let v2831 : BitVec 1 := Scalar.cmpi .slt v2829 c0_i32_1661
  let c0_i32_1662 : BitVec 32 := 0#32
  let v2832 : BitVec 1 := Scalar.cmpi .slt v2828 c0_i32_1662
  let v2833 : BitVec 1 := Scalar.xori v2831 v2832
  let c0_i32_1660 : BitVec 32 := 0#32
  let v2830 : BitVec 1 := Scalar.cmpi .ne v2829 c0_i32_1660
  let v2834 : BitVec 1 := Scalar.andi v2833 v2830
  let v2835 : BitVec 32 := Scalar.addi v2829 v2828
  let v2836 : BitVec 32 := Scalar.select v2834 v2835 v2829
  let v2837 : BitVec 32 := Scalar.xori v67 v2836
  let v2838 : BitVec 32 := Scalar.addi v2826 v2837
  let c1_i32_1664 : BitVec 32 := 1#32
  let v2839 : BitVec 32 := Scalar.muli v2838 c1_i32_1664
  let v2840 : BitVec 32 := Scalar.addi c0_i32_1665 v2839
  v2840.toNat
def k0_dev57 (d0 : Dev nD) : Nat :=
  let c0_i32_1698 : BitVec 32 := 0#32
  let c8_i32_1688 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c8_i32_1668 : BitVec 32 := 8#32
  let v2847 : BitVec 32 := Scalar.subi v69 c8_i32_1668
  let c16_i32_1669 : BitVec 32 := 16#32
  let c0_i32_1670 : BitVec 32 := 0#32
  let v2848 : BitVec 1 := Scalar.cmpi .eq c16_i32_1669 c0_i32_1670
  let c1_i32_1671 : BitVec 32 := 1#32
  let v2849 : BitVec 32 := Scalar.select v2848 c1_i32_1671 c16_i32_1669
  let v2850 : BitVec 32 := Scalar.remsi v2847 v2849
  let c0_i32_1673 : BitVec 32 := 0#32
  let v2852 : BitVec 1 := Scalar.cmpi .slt v2850 c0_i32_1673
  let c0_i32_1674 : BitVec 32 := 0#32
  let v2853 : BitVec 1 := Scalar.cmpi .slt v2849 c0_i32_1674
  let v2854 : BitVec 1 := Scalar.xori v2852 v2853
  let c0_i32_1672 : BitVec 32 := 0#32
  let v2851 : BitVec 1 := Scalar.cmpi .ne v2850 c0_i32_1672
  let v2855 : BitVec 1 := Scalar.andi v2854 v2851
  let v2856 : BitVec 32 := Scalar.addi v2850 v2849
  let v2857 : BitVec 32 := Scalar.select v2855 v2856 v2850
  let c4_i32_1682 : BitVec 32 := 4#32
  let c0_i32_1683 : BitVec 32 := 0#32
  let v2875 : BitVec 1 := Scalar.cmpi .eq c4_i32_1682 c0_i32_1683
  let c1_i32_1684 : BitVec 32 := 1#32
  let v2876 : BitVec 32 := Scalar.select v2875 c1_i32_1684 c4_i32_1682
  let v2877 : BitVec 32 := Scalar.remsi v2857 v2876
  let c0_i32_1686 : BitVec 32 := 0#32
  let v2879 : BitVec 1 := Scalar.cmpi .slt v2877 c0_i32_1686
  let c0_i32_1687 : BitVec 32 := 0#32
  let v2880 : BitVec 1 := Scalar.cmpi .slt v2876 c0_i32_1687
  let v2881 : BitVec 1 := Scalar.xori v2879 v2880
  let c0_i32_1685 : BitVec 32 := 0#32
  let v2878 : BitVec 1 := Scalar.cmpi .ne v2877 c0_i32_1685
  let v2882 : BitVec 1 := Scalar.andi v2881 v2878
  let v2883 : BitVec 32 := Scalar.addi v2877 v2876
  let v2884 : BitVec 32 := Scalar.select v2882 v2883 v2877
  let v2885 : BitVec 32 := Scalar.muli c8_i32_1688 v2884
  let c2_i32_1689 : BitVec 32 := 2#32
  let c0_i32_1676 : BitVec 32 := 0#32
  let v2859 : BitVec 1 := Scalar.cmpi .sgt v2857 c0_i32_1676
  let v2860 : BitVec 32 := Scalar.extui v2859
  let c0_i32_1677 : BitVec 32 := 0#32
  let v2861 : BitVec 1 := Scalar.cmpi .slt v2857 c0_i32_1677
  let v2862 : BitVec 32 := Scalar.extui v2861
  let v2863 : BitVec 32 := Scalar.subi v2860 v2862
  let c4_i32_1675 : BitVec 32 := 4#32
  let c0_i32_1678 : BitVec 32 := 0#32
  let v2864 : BitVec 1 := Scalar.cmpi .sgt c4_i32_1675 c0_i32_1678
  let v2865 : BitVec 32 := Scalar.extui v2864
  let c0_i32_1679 : BitVec 32 := 0#32
  let v2866 : BitVec 1 := Scalar.cmpi .slt c4_i32_1675 c0_i32_1679
  let v2867 : BitVec 32 := Scalar.extui v2866
  let v2868 : BitVec 32 := Scalar.subi v2865 v2867
  let v2869 : BitVec 1 := Scalar.cmpi .ne v2863 v2868
  let v2870 : BitVec 32 := Scalar.remsi v2857 c4_i32_1675
  let c0_i32_1680 : BitVec 32 := 0#32
  let v2871 : BitVec 1 := Scalar.cmpi .ne v2870 c0_i32_1680
  let v2872 : BitVec 1 := Scalar.andi v2869 v2871
  let v2858 : BitVec 32 := Scalar.divsi v2857 c4_i32_1675
  let c1_i32_1681 : BitVec 32 := 1#32
  let v2873 : BitVec 32 := Scalar.subi v2858 c1_i32_1681
  let v2874 : BitVec 32 := Scalar.select v2872 v2873 v2858
  let v2886 : BitVec 32 := Scalar.muli c2_i32_1689 v2874
  let v2887 : BitVec 32 := Scalar.addi v2885 v2886
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1690 : BitVec 32 := 2#32
  let c0_i32_1691 : BitVec 32 := 0#32
  let v2888 : BitVec 1 := Scalar.cmpi .eq c2_i32_1690 c0_i32_1691
  let c1_i32_1692 : BitVec 32 := 1#32
  let v2889 : BitVec 32 := Scalar.select v2888 c1_i32_1692 c2_i32_1690
  let v2890 : BitVec 32 := Scalar.remsi v2874 v2889
  let c0_i32_1694 : BitVec 32 := 0#32
  let v2892 : BitVec 1 := Scalar.cmpi .slt v2890 c0_i32_1694
  let c0_i32_1695 : BitVec 32 := 0#32
  let v2893 : BitVec 1 := Scalar.cmpi .slt v2889 c0_i32_1695
  let v2894 : BitVec 1 := Scalar.xori v2892 v2893
  let c0_i32_1693 : BitVec 32 := 0#32
  let v2891 : BitVec 1 := Scalar.cmpi .ne v2890 c0_i32_1693
  let v2895 : BitVec 1 := Scalar.andi v2894 v2891
  let v2896 : BitVec 32 := Scalar.addi v2890 v2889
  let v2897 : BitVec 32 := Scalar.select v2895 v2896 v2890
  let v2898 : BitVec 32 := Scalar.xori v67 v2897
  let v2899 : BitVec 32 := Scalar.addi v2887 v2898
  let c1_i32_1697 : BitVec 32 := 1#32
  let v2900 : BitVec 32 := Scalar.muli v2899 c1_i32_1697
  let v2901 : BitVec 32 := Scalar.addi c0_i32_1698 v2900
  v2901.toNat
def k0_dev58 (d0 : Dev nD) : Nat :=
  let c0_i32_1731 : BitVec 32 := 0#32
  let c8_i32_1721 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c9_i32_1701 : BitVec 32 := 9#32
  let v2908 : BitVec 32 := Scalar.subi v69 c9_i32_1701
  let c16_i32_1702 : BitVec 32 := 16#32
  let c0_i32_1703 : BitVec 32 := 0#32
  let v2909 : BitVec 1 := Scalar.cmpi .eq c16_i32_1702 c0_i32_1703
  let c1_i32_1704 : BitVec 32 := 1#32
  let v2910 : BitVec 32 := Scalar.select v2909 c1_i32_1704 c16_i32_1702
  let v2911 : BitVec 32 := Scalar.remsi v2908 v2910
  let c0_i32_1706 : BitVec 32 := 0#32
  let v2913 : BitVec 1 := Scalar.cmpi .slt v2911 c0_i32_1706
  let c0_i32_1707 : BitVec 32 := 0#32
  let v2914 : BitVec 1 := Scalar.cmpi .slt v2910 c0_i32_1707
  let v2915 : BitVec 1 := Scalar.xori v2913 v2914
  let c0_i32_1705 : BitVec 32 := 0#32
  let v2912 : BitVec 1 := Scalar.cmpi .ne v2911 c0_i32_1705
  let v2916 : BitVec 1 := Scalar.andi v2915 v2912
  let v2917 : BitVec 32 := Scalar.addi v2911 v2910
  let v2918 : BitVec 32 := Scalar.select v2916 v2917 v2911
  let c4_i32_1715 : BitVec 32 := 4#32
  let c0_i32_1716 : BitVec 32 := 0#32
  let v2936 : BitVec 1 := Scalar.cmpi .eq c4_i32_1715 c0_i32_1716
  let c1_i32_1717 : BitVec 32 := 1#32
  let v2937 : BitVec 32 := Scalar.select v2936 c1_i32_1717 c4_i32_1715
  let v2938 : BitVec 32 := Scalar.remsi v2918 v2937
  let c0_i32_1719 : BitVec 32 := 0#32
  let v2940 : BitVec 1 := Scalar.cmpi .slt v2938 c0_i32_1719
  let c0_i32_1720 : BitVec 32 := 0#32
  let v2941 : BitVec 1 := Scalar.cmpi .slt v2937 c0_i32_1720
  let v2942 : BitVec 1 := Scalar.xori v2940 v2941
  let c0_i32_1718 : BitVec 32 := 0#32
  let v2939 : BitVec 1 := Scalar.cmpi .ne v2938 c0_i32_1718
  let v2943 : BitVec 1 := Scalar.andi v2942 v2939
  let v2944 : BitVec 32 := Scalar.addi v2938 v2937
  let v2945 : BitVec 32 := Scalar.select v2943 v2944 v2938
  let v2946 : BitVec 32 := Scalar.muli c8_i32_1721 v2945
  let c2_i32_1722 : BitVec 32 := 2#32
  let c0_i32_1709 : BitVec 32 := 0#32
  let v2920 : BitVec 1 := Scalar.cmpi .sgt v2918 c0_i32_1709
  let v2921 : BitVec 32 := Scalar.extui v2920
  let c0_i32_1710 : BitVec 32 := 0#32
  let v2922 : BitVec 1 := Scalar.cmpi .slt v2918 c0_i32_1710
  let v2923 : BitVec 32 := Scalar.extui v2922
  let v2924 : BitVec 32 := Scalar.subi v2921 v2923
  let c4_i32_1708 : BitVec 32 := 4#32
  let c0_i32_1711 : BitVec 32 := 0#32
  let v2925 : BitVec 1 := Scalar.cmpi .sgt c4_i32_1708 c0_i32_1711
  let v2926 : BitVec 32 := Scalar.extui v2925
  let c0_i32_1712 : BitVec 32 := 0#32
  let v2927 : BitVec 1 := Scalar.cmpi .slt c4_i32_1708 c0_i32_1712
  let v2928 : BitVec 32 := Scalar.extui v2927
  let v2929 : BitVec 32 := Scalar.subi v2926 v2928
  let v2930 : BitVec 1 := Scalar.cmpi .ne v2924 v2929
  let v2931 : BitVec 32 := Scalar.remsi v2918 c4_i32_1708
  let c0_i32_1713 : BitVec 32 := 0#32
  let v2932 : BitVec 1 := Scalar.cmpi .ne v2931 c0_i32_1713
  let v2933 : BitVec 1 := Scalar.andi v2930 v2932
  let v2919 : BitVec 32 := Scalar.divsi v2918 c4_i32_1708
  let c1_i32_1714 : BitVec 32 := 1#32
  let v2934 : BitVec 32 := Scalar.subi v2919 c1_i32_1714
  let v2935 : BitVec 32 := Scalar.select v2933 v2934 v2919
  let v2947 : BitVec 32 := Scalar.muli c2_i32_1722 v2935
  let v2948 : BitVec 32 := Scalar.addi v2946 v2947
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1723 : BitVec 32 := 2#32
  let c0_i32_1724 : BitVec 32 := 0#32
  let v2949 : BitVec 1 := Scalar.cmpi .eq c2_i32_1723 c0_i32_1724
  let c1_i32_1725 : BitVec 32 := 1#32
  let v2950 : BitVec 32 := Scalar.select v2949 c1_i32_1725 c2_i32_1723
  let v2951 : BitVec 32 := Scalar.remsi v2935 v2950
  let c0_i32_1727 : BitVec 32 := 0#32
  let v2953 : BitVec 1 := Scalar.cmpi .slt v2951 c0_i32_1727
  let c0_i32_1728 : BitVec 32 := 0#32
  let v2954 : BitVec 1 := Scalar.cmpi .slt v2950 c0_i32_1728
  let v2955 : BitVec 1 := Scalar.xori v2953 v2954
  let c0_i32_1726 : BitVec 32 := 0#32
  let v2952 : BitVec 1 := Scalar.cmpi .ne v2951 c0_i32_1726
  let v2956 : BitVec 1 := Scalar.andi v2955 v2952
  let v2957 : BitVec 32 := Scalar.addi v2951 v2950
  let v2958 : BitVec 32 := Scalar.select v2956 v2957 v2951
  let v2959 : BitVec 32 := Scalar.xori v67 v2958
  let v2960 : BitVec 32 := Scalar.addi v2948 v2959
  let c1_i32_1730 : BitVec 32 := 1#32
  let v2961 : BitVec 32 := Scalar.muli v2960 c1_i32_1730
  let v2962 : BitVec 32 := Scalar.addi c0_i32_1731 v2961
  v2962.toNat
def k0_dev59 (d0 : Dev nD) : Nat :=
  let c0_i32_1764 : BitVec 32 := 0#32
  let c8_i32_1754 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c10_i32_1734 : BitVec 32 := 10#32
  let v2969 : BitVec 32 := Scalar.subi v69 c10_i32_1734
  let c16_i32_1735 : BitVec 32 := 16#32
  let c0_i32_1736 : BitVec 32 := 0#32
  let v2970 : BitVec 1 := Scalar.cmpi .eq c16_i32_1735 c0_i32_1736
  let c1_i32_1737 : BitVec 32 := 1#32
  let v2971 : BitVec 32 := Scalar.select v2970 c1_i32_1737 c16_i32_1735
  let v2972 : BitVec 32 := Scalar.remsi v2969 v2971
  let c0_i32_1739 : BitVec 32 := 0#32
  let v2974 : BitVec 1 := Scalar.cmpi .slt v2972 c0_i32_1739
  let c0_i32_1740 : BitVec 32 := 0#32
  let v2975 : BitVec 1 := Scalar.cmpi .slt v2971 c0_i32_1740
  let v2976 : BitVec 1 := Scalar.xori v2974 v2975
  let c0_i32_1738 : BitVec 32 := 0#32
  let v2973 : BitVec 1 := Scalar.cmpi .ne v2972 c0_i32_1738
  let v2977 : BitVec 1 := Scalar.andi v2976 v2973
  let v2978 : BitVec 32 := Scalar.addi v2972 v2971
  let v2979 : BitVec 32 := Scalar.select v2977 v2978 v2972
  let c4_i32_1748 : BitVec 32 := 4#32
  let c0_i32_1749 : BitVec 32 := 0#32
  let v2997 : BitVec 1 := Scalar.cmpi .eq c4_i32_1748 c0_i32_1749
  let c1_i32_1750 : BitVec 32 := 1#32
  let v2998 : BitVec 32 := Scalar.select v2997 c1_i32_1750 c4_i32_1748
  let v2999 : BitVec 32 := Scalar.remsi v2979 v2998
  let c0_i32_1752 : BitVec 32 := 0#32
  let v3001 : BitVec 1 := Scalar.cmpi .slt v2999 c0_i32_1752
  let c0_i32_1753 : BitVec 32 := 0#32
  let v3002 : BitVec 1 := Scalar.cmpi .slt v2998 c0_i32_1753
  let v3003 : BitVec 1 := Scalar.xori v3001 v3002
  let c0_i32_1751 : BitVec 32 := 0#32
  let v3000 : BitVec 1 := Scalar.cmpi .ne v2999 c0_i32_1751
  let v3004 : BitVec 1 := Scalar.andi v3003 v3000
  let v3005 : BitVec 32 := Scalar.addi v2999 v2998
  let v3006 : BitVec 32 := Scalar.select v3004 v3005 v2999
  let v3007 : BitVec 32 := Scalar.muli c8_i32_1754 v3006
  let c2_i32_1755 : BitVec 32 := 2#32
  let c0_i32_1742 : BitVec 32 := 0#32
  let v2981 : BitVec 1 := Scalar.cmpi .sgt v2979 c0_i32_1742
  let v2982 : BitVec 32 := Scalar.extui v2981
  let c0_i32_1743 : BitVec 32 := 0#32
  let v2983 : BitVec 1 := Scalar.cmpi .slt v2979 c0_i32_1743
  let v2984 : BitVec 32 := Scalar.extui v2983
  let v2985 : BitVec 32 := Scalar.subi v2982 v2984
  let c4_i32_1741 : BitVec 32 := 4#32
  let c0_i32_1744 : BitVec 32 := 0#32
  let v2986 : BitVec 1 := Scalar.cmpi .sgt c4_i32_1741 c0_i32_1744
  let v2987 : BitVec 32 := Scalar.extui v2986
  let c0_i32_1745 : BitVec 32 := 0#32
  let v2988 : BitVec 1 := Scalar.cmpi .slt c4_i32_1741 c0_i32_1745
  let v2989 : BitVec 32 := Scalar.extui v2988
  let v2990 : BitVec 32 := Scalar.subi v2987 v2989
  let v2991 : BitVec 1 := Scalar.cmpi .ne v2985 v2990
  let v2992 : BitVec 32 := Scalar.remsi v2979 c4_i32_1741
  let c0_i32_1746 : BitVec 32 := 0#32
  let v2993 : BitVec 1 := Scalar.cmpi .ne v2992 c0_i32_1746
  let v2994 : BitVec 1 := Scalar.andi v2991 v2993
  let v2980 : BitVec 32 := Scalar.divsi v2979 c4_i32_1741
  let c1_i32_1747 : BitVec 32 := 1#32
  let v2995 : BitVec 32 := Scalar.subi v2980 c1_i32_1747
  let v2996 : BitVec 32 := Scalar.select v2994 v2995 v2980
  let v3008 : BitVec 32 := Scalar.muli c2_i32_1755 v2996
  let v3009 : BitVec 32 := Scalar.addi v3007 v3008
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1756 : BitVec 32 := 2#32
  let c0_i32_1757 : BitVec 32 := 0#32
  let v3010 : BitVec 1 := Scalar.cmpi .eq c2_i32_1756 c0_i32_1757
  let c1_i32_1758 : BitVec 32 := 1#32
  let v3011 : BitVec 32 := Scalar.select v3010 c1_i32_1758 c2_i32_1756
  let v3012 : BitVec 32 := Scalar.remsi v2996 v3011
  let c0_i32_1760 : BitVec 32 := 0#32
  let v3014 : BitVec 1 := Scalar.cmpi .slt v3012 c0_i32_1760
  let c0_i32_1761 : BitVec 32 := 0#32
  let v3015 : BitVec 1 := Scalar.cmpi .slt v3011 c0_i32_1761
  let v3016 : BitVec 1 := Scalar.xori v3014 v3015
  let c0_i32_1759 : BitVec 32 := 0#32
  let v3013 : BitVec 1 := Scalar.cmpi .ne v3012 c0_i32_1759
  let v3017 : BitVec 1 := Scalar.andi v3016 v3013
  let v3018 : BitVec 32 := Scalar.addi v3012 v3011
  let v3019 : BitVec 32 := Scalar.select v3017 v3018 v3012
  let v3020 : BitVec 32 := Scalar.xori v67 v3019
  let v3021 : BitVec 32 := Scalar.addi v3009 v3020
  let c1_i32_1763 : BitVec 32 := 1#32
  let v3022 : BitVec 32 := Scalar.muli v3021 c1_i32_1763
  let v3023 : BitVec 32 := Scalar.addi c0_i32_1764 v3022
  v3023.toNat
def k0_dev60 (d0 : Dev nD) : Nat :=
  let c0_i32_1797 : BitVec 32 := 0#32
  let c8_i32_1787 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c11_i32_1767 : BitVec 32 := 11#32
  let v3030 : BitVec 32 := Scalar.subi v69 c11_i32_1767
  let c16_i32_1768 : BitVec 32 := 16#32
  let c0_i32_1769 : BitVec 32 := 0#32
  let v3031 : BitVec 1 := Scalar.cmpi .eq c16_i32_1768 c0_i32_1769
  let c1_i32_1770 : BitVec 32 := 1#32
  let v3032 : BitVec 32 := Scalar.select v3031 c1_i32_1770 c16_i32_1768
  let v3033 : BitVec 32 := Scalar.remsi v3030 v3032
  let c0_i32_1772 : BitVec 32 := 0#32
  let v3035 : BitVec 1 := Scalar.cmpi .slt v3033 c0_i32_1772
  let c0_i32_1773 : BitVec 32 := 0#32
  let v3036 : BitVec 1 := Scalar.cmpi .slt v3032 c0_i32_1773
  let v3037 : BitVec 1 := Scalar.xori v3035 v3036
  let c0_i32_1771 : BitVec 32 := 0#32
  let v3034 : BitVec 1 := Scalar.cmpi .ne v3033 c0_i32_1771
  let v3038 : BitVec 1 := Scalar.andi v3037 v3034
  let v3039 : BitVec 32 := Scalar.addi v3033 v3032
  let v3040 : BitVec 32 := Scalar.select v3038 v3039 v3033
  let c4_i32_1781 : BitVec 32 := 4#32
  let c0_i32_1782 : BitVec 32 := 0#32
  let v3058 : BitVec 1 := Scalar.cmpi .eq c4_i32_1781 c0_i32_1782
  let c1_i32_1783 : BitVec 32 := 1#32
  let v3059 : BitVec 32 := Scalar.select v3058 c1_i32_1783 c4_i32_1781
  let v3060 : BitVec 32 := Scalar.remsi v3040 v3059
  let c0_i32_1785 : BitVec 32 := 0#32
  let v3062 : BitVec 1 := Scalar.cmpi .slt v3060 c0_i32_1785
  let c0_i32_1786 : BitVec 32 := 0#32
  let v3063 : BitVec 1 := Scalar.cmpi .slt v3059 c0_i32_1786
  let v3064 : BitVec 1 := Scalar.xori v3062 v3063
  let c0_i32_1784 : BitVec 32 := 0#32
  let v3061 : BitVec 1 := Scalar.cmpi .ne v3060 c0_i32_1784
  let v3065 : BitVec 1 := Scalar.andi v3064 v3061
  let v3066 : BitVec 32 := Scalar.addi v3060 v3059
  let v3067 : BitVec 32 := Scalar.select v3065 v3066 v3060
  let v3068 : BitVec 32 := Scalar.muli c8_i32_1787 v3067
  let c2_i32_1788 : BitVec 32 := 2#32
  let c0_i32_1775 : BitVec 32 := 0#32
  let v3042 : BitVec 1 := Scalar.cmpi .sgt v3040 c0_i32_1775
  let v3043 : BitVec 32 := Scalar.extui v3042
  let c0_i32_1776 : BitVec 32 := 0#32
  let v3044 : BitVec 1 := Scalar.cmpi .slt v3040 c0_i32_1776
  let v3045 : BitVec 32 := Scalar.extui v3044
  let v3046 : BitVec 32 := Scalar.subi v3043 v3045
  let c4_i32_1774 : BitVec 32 := 4#32
  let c0_i32_1777 : BitVec 32 := 0#32
  let v3047 : BitVec 1 := Scalar.cmpi .sgt c4_i32_1774 c0_i32_1777
  let v3048 : BitVec 32 := Scalar.extui v3047
  let c0_i32_1778 : BitVec 32 := 0#32
  let v3049 : BitVec 1 := Scalar.cmpi .slt c4_i32_1774 c0_i32_1778
  let v3050 : BitVec 32 := Scalar.extui v3049
  let v3051 : BitVec 32 := Scalar.subi v3048 v3050
  let v3052 : BitVec 1 := Scalar.cmpi .ne v3046 v3051
  let v3053 : BitVec 32 := Scalar.remsi v3040 c4_i32_1774
  let c0_i32_1779 : BitVec 32 := 0#32
  let v3054 : BitVec 1 := Scalar.cmpi .ne v3053 c0_i32_1779
  let v3055 : BitVec 1 := Scalar.andi v3052 v3054
  let v3041 : BitVec 32 := Scalar.divsi v3040 c4_i32_1774
  let c1_i32_1780 : BitVec 32 := 1#32
  let v3056 : BitVec 32 := Scalar.subi v3041 c1_i32_1780
  let v3057 : BitVec 32 := Scalar.select v3055 v3056 v3041
  let v3069 : BitVec 32 := Scalar.muli c2_i32_1788 v3057
  let v3070 : BitVec 32 := Scalar.addi v3068 v3069
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1789 : BitVec 32 := 2#32
  let c0_i32_1790 : BitVec 32 := 0#32
  let v3071 : BitVec 1 := Scalar.cmpi .eq c2_i32_1789 c0_i32_1790
  let c1_i32_1791 : BitVec 32 := 1#32
  let v3072 : BitVec 32 := Scalar.select v3071 c1_i32_1791 c2_i32_1789
  let v3073 : BitVec 32 := Scalar.remsi v3057 v3072
  let c0_i32_1793 : BitVec 32 := 0#32
  let v3075 : BitVec 1 := Scalar.cmpi .slt v3073 c0_i32_1793
  let c0_i32_1794 : BitVec 32 := 0#32
  let v3076 : BitVec 1 := Scalar.cmpi .slt v3072 c0_i32_1794
  let v3077 : BitVec 1 := Scalar.xori v3075 v3076
  let c0_i32_1792 : BitVec 32 := 0#32
  let v3074 : BitVec 1 := Scalar.cmpi .ne v3073 c0_i32_1792
  let v3078 : BitVec 1 := Scalar.andi v3077 v3074
  let v3079 : BitVec 32 := Scalar.addi v3073 v3072
  let v3080 : BitVec 32 := Scalar.select v3078 v3079 v3073
  let v3081 : BitVec 32 := Scalar.xori v67 v3080
  let v3082 : BitVec 32 := Scalar.addi v3070 v3081
  let c1_i32_1796 : BitVec 32 := 1#32
  let v3083 : BitVec 32 := Scalar.muli v3082 c1_i32_1796
  let v3084 : BitVec 32 := Scalar.addi c0_i32_1797 v3083
  v3084.toNat
def k0_dev61 (d0 : Dev nD) : Nat :=
  let c0_i32_1830 : BitVec 32 := 0#32
  let c8_i32_1820 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c12_i32_1800 : BitVec 32 := 12#32
  let v3091 : BitVec 32 := Scalar.subi v69 c12_i32_1800
  let c16_i32_1801 : BitVec 32 := 16#32
  let c0_i32_1802 : BitVec 32 := 0#32
  let v3092 : BitVec 1 := Scalar.cmpi .eq c16_i32_1801 c0_i32_1802
  let c1_i32_1803 : BitVec 32 := 1#32
  let v3093 : BitVec 32 := Scalar.select v3092 c1_i32_1803 c16_i32_1801
  let v3094 : BitVec 32 := Scalar.remsi v3091 v3093
  let c0_i32_1805 : BitVec 32 := 0#32
  let v3096 : BitVec 1 := Scalar.cmpi .slt v3094 c0_i32_1805
  let c0_i32_1806 : BitVec 32 := 0#32
  let v3097 : BitVec 1 := Scalar.cmpi .slt v3093 c0_i32_1806
  let v3098 : BitVec 1 := Scalar.xori v3096 v3097
  let c0_i32_1804 : BitVec 32 := 0#32
  let v3095 : BitVec 1 := Scalar.cmpi .ne v3094 c0_i32_1804
  let v3099 : BitVec 1 := Scalar.andi v3098 v3095
  let v3100 : BitVec 32 := Scalar.addi v3094 v3093
  let v3101 : BitVec 32 := Scalar.select v3099 v3100 v3094
  let c4_i32_1814 : BitVec 32 := 4#32
  let c0_i32_1815 : BitVec 32 := 0#32
  let v3119 : BitVec 1 := Scalar.cmpi .eq c4_i32_1814 c0_i32_1815
  let c1_i32_1816 : BitVec 32 := 1#32
  let v3120 : BitVec 32 := Scalar.select v3119 c1_i32_1816 c4_i32_1814
  let v3121 : BitVec 32 := Scalar.remsi v3101 v3120
  let c0_i32_1818 : BitVec 32 := 0#32
  let v3123 : BitVec 1 := Scalar.cmpi .slt v3121 c0_i32_1818
  let c0_i32_1819 : BitVec 32 := 0#32
  let v3124 : BitVec 1 := Scalar.cmpi .slt v3120 c0_i32_1819
  let v3125 : BitVec 1 := Scalar.xori v3123 v3124
  let c0_i32_1817 : BitVec 32 := 0#32
  let v3122 : BitVec 1 := Scalar.cmpi .ne v3121 c0_i32_1817
  let v3126 : BitVec 1 := Scalar.andi v3125 v3122
  let v3127 : BitVec 32 := Scalar.addi v3121 v3120
  let v3128 : BitVec 32 := Scalar.select v3126 v3127 v3121
  let v3129 : BitVec 32 := Scalar.muli c8_i32_1820 v3128
  let c2_i32_1821 : BitVec 32 := 2#32
  let c0_i32_1808 : BitVec 32 := 0#32
  let v3103 : BitVec 1 := Scalar.cmpi .sgt v3101 c0_i32_1808
  let v3104 : BitVec 32 := Scalar.extui v3103
  let c0_i32_1809 : BitVec 32 := 0#32
  let v3105 : BitVec 1 := Scalar.cmpi .slt v3101 c0_i32_1809
  let v3106 : BitVec 32 := Scalar.extui v3105
  let v3107 : BitVec 32 := Scalar.subi v3104 v3106
  let c4_i32_1807 : BitVec 32 := 4#32
  let c0_i32_1810 : BitVec 32 := 0#32
  let v3108 : BitVec 1 := Scalar.cmpi .sgt c4_i32_1807 c0_i32_1810
  let v3109 : BitVec 32 := Scalar.extui v3108
  let c0_i32_1811 : BitVec 32 := 0#32
  let v3110 : BitVec 1 := Scalar.cmpi .slt c4_i32_1807 c0_i32_1811
  let v3111 : BitVec 32 := Scalar.extui v3110
  let v3112 : BitVec 32 := Scalar.subi v3109 v3111
  let v3113 : BitVec 1 := Scalar.cmpi .ne v3107 v3112
  let v3114 : BitVec 32 := Scalar.remsi v3101 c4_i32_1807
  let c0_i32_1812 : BitVec 32 := 0#32
  let v3115 : BitVec 1 := Scalar.cmpi .ne v3114 c0_i32_1812
  let v3116 : BitVec 1 := Scalar.andi v3113 v3115
  let v3102 : BitVec 32 := Scalar.divsi v3101 c4_i32_1807
  let c1_i32_1813 : BitVec 32 := 1#32
  let v3117 : BitVec 32 := Scalar.subi v3102 c1_i32_1813
  let v3118 : BitVec 32 := Scalar.select v3116 v3117 v3102
  let v3130 : BitVec 32 := Scalar.muli c2_i32_1821 v3118
  let v3131 : BitVec 32 := Scalar.addi v3129 v3130
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1822 : BitVec 32 := 2#32
  let c0_i32_1823 : BitVec 32 := 0#32
  let v3132 : BitVec 1 := Scalar.cmpi .eq c2_i32_1822 c0_i32_1823
  let c1_i32_1824 : BitVec 32 := 1#32
  let v3133 : BitVec 32 := Scalar.select v3132 c1_i32_1824 c2_i32_1822
  let v3134 : BitVec 32 := Scalar.remsi v3118 v3133
  let c0_i32_1826 : BitVec 32 := 0#32
  let v3136 : BitVec 1 := Scalar.cmpi .slt v3134 c0_i32_1826
  let c0_i32_1827 : BitVec 32 := 0#32
  let v3137 : BitVec 1 := Scalar.cmpi .slt v3133 c0_i32_1827
  let v3138 : BitVec 1 := Scalar.xori v3136 v3137
  let c0_i32_1825 : BitVec 32 := 0#32
  let v3135 : BitVec 1 := Scalar.cmpi .ne v3134 c0_i32_1825
  let v3139 : BitVec 1 := Scalar.andi v3138 v3135
  let v3140 : BitVec 32 := Scalar.addi v3134 v3133
  let v3141 : BitVec 32 := Scalar.select v3139 v3140 v3134
  let v3142 : BitVec 32 := Scalar.xori v67 v3141
  let v3143 : BitVec 32 := Scalar.addi v3131 v3142
  let c1_i32_1829 : BitVec 32 := 1#32
  let v3144 : BitVec 32 := Scalar.muli v3143 c1_i32_1829
  let v3145 : BitVec 32 := Scalar.addi c0_i32_1830 v3144
  v3145.toNat
def k0_dev62 (d0 : Dev nD) : Nat :=
  let c0_i32_1863 : BitVec 32 := 0#32
  let c8_i32_1853 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c13_i32_1833 : BitVec 32 := 13#32
  let v3152 : BitVec 32 := Scalar.subi v69 c13_i32_1833
  let c16_i32_1834 : BitVec 32 := 16#32
  let c0_i32_1835 : BitVec 32 := 0#32
  let v3153 : BitVec 1 := Scalar.cmpi .eq c16_i32_1834 c0_i32_1835
  let c1_i32_1836 : BitVec 32 := 1#32
  let v3154 : BitVec 32 := Scalar.select v3153 c1_i32_1836 c16_i32_1834
  let v3155 : BitVec 32 := Scalar.remsi v3152 v3154
  let c0_i32_1838 : BitVec 32 := 0#32
  let v3157 : BitVec 1 := Scalar.cmpi .slt v3155 c0_i32_1838
  let c0_i32_1839 : BitVec 32 := 0#32
  let v3158 : BitVec 1 := Scalar.cmpi .slt v3154 c0_i32_1839
  let v3159 : BitVec 1 := Scalar.xori v3157 v3158
  let c0_i32_1837 : BitVec 32 := 0#32
  let v3156 : BitVec 1 := Scalar.cmpi .ne v3155 c0_i32_1837
  let v3160 : BitVec 1 := Scalar.andi v3159 v3156
  let v3161 : BitVec 32 := Scalar.addi v3155 v3154
  let v3162 : BitVec 32 := Scalar.select v3160 v3161 v3155
  let c4_i32_1847 : BitVec 32 := 4#32
  let c0_i32_1848 : BitVec 32 := 0#32
  let v3180 : BitVec 1 := Scalar.cmpi .eq c4_i32_1847 c0_i32_1848
  let c1_i32_1849 : BitVec 32 := 1#32
  let v3181 : BitVec 32 := Scalar.select v3180 c1_i32_1849 c4_i32_1847
  let v3182 : BitVec 32 := Scalar.remsi v3162 v3181
  let c0_i32_1851 : BitVec 32 := 0#32
  let v3184 : BitVec 1 := Scalar.cmpi .slt v3182 c0_i32_1851
  let c0_i32_1852 : BitVec 32 := 0#32
  let v3185 : BitVec 1 := Scalar.cmpi .slt v3181 c0_i32_1852
  let v3186 : BitVec 1 := Scalar.xori v3184 v3185
  let c0_i32_1850 : BitVec 32 := 0#32
  let v3183 : BitVec 1 := Scalar.cmpi .ne v3182 c0_i32_1850
  let v3187 : BitVec 1 := Scalar.andi v3186 v3183
  let v3188 : BitVec 32 := Scalar.addi v3182 v3181
  let v3189 : BitVec 32 := Scalar.select v3187 v3188 v3182
  let v3190 : BitVec 32 := Scalar.muli c8_i32_1853 v3189
  let c2_i32_1854 : BitVec 32 := 2#32
  let c0_i32_1841 : BitVec 32 := 0#32
  let v3164 : BitVec 1 := Scalar.cmpi .sgt v3162 c0_i32_1841
  let v3165 : BitVec 32 := Scalar.extui v3164
  let c0_i32_1842 : BitVec 32 := 0#32
  let v3166 : BitVec 1 := Scalar.cmpi .slt v3162 c0_i32_1842
  let v3167 : BitVec 32 := Scalar.extui v3166
  let v3168 : BitVec 32 := Scalar.subi v3165 v3167
  let c4_i32_1840 : BitVec 32 := 4#32
  let c0_i32_1843 : BitVec 32 := 0#32
  let v3169 : BitVec 1 := Scalar.cmpi .sgt c4_i32_1840 c0_i32_1843
  let v3170 : BitVec 32 := Scalar.extui v3169
  let c0_i32_1844 : BitVec 32 := 0#32
  let v3171 : BitVec 1 := Scalar.cmpi .slt c4_i32_1840 c0_i32_1844
  let v3172 : BitVec 32 := Scalar.extui v3171
  let v3173 : BitVec 32 := Scalar.subi v3170 v3172
  let v3174 : BitVec 1 := Scalar.cmpi .ne v3168 v3173
  let v3175 : BitVec 32 := Scalar.remsi v3162 c4_i32_1840
  let c0_i32_1845 : BitVec 32 := 0#32
  let v3176 : BitVec 1 := Scalar.cmpi .ne v3175 c0_i32_1845
  let v3177 : BitVec 1 := Scalar.andi v3174 v3176
  let v3163 : BitVec 32 := Scalar.divsi v3162 c4_i32_1840
  let c1_i32_1846 : BitVec 32 := 1#32
  let v3178 : BitVec 32 := Scalar.subi v3163 c1_i32_1846
  let v3179 : BitVec 32 := Scalar.select v3177 v3178 v3163
  let v3191 : BitVec 32 := Scalar.muli c2_i32_1854 v3179
  let v3192 : BitVec 32 := Scalar.addi v3190 v3191
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1855 : BitVec 32 := 2#32
  let c0_i32_1856 : BitVec 32 := 0#32
  let v3193 : BitVec 1 := Scalar.cmpi .eq c2_i32_1855 c0_i32_1856
  let c1_i32_1857 : BitVec 32 := 1#32
  let v3194 : BitVec 32 := Scalar.select v3193 c1_i32_1857 c2_i32_1855
  let v3195 : BitVec 32 := Scalar.remsi v3179 v3194
  let c0_i32_1859 : BitVec 32 := 0#32
  let v3197 : BitVec 1 := Scalar.cmpi .slt v3195 c0_i32_1859
  let c0_i32_1860 : BitVec 32 := 0#32
  let v3198 : BitVec 1 := Scalar.cmpi .slt v3194 c0_i32_1860
  let v3199 : BitVec 1 := Scalar.xori v3197 v3198
  let c0_i32_1858 : BitVec 32 := 0#32
  let v3196 : BitVec 1 := Scalar.cmpi .ne v3195 c0_i32_1858
  let v3200 : BitVec 1 := Scalar.andi v3199 v3196
  let v3201 : BitVec 32 := Scalar.addi v3195 v3194
  let v3202 : BitVec 32 := Scalar.select v3200 v3201 v3195
  let v3203 : BitVec 32 := Scalar.xori v67 v3202
  let v3204 : BitVec 32 := Scalar.addi v3192 v3203
  let c1_i32_1862 : BitVec 32 := 1#32
  let v3205 : BitVec 32 := Scalar.muli v3204 c1_i32_1862
  let v3206 : BitVec 32 := Scalar.addi c0_i32_1863 v3205
  v3206.toNat
def k0_dev63 (d0 : Dev nD) : Nat :=
  let c0_i32_1896 : BitVec 32 := 0#32
  let c8_i32_1886 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c14_i32_1866 : BitVec 32 := 14#32
  let v3213 : BitVec 32 := Scalar.subi v69 c14_i32_1866
  let c16_i32_1867 : BitVec 32 := 16#32
  let c0_i32_1868 : BitVec 32 := 0#32
  let v3214 : BitVec 1 := Scalar.cmpi .eq c16_i32_1867 c0_i32_1868
  let c1_i32_1869 : BitVec 32 := 1#32
  let v3215 : BitVec 32 := Scalar.select v3214 c1_i32_1869 c16_i32_1867
  let v3216 : BitVec 32 := Scalar.remsi v3213 v3215
  let c0_i32_1871 : BitVec 32 := 0#32
  let v3218 : BitVec 1 := Scalar.cmpi .slt v3216 c0_i32_1871
  let c0_i32_1872 : BitVec 32 := 0#32
  let v3219 : BitVec 1 := Scalar.cmpi .slt v3215 c0_i32_1872
  let v3220 : BitVec 1 := Scalar.xori v3218 v3219
  let c0_i32_1870 : BitVec 32 := 0#32
  let v3217 : BitVec 1 := Scalar.cmpi .ne v3216 c0_i32_1870
  let v3221 : BitVec 1 := Scalar.andi v3220 v3217
  let v3222 : BitVec 32 := Scalar.addi v3216 v3215
  let v3223 : BitVec 32 := Scalar.select v3221 v3222 v3216
  let c4_i32_1880 : BitVec 32 := 4#32
  let c0_i32_1881 : BitVec 32 := 0#32
  let v3241 : BitVec 1 := Scalar.cmpi .eq c4_i32_1880 c0_i32_1881
  let c1_i32_1882 : BitVec 32 := 1#32
  let v3242 : BitVec 32 := Scalar.select v3241 c1_i32_1882 c4_i32_1880
  let v3243 : BitVec 32 := Scalar.remsi v3223 v3242
  let c0_i32_1884 : BitVec 32 := 0#32
  let v3245 : BitVec 1 := Scalar.cmpi .slt v3243 c0_i32_1884
  let c0_i32_1885 : BitVec 32 := 0#32
  let v3246 : BitVec 1 := Scalar.cmpi .slt v3242 c0_i32_1885
  let v3247 : BitVec 1 := Scalar.xori v3245 v3246
  let c0_i32_1883 : BitVec 32 := 0#32
  let v3244 : BitVec 1 := Scalar.cmpi .ne v3243 c0_i32_1883
  let v3248 : BitVec 1 := Scalar.andi v3247 v3244
  let v3249 : BitVec 32 := Scalar.addi v3243 v3242
  let v3250 : BitVec 32 := Scalar.select v3248 v3249 v3243
  let v3251 : BitVec 32 := Scalar.muli c8_i32_1886 v3250
  let c2_i32_1887 : BitVec 32 := 2#32
  let c0_i32_1874 : BitVec 32 := 0#32
  let v3225 : BitVec 1 := Scalar.cmpi .sgt v3223 c0_i32_1874
  let v3226 : BitVec 32 := Scalar.extui v3225
  let c0_i32_1875 : BitVec 32 := 0#32
  let v3227 : BitVec 1 := Scalar.cmpi .slt v3223 c0_i32_1875
  let v3228 : BitVec 32 := Scalar.extui v3227
  let v3229 : BitVec 32 := Scalar.subi v3226 v3228
  let c4_i32_1873 : BitVec 32 := 4#32
  let c0_i32_1876 : BitVec 32 := 0#32
  let v3230 : BitVec 1 := Scalar.cmpi .sgt c4_i32_1873 c0_i32_1876
  let v3231 : BitVec 32 := Scalar.extui v3230
  let c0_i32_1877 : BitVec 32 := 0#32
  let v3232 : BitVec 1 := Scalar.cmpi .slt c4_i32_1873 c0_i32_1877
  let v3233 : BitVec 32 := Scalar.extui v3232
  let v3234 : BitVec 32 := Scalar.subi v3231 v3233
  let v3235 : BitVec 1 := Scalar.cmpi .ne v3229 v3234
  let v3236 : BitVec 32 := Scalar.remsi v3223 c4_i32_1873
  let c0_i32_1878 : BitVec 32 := 0#32
  let v3237 : BitVec 1 := Scalar.cmpi .ne v3236 c0_i32_1878
  let v3238 : BitVec 1 := Scalar.andi v3235 v3237
  let v3224 : BitVec 32 := Scalar.divsi v3223 c4_i32_1873
  let c1_i32_1879 : BitVec 32 := 1#32
  let v3239 : BitVec 32 := Scalar.subi v3224 c1_i32_1879
  let v3240 : BitVec 32 := Scalar.select v3238 v3239 v3224
  let v3252 : BitVec 32 := Scalar.muli c2_i32_1887 v3240
  let v3253 : BitVec 32 := Scalar.addi v3251 v3252
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1888 : BitVec 32 := 2#32
  let c0_i32_1889 : BitVec 32 := 0#32
  let v3254 : BitVec 1 := Scalar.cmpi .eq c2_i32_1888 c0_i32_1889
  let c1_i32_1890 : BitVec 32 := 1#32
  let v3255 : BitVec 32 := Scalar.select v3254 c1_i32_1890 c2_i32_1888
  let v3256 : BitVec 32 := Scalar.remsi v3240 v3255
  let c0_i32_1892 : BitVec 32 := 0#32
  let v3258 : BitVec 1 := Scalar.cmpi .slt v3256 c0_i32_1892
  let c0_i32_1893 : BitVec 32 := 0#32
  let v3259 : BitVec 1 := Scalar.cmpi .slt v3255 c0_i32_1893
  let v3260 : BitVec 1 := Scalar.xori v3258 v3259
  let c0_i32_1891 : BitVec 32 := 0#32
  let v3257 : BitVec 1 := Scalar.cmpi .ne v3256 c0_i32_1891
  let v3261 : BitVec 1 := Scalar.andi v3260 v3257
  let v3262 : BitVec 32 := Scalar.addi v3256 v3255
  let v3263 : BitVec 32 := Scalar.select v3261 v3262 v3256
  let v3264 : BitVec 32 := Scalar.xori v67 v3263
  let v3265 : BitVec 32 := Scalar.addi v3253 v3264
  let c1_i32_1895 : BitVec 32 := 1#32
  let v3266 : BitVec 32 := Scalar.muli v3265 c1_i32_1895
  let v3267 : BitVec 32 := Scalar.addi c0_i32_1896 v3266
  v3267.toNat
def k0_dev64 (d0 : Dev nD) : Nat :=
  let c0_i32_1929 : BitVec 32 := 0#32
  let c8_i32_1919 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let c15_i32_1899 : BitVec 32 := 15#32
  let v3274 : BitVec 32 := Scalar.subi v69 c15_i32_1899
  let c16_i32_1900 : BitVec 32 := 16#32
  let c0_i32_1901 : BitVec 32 := 0#32
  let v3275 : BitVec 1 := Scalar.cmpi .eq c16_i32_1900 c0_i32_1901
  let c1_i32_1902 : BitVec 32 := 1#32
  let v3276 : BitVec 32 := Scalar.select v3275 c1_i32_1902 c16_i32_1900
  let v3277 : BitVec 32 := Scalar.remsi v3274 v3276
  let c0_i32_1904 : BitVec 32 := 0#32
  let v3279 : BitVec 1 := Scalar.cmpi .slt v3277 c0_i32_1904
  let c0_i32_1905 : BitVec 32 := 0#32
  let v3280 : BitVec 1 := Scalar.cmpi .slt v3276 c0_i32_1905
  let v3281 : BitVec 1 := Scalar.xori v3279 v3280
  let c0_i32_1903 : BitVec 32 := 0#32
  let v3278 : BitVec 1 := Scalar.cmpi .ne v3277 c0_i32_1903
  let v3282 : BitVec 1 := Scalar.andi v3281 v3278
  let v3283 : BitVec 32 := Scalar.addi v3277 v3276
  let v3284 : BitVec 32 := Scalar.select v3282 v3283 v3277
  let c4_i32_1913 : BitVec 32 := 4#32
  let c0_i32_1914 : BitVec 32 := 0#32
  let v3302 : BitVec 1 := Scalar.cmpi .eq c4_i32_1913 c0_i32_1914
  let c1_i32_1915 : BitVec 32 := 1#32
  let v3303 : BitVec 32 := Scalar.select v3302 c1_i32_1915 c4_i32_1913
  let v3304 : BitVec 32 := Scalar.remsi v3284 v3303
  let c0_i32_1917 : BitVec 32 := 0#32
  let v3306 : BitVec 1 := Scalar.cmpi .slt v3304 c0_i32_1917
  let c0_i32_1918 : BitVec 32 := 0#32
  let v3307 : BitVec 1 := Scalar.cmpi .slt v3303 c0_i32_1918
  let v3308 : BitVec 1 := Scalar.xori v3306 v3307
  let c0_i32_1916 : BitVec 32 := 0#32
  let v3305 : BitVec 1 := Scalar.cmpi .ne v3304 c0_i32_1916
  let v3309 : BitVec 1 := Scalar.andi v3308 v3305
  let v3310 : BitVec 32 := Scalar.addi v3304 v3303
  let v3311 : BitVec 32 := Scalar.select v3309 v3310 v3304
  let v3312 : BitVec 32 := Scalar.muli c8_i32_1919 v3311
  let c2_i32_1920 : BitVec 32 := 2#32
  let c0_i32_1907 : BitVec 32 := 0#32
  let v3286 : BitVec 1 := Scalar.cmpi .sgt v3284 c0_i32_1907
  let v3287 : BitVec 32 := Scalar.extui v3286
  let c0_i32_1908 : BitVec 32 := 0#32
  let v3288 : BitVec 1 := Scalar.cmpi .slt v3284 c0_i32_1908
  let v3289 : BitVec 32 := Scalar.extui v3288
  let v3290 : BitVec 32 := Scalar.subi v3287 v3289
  let c4_i32_1906 : BitVec 32 := 4#32
  let c0_i32_1909 : BitVec 32 := 0#32
  let v3291 : BitVec 1 := Scalar.cmpi .sgt c4_i32_1906 c0_i32_1909
  let v3292 : BitVec 32 := Scalar.extui v3291
  let c0_i32_1910 : BitVec 32 := 0#32
  let v3293 : BitVec 1 := Scalar.cmpi .slt c4_i32_1906 c0_i32_1910
  let v3294 : BitVec 32 := Scalar.extui v3293
  let v3295 : BitVec 32 := Scalar.subi v3292 v3294
  let v3296 : BitVec 1 := Scalar.cmpi .ne v3290 v3295
  let v3297 : BitVec 32 := Scalar.remsi v3284 c4_i32_1906
  let c0_i32_1911 : BitVec 32 := 0#32
  let v3298 : BitVec 1 := Scalar.cmpi .ne v3297 c0_i32_1911
  let v3299 : BitVec 1 := Scalar.andi v3296 v3298
  let v3285 : BitVec 32 := Scalar.divsi v3284 c4_i32_1906
  let c1_i32_1912 : BitVec 32 := 1#32
  let v3300 : BitVec 32 := Scalar.subi v3285 c1_i32_1912
  let v3301 : BitVec 32 := Scalar.select v3299 v3300 v3285
  let v3313 : BitVec 32 := Scalar.muli c2_i32_1920 v3301
  let v3314 : BitVec 32 := Scalar.addi v3312 v3313
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_1921 : BitVec 32 := 2#32
  let c0_i32_1922 : BitVec 32 := 0#32
  let v3315 : BitVec 1 := Scalar.cmpi .eq c2_i32_1921 c0_i32_1922
  let c1_i32_1923 : BitVec 32 := 1#32
  let v3316 : BitVec 32 := Scalar.select v3315 c1_i32_1923 c2_i32_1921
  let v3317 : BitVec 32 := Scalar.remsi v3301 v3316
  let c0_i32_1925 : BitVec 32 := 0#32
  let v3319 : BitVec 1 := Scalar.cmpi .slt v3317 c0_i32_1925
  let c0_i32_1926 : BitVec 32 := 0#32
  let v3320 : BitVec 1 := Scalar.cmpi .slt v3316 c0_i32_1926
  let v3321 : BitVec 1 := Scalar.xori v3319 v3320
  let c0_i32_1924 : BitVec 32 := 0#32
  let v3318 : BitVec 1 := Scalar.cmpi .ne v3317 c0_i32_1924
  let v3322 : BitVec 1 := Scalar.andi v3321 v3318
  let v3323 : BitVec 32 := Scalar.addi v3317 v3316
  let v3324 : BitVec 32 := Scalar.select v3322 v3323 v3317
  let v3325 : BitVec 32 := Scalar.xori v67 v3324
  let v3326 : BitVec 32 := Scalar.addi v3314 v3325
  let c1_i32_1928 : BitVec 32 := 1#32
  let v3327 : BitVec 32 := Scalar.muli v3326 c1_i32_1928
  let v3328 : BitVec 32 := Scalar.addi c0_i32_1929 v3327
  v3328.toNat
def k0_off47 (d0 : Dev nD) (c1_i32_1938 : BitVec 32) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v915 : BitVec 32 := Scalar.muli c256_i32 v67
  let c16_i32_1946 : BitVec 32 := 16#32
  let c4_i32 : BitVec 32 := 4#32
  let v68 : BitVec 32 := Scalar.muli c4_i32 v46
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.addi v68 v19
  let v3341 : BitVec 32 := Scalar.addi v69 c1_i32_1938
  let c16_i32_1939 : BitVec 32 := 16#32
  let c0_i32_1940 : BitVec 32 := 0#32
  let v3342 : BitVec 1 := Scalar.cmpi .eq c16_i32_1939 c0_i32_1940
  let c1_i32_1941 : BitVec 32 := 1#32
  let v3343 : BitVec 32 := Scalar.select v3342 c1_i32_1941 c16_i32_1939
  let v3344 : BitVec 32 := Scalar.remsi v3341 v3343
  let c0_i32_1943 : BitVec 32 := 0#32
  let v3346 : BitVec 1 := Scalar.cmpi .slt v3344 c0_i32_1943
  let c0_i32_1944 : BitVec 32 := 0#32
  let v3347 : BitVec 1 := Scalar.cmpi .slt v3343 c0_i32_1944
  let v3348 : BitVec 1 := Scalar.xori v3346 v3347
  let c0_i32_1942 : BitVec 32 := 0#32
  let v3345 : BitVec 1 := Scalar.cmpi .ne v3344 c0_i32_1942
  let v3349 : BitVec 1 := Scalar.andi v3348 v3345
  let v3350 : BitVec 32 := Scalar.addi v3344 v3343
  let v3351 : BitVec 32 := Scalar.select v3349 v3350 v3344
  let v3354 : BitVec 32 := Scalar.muli c16_i32_1946 v3351
  let v3355 : BitVec 32 := Scalar.addi v915 v3354
  let c0_i32_1951 : BitVec 32 := 0#32
  ![v3355.toNat, 0]
def k0_dev65 (d0 : Dev nD) : Nat :=
  let c0_i32_1950 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_1949 : BitVec 32 := 1#32
  let v3356 : BitVec 32 := Scalar.muli v85 c1_i32_1949
  let v3357 : BitVec 32 := Scalar.addi c0_i32_1950 v3356
  v3357.toNat
def k0_dev66 (d0 : Dev nD) : Nat :=
  let c0_i32_1970 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_1969 : BitVec 32 := 1#32
  let v3385 : BitVec 32 := Scalar.muli v85 c1_i32_1969
  let v3386 : BitVec 32 := Scalar.addi c0_i32_1970 v3385
  v3386.toNat
def k0_dev67 (d0 : Dev nD) : Nat :=
  let c0_i32_1990 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_1989 : BitVec 32 := 1#32
  let v3414 : BitVec 32 := Scalar.muli v85 c1_i32_1989
  let v3415 : BitVec 32 := Scalar.addi c0_i32_1990 v3414
  v3415.toNat
def k0_dev68 (d0 : Dev nD) : Nat :=
  let c0_i32_2010 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2009 : BitVec 32 := 1#32
  let v3443 : BitVec 32 := Scalar.muli v85 c1_i32_2009
  let v3444 : BitVec 32 := Scalar.addi c0_i32_2010 v3443
  v3444.toNat
def k0_dev69 (d0 : Dev nD) : Nat :=
  let c0_i32_2030 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2029 : BitVec 32 := 1#32
  let v3472 : BitVec 32 := Scalar.muli v85 c1_i32_2029
  let v3473 : BitVec 32 := Scalar.addi c0_i32_2030 v3472
  v3473.toNat
def k0_dev70 (d0 : Dev nD) : Nat :=
  let c0_i32_2050 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2049 : BitVec 32 := 1#32
  let v3501 : BitVec 32 := Scalar.muli v85 c1_i32_2049
  let v3502 : BitVec 32 := Scalar.addi c0_i32_2050 v3501
  v3502.toNat
def k0_dev71 (d0 : Dev nD) : Nat :=
  let c0_i32_2070 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2069 : BitVec 32 := 1#32
  let v3530 : BitVec 32 := Scalar.muli v85 c1_i32_2069
  let v3531 : BitVec 32 := Scalar.addi c0_i32_2070 v3530
  v3531.toNat
def k0_dev72 (d0 : Dev nD) : Nat :=
  let c0_i32_2090 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2089 : BitVec 32 := 1#32
  let v3559 : BitVec 32 := Scalar.muli v85 c1_i32_2089
  let v3560 : BitVec 32 := Scalar.addi c0_i32_2090 v3559
  v3560.toNat
def k0_dev73 (d0 : Dev nD) : Nat :=
  let c0_i32_2110 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2109 : BitVec 32 := 1#32
  let v3588 : BitVec 32 := Scalar.muli v85 c1_i32_2109
  let v3589 : BitVec 32 := Scalar.addi c0_i32_2110 v3588
  v3589.toNat
def k0_dev74 (d0 : Dev nD) : Nat :=
  let c0_i32_2130 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2129 : BitVec 32 := 1#32
  let v3617 : BitVec 32 := Scalar.muli v85 c1_i32_2129
  let v3618 : BitVec 32 := Scalar.addi c0_i32_2130 v3617
  v3618.toNat
def k0_dev75 (d0 : Dev nD) : Nat :=
  let c0_i32_2150 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2149 : BitVec 32 := 1#32
  let v3646 : BitVec 32 := Scalar.muli v85 c1_i32_2149
  let v3647 : BitVec 32 := Scalar.addi c0_i32_2150 v3646
  v3647.toNat
def k0_dev76 (d0 : Dev nD) : Nat :=
  let c0_i32_2170 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2169 : BitVec 32 := 1#32
  let v3675 : BitVec 32 := Scalar.muli v85 c1_i32_2169
  let v3676 : BitVec 32 := Scalar.addi c0_i32_2170 v3675
  v3676.toNat
def k0_dev77 (d0 : Dev nD) : Nat :=
  let c0_i32_2190 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2189 : BitVec 32 := 1#32
  let v3704 : BitVec 32 := Scalar.muli v85 c1_i32_2189
  let v3705 : BitVec 32 := Scalar.addi c0_i32_2190 v3704
  v3705.toNat
def k0_dev78 (d0 : Dev nD) : Nat :=
  let c0_i32_2210 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2209 : BitVec 32 := 1#32
  let v3733 : BitVec 32 := Scalar.muli v85 c1_i32_2209
  let v3734 : BitVec 32 := Scalar.addi c0_i32_2210 v3733
  v3734.toNat
def k0_dev79 (d0 : Dev nD) : Nat :=
  let c0_i32_2230 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v71 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v72 : BitVec 32 := Scalar.muli c2_i32_31 v46
  let v73 : BitVec 32 := Scalar.addi v71 v72
  let c1_i32_29 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v70 : BitVec 32 := Scalar.subi c1_i32_29 v67
  let c2_i32_32 : BitVec 32 := 2#32
  let c0_i32_33 : BitVec 32 := 0#32
  let v74 : BitVec 1 := Scalar.cmpi .eq c2_i32_32 c0_i32_33
  let c1_i32_34 : BitVec 32 := 1#32
  let v75 : BitVec 32 := Scalar.select v74 c1_i32_34 c2_i32_32
  let v76 : BitVec 32 := Scalar.remsi v46 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.xori v70 v83
  let v85 : BitVec 32 := Scalar.addi v73 v84
  let c1_i32_2229 : BitVec 32 := 1#32
  let v3762 : BitVec 32 := Scalar.muli v85 c1_i32_2229
  let v3763 : BitVec 32 := Scalar.addi c0_i32_2230 v3762
  v3763.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S512 : Shape := ⟨1, ![512]⟩
abbrev S512x256x512 : Shape := ⟨3, ![512, 256, 512]⟩
abbrev S512x512 : Shape := ⟨2, ![512, 512]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S64x256x512, .f32⟩
  | .hbm, ⟨4, _⟩ => ⟨S512, .i32⟩
  | .hbm, ⟨5, _⟩ => ⟨S512x1, .i32⟩
  | .hbm, ⟨6, _⟩ => ⟨S512x256x512, .f32⟩
  | .hbm, ⟨7, _⟩ => ⟨S512x512, .f32⟩
  | .hbm, ⟨8, _⟩ => ⟨S_, .i32⟩
  | .hbm, ⟨9, _⟩ => ⟨S512, .i32⟩
  | .hbm, ⟨10, _⟩ => ⟨S512, .i1⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i1⟩
  | .hbm, ⟨15, _⟩ => ⟨S512x1, .i1⟩
  | .hbm, ⟨16, _⟩ => ⟨S_, .f32⟩
  | .hbm, ⟨17, _⟩ => ⟨S_, .f32⟩
  | .hbm, ⟨18, _⟩ => ⟨S512x512, .i1⟩
  | .hbm, ⟨19, _⟩ => ⟨S512x512, .f32⟩
  | .hbm, ⟨20, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Places.lean ====
/-
The places of the thirty-two devices and the order of one device's steps.

A device has a half `xh c` (which half of the rows it keeps) and a place `gp c` among the sixteen devices of
that half. `partner` is the device at the same place of the other half; `up c o` and `dn c o` are `o` places
further and `o` places back in the same half. Transfer `i` of a device goes to `dst c i` and the transfer `i` it
receives comes from `src c i`. The functions `tSend`, `tRecv`, `tBack`, `tDst`, `tSrc` and `tOwn` number the
steps of a device: the step at which it starts transfer `i`, at which it has received it, at which its own start
is confirmed, and from which it owns the destination and the source.
-/
module

public import proofs.«01_k».proof.Proof.Gen.KernelIdeal.Frame

@[expose] public section

noncomputable section

namespace Cert.Proof

open Idealize.ShloMosaic Idealize.SL.Sem Cert.KernelIdeal

namespace Pl

/-- The place among the sixteen devices of a half. -/
def gp (c : Dev nD) : ℕ := 4 * ((c.val % 8) / 2) + c.val / 8

/-- The half. -/
def xh (c : Dev nD) : ℕ := (c.val % 2 + (c.val % 8) / 2) % 2

/-- The device at place `g` of half `x`. -/
def mk (x g : ℕ) : Dev nD := ⟨(8 * (g % 4) + 2 * ((g / 4) % 4) + (x + g / 4) % 2) % 32, Nat.mod_lt _ (by decide)⟩

def partner (c : Dev nD) : Dev nD := mk (1 - xh c) (gp c)
def up (c : Dev nD) (o : ℕ) : Dev nD := mk (xh c) ((gp c + o) % 16)
def dn (c : Dev nD) (o : ℕ) : Dev nD := mk (xh c) ((gp c + (16 - o % 16)) % 16)

/-- The device the entry signal `o` goes to. -/
def tgt (c : Dev nD) (o : Fin 16) : Dev nD := if o.val = 0 then partner c else up c o.val

/-- The device the entry signal `o` comes from. -/
def sgn (c : Dev nD) (o : Fin 16) : Dev nD := if o.val = 0 then partner c else dn c o.val

/-- The device transfer `i` goes to. -/
def dst (c : Dev nD) (i : Fin 48) : Dev nD :=
  if i.val = 0 ∨ 31 ≤ i.val then partner c else if i.val ≤ 15 then dn c i.val else dn c (i.val - 15)

/-- The device transfer `i` comes from. -/
def src (c : Dev nD) (i : Fin 48) : Dev nD :=
  if i.val = 0 ∨ 31 ≤ i.val then partner c else if i.val ≤ 15 then up c i.val else up c (i.val - 15)

/-- The first row of the half a device keeps, and of the half it gives away. -/
def col0 (c : Dev nD) : ℕ := 256 * xh c
def send0 (c : Dev nD) : ℕ := 256 * (1 - xh c)

/-- The first row of the block of half `x` that belongs to place `g`. -/
def blk (x g : ℕ) : ℕ := 256 * x + 16 * (g % 16)

/-- The block a device sums, and the block transfer `i` moves. -/
def own0 (c : Dev nD) : ℕ := blk (xh c) (gp c)
def sc0 (c : Dev nD) (o : ℕ) : ℕ := blk (xh c) ((gp c + (16 - o % 16)) % 16)
def fw0 (c : Dev nD) (o : ℕ) : ℕ := blk (xh c) ((gp c + o) % 16)

/-- The first row of the source of transfer `i`. -/
def srcLo (c : Dev nD) (i : Fin 48) : ℕ :=
  if i.val = 0 then send0 c else if i.val = 47 then send0 c + 128
  else if i.val ≤ 15 then sc0 c i.val else if i.val ≤ 30 then own0 c else fw0 c (i.val - 31)

/-- The first row of the destination of transfer `i`. -/
def dstLo (c : Dev nD) (i : Fin 48) : ℕ :=
  if i.val = 0 then 0 else if i.val = 47 then 128
  else if i.val ≤ 15 then 256 + 16 * (i.val - 1) else srcLo c i

/-- How many rows transfer `i` moves. -/
def nRows (i : Fin 48) : ℕ := if i.val = 0 ∨ i.val = 47 then 128 else 16

/-- Whether transfer `i` lands in the staging buffer. -/
def toStage (i : Fin 48) : Bool := decide (i.val ≤ 15 ∨ i.val = 47)

/-- Whether the block `o` places back is among the first eight. -/
def low (c : Dev nD) (o : ℕ) : Bool := decide ((gp c + (16 - o % 16)) % 16 < 8)

def tSend (c : Dev nD) (i : Fin 48) : ℕ :=
  if i.val = 0 then 18 else if i.val = 47 then 20
  else if i.val ≤ 15 then (if low c i.val then 22 + i.val else 39 + i.val)
  else if i.val ≤ 30 then i.val + 56 else if i.val = 31 then 71 else 86 + 2 * (i.val - 31)

def tRecv (i : Fin 48) : ℕ :=
  if i.val = 0 then 21 else if i.val = 47 then 38
  else if i.val ≤ 15 then 54 + i.val
  else if i.val ≤ 30 then 85 + 2 * (i.val - 15) else 86 + i.val

def tBack (i : Fin 48) : ℕ :=
  if i.val = 0 then 133 else if i.val = 47 then 134
  else if i.val ≤ 15 then 134 + i.val
  else if i.val ≤ 30 then 135 + i.val else if i.val = 31 then 150 else 134 + i.val

def tDst (c : Dev nD) (i : Fin 48) : ℕ :=
  if i.val ≤ 15 ∨ i.val = 47 then 16
  else if i.val ≤ 30 then 85 - i.val
  else if (gp c + (i.val - 31)) % 16 < 8 then 21 else 38

def tSrc (c : Dev nD) (i : Fin 48) : ℕ :=
  if i.val = 0 then 17 else if i.val = 47 then 19
  else if i.val ≤ 15 then (if low c i.val then 22 else 39)
  else if i.val ≤ 31 then 70 else 85 + 2 * (i.val - 31)

def tOwn (c : Dev nD) : ℕ := if gp c < 8 then 22 else 39

/-- The level of the cell that receives transfer `i`. -/
def lvl (i : Fin 48) : ℕ :=
  if i.val = 0 then 2 else if i.val = 47 then 3
  else if i.val ≤ 15 then 4 else if i.val ≤ 30 then 5 else 6

theorem dst_src : ∀ (c : Dev nD) (i : Fin 48), dst (src c i) i = c := by decide +kernel
theorem src_dst : ∀ (c : Dev nD) (i : Fin 48), src (dst c i) i = c := by decide +kernel
theorem tgt_sgn : ∀ (c : Dev nD) (i : Fin 16), tgt (sgn c i) i = c := by decide +kernel
theorem sgn_tgt : ∀ (c : Dev nD) (i : Fin 16), sgn (tgt c i) i = c := by decide +kernel
theorem dst_ne : ∀ (c : Dev nD) (i : Fin 48), dst c i ≠ c := by decide +kernel
theorem mk_self : ∀ c : Dev nD, mk (xh c) (gp c) = c := by decide +kernel
theorem xh_mk : ∀ (x : Fin 2) (g : Fin 16), xh (mk x.val g.val) = x.val ∧ gp (mk x.val g.val) = g.val := by decide +kernel
theorem partner_xh : ∀ c : Dev nD, xh (partner c) = 1 - xh c ∧ gp (partner c) = gp c ∧ send0 (partner c) = col0 c
    ∧ col0 (partner c) = send0 c ∧ partner (partner c) = c := by decide +kernel
theorem gp_lt : ∀ c : Dev nD, gp c < 16 := by decide +kernel
theorem xh_lt : ∀ c : Dev nD, xh c < 2 := by decide +kernel

theorem tSend_inj : ∀ (c : Dev nD) (i i' : Fin 48), tSend c i' = tSend c i → i' = i := by decide +kernel
theorem tRecv_inj : ∀ (i i' : Fin 48), tRecv i' = tRecv i → i' = i := by decide +kernel
theorem tBack_inj : ∀ (i i' : Fin 48), tBack i' = tBack i → i' = i := by decide +kernel
theorem send_recv : ∀ (c : Dev nD) (i i' : Fin 48), tSend c i ≠ tRecv i' := by decide +kernel
theorem send_dst : ∀ (c : Dev nD) (i i' : Fin 48), tSend c i ≠ tDst c i' := by decide +kernel
theorem send_src : ∀ (c : Dev nD) (i i' : Fin 48), tSend c i ≠ tSrc c i' := by decide +kernel
theorem send_own : ∀ (c : Dev nD) (i : Fin 48), tSend c i ≠ tOwn c := by decide +kernel
theorem send_ge : ∀ (c : Dev nD) (i : Fin 48), 18 ≤ tSend c i ∧ tSend c i ≤ 116 ∧ tSend c i ≠ 70 := by decide +kernel
theorem back_ge : ∀ (i : Fin 48), 133 ≤ tBack i ∧ tBack i < 181 := by decide +kernel
theorem recv_ge : ∀ (i : Fin 48), 21 ≤ tRecv i ∧ tRecv i < 133 := by decide +kernel
theorem dst_ge : ∀ (c : Dev nD) (i : Fin 48), 16 ≤ tDst c i ∧ tDst c i < tSend c i := by decide +kernel
theorem src_ge : ∀ (c : Dev nD) (i : Fin 48), 17 ≤ tSrc c i ∧ tSrc c i < tSend c i := by decide +kernel
theorem own_ge : ∀ (c : Dev nD), tOwn c = 22 ∨ tOwn c = 39 := by decide +kernel
theorem recv_own : ∀ (c : Dev nD) (i : Fin 48), tRecv i ≠ tOwn c := by decide +kernel
theorem lvl_lt : ∀ (c : Dev nD) (i i' : Fin 48), tRecv i ≤ tSend c i' → lvl i < lvl i' := by decide +kernel
theorem lvl_ge : ∀ (i : Fin 48), 2 ≤ lvl i := by decide +kernel

theorem dev1_eq : ∀ c : Dev nD, k0_dev1 c = (tgt c 0).val := by decide +kernel
theorem dev2_eq : ∀ c : Dev nD, k0_dev2 c = (tgt c 1).val := by decide +kernel
theorem dev3_eq : ∀ c : Dev nD, k0_dev3 c = (tgt c 2).val := by decide +kernel
theorem dev4_eq : ∀ c : Dev nD, k0_dev4 c = (tgt c 3).val := by decide +kernel
theorem dev5_eq : ∀ c : Dev nD, k0_dev5 c = (tgt c 4).val := by decide +kernel
theorem dev6_eq : ∀ c : Dev nD, k0_dev6 c = (tgt c 5).val := by decide +kernel
theorem dev7_eq : ∀ c : Dev nD, k0_dev7 c = (tgt c 6).val := by decide +kernel
theorem dev8_eq : ∀ c : Dev nD, k0_dev8 c = (tgt c 7).val := by decide +kernel
theorem dev9_eq : ∀ c : Dev nD, k0_dev9 c = (tgt c 8).val := by decide +kernel
theorem dev10_eq : ∀ c : Dev nD, k0_dev10 c = (tgt c 9).val := by decide +kernel
theorem dev11_eq : ∀ c : Dev nD, k0_dev11 c = (tgt c 10).val := by decide +kernel
theorem dev12_eq : ∀ c : Dev nD, k0_dev12 c = (tgt c 11).val := by decide +kernel
theorem dev13_eq : ∀ c : Dev nD, k0_dev13 c = (tgt c 12).val := by decide +kernel
theorem dev14_eq : ∀ c : Dev nD, k0_dev14 c = (tgt c 13).val := by decide +kernel
theorem dev15_eq : ∀ c : Dev nD, k0_dev15 c = (tgt c 14).val := by decide +kernel
theorem dev16_eq : ∀ c : Dev nD, k0_dev16 c = (tgt c 15).val := by decide +kernel
theorem dev17_eq : ∀ c : Dev nD, k0_dev17 c = (dst c 0).val := by decide +kernel
theorem dev18_eq : ∀ c : Dev nD, k0_dev18 c = (dst c 47).val := by decide +kernel
theorem dev19_eq : ∀ c : Dev nD, k0_dev19 c = (dst c 1).val := by decide +kernel
theorem dev34_eq : ∀ c : Dev nD, k0_dev34 c = (dst c 1).val := by decide +kernel
theorem dev50_eq : ∀ c : Dev nD, k0_dev50 c = (dst c 16).val := by decide +kernel
theorem dev65_eq : ∀ c : Dev nD, k0_dev65 c = (dst c 32).val := by decide +kernel
theorem off13_eq : ∀ c : Dev nD, k0_off13 c = ![srcLo c 1, 0] := by decide +kernel
theorem off29_eq : ∀ c : Dev nD, k0_off29 c = ![srcLo c 1, 0] := by decide +kernel
theorem cond1_iff : ∀ c : Dev nD, k0_cond1 c = 1#1 ↔ tSend c 1 = 23 := by decide +kernel
theorem cond16_iff : ∀ c : Dev nD, k0_cond16 c = 1#1 ↔ tSend c 1 = 40 := by decide +kernel
theorem dev20_eq : ∀ c : Dev nD, k0_dev20 c = (dst c 2).val := by decide +kernel
theorem dev35_eq : ∀ c : Dev nD, k0_dev35 c = (dst c 2).val := by decide +kernel
theorem dev51_eq : ∀ c : Dev nD, k0_dev51 c = (dst c 17).val := by decide +kernel
theorem dev66_eq : ∀ c : Dev nD, k0_dev66 c = (dst c 33).val := by decide +kernel
theorem off14_eq : ∀ c : Dev nD, k0_off14 c = ![srcLo c 2, 0] := by decide +kernel
theorem off30_eq : ∀ c : Dev nD, k0_off30 c = ![srcLo c 2, 0] := by decide +kernel
theorem cond2_iff : ∀ c : Dev nD, k0_cond2 c = 1#1 ↔ tSend c 2 = 24 := by decide +kernel
theorem cond17_iff : ∀ c : Dev nD, k0_cond17 c = 1#1 ↔ tSend c 2 = 41 := by decide +kernel
theorem dev21_eq : ∀ c : Dev nD, k0_dev21 c = (dst c 3).val := by decide +kernel
theorem dev36_eq : ∀ c : Dev nD, k0_dev36 c = (dst c 3).val := by decide +kernel
theorem dev52_eq : ∀ c : Dev nD, k0_dev52 c = (dst c 18).val := by decide +kernel
theorem dev67_eq : ∀ c : Dev nD, k0_dev67 c = (dst c 34).val := by decide +kernel
theorem off15_eq : ∀ c : Dev nD, k0_off15 c = ![srcLo c 3, 0] := by decide +kernel
theorem off31_eq : ∀ c : Dev nD, k0_off31 c = ![srcLo c 3, 0] := by decide +kernel
theorem cond3_iff : ∀ c : Dev nD, k0_cond3 c = 1#1 ↔ tSend c 3 = 25 := by decide +kernel
theorem cond18_iff : ∀ c : Dev nD, k0_cond18 c = 1#1 ↔ tSend c 3 = 42 := by decide +kernel
theorem dev22_eq : ∀ c : Dev nD, k0_dev22 c = (dst c 4).val := by decide +kernel
theorem dev37_eq : ∀ c : Dev nD, k0_dev37 c = (dst c 4).val := by decide +kernel
theorem dev53_eq : ∀ c : Dev nD, k0_dev53 c = (dst c 19).val := by decide +kernel
theorem dev68_eq : ∀ c : Dev nD, k0_dev68 c = (dst c 35).val := by decide +kernel
theorem off16_eq : ∀ c : Dev nD, k0_off16 c = ![srcLo c 4, 0] := by decide +kernel
theorem off32_eq : ∀ c : Dev nD, k0_off32 c = ![srcLo c 4, 0] := by decide +kernel
theorem cond4_iff : ∀ c : Dev nD, k0_cond4 c = 1#1 ↔ tSend c 4 = 26 := by decide +kernel
theorem cond19_iff : ∀ c : Dev nD, k0_cond19 c = 1#1 ↔ tSend c 4 = 43 := by decide +kernel
theorem dev23_eq : ∀ c : Dev nD, k0_dev23 c = (dst c 5).val := by decide +kernel
theorem dev38_eq : ∀ c : Dev nD, k0_dev38 c = (dst c 5).val := by decide +kernel
theorem dev54_eq : ∀ c : Dev nD, k0_dev54 c = (dst c 20).val := by decide +kernel
theorem dev69_eq : ∀ c : Dev nD, k0_dev69 c = (dst c 36).val := by decide +kernel
theorem off17_eq : ∀ c : Dev nD, k0_off17 c = ![srcLo c 5, 0] := by decide +kernel
theorem off33_eq : ∀ c : Dev nD, k0_off33 c = ![srcLo c 5, 0] := by decide +kernel
theorem cond5_iff : ∀ c : Dev nD, k0_cond5 c = 1#1 ↔ tSend c 5 = 27 := by decide +kernel
theorem cond20_iff : ∀ c : Dev nD, k0_cond20 c = 1#1 ↔ tSend c 5 = 44 := by decide +kernel
theorem dev24_eq : ∀ c : Dev nD, k0_dev24 c = (dst c 6).val := by decide +kernel
theorem dev39_eq : ∀ c : Dev nD, k0_dev39 c = (dst c 6).val := by decide +kernel
theorem dev55_eq : ∀ c : Dev nD, k0_dev55 c = (dst c 21).val := by decide +kernel
theorem dev70_eq : ∀ c : Dev nD, k0_dev70 c = (dst c 37).val := by decide +kernel
theorem off18_eq : ∀ c : Dev nD, k0_off18 c = ![srcLo c 6, 0] := by decide +kernel
theorem off34_eq : ∀ c : Dev nD, k0_off34 c = ![srcLo c 6, 0] := by decide +kernel
theorem cond6_iff : ∀ c : Dev nD, k0_cond6 c = 1#1 ↔ tSend c 6 = 28 := by decide +kernel
theorem cond21_iff : ∀ c : Dev nD, k0_cond21 c = 1#1 ↔ tSend c 6 = 45 := by decide +kernel
theorem dev25_eq : ∀ c : Dev nD, k0_dev25 c = (dst c 7).val := by decide +kernel
theorem dev40_eq : ∀ c : Dev nD, k0_dev40 c = (dst c 7).val := by decide +kernel
theorem dev56_eq : ∀ c : Dev nD, k0_dev56 c = (dst c 22).val := by decide +kernel
theorem dev71_eq : ∀ c : Dev nD, k0_dev71 c = (dst c 38).val := by decide +kernel
theorem off19_eq : ∀ c : Dev nD, k0_off19 c = ![srcLo c 7, 0] := by decide +kernel
theorem off35_eq : ∀ c : Dev nD, k0_off35 c = ![srcLo c 7, 0] := by decide +kernel
theorem cond7_iff : ∀ c : Dev nD, k0_cond7 c = 1#1 ↔ tSend c 7 = 29 := by decide +kernel
theorem cond22_iff : ∀ c : Dev nD, k0_cond22 c = 1#1 ↔ tSend c 7 = 46 := by decide +kernel
theorem dev26_eq : ∀ c : Dev nD, k0_dev26 c = (dst c 8).val := by decide +kernel
theorem dev41_eq : ∀ c : Dev nD, k0_dev41 c = (dst c 8).val := by decide +kernel
theorem dev57_eq : ∀ c : Dev nD, k0_dev57 c = (dst c 23).val := by decide +kernel
theorem dev72_eq : ∀ c : Dev nD, k0_dev72 c = (dst c 39).val := by decide +kernel
theorem off20_eq : ∀ c : Dev nD, k0_off20 c = ![srcLo c 8, 0] := by decide +kernel
theorem off36_eq : ∀ c : Dev nD, k0_off36 c = ![srcLo c 8, 0] := by decide +kernel
theorem cond8_iff : ∀ c : Dev nD, k0_cond8 c = 1#1 ↔ tSend c 8 = 30 := by decide +kernel
theorem cond23_iff : ∀ c : Dev nD, k0_cond23 c = 1#1 ↔ tSend c 8 = 47 := by decide +kernel
theorem dev27_eq : ∀ c : Dev nD, k0_dev27 c = (dst c 9).val := by decide +kernel
theorem dev42_eq : ∀ c : Dev nD, k0_dev42 c = (dst c 9).val := by decide +kernel
theorem dev58_eq : ∀ c : Dev nD, k0_dev58 c = (dst c 24).val := by decide +kernel
theorem dev73_eq : ∀ c : Dev nD, k0_dev73 c = (dst c 40).val := by decide +kernel
theorem off21_eq : ∀ c : Dev nD, k0_off21 c = ![srcLo c 9, 0] := by decide +kernel
theorem off37_eq : ∀ c : Dev nD, k0_off37 c = ![srcLo c 9, 0] := by decide +kernel
theorem cond9_iff : ∀ c : Dev nD, k0_cond9 c = 1#1 ↔ tSend c 9 = 31 := by decide +kernel
theorem cond24_iff : ∀ c : Dev nD, k0_cond24 c = 1#1 ↔ tSend c 9 = 48 := by decide +kernel
theorem dev28_eq : ∀ c : Dev nD, k0_dev28 c = (dst c 10).val := by decide +kernel
theorem dev43_eq : ∀ c : Dev nD, k0_dev43 c = (dst c 10).val := by decide +kernel
theorem dev59_eq : ∀ c : Dev nD, k0_dev59 c = (dst c 25).val := by decide +kernel
theorem dev74_eq : ∀ c : Dev nD, k0_dev74 c = (dst c 41).val := by decide +kernel
theorem off22_eq : ∀ c : Dev nD, k0_off22 c = ![srcLo c 10, 0] := by decide +kernel
theorem off38_eq : ∀ c : Dev nD, k0_off38 c = ![srcLo c 10, 0] := by decide +kernel
theorem cond10_iff : ∀ c : Dev nD, k0_cond10 c = 1#1 ↔ tSend c 10 = 32 := by decide +kernel
theorem cond25_iff : ∀ c : Dev nD, k0_cond25 c = 1#1 ↔ tSend c 10 = 49 := by decide +kernel
theorem dev29_eq : ∀ c : Dev nD, k0_dev29 c = (dst c 11).val := by decide +kernel
theorem dev44_eq : ∀ c : Dev nD, k0_dev44 c = (dst c 11).val := by decide +kernel
theorem dev60_eq : ∀ c : Dev nD, k0_dev60 c = (dst c 26).val := by decide +kernel
theorem dev75_eq : ∀ c : Dev nD, k0_dev75 c = (dst c 42).val := by decide +kernel
theorem off23_eq : ∀ c : Dev nD, k0_off23 c = ![srcLo c 11, 0] := by decide +kernel
theorem off39_eq : ∀ c : Dev nD, k0_off39 c = ![srcLo c 11, 0] := by decide +kernel
theorem cond11_iff : ∀ c : Dev nD, k0_cond11 c = 1#1 ↔ tSend c 11 = 33 := by decide +kernel
theorem cond26_iff : ∀ c : Dev nD, k0_cond26 c = 1#1 ↔ tSend c 11 = 50 := by decide +kernel
theorem dev30_eq : ∀ c : Dev nD, k0_dev30 c = (dst c 12).val := by decide +kernel
theorem dev45_eq : ∀ c : Dev nD, k0_dev45 c = (dst c 12).val := by decide +kernel
theorem dev61_eq : ∀ c : Dev nD, k0_dev61 c = (dst c 27).val := by decide +kernel
theorem dev76_eq : ∀ c : Dev nD, k0_dev76 c = (dst c 43).val := by decide +kernel
theorem off24_eq : ∀ c : Dev nD, k0_off24 c = ![srcLo c 12, 0] := by decide +kernel
theorem off40_eq : ∀ c : Dev nD, k0_off40 c = ![srcLo c 12, 0] := by decide +kernel
theorem cond12_iff : ∀ c : Dev nD, k0_cond12 c = 1#1 ↔ tSend c 12 = 34 := by decide +kernel
theorem cond27_iff : ∀ c : Dev nD, k0_cond27 c = 1#1 ↔ tSend c 12 = 51 := by decide +kernel
theorem dev31_eq : ∀ c : Dev nD, k0_dev31 c = (dst c 13).val := by decide +kernel
theorem dev46_eq : ∀ c : Dev nD, k0_dev46 c = (dst c 13).val := by decide +kernel
theorem dev62_eq : ∀ c : Dev nD, k0_dev62 c = (dst c 28).val := by decide +kernel
theorem dev77_eq : ∀ c : Dev nD, k0_dev77 c = (dst c 44).val := by decide +kernel
theorem off25_eq : ∀ c : Dev nD, k0_off25 c = ![srcLo c 13, 0] := by decide +kernel
theorem off41_eq : ∀ c : Dev nD, k0_off41 c = ![srcLo c 13, 0] := by decide +kernel
theorem cond13_iff : ∀ c : Dev nD, k0_cond13 c = 1#1 ↔ tSend c 13 = 35 := by decide +kernel
theorem cond28_iff : ∀ c : Dev nD, k0_cond28 c = 1#1 ↔ tSend c 13 = 52 := by decide +kernel
theorem dev32_eq : ∀ c : Dev nD, k0_dev32 c = (dst c 14).val := by decide +kernel
theorem dev47_eq : ∀ c : Dev nD, k0_dev47 c = (dst c 14).val := by decide +kernel
theorem dev63_eq : ∀ c : Dev nD, k0_dev63 c = (dst c 29).val := by decide +kernel
theorem dev78_eq : ∀ c : Dev nD, k0_dev78 c = (dst c 45).val := by decide +kernel
theorem off26_eq : ∀ c : Dev nD, k0_off26 c = ![srcLo c 14, 0] := by decide +kernel
theorem off42_eq : ∀ c : Dev nD, k0_off42 c = ![srcLo c 14, 0] := by decide +kernel
theorem cond14_iff : ∀ c : Dev nD, k0_cond14 c = 1#1 ↔ tSend c 14 = 36 := by decide +kernel
theorem cond29_iff : ∀ c : Dev nD, k0_cond29 c = 1#1 ↔ tSend c 14 = 53 := by decide +kernel
theorem dev33_eq : ∀ c : Dev nD, k0_dev33 c = (dst c 15).val := by decide +kernel
theorem dev48_eq : ∀ c : Dev nD, k0_dev48 c = (dst c 15).val := by decide +kernel
theorem dev64_eq : ∀ c : Dev nD, k0_dev64 c = (dst c 30).val := by decide +kernel
theorem dev79_eq : ∀ c : Dev nD, k0_dev79 c = (dst c 46).val := by decide +kernel
theorem off27_eq : ∀ c : Dev nD, k0_off27 c = ![srcLo c 15, 0] := by decide +kernel
theorem off43_eq : ∀ c : Dev nD, k0_off43 c = ![srcLo c 15, 0] := by decide +kernel
theorem cond15_iff : ∀ c : Dev nD, k0_cond15 c = 1#1 ↔ tSend c 15 = 37 := by decide +kernel
theorem cond30_iff : ∀ c : Dev nD, k0_cond30 c = 1#1 ↔ tSend c 15 = 54 := by decide +kernel
theorem dev49_eq : ∀ c : Dev nD, k0_dev49 c = (dst c 31).val := by decide +kernel
theorem off1_eq : ∀ c : Dev nD, k0_off1 c = ![send0 c, 0] := by decide +kernel
theorem off2_eq : ∀ c : Dev nD, k0_off2 c = ![send0 c, 0] := by decide +kernel
theorem off3_eq : ∀ c : Dev nD, k0_off3 c = ![send0 c, 0] := by decide +kernel
theorem off4_eq : ∀ c : Dev nD, k0_off4 c = ![srcLo c 0, 0] := by decide +kernel
theorem off5_eq : ∀ c : Dev nD, k0_off5 c = ![send0 c + 128, 0] := by decide +kernel
theorem off6_eq : ∀ c : Dev nD, k0_off6 c = ![send0 c + 128, 0] := by decide +kernel
theorem off7_eq : ∀ c : Dev nD, k0_off7 c = ![send0 c + 128, 0] := by decide +kernel
theorem off8_eq : ∀ c : Dev nD, k0_off8 c = ![srcLo c 47, 0] := by decide +kernel
theorem off9_eq : ∀ c : Dev nD, k0_off9 c = ![col0 c, 0] := by decide +kernel
theorem off10_eq : ∀ c : Dev nD, k0_off10 c = ![col0 c, 0] := by decide +kernel
theorem off11_eq : ∀ c : Dev nD, k0_off11 c = ![col0 c, 0] := by decide +kernel
theorem off12_eq : ∀ c : Dev nD, k0_off12 c = ![col0 c, 0] := by decide +kernel
theorem off28_eq : ∀ c : Dev nD, k0_off28 c = ![col0 c + 128, 0] := by decide +kernel
theorem off45_eq : ∀ c : Dev nD, k0_off45 c = ![own0 c, 0] := by decide +kernel
theorem off46_eq : ∀ c : Dev nD, k0_off46 c = ![own0 c, 0] := by decide +kernel
theorem off44_eq : ∀ (c : Dev nD) (r : Fin 15), k0_off44 c (BitVec.ofNat 32 (1 + r.val)) = ![srcLo c ⟨1 + r.val, by omega⟩, 0] := by decide +kernel
theorem off47_eq : ∀ (c : Dev nD) (r : Fin 15), k0_off47 c (BitVec.ofNat 32 (1 + r.val)) = ![fw0 c (1 + r.val), 0] := by decide +kernel

end Pl
end Cert.Proof
-- ==== Proof.Contents.lean ====
/-
The buffers of one device, their rows, and what they hold.

`rM` is the buffer of partial results and `gM` the buffer the transfers of the first three kinds land in. A rectangle of full
rows of either is described by its first row and its number of rows. `Afin`, `Bfin`, `Sfin` and `Cfin` are the
contents: the partial products, those with the other half's products added, what lands, and the finished result.
-/
module

public import proofs.«01_k».proof.Proof.Places
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.Pointwise.Index
public import Idealize.ShloMosaic.Lib.Transfers

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev xM : Memref sig .tc .vmem S512x256 .f32 := Memref.whole cc0_stg0_0
abbrev tM : Memref sig .tc .vmem S512x1 .i32 := Memref.whole cc0_stg1_0
abbrev wM : Memref sig .tc .vmem S2x256x512 .f32 := Memref.whole cc0_stg2_0
abbrev oM : Memref sig .tc .vmem S512x512 .f32 := Memref.whole cc0_stg3_0
abbrev rM : Memref sig .tc .vmem S512x512 .bf16 := Memref.whole cc0_scratch0
abbrev gM : Memref sig .tc .vmem S496x512 .bf16 := Memref.whole cc0_scratch1

/-! ## Rows -/

def rowsR (lo n : ℕ) : Finset S512x512.Idx := Finset.univ.filter fun i => lo ≤ (i 0).val ∧ (i 0).val < lo + n
def rowsG (lo n : ℕ) : Finset S496x512.Idx := Finset.univ.filter fun i => lo ≤ (i 0).val ∧ (i 0).val < lo + n

theorem mem_rowsR {lo n : ℕ} {i : S512x512.Idx} : i ∈ rowsR lo n ↔ lo ≤ (i 0).val ∧ (i 0).val < lo + n := by
  simp [rowsR]
theorem mem_rowsG {lo n : ℕ} {i : S496x512.Idx} : i ∈ rowsG lo n ↔ lo ≤ (i 0).val ∧ (i 0).val < lo + n := by
  simp [rowsG]

theorem rect_rowsR {off : Fin 2 → ℕ} {n lo : ℕ} (h : off = ![lo, 0]) (inb : ∀ a, off a + (![n, 512] : Fin 2 → ℕ) a ≤ S512x512.size a) :
    (Rect.unit (s := S512x512) off ![n, 512] inb).set = rowsR lo n := by
  subst h
  ext i
  rw [Rect.mem_set_unit, mem_rowsR, Fin.forall_fin_two]
  have := (i 1).isLt
  simp at this ⊢
  omega

theorem rect_rowsG {off : Fin 2 → ℕ} {n lo : ℕ} (h : off = ![lo, 0]) (inb : ∀ a, off a + (![n, 512] : Fin 2 → ℕ) a ≤ S496x512.size a) :
    (Rect.unit (s := S496x512) off ![n, 512] inb).set = rowsG lo n := by
  subst h
  ext i
  rw [Rect.mem_set_unit, mem_rowsG, Fin.forall_fin_two]
  have := (i 1).isLt
  simp at this ⊢
  omega

theorem set_rM {off : Fin 2 → ℕ} {n lo : ℕ} (h : off = ![lo, 0]) (inb : ∀ a, off a + (![n, 512] : Fin 2 → ℕ) a ≤ S512x512.size a) :
    ((rM : Memref sig .tc .vmem S512x512 .bf16).access (Rect.unit (s := S512x512) off ![n, 512] inb)).set = rowsR lo n :=
  (View.set_slice_whole (cc0_scratch0 : Ref sig .tc) _).trans (rect_rowsR h inb)

theorem set_gM {off : Fin 2 → ℕ} {n lo : ℕ} (h : off = ![lo, 0]) (inb : ∀ a, off a + (![n, 512] : Fin 2 → ℕ) a ≤ S496x512.size a) :
    ((gM : Memref sig .tc .vmem S496x512 .bf16).access (Rect.unit (s := S496x512) off ![n, 512] inb)).set = rowsG lo n :=
  (View.set_slice_whole (cc0_scratch1 : Ref sig .tc) _).trans (rect_rowsG h inb)

theorem emb_rM0 {off : Fin 2 → ℕ} {n lo : ℕ} (h : off = ![lo, 0]) (inb : ∀ a, off a + (![n, 512] : Fin 2 → ℕ) a ≤ S512x512.size a)
    (x : (⟨2, ![n, 512]⟩ : Shape).Idx) :
    (((rM : Memref sig .tc .vmem S512x512 .bf16).access (Rect.unit (s := S512x512) off ![n, 512] inb)).emb x 0).val = lo + (x 0).val
    ∧ (((rM : Memref sig .tc .vmem S512x512 .bf16).access (Rect.unit (s := S512x512) off ![n, 512] inb)).emb x 1).val = (x 1).val := by
  subst h
  refine ⟨?_, ?_⟩
  · show (![lo, 0] : Fin 2 → ℕ) 0 + 1 * (x 0).val = _; simp
  · show (![lo, 0] : Fin 2 → ℕ) 1 + 1 * (x 1).val = _; simp

theorem emb_gM0 {off : Fin 2 → ℕ} {n lo : ℕ} (h : off = ![lo, 0]) (inb : ∀ a, off a + (![n, 512] : Fin 2 → ℕ) a ≤ S496x512.size a)
    (x : (⟨2, ![n, 512]⟩ : Shape).Idx) :
    (((gM : Memref sig .tc .vmem S496x512 .bf16).access (Rect.unit (s := S496x512) off ![n, 512] inb)).emb x 0).val = lo + (x 0).val
    ∧ (((gM : Memref sig .tc .vmem S496x512 .bf16).access (Rect.unit (s := S496x512) off ![n, 512] inb)).emb x 1).val = (x 1).val := by
  subst h
  refine ⟨?_, ?_⟩
  · show (![lo, 0] : Fin 2 → ℕ) 0 + 1 * (x 0).val = _; simp
  · show (![lo, 0] : Fin 2 → ℕ) 1 + 1 * (x 1).val = _; simp

/-- The contents of the two buffers. -/
abbrev RBuf (F : FTy → Type) : Type := S512x512.Idx → Elt F .bf16
abbrev GBuf (F : FTy → Type) : Type := S496x512.Idx → Elt F .bf16

/-- The element of row `r` at column `j` (rows taken modulo their number). -/
def ixR (r : ℕ) (j : Fin 512) : S512x512.Idx := ix2 (⟨r % 512, Nat.mod_lt _ (by decide)⟩ : Fin 512) j
def ixG (r : ℕ) (j : Fin 512) : S496x512.Idx := ix2 (⟨r % 496, Nat.mod_lt _ (by decide)⟩ : Fin 496) j

theorem ixR_eq (i : S512x512.Idx) (r : ℕ) (j : Fin 512) (h : (i 0).val = r) (h' : (i 1).val = j.val) : ixR r j = i := by
  have hr : r < 512 := h ▸ (i 0).isLt
  refine funext fun a => Fin.ext ?_
  match a with
  | ⟨0, _⟩ => exact (Nat.mod_eq_of_lt hr).trans h.symm
  | ⟨1, _⟩ => exact h'.symm

theorem ixG_eq (i : S496x512.Idx) (r : ℕ) (j : Fin 512) (h : (i 0).val = r) (h' : (i 1).val = j.val) : ixG r j = i := by
  have hr : r < 496 := h ▸ (i 0).isLt
  refine funext fun a => Fin.ext ?_
  match a with
  | ⟨0, _⟩ => exact (Nat.mod_eq_of_lt hr).trans h.symm
  | ⟨1, _⟩ => exact h'.symm

/-- Row `k` of a rectangle of `n` full rows, column `j`. -/
def ixN (n k : ℕ) (h : k < n) (j : Fin 512) : (⟨2, ![n, 512]⟩ : Shape).Idx := ix2 (⟨k, h⟩ : Fin n) j

theorem ixN_eq {n : ℕ} (x : (⟨2, ![n, 512]⟩ : Shape).Idx) : x = ixN n (x 0).val (x 0).isLt (x 1) :=
  funext fun a => match a with | ⟨0, _⟩ => rfl | ⟨1, _⟩ => rfl

theorem read_rM {off : Fin 2 → ℕ} {n lo : ℕ} (h : off = ![lo, 0]) (inb : ∀ a, off a + (![n, 512] : Fin 2 → ℕ) a ≤ S512x512.size a)
    (f : RBuf F) (x : (⟨2, ![n, 512]⟩ : Shape).Idx) :
    ((rM : Memref sig .tc .vmem S512x512 .bf16).access (Rect.unit (s := S512x512) off ![n, 512] inb)).read (Elt F) f x = f (ixR (lo + (x 0).val) (x 1)) := by
  rw [View.read_apply]
  show f _ = f _
  exact congrArg f (ixR_eq _ _ _ (emb_rM0 h inb x).1 (emb_rM0 h inb x).2).symm

theorem read_gM {off : Fin 2 → ℕ} {n lo : ℕ} (h : off = ![lo, 0]) (inb : ∀ a, off a + (![n, 512] : Fin 2 → ℕ) a ≤ S496x512.size a)
    (f : GBuf F) (x : (⟨2, ![n, 512]⟩ : Shape).Idx) :
    ((gM : Memref sig .tc .vmem S496x512 .bf16).access (Rect.unit (s := S496x512) off ![n, 512] inb)).read (Elt F) f x = f (ixG (lo + (x 0).val) (x 1)) := by
  rw [View.read_apply]
  show f _ = f _
  exact congrArg f (ixG_eq _ _ _ (emb_gM0 h inb x).1 (emb_gM0 h inb x).2).symm

/-- Writing full rows of `rM`: the payload on those rows, the old contents elsewhere. -/
def putR (lo n : ℕ) (f : RBuf F) (w : (⟨2, ![n, 512]⟩ : Shape).Idx → Elt F .bf16) : RBuf F := fun i =>
  if h : lo ≤ (i 0).val ∧ (i 0).val < lo + n then w (ixN n ((i 0).val - lo) (by omega) (i 1)) else f i

theorem write_rM {off : Fin 2 → ℕ} {n lo : ℕ} (h : off = ![lo, 0]) (inb : ∀ a, off a + (![n, 512] : Fin 2 → ℕ) a ≤ S512x512.size a)
    (f : RBuf F) (w : (⟨2, ![n, 512]⟩ : Shape).Idx → Elt F .bf16) :
    ((rM : Memref sig .tc .vmem S512x512 .bf16).access (Rect.unit (s := S512x512) off ![n, 512] inb)).write (Elt F) f w Finset.univ = putR lo n f w := by
  funext i
  by_cases hi : i ∈ rowsR lo n
  · rw [← set_rM h inb] at hi
    obtain ⟨x, -, rfl⟩ := Finset.mem_map.mp hi
    rw [View.write_emb_of_mem _ _ (Finset.mem_univ x)]
    have e := emb_rM0 h inb x
    have hx := (x 0).isLt
    unfold putR
    rw [dif_pos ⟨by omega, by have : (x 0).val < n := hx; omega⟩]
    show w x = w _
    refine congrArg w ((ixN_eq x).trans ?_)
    refine funext fun a => Fin.ext ?_
    match a with
    | ⟨0, _⟩ => show (x 0).val = _ - lo; omega
    | ⟨1, _⟩ => exact e.2.symm
  · rw [View.write_of_not_mem _ _ _ (by rw [View.setOn_univ, set_rM h inb]; exact hi)]
    unfold putR
    rw [dif_neg (fun h' => hi (mem_rowsR.mpr h'))]

/-- A transfer between full rows: at the elements written, what the source held at the same row counted from the start. -/
theorem landR {off off' : Fin 2 → ℕ} {n lo lo' : ℕ} (h : off = ![lo, 0]) (h' : off' = ![lo', 0])
    (inb : ∀ a, off a + (![n, 512] : Fin 2 → ℕ) a ≤ S512x512.size a) (inb' : ∀ a, off' a + (![n, 512] : Fin 2 → ℕ) a ≤ S512x512.size a)
    (fd fs g : RBuf F) (hg : ∀ i, lo' ≤ (i 0).val → (i 0).val < lo' + n → g i = fs (ixR (lo + ((i 0).val - lo')) (i 1))) :
    ∀ i ∈ ((rM : Memref sig .tc .vmem S512x512 .bf16).access (Rect.unit (s := S512x512) off' ![n, 512] inb')).set,
      ((rM : Memref sig .tc .vmem S512x512 .bf16).access (Rect.unit (s := S512x512) off' ![n, 512] inb')).write (Elt F) fd
        (((rM : Memref sig .tc .vmem S512x512 .bf16).access (Rect.unit (s := S512x512) off ![n, 512] inb)).read (Elt F) fs) Finset.univ i = g i := by
  intro i hi
  obtain ⟨x, -, rfl⟩ := Finset.mem_map.mp hi
  rw [View.write_emb_of_mem _ _ (Finset.mem_univ x)]
  have e := emb_rM0 h' inb' x
  have hx : (x 0).val < n := (x 0).isLt
  rw [hg _ (by omega) (by omega)]
  show ((rM : Memref sig .tc .vmem S512x512 .bf16).access (Rect.unit (s := S512x512) off ![n, 512] inb)).read (Elt F) fs x = _
  rw [read_rM h inb fs x, e.1, show lo' + (x 0).val - lo' = (x 0).val by omega]
  refine congrArg fs (congrArg (ixR _) (Fin.ext e.2.symm))

theorem landG {off off' : Fin 2 → ℕ} {n lo lo' : ℕ} (h : off = ![lo, 0]) (h' : off' = ![lo', 0])
    (inb : ∀ a, off a + (![n, 512] : Fin 2 → ℕ) a ≤ S512x512.size a) (inb' : ∀ a, off' a + (![n, 512] : Fin 2 → ℕ) a ≤ S496x512.size a)
    (fd : GBuf F) (fs : RBuf F) (g : GBuf F) (hg : ∀ i, lo' ≤ (i 0).val → (i 0).val < lo' + n → g i = fs (ixR (lo + ((i 0).val - lo')) (i 1))) :
    ∀ i ∈ ((gM : Memref sig .tc .vmem S496x512 .bf16).access (Rect.unit (s := S496x512) off' ![n, 512] inb')).set,
      ((gM : Memref sig .tc .vmem S496x512 .bf16).access (Rect.unit (s := S496x512) off' ![n, 512] inb')).write (Elt F) fd
        (((rM : Memref sig .tc .vmem S512x512 .bf16).access (Rect.unit (s := S512x512) off ![n, 512] inb)).read (Elt F) fs) Finset.univ i = g i := by
  intro i hi
  obtain ⟨x, -, rfl⟩ := Finset.mem_map.mp hi
  rw [View.write_emb_of_mem _ _ (Finset.mem_univ x)]
  have e := emb_gM0 h' inb' x
  have hx : (x 0).val < n := (x 0).isLt
  rw [hg _ (by omega) (by omega)]
  show ((rM : Memref sig .tc .vmem S512x512 .bf16).access (Rect.unit (s := S512x512) off ![n, 512] inb)).read (Elt F) fs x = _
  rw [read_rM h inb fs x, e.1, show lo' + (x 0).val - lo' = (x 0).val by omega]
  refine congrArg fs (congrArg (ixR _) (Fin.ext e.2.symm))

/-! ## Contents -/

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- The blocks of the three inputs as the launch stages them. -/
def xs (c : Dev nD) : S512x256.Idx → Elt F .f32 := (win0_0.blk (0 : Fin 1)).view.read (Elt F) (m ((c : Thread nD τ).loc main_arg0))
def ts (c : Dev nD) : S512x1.Idx → Elt F .i32 := (win0_1.blk (0 : Fin 1)).view.read (Elt F) (m ((c : Thread nD τ).loc main_arg2))
def ws (c : Dev nD) : S2x256x512.Idx → Elt F .f32 := (win0_2.blk (0 : Fin 1)).view.read (Elt F) (m ((c : Thread nD τ).loc main_arg3))

/-- The device's number as the kernel computes it, and the first of its two experts. -/
def v2w (c : Dev nD) : BitVec 32 := Scalar.remsi (Scalar.divsi (Dev.word c) 1#32) 32#32
def v914w (c : Dev nD) : BitVec 32 := Scalar.muli (v2w c) 2#32

def w0 (c : Dev nD) : S1x256x512.Idx → Elt F .f32 :=
  (wM : Memref sig .tc .vmem S2x256x512 .f32).view.readAt (Elt F) (Rect.unit (s := S2x256x512) ![0, 0, 0] S1x256x512.size inb_S2x256x512_S1x256x512_0_0_0).toLoadRect (ws m c)
def w1 (c : Dev nD) : S1x256x512.Idx → Elt F .f32 :=
  (wM : Memref sig .tc .vmem S2x256x512 .f32).view.readAt (Elt F) (Rect.unit (s := S2x256x512) ![1, 0, 0] S1x256x512.size inb_S2x256x512_S1x256x512_1_0_0).toLoadRect (ws m c)

/-- The partial products of the first and second quarter to give away, and of the half to keep. -/
def a1 (c : Dev nD) : S128x512.Idx → Elt F .bf16 := k0_pay1 (v2w c)
  ((xM : Memref sig .tc .vmem S512x256 .f32).view.readAt (Elt F) (Rect.unit (s := S512x256) (k0_off1 c) S128x256.size (k0_off1_inb c)).toLoadRect (xs m c))
  ((tM : Memref sig .tc .vmem S512x1 .i32).view.readAt (Elt F) (Rect.unit (s := S512x1) (k0_off2 c) S128x1.size (k0_off2_inb c)).toLoadRect (ts m c))
  (w0 m c) (w1 m c)
def a2 (c : Dev nD) : S128x512.Idx → Elt F .bf16 := k0_pay2 (v914w c)
  ((xM : Memref sig .tc .vmem S512x256 .f32).view.readAt (Elt F) (Rect.unit (s := S512x256) (k0_off5 c) S128x256.size (k0_off5_inb c)).toLoadRect (xs m c))
  ((tM : Memref sig .tc .vmem S512x1 .i32).view.readAt (Elt F) (Rect.unit (s := S512x1) (k0_off6 c) S128x1.size (k0_off6_inb c)).toLoadRect (ts m c))
  (w0 m c) (w1 m c)
def a3 (c : Dev nD) : S256x512.Idx → Elt F .bf16 := k0_pay3 (v914w c)
  ((xM : Memref sig .tc .vmem S512x256 .f32).view.readAt (Elt F) (Rect.unit (s := S512x256) (k0_off9 c) S256x256.size (k0_off9_inb c)).toLoadRect (xs m c))
  ((tM : Memref sig .tc .vmem S512x1 .i32).view.readAt (Elt F) (Rect.unit (s := S512x1) (k0_off10 c) S256x1.size (k0_off10_inb c)).toLoadRect (ts m c))
  (w0 m c) (w1 m c)

/-- The partial products of a device. -/
def Afin (c : Dev nD) : RBuf F :=
  putR (send0 c) 128 (putR (send0 c + 128) 128 (putR (col0 c) 256 (fun i => a1 m c (ixN 128 0 (by decide) (i 1))) (k0_pay4 (a3 m c))) (a2 m c)) (a1 m c)

/-- What the other half's device sends: its products of this device's rows. -/
def Xfin (c : Dev nD) : GBuf F := fun i => Afin m (partner c) (ixR (col0 c + (i 0).val) (i 1))

/-- The rows `lo` to `lo + n` of a buffer. -/
def takeR (lo n : ℕ) (f : RBuf F) : (⟨2, ![n, 512]⟩ : Shape).Idx → Elt F .bf16 := fun x => f (ixR (lo + (x 0).val) (x 1))
def takeG (lo n : ℕ) (f : GBuf F) : (⟨2, ![n, 512]⟩ : Shape).Idx → Elt F .bf16 := fun x => f (ixG (lo + (x 0).val) (x 1))

/-- The device's products with the other half's added. -/
def b1 (c : Dev nD) : S128x512.Idx → Elt F .bf16 := k0_pay5 (takeR (col0 c) 128 (Afin m c)) (takeG 0 128 (Xfin m c))
def b2 (c : Dev nD) : S128x512.Idx → Elt F .bf16 := k0_pay6 (takeR (col0 c + 128) 128 (Afin m c)) (takeG 128 128 (Xfin m c))
def Bfin (c : Dev nD) : RBuf F := putR (col0 c) 128 (putR (col0 c + 128) 128 (Afin m c) (b2 m c)) (b1 m c)

/-- What the staging buffer holds once everything has landed. -/
def Sfin (c : Dev nD) : GBuf F := fun i =>
  if (i 0).val < 256 then Xfin m c i
  else Bfin m (up c (((i 0).val - 256) / 16 + 1)) (ixR (own0 c + ((i 0).val - 256) % 16) (i 1))

/-- The block a device sums. -/
def own (c : Dev nD) : S16x512.Idx → Elt F .bf16 := k0_pay7 (takeG 256 240 (Sfin m c)) (takeR (own0 c) 16 (Bfin m c))

/-- The finished result. -/
def Cfin : RBuf F := fun i => own m (mk ((i 0).val / 256) (((i 0).val % 256) / 16)) (ixN 16 ((i 0).val % 16) (Nat.mod_lt _ (by decide)) (i 1))

/-- The output block. -/
def outv : S512x512.Idx → Elt F .f32 := k0_pay8 (Cfin m)

end Cert.Proof
-- ==== Proof.Sched.lean ====
/-
The schedule of the cells, the pieces of the two buffers that move, and the levels.

Every cell has one round. A device's barrier cell has sixteen duties of one unit: the device that pays duty `o` hands over the rows of
its staging buffer that this device's transfer `o` lands in. A cell that confirms the start of transfer `i` has one duty, and so has the
cell that receives transfer `i`; what the latter hands over is the rows that landed and, where the rows sent are
free from then on, those rows too.
-/
module

public import proofs.«01_k».proof.Proof.Contents
public import proofs.«01_k».proof.Proof.Places

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

local notation "𝕄" => MT nD τ sig Unit (Elt F) ℕ UU ℕ

/-! ## Cells -/

abbrev barS : Sem sig := (SemArray.scalar (sig.barrier 0 rfl) : Sems sig S_).sem
def sendS (i : Fin 48) : DmaSem sig := ⟨4 + i.val, by have := i.isLt; show 4 + i.val < 100; omega⟩
def recvS (i : Fin 48) : DmaSem sig := ⟨52 + i.val, by have := i.isLt; show 52 + i.val < 100; omega⟩

abbrev barCell (c : Dev nD) : GSem nD τ sig := ((c : Thread nD τ), .reg barS)
abbrev sendCell (c : Dev nD) (i : Fin 48) : GSem nD τ sig := ((c : Thread nD τ), .dma (sendS i))
abbrev recvCell (c : Dev nD) (i : Fin 48) : GSem nD τ sig := ((c : Thread nD τ), .dma (recvS i))

/-- The transfer a semaphore belongs to. -/
def idx (q : DmaSem sig) : Fin 48 := ⟨(q.val - 4) % 48, Nat.mod_lt _ (by decide)⟩
theorem idx_send (i : Fin 48) : idx (sendS i) = i := Fin.ext (by have := i.isLt; show (4 + i.val - 4) % 48 = i.val; omega)
theorem idx_recv (i : Fin 48) : idx (recvS i) = i := Fin.ext (by have := i.isLt; show (52 + i.val - 4) % 48 = i.val; omega)

/-- What a transfer of `n` rows counts for. -/
def crd (n : ℕ) : ℕ := ((Memref.whole cc0_scratch0 : Memref sig .tc .vmem S512x512 .bf16).view.ref).dmaCredit ⟨2, ![n, 512]⟩ .bf16
def nAmt (i : Fin 48) : ℕ := crd (nRows i)
theorem nAmt_pos (i : Fin 48) : 0 < nAmt i := by
  unfold nAmt crd
  refine sig.dmaCredit_pos _ _ _ _ _ ?_
  unfold nRows; split <;> decide

/-! ## Pieces -/

variable (m : (ℓ : Loc nD τ sig) → Buf (Elt F) ℓ)

def rP (c : Dev nD) (lo n : ℕ) (q : PosShare TreeShare) (f : RBuf F) : sProp 𝕄 :=
  (((c : Thread nD τ).loc cc0_scratch0) ↦[rowsR lo n]{q} f)
def sP (c : Dev nD) (lo n : ℕ) (q : PosShare TreeShare) (f : GBuf F) : sProp 𝕄 :=
  (((c : Thread nD τ).loc cc0_scratch1) ↦[rowsG lo n]{q} f)
instance rP_storable (c lo n q f) : BI.Storable (upEmb : UEmb _ 𝕄) (rP (F := F) c lo n q f) := by unfold rP; infer_instance
instance sP_storable (c lo n q f) : BI.Storable (upEmb : UEmb _ 𝕄) (sP (F := F) c lo n q f) := by unfold sP; infer_instance

abbrev shD (k : ℕ) : PosShare TreeShare := Transfers.shareDrop fullShare k
abbrev shT (k : ℕ) : PosShare TreeShare := Transfers.shareTokN fullShare k

/-- What the source of a transfer holds, and the share of it that is lent. -/
def srcF (c : Dev nD) (i : Fin 48) : RBuf F := if i.val = 0 ∨ i.val = 47 then Afin m c else if i.val ≤ 15 then Bfin m c else Cfin m
def srcQ (i : Fin 48) : PosShare TreeShare :=
  if toStage i then fullShare else if i.val ≤ 30 then shT (i.val - 15) else shT 0
def srcP (c : Dev nD) (i : Fin 48) : sProp 𝕄 := rP c (srcLo c i) (nRows i) (srcQ i) (srcF m c i)

/-- The rows a transfer lands in, with whatever they held. -/
def dstP (c : Dev nD) (i : Fin 48) : sProp 𝕄 :=
  if toStage i then iprop(∃ f, sP (dst c i) (dstLo c i) (nRows i) fullShare f)
  else iprop(∃ f, rP (dst c i) (dstLo c i) (nRows i) fullShare f)

/-- The rows that landed at `c` with transfer `i`. -/
def landP (c : Dev nD) (i : Fin 48) : sProp 𝕄 :=
  if toStage i then sP c (dstLo (src c i) i) (nRows i) fullShare (Sfin m c)
  else rP c (dstLo (src c i) i) (nRows i) fullShare (Cfin m)

/-- The rows transfer `i` to `c` was sent from, where they are free from then on. -/
def backP (c : Dev nD) (i : Fin 48) : sProp 𝕄 :=
  if toStage i then iprop(∃ f, rP (src c i) (srcLo (src c i) i) (nRows i) fullShare f) else iprop(emp)

def recvPay (c : Dev nD) (i : Fin 48) : sProp 𝕄 := iprop(landP m c i ∗ backP c i)
def sendPay (c : Dev nD) (i : Fin 48) : sProp 𝕄 := if toStage i then iprop(emp) else srcP m c i

/-- What a device keeps of the rows that landed: all but what it lends to pass them on. -/
def keptP (c : Dev nD) (i : Fin 48) : sProp 𝕄 :=
  if 16 ≤ i.val ∧ i.val ≤ 30 then rP c (dstLo (src c i) i) (nRows i) (shD 1) (Cfin m) else landP m c i

/-- What the entry signal `o` to `c` hands over. -/
def barPay (c : Dev nD) (o : Fin 16) : sProp 𝕄 :=
  if o.val = 0 then iprop(dstP c 47 ∗ dstP c (o.castLE (by decide))) else dstP c (o.castLE (by decide))

instance dstP_storable (c i) : BI.Storable (upEmb : UEmb _ 𝕄) (dstP (F := F) c i) := by unfold dstP; split <;> infer_instance
instance srcP_storable (c i) : BI.Storable (upEmb : UEmb _ 𝕄) (srcP (F := F) m c i) := by unfold srcP; infer_instance
instance recvPay_storable (c i) : BI.Storable (upEmb : UEmb _ 𝕄) (recvPay (F := F) m c i) := by
  unfold recvPay landP backP; (repeat' split) <;> infer_instance
instance sendPay_storable (c i) : BI.Storable (upEmb : UEmb _ 𝕄) (sendPay (F := F) m c i) := by
  unfold sendPay; split <;> infer_instance
instance barPay_storable (c o) : BI.Storable (upEmb : UEmb _ 𝕄) (barPay (F := F) c o) := by
  unfold barPay; split <;> infer_instance

/-! ## The schedule -/

def dutiesOf : SemLoc sig → Finset (Fin 16)
  | .reg s => if s = barS then Finset.univ else ∅
  | .dma q => if 4 ≤ q.val then {0} else ∅
def amountOf : SemLoc sig → ℕ
  | .reg _ => 1
  | .dma q => nAmt (idx q)
def payOf (c : Dev nD) (d : Fin 16) : SemLoc sig → sProp 𝕄
  | .reg _ => barPay c d
  | .dma q => if q.val < 52 then sendPay m c (idx q) else recvPay m c (idx q)

def kRd : Rounds.Schedule (GSem nD τ sig) (Fin 16) 𝕄 where
  duties g r := if r = 0 ∧ g.1.2 = .tc then dutiesOf g.2 else ∅
  unitless _ := False
  amount g _ _ := amountOf g.2
  payload g _ d := payOf m g.1.1 d g.2
  amount_pos g _ _ _ := by
    rcases g with ⟨_, (s | q)⟩
    · exact Nat.one_pos
    · exact nAmt_pos _

instance kRd_payload_storable (g : GSem nD τ sig) (r : ℕ) (d : Fin 16) : BI.Storable (upEmb : UEmb _ 𝕄) ((kRd (F := F) m).payload g r d) := by
  rcases g with ⟨t, (s | q)⟩
  · show BI.Storable upEmb (barPay t.1 d); infer_instance
  · show BI.Storable upEmb (if q.val < 52 then sendPay m t.1 (idx q) else recvPay m t.1 (idx q))
    split <;> infer_instance

section Sched
variable (c : Dev nD) (i : Fin 48)

theorem duties_tc (sm : SemLoc sig) : (kRd (F := F) m).duties ((c : Thread nD τ), sm) 0 = dutiesOf sm :=
  if_pos (t := dutiesOf sm) (e := ∅) (⟨rfl, rfl⟩ : 0 = 0 ∧ (c : Thread nD τ).2 = .tc)
theorem duties_bar : (kRd (F := F) m).duties (barCell c) 0 = Finset.univ := by
  rw [duties_tc]; unfold dutiesOf; exact if_pos rfl
theorem duties_send : (kRd (F := F) m).duties (sendCell c i) 0 = {0} := by
  rw [duties_tc]; unfold dutiesOf; exact if_pos (Nat.le_add_right _ _)
theorem duties_recv : (kRd (F := F) m).duties (recvCell c i) 0 = {0} := by
  rw [duties_tc]; unfold dutiesOf; exact if_pos (by show 4 ≤ 52 + i.val; omega)
theorem duties_later (g : GSem nD τ sig) : ∀ r, 1 ≤ r → (kRd (F := F) m).duties g r = ∅ :=
  fun r hr => if_neg fun h => by omega

theorem amount_bar (d : Fin 16) : (kRd (F := F) m).amount (barCell c) 0 d = 1 := rfl
theorem amount_send (d : Fin 16) : (kRd (F := F) m).amount (sendCell c i) 0 d = nAmt i := congrArg nAmt (idx_send i)
theorem amount_recv (d : Fin 16) : (kRd (F := F) m).amount (recvCell c i) 0 d = nAmt i := congrArg nAmt (idx_recv i)

theorem expect_bar : (kRd (F := F) m).expect (barCell c) 0 = 16 := by
  unfold Schedule.expect Schedule.amountOf
  rw [duties_bar, Finset.sum_congr rfl fun d _ => amount_bar m c d, Finset.sum_const, Finset.card_univ, Fintype.card_fin, smul_eq_mul]
theorem expect_send : (kRd (F := F) m).expect (sendCell c i) 0 = nAmt i := by
  unfold Schedule.expect Schedule.amountOf; rw [duties_send, Finset.sum_singleton, amount_send]
theorem expect_recv : (kRd (F := F) m).expect (recvCell c i) 0 = nAmt i := by
  unfold Schedule.expect Schedule.amountOf; rw [duties_recv, Finset.sum_singleton, amount_recv]

theorem payload_bar (d : Fin 16) : (kRd (F := F) m).payload (barCell c) 0 d = barPay c d := rfl
theorem payload_send (d : Fin 16) : (kRd (F := F) m).payload (sendCell c i) 0 d = sendPay m c i := by
  show (if _ then _ else _) = _
  rw [if_pos (by have := i.isLt; show 4 + i.val < 52; omega), idx_send]
theorem payload_recv (d : Fin 16) : (kRd (F := F) m).payload (recvCell c i) 0 d = recvPay m c i := by
  show (if _ then _ else _) = _
  rw [if_neg (by show ¬ 52 + i.val < 52; omega), idx_recv]

theorem rest_bar : bigSep ((kRd (F := F) m).duties (barCell c) 0 \ ∅) (fun d => (kRd (F := F) m).payload (barCell c) 0 d) = bigSep Finset.univ (barPay c) := by
  rw [Finset.sdiff_empty, duties_bar]; rfl
theorem rest_send : bigSep ((kRd (F := F) m).duties (sendCell c i) 0 \ ∅) (fun d => (kRd (F := F) m).payload (sendCell c i) 0 d) = sendPay m c i := by
  rw [Finset.sdiff_empty, duties_send, bigSep_singleton, payload_send]
theorem rest_recv : bigSep ((kRd (F := F) m).duties (recvCell c i) 0 \ ∅) (fun d => (kRd (F := F) m).payload (recvCell c i) 0 d) = recvPay m c i := by
  rw [Finset.sdiff_empty, duties_recv, bigSep_singleton, payload_recv]

end Sched

/-! ## Levels and what is owed -/

def L (g : GSem nD τ sig) : Finset Unit := if g.1.2 = .tc then {()} else ∅
def lvS : SemLoc sig → ℕ
  | .reg _ => 1
  | .dma q => if 52 ≤ q.val then lvl (idx q) else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_recv (i : Fin 48) : lvS (.dma (recvS i)) = lvl i := by
  show (if _ then _ else _) = _
  rw [if_pos (by show 52 ≤ 52 + i.val; omega), idx_recv]

/-- What device `c` owes before step `j`. -/
def owed (c : Dev nD) (j : ℕ) : CellTallies nD τ sig Unit :=
  (∑ o : Fin 16, if j ≤ o.val then tallyAt (barCell (tgt c o)) () 1 else 0)
    + ∑ i : Fin 48, if j ≤ tSend c i then tallyAt (recvCell (dst c i) i) () (nAmt i) else 0

theorem sum_at {I : Type} [Fintype I] [DecidableEq I] (t : I → ℕ) (f : I → CellTallies nD τ sig Unit) (i : I) (ht : ∀ i', t i' = t i → i' = i) :
    (∑ i', if t i ≤ t i' then f i' else 0) = (∑ i', if t i + 1 ≤ t i' then f i' else 0) + f i := by
  rw [← Finset.sum_erase_add Finset.univ _ (Finset.mem_univ i), if_pos (le_refl _),
    ← Finset.sum_erase_add Finset.univ (fun i' => if t i + 1 ≤ t i' then f i' else 0) (Finset.mem_univ i), if_neg (Nat.not_succ_le_self _), add_zero]
  congr 1
  refine Finset.sum_congr rfl fun i' hi' => if_congr ?_ rfl rfl
  have : t i' ≠ t i := fun h => Finset.ne_of_mem_erase hi' (ht i' h)
  omega

theorem sum_same {I : Type} [Fintype I] (t : I → ℕ) (f : I → CellTallies nD τ sig Unit) (j : ℕ) (ht : ∀ i', t i' ≠ j) :
    (∑ i', if j ≤ t i' then f i' else 0) = (∑ i', if j + 1 ≤ t i' then f i' else 0) :=
  Finset.sum_congr rfl fun i' _ => if_congr (by have := ht i'; omega) rfl rfl

theorem owed_signal (c : Dev nD) (o : Fin 16) : owed c o.val = owed c (o.val + 1) + tallyAt (barCell (tgt c o)) () 1 := by
  unfold owed
  rw [sum_at (fun o : Fin 16 => o.val) _ o (fun _ h => Fin.ext h),
    sum_same (tSend c) _ o.val (fun i => by have := (send_ge c i).1; have := o.isLt; omega)]
  exact add_right_comm _ _ _

theorem owed_send (c : Dev nD) (i : Fin 48) : owed c (tSend c i) = owed c (tSend c i + 1) + tallyAt (recvCell (dst c i) i) () (nAmt i) := by
  unfold owed
  rw [sum_at (tSend c) _ i (fun i' => tSend_inj c i i'),
    sum_same (fun o : Fin 16 => o.val) _ (tSend c i) (fun o => by have := (send_ge c i).1; have := o.isLt; show o.val ≠ _; omega)]
  exact (add_assoc _ _ _).symm

theorem owed_same (c : Dev nD) (j : ℕ) (h : 16 ≤ j) (h' : ∀ i, tSend c i ≠ j) : owed c j = owed c (j + 1) := by
  unfold owed
  rw [sum_same (tSend c) _ j h', sum_same (fun o : Fin 16 => o.val) _ j (fun o => by have := o.isLt; show o.val ≠ _; omega)]

theorem owed_end (c : Dev nD) (j : ℕ) (h : 117 ≤ j) : owed c j = 0 := by
  unfold owed
  rw [Finset.sum_eq_zero fun o _ => if_neg (by have := o.isLt; omega), Finset.sum_eq_zero fun i _ => if_neg (by have := (send_ge c i).2.1; omega), add_zero]

theorem owed_pos {c : Dev nD} {j : ℕ} {g : GSem nD τ sig} {u : Unit} (h : 0 < owed c j g u) :
    (∃ o : Fin 16, j ≤ o.val ∧ g = barCell (tgt c o)) ∨ ∃ i : Fin 48, j ≤ tSend c i ∧ g = recvCell (dst c i) i := by
  by_contra hn
  rw [not_or, not_exists, not_exists] at hn
  have e : owed c j g u = 0 := by
    unfold owed
    rw [Pi.add_apply, Finsupp.add_apply, Finset.sum_apply, Finset.sum_apply, Finsupp.finset_sum_apply, Finsupp.finset_sum_apply,
      Finset.sum_eq_zero (s := (Finset.univ : Finset (Fin 16))), Finset.sum_eq_zero (s := (Finset.univ : Finset (Fin 48))), add_zero]
    · intro i _
      by_cases hi : j ≤ tSend c i
      · rw [if_pos hi, tallyAt_apply, if_neg (fun h' => hn.2 i ⟨hi, h'.1⟩)]
      · rw [if_neg hi]; rfl
    · intro o _
      by_cases ho : j ≤ o.val
      · rw [if_pos ho, tallyAt_apply, if_neg (fun h' => hn.1 o ⟨ho, h'.1⟩)]
      · rw [if_neg ho]; rfl
  omega

/-- A wait at step `j` on a cell below everything still owed. -/
theorem mayWait (c : Dev nD) (j : ℕ) (sm : SemLoc sig) (h1 : ∀ o : Fin 16, j ≤ o.val → lvS sm < 1) (h2 : ∀ i, j ≤ tSend c i → lvS sm < lvl i) :
    (levAts L lv : sProp 𝕄) ⊢ MayWait (c : Thread nD τ) sm () (owed c j) :=
  MayOwe.of_cut (L := L) (lev := lv) (lvS sm) (fun p hp => by rw [Finset.mem_singleton.mp hp, L_tc]; exact Finset.mem_singleton_self _)
    (fun g u hg => by rcases owed_pos hg with ⟨o, -, rfl⟩ | ⟨i, -, rfl⟩ <;> exact Finset.mem_singleton_self _)
    (fun p hp => by rw [Finset.mem_singleton.mp hp]; exact le_refl _)
    (fun g u hg => by
      rcases owed_pos hg with ⟨o, ho, rfl⟩ | ⟨i, hi, rfl⟩
      · exact h1 o ho
      · show lvS _ < lvS (.dma (recvS i))
        rw [lvS_recv]; exact h2 i hi)

end Cert.Proof
-- ==== Proof.State.lean ====
/-
What one device owns between two steps.

`St m K c j` is everything the protocol gives device `c` before step `j`: what it still owes, its tokens, its places at
its cells, and the pieces of the two buffers it holds at that moment. Each constituent changes at one or two steps only,
so a step is proved by changing the constituents that name it and carrying over the others.
-/
module

public import proofs.«01_k».proof.Proof.Sched

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

local notation "𝕄" => MT nD τ sig Unit (Elt F) ℕ UU ℕ

abbrev 𝒱₀ : Variants := Variants.none

/-- The weakest precondition of a device's program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## A constituent that changes at one step -/

/-- `a` up to step `t`, `b` after it. -/
def ph (j t : ℕ) (a b : sProp 𝕄) : sProp 𝕄 := if j ≤ t then a else b
theorem ph_same {j t : ℕ} (h : t ≠ j) (a b : sProp 𝕄) : ph j t a b = ph (j + 1) t a b := by
  unfold ph; exact if_congr (by omega) rfl rfl
theorem ph_le {j t : ℕ} (h : j ≤ t) (a b : sProp 𝕄) : ph j t a b = a := if_pos h
theorem ph_gt {j t : ℕ} (h : t < j) (a b : sProp 𝕄) : ph j t a b = b := if_neg (by omega)

variable (m : (ℓ : Loc nD τ sig) → Buf (Elt F) ℓ)

def eSig (c : Dev nD) (o : Fin 16) (j : ℕ) : sProp 𝕄 :=
  ph j o.val iprop(dutyTok ER (barCell (tgt c o)) 0 o ∗ barPay (tgt c o) o) iprop(emp)
def eBar (c : Dev nD) (j : ℕ) : sProp 𝕄 :=
  ph j 16 iprop(atPos ER (barCell c) 0 ∅ 0 ∗ cred (tallyAt (barCell c) () 16)) (semVal (barCell c) 0)
def eSnd (c : Dev nD) (i : Fin 48) (j : ℕ) : sProp 𝕄 :=
  ph j (tSend c i) iprop(dutyTok ER (recvCell (dst c i) i) 0 0 ∗ dutyTok ER (sendCell c i) 0 0 ∗ atPos ER (sendCell c i) 0 ∅ 0)
    (ph j (tBack i) iprop(atPos ER (sendCell c i) 0 ∅ 0 ∗ cred (tallyAt (sendCell c i) () (nAmt i))) iprop(semVal (sendCell c i) 0 ∗ sendPay m c i))
def eRcv (c : Dev nD) (i : Fin 48) (j : ℕ) : sProp 𝕄 :=
  ph j (tRecv i) iprop(atPos ER (recvCell c i) 0 ∅ 0 ∗ cred (tallyAt (recvCell c i) () (nAmt i))) iprop(semVal (recvCell c i) 0 ∗ keptP m c i)
def eDst (c : Dev nD) (i : Fin 48) (j : ℕ) : sProp 𝕄 := ph j (tDst c i) iprop(emp) (ph j (tSend c i) (dstP c i) iprop(emp))
def eSrc (c : Dev nD) (i : Fin 48) (j : ℕ) : sProp 𝕄 := ph j (tSrc c i) iprop(emp) (ph j (tSend c i) (srcP m c i) iprop(emp))
def eOwn (c : Dev nD) (j : ℕ) : sProp 𝕄 :=
  ph j (tOwn c) iprop(emp) (ph j 70 (rP c (own0 c) 16 fullShare (Bfin m c)) (rP c (own0 c) 16 (shD 16) (Cfin m)))

/-! ## The cells' records -/

def csem (k : Fin 97) : SemLoc sig := if h : k.val < 96 then .dma ⟨4 + k.val, by show 4 + k.val < 100; omega⟩ else .reg barS
abbrev kcell (p : Dev nD × Fin 97) : GSem nD τ sig := ((p.1 : Thread nD τ), csem p.2)

def kB : Fin 97 := ⟨96, by decide⟩
def kS (i : Fin 48) : Fin 97 := ⟨i.val, by have := i.isLt; omega⟩
def kR (i : Fin 48) : Fin 97 := ⟨48 + i.val, by have := i.isLt; omega⟩
theorem csem_B : csem kB = .reg barS := dif_neg (by decide)
theorem csem_S (i : Fin 48) : csem (kS i) = .dma (sendS i) := dif_pos (by have := i.isLt; show i.val < 96; omega)
theorem csem_R (i : Fin 48) : csem (kR i) = .dma (recvS i) :=
  (dif_pos (by have := i.isLt; show 48 + i.val < 96; omega)).trans (congrArg SemLoc.dma (Fin.ext (by show 4 + (48 + i.val) = 52 + i.val; omega)))

variable (K : Dev nD × Fin 97 → ℕ)

def records : sProp 𝕄 := bigSep Finset.univ fun p : Dev nD × Fin 97 => iprop(cellInv ER (kRd m) (K p) (kcell p) ∗ reached ER (kcell p) 0)

instance records_persistent : BI.Persistent (records (F := F) m K) := by unfold records; infer_instance

theorem records_at (p : Dev nD × Fin 97) : records m K ⊢ iprop(cellInv ER (kRd m) (K p) (kcell p) ∗ reached ER (kcell p) 0) := by
  unfold records; exact bigSep_elim (Finset.mem_univ p)
theorem rec_bar (c : Dev nD) : records m K ⊢ iprop(cellInv ER (kRd m) (K (c, kB)) (barCell c) ∗ reached ER (barCell c) 0) := by
  have h := records_at m K (c, kB); unfold kcell at h; rw [csem_B] at h; exact h
theorem rec_send (c : Dev nD) (i : Fin 48) : records m K ⊢ iprop(cellInv ER (kRd m) (K (c, kS i)) (sendCell c i) ∗ reached ER (sendCell c i) 0) := by
  have h := records_at m K (c, kS i); unfold kcell at h; rw [csem_S] at h; exact h
theorem rec_recv (c : Dev nD) (i : Fin 48) : records m K ⊢ iprop(cellInv ER (kRd m) (K (c, kR i)) (recvCell c i) ∗ reached ER (recvCell c i) 0) := by
  have h := records_at m K (c, kR i); unfold kcell at h; rw [csem_R] at h; exact h

/-! ## The state -/

def owesP (c : Dev nD) (j : ℕ) : sProp 𝕄 := iprop(∃ W, owes (c : Thread nD τ) (owed c j) W)
def fSig (c : Dev nD) (j : ℕ) : sProp 𝕄 := bigSep Finset.univ fun o => eSig (F := F) c o j
def fSnd (c : Dev nD) (j : ℕ) : sProp 𝕄 := bigSep Finset.univ fun i => eSnd m c i j
def fRcv (c : Dev nD) (j : ℕ) : sProp 𝕄 := bigSep Finset.univ fun i => eRcv m c i j
def fDst (c : Dev nD) (j : ℕ) : sProp 𝕄 := bigSep Finset.univ fun i => eDst (F := F) c i j
def fSrc (c : Dev nD) (j : ℕ) : sProp 𝕄 := bigSep Finset.univ fun i => eSrc m c i j

def St (c : Dev nD) (j : ℕ) : sProp 𝕄 :=
  iprop(records m K ∗ levAts L lv ∗ owesP c j ∗ fSig c j ∗ eBar c j ∗ fSnd m c j ∗ fRcv m c j ∗ fDst c j ∗ fSrc m c j ∗ eOwn m c j)

/-! ## What a step leaves alone -/

theorem fSig_same (c : Dev nD) {j : ℕ} (h : 16 ≤ j) : fSig (F := F) c j = fSig c (j + 1) :=
  bigSep_congr fun o _ => ph_same (by have := o.isLt; omega) _ _
theorem eBar_same (c : Dev nD) {j : ℕ} (h : 16 ≠ j) : eBar (F := F) c j = eBar c (j + 1) := ph_same h _ _
theorem eSnd_same (c : Dev nD) (i : Fin 48) {j : ℕ} (h : tSend c i ≠ j) (h' : tBack i ≠ j) : eSnd m c i j = eSnd m c i (j + 1) := by
  unfold eSnd; rw [ph_same h, ph_same h']
theorem fSnd_same (c : Dev nD) {j : ℕ} (h : ∀ i, tSend c i ≠ j) (h' : j < 133 ∨ ∀ i, tBack i ≠ j) : fSnd m c j = fSnd m c (j + 1) :=
  bigSep_congr fun i _ => eSnd_same m c i (h i) (by rcases h' with h' | h'; · have := (back_ge i).1; omega
                                                    · exact h' i)
theorem eRcv_same (c : Dev nD) (i : Fin 48) {j : ℕ} (h : tRecv i ≠ j) : eRcv m c i j = eRcv m c i (j + 1) := ph_same h _ _
theorem fRcv_same (c : Dev nD) {j : ℕ} (h : ∀ i, tRecv i ≠ j) : fRcv m c j = fRcv m c (j + 1) :=
  bigSep_congr fun i _ => eRcv_same m c i (h i)
theorem eDst_same (c : Dev nD) (i : Fin 48) {j : ℕ} (h : tDst c i ≠ j) (h' : tSend c i ≠ j) : eDst (F := F) c i j = eDst c i (j + 1) := by
  unfold eDst; rw [ph_same h, ph_same h']
theorem fDst_same (c : Dev nD) {j : ℕ} (h : ∀ i, tDst c i ≠ j) (h' : ∀ i, tSend c i ≠ j) : fDst (F := F) c j = fDst c (j + 1) :=
  bigSep_congr fun i _ => eDst_same c i (h i) (h' i)
theorem eSrc_same (c : Dev nD) (i : Fin 48) {j : ℕ} (h : tSrc c i ≠ j) (h' : tSend c i ≠ j) : eSrc m c i j = eSrc m c i (j + 1) := by
  unfold eSrc; rw [ph_same h, ph_same h']
theorem fSrc_same (c : Dev nD) {j : ℕ} (h : ∀ i, tSrc c i ≠ j) (h' : ∀ i, tSend c i ≠ j) : fSrc m c j = fSrc m c (j + 1) :=
  bigSep_congr fun i _ => eSrc_same m c i (h i) (h' i)
theorem eOwn_same (c : Dev nD) {j : ℕ} (h : tOwn c ≠ j) (h' : 70 ≠ j) : eOwn m c j = eOwn m c (j + 1) := by
  unfold eOwn; rw [ph_same h, ph_same h']
theorem owesP_same (c : Dev nD) {j : ℕ} (h : 16 ≤ j) (h' : ∀ i, tSend c i ≠ j) : owesP (F := F) c j = owesP c (j + 1) := by
  unfold owesP; rw [owed_same c j h h']

/-- A family in which one member changes at a step. -/
theorem fam {I : Type} [Fintype I] [DecidableEq I] (f : I → ℕ → sProp 𝕄) (i : I) (j : ℕ) (h : ∀ i', i' ≠ i → f i' j = f i' (j + 1)) :
    ∃ R : sProp 𝕄, (bigSep Finset.univ fun i' => f i' j) = iprop(f i j ∗ R) ∧ (bigSep Finset.univ fun i' => f i' (j + 1)) = iprop(f i (j + 1) ∗ R) := by
  refine ⟨bigSep (Finset.univ.erase i) fun i' => f i' j, bigSep_univ_at _ i, ?_⟩
  rw [bigSep_univ_at _ i]
  congr 1
  exact bigSep_congr fun i' hi' => (h i' (Finset.ne_of_mem_erase hi')).symm

theorem split_filter {I : Type} [Fintype I] [DecidableEq I] (p : I → Prop) [DecidablePred p] (f : I → sProp 𝕄) :
    bigSep Finset.univ f = iprop(bigSep (Finset.univ.filter p) f ∗ bigSep (Finset.univ.filter fun i => ¬ p i) f) := bigSep_filter_split Finset.univ p

/-- A family in which the members with `p` are granted at a step, nothing of them being held before. -/
theorem fam_grant {I : Type} [Fintype I] [DecidableEq I] (f : I → ℕ → sProp 𝕄) (p : I → Prop) [DecidablePred p] (g : I → sProp 𝕄) (j : ℕ)
    (h : ∀ i, ¬ p i → f i j = f i (j + 1)) (h0 : ∀ i, p i → f i j = iprop(emp)) (h1 : ∀ i, p i → f i (j + 1) = g i) :
    iprop((bigSep Finset.univ fun i => f i j) ∗ bigSep (Finset.univ.filter p) g) ⊢ (bigSep Finset.univ fun i => f i (j + 1)) := by
  rw [split_filter p fun i => f i j, split_filter p fun i => f i (j + 1),
    bigSep_congr (s := Finset.univ.filter p) (Φ := fun i => f i j) (Ψ := fun _ => iprop(emp)) (fun i hi => h0 i (Finset.mem_filter.mp hi).2),
    bigSep_congr (s := Finset.univ.filter p) (Φ := fun i => f i (j + 1)) (Ψ := g) (fun i hi => h1 i (Finset.mem_filter.mp hi).2),
    bigSep_congr (s := Finset.univ.filter fun i => ¬ p i) (Φ := fun i => f i j) (Ψ := fun i => f i (j + 1)) (fun i hi => h i (Finset.mem_filter.mp hi).2)]
  iintro ⟨⟨-, Hr⟩, Hg⟩
  isplitl [Hg]; · iexact Hg
  iexact Hr

theorem grantDst (c : Dev nD) (j : ℕ) (h' : ∀ i, tSend c i ≠ j) :
    iprop(fDst (F := F) c j ∗ bigSep (Finset.univ.filter fun i => tDst c i = j) (dstP c)) ⊢ fDst c (j + 1) :=
  fam_grant (fun i j => eDst (F := F) c i j) (fun i => tDst c i = j) (dstP c) j (fun i hi => eDst_same c i hi (h' i))
    (fun i hi => by show eDst c i j = _; unfold eDst; exact ph_le (by omega) _ _)
    (fun i hi => by
      have := (dst_ge c i).2
      show eDst c i (j + 1) = _; unfold eDst; rw [ph_gt (by omega), ph_le (by omega)])

theorem grantSrc (c : Dev nD) (j : ℕ) (h' : ∀ i, tSend c i ≠ j) :
    iprop(fSrc m c j ∗ bigSep (Finset.univ.filter fun i => tSrc c i = j) (srcP m c)) ⊢ fSrc m c (j + 1) :=
  fam_grant (fun i j => eSrc m c i j) (fun i => tSrc c i = j) (srcP m c) j (fun i hi => eSrc_same m c i hi (h' i))
    (fun i hi => by show eSrc m c i j = _; unfold eSrc; exact ph_le (by omega) _ _)
    (fun i hi => by
      have := (src_ge c i).2
      show eSrc m c i (j + 1) = _; unfold eSrc; rw [ph_gt (by omega), ph_le (by omega)])

/-! ## The steps -/

section Steps

variable {α : Type}

set_option maxHeartbeats 800000

theorem step_signal (c : Dev nD) (o : Fin 16) (d : Dev nD) (hd : d = tgt c o) {k : PUnit → Prog (TpuEff nD τ sig (Elt F) Λ₀ .tc) α}
    {Q : α → sProp 𝕄} {E : sProp 𝕄} (h : iprop(St m K c (o.val + 1) ∗ E) ⊢ WP c (k ⟨⟩) Q) :
    iprop(St m K c o.val ∗ E) ⊢ WP c (.op (.semSignal (d : Thread nD τ) barS (1#32 : BitVec 32).toInt) k) Q := by
  subst hd
  have ho := o.isLt
  obtain ⟨R, e1, e2⟩ := fam (fun o j => eSig (F := F) c o j) o o.val (fun o' h' => ph_same (fun h => h' (Fin.ext h)) _ _)
  have e3 : eSig (F := F) c o o.val = iprop(dutyTok ER (barCell (tgt c o)) 0 o ∗ barPay (tgt c o) o) := ph_le (le_refl _) _ _
  unfold St fSig owesP
  rw [e1, e3, eBar_same c (j := o.val) (by omega), fSnd_same m c (j := o.val) (fun i => by have := (send_ge c i).1; omega) (.inl (by omega)),
    fRcv_same m c (j := o.val) (fun i => by have := (recv_ge i).1; omega),
    fDst_same c (j := o.val) (fun i => by have := (dst_ge c i).1; omega) (fun i => by have := (send_ge c i).1; omega),
    fSrc_same m c (j := o.val) (fun i => by have := (src_ge c i).1; omega) (fun i => by have := (send_ge c i).1; omega),
    eOwn_same m c (j := o.val) (by have := own_ge c; omega) (by omega)]
  iintro ⟨⟨#Hrec, #Hlev, ⟨%W, HO⟩, ⟨⟨Ht, Hp⟩, HR⟩, Hbar, Hrest⟩, HE⟩
  ihave #Hr := (rec_bar m K (tgt c o)) $$ Hrec
  icases Hr with ⟨#Hinv, #Hrch⟩
  iapply (Rounds.wp_signal 𝒱₀ ER (kRd m) (c : Thread nD τ) none (dst := (tgt c o : Thread nD τ)) (κ := K (tgt c o, kB))
      (d := o) (by rw [duties_bar]; exact Finset.mem_univ _) ((amount_bar m (tgt c o) o).trans (by decide)) () (owed c (o.val + 1)) (owed_signal c o))
    $$ [HO Ht Hp]
  · isplitr; · iexact Hinv
    isplitl [HO]; · iexact HO
    isplitl [Ht]; · iexact Ht
    isplitl [Hp]; · rw [payload_bar]; iexact Hp
    iexact Hrch
  iintro HO
  iapply h
  unfold St fSig owesP
  rw [e2, show eSig (F := F) c o (o.val + 1) = iprop(emp) from ph_gt (Nat.lt_succ_self _) _ _]
  isplitr [HE]
  · isplitr; · iexact Hrec
    isplitr; · iexact Hlev
    isplitl [HO]; · iexists W; iexact HO
    isplitl [HR]; · isplitr; · iempintro
                    iexact HR
    isplitl [Hbar]; · iexact Hbar
    iexact Hrest
  iexact HE

end Steps

end Cert.Proof
-- ==== Proof.Cuts.lean ====
/-
How ranges of rows are cut into the blocks that are moved separately, and which steps grant what.

`Cut p lo a n` says that the blocks of sixteen rows starting at `lo i`, for the transfers `i` with `p i`, are exactly the
rows `a` to `a + n`.
-/
module

public import proofs.«01_k».proof.Proof.Places

@[expose] public section

noncomputable section

namespace Cert.Proof

open Idealize.ShloMosaic Idealize.SL.Sem Cert.KernelIdeal

namespace Pl

/-- The blocks `lo i` of the transfers with `p i` are the rows `a` to `a + n`. -/
def Cut (p : Fin 48 → Prop) (lo : Fin 48 → ℕ) (a n : ℕ) : Prop :=
  (a % 16 = 0 ∧ n % 16 = 0) ∧ (∀ i, p i → lo i % 16 = 0) ∧ (∀ i, p i → ∀ i', p i' → lo i = lo i' → i = i')
    ∧ ∀ b : Fin 32, (a ≤ 16 * b.val ∧ 16 * b.val < a + n) ↔ ∃ i, p i ∧ lo i = 16 * b.val

instance (p : Fin 48 → Prop) [DecidablePred p] (lo : Fin 48 → ℕ) (a n : ℕ) : Decidable (Cut p lo a n) := by
  unfold Cut; infer_instance

/-- The block kept of transfer `i` at the end: the device's own for `0`, else what landed. -/
def keptLo (c : Dev nD) (i : Fin 48) : ℕ := if i.val = 0 then own0 c else srcLo (src c i) i

theorem cut_dst21 : ∀ c : Dev nD, Cut (fun i => tDst c i = 21) (dstLo c) (col0 c) 128 := by decide +kernel
theorem cut_dst38 : ∀ c : Dev nD, Cut (fun i => tDst c i = 38) (dstLo c) (col0 c + 128) 128 := by decide +kernel
theorem cut_src22 : ∀ c : Dev nD, Cut (fun i => tSrc c i = 22 ∨ (i = 31 ∧ tOwn c = 22)) (srcLo c) (col0 c) 128 := by decide +kernel
theorem cut_src39 : ∀ c : Dev nD, Cut (fun i => tSrc c i = 39 ∨ (i = 31 ∧ tOwn c = 39)) (srcLo c) (col0 c + 128) 128 := by decide +kernel
theorem cut_stage : ∀ c : Dev nD, Cut (fun i => 1 ≤ i.val ∧ i.val ≤ 15) (dstLo c) 256 240 := by decide +kernel
theorem cut_all : ∀ c : Dev nD, Cut (fun i => i.val = 0 ∨ (16 ≤ i.val ∧ i.val ≤ 46)) (keptLo c) 0 512 := by decide +kernel

theorem recv_dst_a : ∀ (c : Dev nD) (i i' : Fin 48), 1 ≤ i.val → i.val ≤ 15 → (tDst c i' = tRecv i ↔ i'.val = 31 - i.val) := by decide +kernel
theorem recv_dst_b : ∀ (c : Dev nD) (i i' : Fin 48), 16 ≤ i.val → i.val ≤ 46 → tDst c i' ≠ tRecv i := by decide +kernel
theorem recv_src_a : ∀ (c : Dev nD) (i i' : Fin 48), i.val ≤ 15 ∨ 31 ≤ i.val → tSrc c i' ≠ tRecv i := by decide +kernel
theorem recv_src_b : ∀ (c : Dev nD) (i i' : Fin 48), 16 ≤ i.val → i.val ≤ 30 → (tSrc c i' = tRecv i ↔ i'.val = i.val + 16) := by decide +kernel
theorem recv_eq : tRecv 0 = 21 ∧ tRecv 47 = 38 := by decide
theorem grant_no : ∀ (c : Dev nD) (i : Fin 48), ∀ j ∈ [17, 19, 22, 39, 70], tSend c i ≠ j ∧ tRecv i ≠ j ∧ tDst c i ≠ j := by decide +kernel
theorem skip_no : ∀ (c : Dev nD) (o i : Fin 48), 1 ≤ o.val → o.val ≤ 15 → ∀ j ∈ [22 + o.val, 39 + o.val],
    tRecv i ≠ j ∧ tDst c i ≠ j ∧ tSrc c i ≠ j ∧ tOwn c ≠ j ∧ 18 ≤ j ∧ j < 60 ∧ (tSend c o ≠ j → tSend c i ≠ j) := by decide +kernel
theorem src_17 : ∀ (c : Dev nD) (i : Fin 48), tSrc c i = 17 ↔ i = 0 := by decide +kernel
theorem src_19 : ∀ (c : Dev nD) (i : Fin 48), tSrc c i = 19 ↔ i = 47 := by decide +kernel
theorem src_70 : ∀ (c : Dev nD) (i : Fin 48), tSrc c i = 70 ↔ (16 ≤ i.val ∧ i.val ≤ 31) := by decide +kernel
theorem dst_16 : ∀ (c : Dev nD) (i : Fin 48), tDst c i = 16 ↔ (i.val ≤ 15 ∨ i = 47) := by decide +kernel
theorem dst_tgt : ∀ (c : Dev nD) (o : Fin 16), dst (tgt c o) (o.castLE (by decide)) = c := by decide +kernel
theorem dst_tgt47 : ∀ c : Dev nD, dst (tgt c 0) 47 = c := by decide +kernel
theorem up_mid : ∀ (c : Dev nD) (i : Fin 48), 1 ≤ i.val → i.val ≤ 15 → up (dst c i) i.val = c ∧ own0 (dst c i) = srcLo c i
    ∧ srcLo (src c i) i = own0 c ∧ src c i = dst c ⟨31 - i.val, by omega⟩ ∧ dstLo c ⟨31 - i.val, by omega⟩ = own0 c := by decide +kernel
theorem fwd_src : ∀ (c : Dev nD) (i : Fin 48), 16 ≤ i.val → (h : i.val ≤ 30) → srcLo c ⟨i.val + 16, by omega⟩ = srcLo (src c i) i := by decide +kernel
theorem dst_half : ∀ (c : Dev nD) (i : Fin 48), 31 ≤ i.val → dst c i = partner c := by
  intro c i h; unfold dst; rw [if_pos (.inr h)]

end Pl
end Cert.Proof
-- ==== Proof.Sends.lean ====
/-
The rules for starting a transfer, skipping one, and confirming its start.
-/
module

public import proofs.«01_k».proof.Proof.State
public import proofs.«01_k».proof.Proof.Cuts

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

local notation "𝕄" => MT nD τ sig Unit (Elt F) ℕ UU ℕ

variable (m : (ℓ : Loc nD τ sig) → Buf (Elt F) ℓ) (K : Dev nD × Fin 97 → ℕ)

/-! ## A piece as a rule's view -/

abbrev rSl (off : Fin 2 → ℕ) (n : ℕ) (inb : ∀ a, off a + (![n, 512] : Fin 2 → ℕ) a ≤ S512x512.size a) : Memref sig .tc .vmem ⟨2, ![n, 512]⟩ .bf16 :=
  (rM : Memref sig .tc .vmem S512x512 .bf16).slice (Rect.unit (s := S512x512) off ![n, 512] inb) (fun _ => rfl)
abbrev gSl (off : Fin 2 → ℕ) (n : ℕ) (inb : ∀ a, off a + (![n, 512] : Fin 2 → ℕ) a ≤ S496x512.size a) : Memref sig .tc .vmem ⟨2, ![n, 512]⟩ .bf16 :=
  (gM : Memref sig .tc .vmem S496x512 .bf16).slice (Rect.unit (s := S496x512) off ![n, 512] inb) (fun _ => rfl)

theorem rP_view (c : Dev nD) {off : Fin 2 → ℕ} {n lo : ℕ} (h : off = ![lo, 0]) (inb : ∀ a, off a + (![n, 512] : Fin 2 → ℕ) a ≤ S512x512.size a)
    (q : PosShare TreeShare) (f : RBuf F) :
    rP c lo n q f = ((rSl off n inb).view.loc (c : Thread nD τ) ↦[(rSl off n inb).view.set]{q} f : sProp 𝕄) := by
  unfold rP; rw [show (rSl off n inb).view.set = rowsR lo n from set_rM h inb]
theorem sP_view (c : Dev nD) {off : Fin 2 → ℕ} {n lo : ℕ} (h : off = ![lo, 0]) (inb : ∀ a, off a + (![n, 512] : Fin 2 → ℕ) a ≤ S496x512.size a)
    (q : PosShare TreeShare) (f : GBuf F) :
    sP c lo n q f = ((gSl off n inb).view.loc (c : Thread nD τ) ↦[(gSl off n inb).view.set]{q} f : sProp 𝕄) := by
  unfold sP; rw [show (gSl off n inb).view.set = rowsG lo n from set_gM h inb]

/-! ## What lands is what the schedule says -/

theorem land_xrs (c : Dev nD) (i : Fin 48) (hi : i.val = 0 ∨ i.val = 47) (x : S496x512.Idx)
    (h1 : dstLo c i ≤ (x 0).val) (h2 : (x 0).val < dstLo c i + nRows i) :
    Sfin m (dst c i) x = srcF m c i (ixR (srcLo c i + ((x 0).val - dstLo c i)) (x 1)) := by
  have e1 : dst c i = partner c := by unfold dst; rw [if_pos (by omega)]
  obtain ⟨-, -, -, e3, e4⟩ := partner_xh c
  have e5 : srcF m c i = Afin m c := if_pos hi
  have e6 : dstLo c i = (if i.val = 0 then 0 else 128) ∧ srcLo c i = send0 c + dstLo c i ∧ nRows i = 128 := by
    rcases hi with hi | hi <;> simp [dstLo, srcLo, nRows, hi]
  obtain ⟨e6, e7, e8⟩ := e6
  rw [e1, e5]
  unfold Sfin
  rw [if_pos (by rw [e8, e6] at h2; split at h2 <;> omega)]
  unfold Xfin
  rw [e4, e3, e7]
  congr 2; omega

theorem land_mid (c : Dev nD) (i : Fin 48) (hi : 1 ≤ i.val ∧ i.val ≤ 15) (x : S496x512.Idx)
    (h1 : dstLo c i ≤ (x 0).val) (h2 : (x 0).val < dstLo c i + nRows i) :
    Sfin m (dst c i) x = srcF m c i (ixR (srcLo c i + ((x 0).val - dstLo c i)) (x 1)) := by
  obtain ⟨e1, e2, -⟩ := up_mid c i hi.1 hi.2
  have e5 : srcF m c i = Bfin m c := (if_neg (by omega)).trans (if_pos hi.2)
  have e6 : dstLo c i = 256 + 16 * (i.val - 1) ∧ nRows i = 16 := by
    constructor
    · unfold dstLo; rw [if_neg (by omega), if_neg (by omega), if_pos hi.2]
    · unfold nRows; rw [if_neg (by omega)]
  obtain ⟨e6, e8⟩ := e6
  rw [e5]
  unfold Sfin
  rw [if_neg (by omega), show ((x 0).val - 256) / 16 + 1 = i.val by omega, e1, e2]
  congr 2; omega

theorem land_stage (c : Dev nD) (i : Fin 48) (hi : toStage i = true) (x : S496x512.Idx)
    (h1 : dstLo c i ≤ (x 0).val) (h2 : (x 0).val < dstLo c i + nRows i) :
    Sfin m (dst c i) x = srcF m c i (ixR (srcLo c i + ((x 0).val - dstLo c i)) (x 1)) := by
  have hi' := of_decide_eq_true hi
  by_cases h : 1 ≤ i.val ∧ i.val ≤ 15
  · exact land_mid m c i h x h1 h2
  · exact land_xrs m c i (by omega) x h1 h2

theorem not_stage {i : Fin 48} (hi : toStage i = false) : 16 ≤ i.val ∧ i.val ≤ 46 := by
  have := of_decide_eq_false hi; have := i.isLt; omega

theorem red_same (c : Dev nD) {i : Fin 48} (hi : toStage i = false) : dstLo c i = srcLo c i ∧ srcF m c i = Cfin m := by
  obtain ⟨h1, h2⟩ := not_stage hi
  constructor
  · unfold dstLo; rw [if_neg (by omega), if_neg (by omega), if_neg (by omega)]
  · unfold srcF; rw [if_neg (by omega), if_neg (by omega)]

/-! ## Starting a transfer -/

section Steps

variable {α : Type}

/-- The state around the start of transfer `i`. -/
theorem St_send (c : Dev nD) (i : Fin 48) : ∃ R : sProp 𝕄,
    (St m K c (tSend c i) ⊢ iprop(records m K ∗ R ∗ (∃ W, owes (c : Thread nD τ) (owed c (tSend c i)) W)
      ∗ (dutyTok ER (recvCell (dst c i) i) 0 0 ∗ dutyTok ER (sendCell c i) 0 0 ∗ atPos ER (sendCell c i) 0 ∅ 0) ∗ dstP c i ∗ srcP m c i))
    ∧ (iprop(records m K ∗ R ∗ (∃ W, owes (c : Thread nD τ) (owed c (tSend c i + 1)) W) ∗ (atPos ER (sendCell c i) 0 ∅ 0 ∗ cred (tallyAt (sendCell c i) () (nAmt i))))
      ⊢ St m K c (tSend c i + 1)) := by
  obtain ⟨h18, h116, h70⟩ := send_ge c i
  have hb := (back_ge i).1
  obtain ⟨R1, e1, e1'⟩ := fam (fun i j => eSnd m c i j) i (tSend c i)
    (fun i' h' => eSnd_same m c i' (fun h => h' (tSend_inj c i i' h)) (by have := (back_ge i').1; omega))
  obtain ⟨R2, e2, e2'⟩ := fam (fun i j => eDst (F := F) c i j) i (tSend c i)
    (fun i' h' => eDst_same c i' (send_dst c i i').symm (fun h => h' (tSend_inj c i i' h)))
  obtain ⟨R3, e3, e3'⟩ := fam (fun i j => eSrc m c i j) i (tSend c i)
    (fun i' h' => eSrc_same m c i' (send_src c i i').symm (fun h => h' (tSend_inj c i i' h)))
  have f1 : eSnd m c i (tSend c i) = iprop(dutyTok ER (recvCell (dst c i) i) 0 0 ∗ dutyTok ER (sendCell c i) 0 0 ∗ atPos ER (sendCell c i) 0 ∅ 0) :=
    ph_le (le_refl _) _ _
  have f1' : eSnd m c i (tSend c i + 1) = iprop(atPos ER (sendCell c i) 0 ∅ 0 ∗ cred (tallyAt (sendCell c i) () (nAmt i))) := by
    unfold eSnd; rw [ph_gt (Nat.lt_succ_self _), ph_le (by omega)]
  have hd := (dst_ge c i).2
  have hs := (src_ge c i).2
  have f2 : eDst (F := F) c i (tSend c i) = dstP c i := by unfold eDst; rw [ph_gt hd, ph_le (le_refl _)]
  have f2' : eDst (F := F) c i (tSend c i + 1) = iprop(emp) := by unfold eDst; rw [ph_gt (by omega), ph_gt (by omega)]
  have f3 : eSrc m c i (tSend c i) = srcP m c i := by unfold eSrc; rw [ph_gt hs, ph_le (le_refl _)]
  have f3' : eSrc m c i (tSend c i + 1) = iprop(emp) := by unfold eSrc; rw [ph_gt (by omega), ph_gt (by omega)]
  refine ⟨iprop(levAts L lv ∗ fSig c (tSend c i + 1) ∗ eBar c (tSend c i + 1) ∗ R1 ∗ fRcv m c (tSend c i + 1) ∗ R2 ∗ R3 ∗ eOwn m c (tSend c i + 1)), ?_, ?_⟩
  · unfold St owesP
    rw [fSig_same c (j := tSend c i) (by omega), eBar_same c (j := tSend c i) (by omega), fRcv_same m c (fun i' => (send_recv c i i').symm),
      eOwn_same m c (j := tSend c i) (send_own c i).symm h70.symm]
    unfold fSnd fDst fSrc
    rw [e1, e2, e3, f1, f2, f3]
    iintro ⟨Hrec, Hlev, HO, Hsig, Hbar, ⟨Hi, H1⟩, Hrcv, ⟨Hd, H2⟩, ⟨Hs, H3⟩, Hown⟩
    isplitl [Hrec]; · iexact Hrec
    isplitl [Hlev Hsig Hbar H1 Hrcv H2 H3 Hown]
    · isplitl [Hlev]; · iexact Hlev
      isplitl [Hsig]; · iexact Hsig
      isplitl [Hbar]; · iexact Hbar
      isplitl [H1]; · iexact H1
      isplitl [Hrcv]; · iexact Hrcv
      isplitl [H2]; · iexact H2
      isplitl [H3]; · iexact H3
      iexact Hown
    isplitl [HO]; · iexact HO
    isplitl [Hi]; · iexact Hi
    isplitl [Hd]; · iexact Hd
    iexact Hs
  · unfold St owesP fSnd fDst fSrc
    rw [e1', e2', e3', f1', f2', f3']
    iintro ⟨Hrec, ⟨Hlev, Hsig, Hbar, H1, Hrcv, H2, H3, Hown⟩, HO, Hi⟩
    isplitl [Hrec]; · iexact Hrec
    isplitl [Hlev]; · iexact Hlev
    isplitl [HO]; · iexact HO
    isplitl [Hsig]; · iexact Hsig
    isplitl [Hbar]; · iexact Hbar
    isplitl [Hi H1]
    · isplitl [Hi]; · iexact Hi
      iexact H1
    isplitl [Hrcv]; · iexact Hrcv
    isplitl [H2]
    · isplitr; · iempintro
      iexact H2
    isplitl [H3]
    · isplitr; · iempintro
      iexact H3
    iexact Hown

/-- Starting a transfer into the staging buffer: the rows sent come back to the device they land at. -/
theorem step_sendG (c : Dev nD) (i : Fin 48) (hi : toStage i = true) (n : ℕ) (hn : nRows i = n) (j : ℕ) (hj : tSend c i = j) {off off' : Fin 2 → ℕ}
    (hoff : off = ![srcLo c i, 0]) (hoff' : off' = ![dstLo c i, 0])
    (inb : ∀ a, off a + (![n, 512] : Fin 2 → ℕ) a ≤ S512x512.size a) (inb' : ∀ a, off' a + (![n, 512] : Fin 2 → ℕ) a ≤ S496x512.size a)
    (d : Dev nD) (hd : d = dst c i) (sS rS : DmaSem sig) (hsS : sS = sendS i) (hrS : rS = recvS i)
    {hsc : (gSl off' n inb' : Memref sig (Dev.tc d : Thread nD τ).2.kind .vmem ⟨2, ![n, 512]⟩ .bf16).view.ref.isScScratch = false}
    {hsrc : (rSl off n inb).view.WordExact} {hdst : (gSl off' n inb').view.WordExact}
    {hsem : DmaTarget.Typed .vmem (.dma rS) (.remote (Dev.tc d : Thread nD τ) (gSl off' n inb') (.dma sS) hsc)}
    {k : PUnit → Prog (TpuEff nD τ sig (Elt F) Λ₀ .tc) α} {Q : α → sProp 𝕄} {E : sProp 𝕄}
    (h : iprop(St m K c (j + 1) ∗ E) ⊢ WP c (k ⟨⟩) Q) :
    iprop(St m K c j ∗ E) ⊢ WP c (.op (.enqueueDma (rSl off n inb) (.remote (Dev.tc d : Thread nD τ) (gSl off' n inb') (.dma sS) hsc) (.dma rS) hsrc hdst hsem) k) Q := by
  subst hd hsS hrS hj hn
  obtain ⟨R, hpre, hpost⟩ := St_send m K c i
  have hD : dstP (F := F) c i = iprop(∃ f, sP (dst c i) (dstLo c i) (nRows i) fullShare f) := if_pos hi
  have hQ : srcQ i = fullShare := if_pos hi
  iintro ⟨HSt, HE⟩
  ihave HSt := hpre $$ HSt
  rw [hD]; unfold srcP; rw [hQ]
  icases HSt with ⟨#Hrec, HR, ⟨%W, HO⟩, ⟨Ht2, Ht1, Hat⟩, ⟨%fd, Hd⟩, Hs⟩
  ihave #Hr1 := (rec_send m K c i) $$ Hrec
  icases Hr1 with ⟨#Hi1, #Hrc1⟩
  ihave #Hr2 := (rec_recv m K (dst c i) i) $$ Hrec
  icases Hr2 with ⟨#Hi2, #Hrc2⟩
  ihave Hs := (Entails.of_eq (rP_view c hoff inb _ _)) $$ Hs
  ihave Hd := (Entails.of_eq (sP_view (dst c i) hoff' inb' _ _)) $$ Hd
  iapply (Rounds.wp_send_landing_pointsTo 𝒱₀ ER (kRd m) (c : Thread nD τ) none (κ₁ := K (c, kS i)) (κ₂ := K (dst c i, kR i))
    (c' := (dst c i : Thread nD τ)) (src := rSl off (nRows i) inb) (dst := gSl off' (nRows i) inb')
    (r₁ := 0) (r₂ := 0) (d₁ := 0) (d₂ := 0) (fd := fd) (fs := srcF m c i) (q := fullShare)
    (by rw [duties_send]; exact Finset.mem_singleton_self _) (by rw [duties_recv]; exact Finset.mem_singleton_self _)
    () () (nAmt i) rfl (amount_send m c i 0) (amount_recv m (dst c i) i 0) (owed c (tSend c i + 1)) (owed_send c i) (W := W)
    (by rw [payload_send]; unfold sendPay; rw [if_pos hi])
    (by
      rw [payload_recv]
      unfold recvPay landP backP
      rw [if_pos hi, if_pos hi, src_dst, sP_view (dst c i) hoff' inb']
      refine BIClass.sep_mono ?_ ?_
      · refine Entails.of_eq (pointsTo_congr ?_)
        exact landG hoff hoff' inb inb' fd (srcF m c i) (Sfin m (dst c i)) (land_stage m c i hi)
      · rw [← rP_view c hoff inb]
        iintro H; iexists _; iexact H)) $$ [HO Ht1 Ht2 Hd Hs]
  · isplitr; · iexact Hi1
    isplitr; · iexact Hi2
    isplitl [Hs]; · iexact Hs
    isplitl [Hd]; · iexact Hd
    isplitl [HO]; · iexact HO
    isplitl [Ht1]; · iexact Ht1
    isplitr; · iexact Hrc1
    isplitl [Ht2]; · iexact Ht2
    iexact Hrc2
  iintro ⟨Hc, HO⟩
  iapply h
  isplitr [HE]
  · iapply hpost
    isplitr; · iexact Hrec
    isplitl [HR]; · iexact HR
    isplitl [HO]; · iexists W; iexact HO
    isplitl [Hat]; · iexact Hat
    iexact Hc
  iexact HE

/-- Starting a transfer between the buffers of results: the share lent comes back when the start is confirmed. -/
theorem step_sendR (c : Dev nD) (i : Fin 48) (hi : toStage i = false) (j : ℕ) (hj : tSend c i = j) {off off' : Fin 2 → ℕ}
    (hoff : off = ![srcLo c i, 0]) (hoff' : off' = ![srcLo c i, 0])
    (inb : ∀ a, off a + (![16, 512] : Fin 2 → ℕ) a ≤ S512x512.size a) (inb' : ∀ a, off' a + (![16, 512] : Fin 2 → ℕ) a ≤ S512x512.size a)
    (d : Dev nD) (hd : d = dst c i) (sS rS : DmaSem sig) (hsS : sS = sendS i) (hrS : rS = recvS i)
    {hsc : (rSl off' 16 inb' : Memref sig (Dev.tc d : Thread nD τ).2.kind .vmem ⟨2, ![16, 512]⟩ .bf16).view.ref.isScScratch = false}
    {hsrc : (rSl off 16 inb).view.WordExact} {hdst : (rSl off' 16 inb').view.WordExact}
    {hsem : DmaTarget.Typed .vmem (.dma rS) (.remote (Dev.tc d : Thread nD τ) (rSl off' 16 inb') (.dma sS) hsc)}
    {k : PUnit → Prog (TpuEff nD τ sig (Elt F) Λ₀ .tc) α} {Q : α → sProp 𝕄} {E : sProp 𝕄}
    (h : iprop(St m K c (j + 1) ∗ E) ⊢ WP c (k ⟨⟩) Q) :
    iprop(St m K c j ∗ E) ⊢ WP c (.op (.enqueueDma (rSl off 16 inb) (.remote (Dev.tc d : Thread nD τ) (rSl off' 16 inb') (.dma sS) hsc) (.dma rS) hsrc hdst hsem) k) Q := by
  subst hd hsS hrS hj
  obtain ⟨R, hpre, hpost⟩ := St_send m K c i
  obtain ⟨hlo, hF⟩ := red_same m c hi
  have hn : nRows i = 16 := if_neg (by have := not_stage hi; omega)
  have hst : ¬ toStage i = true := by rw [hi]; exact Bool.false_ne_true
  have hD : dstP (F := F) c i = iprop(∃ f, rP (dst c i) (srcLo c i) 16 fullShare f) := by
    unfold dstP; rw [if_neg hst, hlo, hn]
  have hS : srcP m c i = rP c (srcLo c i) 16 (srcQ i) (Cfin m) := by unfold srcP; rw [hF, hn]
  iintro ⟨HSt, HE⟩
  ihave HSt := hpre $$ HSt
  rw [hD, hS]
  icases HSt with ⟨#Hrec, HR, ⟨%W, HO⟩, ⟨Ht2, Ht1, Hat⟩, ⟨%fd, Hd⟩, Hs⟩
  ihave #Hr1 := (rec_send m K c i) $$ Hrec
  icases Hr1 with ⟨#Hi1, #Hrc1⟩
  ihave #Hr2 := (rec_recv m K (dst c i) i) $$ Hrec
  icases Hr2 with ⟨#Hi2, #Hrc2⟩
  ihave Hs := (Entails.of_eq (rP_view c hoff inb _ _)) $$ Hs
  ihave Hd := (Entails.of_eq (rP_view (dst c i) hoff' inb' _ _)) $$ Hd
  iapply (Rounds.wp_send_pointsTo 𝒱₀ ER (kRd m) (c : Thread nD τ) none (κ₁ := K (c, kS i)) (κ₂ := K (dst c i, kR i))
    (c' := (dst c i : Thread nD τ)) (src := rSl off 16 inb) (dst := rSl off' 16 inb')
    (r₁ := 0) (r₂ := 0) (d₁ := 0) (d₂ := 0) (fd := fd) (fs := Cfin m) (q := srcQ i)
    (by rw [duties_send]; exact Finset.mem_singleton_self _) (by rw [duties_recv]; exact Finset.mem_singleton_self _)
    () () (nAmt i) (by unfold nAmt; rw [hn]; rfl) (amount_send m c i 0) (amount_recv m (dst c i) i 0) (owed c (tSend c i + 1)) (owed_send c i) (W := W)
    (by rw [payload_send]; unfold sendPay; rw [if_neg hst, hS, rP_view c hoff inb])
    (by
      rw [payload_recv]
      unfold recvPay landP backP
      rw [if_neg hst, if_neg hst, src_dst, hlo, hn, rP_view (dst c i) hoff' inb',
        pointsTo_congr (landR hoff hoff' inb inb' fd (Cfin m) (Cfin m) (fun x h1 h2 => congrArg (Cfin m) (ixR_eq x _ _ (by omega) rfl).symm))]
      iintro H; isplitl [H]; · iexact H
      iempintro)) $$ [HO Ht1 Ht2 Hd Hs]
  · isplitr; · iexact Hi1
    isplitr; · iexact Hi2
    isplitl [Hs]; · iexact Hs
    isplitl [Hd]; · iexact Hd
    isplitl [HO]; · iexact HO
    isplitl [Ht1]; · iexact Ht1
    isplitr; · iexact Hrc1
    isplitl [Ht2]; · iexact Ht2
    iexact Hrc2
  iintro ⟨Hc, HO⟩
  iapply h
  isplitr [HE]
  · iapply hpost
    isplitr; · iexact Hrec
    isplitl [HR]; · iexact HR
    isplitl [HO]; · iexists W; iexact HO
    isplitl [Hat]; · iexact Hat
    iexact Hc
  iexact HE

/-- A step at which nothing happens: a transfer not started there. -/
theorem St_skip (c : Dev nD) (o : Fin 48) (h1 : 1 ≤ o.val) (h2 : o.val ≤ 15) (j : ℕ) (hj : j = 22 + o.val ∨ j = 39 + o.val) (ho : tSend c o ≠ j) :
    St m K c j = St m K c (j + 1) := by
  have hs := fun i => skip_no c o i h1 h2 j (by simp; exact hj)
  have h0 := hs 0
  unfold St
  rw [owesP_same c (by omega) (fun i => (hs i).2.2.2.2.2.2 ho), fSig_same c (by omega), eBar_same c (by omega),
    fSnd_same m c (fun i => (hs i).2.2.2.2.2.2 ho) (.inl (by omega)), fRcv_same m c (fun i => (hs i).1),
    fDst_same c (fun i => (hs i).2.1) (fun i => (hs i).2.2.2.2.2.2 ho), fSrc_same m c (fun i => (hs i).2.2.1) (fun i => (hs i).2.2.2.2.2.2 ho),
    eOwn_same m c h0.2.2.2.1 (by omega)]

/-- Confirming the start of transfer `i`. -/
theorem step_back (c : Dev nD) (i : Fin 48) (n : ℕ) (hn : nRows i = n) (j : ℕ) (hj : tBack i = j) (sS : DmaSem sig) (hsS : sS = sendS i)
    {s' : Shape} {e' : EltTy} {sp sp' : Space} {κ' : Kind} {src : Memref sig .tc sp' s' e'} {dst : Memref sig κ' sp ⟨2, ![n, 512]⟩ .bf16}
    {hsrc : src.view.WordExact} {hdst : dst.view.WordExact} (hcr : dst.view.dmaCredit = crd n)
    {k : PUnit → Prog (TpuEff nD τ sig (Elt F) Λ₀ .tc) α} {Q : α → sProp 𝕄} {E : sProp 𝕄}
    (h : iprop(St m K c (j + 1) ∗ E) ⊢ WP c (k ⟨⟩) Q) :
    iprop(St m K c j ∗ E) ⊢ WP c (.op (.waitDma2 sS src dst hsrc hdst) k) Q := by
  subst hsS hj hn
  have hb := (back_ge i).1
  have hs : ∀ i', tSend c i' ≠ tBack i := fun i' => by have := (send_ge c i').2.1; omega
  obtain ⟨R, e1, e2⟩ := fam (fun i j => eSnd m c i j) i (tBack i) (fun i' h' => eSnd_same m c i' (hs i') (fun h => h' (tBack_inj i i' h)))
  have hi := (send_ge c i).2.1
  have f1 : eSnd m c i (tBack i) = iprop(atPos ER (sendCell c i) 0 ∅ 0 ∗ cred (tallyAt (sendCell c i) () (nAmt i))) := by
    unfold eSnd; rw [ph_gt (by omega), ph_le (le_refl _)]
  have f1' : eSnd m c i (tBack i + 1) = iprop(semVal (sendCell c i) 0 ∗ sendPay m c i) := by
    unfold eSnd; rw [ph_gt (by omega), ph_gt (Nat.lt_succ_self _)]
  unfold St owesP fSnd
  rw [e1, f1, fSig_same c (j := tBack i) (by omega), eBar_same c (j := tBack i) (by omega), fRcv_same m c (j := tBack i) (fun i' => by have := (recv_ge i').2; omega),
    fDst_same c (j := tBack i) (fun i' => by have := (dst_ge c i').2; have := (send_ge c i').2.1; omega) hs,
    fSrc_same m c (j := tBack i) (fun i' => by have := (src_ge c i').2; have := (send_ge c i').2.1; omega) hs,
    eOwn_same m c (j := tBack i) (by have := own_ge c; omega) (by omega), owed_end c (tBack i) (by omega)]
  iintro ⟨⟨#Hrec, #Hlev, ⟨%W, HO⟩, Hsig, Hbar, ⟨⟨Hat, Hc⟩, HR⟩, Hrest⟩, HE⟩
  ihave #Hr1 := (rec_send m K c i) $$ Hrec
  icases Hr1 with ⟨#Hi1, #Hrc1⟩
  iapply (Rounds.wp_wait_rest_token 𝒱₀ ER (kRd m) (c : Thread nD τ) none (κ := K (c, kS i))
      (wpE_waitDma2_eq 𝒱₀ (c : Thread nD τ) none Set.univ) (Set.mem_univ _) () (O := 0) (W := W) (R := 0) (m := 0) (T := ∅)
      (by rw [Nat.zero_add, expect_send, hcr]; rfl)) $$ [Hc HO Hat]
  · isplitr; · iexact Hi1
    isplitl [Hc]; · rw [hcr]; iexact Hc
    isplitl [HO]; · iexact HO
    isplitr; · rw [MayWait_zero]; iempintro
    iexact Hat
  iintro ⟨HO, Hat, -, Hpay⟩
  ihave Hpay := (Entails.of_eq (rest_send m c i)) $$ Hpay
  imod (Rounds.cell_close ER (kRd m) (Set.mem_univ (K (c, kS i))) (fun h => h) (R := 0 + 1) (duties_later m (sendCell c i))) $$ [Hat] with Hz
  · isplitr; · iexact Hi1
    iexact Hat
  iapply h
  unfold St owesP fSnd
  rw [e2, f1', owed_end c (tBack i + 1) (by omega)]
  isplitr [HE]
  · isplitr; · iexact Hrec
    isplitr; · iexact Hlev
    isplitl [HO]; · iexists _; iexact HO
    isplitl [Hsig]; · iexact Hsig
    isplitl [Hbar]; · iexact Hbar
    isplitl [Hz Hpay HR]
    · isplitl [Hz Hpay]
      · isplitl [Hz]; · iexact Hz
        iexact Hpay
      iexact HR
    iexact Hrest
  iexact HE

end Steps

end Cert.Proof
-- ==== Proof.Waits.lean ====
/-
The rules for the waits that bring rows in, and for handing rows of a device's own over to its transfers.
-/
module

public import proofs.«01_k».proof.Proof.Sends

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

local notation "𝕄" => MT nD τ sig Unit (Elt F) ℕ UU ℕ

variable (m : (ℓ : Loc nD τ sig) → Buf (Elt F) ℓ) (K : Dev nD × Fin 97 → ℕ)

/-! ## Cutting rows into blocks -/

theorem cut_rowsR {p : Fin 48 → Prop} [DecidablePred p] {lo : Fin 48 → ℕ} {a n : ℕ} (h : Cut p lo a n) :
    rowsR a n = (Finset.univ.filter p).biUnion fun i => rowsR (lo i) 16 := by
  obtain ⟨⟨ha, hn⟩, h16, -, hb⟩ := h
  ext x
  have hx : (x 0).val < 512 := (x 0).isLt
  rw [mem_rowsR, Finset.mem_biUnion]
  constructor
  · intro hx'
    obtain ⟨i, hi, e⟩ := (hb ⟨(x 0).val / 16, by omega⟩).mp ⟨by show a ≤ 16 * ((x 0).val / 16); omega, by show 16 * ((x 0).val / 16) < a + n; omega⟩
    refine ⟨i, Finset.mem_filter.mpr ⟨Finset.mem_univ i, hi⟩, mem_rowsR.mpr ?_⟩
    have e : lo i = 16 * ((x 0).val / 16) := e
    omega
  · rintro ⟨i, hi, hx'⟩
    have hi := (Finset.mem_filter.mp hi).2
    rw [mem_rowsR] at hx'
    have h2 := h16 i hi
    have := (hb ⟨lo i / 16, by omega⟩).mpr ⟨i, hi, by show lo i = 16 * (lo i / 16); omega⟩
    have h3 : a ≤ 16 * (lo i / 16) ∧ 16 * (lo i / 16) < a + n := this
    omega

theorem cut_rowsG {p : Fin 48 → Prop} [DecidablePred p] {lo : Fin 48 → ℕ} {a n : ℕ} (h : Cut p lo a n) :
    rowsG a n = (Finset.univ.filter p).biUnion fun i => rowsG (lo i) 16 := by
  obtain ⟨⟨ha, hn⟩, h16, -, hb⟩ := h
  ext x
  have hx : (x 0).val < 496 := (x 0).isLt
  rw [mem_rowsG, Finset.mem_biUnion]
  constructor
  · intro hx'
    obtain ⟨i, hi, e⟩ := (hb ⟨(x 0).val / 16, by omega⟩).mp ⟨by show a ≤ 16 * ((x 0).val / 16); omega, by show 16 * ((x 0).val / 16) < a + n; omega⟩
    refine ⟨i, Finset.mem_filter.mpr ⟨Finset.mem_univ i, hi⟩, mem_rowsG.mpr ?_⟩
    have e : lo i = 16 * ((x 0).val / 16) := e
    omega
  · rintro ⟨i, hi, hx'⟩
    have hi := (Finset.mem_filter.mp hi).2
    rw [mem_rowsG] at hx'
    have h2 := h16 i hi
    have := (hb ⟨lo i / 16, by omega⟩).mpr ⟨i, hi, by show lo i = 16 * (lo i / 16); omega⟩
    have h3 : a ≤ 16 * (lo i / 16) ∧ 16 * (lo i / 16) < a + n := this
    omega

theorem rP_cut {p : Fin 48 → Prop} [DecidablePred p] {lo : Fin 48 → ℕ} {a n : ℕ} (h : Cut p lo a n) (c : Dev nD) (q : PosShare TreeShare) (f : RBuf F) :
    rP c a n q f = bigSep (Finset.univ.filter p) fun i => rP c (lo i) 16 q f := by
  unfold rP
  rw [cut_rowsR h, pointsTo_biUnion]
  intro i hi i' hi' hne
  have hi := (Finset.mem_filter.mp hi).2
  have hi' := (Finset.mem_filter.mp hi').2
  obtain ⟨-, h16, hinj, -⟩ := h
  have h1 := h16 i hi
  have h2 := h16 i' hi'
  have h3 : lo i ≠ lo i' := fun e => hne (hinj i hi i' hi' e)
  refine Finset.disjoint_left.mpr fun x hx hx' => ?_
  rw [mem_rowsR] at hx hx'
  omega

theorem sP_cut {p : Fin 48 → Prop} [DecidablePred p] {lo : Fin 48 → ℕ} {a n : ℕ} (h : Cut p lo a n) (c : Dev nD) (q : PosShare TreeShare) (f : GBuf F) :
    sP c a n q f = bigSep (Finset.univ.filter p) fun i => sP c (lo i) 16 q f := by
  unfold sP
  rw [cut_rowsG h, pointsTo_biUnion]
  intro i hi i' hi' hne
  have hi := (Finset.mem_filter.mp hi).2
  have hi' := (Finset.mem_filter.mp hi').2
  obtain ⟨-, h16, hinj, -⟩ := h
  have h1 := h16 i hi
  have h2 := h16 i' hi'
  have h3 : lo i ≠ lo i' := fun e => hne (hinj i hi i' hi' e)
  refine Finset.disjoint_left.mpr fun x hx hx' => ?_
  rw [mem_rowsG] at hx hx'
  omega

theorem rP_split (c : Dev nD) (a n n' : ℕ) (q : PosShare TreeShare) (f : RBuf F) :
    rP c a (n + n') q f = iprop(rP c a n q f ∗ rP c (a + n) n' q f) := by
  unfold rP
  rw [show rowsR a (n + n') = rowsR a n ∪ rowsR (a + n) n' from by ext x; rw [Finset.mem_union, mem_rowsR, mem_rowsR, mem_rowsR]; omega]
  have hd : Disjoint (rowsR a n) (rowsR (a + n) n') := Finset.disjoint_left.mpr fun x hx hx' => by rw [mem_rowsR] at hx hx'; omega
  exact equiv_iff.mp ⟨(pointsTo_union hd).1, (pointsTo_union hd).2⟩
theorem sP_split (c : Dev nD) (a n n' : ℕ) (q : PosShare TreeShare) (f : GBuf F) :
    sP c a (n + n') q f = iprop(sP c a n q f ∗ sP c (a + n) n' q f) := by
  unfold sP
  rw [show rowsG a (n + n') = rowsG a n ∪ rowsG (a + n) n' from by ext x; rw [Finset.mem_union, mem_rowsG, mem_rowsG, mem_rowsG]; omega]
  have hd : Disjoint (rowsG a n) (rowsG (a + n) n') := Finset.disjoint_left.mpr fun x hx hx' => by rw [mem_rowsG] at hx hx'; omega
  exact equiv_iff.mp ⟨(pointsTo_union hd).1, (pointsTo_union hd).2⟩

theorem rP_congr (c : Dev nD) (a n : ℕ) (q : PosShare TreeShare) (f g : RBuf F) (h : ∀ x : S512x512.Idx, a ≤ (x 0).val → (x 0).val < a + n → f x = g x) :
    rP c a n q f = rP c a n q g := by
  unfold rP; exact pointsTo_congr fun x hx => h x (mem_rowsR.mp hx).1 (mem_rowsR.mp hx).2
theorem sP_congr (c : Dev nD) (a n : ℕ) (q : PosShare TreeShare) (f g : GBuf F) (h : ∀ x : S496x512.Idx, a ≤ (x 0).val → (x 0).val < a + n → f x = g x) :
    sP c a n q f = sP c a n q g := by
  unfold sP; exact pointsTo_congr fun x hx => h x (mem_rowsG.mp hx).1 (mem_rowsG.mp hx).2

theorem filter_none {p : Fin 48 → Prop} [DecidablePred p] (h : ∀ i, ¬ p i) (f : Fin 48 → sProp 𝕄) : bigSep (Finset.univ.filter p) f = iprop(emp) := by
  rw [Finset.filter_false_of_mem (fun i _ => h i)]; exact bigSep_empty
theorem filter_one {p : Fin 48 → Prop} [DecidablePred p] (i : Fin 48) (h : ∀ i', p i' ↔ i' = i) (f : Fin 48 → sProp 𝕄) : bigSep (Finset.univ.filter p) f = f i := by
  rw [show Finset.univ.filter p = {i} from by ext i'; simp [h i']]; exact bigSep_singleton

theorem split_insert {I : Type} [DecidableEq I] {s : Finset I} {i : I} (hi : i ∉ s) (f : I → sProp 𝕄) :
    bigSep (insert i s) f = iprop(f i ∗ bigSep s f) := BI.bigSep_insert hi
theorem mono_sep {I : Type} {s : Finset I} {f g : I → sProp 𝕄} (h : ∀ i ∈ s, f i ⊢ g i) : bigSep s f ⊢ bigSep s g := BI.bigSep_mono h

/-! ## What a wait brings -/

/-- The rows of the other half that come back with the first and last transfers are where the finished blocks go. -/
theorem back_fwd (c : Dev nD) (i : Fin 48) (a : ℕ) (hi : i.val = 0 ∨ i.val = 47) (ha : srcLo (src c i) i = a)
    (hcut : Cut (fun i' => tDst c i' = tRecv i) (dstLo c) a 128) (h21 : tRecv i = 21 ∨ tRecv i = 38) :
    backP (F := F) c i ⊢ bigSep (Finset.univ.filter fun i' => tDst c i' = tRecv i) (dstP c) := by
  have hst : toStage i = true := decide_eq_true (by omega)
  have e1 : src c i = partner c := by
    rcases hi with hi | hi
    · unfold src; rw [if_pos (.inl hi)]
    · unfold src; rw [if_pos (.inr (by omega))]
  unfold backP
  rw [if_pos hst, ha, e1, show nRows i = 128 from if_pos hi]
  iintro ⟨%f, H⟩
  ihave H := (Entails.of_eq (rP_cut hcut (partner c) fullShare f)) $$ H
  iapply (mono_sep (f := fun i' => rP (F := F) (partner c) (dstLo c i') 16 fullShare f) (g := dstP (F := F) c) fun i' hi' => ?_) $$ H
  have h' := (Finset.mem_filter.mp hi').2
  have hlt := i'.isLt
  have h31 : 31 ≤ i'.val ∧ i'.val ≤ 46 := by
    unfold tDst at h'; split at h'
    · omega
    · split at h' <;> omega
  unfold dstP
  rw [if_neg (by rw [show toStage i' = false from decide_eq_false (by omega)]; exact Bool.false_ne_true), dst_half c i' h31.1,
    show nRows i' = 16 from if_neg (by omega)]
  iintro H; iexists f; iexact H

theorem recv_pay (c : Dev nD) (i : Fin 48) :
    recvPay m c i ⊢ iprop(keptP m c i ∗ bigSep (Finset.univ.filter fun i' => tDst c i' = tRecv i) (dstP c)
      ∗ bigSep (Finset.univ.filter fun i' => tSrc c i' = tRecv i) (srcP m c)) := by
  have hlt := i.isLt
  have hx := partner_xh c
  unfold recvPay
  by_cases h0 : i.val = 0 ∨ i.val = 47
  · have hk : keptP m c i = landP m c i := if_neg (by omega)
    rw [hk, filter_none (fun i' => recv_src_a c i i' (by omega))]
    have hb : backP (F := F) c i ⊢ bigSep (Finset.univ.filter fun i' => tDst c i' = tRecv i) (dstP c) := by
      rcases h0 with h0 | h0
      · obtain rfl : i = 0 := Fin.ext h0
        refine back_fwd c 0 (col0 c) (.inl rfl) ?_ (by rw [recv_eq.1]; exact cut_dst21 c) (.inl recv_eq.1)
        exact hx.2.2.1
      · obtain rfl : i = 47 := Fin.ext h0
        refine back_fwd c 47 (col0 c + 128) (.inr rfl) ?_ (by rw [recv_eq.2]; exact cut_dst38 c) (.inr recv_eq.2)
        show send0 (partner c) + 128 = _
        rw [hx.2.2.1]
    iintro ⟨Hl, Hb⟩
    isplitl [Hl]; · iexact Hl
    isplitl [Hb]; · iapply hb; iexact Hb
    iempintro
  by_cases h1 : i.val ≤ 15
  · have hk : keptP m c i = landP m c i := if_neg (by omega)
    obtain ⟨-, -, e3, e4, e5⟩ := up_mid c i (by omega) h1
    rw [hk, filter_none (fun i' => recv_src_a c i i' (by omega)),
      filter_one (⟨31 - i.val, by omega⟩ : Fin 48) (fun i' => (recv_dst_a c i i' (by omega) h1).trans ⟨fun h => Fin.ext h, fun h => congrArg Fin.val h⟩)]
    have hb : backP (F := F) c i = dstP c (⟨31 - i.val, by omega⟩ : Fin 48) := by
      unfold backP dstP
      rw [if_pos (show toStage i = true from decide_eq_true (by omega)), if_neg (by
          rw [show toStage (⟨31 - i.val, by omega⟩ : Fin 48) = false from decide_eq_false (by show ¬ (31 - i.val ≤ 15 ∨ 31 - i.val = 47); omega)]
          exact Bool.false_ne_true), e3, e4, e5, show nRows i = 16 from if_neg (by omega),
        show nRows (⟨31 - i.val, by omega⟩ : Fin 48) = 16 from if_neg (by show ¬ (31 - i.val = 0 ∨ 31 - i.val = 47); omega)]
    rw [hb]
    iintro ⟨Hl, Hb⟩
    isplitl [Hl]; · iexact Hl
    isplitl [Hb]; · iexact Hb
    iempintro
  have hb : backP (F := F) c i = iprop(emp) := if_neg (by
    rw [show toStage i = false from decide_eq_false (by omega)]; exact Bool.false_ne_true)
  rw [hb, filter_none (fun i' => recv_dst_b c i i' (by omega) (by omega))]
  by_cases h2 : i.val ≤ 30
  · have hst : toStage i = false := decide_eq_false (by omega)
    have hst' : toStage (⟨i.val + 16, by omega⟩ : Fin 48) = false := decide_eq_false (by show ¬ (i.val + 16 ≤ 15 ∨ i.val + 16 = 47); omega)
    have hk : keptP m c i = rP c (dstLo (src c i) i) (nRows i) (shD 1) (Cfin m) := if_pos (by omega)
    have hn : nRows i = 16 := if_neg (by omega)
    have hs : srcP m c (⟨i.val + 16, by omega⟩ : Fin 48) = rP c (dstLo (src c i) i) 16 (shT 0) (Cfin m) := by
      unfold srcP
      rw [(red_same m c hst').2, (red_same m (src c i) hst).1, fwd_src c i (by omega) h2,
        show nRows (⟨i.val + 16, by omega⟩ : Fin 48) = 16 from if_neg (by show ¬ (i.val + 16 = 0 ∨ i.val + 16 = 47); omega),
        show srcQ (⟨i.val + 16, by omega⟩ : Fin 48) = shT 0 from by
          unfold srcQ; rw [if_neg (by rw [hst']; exact Bool.false_ne_true), if_neg (by show ¬ i.val + 16 ≤ 30; omega)]]
    rw [filter_one (⟨i.val + 16, by omega⟩ : Fin 48) (fun i' => (recv_src_b c i i' (by omega) h2).trans ⟨fun h => Fin.ext h, fun h => congrArg Fin.val h⟩),
      hk, hs, hn]
    unfold landP
    rw [if_neg (by rw [hst]; exact Bool.false_ne_true), hn]
    have hsp : rP c (dstLo (src c i) i) 16 fullShare (Cfin m)
        ⊢ iprop(rP c (dstLo (src c i) i) 16 (shD 1) (Cfin m) ∗ rP c (dstLo (src c i) i) 16 (shT 0) (Cfin m)) := by
      unfold rP
      exact (pointsTo_share (PosShare.mem_left_op_right fullShare)).1
    iintro ⟨Hl, -⟩
    ihave Hl := hsp $$ Hl
    icases Hl with ⟨H1, H2⟩
    isplitl [H1]; · iexact H1
    isplitr; · iempintro
    iexact H2
  · have hk : keptP m c i = landP m c i := if_neg (by omega)
    rw [hk, filter_none (fun i' => recv_src_a c i i' (by omega))]
    iintro ⟨Hl, -⟩
    isplitl [Hl]; · iexact Hl
    isplitr <;> iempintro

/-- What the entry signals hand over: every place a transfer into a staging buffer may land. -/
theorem bar_pay (c : Dev nD) : bigSep Finset.univ (barPay (F := F) c) ⊢ bigSep (Finset.univ.filter fun i => tDst c i = 16) (dstP c) := by
  have hset : (Finset.univ.filter fun i => tDst c i = 16) = insert (47 : Fin 48) (Finset.univ.map (Fin.castLEEmb (by decide : 16 ≤ 48))) := by
    ext i
    rw [Finset.mem_filter, Finset.mem_insert, Finset.mem_map, dst_16]
    constructor
    · rintro ⟨-, h | h⟩
      · exact .inr ⟨⟨i.val, by omega⟩, Finset.mem_univ _, Fin.ext rfl⟩
      · exact .inl h
    · rintro (h | ⟨o, -, h⟩)
      · exact ⟨Finset.mem_univ _, .inr h⟩
      · refine ⟨Finset.mem_univ _, .inl ?_⟩
        have := o.isLt
        rw [← h]; show o.val ≤ 15; omega
  rw [hset, split_insert (fun h => by
    obtain ⟨o, -, h⟩ := Finset.mem_map.mp h
    have := congrArg Fin.val h
    have h2 : o.val = 47 := this
    have := o.isLt; omega), bigSep_map, bigSep_univ_at (barPay (F := F) c) 0,
    bigSep_univ_at (fun o : Fin 16 => dstP (F := F) c (Fin.castLEEmb (by decide : 16 ≤ 48) o)) 0,
    bigSep_congr (s := Finset.univ.erase (0 : Fin 16)) (Φ := barPay (F := F) c) (Ψ := fun o : Fin 16 => dstP (F := F) c (Fin.castLEEmb (by decide : 16 ≤ 48) o))
      (fun o ho => if_neg (fun h => Finset.ne_of_mem_erase ho (Fin.ext h))),
    show barPay (F := F) c 0 = iprop(dstP c 47 ∗ dstP c (Fin.castLEEmb (by decide : 16 ≤ 48) 0)) from if_pos rfl]
  iintro ⟨⟨H1, H2⟩, H3⟩
  isplitl [H1]; · iexact H1
  isplitl [H2]; · iexact H2
  iexact H3

section Steps

variable {α : Type}

/-- Waiting for transfer `i`. -/
theorem step_recv (c : Dev nD) (i : Fin 48) (n : ℕ) (hn : nRows i = n) (j : ℕ) (hj : tRecv i = j) (rS : DmaSem sig) (hrS : rS = recvS i)
    {s' : Shape} {e' : EltTy} {sp sp' : Space} {κ' : Kind} {src : Memref sig .tc sp' s' e'} {dst : Memref sig κ' sp ⟨2, ![n, 512]⟩ .bf16}
    {hsrc : src.view.WordExact} {hdst : dst.view.WordExact} (hcr : dst.view.dmaCredit = crd n)
    {k : PUnit → Prog (TpuEff nD τ sig (Elt F) Λ₀ .tc) α} {Q : α → sProp 𝕄} {E : sProp 𝕄}
    (h : iprop(St m K c (j + 1) ∗ E) ⊢ WP c (k ⟨⟩) Q) :
    iprop(St m K c j ∗ E) ⊢ WP c (.op (.waitDma2 rS src dst hsrc hdst) k) Q := by
  subst hrS hj hn
  have hb := recv_ge i
  have hs : ∀ i', tSend c i' ≠ tRecv i := fun i' => send_recv c i' i
  have h70 : tRecv i ≠ 70 := (grant_no c i 70 (by decide)).2.1
  obtain ⟨R, e1, e2⟩ := fam (fun i j => eRcv m c i j) i (tRecv i) (fun i' h' => eRcv_same m c i' (fun h => h' (tRecv_inj i i' h)))
  have f1 : eRcv m c i (tRecv i) = iprop(atPos ER (recvCell c i) 0 ∅ 0 ∗ cred (tallyAt (recvCell c i) () (nAmt i))) := ph_le (le_refl _) _ _
  have f1' : eRcv m c i (tRecv i + 1) = iprop(semVal (recvCell c i) 0 ∗ keptP m c i) := ph_gt (Nat.lt_succ_self _) _ _
  unfold St owesP fRcv
  rw [e1, f1, fSig_same c (j := tRecv i) (by omega), eBar_same c (j := tRecv i) (by omega), fSnd_same m c hs (.inl (by omega)),
    eOwn_same m c (recv_own c i).symm h70.symm, owed_same c (tRecv i) (by omega) hs]
  iintro ⟨⟨#Hrec, #Hlev, ⟨%W, HO⟩, Hsig, Hbar, Hsnd, ⟨⟨Hat, Hc⟩, HR⟩, Hdst, Hsrc, Hown⟩, HE⟩
  ihave #Hr1 := (rec_recv m K c i) $$ Hrec
  icases Hr1 with ⟨#Hi1, #Hrc1⟩
  iapply (Rounds.wp_wait_rest_token 𝒱₀ ER (kRd m) (c : Thread nD τ) none (κ := K (c, kR i))
      (wpE_waitDma2_eq 𝒱₀ (c : Thread nD τ) none Set.univ) (Set.mem_univ _) () (O := owed c (tRecv i + 1)) (W := W) (R := 0) (m := 0) (T := ∅)
      (by rw [Nat.zero_add, expect_recv, hcr]; rfl)) $$ [Hc HO Hat]
  · isplitr; · iexact Hi1
    isplitl [Hc]; · rw [hcr]; iexact Hc
    isplitl [HO]; · iexact HO
    isplitr
    · iapply (mayWait (F := F) c (tRecv i + 1) (.dma (recvS i)) (fun o ho => by have := o.isLt; omega)
        (fun i' hi' => by rw [lvS_recv]; exact lvl_lt c i i' (by omega)))
      iexact Hlev
    iexact Hat
  iintro ⟨HO, Hat, -, Hpay⟩
  ihave Hpay := (Entails.of_eq (rest_recv m c i)) $$ Hpay
  ihave Hpay := (recv_pay m c i) $$ Hpay
  icases Hpay with ⟨Hk, Hgd, Hgs⟩
  imod (Rounds.cell_close ER (kRd m) (Set.mem_univ (K (c, kR i))) (fun h => h) (R := 0 + 1) (duties_later m (recvCell c i))) $$ [Hat] with Hz
  · isplitr; · iexact Hi1
    iexact Hat
  iapply h
  unfold St owesP fRcv
  rw [e2, f1']
  isplitr [HE]
  · isplitr; · iexact Hrec
    isplitr; · iexact Hlev
    isplitl [HO]; · iexists _; iexact HO
    isplitl [Hsig]; · iexact Hsig
    isplitl [Hbar]; · iexact Hbar
    isplitl [Hsnd]; · iexact Hsnd
    isplitl [Hz Hk HR]
    · isplitl [Hz Hk]
      · isplitl [Hz]; · iexact Hz
        iexact Hk
      iexact HR
    isplitl [Hdst Hgd]
    · iapply (grantDst (F := F) c (tRecv i) hs)
      isplitl [Hdst]; · iexact Hdst
      iexact Hgd
    isplitl [Hsrc Hgs]
    · iapply (grantSrc m c (tRecv i) hs)
      isplitl [Hsrc]; · iexact Hsrc
      iexact Hgs
    iexact Hown
  iexact HE

/-- Waiting for the sixteen entry signals. -/
theorem step_bar (c : Dev nD) {k : PUnit → Prog (TpuEff nD τ sig (Elt F) Λ₀ .tc) α} {Q : α → sProp 𝕄} {E : sProp 𝕄}
    (h : iprop(St m K c 17 ∗ E) ⊢ WP c (k ⟨⟩) Q) :
    iprop(St m K c 16 ∗ E) ⊢ WP c (.op (.semWait barS (16#32 : BitVec 32).toInt) k) Q := by
  have hs : ∀ i', tSend c i' ≠ 16 := fun i' => by have := (send_ge c i').1; omega
  have f1 : eBar (F := F) c 16 = iprop(atPos ER (barCell c) 0 ∅ 0 ∗ cred (tallyAt (barCell c) () 16)) := ph_le (le_refl _) _ _
  have f1' : eBar (F := F) c 17 = semVal (barCell c) 0 := ph_gt (by decide) _ _
  unfold St owesP
  rw [f1, fSig_same c (le_refl 16), fSnd_same m c hs (.inl (by omega)), fRcv_same m c (fun i' => by have := (recv_ge i').1; omega),
    fSrc_same m c (fun i' => by have := (src_ge c i').1; omega) hs, eOwn_same m c (by have := own_ge c; omega) (by decide), owed_same c 16 (le_refl _) hs]
  iintro ⟨⟨#Hrec, #Hlev, ⟨%W, HO⟩, Hsig, ⟨Hat, Hc⟩, Hsnd, Hrcv, Hdst, Hsrc, Hown⟩, HE⟩
  ihave #Hr1 := (rec_bar m K c) $$ Hrec
  icases Hr1 with ⟨#Hi1, #Hrc1⟩
  iapply (Rounds.wp_wait_rest_token 𝒱₀ ER (kRd m) (c : Thread nD τ) none (κ := K (c, kB))
      (wpE_semWait_eq 𝒱₀ (c : Thread nD τ) none Set.univ) (Set.mem_univ _) () (O := owed c 17) (W := W) (R := 0) (m := 0) (T := ∅)
      (by rw [expect_bar]; decide)) $$ [Hc HO Hat]
  · isplitr; · iexact Hi1
    isplitl [Hc]; · iexact Hc
    isplitl [HO]; · iexact HO
    isplitr
    · iapply (mayWait (F := F) c 17 (.reg barS) (fun o ho => by have := o.isLt; omega)
        (fun i' hi' => lt_of_lt_of_le (by show 1 < 2; decide) (lvl_ge i')))
      iexact Hlev
    iexact Hat
  iintro ⟨HO, Hat, -, Hpay⟩
  ihave Hpay := (Entails.of_eq (rest_bar m c)) $$ Hpay
  ihave Hpay := (bar_pay (F := F) c) $$ Hpay
  imod (Rounds.cell_close ER (kRd m) (Set.mem_univ (K (c, kB))) (fun h => h) (R := 0 + 1) (duties_later m (barCell c))) $$ [Hat] with Hz
  · isplitr; · iexact Hi1
    iexact Hat
  iapply h
  unfold St owesP
  rw [f1']
  isplitr [HE]
  · isplitr; · iexact Hrec
    isplitr; · iexact Hlev
    isplitl [HO]; · iexists _; iexact HO
    isplitl [Hsig]; · iexact Hsig
    isplitl [Hz]; · iexact Hz
    isplitl [Hsnd]; · iexact Hsnd
    isplitl [Hrcv]; · iexact Hrcv
    isplitl [Hdst Hpay]
    · iapply (grantDst (F := F) c 16 hs)
      isplitl [Hdst]; · iexact Hdst
      iexact Hpay
    isplitl [Hsrc]; · iexact Hsrc
    iexact Hown
  iexact HE

/-! ## Handing rows to the transfers -/

theorem St_grant (c : Dev nD) (j : ℕ) (hj : j ∈ [17, 19, 22, 39, 70]) : ∃ R : sProp 𝕄,
    (St m K c j = iprop(R ∗ eOwn m c j))
    ∧ (iprop(R ∗ bigSep (Finset.univ.filter fun i => tSrc c i = j) (srcP m c) ∗ eOwn m c (j + 1)) ⊢ St m K c (j + 1)) := by
  have hg := fun i => grant_no c i j hj
  have hj16 : 17 ≤ j ∧ j ≤ 70 := by
    simp only [List.mem_cons, List.mem_nil_iff, or_false] at hj; omega
  refine ⟨iprop(records m K ∗ levAts L lv ∗ owesP c (j + 1) ∗ fSig c (j + 1) ∗ eBar c (j + 1) ∗ fSnd m c (j + 1) ∗ fRcv m c (j + 1) ∗ fDst c (j + 1) ∗ fSrc m c j), ?_, ?_⟩
  · have hab : ∀ A B C D E G H I J O : sProp 𝕄, iprop(A ∗ B ∗ C ∗ D ∗ E ∗ G ∗ H ∗ I ∗ J ∗ O) ⊢ iprop((A ∗ B ∗ C ∗ D ∗ E ∗ G ∗ H ∗ I ∗ J) ∗ O) := by
      intro A B C D E G H I J O
      iintro ⟨H1, H2, H3, H4, H5, H6, H7, H8, H9, H10⟩
      isplitr [H10]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      iexact H10
    have hba : ∀ A B C D E G H I J O : sProp 𝕄, iprop((A ∗ B ∗ C ∗ D ∗ E ∗ G ∗ H ∗ I ∗ J) ∗ O) ⊢ iprop(A ∗ B ∗ C ∗ D ∗ E ∗ G ∗ H ∗ I ∗ J ∗ O) := by
      intro A B C D E G H I J O
      iintro ⟨⟨H1, H2, H3, H4, H5, H6, H7, H8, H9⟩, H10⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    unfold St
    rw [owesP_same c (by omega) (fun i => (hg i).1), fSig_same c (by omega), eBar_same c (by omega), fSnd_same m c (fun i => (hg i).1) (.inl (by omega)),
      fRcv_same m c (fun i => (hg i).2.1), fDst_same c (fun i => (hg i).2.2) (fun i => (hg i).1)]
    exact equiv_iff.mp ⟨hab _ _ _ _ _ _ _ _ _ _, hba _ _ _ _ _ _ _ _ _ _⟩
  · unfold St
    iintro ⟨⟨H1, H2, H3, H4, H5, H6, H7, H8, H9⟩, Hg, H10⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9 Hg]
    · iapply (grantSrc m c j (fun i => (hg i).1))
      isplitl [H9]; · iexact H9
      iexact Hg
    iexact H10

theorem grant_first (c : Dev nD) (i : Fin 48) (j a : ℕ) (hj : j ∈ [17, 19, 22, 39, 70]) (hj' : j < 22) (hi : ∀ i', tSrc c i' = j ↔ i' = i)
    (h0 : i.val = 0 ∨ i.val = 47) (ha : srcLo c i = a) :
    iprop(St m K c j ∗ rP c a 128 fullShare (Afin m c)) ⊢ St m K c (j + 1) := by
  obtain ⟨R, e1, e2⟩ := St_grant m K c j hj
  have hs : srcP m c i = rP c a 128 fullShare (Afin m c) := by
    unfold srcP
    rw [ha, show nRows i = 128 from if_pos h0, show srcQ i = fullShare from if_pos (decide_eq_true (by omega)), show srcF m c i = Afin m c from if_pos h0]
  rw [e1, eOwn_same m c (j := j) (by have := own_ge c; omega) (by omega)]
  rw [filter_one i hi, hs] at e2
  iintro ⟨⟨H1, H2⟩, H3⟩
  iapply e2
  isplitl [H1]; · iexact H1
  isplitl [H3]; · iexact H3
  iexact H2

theorem grant17 (c : Dev nD) : iprop(St m K c 17 ∗ rP c (send0 c) 128 fullShare (Afin m c)) ⊢ St m K c 18 :=
  grant_first m K c 0 17 _ (by decide) (by decide) (src_17 c) (.inl rfl) rfl
theorem grant19 (c : Dev nD) : iprop(St m K c 19 ∗ rP c (send0 c + 128) 128 fullShare (Afin m c)) ⊢ St m K c 20 :=
  grant_first m K c 47 19 _ (by decide) (by decide) (src_19 c) (.inr rfl) rfl

theorem grant_mid (c : Dev nD) (j a : ℕ) (hj : j = 22 ∨ j = 39) (hcut : Cut (fun i => tSrc c i = j ∨ (i = 31 ∧ tOwn c = j)) (srcLo c) a 128) :
    iprop(St m K c j ∗ rP c a 128 fullShare (Bfin m c)) ⊢ St m K c (j + 1) := by
  obtain ⟨R, e1, e2⟩ := St_grant m K c j (by simp; omega)
  have hsrc : ∀ i, tSrc c i = j → srcP m c i = rP c (srcLo c i) 16 fullShare (Bfin m c) := by
    intro i hi
    have h1 : 1 ≤ i.val ∧ i.val ≤ 15 := by
      have := i.isLt
      unfold tSrc at hi
      split at hi; · omega
      split at hi; · omega
      split at hi; · omega
      split at hi <;> omega
    unfold srcP
    rw [show nRows i = 16 from if_neg (by omega), show srcQ i = fullShare from if_pos (decide_eq_true (by omega)),
      show srcF m c i = Bfin m c from (if_neg (by omega)).trans (if_pos h1.2)]
  have hblk : rP c a 128 fullShare (Bfin m c) ⊢ iprop(bigSep (Finset.univ.filter fun i => tSrc c i = j) (srcP m c)
      ∗ (if tOwn c = j then rP c (own0 c) 16 fullShare (Bfin m c) else iprop(emp))) := by
    rw [rP_cut hcut]
    by_cases ho : tOwn c = j
    · rw [if_pos ho, show (Finset.univ.filter fun i => tSrc c i = j ∨ (i = 31 ∧ tOwn c = j)) = insert (31 : Fin 48) (Finset.univ.filter fun i => tSrc c i = j) from by
          ext i; simp [ho]; exact or_comm,
        split_insert (fun h => by
          have h := (Finset.mem_filter.mp h).2
          have h' : tSrc c 31 = 70 := (src_70 c 31).mpr (by decide)
          omega),
        bigSep_congr (s := Finset.univ.filter fun i => tSrc c i = j) (Φ := fun i => rP c (srcLo c i) 16 fullShare (Bfin m c)) (Ψ := srcP m c)
          (fun i hi => (hsrc i (Finset.mem_filter.mp hi).2).symm),
        show srcLo c 31 = own0 c from by
          rw [show srcLo c 31 = fw0 c 0 from rfl]; unfold fw0 own0 blk; have := gp_lt c
          rw [Nat.add_zero, Nat.mod_mod]]
      iintro ⟨H1, H2⟩
      isplitl [H2]; · iexact H2
      iexact H1
    · rw [if_neg ho, show (Finset.univ.filter fun i => tSrc c i = j ∨ (i = 31 ∧ tOwn c = j)) = (Finset.univ.filter fun i => tSrc c i = j) from by
          ext i; simp [ho],
        bigSep_congr (s := Finset.univ.filter fun i => tSrc c i = j) (Φ := fun i => rP c (srcLo c i) 16 fullShare (Bfin m c)) (Ψ := srcP m c)
          (fun i hi => (hsrc i (Finset.mem_filter.mp hi).2).symm)]
      iintro H
      isplitl [H]; · iexact H
      iempintro
  have hown : iprop(eOwn m c j ∗ (if tOwn c = j then rP c (own0 c) 16 fullShare (Bfin m c) else iprop(emp))) ⊢ eOwn m c (j + 1) := by
    by_cases ho : tOwn c = j
    · rw [if_pos ho, show eOwn m c (j + 1) = rP c (own0 c) 16 fullShare (Bfin m c) from by
        unfold eOwn; rw [ph_gt (by omega), ph_le (by omega)],
        show eOwn m c j = iprop(emp) from ph_le (by omega) _ _]
      iintro ⟨-, H⟩; iexact H
    · rw [if_neg ho, eOwn_same m c ho (by omega)]
      iintro ⟨H, -⟩; iexact H
  rw [e1]
  iintro ⟨⟨H1, H2⟩, H3⟩
  ihave H3 := hblk $$ H3
  icases H3 with ⟨H3, H4⟩
  iapply e2
  isplitl [H1]; · iexact H1
  isplitl [H3]; · iexact H3
  iapply hown
  isplitl [H2]; · iexact H2
  iexact H4

theorem grant22 (c : Dev nD) : iprop(St m K c 22 ∗ rP c (col0 c) 128 fullShare (Bfin m c)) ⊢ St m K c 23 :=
  grant_mid m K c 22 _ (.inl rfl) (cut_src22 c)
theorem grant39 (c : Dev nD) : iprop(St m K c 39 ∗ rP c (col0 c + 128) 128 fullShare (Bfin m c)) ⊢ St m K c 40 :=
  grant_mid m K c 39 _ (.inr rfl) (cut_src39 c)

theorem own_srcP (c : Dev nD) (k : ℕ) (hk : k < 16) (i : Fin 48) (hi : i.val = if k = 0 then 31 else (15 + k) % 48) :
    srcP m c i = rP c (own0 c) 16 (shT k) (Cfin m) := by
  have hg := gp_lt c
  have hi' : i.val = 31 ∧ k = 0 ∨ i.val = 15 + k ∧ k ≠ 0 := by split at hi <;> omega
  have hst : toStage i = false := decide_eq_false (by omega)
  unfold srcP srcQ
  rw [(red_same m c hst).2, show nRows i = 16 from if_neg (by omega), hst, if_neg Bool.false_ne_true]
  rcases hi' with ⟨h1, rfl⟩ | ⟨h1, h2⟩
  · obtain rfl : i = 31 := Fin.ext h1
    rw [if_neg (by decide)]
    congr 1
    show fw0 c 0 = own0 c
    unfold fw0 own0 blk; rw [Nat.add_zero, Nat.mod_mod]
  · rw [if_pos (by omega), show i.val - 15 = k from by omega]
    congr 1
    unfold srcLo
    rw [if_neg (by omega), if_neg (by omega), if_neg (by omega), if_pos (by omega)]

/-- The sixteen transfers of the device's own block each borrow a share of it. -/
theorem own_toks (c : Dev nD) : bigSep (Finset.univ.filter fun i => tSrc c i = 70) (srcP m c) = bigSep (Finset.range 16) fun k => rP c (own0 c) 16 (shT k) (Cfin m) := by
  have hset : (Finset.univ.filter fun i => tSrc c i = 70) = (Finset.range 16).image (fun k => (⟨if k = 0 then 31 else (15 + k) % 48, by split <;> omega⟩ : Fin 48)) := by
    ext i
    rw [Finset.mem_filter, Finset.mem_image, src_70]
    constructor
    · rintro ⟨-, h1, h2⟩
      by_cases h : i.val = 31
      · exact ⟨0, by simp, Fin.ext h.symm⟩
      · exact ⟨i.val - 15, by simp; omega, Fin.ext (by show (if i.val - 15 = 0 then 31 else (15 + (i.val - 15)) % 48) = i.val; rw [if_neg (by omega)]; omega)⟩
    · rintro ⟨k, hk, rfl⟩
      rw [Finset.mem_range] at hk
      refine ⟨Finset.mem_univ _, ?_⟩
      show 16 ≤ (if k = 0 then 31 else (15 + k) % 48) ∧ (if k = 0 then 31 else (15 + k) % 48) ≤ 31
      split <;> omega
  rw [hset, bigSep_image_of_injOn (by
    intro k hk k' hk' h
    have hk := Finset.mem_range.mp hk
    have hk' := Finset.mem_range.mp hk'
    have h : (if k = 0 then 31 else (15 + k) % 48) = (if k' = 0 then 31 else (15 + k') % 48) := congrArg Fin.val h
    split at h <;> split at h <;> omega),
    bigSep_congr (s := Finset.range 16) (Ψ := fun k => rP c (own0 c) 16 (shT k) (Cfin m)) (fun k hk => by
      have hk := Finset.mem_range.mp hk
      exact own_srcP m c k hk _ rfl)]

/-- The device's own block, summed, is lent to its sixteen transfers of it, -/
theorem own_lend (c : Dev nD) : rP c (own0 c) 16 fullShare (Cfin m)
    ⊢ iprop(bigSep (Finset.univ.filter fun i => tSrc c i = 70) (srcP m c) ∗ rP c (own0 c) 16 (shD 16) (Cfin m)) := by
  rw [own_toks]
  unfold rP
  refine (Transfers.pointsTo_toks_range fullShare 16).1.trans ?_
  iintro ⟨H1, H2⟩
  isplitl [H2]; · iexact H2
  iexact H1

/-- and comes back whole. -/
theorem own_back (c : Dev nD) : iprop(bigSep (Finset.univ.filter fun i => tSrc c i = 70) (srcP m c) ∗ rP c (own0 c) 16 (shD 16) (Cfin m))
    ⊢ rP c (own0 c) 16 fullShare (Cfin m) := by
  rw [own_toks]
  unfold rP
  refine BIBase.Entails.trans ?_ (Transfers.pointsTo_toks_range fullShare 16).2
  iintro ⟨H1, H2⟩
  isplitl [H2]; · iexact H2
  iexact H1

theorem grant70 (c : Dev nD) : ∃ R : sProp 𝕄, St m K c 70 = iprop(R ∗ rP c (own0 c) 16 fullShare (Bfin m c))
    ∧ (iprop(R ∗ rP c (own0 c) 16 fullShare (Cfin m)) ⊢ St m K c 71) := by
  obtain ⟨R, e1, e2⟩ := St_grant m K c 70 (by decide)
  have ho := own_ge c
  refine ⟨R, ?_, ?_⟩
  · rw [e1, show eOwn m c 70 = rP c (own0 c) 16 fullShare (Bfin m c) from by unfold eOwn; rw [ph_gt (by omega), ph_le (le_refl _)]]
  · rw [show eOwn m c 71 = rP c (own0 c) 16 (shD 16) (Cfin m) from by unfold eOwn; rw [ph_gt (by omega), ph_gt (by decide)]] at e2
    iintro ⟨H1, H2⟩
    ihave H2 := (own_lend m c) $$ H2
    icases H2 with ⟨H2, H3⟩
    iapply e2
    isplitl [H1]; · iexact H1
    isplitl [H2]; · iexact H2
    iexact H3

end Steps

end Cert.Proof
-- ==== Proof.Loads.lean ====
/-
Reading and writing full rows, and composing the programs of the parts.
-/
module

public import proofs.«01_k».proof.Proof.Waits

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

local notation "𝕄" => MT nD τ sig Unit (Elt F) ℕ UU ℕ

variable (m : (ℓ : Loc nD τ sig) → Buf (Elt F) ℓ) (K : Dev nD × Fin 97 → ℕ)

section Steps

variable {α β : Type}

/-- A part run first: what holds after it is what the rest starts from. -/
theorem then_run (c : Dev nD) {A A' : sProp 𝕄} {p : Prog (TpuEff nD τ sig (Elt F) Λ₀ .tc) β} {k : β → Prog (TpuEff nD τ sig (Elt F) Λ₀ .tc) α}
    {Q : α → sProp 𝕄} {P : β → Prop} (h : A ⊢ WP c p fun r => iprop(⌜P r⌝ ∗ A')) (hk : ∀ r, P r → (A' ⊢ WP c (k r) Q)) :
    A ⊢ WP c (p >>= k) Q := by
  show A ⊢ wp _ _ _ (p >>= k) _
  rw [wp_bind]
  refine h.trans (wp_mono _ _ _ ?_)
  intro r
  iintro ⟨%hr, H⟩
  iapply (hk r hr); iexact H

theorem then_run' (c : Dev nD) {A A' : sProp 𝕄} {p : Prog (TpuEff nD τ sig (Elt F) Λ₀ .tc) β} {k : β → Prog (TpuEff nD τ sig (Elt F) Λ₀ .tc) α}
    {Q : α → sProp 𝕄} (h : A ⊢ WP c p fun _ => A') (hk : ∀ r, (A' ⊢ WP c (k r) Q)) :
    A ⊢ WP c (p >>= k) Q := by
  show A ⊢ wp _ _ _ (p >>= k) _
  rw [wp_bind]
  exact h.trans (wp_mono _ _ _ fun r => hk r)

theorem done (c : Dev nD) {A : sProp 𝕄} {r : α} {Q : α → sProp 𝕄} (h : A ⊢ Q r) : A ⊢ WP c (.ret r) Q := by
  show A ⊢ wp _ _ _ (.ret r) _
  rw [wp_ret]
  iintro H
  imodintro
  iapply h; iexact H

theorem done' (c : Dev nD) {A A' : sProp 𝕄} {r : α} {P : α → Prop} (hP : P r) (h : A ⊢ A') : A ⊢ WP c (.ret r) fun r => iprop(⌜P r⌝ ∗ A') := by
  refine done c ?_
  iintro H
  isplitr; · ipureintro; exact hP
  iapply h; iexact H

/-- A conditional whose two branches end alike, then the rest. -/
theorem step_if' (c : Dev nD) {X X' : sProp 𝕄} {p : Prop} [Decidable p] {A : p → Prog (TpuEff nD τ sig (Elt F) Λ₀ .tc) β} {B : ¬ p → Prog (TpuEff nD τ sig (Elt F) Λ₀ .tc) β}
    {k : β → Prog (TpuEff nD τ sig (Elt F) Λ₀ .tc) α} {Q : α → sProp 𝕄}
    (hA : ∀ h, X ⊢ WP c (A h) fun _ => X') (hB : ∀ h, X ⊢ WP c (B h) fun _ => X') (hk : ∀ r, X' ⊢ WP c (k r) Q) : X ⊢ WP c (dite p A B >>= k) Q := by
  refine then_run' c (A' := X') ?_ hk
  by_cases h : p
  · rw [dif_pos h]; exact hA h
  · rw [dif_neg h]; exact hB h

theorem ld_r (c : Dev nD) {a n : ℕ} {q : PosShare TreeShare} {f : RBuf F} {off : Fin 2 → ℕ} (ho : off = ![a, 0])
    {inb : ∀ x, off x + (![n, 512] : Fin 2 → ℕ) x ≤ S512x512.size x}
    {hl : (rM : Memref sig .tc .vmem S512x512 .bf16).view.LoadsAt (Rect.unit (s := S512x512) off ![n, 512] inb).toLoadRect}
    {k : (Shape.Idx ⟨2, ![n, 512]⟩ → Elt F .bf16) → Prog (TpuEff nD τ sig (Elt F) Λ₀ .tc) α} {Q : α → sProp 𝕄} :
    rP c a n q f ⊢ iprop((rP c a n q f -∗ WP c (k (takeR a n f)) Q) -∗ WP c (.op (.load rM (Rect.unit (s := S512x512) off ![n, 512] inb).toLoadRect hl) k) Q) := by
  have h := wp_load_rect (defs := defs₀ (F := F)) (Γ := .empty) 𝒱₀ (c : Thread nD τ) none Set.univ (Q := Q) (m := rM) (r := Rect.unit (s := S512x512) off ![n, 512] inb) (hl := hl) (k := k)
    (S := rowsR a n) (q := q) (f := f) (by rw [set_rM ho inb])
  rw [show ((rM : Memref sig .tc .vmem S512x512 .bf16).access (Rect.unit (s := S512x512) off ![n, 512] inb)).read (Elt F) f = takeR a n f from
    funext fun x => read_rM ho inb f x] at h
  exact h

theorem ld_g (c : Dev nD) {a n : ℕ} {q : PosShare TreeShare} {f : GBuf F} {off : Fin 2 → ℕ} (ho : off = ![a, 0])
    {inb : ∀ x, off x + (![n, 512] : Fin 2 → ℕ) x ≤ S496x512.size x}
    {hl : (gM : Memref sig .tc .vmem S496x512 .bf16).view.LoadsAt (Rect.unit (s := S496x512) off ![n, 512] inb).toLoadRect}
    {k : (Shape.Idx ⟨2, ![n, 512]⟩ → Elt F .bf16) → Prog (TpuEff nD τ sig (Elt F) Λ₀ .tc) α} {Q : α → sProp 𝕄} :
    sP c a n q f ⊢ iprop((sP c a n q f -∗ WP c (k (takeG a n f)) Q) -∗ WP c (.op (.load gM (Rect.unit (s := S496x512) off ![n, 512] inb).toLoadRect hl) k) Q) := by
  have h := wp_load_rect (defs := defs₀ (F := F)) (Γ := .empty) 𝒱₀ (c : Thread nD τ) none Set.univ (Q := Q) (m := gM) (r := Rect.unit (s := S496x512) off ![n, 512] inb) (hl := hl) (k := k)
    (S := rowsG a n) (q := q) (f := f) (by rw [set_gM ho inb])
  rw [show ((gM : Memref sig .tc .vmem S496x512 .bf16).access (Rect.unit (s := S496x512) off ![n, 512] inb)).read (Elt F) f = takeG a n f from
    funext fun x => read_gM ho inb f x] at h
  exact h

theorem stor_r (c : Dev nD) {a n : ℕ} {f : RBuf F} {off : Fin 2 → ℕ} (ho : off = ![a, 0])
    {inb : ∀ x, off x + (![n, 512] : Fin 2 → ℕ) x ≤ S512x512.size x} {w : Shape.Idx ⟨2, ![n, 512]⟩ → Elt F .bf16}
    {hx : ((rM : Memref sig .tc .vmem S512x512 .bf16).access (Rect.unit (s := S512x512) off ![n, 512] inb)).Stores Finset.univ}
    {hm : (Finset.univ : Finset (Shape.Idx ⟨2, ![n, 512]⟩)) = Finset.univ ∨ ∀ x, (Rect.unit (s := S512x512) off ![n, 512] inb).stride x = 1}
    {k : PUnit → Prog (TpuEff nD τ sig (Elt F) Λ₀ .tc) α} {Q : α → sProp 𝕄} (g : RBuf F) (hg : ∀ x : S512x512.Idx, a ≤ (x 0).val → (x 0).val < a + n → putR a n f w x = g x) :
    rP c a n fullShare f ⊢ iprop((rP c a n fullShare g -∗ WP c (k ⟨⟩) Q)
      -∗ WP c (.op (.store rM (Rect.unit (s := S512x512) off ![n, 512] inb) w Finset.univ hx hm) k) Q) := by
  have h := wp_store (defs := defs₀ (F := F)) (Γ := .empty) 𝒱₀ (c : Thread nD τ) none Set.univ (Q := Q) (m := rM) (r := Rect.unit (s := S512x512) off ![n, 512] inb) (w := w) (Mk := Finset.univ)
    (hx := hx) (hm := hm) (k := k) (S := rowsR a n) (f := f) (by rw [View.setOn_univ, set_rM ho inb])
  rw [write_rM ho inb f w] at h
  have e := rP_congr c a n fullShare _ _ hg
  unfold rP at e
  rw [rP, rP, ← e]
  exact h

end Steps

/-- The three input windows, staged. -/
def Win (c : Dev nD) : sProp 𝕄 :=
  iprop(((c : Thread nD τ).loc cc0_stg0_0 ↦{fullShare} xs m c) ∗ ((c : Thread nD τ).loc cc0_stg1_0 ↦{fullShare} ts m c) ∗ ((c : Thread nD τ).loc cc0_stg2_0 ↦{fullShare} ws m c))
def rAny (c : Dev nD) (a n : ℕ) : sProp 𝕄 := iprop(∃ f, rP c a n fullShare f)

theorem off_send0 (c : Dev nD) : send0 c + 256 ≤ 512 ∧ col0 c + 256 ≤ 512 ∧ (send0 c + 256 ≤ col0 c ∨ col0 c + 256 ≤ send0 c) := by
  have := xh_lt c
  unfold send0 col0; omega

theorem put_a1 (c : Dev nD) (f : RBuf F) (x : S512x512.Idx) (h1 : send0 c ≤ (x 0).val) (h2 : (x 0).val < send0 c + 128) : putR (send0 c) 128 f (a1 m c) x = Afin m c x := by
  unfold Afin putR
  rw [dif_pos ⟨h1, h2⟩, dif_pos ⟨h1, h2⟩]
theorem put_a2 (c : Dev nD) (f : RBuf F) (x : S512x512.Idx) (h1 : send0 c + 128 ≤ (x 0).val) (h2 : (x 0).val < send0 c + 128 + 128) : putR (send0 c + 128) 128 f (a2 m c) x = Afin m c x := by
  unfold Afin putR
  rw [dif_pos ⟨h1, h2⟩, dif_neg (by omega), dif_pos ⟨h1, h2⟩]
theorem put_a3 (c : Dev nD) (f : RBuf F) (x : S512x512.Idx) (h1 : col0 c ≤ (x 0).val) (h2 : (x 0).val < col0 c + 256) : putR (col0 c) 256 f (k0_pay4 (a3 m c)) x = Afin m c x := by
  have := off_send0 c
  unfold Afin putR
  rw [dif_pos ⟨h1, h2⟩, dif_neg (by omega), dif_neg (by omega), dif_pos ⟨h1, h2⟩]
theorem put_b1 (c : Dev nD) (f : RBuf F) (x : S512x512.Idx) (h1 : col0 c ≤ (x 0).val) (h2 : (x 0).val < col0 c + 128) : putR (col0 c) 128 f (b1 m c) x = Bfin m c x := by
  unfold Bfin putR
  rw [dif_pos ⟨h1, h2⟩, dif_pos ⟨h1, h2⟩]
theorem put_b2 (c : Dev nD) (f : RBuf F) (x : S512x512.Idx) (h1 : col0 c + 128 ≤ (x 0).val) (h2 : (x 0).val < col0 c + 128 + 128) : putR (col0 c + 128) 128 f (b2 m c) x = Bfin m c x := by
  unfold Bfin putR
  rw [dif_pos ⟨h1, h2⟩, dif_neg (by omega), dif_pos ⟨h1, h2⟩]
theorem put_own (c : Dev nD) (f : RBuf F) (x : S512x512.Idx) (h1 : own0 c ≤ (x 0).val) (h2 : (x 0).val < own0 c + 16) : putR (own0 c) 16 f (own m c) x = Cfin m x := by
  have hg := gp_lt c
  have hx := xh_lt c
  have e : own0 c = 256 * xh c + 16 * gp c := by unfold own0 blk; omega
  have hmk : Pl.mk ((x 0).val / 256) (((x 0).val % 256) / 16) = c := by
    rw [show (x 0).val / 256 = xh c by omega, show ((x 0).val % 256) / 16 = gp c by omega]; exact mk_self c
  unfold Cfin putR
  rw [dif_pos ⟨h1, h2⟩, hmk]
  refine congrArg (own m c) (funext fun a => Fin.ext ?_)
  match a with
  | ⟨0, _⟩ => show (x 0).val - own0 c = (x 0).val % 16; omega
  | ⟨1, _⟩ => rfl

/-! ## What has landed, within the state -/

theorem fRcv_kept (c : Dev nD) (j : ℕ) (p : Fin 48 → Prop) [DecidablePred p] (h : ∀ i, p i → tRecv i < j) :
    ∃ R : sProp 𝕄, fRcv m c j = iprop(R ∗ bigSep (Finset.univ.filter p) (keptP m c)) := by
  refine ⟨iprop((bigSep (Finset.univ.filter p) fun i => semVal (recvCell c i) 0) ∗ (bigSep (Finset.univ.filter fun i => ¬ p i) fun i => eRcv m c i j)), ?_⟩
  unfold fRcv
  rw [split_filter p, bigSep_congr (s := Finset.univ.filter p) (Φ := fun i => eRcv m c i j) (Ψ := fun i => iprop(semVal (recvCell c i) 0 ∗ keptP m c i)) (fun i hi =>
      ph_gt (h i (Finset.mem_filter.mp hi).2) _ _), bigSep_sep']
  have hab : ∀ A B C : sProp 𝕄, iprop((A ∗ B) ∗ C) ⊢ iprop((A ∗ C) ∗ B) := by
    intro A B C
    iintro ⟨⟨H1, H2⟩, H3⟩
    isplitr [H2]
    · isplitl [H1]; · iexact H1
      iexact H3
    iexact H2
  exact equiv_iff.mp ⟨hab _ _ _, hab _ _ _⟩

theorem St_kept (c : Dev nD) (j : ℕ) (p : Fin 48 → Prop) [DecidablePred p] (h : ∀ i, p i → tRecv i < j) :
    ∃ R : sProp 𝕄, (St m K c j ⊢ iprop(R ∗ bigSep (Finset.univ.filter p) (keptP m c))) ∧ (iprop(R ∗ bigSep (Finset.univ.filter p) (keptP m c)) ⊢ St m K c j) := by
  obtain ⟨R, e⟩ := fRcv_kept m c j p h
  refine ⟨iprop(records m K ∗ levAts L lv ∗ owesP c j ∗ fSig c j ∗ eBar c j ∗ fSnd m c j ∗ R ∗ fDst c j ∗ fSrc m c j ∗ eOwn m c j), ?_, ?_⟩
  · unfold St
    rw [e]
    iintro ⟨H1, H2, H3, H4, H5, H6, ⟨H7, HK⟩, H8, H9, H10⟩
    isplitr [HK]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iexact HK
  · unfold St
    rw [e]
    iintro ⟨⟨H1, H2, H3, H4, H5, H6, H7, H8, H9, H10⟩, HK⟩
    isplitl [H1]; · iexact H1
    isplitl [H2]; · iexact H2
    isplitl [H3]; · iexact H3
    isplitl [H4]; · iexact H4
    isplitl [H5]; · iexact H5
    isplitl [H6]; · iexact H6
    isplitl [H7 HK]
    · isplitl [H7]; · iexact H7
      iexact HK
    isplitl [H8]; · iexact H8
    isplitl [H9]; · iexact H9
    iexact H10

/-- The rows that came from the other half's device. -/
theorem St_xrs (c : Dev nD) (j : ℕ) (i : Fin 48) (a : ℕ) (hi : i.val = 0 ∧ a = 0 ∨ i.val = 47 ∧ a = 128) (h : tRecv i < j) :
    ∃ R : sProp 𝕄, (St m K c j ⊢ iprop(R ∗ sP c a 128 fullShare (Xfin m c))) ∧ (iprop(R ∗ sP c a 128 fullShare (Xfin m c)) ⊢ St m K c j) := by
  obtain ⟨R, e1, e2⟩ := St_kept m K c j (fun i' => i' = i) (fun i' h' => by rw [h']; exact h)
  have hk : keptP m c i = sP c a 128 fullShare (Xfin m c) := by
    unfold keptP landP
    rw [if_neg (by omega), if_pos (show toStage i = true from decide_eq_true (by omega)), show nRows i = 128 from if_pos (by omega)]
    have hd : dstLo (src c i) i = a := by
      unfold dstLo
      rcases hi with ⟨h1, h2⟩ | ⟨h1, h2⟩
      · rw [if_pos h1, h2]
      · rw [if_neg (by omega), if_pos h1, h2]
    rw [hd]
    refine sP_congr c a 128 fullShare _ _ fun x h1 h2 => ?_
    unfold Sfin
    rw [if_pos (by omega)]
  rw [filter_one i (fun i' => Iff.rfl), hk] at e1 e2
  exact ⟨R, e1, e2⟩

theorem kept_mid (c : Dev nD) : bigSep (Finset.univ.filter fun i : Fin 48 => 1 ≤ i.val ∧ i.val ≤ 15) (keptP m c) = sP c 256 240 fullShare (Sfin m c) := by
  rw [sP_cut (cut_stage c)]
  refine bigSep_congr fun i hi => ?_
  have hi := (Finset.mem_filter.mp hi).2
  unfold keptP landP
  rw [if_neg (by omega), if_pos (show toStage i = true from decide_eq_true (by omega)), show nRows i = 16 from if_neg (by omega)]
  congr 1
  unfold dstLo
  rw [if_neg (by omega), if_neg (by omega), if_pos (by omega), if_neg (by omega), if_neg (by omega), if_pos (by omega)]

/-- The rows that came from the devices of this half. -/
theorem St_mid (c : Dev nD) (j : ℕ) (h : 70 ≤ j) :
    ∃ R : sProp 𝕄, (St m K c j ⊢ iprop(R ∗ sP c 256 240 fullShare (Sfin m c))) ∧ (iprop(R ∗ sP c 256 240 fullShare (Sfin m c)) ⊢ St m K c j) := by
  obtain ⟨R, e1, e2⟩ := St_kept m K c j (fun i => 1 ≤ i.val ∧ i.val ≤ 15) (fun i hi => by
    unfold tRecv; rw [if_neg (by omega), if_neg (by omega), if_pos (by omega)]; omega)
  have hk := kept_mid m c
  rw [hk] at e1 e2
  exact ⟨R, e1, e2⟩

end Cert.Proof
-- ==== Proof.Whole.lean ====
/-
The buffers whole: reading the finished result, and what is left at the end.
-/
module

public import proofs.«01_k».proof.Proof.Loads

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

local notation "𝕄" => MT nD τ sig Unit (Elt F) ℕ UU ℕ

variable (m : (ℓ : Loc nD τ sig) → Buf (Elt F) ℓ) (K : Dev nD × Fin 97 → ℕ)

/-- Something taken off a share leaves the rest of it. -/
theorem shD_left (q : PosShare TreeShare) (k n : ℕ) : Transfers.shareDrop (Transfers.shareDrop q k) n = Transfers.shareDrop q (k + n) := by
  induction n with
  | zero => rfl
  | succ n ih => show (Transfers.shareDrop (Transfers.shareDrop q k) n).left = (Transfers.shareDrop q (k + n)).left; rw [ih]

/-- The rows a device holds once everything has landed, at one share, and what it holds of them beyond that. -/
def overP (c : Dev nD) (i : Fin 48) : sProp 𝕄 :=
  if 16 ≤ i.val ∧ i.val ≤ 30 then bigSep (Finset.range 15) fun k => rP c (keptLo c i) 16 (Transfers.shareTokN (shD 1) k) (Cfin m)
  else bigSep (Finset.range 16) fun k => rP c (keptLo c i) 16 (shT k) (Cfin m)

theorem kept_eq (c : Dev nD) (i : Fin 48) (h1 : 16 ≤ i.val) (h2 : i.val ≤ 46) :
    keptP m c i = rP c (keptLo c i) 16 (if i.val ≤ 30 then shD 1 else fullShare) (Cfin m) := by
  have hst : toStage i = false := decide_eq_false (by omega)
  have hlo : dstLo (src c i) i = keptLo c i := by
    rw [(red_same m (src c i) hst).1]; unfold keptLo; rw [if_neg (by omega)]
  have hn : nRows i = 16 := if_neg (by omega)
  unfold keptP landP
  by_cases h : i.val ≤ 30
  · rw [if_pos ⟨h1, h⟩, if_pos h, hlo, hn]
  · rw [if_neg (by omega), if_neg h, if_neg (by rw [hst]; exact Bool.false_ne_true), hlo, hn]

theorem kept_over (c : Dev nD) (i : Fin 48) (h1 : 16 ≤ i.val) (h2 : i.val ≤ 46) :
    (keptP m c i ⊢ iprop(rP c (keptLo c i) 16 (shD 16) (Cfin m) ∗ overP m c i))
    ∧ (iprop(rP c (keptLo c i) 16 (shD 16) (Cfin m) ∗ overP m c i) ⊢ keptP m c i) := by
  rw [kept_eq m c i h1 h2]
  unfold overP
  by_cases h : i.val ≤ 30
  · rw [if_pos h, if_pos ⟨h1, h⟩, show shD 16 = Transfers.shareDrop (shD 1) 15 from (shD_left fullShare 1 15).symm]
    unfold rP
    exact ⟨(Transfers.pointsTo_toks_range (shD 1) 15).1, (Transfers.pointsTo_toks_range (shD 1) 15).2⟩
  · rw [if_neg h, if_neg (by omega)]
    unfold rP
    exact ⟨(Transfers.pointsTo_toks_range fullShare 16).1, (Transfers.pointsTo_toks_range fullShare 16).2⟩

theorem all_set : (Finset.univ.filter fun i : Fin 48 => i.val = 0 ∨ (16 ≤ i.val ∧ i.val ≤ 46))
    = insert 0 (Finset.univ.filter fun i : Fin 48 => 16 ≤ i.val ∧ i.val ≤ 46) := by decide

theorem red_all (c : Dev nD) (q : PosShare TreeShare) : rP c 0 512 q (Cfin m)
    = iprop(rP c (own0 c) 16 q (Cfin m) ∗ bigSep (Finset.univ.filter fun i : Fin 48 => 16 ≤ i.val ∧ i.val ≤ 46) fun i => rP c (keptLo c i) 16 q (Cfin m)) := by
  rw [rP_cut (cut_all c), all_set, split_insert (by decide)]
  rfl

/-- Once everything has landed the whole result is at hand, for reading. -/
theorem St_red (c : Dev nD) (j : ℕ) (h : 133 ≤ j) :
    ∃ R : sProp 𝕄, (St m K c j ⊢ iprop(R ∗ rP c 0 512 (shD 16) (Cfin m))) ∧ (iprop(R ∗ rP c 0 512 (shD 16) (Cfin m)) ⊢ St m K c j) := by
  obtain ⟨R, e⟩ := fRcv_kept m c j (fun i => 16 ≤ i.val ∧ i.val ≤ 46) (fun i _ => by have := (recv_ge i).2; omega)
  have ho : eOwn m c j = rP c (own0 c) 16 (shD 16) (Cfin m) := by
    unfold eOwn; rw [ph_gt (by have := own_ge c; omega), ph_gt (by omega)]
  have hk1 : bigSep (Finset.univ.filter fun i : Fin 48 => 16 ≤ i.val ∧ i.val ≤ 46) (keptP m c)
      ⊢ iprop((bigSep (Finset.univ.filter fun i : Fin 48 => 16 ≤ i.val ∧ i.val ≤ 46) fun i => rP c (keptLo c i) 16 (shD 16) (Cfin m))
        ∗ bigSep (Finset.univ.filter fun i : Fin 48 => 16 ≤ i.val ∧ i.val ≤ 46) (overP m c)) := by
    rw [← bigSep_sep']
    exact mono_sep fun i hi => (kept_over m c i (Finset.mem_filter.mp hi).2.1 (Finset.mem_filter.mp hi).2.2).1
  have hk2 : iprop((bigSep (Finset.univ.filter fun i : Fin 48 => 16 ≤ i.val ∧ i.val ≤ 46) fun i => rP c (keptLo c i) 16 (shD 16) (Cfin m))
        ∗ bigSep (Finset.univ.filter fun i : Fin 48 => 16 ≤ i.val ∧ i.val ≤ 46) (overP m c))
      ⊢ bigSep (Finset.univ.filter fun i : Fin 48 => 16 ≤ i.val ∧ i.val ≤ 46) (keptP m c) := by
    rw [← bigSep_sep']
    exact mono_sep fun i hi => (kept_over m c i (Finset.mem_filter.mp hi).2.1 (Finset.mem_filter.mp hi).2.2).2
  refine ⟨iprop(records m K ∗ levAts L lv ∗ owesP c j ∗ fSig c j ∗ eBar c j ∗ fSnd m c j ∗ R ∗ fDst c j ∗ fSrc m c j
    ∗ bigSep (Finset.univ.filter fun i : Fin 48 => 16 ≤ i.val ∧ i.val ≤ 46) (overP m c)), ?_, ?_⟩
  · unfold St
    rw [e, ho, red_all]
    iintro ⟨H1, H2, H3, H4, H5, H6, ⟨H7, HK⟩, H8, H9, H10⟩
    ihave HK := hk1 $$ HK
    icases HK with ⟨HK, HV⟩
    isplitr [HK H10]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HV
    isplitl [H10]; · iexact H10
    iexact HK
  · unfold St
    rw [e, ho, red_all]
    iintro ⟨⟨H1, H2, H3, H4, H5, H6, H7, H8, H9, HV⟩, H10, HK⟩
    isplitl [H1]; · iexact H1
    isplitl [H2]; · iexact H2
    isplitl [H3]; · iexact H3
    isplitl [H4]; · iexact H4
    isplitl [H5]; · iexact H5
    isplitl [H6]; · iexact H6
    isplitl [H7 HK HV]
    · isplitl [H7]; · iexact H7
      iapply hk2
      isplitl [HK]; · iexact HK
      iexact HV
    isplitl [H8]; · iexact H8
    isplitl [H9]; · iexact H9
    iexact H10

theorem take_all (f : RBuf F) : takeR 0 512 f = f := by
  funext x
  show f (ixR (0 + (x 0).val) (x 1)) = f x
  rw [Nat.zero_add]
  exact congrArg f (ixR_eq x _ _ rfl rfl)

/-! ## The end -/

theorem set_recv : (Finset.univ : Finset (Fin 48)) = (Finset.univ.filter fun i : Fin 48 => 1 ≤ i.val ∧ i.val ≤ 15)
    ∪ ((Finset.univ.filter fun i : Fin 48 => 16 ≤ i.val ∧ i.val ≤ 30) ∪ ((Finset.univ.filter fun i : Fin 48 => 31 ≤ i.val ∧ i.val ≤ 46) ∪ {0, 47})) := by decide
theorem set_kept : (Finset.univ.filter fun i : Fin 48 => 16 ≤ i.val ∧ i.val ≤ 46)
    = (Finset.univ.filter fun i : Fin 48 => 16 ≤ i.val ∧ i.val ≤ 30) ∪ (Finset.univ.filter fun i : Fin 48 => 31 ≤ i.val ∧ i.val ≤ 46) := by decide
theorem set_send : (Finset.univ : Finset (Fin 48)) = (Finset.univ.filter fun i : Fin 48 => 16 ≤ i.val ∧ i.val ≤ 31)
    ∪ ((Finset.univ.filter fun i : Fin 48 => 32 ≤ i.val ∧ i.val ≤ 46) ∪ (Finset.univ.filter fun i : Fin 48 => i.val ≤ 15 ∨ i.val = 47)) := by decide
def nxt16 (i : Fin 48) : Fin 48 := ⟨(i.val + 16) % 48, Nat.mod_lt _ (by decide)⟩
theorem set_fwd : (Finset.univ.filter fun i : Fin 48 => 32 ≤ i.val ∧ i.val ≤ 46) = (Finset.univ.filter fun i : Fin 48 => 16 ≤ i.val ∧ i.val ≤ 30).image nxt16 := by decide

theorem uni {I : Type} [DecidableEq I] {s t : Finset I} (h : Disjoint s t) {f : I → sProp 𝕄} : bigSep (s ∪ t) f = iprop(bigSep s f ∗ bigSep t f) := bigSep_union h
theorem recv_all (f : Fin 48 → sProp 𝕄) : bigSep Finset.univ f = iprop(bigSep (Finset.univ.filter fun i : Fin 48 => 1 ≤ i.val ∧ i.val ≤ 15) f
    ∗ bigSep (Finset.univ.filter fun i : Fin 48 => 16 ≤ i.val ∧ i.val ≤ 30) f ∗ bigSep (Finset.univ.filter fun i : Fin 48 => 31 ≤ i.val ∧ i.val ≤ 46) f ∗ f 0 ∗ f 47) := by
  rw [show bigSep Finset.univ f = bigSep _ f from congrArg (bigSep · f) set_recv, uni (by decide), uni (by decide), uni (by decide), split_insert (by decide), bigSep_singleton]
theorem send_all (f : Fin 48 → sProp 𝕄) : bigSep Finset.univ f = iprop(bigSep (Finset.univ.filter fun i : Fin 48 => 16 ≤ i.val ∧ i.val ≤ 31) f
    ∗ bigSep (Finset.univ.filter fun i : Fin 48 => 16 ≤ i.val ∧ i.val ≤ 30) (fun i => f (nxt16 i)) ∗ bigSep (Finset.univ.filter fun i : Fin 48 => i.val ≤ 15 ∨ i.val = 47) f) := by
  rw [show bigSep Finset.univ f = bigSep _ f from congrArg (bigSep · f) set_send, uni (by decide), uni (by decide), set_fwd, bigSep_image_of_injOn]
  intro i hi i' hi' h
  have hi := (Finset.mem_filter.mp hi).2
  have hi' := (Finset.mem_filter.mp hi').2
  have h : (i.val + 16) % 48 = (i'.val + 16) % 48 := congrArg Fin.val h
  exact Fin.ext (by omega)

/-- The staging buffer whole. -/
theorem stage_all (c : Dev nD) : iprop(bigSep (Finset.univ.filter fun i : Fin 48 => 1 ≤ i.val ∧ i.val ≤ 15) (keptP m c) ∗ keptP m c 0 ∗ keptP m c 47)
    ⊢ sP c 0 496 fullShare (Sfin m c) := by
  have h0 : keptP m c 0 = sP c 0 128 fullShare (Sfin m c) := rfl
  have h47 : keptP m c 47 = sP c 128 128 fullShare (Sfin m c) := rfl
  have hk : bigSep (Finset.univ.filter fun i : Fin 48 => 1 ≤ i.val ∧ i.val ≤ 15) (keptP m c) = sP c 256 240 fullShare (Sfin m c) := kept_mid m c
  rw [h0, h47, hk, sP_split c 0 256 240, sP_split c 0 128 128]
  iintro ⟨H1, H2, H3⟩
  isplitr [H1]
  · isplitl [H2]; · iexact H2
    iexact H3
  iexact H1

theorem sendPay_of (c : Dev nD) (i : Fin 48) (h1 : 16 ≤ i.val) (h2 : i.val ≤ 46) : sendPay m c i = srcP m c i := by
  unfold sendPay; rw [if_neg (by rw [show toStage i = false from decide_eq_false (by omega)]; exact Bool.false_ne_true)]

theorem fwd_back (c : Dev nD) (i : Fin 48) (h1 : 16 ≤ i.val) (h2 : i.val ≤ 30) :
    iprop(keptP m c i ∗ sendPay m c (nxt16 i)) ⊢ rP c (keptLo c i) 16 fullShare (Cfin m) := by
  have hv : (nxt16 i).val = i.val + 16 := by show (i.val + 16) % 48 = _; omega
  have hst : toStage (nxt16 i) = false := decide_eq_false (by omega)
  have hs : srcP m c (nxt16 i) = rP c (keptLo c i) 16 (shT 0) (Cfin m) := by
    unfold srcP
    have e : nxt16 i = (⟨i.val + 16, by omega⟩ : Fin 48) := Fin.ext hv
    rw [(red_same m c hst).2, show nRows (nxt16 i) = 16 from if_neg (by omega),
      show srcQ (nxt16 i) = shT 0 from by
        unfold srcQ; rw [if_neg (by rw [hst]; exact Bool.false_ne_true), if_neg (by omega)], e, fwd_src c i h1 h2]
    congr 1
    unfold keptLo; rw [if_neg (by omega)]
  rw [kept_eq m c i h1 (by omega), if_pos h2, sendPay_of m c (nxt16 i) (by omega) (by omega), hs]
  unfold rP
  exact (pointsTo_share (PosShare.mem_left_op_right fullShare)).2

/-- The buffer of results whole. -/
theorem red_whole (c : Dev nD) : iprop((bigSep (Finset.univ.filter fun i : Fin 48 => 16 ≤ i.val ∧ i.val ≤ 30) (keptP m c)
      ∗ bigSep (Finset.univ.filter fun i : Fin 48 => 31 ≤ i.val ∧ i.val ≤ 46) (keptP m c)) ∗ bigSep Finset.univ (sendPay m c) ∗ rP c (own0 c) 16 (shD 16) (Cfin m))
    ⊢ rP c 0 512 fullShare (Cfin m) := by
  have ho : iprop(bigSep (Finset.univ.filter fun i : Fin 48 => 16 ≤ i.val ∧ i.val ≤ 31) (sendPay m c) ∗ rP c (own0 c) 16 (shD 16) (Cfin m)) ⊢ rP c (own0 c) 16 fullShare (Cfin m) := by
    have h := own_back m c
    rw [show (Finset.univ.filter fun i => tSrc c i = 70) = (Finset.univ.filter fun i : Fin 48 => 16 ≤ i.val ∧ i.val ≤ 31) from by
      ext i; rw [Finset.mem_filter, Finset.mem_filter, src_70]] at h
    rw [bigSep_congr (s := Finset.univ.filter fun i : Fin 48 => 16 ≤ i.val ∧ i.val ≤ 31) (Φ := sendPay m c) (Ψ := srcP m c)
      (fun i hi => sendPay_of m c i (Finset.mem_filter.mp hi).2.1 (by have := (Finset.mem_filter.mp hi).2.2; omega))]
    exact h
  have hf : iprop(bigSep (Finset.univ.filter fun i : Fin 48 => 16 ≤ i.val ∧ i.val ≤ 30) (keptP m c)
      ∗ bigSep (Finset.univ.filter fun i : Fin 48 => 16 ≤ i.val ∧ i.val ≤ 30) (fun i => sendPay m c (nxt16 i)))
      ⊢ bigSep (Finset.univ.filter fun i : Fin 48 => 16 ≤ i.val ∧ i.val ≤ 30) fun i => rP c (keptLo c i) 16 fullShare (Cfin m) := by
    rw [← bigSep_sep']
    exact mono_sep fun i hi => fwd_back m c i (Finset.mem_filter.mp hi).2.1 (Finset.mem_filter.mp hi).2.2
  have hl : bigSep (Finset.univ.filter fun i : Fin 48 => 31 ≤ i.val ∧ i.val ≤ 46) (keptP m c)
      = bigSep (Finset.univ.filter fun i : Fin 48 => 31 ≤ i.val ∧ i.val ≤ 46) fun i => rP c (keptLo c i) 16 fullShare (Cfin m) :=
    bigSep_congr fun i hi => by
      have hi := (Finset.mem_filter.mp hi).2
      rw [kept_eq m c i (by omega) hi.2, if_neg (by omega)]
  rw [red_all, set_kept, uni (by decide), send_all (sendPay m c), hl]
  iintro ⟨⟨H1, H2⟩, ⟨H3, H4, -⟩, H5⟩
  isplitl [H3 H5]
  · iapply ho
    isplitl [H3]; · iexact H3
    iexact H5
  isplitl [H1 H4]
  · iapply hf
    isplitl [H1]; · iexact H1
    iexact H4
  iexact H2

/-- What a device is left with: nothing owed, its cells closed, and its two buffers. -/
def endP (c : Dev nD) : sProp 𝕄 :=
  iprop((∃ W, owes (c : Thread nD τ) 0 W) ∗ semVal (barCell c) 0 ∗ (bigSep Finset.univ fun i : Fin 48 => semVal (sendCell c i) 0)
    ∗ (bigSep Finset.univ fun i : Fin 48 => semVal (recvCell c i) 0) ∗ (∃ f, rP c 0 512 fullShare f) ∗ (∃ f, sP c 0 496 fullShare f))

theorem St_end (c : Dev nD) : St m K c 181 ⊢ endP c := by
  have hs : fSnd m c 181 = iprop((bigSep Finset.univ fun i : Fin 48 => semVal (sendCell c i) 0) ∗ bigSep Finset.univ (sendPay m c)) := by
    unfold fSnd
    rw [← bigSep_sep']
    refine bigSep_congr fun i _ => ?_
    have h1 := (send_ge c i).2.1
    have h2 := (back_ge i).2
    unfold eSnd; rw [ph_gt (by omega), ph_gt (by omega)]
  have hr : fRcv m c 181 = iprop((bigSep Finset.univ fun i : Fin 48 => semVal (recvCell c i) 0) ∗ bigSep Finset.univ (keptP m c)) := by
    unfold fRcv
    rw [← bigSep_sep']
    refine bigSep_congr fun i _ => ?_
    have h1 := (recv_ge i).2
    unfold eRcv; rw [ph_gt (by omega)]
  have hb : eBar (F := F) c 181 = semVal (barCell c) 0 := ph_gt (by decide) _ _
  have ho : eOwn m c 181 = rP c (own0 c) 16 (shD 16) (Cfin m) := by
    unfold eOwn; rw [ph_gt (by have := own_ge c; omega), ph_gt (by omega)]
  unfold St owesP endP
  rw [hs, hr, hb, ho, owed_end c 181 (by decide), recv_all (keptP m c)]
  iintro ⟨-, -, HO, -, Hb, ⟨Hs, Hp⟩, ⟨Hr, H1, H2, H3, H4, H5⟩, -, -, Ho⟩
  isplitl [HO]; · iexact HO
  isplitl [Hb]; · iexact Hb
  isplitl [Hs]; · iexact Hs
  isplitl [Hr]; · iexact Hr
  isplitl [H2 H3 Hp Ho]
  · iexists _
    iapply (red_whole m c)
    isplitl [H2 H3]
    · isplitl [H2]; · iexact H2
      iexact H3
    isplitl [Hp]; · iexact Hp
    iexact Ho
  iexists _
  iapply (stage_all m c)
  isplitl [H1]; · iexact H1
  isplitl [H4]; · iexact H4
  iexact H5

end Cert.Proof
-- ==== Proof.StepsA.lean ====
/-
The steps of the body up to the meeting of the devices.
-/
module

public import proofs.«01_k».proof.Proof.Whole

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

local notation "𝕄" => MT nD τ sig Unit (Elt F) ℕ UU ℕ

variable (m : (ℓ : Loc nD τ sig) → Buf (Elt F) ℓ) (K : Dev nD × Fin 97 → ℕ)

theorem x_whole : (xM : Memref sig .tc .vmem S512x256 .f32).IsWhole := Memref.isWhole_whole _
theorem t_whole : (tM : Memref sig .tc .vmem S512x1 .i32).IsWhole := Memref.isWhole_whole _
theorem w_whole : (wM : Memref sig .tc .vmem S2x256x512 .f32).IsWhole := Memref.isWhole_whole _
theorem o_whole : (oM : Memref sig .tc .vmem S512x512 .f32).IsWhole := Memref.isWhole_whole _
theorem r_whole : (rM : Memref sig .tc .vmem S512x512 .bf16).IsWhole := Memref.isWhole_whole _
theorem g_whole : (gM : Memref sig .tc .vmem S496x512 .bf16).IsWhole := Memref.isWhole_whole _

/-- The window of the result, before and after. -/
def Oany (c : Dev nD) : sProp 𝕄 := iprop(∃ f : Buf (Elt F) ((c : Thread nD τ).loc cc0_stg3_0), ((c : Thread nD τ).loc cc0_stg3_0 ↦{fullShare} f))
def Out (c : Dev nD) : sProp 𝕄 := iprop((c : Thread nD τ).loc cc0_stg3_0 ↦{fullShare} outv m)

theorem step_dev (c : Dev nD) {α : Type} {X : sProp 𝕄} {k : Dev nD → Prog (TpuEff nD τ sig (Elt F) Λ₀ .tc) α} {Q : α → sProp 𝕄} (h : X ⊢ WP c (k c) Q) :
    X ⊢ WP c (.op .deviceId k) Q := by
  show X ⊢ wp _ _ _ (.op .deviceId k) _
  rw [wp_deviceId]
  exact h

theorem off46_31 (c : Dev nD) : k0_off46 c = ![srcLo c 31, 0] := by
  have h : srcLo c 31 = own0 c := by
    show fw0 c 0 = own0 c
    unfold fw0 own0 blk; rw [Nat.add_zero, Nat.mod_mod]
  rw [off46_eq c, h]

/-- A conditional send that is not this device's. -/
theorem skip (c : Dev nD) (o : Fin 48) (h1 : 1 ≤ o.val) (h2 : o.val ≤ 15) (j : ℕ) (hj : j = 22 + o.val ∨ j = 39 + o.val) (ho : tSend c o ≠ j) {E : sProp 𝕄} {α : Type}
    {R : Prog (TpuEff nD τ sig (Elt F) Λ₀ .tc) α} {Q : α → sProp 𝕄} (h : iprop(St m K c (j + 1) ∗ E) ⊢ WP c R Q) :
    iprop(St m K c j ∗ E) ⊢ WP c R Q := by
  rw [St_skip m K c o h1 h2 j hj ho]; exact h

/-- A conditional, with what follows it on either side. -/
theorem step_ite (c : Dev nD) {α : Type} {X X' : sProp 𝕄} {p : Prop} [Decidable p] {A : p → Prog (TpuEff nD τ sig (Elt F) Λ₀ .tc) α} {B : ¬ p → Prog (TpuEff nD τ sig (Elt F) Λ₀ .tc) α}
    {R : Prog (TpuEff nD τ sig (Elt F) Λ₀ .tc) α} {Q : α → sProp 𝕄}
    (hB : ∀ h, (X' ⊢ WP c R Q) → (X ⊢ WP c (B h) Q)) (hA : ∀ h, (X' ⊢ WP c R Q) → (X ⊢ WP c (A h) Q)) (hk : X' ⊢ WP c R Q) : X ⊢ WP c (dite p A B) Q := by
  by_cases h : p
  · rw [dif_pos h]; exact hA h hk
  · rw [dif_neg h]; exact hB h hk

theorem stor_o (c : Dev nD) (f : Buf (Elt F) ((c : Thread nD τ).loc cc0_stg3_0)) {α : Type}
    {inb : ∀ x, (![0, 0] : Fin 2 → ℕ) x + S512x512.size x ≤ S512x512.size x} {hx hm} {k : PUnit → Prog (TpuEff nD τ sig (Elt F) Λ₀ .tc) α} {Q : α → sProp 𝕄} :
    ((c : Thread nD τ).loc cc0_stg3_0 ↦{fullShare} f) ⊢ iprop((((c : Thread nD τ).loc cc0_stg3_0 ↦{fullShare} outv m) -∗ WP c (k ⟨⟩) Q)
      -∗ WP c (.op (.store oM (Rect.unit (s := S512x512) ![0, 0] S512x512.size inb) (k0_pay8 (takeR 0 512 (Cfin m))) Finset.univ hx hm) k) Q) := by
  have hz : (![0, 0] : Fin 2 → ℕ) = fun _ => 0 := funext fun i => by fin_cases i <;> rfl
  have h := wp_store (defs := defs₀ (F := F)) (Γ := .empty) 𝒱₀ (c : Thread nD τ) none Set.univ (Q := Q) (m := oM) (r := Rect.unit (s := S512x512) ![0, 0] S512x512.size inb)
    (w := k0_pay8 (takeR 0 512 (Cfin m))) (Mk := Finset.univ) (hx := hx) (hm := hm) (k := k) (S := Finset.univ) (f := f) (Finset.subset_univ _)
  have e : ((oM : Memref sig .tc .vmem S512x512 .f32).access (Rect.unit (s := S512x512) ![0, 0] S512x512.size inb)).write (Elt F) f (k0_pay8 (takeR 0 512 (Cfin m))) Finset.univ = outv m :=
    (Memref.write_access_unit_zero_univ (Elt F) cc0_stg3_0 hz inb f _).trans (congrArg k0_pay8 (take_all (Cfin m)))
  rw [e] at h
  exact h

theorem part1 (c : Dev nD) (X : sProp 𝕄) : X ⊢ WP c (k0_part1 (F := F) xM x_whole tM t_whole wM w_whole oM o_whole rM r_whole gM g_whole cc0_scratch2 cc0_scratch3 ) fun r => iprop(⌜r.1 = c ∧ r.2.1 = v2w c⌝ ∗ X) := by
  rw [k0_part1_eq_skeleton]
  refine step_dev c ?_
  exact done' c ⟨rfl, rfl⟩ (Entails.refl _)

theorem part2 (c : Dev nD) (X : sProp 𝕄) (p1 p2 p3 p4 p5 p6 : BitVec 32) (p7 : BitVec 1) : X ⊢ WP c (k0_part2 (F := F) xM x_whole tM t_whole wM w_whole oM o_whole rM r_whole gM g_whole cc0_scratch2 cc0_scratch3 p1 p2 p3 p4 p5 p6 p7) fun _ => X := by
  rw [k0_part2_eq_skeleton]; exact done c (Entails.refl _)

theorem part3 (c : Dev nD) (E : sProp 𝕄) (p1 p2 p3 p4 p5 p6 : BitVec 32) : iprop(St m K c 0 ∗ E)
    ⊢ WP c (k0_part3 (F := F) xM x_whole tM t_whole wM w_whole oM o_whole rM r_whole gM g_whole cc0_scratch2 cc0_scratch3 c p1 p2 p3 p4 p5 p6) fun r => iprop(⌜r.2.1 = SemArray.scalar (sig.barrier 0 rfl)⌝ ∗ (St m K c 1 ∗ E)) := by
  rw [k0_part3_eq_skeleton]
  refine step_signal m K c 0 _ (Fin.ext (dev1_eq c)) ?_
  exact done' c rfl (Entails.refl _)

theorem part4 (c : Dev nD) (E : sProp 𝕄) (p1 p2 p3 p4 : BitVec 32) : iprop(St m K c 1 ∗ E)
    ⊢ WP c (k0_part4 (F := F) xM x_whole tM t_whole wM w_whole oM o_whole rM r_whole gM g_whole cc0_scratch2 cc0_scratch3 c p1 p2 (SemArray.scalar (sig.barrier 0 rfl)) p3 p4) fun _ => iprop(St m K c 2 ∗ E) := by
  rw [k0_part4_eq_skeleton]
  refine step_signal m K c 1 _ (Fin.ext (dev2_eq c)) ?_
  exact done c (Entails.refl _)

theorem part5 (c : Dev nD) (X : sProp 𝕄) (p1 p2 : BitVec 32) (p3 p4 : BitVec 1) : X ⊢ WP c (k0_part5 (F := F) xM x_whole tM t_whole wM w_whole oM o_whole rM r_whole gM g_whole cc0_scratch2 cc0_scratch3 p1 p2 p3 p4) fun _ => X := by
  rw [k0_part5_eq_skeleton]; exact done c (Entails.refl _)

theorem part6 (c : Dev nD) (E : sProp 𝕄) (p1 p2 p3 p4 p5 : BitVec 32) (p6 p7 p8 : BitVec 1) : iprop(St m K c 2 ∗ E)
    ⊢ WP c (k0_part6 (F := F) xM x_whole tM t_whole wM w_whole oM o_whole rM r_whole gM g_whole cc0_scratch2 cc0_scratch3 c p1 p2 (SemArray.scalar (sig.barrier 0 rfl)) p3 p4 p5 p6 p7 p8) fun _ => iprop(St m K c 3 ∗ E) := by
  rw [k0_part6_eq_skeleton]
  refine step_signal m K c 2 _ (Fin.ext (dev3_eq c)) ?_
  exact done c (Entails.refl _)

theorem part7 (c : Dev nD) (E : sProp 𝕄) (p1 p2 p3 p4 p5 : BitVec 32) : iprop(St m K c 3 ∗ E)
    ⊢ WP c (k0_part7 (F := F) xM x_whole tM t_whole wM w_whole oM o_whole rM r_whole gM g_whole cc0_scratch2 cc0_scratch3 c p1 p2 (SemArray.scalar (sig.barrier 0 rfl)) p3 p4 p5) fun _ => iprop(St m K c 4 ∗ E) := by
  rw [k0_part7_eq_skeleton]
  refine step_signal m K c 3 _ (Fin.ext (dev4_eq c)) ?_
  exact done c (Entails.refl _)

theorem part8 (c : Dev nD) (X : sProp 𝕄) (p1 p2 p3 p4 p5 : BitVec 32) : X ⊢ WP c (k0_part8 (F := F) xM x_whole tM t_whole wM w_whole oM o_whole rM r_whole gM g_whole cc0_scratch2 cc0_scratch3 p1 p2 p3 p4 p5) fun _ => X := by
  rw [k0_part8_eq_skeleton]; exact done c (Entails.refl _)

theorem part9 (c : Dev nD) (E : sProp 𝕄) (p1 p2 : BitVec 32) : iprop(St m K c 4 ∗ E)
    ⊢ WP c (k0_part9 (F := F) xM x_whole tM t_whole wM w_whole oM o_whole rM r_whole gM g_whole cc0_scratch2 cc0_scratch3 c p1 (SemArray.scalar (sig.barrier 0 rfl)) p2) fun _ => iprop(St m K c 5 ∗ E) := by
  rw [k0_part9_eq_skeleton]
  refine step_signal m K c 4 _ (Fin.ext (dev5_eq c)) ?_
  exact done c (Entails.refl _)

theorem part10 (c : Dev nD) (E : sProp 𝕄) (p1 p2 p3 p4 p5 : BitVec 32) (p6 p7 p8 : BitVec 1) : iprop(St m K c 5 ∗ E)
    ⊢ WP c (k0_part10 (F := F) xM x_whole tM t_whole wM w_whole oM o_whole rM r_whole gM g_whole cc0_scratch2 cc0_scratch3 c p1 p2 (SemArray.scalar (sig.barrier 0 rfl)) p3 p4 p5 p6 p7 p8) fun _ => iprop(St m K c 6 ∗ E) := by
  rw [k0_part10_eq_skeleton]
  refine step_signal m K c 5 _ (Fin.ext (dev6_eq c)) ?_
  exact done c (Entails.refl _)

theorem part11 (c : Dev nD) (E : sProp 𝕄) (p1 p2 p3 p4 p5 : BitVec 32) : iprop(St m K c 6 ∗ E)
    ⊢ WP c (k0_part11 (F := F) xM x_whole tM t_whole wM w_whole oM o_whole rM r_whole gM g_whole cc0_scratch2 cc0_scratch3 c p1 (SemArray.scalar (sig.barrier 0 rfl)) p2 p3 p4 p5) fun _ => iprop(St m K c 7 ∗ E) := by
  rw [k0_part11_eq_skeleton]
  refine step_signal m K c 6 _ (Fin.ext (dev7_eq c)) ?_
  exact done c (Entails.refl _)

theorem part12 (c : Dev nD) (X : sProp 𝕄) (p1 : BitVec 32) : X ⊢ WP c (k0_part12 (F := F) xM x_whole tM t_whole wM w_whole oM o_whole rM r_whole gM g_whole cc0_scratch2 cc0_scratch3 p1) fun _ => X := by
  rw [k0_part12_eq_skeleton]; exact done c (Entails.refl _)

theorem part13 (c : Dev nD) (E : sProp 𝕄) (p1 p2 p3 p4 : BitVec 32) : iprop(St m K c 7 ∗ E)
    ⊢ WP c (k0_part13 (F := F) xM x_whole tM t_whole wM w_whole oM o_whole rM r_whole gM g_whole cc0_scratch2 cc0_scratch3 c p1 p2 (SemArray.scalar (sig.barrier 0 rfl)) p3 p4) fun _ => iprop(St m K c 8 ∗ E) := by
  rw [k0_part13_eq_skeleton]
  refine step_signal m K c 7 _ (Fin.ext (dev8_eq c)) ?_
  exact done c (Entails.refl _)

theorem part14 (c : Dev nD) (E : sProp 𝕄) (p1 p2 p3 p4 p5 p6 p7 p8 : BitVec 32) : iprop(St m K c 8 ∗ E)
    ⊢ WP c (k0_part14 (F := F) xM x_whole tM t_whole wM w_whole oM o_whole rM r_whole gM g_whole cc0_scratch2 cc0_scratch3 c p1 p2 (SemArray.scalar (sig.barrier 0 rfl)) p3 p4 p5 p6 p7 p8) fun _ => iprop(St m K c 9 ∗ E) := by
  rw [k0_part14_eq_skeleton]
  refine step_signal m K c 8 _ (Fin.ext (dev9_eq c)) ?_
  exact done c (Entails.refl _)

theorem part15 (c : Dev nD) (X : sProp 𝕄) (p1 p2 : BitVec 32) (p3 : BitVec 1) (p4 : BitVec 32) : X ⊢ WP c (k0_part15 (F := F) xM x_whole tM t_whole wM w_whole oM o_whole rM r_whole gM g_whole cc0_scratch2 cc0_scratch3 p1 p2 p3 p4) fun _ => X := by
  rw [k0_part15_eq_skeleton]; exact done c (Entails.refl _)

theorem part16 (c : Dev nD) (E : sProp 𝕄) (p1 p2 p3 p4 p5 : BitVec 32) (p6 : BitVec 1) : iprop(St m K c 9 ∗ E)
    ⊢ WP c (k0_part16 (F := F) xM x_whole tM t_whole wM w_whole oM o_whole rM r_whole gM g_whole cc0_scratch2 cc0_scratch3 c p1 p2 (SemArray.scalar (sig.barrier 0 rfl)) p3 p4 p5 p6) fun _ => iprop(St m K c 10 ∗ E) := by
  rw [k0_part16_eq_skeleton]
  refine step_signal m K c 9 _ (Fin.ext (dev10_eq c)) ?_
  exact done c (Entails.refl _)

theorem part17 (c : Dev nD) (E : sProp 𝕄) (p1 p2 p3 p4 : BitVec 32) (p5 : BitVec 1) : iprop(St m K c 10 ∗ E)
    ⊢ WP c (k0_part17 (F := F) xM x_whole tM t_whole wM w_whole oM o_whole rM r_whole gM g_whole cc0_scratch2 cc0_scratch3 c p1 p2 (SemArray.scalar (sig.barrier 0 rfl)) p3 p4 p5) fun _ => iprop(St m K c 11 ∗ E) := by
  rw [k0_part17_eq_skeleton]
  refine step_signal m K c 10 _ (Fin.ext (dev11_eq c)) ?_
  exact done c (Entails.refl _)

theorem part18 (c : Dev nD) (X : sProp 𝕄) (p1 p2 : BitVec 32) (p3 p4 : BitVec 1) : X ⊢ WP c (k0_part18 (F := F) xM x_whole tM t_whole wM w_whole oM o_whole rM r_whole gM g_whole cc0_scratch2 cc0_scratch3 p1 p2 p3 p4) fun _ => X := by
  rw [k0_part18_eq_skeleton]; exact done c (Entails.refl _)

theorem part19 (c : Dev nD) (E : sProp 𝕄) (p1 p2 p3 p4 p5 : BitVec 32) (p6 : BitVec 1) (p7 : BitVec 32) : iprop(St m K c 11 ∗ E)
    ⊢ WP c (k0_part19 (F := F) xM x_whole tM t_whole wM w_whole oM o_whole rM r_whole gM g_whole cc0_scratch2 cc0_scratch3 c p1 p2 (SemArray.scalar (sig.barrier 0 rfl)) p3 p4 p5 p6 p7) fun _ => iprop(St m K c 12 ∗ E) := by
  rw [k0_part19_eq_skeleton]
  refine step_signal m K c 11 _ (Fin.ext (dev12_eq c)) ?_
  exact done c (Entails.refl _)

theorem part20 (c : Dev nD) (E : sProp 𝕄) (p1 p2 p3 p4 p5 : BitVec 32) (p6 : BitVec 1) : iprop(St m K c 12 ∗ E)
    ⊢ WP c (k0_part20 (F := F) xM x_whole tM t_whole wM w_whole oM o_whole rM r_whole gM g_whole cc0_scratch2 cc0_scratch3 c p1 p2 (SemArray.scalar (sig.barrier 0 rfl)) p3 p4 p5 p6) fun _ => iprop(St m K c 13 ∗ E) := by
  rw [k0_part20_eq_skeleton]
  refine step_signal m K c 12 _ (Fin.ext (dev13_eq c)) ?_
  exact done c (Entails.refl _)

theorem part21 (c : Dev nD) (X : sProp 𝕄) (p1 : BitVec 32) : X ⊢ WP c (k0_part21 (F := F) xM x_whole tM t_whole wM w_whole oM o_whole rM r_whole gM g_whole cc0_scratch2 cc0_scratch3 p1) fun _ => X := by
  rw [k0_part21_eq_skeleton]; exact done c (Entails.refl _)

theorem part22 (c : Dev nD) (E : sProp 𝕄) (p1 p2 p3 p4 : BitVec 32) (p5 : BitVec 1) (p6 : BitVec 32) : iprop(St m K c 13 ∗ E)
    ⊢ WP c (k0_part22 (F := F) xM x_whole tM t_whole wM w_whole oM o_whole rM r_whole gM g_whole cc0_scratch2 cc0_scratch3 c p1 p2 (SemArray.scalar (sig.barrier 0 rfl)) p3 p4 p5 p6) fun _ => iprop(St m K c 14 ∗ E) := by
  rw [k0_part22_eq_skeleton]
  refine step_signal m K c 13 _ (Fin.ext (dev14_eq c)) ?_
  exact done c (Entails.refl _)

theorem part23 (c : Dev nD) (E : sProp 𝕄) (p1 p2 p3 p4 p5 : BitVec 32) (p6 : BitVec 1) (p7 : BitVec 32) : iprop(St m K c 14 ∗ E)
    ⊢ WP c (k0_part23 (F := F) xM x_whole tM t_whole wM w_whole oM o_whole rM r_whole gM g_whole cc0_scratch2 cc0_scratch3 c p1 p2 (SemArray.scalar (sig.barrier 0 rfl)) p3 p4 p5 p6 p7) fun _ => iprop(St m K c 15 ∗ E) := by
  rw [k0_part23_eq_skeleton]
  refine step_signal m K c 14 _ (Fin.ext (dev15_eq c)) ?_
  exact done c (Entails.refl _)

theorem part24 (c : Dev nD) (X : sProp 𝕄) (p1 p2 p3 p4 p5 p6 : BitVec 32) : X ⊢ WP c (k0_part24 (F := F) xM x_whole tM t_whole wM w_whole oM o_whole rM r_whole gM g_whole cc0_scratch2 cc0_scratch3 p1 p2 p3 p4 p5 p6) fun _ => X := by
  rw [k0_part24_eq_skeleton]; exact done c (Entails.refl _)

theorem part25 (c : Dev nD) (E : sProp 𝕄) (p1 p2 : BitVec 32) : iprop(St m K c 15 ∗ (Win m c ∗ rAny c (send0 c) 128 ∗ E))
    ⊢ WP c (k0_part25 (F := F) xM x_whole tM t_whole wM w_whole oM o_whole rM r_whole gM g_whole cc0_scratch2 cc0_scratch3 c (v2w c) p1 (SemArray.scalar (sig.barrier 0 rfl)) p2) fun r => iprop(⌜r.1 = v914w c⌝ ∗ (St m K c 18 ∗ (Win m c ∗ E))) := by
  rw [k0_part25_eq_skeleton]
  refine step_signal m K c 15 _ (Fin.ext (dev16_eq c)) ?_
  unfold Win rAny
  iintro ⟨HS, ⟨Hx, Ht, Hw⟩, ⟨%f, Hr⟩, HE⟩
  iapply (wp_load 𝒱₀ (c : Thread nD τ) none Set.univ (m := xM) (Finset.subset_univ _)) $$ Hx; iintro Hx
  iapply (wp_load 𝒱₀ (c : Thread nD τ) none Set.univ (m := tM) (Finset.subset_univ _)) $$ Ht; iintro Ht
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (ld_r c (n := 128) (off3_eq c)) $$ Hr; iintro Hr
  iapply (stor_r c (n := 128) (off3_eq c) (Afin m c) (put_a1 m c f)) $$ Hr; iintro Hr
  iapply (step_bar m K c (E := iprop(Win m c ∗ rP c (send0 c) 128 fullShare (Afin m c) ∗ E)) ?_)
  · unfold Win
    iintro ⟨HS, HW, Hr, HE⟩
    ihave HS := (grant17 m K c) $$ [HS Hr]
    · isplitl [HS]; · iexact HS
      iexact Hr
    iapply (done' c rfl (Entails.refl _))
    isplitl [HS]; · iexact HS
    isplitl [HW]; · iexact HW
    iexact HE
  isplitl [HS]; · iexact HS
  unfold Win
  isplitl [Hx Ht Hw]
  · isplitl [Hx]; · iexact Hx
    isplitl [Ht]; · iexact Ht
    iexact Hw
  isplitl [Hr]; · iexact Hr
  iexact HE

end Cert.Proof
-- ==== Proof.StepsB.lean ====
/-
The steps of the body that pass the first half of the partial sums.
-/
module

public import proofs.«01_k».proof.Proof.StepsA

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

local notation "𝕄" => MT nD τ sig Unit (Elt F) ℕ UU ℕ

variable (m : (ℓ : Loc nD τ sig) → Buf (Elt F) ℓ) (K : Dev nD × Fin 97 → ℕ)

theorem part26 (c : Dev nD) (E : sProp 𝕄) (p1 p2 : BitVec 32) : iprop(St m K c 18 ∗ (Win m c ∗ rAny c (send0 c + 128) 128 ∗ E))
    ⊢ WP c (k0_part26 (F := F) xM x_whole tM t_whole wM w_whole oM o_whole rM r_whole gM g_whole cc0_scratch2 cc0_scratch3 c p1 (v914w c) p2) fun _ => iprop(St m K c 20 ∗ (Win m c ∗ E)) := by
  rw [k0_part26_eq_skeleton]
  refine step_sendG m K c 0 rfl 128 rfl 18 rfl (off4_eq c) rfl _ _ _ (Fin.ext (dev17_eq c)) _ _ rfl rfl ?_
  unfold Win rAny
  iintro ⟨HS, ⟨Hx, Ht, Hw⟩, ⟨%f, Hr⟩, HE⟩
  iapply (wp_load 𝒱₀ (c : Thread nD τ) none Set.univ (m := xM) (Finset.subset_univ _)) $$ Hx; iintro Hx
  iapply (wp_load 𝒱₀ (c : Thread nD τ) none Set.univ (m := tM) (Finset.subset_univ _)) $$ Ht; iintro Ht
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (ld_r c (n := 128) (off7_eq c)) $$ Hr; iintro Hr
  iapply (stor_r c (n := 128) (off7_eq c) (Afin m c) (put_a2 m c f)) $$ Hr; iintro Hr
  ihave HS := (grant19 m K c) $$ [HS Hr]
  · isplitl [HS]; · iexact HS
    iexact Hr
  iapply (done c (Entails.refl _))
  isplitl [HS]; · iexact HS
  isplitl [Hx Ht Hw]
  · isplitl [Hx]; · iexact Hx
    isplitl [Ht]; · iexact Ht
    iexact Hw
  iexact HE

theorem part27 (c : Dev nD) (E : sProp 𝕄) (p1 p2 p3 : BitVec 32) : iprop(St m K c 20 ∗ (Win m c ∗ rAny c (col0 c) 256 ∗ E))
    ⊢ WP c (k0_part27 (F := F) xM x_whole tM t_whole wM w_whole oM o_whole rM r_whole gM g_whole cc0_scratch2 cc0_scratch3 c p1 (v914w c) p2 p3) fun r => iprop(⌜r = a3 m c⌝ ∗ (St m K c 21 ∗ (rAny c (col0 c) 256 ∗ (Win m c ∗ E)))) := by
  rw [k0_part27_eq_skeleton]
  refine step_sendG m K c 47 rfl 128 rfl 20 rfl (off8_eq c) rfl _ _ _ (Fin.ext (dev18_eq c)) _ _ rfl rfl ?_
  unfold Win rAny
  iintro ⟨HS, ⟨Hx, Ht, Hw⟩, ⟨%f, Hr⟩, HE⟩
  iapply (wp_load 𝒱₀ (c : Thread nD τ) none Set.univ (m := xM) (Finset.subset_univ _)) $$ Hx; iintro Hx
  iapply (wp_load 𝒱₀ (c : Thread nD τ) none Set.univ (m := tM) (Finset.subset_univ _)) $$ Ht; iintro Ht
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (ld_r c (n := 256) (off11_eq c)) $$ Hr; iintro Hr
  iapply (done' c rfl (Entails.refl _))
  isplitl [HS]; · iexact HS
  isplitl [Hr]; · iexists f; iexact Hr
  isplitl [Hx Ht Hw]
  · isplitl [Hx]; · iexact Hx
    isplitl [Ht]; · iexact Ht
    iexact Hw
  iexact HE

theorem part28 (c : Dev nD) (E : sProp 𝕄) (p1 p2 : BitVec 32) : iprop(St m K c 21 ∗ (rAny c (col0 c) 256 ∗ E))
    ⊢ WP c (k0_part28 (F := F) xM x_whole tM t_whole wM w_whole oM o_whole rM r_whole gM g_whole cc0_scratch2 cc0_scratch3 c p1 p2 (a3 m c)) fun _ => iprop(St m K c 21 ∗ (rP c (col0 c) 128 fullShare (Afin m c) ∗ rP c (col0 c + 128) 128 fullShare (Afin m c) ∗ E)) := by
  rw [k0_part28_eq_skeleton]
  unfold rAny
  iintro ⟨HS, ⟨%f, Hr⟩, HE⟩
  iapply (stor_r c (n := 256) (off11_eq c) (Afin m c) (put_a3 m c f)) $$ Hr; iintro Hr
  ihave Hr := (Entails.of_eq (rP_split c (col0 c) 128 128 fullShare (Afin m c))) $$ Hr
  icases Hr with ⟨Hr, Hr'⟩
  iapply (done c (Entails.refl _))
  isplitl [HS]; · iexact HS
  isplitl [Hr]; · iexact Hr
  isplitl [Hr']; · iexact Hr'
  iexact HE

theorem part29 (c : Dev nD) (X : sProp 𝕄) (p1 p2 p3 p4 p5 p6 : BitVec 32) (p7 p8 : BitVec 1) : X ⊢ WP c (k0_part29 (F := F) xM x_whole tM t_whole wM w_whole oM o_whole rM r_whole gM g_whole cc0_scratch2 cc0_scratch3 p1 p2 p3 p4 p5 p6 p7 p8) fun _ => X := by
  rw [k0_part29_eq_skeleton]; exact done c (Entails.refl _)

theorem part30 (c : Dev nD) (X : sProp 𝕄) (p1 p2 p3 p4 p5 p6 p7 : BitVec 32) : X ⊢ WP c (k0_part30 (F := F) xM x_whole tM t_whole wM w_whole oM o_whole rM r_whole gM g_whole cc0_scratch2 cc0_scratch3 p1 p2 p3 p4 p5 p6 p7) fun _ => X := by
  rw [k0_part30_eq_skeleton]; exact done c (Entails.refl _)

theorem part31 (c : Dev nD) (X : sProp 𝕄) (p1 p2 p3 : BitVec 32) : X ⊢ WP c (k0_part31 (F := F) xM x_whole tM t_whole wM w_whole oM o_whole rM r_whole gM g_whole cc0_scratch2 cc0_scratch3 p1 p2 p3) fun _ => X := by
  rw [k0_part31_eq_skeleton]; exact done c (Entails.refl _)

theorem part32 (c : Dev nD) (X : sProp 𝕄) (p1 p2 p3 p4 p5 p6 : BitVec 32) : X ⊢ WP c (k0_part32 (F := F) xM x_whole tM t_whole wM w_whole oM o_whole rM r_whole gM g_whole cc0_scratch2 cc0_scratch3 p1 p2 p3 p4 p5 p6) fun _ => X := by
  rw [k0_part32_eq_skeleton]; exact done c (Entails.refl _)

theorem part33 (c : Dev nD) (X : sProp 𝕄) (p1 p2 p3 p4 : BitVec 32) (p5 : BitVec 1) (p6 : BitVec 32) : X ⊢ WP c (k0_part33 (F := F) xM x_whole tM t_whole wM w_whole oM o_whole rM r_whole gM g_whole cc0_scratch2 cc0_scratch3 p1 p2 p3 p4 p5 p6) fun _ => X := by
  rw [k0_part33_eq_skeleton]; exact done c (Entails.refl _)

theorem part34 (c : Dev nD) (X : sProp 𝕄) (p1 p2 p3 : BitVec 32) : X ⊢ WP c (k0_part34 (F := F) xM x_whole tM t_whole wM w_whole oM o_whole rM r_whole gM g_whole cc0_scratch2 cc0_scratch3 p1 p2 p3) fun _ => X := by
  rw [k0_part34_eq_skeleton]; exact done c (Entails.refl _)

theorem part35 (c : Dev nD) (X : sProp 𝕄) (p1 p2 p3 p4 p5 p6 : BitVec 32) (p7 p8 : BitVec 1) : X ⊢ WP c (k0_part35 (F := F) xM x_whole tM t_whole wM w_whole oM o_whole rM r_whole gM g_whole cc0_scratch2 cc0_scratch3 p1 p2 p3 p4 p5 p6 p7 p8) fun _ => X := by
  rw [k0_part35_eq_skeleton]; exact done c (Entails.refl _)

theorem part36 (c : Dev nD) (X : sProp 𝕄) (p1 p2 p3 p4 p5 p6 : BitVec 32) (p7 p8 : BitVec 1) : X ⊢ WP c (k0_part36 (F := F) xM x_whole tM t_whole wM w_whole oM o_whole rM r_whole gM g_whole cc0_scratch2 cc0_scratch3 p1 p2 p3 p4 p5 p6 p7 p8) fun _ => X := by
  rw [k0_part36_eq_skeleton]; exact done c (Entails.refl _)

theorem part37 (c : Dev nD) (X : sProp 𝕄) (p1 p2 p3 p4 p5 p6 p7 : BitVec 32) : X ⊢ WP c (k0_part37 (F := F) xM x_whole tM t_whole wM w_whole oM o_whole rM r_whole gM g_whole cc0_scratch2 cc0_scratch3 p1 p2 p3 p4 p5 p6 p7) fun _ => X := by
  rw [k0_part37_eq_skeleton]; exact done c (Entails.refl _)

theorem part38 (c : Dev nD) (X : sProp 𝕄) (p1 p2 p3 : BitVec 32) : X ⊢ WP c (k0_part38 (F := F) xM x_whole tM t_whole wM w_whole oM o_whole rM r_whole gM g_whole cc0_scratch2 cc0_scratch3 p1 p2 p3) fun _ => X := by
  rw [k0_part38_eq_skeleton]; exact done c (Entails.refl _)

theorem part39 (c : Dev nD) (X : sProp 𝕄) (p1 p2 p3 p4 p5 p6 : BitVec 32) : X ⊢ WP c (k0_part39 (F := F) xM x_whole tM t_whole wM w_whole oM o_whole rM r_whole gM g_whole cc0_scratch2 cc0_scratch3 p1 p2 p3 p4 p5 p6) fun _ => X := by
  rw [k0_part39_eq_skeleton]; exact done c (Entails.refl _)

theorem part40 (c : Dev nD) (X : sProp 𝕄) (p1 p2 p3 p4 : BitVec 32) (p5 : BitVec 1) (p6 : BitVec 32) : X ⊢ WP c (k0_part40 (F := F) xM x_whole tM t_whole wM w_whole oM o_whole rM r_whole gM g_whole cc0_scratch2 cc0_scratch3 p1 p2 p3 p4 p5 p6) fun _ => X := by
  rw [k0_part40_eq_skeleton]; exact done c (Entails.refl _)

theorem part41 (c : Dev nD) (X : sProp 𝕄) (p1 p2 p3 : BitVec 32) : X ⊢ WP c (k0_part41 (F := F) xM x_whole tM t_whole wM w_whole oM o_whole rM r_whole gM g_whole cc0_scratch2 cc0_scratch3 p1 p2 p3) fun _ => X := by
  rw [k0_part41_eq_skeleton]; exact done c (Entails.refl _)

theorem part42 (c : Dev nD) (X : sProp 𝕄) (p1 p2 p3 p4 p5 p6 : BitVec 32) (p7 p8 : BitVec 1) : X ⊢ WP c (k0_part42 (F := F) xM x_whole tM t_whole wM w_whole oM o_whole rM r_whole gM g_whole cc0_scratch2 cc0_scratch3 p1 p2 p3 p4 p5 p6 p7 p8) fun _ => X := by
  rw [k0_part42_eq_skeleton]; exact done c (Entails.refl _)

theorem part43 (c : Dev nD) (X : sProp 𝕄) (p1 p2 p3 p4 p5 p6 : BitVec 32) (p7 p8 : BitVec 1) : X ⊢ WP c (k0_part43 (F := F) xM x_whole tM t_whole wM w_whole oM o_whole rM r_whole gM g_whole cc0_scratch2 cc0_scratch3 p1 p2 p3 p4 p5 p6 p7 p8) fun _ => X := by
  rw [k0_part43_eq_skeleton]; exact done c (Entails.refl _)

theorem part44 (c : Dev nD) (X : sProp 𝕄) (p1 p2 p3 p4 p5 p6 p7 : BitVec 32) : X ⊢ WP c (k0_part44 (F := F) xM x_whole tM t_whole wM w_whole oM o_whole rM r_whole gM g_whole cc0_scratch2 cc0_scratch3 p1 p2 p3 p4 p5 p6 p7) fun _ => X := by
  rw [k0_part44_eq_skeleton]; exact done c (Entails.refl _)

theorem part45 (c : Dev nD) (X : sProp 𝕄) (p1 p2 p3 : BitVec 32) : X ⊢ WP c (k0_part45 (F := F) xM x_whole tM t_whole wM w_whole oM o_whole rM r_whole gM g_whole cc0_scratch2 cc0_scratch3 p1 p2 p3) fun _ => X := by
  rw [k0_part45_eq_skeleton]; exact done c (Entails.refl _)

theorem part46 (c : Dev nD) (X : sProp 𝕄) (p1 p2 p3 p4 p5 p6 : BitVec 32) : X ⊢ WP c (k0_part46 (F := F) xM x_whole tM t_whole wM w_whole oM o_whole rM r_whole gM g_whole cc0_scratch2 cc0_scratch3 p1 p2 p3 p4 p5 p6) fun _ => X := by
  rw [k0_part46_eq_skeleton]; exact done c (Entails.refl _)

theorem part47 (c : Dev nD) (X : sProp 𝕄) (p1 p2 p3 p4 : BitVec 32) (p5 : BitVec 1) (p6 : BitVec 32) : X ⊢ WP c (k0_part47 (F := F) xM x_whole tM t_whole wM w_whole oM o_whole rM r_whole gM g_whole cc0_scratch2 cc0_scratch3 p1 p2 p3 p4 p5 p6) fun _ => X := by
  rw [k0_part47_eq_skeleton]; exact done c (Entails.refl _)

theorem part48 (c : Dev nD) (X : sProp 𝕄) (p1 p2 p3 : BitVec 32) : X ⊢ WP c (k0_part48 (F := F) xM x_whole tM t_whole wM w_whole oM o_whole rM r_whole gM g_whole cc0_scratch2 cc0_scratch3 p1 p2 p3) fun _ => X := by
  rw [k0_part48_eq_skeleton]; exact done c (Entails.refl _)

theorem part49 (c : Dev nD) (E : sProp 𝕄) (p1 p2 p3 p4 p5 p6 p7 p8 : BitVec 32) (p9 p10 : BitVec 1) : iprop(St m K c 21 ∗ (rP c (col0 c) 128 fullShare (Afin m c) ∗ E))
    ⊢ WP c (k0_part49 (F := F) xM x_whole tM t_whole wM w_whole oM o_whole rM r_whole gM g_whole cc0_scratch2 cc0_scratch3 c p1 p2 p3 p4 p5 p6 p7 p8 p9 p10) fun _ => iprop(St m K c 24 ∗ E) := by
  rw [k0_part49_eq_skeleton]
  refine step_recv m K c 0 128 rfl 21 rfl _ rfl rfl ?_
  iintro ⟨HS, Hr, HE⟩
  obtain ⟨R, e1, e2⟩ := St_xrs m K c 22 0 0 (.inl ⟨rfl, rfl⟩) (by decide)
  ihave HS := e1 $$ HS
  icases HS with ⟨HR, Hg⟩
  iapply (ld_r c (n := 128) (off12_eq c)) $$ Hr; iintro Hr
  iapply (ld_g c (n := 128) (a := 0) rfl) $$ Hg; iintro Hg
  iapply (ld_r c (n := 128) (off12_eq c)) $$ Hr; iintro Hr
  iapply (stor_r c (n := 128) (off12_eq c) (Bfin m c) (put_b1 m c (Afin m c))) $$ Hr; iintro Hr
  ihave HS := e2 $$ [HR Hg]
  · isplitl [HR]; · iexact HR
    iexact Hg
  ihave HS := (grant22 m K c) $$ [HS Hr]
  · isplitl [HS]; · iexact HS
    iexact Hr
  ihave H : iprop(St m K c 23 ∗ E) $$ [HS HE]
  · isplitl [HS]; · iexact HS
    iexact HE
  istop
  apply step_ite c (X' := iprop(St m K c 24 ∗ E))
  · exact fun hc hk => skip m K c 1 (by decide) (by decide) 23 (.inl rfl) (fun e => hc ((cond1_iff c).mpr e)) hk
  · exact fun hc hk => step_sendG m K c 1 rfl 16 rfl 23 ((cond1_iff c).mp hc) (off13_eq c) rfl _ _ _ (Fin.ext (dev19_eq c)) _ _ rfl rfl hk
  exact done c (Entails.refl _)

theorem part50 (c : Dev nD) (E : sProp 𝕄) (p1 p2 p3 p4 : BitVec 32) : iprop(St m K c 24 ∗ E)
    ⊢ WP c (k0_part50 (F := F) xM x_whole tM t_whole wM w_whole oM o_whole rM r_whole gM g_whole cc0_scratch2 cc0_scratch3 c p1 p2 p3 p4) fun _ => iprop(St m K c 26 ∗ E) := by
  rw [k0_part50_eq_skeleton]
  apply step_ite c (X' := iprop(St m K c 25 ∗ E))
  · exact fun hc hk => skip m K c 2 (by decide) (by decide) 24 (.inl rfl) (fun e => hc ((cond2_iff c).mpr e)) hk
  · exact fun hc hk => step_sendG m K c 2 rfl 16 rfl 24 ((cond2_iff c).mp hc) (off14_eq c) rfl _ _ _ (Fin.ext (dev20_eq c)) _ _ rfl rfl hk
  apply step_ite c (X' := iprop(St m K c 26 ∗ E))
  · exact fun hc hk => skip m K c 3 (by decide) (by decide) 25 (.inl rfl) (fun e => hc ((cond3_iff c).mpr e)) hk
  · exact fun hc hk => step_sendG m K c 3 rfl 16 rfl 25 ((cond3_iff c).mp hc) (off15_eq c) rfl _ _ _ (Fin.ext (dev21_eq c)) _ _ rfl rfl hk
  exact done c (Entails.refl _)

theorem part51 (c : Dev nD) (E : sProp 𝕄) (p1 p2 p3 p4 p5 : BitVec 32) (p6 : BitVec 1) : iprop(St m K c 26 ∗ E)
    ⊢ WP c (k0_part51 (F := F) xM x_whole tM t_whole wM w_whole oM o_whole rM r_whole gM g_whole cc0_scratch2 cc0_scratch3 c p1 p2 p3 p4 p5 p6) fun _ => iprop(St m K c 28 ∗ E) := by
  rw [k0_part51_eq_skeleton]
  apply step_ite c (X' := iprop(St m K c 27 ∗ E))
  · exact fun hc hk => skip m K c 4 (by decide) (by decide) 26 (.inl rfl) (fun e => hc ((cond4_iff c).mpr e)) hk
  · exact fun hc hk => step_sendG m K c 4 rfl 16 rfl 26 ((cond4_iff c).mp hc) (off16_eq c) rfl _ _ _ (Fin.ext (dev22_eq c)) _ _ rfl rfl hk
  apply step_ite c (X' := iprop(St m K c 28 ∗ E))
  · exact fun hc hk => skip m K c 5 (by decide) (by decide) 27 (.inl rfl) (fun e => hc ((cond5_iff c).mpr e)) hk
  · exact fun hc hk => step_sendG m K c 5 rfl 16 rfl 27 ((cond5_iff c).mp hc) (off17_eq c) rfl _ _ _ (Fin.ext (dev23_eq c)) _ _ rfl rfl hk
  exact done c (Entails.refl _)

theorem part52 (c : Dev nD) (E : sProp 𝕄) (p1 p2 p3 p4 p5 : BitVec 32) : iprop(St m K c 28 ∗ E)
    ⊢ WP c (k0_part52 (F := F) xM x_whole tM t_whole wM w_whole oM o_whole rM r_whole gM g_whole cc0_scratch2 cc0_scratch3 c p1 p2 p3 p4 p5) fun _ => iprop(St m K c 31 ∗ E) := by
  rw [k0_part52_eq_skeleton]
  apply step_ite c (X' := iprop(St m K c 29 ∗ E))
  · exact fun hc hk => skip m K c 6 (by decide) (by decide) 28 (.inl rfl) (fun e => hc ((cond6_iff c).mpr e)) hk
  · exact fun hc hk => step_sendG m K c 6 rfl 16 rfl 28 ((cond6_iff c).mp hc) (off18_eq c) rfl _ _ _ (Fin.ext (dev24_eq c)) _ _ rfl rfl hk
  apply step_ite c (X' := iprop(St m K c 30 ∗ E))
  · exact fun hc hk => skip m K c 7 (by decide) (by decide) 29 (.inl rfl) (fun e => hc ((cond7_iff c).mpr e)) hk
  · exact fun hc hk => step_sendG m K c 7 rfl 16 rfl 29 ((cond7_iff c).mp hc) (off19_eq c) rfl _ _ _ (Fin.ext (dev25_eq c)) _ _ rfl rfl hk
  apply step_ite c (X' := iprop(St m K c 31 ∗ E))
  · exact fun hc hk => skip m K c 8 (by decide) (by decide) 30 (.inl rfl) (fun e => hc ((cond8_iff c).mpr e)) hk
  · exact fun hc hk => step_sendG m K c 8 rfl 16 rfl 30 ((cond8_iff c).mp hc) (off20_eq c) rfl _ _ _ (Fin.ext (dev26_eq c)) _ _ rfl rfl hk
  exact done c (Entails.refl _)

theorem part53 (c : Dev nD) (E : sProp 𝕄) (p1 p2 p3 : BitVec 32) : iprop(St m K c 31 ∗ E)
    ⊢ WP c (k0_part53 (F := F) xM x_whole tM t_whole wM w_whole oM o_whole rM r_whole gM g_whole cc0_scratch2 cc0_scratch3 c p1 p2 p3) fun _ => iprop(St m K c 33 ∗ E) := by
  rw [k0_part53_eq_skeleton]
  apply step_ite c (X' := iprop(St m K c 32 ∗ E))
  · exact fun hc hk => skip m K c 9 (by decide) (by decide) 31 (.inl rfl) (fun e => hc ((cond9_iff c).mpr e)) hk
  · exact fun hc hk => step_sendG m K c 9 rfl 16 rfl 31 ((cond9_iff c).mp hc) (off21_eq c) rfl _ _ _ (Fin.ext (dev27_eq c)) _ _ rfl rfl hk
  apply step_ite c (X' := iprop(St m K c 33 ∗ E))
  · exact fun hc hk => skip m K c 10 (by decide) (by decide) 32 (.inl rfl) (fun e => hc ((cond10_iff c).mpr e)) hk
  · exact fun hc hk => step_sendG m K c 10 rfl 16 rfl 32 ((cond10_iff c).mp hc) (off22_eq c) rfl _ _ _ (Fin.ext (dev28_eq c)) _ _ rfl rfl hk
  exact done c (Entails.refl _)

theorem part54 (c : Dev nD) (E : sProp 𝕄) (p1 p2 p3 p4 p5 : BitVec 32) : iprop(St m K c 33 ∗ E)
    ⊢ WP c (k0_part54 (F := F) xM x_whole tM t_whole wM w_whole oM o_whole rM r_whole gM g_whole cc0_scratch2 cc0_scratch3 c p1 p2 p3 p4 p5) fun _ => iprop(St m K c 35 ∗ E) := by
  rw [k0_part54_eq_skeleton]
  apply step_ite c (X' := iprop(St m K c 34 ∗ E))
  · exact fun hc hk => skip m K c 11 (by decide) (by decide) 33 (.inl rfl) (fun e => hc ((cond11_iff c).mpr e)) hk
  · exact fun hc hk => step_sendG m K c 11 rfl 16 rfl 33 ((cond11_iff c).mp hc) (off23_eq c) rfl _ _ _ (Fin.ext (dev29_eq c)) _ _ rfl rfl hk
  apply step_ite c (X' := iprop(St m K c 35 ∗ E))
  · exact fun hc hk => skip m K c 12 (by decide) (by decide) 34 (.inl rfl) (fun e => hc ((cond12_iff c).mpr e)) hk
  · exact fun hc hk => step_sendG m K c 12 rfl 16 rfl 34 ((cond12_iff c).mp hc) (off24_eq c) rfl _ _ _ (Fin.ext (dev30_eq c)) _ _ rfl rfl hk
  exact done c (Entails.refl _)

theorem part55 (c : Dev nD) (E : sProp 𝕄) (p1 p2 p3 p4 p5 : BitVec 32) (p6 : BitVec 1) : iprop(St m K c 35 ∗ E)
    ⊢ WP c (k0_part55 (F := F) xM x_whole tM t_whole wM w_whole oM o_whole rM r_whole gM g_whole cc0_scratch2 cc0_scratch3 c p1 p2 p3 p4 p5 p6) fun _ => iprop(St m K c 37 ∗ E) := by
  rw [k0_part55_eq_skeleton]
  apply step_ite c (X' := iprop(St m K c 36 ∗ E))
  · exact fun hc hk => skip m K c 13 (by decide) (by decide) 35 (.inl rfl) (fun e => hc ((cond13_iff c).mpr e)) hk
  · exact fun hc hk => step_sendG m K c 13 rfl 16 rfl 35 ((cond13_iff c).mp hc) (off25_eq c) rfl _ _ _ (Fin.ext (dev31_eq c)) _ _ rfl rfl hk
  apply step_ite c (X' := iprop(St m K c 37 ∗ E))
  · exact fun hc hk => skip m K c 14 (by decide) (by decide) 36 (.inl rfl) (fun e => hc ((cond14_iff c).mpr e)) hk
  · exact fun hc hk => step_sendG m K c 14 rfl 16 rfl 36 ((cond14_iff c).mp hc) (off26_eq c) rfl _ _ _ (Fin.ext (dev32_eq c)) _ _ rfl rfl hk
  exact done c (Entails.refl _)

theorem part56 (c : Dev nD) (E : sProp 𝕄) (p1 p2 p3 p4 p5 p6 p7 : BitVec 32) : iprop(St m K c 37 ∗ (rP c (col0 c + 128) 128 fullShare (Afin m c) ∗ E))
    ⊢ WP c (k0_part56 (F := F) xM x_whole tM t_whole wM w_whole oM o_whole rM r_whole gM g_whole cc0_scratch2 cc0_scratch3 c p1 p2 p3 p4 p5 p6 p7) fun _ => iprop(St m K c 41 ∗ E) := by
  rw [k0_part56_eq_skeleton]
  apply step_ite c (X' := iprop(St m K c 38 ∗ (rP c (col0 c + 128) 128 fullShare (Afin m c) ∗ E)))
  · exact fun hc hk => skip m K c 15 (by decide) (by decide) 37 (.inl rfl) (fun e => hc ((cond15_iff c).mpr e)) hk
  · exact fun hc hk => step_sendG m K c 15 rfl 16 rfl 37 ((cond15_iff c).mp hc) (off27_eq c) rfl _ _ _ (Fin.ext (dev33_eq c)) _ _ rfl rfl hk
  refine step_recv m K c 47 128 rfl 38 rfl _ rfl rfl ?_
  iintro ⟨HS, Hr, HE⟩
  obtain ⟨R, e1, e2⟩ := St_xrs m K c 39 47 128 (.inr ⟨rfl, rfl⟩) (by decide)
  ihave HS := e1 $$ HS
  icases HS with ⟨HR, Hg⟩
  iapply (ld_r c (n := 128) (off28_eq c)) $$ Hr; iintro Hr
  iapply (ld_g c (n := 128) (a := 128) rfl) $$ Hg; iintro Hg
  iapply (ld_r c (n := 128) (off28_eq c)) $$ Hr; iintro Hr
  iapply (stor_r c (n := 128) (off28_eq c) (Bfin m c) (put_b2 m c (Afin m c))) $$ Hr; iintro Hr
  ihave HS := e2 $$ [HR Hg]
  · isplitl [HR]; · iexact HR
    iexact Hg
  ihave HS := (grant39 m K c) $$ [HS Hr]
  · isplitl [HS]; · iexact HS
    iexact Hr
  ihave H : iprop(St m K c 40 ∗ E) $$ [HS HE]
  · isplitl [HS]; · iexact HS
    iexact HE
  istop
  apply step_ite c (X' := iprop(St m K c 41 ∗ E))
  · exact fun hc hk => skip m K c 1 (by decide) (by decide) 40 (.inr rfl) (fun e => hc ((cond16_iff c).mpr e)) hk
  · exact fun hc hk => step_sendG m K c 1 rfl 16 rfl 40 ((cond16_iff c).mp hc) (off29_eq c) rfl _ _ _ (Fin.ext (dev34_eq c)) _ _ rfl rfl hk
  exact done c (Entails.refl _)

end Cert.Proof
-- ==== Proof.StepsC.lean ====
/-
The steps of the body that finish the partial sums and start spreading the result.
-/
module

public import proofs.«01_k».proof.Proof.StepsB

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

local notation "𝕄" => MT nD τ sig Unit (Elt F) ℕ UU ℕ

variable (m : (ℓ : Loc nD τ sig) → Buf (Elt F) ℓ) (K : Dev nD × Fin 97 → ℕ)

theorem part57 (c : Dev nD) (E : sProp 𝕄) (p1 p2 p3 p4 : BitVec 32) : iprop(St m K c 41 ∗ E)
    ⊢ WP c (k0_part57 (F := F) xM x_whole tM t_whole wM w_whole oM o_whole rM r_whole gM g_whole cc0_scratch2 cc0_scratch3 c p1 p2 p3 p4) fun _ => iprop(St m K c 43 ∗ E) := by
  rw [k0_part57_eq_skeleton]
  apply step_ite c (X' := iprop(St m K c 42 ∗ E))
  · exact fun hc hk => skip m K c 2 (by decide) (by decide) 41 (.inr rfl) (fun e => hc ((cond17_iff c).mpr e)) hk
  · exact fun hc hk => step_sendG m K c 2 rfl 16 rfl 41 ((cond17_iff c).mp hc) (off30_eq c) rfl _ _ _ (Fin.ext (dev35_eq c)) _ _ rfl rfl hk
  apply step_ite c (X' := iprop(St m K c 43 ∗ E))
  · exact fun hc hk => skip m K c 3 (by decide) (by decide) 42 (.inr rfl) (fun e => hc ((cond18_iff c).mpr e)) hk
  · exact fun hc hk => step_sendG m K c 3 rfl 16 rfl 42 ((cond18_iff c).mp hc) (off31_eq c) rfl _ _ _ (Fin.ext (dev36_eq c)) _ _ rfl rfl hk
  exact done c (Entails.refl _)

theorem part58 (c : Dev nD) (E : sProp 𝕄) (p1 p2 p3 p4 p5 p6 : BitVec 32) : iprop(St m K c 43 ∗ E)
    ⊢ WP c (k0_part58 (F := F) xM x_whole tM t_whole wM w_whole oM o_whole rM r_whole gM g_whole cc0_scratch2 cc0_scratch3 c p1 p2 p3 p4 p5 p6) fun _ => iprop(St m K c 45 ∗ E) := by
  rw [k0_part58_eq_skeleton]
  apply step_ite c (X' := iprop(St m K c 44 ∗ E))
  · exact fun hc hk => skip m K c 4 (by decide) (by decide) 43 (.inr rfl) (fun e => hc ((cond19_iff c).mpr e)) hk
  · exact fun hc hk => step_sendG m K c 4 rfl 16 rfl 43 ((cond19_iff c).mp hc) (off32_eq c) rfl _ _ _ (Fin.ext (dev37_eq c)) _ _ rfl rfl hk
  apply step_ite c (X' := iprop(St m K c 45 ∗ E))
  · exact fun hc hk => skip m K c 5 (by decide) (by decide) 44 (.inr rfl) (fun e => hc ((cond20_iff c).mpr e)) hk
  · exact fun hc hk => step_sendG m K c 5 rfl 16 rfl 44 ((cond20_iff c).mp hc) (off33_eq c) rfl _ _ _ (Fin.ext (dev38_eq c)) _ _ rfl rfl hk
  exact done c (Entails.refl _)

theorem part59 (c : Dev nD) (E : sProp 𝕄) (p1 p2 p3 p4 : BitVec 32) (p5 : BitVec 1) (p6 : BitVec 32) : iprop(St m K c 45 ∗ E)
    ⊢ WP c (k0_part59 (F := F) xM x_whole tM t_whole wM w_whole oM o_whole rM r_whole gM g_whole cc0_scratch2 cc0_scratch3 c p1 p2 p3 p4 p5 p6) fun _ => iprop(St m K c 47 ∗ E) := by
  rw [k0_part59_eq_skeleton]
  apply step_ite c (X' := iprop(St m K c 46 ∗ E))
  · exact fun hc hk => skip m K c 6 (by decide) (by decide) 45 (.inr rfl) (fun e => hc ((cond21_iff c).mpr e)) hk
  · exact fun hc hk => step_sendG m K c 6 rfl 16 rfl 45 ((cond21_iff c).mp hc) (off34_eq c) rfl _ _ _ (Fin.ext (dev39_eq c)) _ _ rfl rfl hk
  apply step_ite c (X' := iprop(St m K c 47 ∗ E))
  · exact fun hc hk => skip m K c 7 (by decide) (by decide) 46 (.inr rfl) (fun e => hc ((cond22_iff c).mpr e)) hk
  · exact fun hc hk => step_sendG m K c 7 rfl 16 rfl 46 ((cond22_iff c).mp hc) (off35_eq c) rfl _ _ _ (Fin.ext (dev40_eq c)) _ _ rfl rfl hk
  exact done c (Entails.refl _)

theorem part60 (c : Dev nD) (E : sProp 𝕄) (p1 p2 p3 p4 : BitVec 32) : iprop(St m K c 47 ∗ E)
    ⊢ WP c (k0_part60 (F := F) xM x_whole tM t_whole wM w_whole oM o_whole rM r_whole gM g_whole cc0_scratch2 cc0_scratch3 c p1 p2 p3 p4) fun _ => iprop(St m K c 50 ∗ E) := by
  rw [k0_part60_eq_skeleton]
  apply step_ite c (X' := iprop(St m K c 48 ∗ E))
  · exact fun hc hk => skip m K c 8 (by decide) (by decide) 47 (.inr rfl) (fun e => hc ((cond23_iff c).mpr e)) hk
  · exact fun hc hk => step_sendG m K c 8 rfl 16 rfl 47 ((cond23_iff c).mp hc) (off36_eq c) rfl _ _ _ (Fin.ext (dev41_eq c)) _ _ rfl rfl hk
  apply step_ite c (X' := iprop(St m K c 49 ∗ E))
  · exact fun hc hk => skip m K c 9 (by decide) (by decide) 48 (.inr rfl) (fun e => hc ((cond24_iff c).mpr e)) hk
  · exact fun hc hk => step_sendG m K c 9 rfl 16 rfl 48 ((cond24_iff c).mp hc) (off37_eq c) rfl _ _ _ (Fin.ext (dev42_eq c)) _ _ rfl rfl hk
  apply step_ite c (X' := iprop(St m K c 50 ∗ E))
  · exact fun hc hk => skip m K c 10 (by decide) (by decide) 49 (.inr rfl) (fun e => hc ((cond25_iff c).mpr e)) hk
  · exact fun hc hk => step_sendG m K c 10 rfl 16 rfl 49 ((cond25_iff c).mp hc) (off38_eq c) rfl _ _ _ (Fin.ext (dev43_eq c)) _ _ rfl rfl hk
  exact done c (Entails.refl _)

theorem part61 (c : Dev nD) (E : sProp 𝕄) (p1 p2 p3 p4 p5 : BitVec 32) : iprop(St m K c 50 ∗ E)
    ⊢ WP c (k0_part61 (F := F) xM x_whole tM t_whole wM w_whole oM o_whole rM r_whole gM g_whole cc0_scratch2 cc0_scratch3 c p1 p2 p3 p4 p5) fun _ => iprop(St m K c 52 ∗ E) := by
  rw [k0_part61_eq_skeleton]
  apply step_ite c (X' := iprop(St m K c 51 ∗ E))
  · exact fun hc hk => skip m K c 11 (by decide) (by decide) 50 (.inr rfl) (fun e => hc ((cond26_iff c).mpr e)) hk
  · exact fun hc hk => step_sendG m K c 11 rfl 16 rfl 50 ((cond26_iff c).mp hc) (off39_eq c) rfl _ _ _ (Fin.ext (dev44_eq c)) _ _ rfl rfl hk
  apply step_ite c (X' := iprop(St m K c 52 ∗ E))
  · exact fun hc hk => skip m K c 12 (by decide) (by decide) 51 (.inr rfl) (fun e => hc ((cond27_iff c).mpr e)) hk
  · exact fun hc hk => step_sendG m K c 12 rfl 16 rfl 51 ((cond27_iff c).mp hc) (off40_eq c) rfl _ _ _ (Fin.ext (dev45_eq c)) _ _ rfl rfl hk
  exact done c (Entails.refl _)

theorem part62 (c : Dev nD) (E : sProp 𝕄) (p1 p2 p3 p4 p5 : BitVec 32) (p6 p7 : BitVec 1) : iprop(St m K c 52 ∗ E)
    ⊢ WP c (k0_part62 (F := F) xM x_whole tM t_whole wM w_whole oM o_whole rM r_whole gM g_whole cc0_scratch2 cc0_scratch3 c p1 p2 p3 p4 p5 p6 p7) fun _ => iprop(St m K c 54 ∗ E) := by
  rw [k0_part62_eq_skeleton]
  apply step_ite c (X' := iprop(St m K c 53 ∗ E))
  · exact fun hc hk => skip m K c 13 (by decide) (by decide) 52 (.inr rfl) (fun e => hc ((cond28_iff c).mpr e)) hk
  · exact fun hc hk => step_sendG m K c 13 rfl 16 rfl 52 ((cond28_iff c).mp hc) (off41_eq c) rfl _ _ _ (Fin.ext (dev46_eq c)) _ _ rfl rfl hk
  apply step_ite c (X' := iprop(St m K c 54 ∗ E))
  · exact fun hc hk => skip m K c 14 (by decide) (by decide) 53 (.inr rfl) (fun e => hc ((cond29_iff c).mpr e)) hk
  · exact fun hc hk => step_sendG m K c 14 rfl 16 rfl 53 ((cond29_iff c).mp hc) (off42_eq c) rfl _ _ _ (Fin.ext (dev47_eq c)) _ _ rfl rfl hk
  exact done c (Entails.refl _)

theorem part63 (c : Dev nD) (E : sProp 𝕄) (p1 p2 p3 p4 p5 p6 : BitVec 32) : iprop(St m K c 54 ∗ E)
    ⊢ WP c (k0_part63 (F := F) xM x_whole tM t_whole wM w_whole oM o_whole rM r_whole gM g_whole cc0_scratch2 cc0_scratch3 c p1 p2 p3 p4 p5 p6) fun _ => iprop(St m K c 59 ∗ E) := by
  rw [k0_part63_eq_skeleton]
  apply step_ite c (X' := iprop(St m K c 55 ∗ E))
  · exact fun hc hk => skip m K c 15 (by decide) (by decide) 54 (.inr rfl) (fun e => hc ((cond30_iff c).mpr e)) hk
  · exact fun hc hk => step_sendG m K c 15 rfl 16 rfl 54 ((cond30_iff c).mp hc) (off43_eq c) rfl _ _ _ (Fin.ext (dev48_eq c)) _ _ rfl rfl hk
  refine step_recv m K c 1 16 rfl 55 rfl _ rfl rfl ?_
  refine step_recv m K c 2 16 rfl 56 rfl _ rfl rfl ?_
  refine step_recv m K c 3 16 rfl 57 rfl _ rfl rfl ?_
  refine step_recv m K c 4 16 rfl 58 rfl _ rfl rfl ?_
  exact done c (Entails.refl _)

theorem part64 (c : Dev nD) (E : sProp 𝕄) (p1 p2 p3 p4 p5 : BitVec 32) : iprop(St m K c 59 ∗ E)
    ⊢ WP c (k0_part64 (F := F) xM x_whole tM t_whole wM w_whole oM o_whole rM r_whole gM g_whole cc0_scratch2 cc0_scratch3 c p1 p2 p3 p4 p5) fun _ => iprop(St m K c 63 ∗ E) := by
  rw [k0_part64_eq_skeleton]
  refine step_recv m K c 5 16 rfl 59 rfl _ rfl rfl ?_
  refine step_recv m K c 6 16 rfl 60 rfl _ rfl rfl ?_
  refine step_recv m K c 7 16 rfl 61 rfl _ rfl rfl ?_
  refine step_recv m K c 8 16 rfl 62 rfl _ rfl rfl ?_
  exact done c (Entails.refl _)

theorem part65 (c : Dev nD) (E : sProp 𝕄) (p1 p2 p3 p4 p5 p6 : BitVec 32) : iprop(St m K c 63 ∗ E)
    ⊢ WP c (k0_part65 (F := F) xM x_whole tM t_whole wM w_whole oM o_whole rM r_whole gM g_whole cc0_scratch2 cc0_scratch3 c p1 p2 p3 p4 p5 p6) fun _ => iprop(St m K c 67 ∗ E) := by
  rw [k0_part65_eq_skeleton]
  refine step_recv m K c 9 16 rfl 63 rfl _ rfl rfl ?_
  refine step_recv m K c 10 16 rfl 64 rfl _ rfl rfl ?_
  refine step_recv m K c 11 16 rfl 65 rfl _ rfl rfl ?_
  refine step_recv m K c 12 16 rfl 66 rfl _ rfl rfl ?_
  exact done c (Entails.refl _)

theorem part66 (c : Dev nD) (E : sProp 𝕄) (p1 p2 p3 p4 p5 : BitVec 32) : iprop(St m K c 67 ∗ E)
    ⊢ WP c (k0_part66 (F := F) xM x_whole tM t_whole wM w_whole oM o_whole rM r_whole gM g_whole cc0_scratch2 cc0_scratch3 c p1 p2 p3 p4 p5) fun _ => iprop(St m K c 71 ∗ E) := by
  rw [k0_part66_eq_skeleton]
  refine step_recv m K c 13 16 rfl 67 rfl _ rfl rfl ?_
  refine step_recv m K c 14 16 rfl 68 rfl _ rfl rfl ?_
  refine step_recv m K c 15 16 rfl 69 rfl _ rfl rfl ?_
  obtain ⟨R, e1, e2⟩ := St_mid m K c 70 (by decide)
  obtain ⟨R', e3, e4⟩ := grant70 m K c
  iintro ⟨HS, HE⟩
  ihave HS := e1 $$ HS
  icases HS with ⟨HR, Hg⟩
  iapply (ld_g c (n := 240) (a := 256) rfl) $$ Hg; iintro Hg
  ihave HS := e2 $$ [HR Hg]
  · isplitl [HR]; · iexact HR
    iexact Hg
  ihave HS := (Entails.of_eq e3) $$ HS
  icases HS with ⟨HR, Hr⟩
  iapply (ld_r c (n := 16) (off45_eq c)) $$ Hr; iintro Hr
  iapply (ld_r c (n := 16) (off45_eq c)) $$ Hr; iintro Hr
  iapply (stor_r c (n := 16) (off45_eq c) (Cfin m) (put_own m c (Bfin m c))) $$ Hr; iintro Hr
  ihave HS := e4 $$ [HR Hr]
  · isplitl [HR]; · iexact HR
    iexact Hr
  iapply (done c (Entails.refl _))
  isplitl [HS]; · iexact HS
  iexact HE

theorem part67 (c : Dev nD) (E : sProp 𝕄) (p1 p2 p3 : BitVec 32) : iprop(St m K c 71 ∗ E)
    ⊢ WP c (k0_part67 (F := F) xM x_whole tM t_whole wM w_whole oM o_whole rM r_whole gM g_whole cc0_scratch2 cc0_scratch3 c p1 p2 p3) fun _ => iprop(St m K c 72 ∗ E) := by
  rw [k0_part67_eq_skeleton]
  refine step_sendR m K c 31 rfl 71 rfl (off46_31 c) (off46_31 c) _ _ _ (Fin.ext (dev49_eq c)) _ _ rfl rfl ?_
  exact done c (Entails.refl _)

theorem part68 (c : Dev nD) (E : sProp 𝕄) (p1 p2 p3 p4 p5 : BitVec 32) : iprop(St m K c 72 ∗ E)
    ⊢ WP c (k0_part68 (F := F) xM x_whole tM t_whole wM w_whole oM o_whole rM r_whole gM g_whole cc0_scratch2 cc0_scratch3 c p1 p2 p3 p4 p5) fun _ => iprop(St m K c 73 ∗ E) := by
  rw [k0_part68_eq_skeleton]
  refine step_sendR m K c 16 rfl 72 rfl (off46_eq c) (off46_eq c) _ _ _ (Fin.ext (dev50_eq c)) _ _ rfl rfl ?_
  exact done c (Entails.refl _)

theorem part69 (c : Dev nD) (X : sProp 𝕄) (p1 p2 : BitVec 32) (p3 p4 : BitVec 1) : X ⊢ WP c (k0_part69 (F := F) xM x_whole tM t_whole wM w_whole oM o_whole rM r_whole gM g_whole cc0_scratch2 cc0_scratch3 p1 p2 p3 p4) fun _ => X := by
  rw [k0_part69_eq_skeleton]; exact done c (Entails.refl _)

theorem part70 (c : Dev nD) (E : sProp 𝕄) (p1 p2 p3 p4 p5 : BitVec 32) (p6 : BitVec 1) (p7 : BitVec 32) : iprop(St m K c 73 ∗ E)
    ⊢ WP c (k0_part70 (F := F) xM x_whole tM t_whole wM w_whole oM o_whole rM r_whole gM g_whole cc0_scratch2 cc0_scratch3 c p1 p2 p3 p4 p5 p6 p7) fun _ => iprop(St m K c 74 ∗ E) := by
  rw [k0_part70_eq_skeleton]
  refine step_sendR m K c 17 rfl 73 rfl (off46_eq c) (off46_eq c) _ _ _ (Fin.ext (dev51_eq c)) _ _ rfl rfl ?_
  exact done c (Entails.refl _)

theorem part71 (c : Dev nD) (E : sProp 𝕄) (p1 p2 p3 : BitVec 32) (p4 : BitVec 1) (p5 : BitVec 32) : iprop(St m K c 74 ∗ E)
    ⊢ WP c (k0_part71 (F := F) xM x_whole tM t_whole wM w_whole oM o_whole rM r_whole gM g_whole cc0_scratch2 cc0_scratch3 c p1 p2 p3 p4 p5) fun _ => iprop(St m K c 75 ∗ E) := by
  rw [k0_part71_eq_skeleton]
  refine step_sendR m K c 18 rfl 74 rfl (off46_eq c) (off46_eq c) _ _ _ (Fin.ext (dev52_eq c)) _ _ rfl rfl ?_
  exact done c (Entails.refl _)

theorem part72 (c : Dev nD) (X : sProp 𝕄) (p1 : BitVec 32) : X ⊢ WP c (k0_part72 (F := F) xM x_whole tM t_whole wM w_whole oM o_whole rM r_whole gM g_whole cc0_scratch2 cc0_scratch3 p1) fun _ => X := by
  rw [k0_part72_eq_skeleton]; exact done c (Entails.refl _)

theorem part73 (c : Dev nD) (E : sProp 𝕄) (p1 p2 p3 p4 : BitVec 32) : iprop(St m K c 75 ∗ E)
    ⊢ WP c (k0_part73 (F := F) xM x_whole tM t_whole wM w_whole oM o_whole rM r_whole gM g_whole cc0_scratch2 cc0_scratch3 c p1 p2 p3 p4) fun _ => iprop(St m K c 76 ∗ E) := by
  rw [k0_part73_eq_skeleton]
  refine step_sendR m K c 19 rfl 75 rfl (off46_eq c) (off46_eq c) _ _ _ (Fin.ext (dev53_eq c)) _ _ rfl rfl ?_
  exact done c (Entails.refl _)

theorem part74 (c : Dev nD) (X : sProp 𝕄) (p1 p2 p3 p4 p5 p6 : BitVec 32) : X ⊢ WP c (k0_part74 (F := F) xM x_whole tM t_whole wM w_whole oM o_whole rM r_whole gM g_whole cc0_scratch2 cc0_scratch3 p1 p2 p3 p4 p5 p6) fun _ => X := by
  rw [k0_part74_eq_skeleton]; exact done c (Entails.refl _)

theorem part75 (c : Dev nD) (E : sProp 𝕄) (p1 p2 p3 : BitVec 32) : iprop(St m K c 76 ∗ E)
    ⊢ WP c (k0_part75 (F := F) xM x_whole tM t_whole wM w_whole oM o_whole rM r_whole gM g_whole cc0_scratch2 cc0_scratch3 c p1 p2 p3) fun _ => iprop(St m K c 77 ∗ E) := by
  rw [k0_part75_eq_skeleton]
  refine step_sendR m K c 20 rfl 76 rfl (off46_eq c) (off46_eq c) _ _ _ (Fin.ext (dev54_eq c)) _ _ rfl rfl ?_
  exact done c (Entails.refl _)

theorem part76 (c : Dev nD) (E : sProp 𝕄) (p1 p2 p3 p4 p5 : BitVec 32) : iprop(St m K c 77 ∗ E)
    ⊢ WP c (k0_part76 (F := F) xM x_whole tM t_whole wM w_whole oM o_whole rM r_whole gM g_whole cc0_scratch2 cc0_scratch3 c p1 p2 p3 p4 p5) fun _ => iprop(St m K c 78 ∗ E) := by
  rw [k0_part76_eq_skeleton]
  refine step_sendR m K c 21 rfl 77 rfl (off46_eq c) (off46_eq c) _ _ _ (Fin.ext (dev55_eq c)) _ _ rfl rfl ?_
  exact done c (Entails.refl _)

theorem part77 (c : Dev nD) (X : sProp 𝕄) (p1 p2 : BitVec 32) (p3 p4 : BitVec 1) : X ⊢ WP c (k0_part77 (F := F) xM x_whole tM t_whole wM w_whole oM o_whole rM r_whole gM g_whole cc0_scratch2 cc0_scratch3 p1 p2 p3 p4) fun _ => X := by
  rw [k0_part77_eq_skeleton]; exact done c (Entails.refl _)

theorem part78 (c : Dev nD) (E : sProp 𝕄) (p1 p2 p3 p4 p5 : BitVec 32) (p6 : BitVec 1) (p7 : BitVec 32) : iprop(St m K c 78 ∗ E)
    ⊢ WP c (k0_part78 (F := F) xM x_whole tM t_whole wM w_whole oM o_whole rM r_whole gM g_whole cc0_scratch2 cc0_scratch3 c p1 p2 p3 p4 p5 p6 p7) fun _ => iprop(St m K c 79 ∗ E) := by
  rw [k0_part78_eq_skeleton]
  refine step_sendR m K c 22 rfl 78 rfl (off46_eq c) (off46_eq c) _ _ _ (Fin.ext (dev56_eq c)) _ _ rfl rfl ?_
  exact done c (Entails.refl _)

theorem part79 (c : Dev nD) (E : sProp 𝕄) (p1 p2 p3 : BitVec 32) (p4 : BitVec 1) (p5 : BitVec 32) : iprop(St m K c 79 ∗ E)
    ⊢ WP c (k0_part79 (F := F) xM x_whole tM t_whole wM w_whole oM o_whole rM r_whole gM g_whole cc0_scratch2 cc0_scratch3 c p1 p2 p3 p4 p5) fun _ => iprop(St m K c 80 ∗ E) := by
  rw [k0_part79_eq_skeleton]
  refine step_sendR m K c 23 rfl 79 rfl (off46_eq c) (off46_eq c) _ _ _ (Fin.ext (dev57_eq c)) _ _ rfl rfl ?_
  exact done c (Entails.refl _)

theorem part80 (c : Dev nD) (X : sProp 𝕄) (p1 : BitVec 32) : X ⊢ WP c (k0_part80 (F := F) xM x_whole tM t_whole wM w_whole oM o_whole rM r_whole gM g_whole cc0_scratch2 cc0_scratch3 p1) fun _ => X := by
  rw [k0_part80_eq_skeleton]; exact done c (Entails.refl _)

theorem part81 (c : Dev nD) (E : sProp 𝕄) (p1 p2 p3 p4 : BitVec 32) : iprop(St m K c 80 ∗ E)
    ⊢ WP c (k0_part81 (F := F) xM x_whole tM t_whole wM w_whole oM o_whole rM r_whole gM g_whole cc0_scratch2 cc0_scratch3 c p1 p2 p3 p4) fun _ => iprop(St m K c 81 ∗ E) := by
  rw [k0_part81_eq_skeleton]
  refine step_sendR m K c 24 rfl 80 rfl (off46_eq c) (off46_eq c) _ _ _ (Fin.ext (dev58_eq c)) _ _ rfl rfl ?_
  exact done c (Entails.refl _)

theorem part82 (c : Dev nD) (X : sProp 𝕄) (p1 p2 p3 p4 p5 p6 : BitVec 32) : X ⊢ WP c (k0_part82 (F := F) xM x_whole tM t_whole wM w_whole oM o_whole rM r_whole gM g_whole cc0_scratch2 cc0_scratch3 p1 p2 p3 p4 p5 p6) fun _ => X := by
  rw [k0_part82_eq_skeleton]; exact done c (Entails.refl _)

theorem part83 (c : Dev nD) (E : sProp 𝕄) (p1 p2 p3 : BitVec 32) : iprop(St m K c 81 ∗ E)
    ⊢ WP c (k0_part83 (F := F) xM x_whole tM t_whole wM w_whole oM o_whole rM r_whole gM g_whole cc0_scratch2 cc0_scratch3 c p1 p2 p3) fun _ => iprop(St m K c 82 ∗ E) := by
  rw [k0_part83_eq_skeleton]
  refine step_sendR m K c 25 rfl 81 rfl (off46_eq c) (off46_eq c) _ _ _ (Fin.ext (dev59_eq c)) _ _ rfl rfl ?_
  exact done c (Entails.refl _)

theorem part84 (c : Dev nD) (E : sProp 𝕄) (p1 p2 p3 p4 p5 : BitVec 32) : iprop(St m K c 82 ∗ E)
    ⊢ WP c (k0_part84 (F := F) xM x_whole tM t_whole wM w_whole oM o_whole rM r_whole gM g_whole cc0_scratch2 cc0_scratch3 c p1 p2 p3 p4 p5) fun _ => iprop(St m K c 83 ∗ E) := by
  rw [k0_part84_eq_skeleton]
  refine step_sendR m K c 26 rfl 82 rfl (off46_eq c) (off46_eq c) _ _ _ (Fin.ext (dev60_eq c)) _ _ rfl rfl ?_
  exact done c (Entails.refl _)

theorem part85 (c : Dev nD) (X : sProp 𝕄) (p1 p2 : BitVec 32) (p3 p4 : BitVec 1) : X ⊢ WP c (k0_part85 (F := F) xM x_whole tM t_whole wM w_whole oM o_whole rM r_whole gM g_whole cc0_scratch2 cc0_scratch3 p1 p2 p3 p4) fun _ => X := by
  rw [k0_part85_eq_skeleton]; exact done c (Entails.refl _)

theorem part86 (c : Dev nD) (E : sProp 𝕄) (p1 p2 p3 p4 p5 : BitVec 32) (p6 : BitVec 1) (p7 : BitVec 32) : iprop(St m K c 83 ∗ E)
    ⊢ WP c (k0_part86 (F := F) xM x_whole tM t_whole wM w_whole oM o_whole rM r_whole gM g_whole cc0_scratch2 cc0_scratch3 c p1 p2 p3 p4 p5 p6 p7) fun _ => iprop(St m K c 84 ∗ E) := by
  rw [k0_part86_eq_skeleton]
  refine step_sendR m K c 27 rfl 83 rfl (off46_eq c) (off46_eq c) _ _ _ (Fin.ext (dev61_eq c)) _ _ rfl rfl ?_
  exact done c (Entails.refl _)

theorem part87 (c : Dev nD) (E : sProp 𝕄) (p1 p2 p3 : BitVec 32) (p4 : BitVec 1) (p5 : BitVec 32) : iprop(St m K c 84 ∗ E)
    ⊢ WP c (k0_part87 (F := F) xM x_whole tM t_whole wM w_whole oM o_whole rM r_whole gM g_whole cc0_scratch2 cc0_scratch3 c p1 p2 p3 p4 p5) fun _ => iprop(St m K c 85 ∗ E) := by
  rw [k0_part87_eq_skeleton]
  refine step_sendR m K c 28 rfl 84 rfl (off46_eq c) (off46_eq c) _ _ _ (Fin.ext (dev62_eq c)) _ _ rfl rfl ?_
  exact done c (Entails.refl _)

theorem part88 (c : Dev nD) (X : sProp 𝕄) (p1 : BitVec 32) : X ⊢ WP c (k0_part88 (F := F) xM x_whole tM t_whole wM w_whole oM o_whole rM r_whole gM g_whole cc0_scratch2 cc0_scratch3 p1) fun _ => X := by
  rw [k0_part88_eq_skeleton]; exact done c (Entails.refl _)

theorem part89 (c : Dev nD) (E : sProp 𝕄) (p1 p2 p3 p4 : BitVec 32) : iprop(St m K c 85 ∗ E)
    ⊢ WP c (k0_part89 (F := F) xM x_whole tM t_whole wM w_whole oM o_whole rM r_whole gM g_whole cc0_scratch2 cc0_scratch3 c p1 p2 p3 p4) fun _ => iprop(St m K c 86 ∗ E) := by
  rw [k0_part89_eq_skeleton]
  refine step_sendR m K c 29 rfl 85 rfl (off46_eq c) (off46_eq c) _ _ _ (Fin.ext (dev63_eq c)) _ _ rfl rfl ?_
  exact done c (Entails.refl _)

theorem part90 (c : Dev nD) (X : sProp 𝕄) (p1 p2 p3 p4 p5 p6 : BitVec 32) : X ⊢ WP c (k0_part90 (F := F) xM x_whole tM t_whole wM w_whole oM o_whole rM r_whole gM g_whole cc0_scratch2 cc0_scratch3 p1 p2 p3 p4 p5 p6) fun _ => X := by
  rw [k0_part90_eq_skeleton]; exact done c (Entails.refl _)

theorem part91 (c : Dev nD) (E : sProp 𝕄) (p1 p2 p3 p4 p5 p6 : BitVec 32) : iprop(St m K c 86 ∗ E)
    ⊢ WP c (k0_part91 (F := F) xM x_whole tM t_whole wM w_whole oM o_whole rM r_whole gM g_whole cc0_scratch2 cc0_scratch3 c p1 p2 p3 p4 p5 p6) fun _ => iprop(St m K c 88 ∗ E) := by
  rw [k0_part91_eq_skeleton]
  refine step_sendR m K c 30 rfl 86 rfl (off46_eq c) (off46_eq c) _ _ _ (Fin.ext (dev64_eq c)) _ _ rfl rfl ?_
  refine step_recv m K c 16 16 rfl 87 rfl _ rfl rfl ?_
  exact done c (Entails.refl _)

end Cert.Proof
-- ==== Proof.StepsD.lean ====
/-
The last steps of the body: passing the result on, writing it out, and waiting for every send.
-/
module

public import proofs.«01_k».proof.Proof.StepsC

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

local notation "𝕄" => MT nD τ sig Unit (Elt F) ℕ UU ℕ

variable (m : (ℓ : Loc nD τ sig) → Buf (Elt F) ℓ) (K : Dev nD × Fin 97 → ℕ)

theorem part92 (c : Dev nD) (E : sProp 𝕄) (p1 p2 p3 p4 p5 : BitVec 32) : iprop(St m K c 88 ∗ E)
    ⊢ WP c (k0_part92 (F := F) xM x_whole tM t_whole wM w_whole oM o_whole rM r_whole gM g_whole cc0_scratch2 cc0_scratch3 c p1 p2 p3 p4 p5) fun _ => iprop(St m K c 91 ∗ E) := by
  rw [k0_part92_eq_skeleton]
  refine step_sendR m K c 32 rfl 88 rfl (off47_eq c 0) (off47_eq c 0) _ _ _ (Fin.ext (dev65_eq c)) _ _ rfl rfl ?_
  refine step_recv m K c 17 16 rfl 89 rfl _ rfl rfl ?_
  refine step_sendR m K c 33 rfl 90 rfl (off47_eq c 1) (off47_eq c 1) _ _ _ (Fin.ext (dev66_eq c)) _ _ rfl rfl ?_
  exact done c (Entails.refl _)

theorem part93 (c : Dev nD) (E : sProp 𝕄) (p1 p2 p3 p4 p5 : BitVec 32) : iprop(St m K c 91 ∗ E)
    ⊢ WP c (k0_part93 (F := F) xM x_whole tM t_whole wM w_whole oM o_whole rM r_whole gM g_whole cc0_scratch2 cc0_scratch3 c p1 p2 p3 p4 p5) fun _ => iprop(St m K c 93 ∗ E) := by
  rw [k0_part93_eq_skeleton]
  refine step_recv m K c 18 16 rfl 91 rfl _ rfl rfl ?_
  refine step_sendR m K c 34 rfl 92 rfl (off47_eq c 2) (off47_eq c 2) _ _ _ (Fin.ext (dev67_eq c)) _ _ rfl rfl ?_
  exact done c (Entails.refl _)

theorem part94 (c : Dev nD) (E : sProp 𝕄) (p1 p2 p3 p4 : BitVec 32) : iprop(St m K c 93 ∗ E)
    ⊢ WP c (k0_part94 (F := F) xM x_whole tM t_whole wM w_whole oM o_whole rM r_whole gM g_whole cc0_scratch2 cc0_scratch3 c p1 p2 p3 p4) fun _ => iprop(St m K c 96 ∗ E) := by
  rw [k0_part94_eq_skeleton]
  refine step_recv m K c 19 16 rfl 93 rfl _ rfl rfl ?_
  refine step_sendR m K c 35 rfl 94 rfl (off47_eq c 3) (off47_eq c 3) _ _ _ (Fin.ext (dev68_eq c)) _ _ rfl rfl ?_
  refine step_recv m K c 20 16 rfl 95 rfl _ rfl rfl ?_
  exact done c (Entails.refl _)

theorem part95 (c : Dev nD) (E : sProp 𝕄) (p1 p2 p3 p4 p5 p6 : BitVec 32) : iprop(St m K c 96 ∗ E)
    ⊢ WP c (k0_part95 (F := F) xM x_whole tM t_whole wM w_whole oM o_whole rM r_whole gM g_whole cc0_scratch2 cc0_scratch3 c p1 p2 p3 p4 p5 p6) fun _ => iprop(St m K c 98 ∗ E) := by
  rw [k0_part95_eq_skeleton]
  refine step_sendR m K c 36 rfl 96 rfl (off47_eq c 4) (off47_eq c 4) _ _ _ (Fin.ext (dev69_eq c)) _ _ rfl rfl ?_
  refine step_recv m K c 21 16 rfl 97 rfl _ rfl rfl ?_
  exact done c (Entails.refl _)

theorem part96 (c : Dev nD) (E : sProp 𝕄) (p1 p2 p3 p4 p5 p6 : BitVec 32) (p7 p8 : BitVec 1) : iprop(St m K c 98 ∗ E)
    ⊢ WP c (k0_part96 (F := F) xM x_whole tM t_whole wM w_whole oM o_whole rM r_whole gM g_whole cc0_scratch2 cc0_scratch3 c p1 p2 p3 p4 p5 p6 p7 p8) fun _ => iprop(St m K c 100 ∗ E) := by
  rw [k0_part96_eq_skeleton]
  refine step_sendR m K c 37 rfl 98 rfl (off47_eq c 5) (off47_eq c 5) _ _ _ (Fin.ext (dev70_eq c)) _ _ rfl rfl ?_
  refine step_recv m K c 22 16 rfl 99 rfl _ rfl rfl ?_
  exact done c (Entails.refl _)

theorem part97 (c : Dev nD) (E : sProp 𝕄) (p1 p2 p3 p4 p5 : BitVec 32) : iprop(St m K c 100 ∗ E)
    ⊢ WP c (k0_part97 (F := F) xM x_whole tM t_whole wM w_whole oM o_whole rM r_whole gM g_whole cc0_scratch2 cc0_scratch3 c p1 p2 p3 p4 p5) fun _ => iprop(St m K c 102 ∗ E) := by
  rw [k0_part97_eq_skeleton]
  refine step_sendR m K c 38 rfl 100 rfl (off47_eq c 6) (off47_eq c 6) _ _ _ (Fin.ext (dev71_eq c)) _ _ rfl rfl ?_
  refine step_recv m K c 23 16 rfl 101 rfl _ rfl rfl ?_
  exact done c (Entails.refl _)

theorem part98 (c : Dev nD) (E : sProp 𝕄) (p1 p2 p3 p4 : BitVec 32) : iprop(St m K c 102 ∗ E)
    ⊢ WP c (k0_part98 (F := F) xM x_whole tM t_whole wM w_whole oM o_whole rM r_whole gM g_whole cc0_scratch2 cc0_scratch3 c p1 p2 p3 p4) fun _ => iprop(St m K c 105 ∗ E) := by
  rw [k0_part98_eq_skeleton]
  refine step_sendR m K c 39 rfl 102 rfl (off47_eq c 7) (off47_eq c 7) _ _ _ (Fin.ext (dev72_eq c)) _ _ rfl rfl ?_
  refine step_recv m K c 24 16 rfl 103 rfl _ rfl rfl ?_
  refine step_sendR m K c 40 rfl 104 rfl (off47_eq c 8) (off47_eq c 8) _ _ _ (Fin.ext (dev73_eq c)) _ _ rfl rfl ?_
  exact done c (Entails.refl _)

theorem part99 (c : Dev nD) (E : sProp 𝕄) (p1 p2 p3 p4 p5 : BitVec 32) : iprop(St m K c 105 ∗ E)
    ⊢ WP c (k0_part99 (F := F) xM x_whole tM t_whole wM w_whole oM o_whole rM r_whole gM g_whole cc0_scratch2 cc0_scratch3 c p1 p2 p3 p4 p5) fun _ => iprop(St m K c 107 ∗ E) := by
  rw [k0_part99_eq_skeleton]
  refine step_recv m K c 25 16 rfl 105 rfl _ rfl rfl ?_
  refine step_sendR m K c 41 rfl 106 rfl (off47_eq c 9) (off47_eq c 9) _ _ _ (Fin.ext (dev74_eq c)) _ _ rfl rfl ?_
  exact done c (Entails.refl _)

theorem part100 (c : Dev nD) (E : sProp 𝕄) (p1 p2 p3 p4 : BitVec 32) : iprop(St m K c 107 ∗ E)
    ⊢ WP c (k0_part100 (F := F) xM x_whole tM t_whole wM w_whole oM o_whole rM r_whole gM g_whole cc0_scratch2 cc0_scratch3 c p1 p2 p3 p4) fun _ => iprop(St m K c 110 ∗ E) := by
  rw [k0_part100_eq_skeleton]
  refine step_recv m K c 26 16 rfl 107 rfl _ rfl rfl ?_
  refine step_sendR m K c 42 rfl 108 rfl (off47_eq c 10) (off47_eq c 10) _ _ _ (Fin.ext (dev75_eq c)) _ _ rfl rfl ?_
  refine step_recv m K c 27 16 rfl 109 rfl _ rfl rfl ?_
  exact done c (Entails.refl _)

theorem part101 (c : Dev nD) (E : sProp 𝕄) (p1 p2 p3 p4 p5 p6 : BitVec 32) : iprop(St m K c 110 ∗ E)
    ⊢ WP c (k0_part101 (F := F) xM x_whole tM t_whole wM w_whole oM o_whole rM r_whole gM g_whole cc0_scratch2 cc0_scratch3 c p1 p2 p3 p4 p5 p6) fun _ => iprop(St m K c 112 ∗ E) := by
  rw [k0_part101_eq_skeleton]
  refine step_sendR m K c 43 rfl 110 rfl (off47_eq c 11) (off47_eq c 11) _ _ _ (Fin.ext (dev76_eq c)) _ _ rfl rfl ?_
  refine step_recv m K c 28 16 rfl 111 rfl _ rfl rfl ?_
  exact done c (Entails.refl _)

theorem part102 (c : Dev nD) (E : sProp 𝕄) (p1 p2 p3 p4 p5 p6 : BitVec 32) (p7 : BitVec 1) (p8 : BitVec 32) : iprop(St m K c 112 ∗ E)
    ⊢ WP c (k0_part102 (F := F) xM x_whole tM t_whole wM w_whole oM o_whole rM r_whole gM g_whole cc0_scratch2 cc0_scratch3 c p1 p2 p3 p4 p5 p6 p7 p8) fun _ => iprop(St m K c 114 ∗ E) := by
  rw [k0_part102_eq_skeleton]
  refine step_sendR m K c 44 rfl 112 rfl (off47_eq c 12) (off47_eq c 12) _ _ _ (Fin.ext (dev77_eq c)) _ _ rfl rfl ?_
  refine step_recv m K c 29 16 rfl 113 rfl _ rfl rfl ?_
  exact done c (Entails.refl _)

theorem part103 (c : Dev nD) (E : sProp 𝕄) (p1 p2 p3 p4 p5 p6 : BitVec 32) : iprop(St m K c 114 ∗ E)
    ⊢ WP c (k0_part103 (F := F) xM x_whole tM t_whole wM w_whole oM o_whole rM r_whole gM g_whole cc0_scratch2 cc0_scratch3 c p1 p2 p3 p4 p5 p6) fun _ => iprop(St m K c 116 ∗ E) := by
  rw [k0_part103_eq_skeleton]
  refine step_sendR m K c 45 rfl 114 rfl (off47_eq c 13) (off47_eq c 13) _ _ _ (Fin.ext (dev78_eq c)) _ _ rfl rfl ?_
  refine step_recv m K c 30 16 rfl 115 rfl _ rfl rfl ?_
  exact done c (Entails.refl _)

theorem part104 (c : Dev nD) (E : sProp 𝕄) (p1 p2 : BitVec 32) : iprop(St m K c 116 ∗ E)
    ⊢ WP c (k0_part104 (F := F) xM x_whole tM t_whole wM w_whole oM o_whole rM r_whole gM g_whole cc0_scratch2 cc0_scratch3 c p1 p2) fun _ => iprop(St m K c 120 ∗ E) := by
  rw [k0_part104_eq_skeleton]
  refine step_sendR m K c 46 rfl 116 rfl (off47_eq c 14) (off47_eq c 14) _ _ _ (Fin.ext (dev79_eq c)) _ _ rfl rfl ?_
  refine step_recv m K c 31 16 rfl 117 rfl _ rfl rfl ?_
  refine step_recv m K c 32 16 rfl 118 rfl _ rfl rfl ?_
  refine step_recv m K c 33 16 rfl 119 rfl _ rfl rfl ?_
  exact done c (Entails.refl _)

theorem part105 (c : Dev nD) (E : sProp 𝕄) (p1 : BitVec 32) : iprop(St m K c 120 ∗ E)
    ⊢ WP c (k0_part105 (F := F) xM x_whole tM t_whole wM w_whole oM o_whole rM r_whole gM g_whole cc0_scratch2 cc0_scratch3 c p1) fun _ => iprop(St m K c 125 ∗ E) := by
  rw [k0_part105_eq_skeleton]
  refine step_recv m K c 34 16 rfl 120 rfl _ rfl rfl ?_
  refine step_recv m K c 35 16 rfl 121 rfl _ rfl rfl ?_
  refine step_recv m K c 36 16 rfl 122 rfl _ rfl rfl ?_
  refine step_recv m K c 37 16 rfl 123 rfl _ rfl rfl ?_
  refine step_recv m K c 38 16 rfl 124 rfl _ rfl rfl ?_
  exact done c (Entails.refl _)

theorem part106 (c : Dev nD) (E : sProp 𝕄) (p1 p2 : BitVec 32) : iprop(St m K c 125 ∗ E)
    ⊢ WP c (k0_part106 (F := F) xM x_whole tM t_whole wM w_whole oM o_whole rM r_whole gM g_whole cc0_scratch2 cc0_scratch3 c p1 p2) fun _ => iprop(St m K c 129 ∗ E) := by
  rw [k0_part106_eq_skeleton]
  refine step_recv m K c 39 16 rfl 125 rfl _ rfl rfl ?_
  refine step_recv m K c 40 16 rfl 126 rfl _ rfl rfl ?_
  refine step_recv m K c 41 16 rfl 127 rfl _ rfl rfl ?_
  refine step_recv m K c 42 16 rfl 128 rfl _ rfl rfl ?_
  exact done c (Entails.refl _)

theorem part107 (c : Dev nD) (E : sProp 𝕄) (p1 : BitVec 32) : iprop(St m K c 129 ∗ (Win m c ∗ (Oany c ∗ E)))
    ⊢ WP c (k0_part107 (F := F) xM x_whole tM t_whole wM w_whole oM o_whole rM r_whole gM g_whole cc0_scratch2 cc0_scratch3 c p1) fun _ => iprop(St m K c 134 ∗ (Win m c ∗ (Out m c ∗ E))) := by
  rw [k0_part107_eq_skeleton]
  refine step_recv m K c 43 16 rfl 129 rfl _ rfl rfl ?_
  refine step_recv m K c 44 16 rfl 130 rfl _ rfl rfl ?_
  refine step_recv m K c 45 16 rfl 131 rfl _ rfl rfl ?_
  refine step_recv m K c 46 16 rfl 132 rfl _ rfl rfl ?_
  obtain ⟨R, e1, e2⟩ := St_red m K c 133 (by decide)
  unfold Oany Out
  iintro ⟨HS, HW, ⟨%f, Ho⟩, HE⟩
  ihave HS := e1 $$ HS
  icases HS with ⟨HR, Hr⟩
  iapply (ld_r c (n := 512) (a := 0) rfl) $$ Hr; iintro Hr
  ihave HS := e2 $$ [HR Hr]
  · isplitl [HR]; · iexact HR
    iexact Hr
  iapply (wp_load 𝒱₀ (c : Thread nD τ) none Set.univ (m := oM) (Finset.subset_univ _)) $$ Ho; iintro Ho
  iapply (stor_o m c f) $$ Ho; iintro Ho
  iapply (step_back m K c 0 128 rfl 133 rfl _ rfl rfl (E := iprop(Win m c ∗ (((c : Thread nD τ).loc cc0_stg3_0 ↦{fullShare} outv m) ∗ E))) ?_) $$ [HS HW Ho HE]
  · exact done c (Entails.refl _)
  isplitl [HS]; · iexact HS
  isplitl [HW]; · iexact HW
  isplitl [Ho]; · iexact Ho
  iexact HE

theorem part108 (c : Dev nD) (E : sProp 𝕄) : iprop(St m K c 134 ∗ E)
    ⊢ WP c (k0_part108 (F := F) xM x_whole tM t_whole wM w_whole oM o_whole rM r_whole gM g_whole cc0_scratch2 cc0_scratch3 c) fun _ => iprop(St m K c 139 ∗ E) := by
  rw [k0_part108_eq_skeleton]
  refine step_back m K c 47 128 rfl 134 rfl _ rfl rfl ?_
  refine step_back m K c 1 16 rfl 135 rfl _ rfl rfl ?_
  refine step_back m K c 2 16 rfl 136 rfl _ rfl rfl ?_
  refine step_back m K c 3 16 rfl 137 rfl _ rfl rfl ?_
  refine step_back m K c 4 16 rfl 138 rfl _ rfl rfl ?_
  exact done c (Entails.refl _)

theorem part109 (c : Dev nD) (E : sProp 𝕄) : iprop(St m K c 139 ∗ E)
    ⊢ WP c (k0_part109 (F := F) xM x_whole tM t_whole wM w_whole oM o_whole rM r_whole gM g_whole cc0_scratch2 cc0_scratch3 c) fun _ => iprop(St m K c 145 ∗ E) := by
  rw [k0_part109_eq_skeleton]
  refine step_back m K c 5 16 rfl 139 rfl _ rfl rfl ?_
  refine step_back m K c 6 16 rfl 140 rfl _ rfl rfl ?_
  refine step_back m K c 7 16 rfl 141 rfl _ rfl rfl ?_
  refine step_back m K c 8 16 rfl 142 rfl _ rfl rfl ?_
  refine step_back m K c 9 16 rfl 143 rfl _ rfl rfl ?_
  refine step_back m K c 10 16 rfl 144 rfl _ rfl rfl ?_
  exact done c (Entails.refl _)

theorem part110 (c : Dev nD) (E : sProp 𝕄) : iprop(St m K c 145 ∗ E)
    ⊢ WP c (k0_part110 (F := F) xM x_whole tM t_whole wM w_whole oM o_whole rM r_whole gM g_whole cc0_scratch2 cc0_scratch3 c) fun _ => iprop(St m K c 150 ∗ E) := by
  rw [k0_part110_eq_skeleton]
  refine step_back m K c 11 16 rfl 145 rfl _ rfl rfl ?_
  refine step_back m K c 12 16 rfl 146 rfl _ rfl rfl ?_
  refine step_back m K c 13 16 rfl 147 rfl _ rfl rfl ?_
  refine step_back m K c 14 16 rfl 148 rfl _ rfl rfl ?_
  refine step_back m K c 15 16 rfl 149 rfl _ rfl rfl ?_
  exact done c (Entails.refl _)

theorem part111 (c : Dev nD) (E : sProp 𝕄) : iprop(St m K c 150 ∗ E)
    ⊢ WP c (k0_part111 (F := F) xM x_whole tM t_whole wM w_whole oM o_whole rM r_whole gM g_whole cc0_scratch2 cc0_scratch3 c) fun _ => iprop(St m K c 156 ∗ E) := by
  rw [k0_part111_eq_skeleton]
  refine step_back m K c 31 16 rfl 150 rfl _ rfl rfl ?_
  refine step_back m K c 16 16 rfl 151 rfl _ rfl rfl ?_
  refine step_back m K c 17 16 rfl 152 rfl _ rfl rfl ?_
  refine step_back m K c 18 16 rfl 153 rfl _ rfl rfl ?_
  refine step_back m K c 19 16 rfl 154 rfl _ rfl rfl ?_
  refine step_back m K c 20 16 rfl 155 rfl _ rfl rfl ?_
  exact done c (Entails.refl _)

theorem part112 (c : Dev nD) (E : sProp 𝕄) : iprop(St m K c 156 ∗ E)
    ⊢ WP c (k0_part112 (F := F) xM x_whole tM t_whole wM w_whole oM o_whole rM r_whole gM g_whole cc0_scratch2 cc0_scratch3 c) fun _ => iprop(St m K c 162 ∗ E) := by
  rw [k0_part112_eq_skeleton]
  refine step_back m K c 21 16 rfl 156 rfl _ rfl rfl ?_
  refine step_back m K c 22 16 rfl 157 rfl _ rfl rfl ?_
  refine step_back m K c 23 16 rfl 158 rfl _ rfl rfl ?_
  refine step_back m K c 24 16 rfl 159 rfl _ rfl rfl ?_
  refine step_back m K c 25 16 rfl 160 rfl _ rfl rfl ?_
  refine step_back m K c 26 16 rfl 161 rfl _ rfl rfl ?_
  exact done c (Entails.refl _)

theorem part113 (c : Dev nD) (E : sProp 𝕄) : iprop(St m K c 162 ∗ E)
    ⊢ WP c (k0_part113 (F := F) xM x_whole tM t_whole wM w_whole oM o_whole rM r_whole gM g_whole cc0_scratch2 cc0_scratch3 c) fun _ => iprop(St m K c 168 ∗ E) := by
  rw [k0_part113_eq_skeleton]
  refine step_back m K c 27 16 rfl 162 rfl _ rfl rfl ?_
  refine step_back m K c 28 16 rfl 163 rfl _ rfl rfl ?_
  refine step_back m K c 29 16 rfl 164 rfl _ rfl rfl ?_
  refine step_back m K c 30 16 rfl 165 rfl _ rfl rfl ?_
  refine step_back m K c 32 16 rfl 166 rfl _ rfl rfl ?_
  refine step_back m K c 33 16 rfl 167 rfl _ rfl rfl ?_
  exact done c (Entails.refl _)

theorem part114 (c : Dev nD) (E : sProp 𝕄) : iprop(St m K c 168 ∗ E)
    ⊢ WP c (k0_part114 (F := F) xM x_whole tM t_whole wM w_whole oM o_whole rM r_whole gM g_whole cc0_scratch2 cc0_scratch3 c) fun _ => iprop(St m K c 174 ∗ E) := by
  rw [k0_part114_eq_skeleton]
  refine step_back m K c 34 16 rfl 168 rfl _ rfl rfl ?_
  refine step_back m K c 35 16 rfl 169 rfl _ rfl rfl ?_
  refine step_back m K c 36 16 rfl 170 rfl _ rfl rfl ?_
  refine step_back m K c 37 16 rfl 171 rfl _ rfl rfl ?_
  refine step_back m K c 38 16 rfl 172 rfl _ rfl rfl ?_
  refine step_back m K c 39 16 rfl 173 rfl _ rfl rfl ?_
  exact done c (Entails.refl _)

theorem part115 (c : Dev nD) (E : sProp 𝕄) : iprop(St m K c 174 ∗ E)
    ⊢ WP c (k0_part115 (F := F) xM x_whole tM t_whole wM w_whole oM o_whole rM r_whole gM g_whole cc0_scratch2 cc0_scratch3 c) fun _ => iprop(St m K c 180 ∗ E) := by
  rw [k0_part115_eq_skeleton]
  refine step_back m K c 40 16 rfl 174 rfl _ rfl rfl ?_
  refine step_back m K c 41 16 rfl 175 rfl _ rfl rfl ?_
  refine step_back m K c 42 16 rfl 176 rfl _ rfl rfl ?_
  refine step_back m K c 43 16 rfl 177 rfl _ rfl rfl ?_
  refine step_back m K c 44 16 rfl 178 rfl _ rfl rfl ?_
  refine step_back m K c 45 16 rfl 179 rfl _ rfl rfl ?_
  exact done c (Entails.refl _)

end Cert.Proof
-- ==== Proof.StepsE.lean ====
/-
The whole body: its steps in order.
-/
module

public import proofs.«01_k».proof.Proof.StepsD

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pl

variable {F : FTy → Type} [FloatOps F]

local notation "𝕄" => MT nD τ sig Unit (Elt F) ℕ UU ℕ

variable (m : (ℓ : Loc nD τ sig) → Buf (Elt F) ℓ) (K : Dev nD × Fin 97 → ℕ)

set_option maxHeartbeats 4000000 in
theorem part116 (c : Dev nD) (E : sProp 𝕄) :
    iprop(St m K c 0 ∗ (Win m c ∗ rAny c (send0 c) 128 ∗ (rAny c (send0 c + 128) 128 ∗ (rAny c (col0 c) 256 ∗ E))))
    ⊢ WP c (k0_part116 (F := F) xM x_whole tM t_whole wM w_whole oM o_whole rM r_whole gM g_whole cc0_scratch2 cc0_scratch3 ) fun r => iprop(⌜r.1 = c⌝ ∗ (St m K c 50 ∗ (Win m c ∗ E))) := by
  rw [k0_part116_eq_skeleton]
  refine then_run c (part1 c _) ?_; rintro ⟨d0, v2, v19, v29, c2_i32, v30, v35, v37, v38⟩ ⟨h1, h2⟩; obtain rfl : d0 = c := h1; obtain rfl : v2 = v2w d0 := h2
  refine then_run' d0 (part2 d0 _ _ _ _ _ _ _ _) ?_; rintro ⟨v67, v69, v70, v73, v75, v76, c0_i32_35⟩
  refine then_run d0 (part3 m K d0 _ _ _ _ _ _ _) ?_; rintro ⟨v85, v86, v99, v116⟩ h; obtain rfl : v86 = SemArray.scalar (sig.barrier 0 rfl) := h
  refine then_run' d0 (part4 m K d0 _ _ _ _ _) ?_; rintro ⟨v146, v147, v148, v151⟩
  refine then_run' d0 (part5 d0 _ _ _ _ _) ?_; rintro ⟨v184, v186, v187, v188, v189, v190⟩
  refine then_run' d0 (part6 m K d0 _ _ _ _ _ _ _ _ _) ?_; rintro ⟨v226, v228, v229⟩
  refine then_run' d0 (part7 m K d0 _ _ _ _ _ _) ?_; rintro ⟨v264, c4_i32_139, v265, c0_i32_140⟩
  refine then_run' d0 (part8 d0 _ _ _ _ _ _) ?_; intro v306
  refine then_run' d0 (part9 m K d0 _ _ _) ?_; rintro ⟨v336, v338, v339, v340, v341, v342⟩
  refine then_run' d0 (part10 m K d0 _ _ _ _ _ _ _ _ _) ?_; rintro ⟨v374, c4_i32_199, v375, v380⟩
  refine then_run' d0 (part11 m K d0 _ _ _ _ _ _) ?_; intro _
  refine then_run' d0 (part12 d0 _ _) ?_; rintro ⟨v446, v457⟩
  refine then_run' d0 (part13 m K d0 _ _ _ _ _) ?_; rintro ⟨v484, c4_i32_260, v485, v490, v492, v494⟩
  refine then_run' d0 (part14 m K d0 _ _ _ _ _ _ _ _ _) ?_; rintro ⟨v529, c16_i32_284, v530, c1_i32_286⟩
  refine then_run' d0 (part15 d0 _ _ _ _ _) ?_; rintro ⟨v556, v569, c2_i32_305, v570⟩
  refine then_run' d0 (part16 m K d0 _ _ _ _ _ _ _) ?_; rintro ⟨v594, v595, v609⟩
  refine then_run' d0 (part17 m K d0 _ _ _ _ _ _) ?_; rintro ⟨v641, v642, v643, v644⟩
  refine then_run' d0 (part18 d0 _ _ _ _ _) ?_; rintro ⟨v679, v681, v682, v683, c0_i32_369⟩
  refine then_run' d0 (part19 m K d0 _ _ _ _ _ _ _ _) ?_; rintro ⟨v704, v721, c4_i32_387, v722⟩
  refine then_run' d0 (part20 m K d0 _ _ _ _ _ _ _) ?_; intro v759
  refine then_run' d0 (part21 d0 _ _) ?_; rintro ⟨v789, v792, v797, v798⟩
  refine then_run' d0 (part22 m K d0 _ _ _ _ _ _ _) ?_; rintro ⟨v831, v833, v834, v835, c0_i32_451⟩
  refine then_run' d0 (part23 m K d0 _ _ _ _ _ _ _ _) ?_; rintro ⟨v869, c4_i32_470, v870, v872, c0_i32_472⟩
  refine then_run' d0 (part24 d0 _ _ _ _ _ _ _) ?_; intro v912
  refine then_run d0 (part25 m K d0 _ _ _) ?_; rintro ⟨v914, v915, v917⟩ h; obtain rfl : v914 = v914w d0 := h
  refine then_run' d0 (part26 m K d0 _ _ _) ?_; intro _
  refine then_run d0 (part27 m K d0 _ _ _ _) ?_; rintro v1024 h; obtain rfl : v1024 = a3 m d0 := h
  refine then_run' d0 (part28 m K d0 _ _ _) ?_; rintro ⟨v1030, v1060, v1062, v1063, v1064, v1065⟩
  refine then_run' d0 (part29 d0 _ _ _ _ _ _ _ _ _) ?_; rintro ⟨v1085, v1096, c4_i32_583, v1099, v1104, c0_i32_586⟩
  refine then_run' d0 (part30 d0 _ _ _ _ _ _ _ _) ?_; rintro ⟨v1140, v1141, v1143⟩
  refine then_run' d0 (part31 d0 _ _ _ _) ?_; rintro ⟨v1170, v1183, c2_i32_627⟩
  refine then_run' d0 (part32 d0 _ _ _ _ _ _ _) ?_; rintro ⟨v1195, v1206, v1209, v1223, c1_i32_647⟩
  refine then_run' d0 (part33 d0 _ _ _ _ _ _ _) ?_; rintro ⟨v1250, v1261, c16_i32_669⟩
  refine then_run' d0 (part34 d0 _ _ _ _) ?_; rintro ⟨v1293, v1295, v1296, v1297, v1300⟩
  refine then_run' d0 (part35 d0 _ _ _ _ _ _ _ _ _) ?_; rintro ⟨v1305, v1335, v1337, v1338, v1339, v1340⟩
  refine then_run' d0 (part36 d0 _ _ _ _ _ _ _ _ _) ?_; rintro ⟨v1360, v1371, c4_i32_728, v1374, v1379, c0_i32_731⟩
  refine then_run' d0 (part37 d0 _ _ _ _ _ _ _ _) ?_; rintro ⟨v1415, v1416, v1418⟩
  refine then_run' d0 (part38 d0 _ _ _ _) ?_; rintro ⟨v1445, v1458, c2_i32_772⟩
  refine then_run' d0 (part39 d0 _ _ _ _ _ _ _) ?_; rintro ⟨v1470, v1481, v1484, v1498, c1_i32_792⟩
  refine then_run' d0 (part40 d0 _ _ _ _ _ _ _) ?_; rintro ⟨v1525, v1536, c16_i32_814⟩
  refine then_run' d0 (part41 d0 _ _ _ _) ?_; rintro ⟨v1568, v1570, v1571, v1572, v1575⟩
  refine then_run' d0 (part42 d0 _ _ _ _ _ _ _ _ _) ?_; rintro ⟨v1580, v1610, v1612, v1613, v1614, v1615⟩
  refine then_run' d0 (part43 d0 _ _ _ _ _ _ _ _ _) ?_; rintro ⟨v1635, v1646, c4_i32_873, v1649, v1654, c0_i32_876⟩
  refine then_run' d0 (part44 d0 _ _ _ _ _ _ _ _) ?_; rintro ⟨v1690, v1691, v1693⟩
  refine then_run' d0 (part45 d0 _ _ _ _) ?_; rintro ⟨v1720, v1733, c2_i32_917⟩
  refine then_run' d0 (part46 d0 _ _ _ _ _ _ _) ?_; rintro ⟨v1745, v1756, v1759, v1773, c1_i32_937⟩
  refine then_run' d0 (part47 d0 _ _ _ _ _ _ _) ?_; rintro ⟨v1800, v1811, c16_i32_959⟩
  refine then_run' d0 (part48 d0 _ _ _ _) ?_; rintro ⟨v1843, v1845, v1846, v1847, v1850⟩
  refine then_run' d0 (part49 m K d0 _ _ _ _ _ _ _ _ _ _ _) ?_; rintro ⟨v1855, v1884⟩
  refine then_run' d0 (part50 m K d0 _ _ _ _ _) ?_; rintro ⟨v1914, v1915, v1916⟩
  refine then_run' d0 (part51 m K d0 _ _ _ _ _ _ _) ?_; intro v1950
  refine then_run' d0 (part52 m K d0 _ _ _ _ _ _) ?_; intro _
  refine then_run' d0 (part53 m K d0 _ _ _ _) ?_; rintro ⟨v2012, v2013⟩
  refine then_run' d0 (part54 m K d0 _ _ _ _ _ _) ?_; rintro ⟨v2040, v2041, v2046⟩
  refine then_run' d0 (part55 m K d0 _ _ _ _ _ _ _) ?_; rintro ⟨v2078, c0_i32_1156⟩
  refine then_run' d0 (part56 m K d0 _ _ _ _ _ _ _ _) ?_; intro c2_i32_1180
  refine then_run' d0 (part57 m K d0 _ _ _ _ _) ?_; rintro ⟨v2140, v2141, c0_i32_1206⟩
  refine then_run' d0 (part58 m K d0 _ _ _ _ _ _ _) ?_; rintro ⟨v2169, v2174, v2175⟩
  refine then_run' d0 (part59 m K d0 _ _ _ _ _ _ _) ?_; intro _
  refine then_run' d0 (part60 m K d0 _ _ _ _ _) ?_; rintro ⟨v2236, v2238⟩
  exact done' d0 rfl (Entails.refl _)

theorem part117 (c : Dev nD) (E : sProp 𝕄) (p1 p2 p3 p4 p5 p6 p7 p8 p9 p10 p11 p12 p13 p14 p15 p16 p17 p18 p19 p20 p21 p22 : BitVec 32) : iprop(St m K c 50 ∗ (Win m c ∗ (Oany c ∗ E)))
    ⊢ WP c (k0_part117 (F := F) xM x_whole tM t_whole wM w_whole oM o_whole rM r_whole gM g_whole cc0_scratch2 cc0_scratch3 c p1 p2 p3 p4 p5 p6 p7 p8 p9 p10 p11 p12 p13 p14 p15 p16 p17 p18 p19 p20 p21 p22) fun _ => iprop(St m K c 181 ∗ (Win m c ∗ (Out m c ∗ E))) := by
  rw [k0_part117_eq_skeleton]
  refine then_run' c (part61 m K c _ _ _ _ _ _) ?_; rintro ⟨v2266, v2267, v2268, v2271⟩
  refine then_run' c (part62 m K c _ _ _ _ _ _ _ _) ?_; intro v2304
  refine then_run' c (part63 m K c _ _ _ _ _ _ _) ?_; intro _
  refine then_run' c (part64 m K c _ _ _ _ _ _) ?_; rintro ⟨v2354, c0_i32_1386⟩
  refine then_run' c (part65 m K c _ _ _ _ _ _ _) ?_; intro _
  refine then_run' c (part66 m K c _ _ _ _ _ _) ?_; intro c1_i32_1432
  refine then_run' c (part67 m K c _ _ _ _) ?_; rintro ⟨v2447, v2449, v2450⟩
  refine then_run' c (part68 m K c _ _ _ _ _ _) ?_; rintro ⟨v2472, v2483, v2484, v2485, v2486⟩
  refine then_run' c (part69 c _ _ _ _ _) ?_; rintro ⟨v2521, v2523, v2524, v2525, c0_i32_1496⟩
  refine then_run' c (part70 m K c _ _ _ _ _ _ _ _) ?_; rintro ⟨v2533, v2552, v2553, v2564, v2565⟩
  refine then_run' c (part71 m K c _ _ _ _ _ _) ?_; intro v2594
  refine then_run' c (part72 c _ _) ?_; rintro ⟨v2630, v2641⟩
  refine then_run' c (part73 m K c _ _ _ _ _) ?_; rintro ⟨v2655, v2674, c4_i32_1576, v2675, v2677, c0_i32_1578⟩
  refine then_run' c (part74 c _ _ _ _ _ _ _) ?_; rintro ⟨v2716, c1_i32_1598⟩
  refine then_run' c (part75 m K c _ _ _ _) ?_; rintro ⟨v2752, v2754, v2755⟩
  refine then_run' c (part76 m K c _ _ _ _ _ _) ?_; rintro ⟨v2777, v2788, v2789, v2790, v2791⟩
  refine then_run' c (part77 c _ _ _ _ _) ?_; rintro ⟨v2826, v2828, v2829, v2830, c0_i32_1661⟩
  refine then_run' c (part78 m K c _ _ _ _ _ _ _ _) ?_; rintro ⟨v2838, v2857, v2858, v2869, v2870⟩
  refine then_run' c (part79 m K c _ _ _ _ _ _) ?_; intro v2899
  refine then_run' c (part80 c _ _) ?_; rintro ⟨v2935, v2946⟩
  refine then_run' c (part81 m K c _ _ _ _ _) ?_; rintro ⟨v2960, v2979, c4_i32_1741, v2980, v2982, c0_i32_1743⟩
  refine then_run' c (part82 c _ _ _ _ _ _ _) ?_; rintro ⟨v3021, c1_i32_1763⟩
  refine then_run' c (part83 m K c _ _ _ _) ?_; rintro ⟨v3057, v3059, v3060⟩
  refine then_run' c (part84 m K c _ _ _ _ _ _) ?_; rintro ⟨v3082, v3093, v3094, v3095, v3096⟩
  refine then_run' c (part85 c _ _ _ _ _) ?_; rintro ⟨v3131, v3133, v3134, v3135, c0_i32_1826⟩
  refine then_run' c (part86 m K c _ _ _ _ _ _ _ _) ?_; rintro ⟨v3143, v3162, v3163, v3174, v3175⟩
  refine then_run' c (part87 m K c _ _ _ _ _ _) ?_; intro v3204
  refine then_run' c (part88 c _ _) ?_; rintro ⟨v3240, v3251⟩
  refine then_run' c (part89 m K c _ _ _ _ _) ?_; rintro ⟨v3265, v3284, c4_i32_1906, v3285, v3287, c0_i32_1908⟩
  refine then_run' c (part90 c _ _ _ _ _ _ _) ?_; rintro ⟨v3326, c1_i32_1928⟩
  refine then_run' c (part91 m K c _ _ _ _ _ _ _) ?_; intro _
  refine then_run' c (part92 m K c _ _ _ _ _ _) ?_; intro v3393
  refine then_run' c (part93 m K c _ _ _ _ _ _) ?_; intro _
  refine then_run' c (part94 m K c _ _ _ _ _) ?_; rintro ⟨v3457, v3459⟩
  refine then_run' c (part95 m K c _ _ _ _ _ _ _) ?_; rintro ⟨v3488, v3489, v3490, v3493⟩
  refine then_run' c (part96 m K c _ _ _ _ _ _ _ _ _) ?_; intro v3528
  refine then_run' c (part97 m K c _ _ _ _ _ _) ?_; intro _
  refine then_run' c (part98 m K c _ _ _ _ _) ?_; intro _
  refine then_run' c (part99 m K c _ _ _ _ _ _) ?_; intro _
  refine then_run' c (part100 m K c _ _ _ _ _) ?_; rintro ⟨v3660, c16_i32_2160⟩
  refine then_run' c (part101 m K c _ _ _ _ _ _ _) ?_; rintro ⟨v3691, v3692, v3693, c0_i32_2184⟩
  refine then_run' c (part102 m K c _ _ _ _ _ _ _ _ _) ?_; rintro ⟨v3728, c16_i32_2206⟩
  refine then_run' c (part103 m K c _ _ _ _ _ _ _) ?_; intro c1_i32_2229
  refine then_run' c (part104 m K c _ _ _) ?_; intro _
  refine then_run' c (part105 m K c _ _) ?_; intro v3818
  refine then_run' c (part106 m K c _ _ _) ?_; intro _
  refine then_run' c (part107 m K c _ _) ?_; intro _
  refine then_run' c (part108 m K c _) ?_; intro _
  refine then_run' c (part109 m K c _) ?_; intro _
  refine then_run' c (part110 m K c _) ?_; intro _
  refine then_run' c (part111 m K c _) ?_; intro _
  refine then_run' c (part112 m K c _) ?_; intro _
  refine then_run' c (part113 m K c _) ?_; intro _
  refine then_run' c (part114 m K c _) ?_; intro _
  refine then_run' c (part115 m K c _) ?_; intro _
  refine step_back m K c 46 16 rfl 180 rfl _ rfl rfl ?_
  exact done c (Entails.refl _)

/-- The body, from the start of the launch to its end. -/
theorem body_run (c : Dev nD) (E : sProp 𝕄) :
    iprop(St m K c 0 ∗ (Win m c ∗ rAny c (send0 c) 128 ∗ (rAny c (send0 c + 128) 128 ∗ (rAny c (col0 c) 256 ∗ (Oany c ∗ E)))))
    ⊢ WP c (cc0_body (F := F) xM x_whole tM t_whole wM w_whole oM o_whole rM r_whole gM g_whole cc0_scratch2 cc0_scratch3) fun _ => iprop(St m K c 181 ∗ (Win m c ∗ (Out m c ∗ E))) := by
  rw [cc0_body_eq_skeleton]
  refine then_run c (part116 m K c _) ?_
  rintro ⟨d0, b1, b2, b3, b4, b5, b6, b7, b8, b9, b10, b11, b12, b13, b14, b15, b16, b17, b18, b19, b20, b21, b22⟩ h
  obtain rfl : d0 = c := h
  refine then_run' d0 (part117 m K d0 _ _ _ _ _ _ _ _ _ _ _ _ _ _ _ _ _ _ _ _ _ _ _) ?_
  intro _
  exact done d0 (Entails.refl _)

end Cert.Proof
-- ==== Proof.Body.lean ====
/-
What a device starts from, and the body of the launch as the pipeline asks for it.
-/
module

public import proofs.«01_k».proof.Proof.StepsE

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Pl

variable {F : FTy → Type} [FloatOps F]

local notation "𝕄" => MT nD τ sig Unit (Elt F) ℕ UU ℕ

variable (m : (ℓ : Loc nD τ sig) → Buf (Elt F) ℓ)

/-! ## The start -/

/-- The tokens of the duties device `c` pays. -/
def payToks (c : Dev nD) : sProp 𝕄 :=
  iprop((bigSep Finset.univ fun o : Fin 16 => dutyTok ER (barCell (tgt c o)) 0 o)
    ∗ (bigSep Finset.univ fun i : Fin 48 => dutyTok ER (recvCell (dst c i) i) 0 0)
    ∗ (bigSep Finset.univ fun i : Fin 48 => dutyTok ER (sendCell c i) 0 0))
/-- Its places at its own cells. -/
def places (c : Dev nD) : sProp 𝕄 :=
  iprop(atPos ER (barCell c) 0 ∅ 0 ∗ (bigSep Finset.univ fun i : Fin 48 => atPos ER (sendCell c i) 0 ∅ 0)
    ∗ (bigSep Finset.univ fun i : Fin 48 => atPos ER (recvCell c i) 0 ∅ 0))
/-- What the others owe it. -/
def claims (c : Dev nD) : sProp 𝕄 :=
  iprop(cred (tallyAt (barCell c) () 16) ∗ bigSep Finset.univ fun i : Fin 48 => cred (tallyAt (recvCell c i) () (nAmt i)))

def ghost (K : Dev nD × Fin 97 → ℕ) (c : Dev nD) : sProp 𝕄 := iprop(records m K ∗ places c ∗ payToks c)
def start (c : Dev nD) : sProp 𝕄 := iprop((∃ K, ghost m K c) ∗ claims c ∗ levAts L lv)

theorem st_intro (K : Dev nD × Fin 97 → ℕ) (c : Dev nD) :
    iprop(ghost m K c ∗ claims c ∗ levAts L lv ∗ owesP c 0 ∗ bigSep Finset.univ fun o : Fin 16 => barPay (F := F) (tgt c o) o) ⊢ St m K c 0 := by
  have h1 : fSig (F := F) c 0 = iprop((bigSep Finset.univ fun o : Fin 16 => dutyTok ER (barCell (tgt c o)) 0 o)
      ∗ bigSep Finset.univ fun o : Fin 16 => barPay (F := F) (tgt c o) o) := by
    unfold fSig; rw [← bigSep_sep']; exact bigSep_congr fun o _ => ph_le (Nat.zero_le _) _ _
  have h2 : eBar (F := F) c 0 = iprop(atPos ER (barCell c) 0 ∅ 0 ∗ cred (tallyAt (barCell c) () 16)) := ph_le (Nat.zero_le _) _ _
  have h3 : fSnd m c 0 = iprop((bigSep Finset.univ fun i : Fin 48 => dutyTok ER (recvCell (dst c i) i) 0 0)
      ∗ (bigSep Finset.univ fun i : Fin 48 => dutyTok ER (sendCell c i) 0 0) ∗ bigSep Finset.univ fun i : Fin 48 => atPos ER (sendCell c i) 0 ∅ 0) := by
    unfold fSnd; rw [← bigSep_sep', ← bigSep_sep']; exact bigSep_congr fun i _ => ph_le (Nat.zero_le _) _ _
  have h4 : fRcv m c 0 = iprop((bigSep Finset.univ fun i : Fin 48 => atPos ER (recvCell c i) 0 ∅ 0)
      ∗ bigSep Finset.univ fun i : Fin 48 => cred (tallyAt (recvCell c i) () (nAmt i))) := by
    unfold fRcv; rw [← bigSep_sep']; exact bigSep_congr fun i _ => ph_le (Nat.zero_le _) _ _
  have h5 : fDst (F := F) c 0 = iprop(emp) :=
    (bigSep_congr fun i _ => ph_le (Nat.zero_le _) _ _).trans (bigSep_emp_const _)
  have h6 : fSrc m c 0 = iprop(emp) :=
    (bigSep_congr fun i _ => ph_le (Nat.zero_le _) _ _).trans (bigSep_emp_const _)
  have h7 : eOwn m c 0 = iprop(emp) := ph_le (Nat.zero_le _) _ _
  unfold St ghost places payToks claims
  rw [h1, h2, h3, h4, h5, h6, h7]
  iintro ⟨⟨Hrec, ⟨Ha, Hb, Hc⟩, Ht1, Ht2, Ht3⟩, ⟨Hc1, Hc2⟩, Hlev, HO, Hp⟩
  isplitl [Hrec]; · iexact Hrec
  isplitl [Hlev]; · iexact Hlev
  isplitl [HO]; · iexact HO
  isplitl [Ht1 Hp]
  · isplitl [Ht1]; · iexact Ht1
    iexact Hp
  isplitl [Ha Hc1]
  · isplitl [Ha]; · iexact Ha
    iexact Hc1
  isplitl [Ht2 Ht3 Hb]
  · isplitl [Ht2]; · iexact Ht2
    isplitl [Ht3]; · iexact Ht3
    iexact Hb
  isplitl [Hc Hc2]
  · isplitl [Hc]; · iexact Hc
    iexact Hc2
  isplitr; · iempintro
  isplitr <;> iempintro

/-! ## The two buffers cut up -/

theorem red_eq (c : Dev nD) (f : RBuf F) : rP c 0 512 fullShare f = (((c : Thread nD τ).loc cc0_scratch0) ↦{fullShare} f : sProp 𝕄) := by
  unfold rP
  rw [show rowsR 0 512 = Finset.univ from by
    ext x; rw [mem_rowsR]
    have : (x 0).val < 512 := (x 0).isLt
    simp; omega]
theorem stage_eq (c : Dev nD) (f : GBuf F) : sP c 0 496 fullShare f = (((c : Thread nD τ).loc cc0_scratch1) ↦{fullShare} f : sProp 𝕄) := by
  unfold sP
  rw [show rowsG 0 496 = Finset.univ from by
    ext x; rw [mem_rowsG]
    have : (x 0).val < 496 := (x 0).isLt
    simp; omega]

theorem red_parts (c : Dev nD) (f : RBuf F) :
    rP c 0 512 fullShare f ⊢ iprop(rAny c (send0 c) 128 ∗ rAny c (send0 c + 128) 128 ∗ rAny c (col0 c) 256) := by
  unfold rAny
  have hx := xh_lt c
  have e : rP c (send0 c) 256 fullShare f = iprop(rP c (send0 c) 128 fullShare f ∗ rP c (send0 c + 128) 128 fullShare f) := rP_split c (send0 c) 128 128 fullShare f
  have h : rP c 0 512 fullShare f ⊢ iprop(rP c (send0 c) 256 fullShare f ∗ rP c (col0 c) 256 fullShare f) := by
    rw [show rP c 0 512 fullShare f = iprop(rP c 0 256 fullShare f ∗ rP c (0 + 256) 256 fullShare f) from rP_split c 0 256 256 fullShare f]
    rcases (by omega : xh c = 0 ∨ xh c = 1) with h | h
    · rw [show send0 c = 0 + 256 from by unfold send0; omega, show col0 c = 0 from by unfold col0; omega]
      iintro ⟨H1, H2⟩
      isplitl [H2] <;> iassumption
    · rw [show send0 c = 0 from by unfold send0; omega, show col0 c = 0 + 256 from by unfold col0; omega]
  refine BIBase.Entails.trans h ?_
  rw [e]
  iintro ⟨⟨H1, H2⟩, H3⟩
  isplitl [H1]; · iexists f; iexact H1
  isplitl [H2]; · iexists f; iexact H2
  iexists f; iexact H3

theorem stage_piece (c : Dev nD) (o : Fin 16) (ho : o ≠ 0) (f : GBuf F) :
    sP c (dstLo c (Fin.castLEEmb (by decide : 16 ≤ 48) o)) 16 fullShare f ⊢ barPay (F := F) (tgt c o) o := by
  have h0 : ¬ o.val = 0 := fun h => ho (Fin.ext h)
  have h1 := o.isLt
  have hv : (o.castLE (by decide : 16 ≤ 48)).val = o.val := rfl
  have e1 : barPay (F := F) (tgt c o) o = dstP (tgt c o) (o.castLE (by decide)) := if_neg h0
  have e2 : dstP (F := F) (tgt c o) (o.castLE (by decide)) = iprop(∃ f, sP c (dstLo c (Fin.castLEEmb (by decide : 16 ≤ 48) o)) 16 fullShare f) := by
    unfold dstP
    rw [if_pos (by unfold toStage; rw [hv]; exact decide_eq_true (.inl (by omega))), dst_tgt,
      show nRows (o.castLE (by decide)) = 16 from if_neg (by rw [hv]; omega),
      show dstLo (tgt c o) (o.castLE (by decide)) = dstLo c (Fin.castLEEmb (by decide : 16 ≤ 48) o) from by
        show dstLo (tgt c o) (o.castLE (by decide)) = dstLo c (o.castLE (by decide))
        unfold dstLo
        rw [hv, if_neg h0, if_neg (by omega), if_pos (by omega), if_neg h0, if_neg (by omega), if_pos (by omega)]]
  rw [e1, e2]
  iintro H
  iexists f; iexact H

theorem stage_first (c : Dev nD) (f : GBuf F) : iprop(sP c 0 128 fullShare f ∗ sP c (0 + 128) 128 fullShare f) ⊢ barPay (F := F) (tgt c 0) 0 := by
  have e1 : barPay (F := F) (tgt c 0) 0 = iprop(dstP (tgt c 0) 47 ∗ dstP (tgt c 0) ((0 : Fin 16).castLE (by decide))) := if_pos rfl
  have e2 : dstP (F := F) (tgt c 0) 47 = iprop(∃ f, sP c (0 + 128) 128 fullShare f) := by
    unfold dstP; rw [if_pos (by decide), dst_tgt47]; rfl
  have e3 : dstP (F := F) (tgt c 0) ((0 : Fin 16).castLE (by decide)) = iprop(∃ f, sP c 0 128 fullShare f) := by
    unfold dstP; rw [if_pos (by decide), dst_tgt]; rfl
  rw [e1, e2, e3]
  iintro ⟨H1, H2⟩
  isplitl [H2]; · iexists f; iexact H2
  iexists f; iexact H1

/-- The staging buffer, as what the device's entry signals hand over. -/
theorem stage_parts (c : Dev nD) (f : GBuf F) :
    sP c 0 496 fullShare f ⊢ bigSep Finset.univ fun o : Fin 16 => barPay (F := F) (tgt c o) o := by
  have hset : (Finset.univ.filter fun i : Fin 48 => 1 ≤ i.val ∧ i.val ≤ 15) = (Finset.univ.erase (0 : Fin 16)).map (Fin.castLEEmb (by decide : 16 ≤ 48)) := by decide
  rw [bigSep_univ_at (fun o : Fin 16 => barPay (F := F) (tgt c o) o) 0,
    show sP c 0 496 fullShare f = iprop(sP c 0 256 fullShare f ∗ sP c (0 + 256) 240 fullShare f) from sP_split c 0 256 240 fullShare f,
    show sP c 0 256 fullShare f = iprop(sP c 0 128 fullShare f ∗ sP c (0 + 128) 128 fullShare f) from sP_split c 0 128 128 fullShare f,
    show sP c (0 + 256) 240 fullShare f = _ from sP_cut (cut_stage c) c fullShare f, hset, bigSep_map]
  iintro ⟨H1, H2⟩
  isplitl [H1]; · iapply (stage_first c f); iexact H1
  iapply (mono_sep (fun o ho => stage_piece c o (Finset.ne_of_mem_erase ho) f)); iexact H2

/-! ## The pipeline's data -/

/-- The two buffers at any contents. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₀ (c : Dev nD) : sProp 𝕄 := iprop(start m c ∗ bufs c)
def Φ₁ (c : Dev nD) : sProp 𝕄 :=
  iprop(semVal (barCell c) 0 ∗ ((bigSep Finset.univ fun i : Fin 48 => semVal (sendCell c i) 0) ∗ (bigSep Finset.univ fun i : Fin 48 => semVal (recvCell c i) 0)) ∗ bufs c)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => ts m c
    | ⟨2, _⟩ => ws m c
    | ⟨3, _⟩ => outv m
  Φ t := match t with
    | ⟨0, _⟩ => Φ₀ m c
    | ⟨_ + 1, _⟩ => Φ₁ c
  q _ := fullShare
  owed t := match t with
    | ⟨0, _⟩ => owed c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before0 (c : Dev nD) (d) : (dats m 0 c).before (0 : Fin 4) t0_0 d = xs m c := by
  unfold Dat.before; rw [if_pos (fetch0_0 t0_0)]; rfl
theorem before1 (c : Dev nD) (d) : (dats m 0 c).before (1 : Fin 4) t0_0 d = ts m c := by
  unfold Dat.before; rw [if_pos (fetch0_1 t0_0)]; rfl
theorem before2 (c : Dev nD) (d) : (dats m 0 c).before (2 : Fin 4) t0_0 d = ws m c := by
  unfold Dat.before; rw [if_pos (fetch0_2 t0_0)]; rfl

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ c ∗ (dats m 0 c).owesAt () t0_0.succ
    ∗ stg c cc0_stg0_0 (xs m c) ∗ stg c cc0_stg1_0 (ts m c) ∗ stg c cc0_stg2_0 (ws m c) ∗ stg c cc0_stg3_0 (outv m))

theorem body_pre (c : Dev nD) : bodyPre m c ⊢ iprop(∃ K, St m K c 0 ∗ (Win m c ∗ rAny c (send0 c) 128 ∗ (rAny c (send0 c + 128) 128 ∗ (rAny c (col0 c) 256 ∗ (Oany c ∗ emp))))) := by
  unfold bodyPre Φ₀ start bufs Dat.owesAt Pipeline.owesWithin
  rw [show (dats m 0 c).owed t0_0.castSucc = owed c 0 from rfl]
  simp only [before0, before1, before2]
  iintro ⟨⟨⟨⟨%K, Hg⟩, Hcl, Hlev⟩, ⟨%f, Hred⟩, ⟨%g, Hst⟩⟩, ⟨%W, -, HO⟩, ⟨%d0, %f0, %h0, H0⟩, ⟨%d1, %f1, %h1, H1⟩, ⟨%d2, %f2, %h2, H2⟩, ⟨%d3, %f3, %h3, H3⟩⟩
  subst h0 h1 h2
  iexists K
  ihave Hp := ((BIBase.Entails.trans (Entails.of_eq (stage_eq c g).symm) (stage_parts c g))) $$ Hst
  ihave Hr := ((BIBase.Entails.trans (Entails.of_eq (red_eq c f).symm) (red_parts c f))) $$ Hred
  icases Hr with ⟨Hr1, Hr2, Hr3⟩
  isplitl [Hg Hcl Hlev HO Hp]
  · iapply (st_intro m K c)
    isplitl [Hg]; · iexact Hg
    isplitl [Hcl]; · iexact Hcl
    isplitl [Hlev]; · iexact Hlev
    isplitl [HO]; · unfold owesP; iexists W; iexact HO
    iexact Hp
  isplitl [H0 H1 H2]
  · unfold Win
    isplitl [H0]; · iexact H0
    isplitl [H1]; · iexact H1
    iexact H2
  isplitl [Hr1]; · iexact Hr1
  isplitl [Hr2]; · iexact Hr2
  isplitl [Hr3]; · iexact Hr3
  isplitl [H3]
  · unfold Oany; iexists f3; iexact H3
  iempintro

theorem body_post (K : Dev nD × Fin 97 → ℕ) (c : Dev nD) : iprop(St m K c 181 ∗ (Win m c ∗ (Out m c ∗ emp))) ⊢ bodyPost m c := by
  unfold bodyPost Φ₁ bufs Dat.owesAt Pipeline.owesWithin Win Out
  rw [show (dats m 0 c).owed t0_0.succ = 0 from rfl]
  iintro ⟨HS, ⟨H0, H1, H2⟩, H3, -⟩
  ihave He := (St_end m K c) $$ HS
  unfold endP
  icases He with ⟨⟨%W, HO⟩, Hb, Hs, Hr, ⟨%f, Hred⟩, ⟨%g, Hst⟩⟩
  isplitl [Hb Hs Hr Hred Hst]
  · isplitl [Hb]; · iexact Hb
    isplitl [Hs Hr]
    · isplitl [Hs] <;> iassumption
    isplitl [Hred]
    · iexists f; iapply (Entails.of_eq (red_eq c f)); iexact Hred
    iexists g; iapply (Entails.of_eq (stage_eq c g)); iexact Hst
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-- The library's body obligation on core `c`. -/
theorem body_obligation (c : Dev nD) : BodyObligation (dats m 0 c) (defs₀ (F := F)) 𝒱₀ () Set.univ := fun t => by
  rw [show t = t0_0 from fin_N0 t]
  rw [bigSep_W0, bigSep_W0]
  simp only [owns_whole_eq]
  show bodyPre m c ⊢ WP c (cc0_body (F := F) xM x_whole tM t_whole wM w_whole oM o_whole rM r_whole gM g_whole cc0_scratch2 cc0_scratch3) fun _ => bodyPost m c
  refine BIBase.Entails.trans (body_pre m c) ?_
  iintro ⟨%K, H⟩
  iapply (BIBase.Entails.trans (body_run m K c iprop(emp)) (wp_mono _ _ _ fun _ => body_post m K c))
  iexact H

end Cert.Proof
-- ==== Proof.Launch.lean ====
/-
The launch: every cell's invariant set up at once, the tokens dealt to the devices that use them, and the run of the
whole program.
-/
module

public import proofs.«01_k».proof.Proof.Body
public import Idealize.ShloMosaic.Lib.Pipeline.CollectiveSegs
public import Idealize.ShloMosaic.Lib.Quiescent

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Pl

variable {F : FTy → Type} [FloatOps F]

local notation "𝕄" => MT nD τ sig Unit (Elt F) ℕ UU ℕ

variable (m : (ℓ : Loc nD τ sig) → Buf (Elt F) ℓ)

/-! ## The cells -/

/-- The kernel's own semaphores: the send and the receive semaphore of each transfer. -/
def osem (p : Fin 2 × Fin 48) : SemLoc sig := if p.1 = 0 then .dma (sendS p.2) else .dma (recvS p.2)

theorem ownSemFacts : Pipeline.OwnSemFacts cfg0.spec osem where
  isScoped := by decide +kernel
  inj := by decide +kernel
  disj := by decide +kernel

theorem csem_inj : Function.Injective csem := by decide +kernel
theorem kcell_injective : Function.Injective (kcell : Dev nD × Fin 97 → GSem nD τ sig) := by
  rintro ⟨c, k⟩ ⟨c', k'⟩ h
  have h1 : c = c' := congrArg (fun g : GSem nD τ sig => g.1.1) h
  have h2 : k = k' := csem_inj (congrArg Prod.snd h)
  subst h1 h2; rfl
def kCells : Finset (GSem nD τ sig) := Finset.univ.map ⟨kcell, kcell_injective⟩

abbrev tokOf (x : Dev nD × Fin 97 × Fin 16) : GSem nD τ sig × ℕ × Fin 16 := (kcell (x.1, x.2.1), 0, x.2.2)
theorem tokOf_injective : Function.Injective tokOf := by
  rintro ⟨c, k, d⟩ ⟨c', k', d'⟩ h
  have h1 : (c, k) = (c', k') := kcell_injective (congrArg (fun x : GSem nD τ sig × ℕ × Fin 16 => x.1) h)
  have h2 : d = d' := congrArg (fun x : GSem nD τ sig × ℕ × Fin 16 => x.2.2) h
  cases h1; subst h2; rfl
def kToks : Finset (GSem nD τ sig × ℕ × Fin 16) := Finset.univ.map ⟨tokOf, tokOf_injective⟩

def u₀ : UU := (initOf (Pipeline.cells cfgs cellOf_inj) (Pipeline.launchToks cfgs cellOf_inj), initOf kCells kToks)

theorem kS_inj : Function.Injective kS := by decide +kernel
theorem kR_inj : Function.Injective kR := by decide +kernel
theorem set_cells : (Finset.univ : Finset (Fin 97)) = insert kB (Finset.univ.map ⟨kS, kS_inj⟩ ∪ Finset.univ.map ⟨kR, kR_inj⟩) := by decide +kernel

/-- A device's cells: its barrier cell, its send cells and its receive cells. -/
theorem cells_all (f : Fin 97 → sProp 𝕄) : bigSep Finset.univ f
    = iprop(f kB ∗ (bigSep Finset.univ fun i => f (kS i)) ∗ bigSep Finset.univ fun i => f (kR i)) := by
  rw [show bigSep Finset.univ f = bigSep _ f from congrArg (bigSep · f) set_cells, split_insert (by decide +kernel), uni (by decide +kernel), bigSep_map, bigSep_map]
  rfl

theorem cells_sem (c : Dev nD) (f : GSem nD τ sig → sProp 𝕄) : (bigSep Finset.univ fun k : Fin 97 => f (kcell (c, k)))
    = iprop(f (barCell c) ∗ (bigSep Finset.univ fun i => f (sendCell c i)) ∗ bigSep Finset.univ fun i => f (recvCell c i)) := by
  rw [cells_all]
  unfold kcell
  simp only [csem_B, csem_S, csem_R]

/-- The tokens of the duties at device `c`'s own cells. -/
def toks (c : Dev nD) : sProp 𝕄 :=
  iprop((bigSep Finset.univ fun o : Fin 16 => dutyTok ER (barCell c) 0 o)
    ∗ (bigSep Finset.univ fun i : Fin 48 => dutyTok ER (sendCell c i) 0 0)
    ∗ (bigSep Finset.univ fun i : Fin 48 => dutyTok ER (recvCell c i) 0 0))

def G (c : Dev nD) : sProp 𝕄 :=
  iprop((bigSep Finset.univ fun k : Fin 97 => roundState ER (kRd m) (kcell (c, k)) 0)
    ∗ (bigSep Finset.univ fun k : Fin 97 => atPos ER (kcell (c, k)) 0 ∅ 0) ∗ (bigSep Finset.univ fun k : Fin 97 => reached ER (kcell (c, k)) 0) ∗ toks c)
def G' (c : Dev nD) : sProp 𝕄 := iprop(∃ K, ghost m K c)

theorem toks_of (c : Dev nD) :
    (bigSep Finset.univ fun k : Fin 97 => bigSep Finset.univ fun d : Fin 16 => (dutyTok ER (kcell (c, k)) 0 d : sProp 𝕄)) ⊢ toks c := by
  rw [cells_sem c fun g => bigSep Finset.univ fun d : Fin 16 => dutyTok ER g 0 d]
  unfold toks
  iintro ⟨H1, H2, H3⟩
  isplitl [H1]; · iexact H1
  isplitl [H2]
  · iapply (mono_sep (fun i _ => BI.bigSep_elim (Finset.mem_univ (0 : Fin 16)))); iexact H2
  · iapply (mono_sep (fun i _ => BI.bigSep_elim (Finset.mem_univ (0 : Fin 16)))); iexact H3

theorem fund_cells : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : Fin 97 => Φ (kcell (c, k)) := by
    unfold kCells; rw [bigSep_map, bigSep_univ_prod]; rfl
  have hT : bigSep kToks (fun x => (dutyTok ER x.1 x.2.1 x.2.2 : sProp 𝕄)) ⊢ bigSep Finset.univ fun c : Dev nD => toks c := by
    unfold kToks; rw [bigSep_map, bigSep_univ_prod]
    refine mono_sep fun c _ => ?_
    rw [bigSep_univ_prod]
    exact toks_of c
  iintro HX
  imod (Rounds.fund ER (kRd m) kCells kToks) $$ HX with ⟨Hst, Hr, Hat, Htok⟩
  imodintro
  ihave Hst' := (Entails.of_eq (hX fun g => roundState ER (kRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun i : Fin 48 => semVal (sendCell c i) 0) ∗ bigSep Finset.univ fun i : Fin 48 => semVal (recvCell c i) 0) := by
  unfold Pipeline.ownSems0
  rw [bigSep_univ_prod]
  exact bigSep_fin_two _
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 97 => semVal (kcell (c, k)) 0 : sProp 𝕄) := by
  rw [ownSems0_eq, unscopedSems0_eq, cells_sem c fun g => semVal g 0]
  iintro ⟨⟨HS, HV⟩, HB⟩
  isplitl [HB]; · iexact HB
  isplitl [HS] <;> iassumption

/-! ## The global step -/

/-- One device's invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (kRd m) κ (kcell (c, k))))
          ∗ (bigSep Finset.univ fun k : Fin 97 => atPos ER (kcell (c, k)) 0 ∅ 0) ∗ (bigSep Finset.univ fun k : Fin 97 => reached ER (kcell (c, k)) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun k : Fin 97 => semVal (kcell (c, k)) 0) ∗ bigSep Finset.univ fun k : Fin 97 => roundState ER (kRd m) (kcell (c, k)) 0)
      ⊢ (|={Set.univ}=> bigSep Finset.univ fun k => iprop(∃ κ : ℕ, cellInv ER (kRd m) κ (kcell (c, k))) : sProp 𝕄) from by
        rw [← bigSep_sep']
        exact (bigSep_mono fun k _ => (Rounds.body_intro ER (kRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- Who signals whom, and who sends to whom, as permutations of the pairs. -/
def sigE : Dev nD × Fin 16 ≃ Dev nD × Fin 16 where
  toFun p := (tgt p.1 p.2, p.2)
  invFun p := (sgn p.1 p.2, p.2)
  left_inv p := Prod.ext (sgn_tgt p.1 p.2) rfl
  right_inv p := Prod.ext (tgt_sgn p.1 p.2) rfl
def dstE : Dev nD × Fin 48 ≃ Dev nD × Fin 48 where
  toFun p := (dst p.1 p.2, p.2)
  invFun p := (src p.1 p.2, p.2)
  left_inv p := Prod.ext (src_dst p.1 p.2) rfl
  right_inv p := Prod.ext (dst_src p.1 p.2) rfl

theorem deal {n : ℕ} (e : Dev nD × Fin n ≃ Dev nD × Fin n) (f : Dev nD → Fin n → sProp 𝕄) :
    (bigSep Finset.univ fun c => bigSep Finset.univ fun i => f c i)
      = bigSep Finset.univ fun c => bigSep Finset.univ fun i => f (e (c, i)).1 (e (c, i)).2 := by
  rw [← bigSep_univ_prod (fun p : Dev nD × Fin n => f p.1 p.2), bigSep_univ_equiv e, bigSep_univ_prod]

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal sigE fun c o => (dutyTok ER (barCell c) 0 o : sProp 𝕄),
    deal dstE fun c i => (dutyTok ER (recvCell c i) 0 0 : sProp 𝕄)]
  iintro ⟨H1, H2, H3⟩
  isplitl [H1]; · iexact H1
  isplitl [H3]; · iexact H3
  iexact H2

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 97 → ℕ) (c : Dev nD) : iprop(records m K ∗ places c ∗ payToks c) ⊢ G' m c := by
  unfold G' ghost
  iintro H
  iexists K; iexact H

theorem regroup :
    (bigSep Finset.univ fun c : Dev nD => iprop((bigSep Finset.univ fun k => iprop(∃ κ : ℕ, cellInv ER (kRd m) κ (kcell (c, k))))
          ∗ (bigSep Finset.univ fun k : Fin 97 => atPos ER (kcell (c, k)) 0 ∅ 0) ∗ (bigSep Finset.univ fun k : Fin 97 => reached ER (kcell (c, k)) 0) ∗ toks c) : sProp 𝕄)
      ⊢ bigSep Finset.univ (G' m) := by
  rw [bigSep_sep', bigSep_sep', bigSep_sep', ← bigSep_univ_prod (fun ck : Dev nD × Fin 97 => iprop(∃ κ : ℕ, cellInv ER (kRd m) κ (kcell ck))),
    ← bigSep_univ_prod (fun ck : Dev nD × Fin 97 => (reached ER (kcell ck) 0 : sProp 𝕄))]
  iintro ⟨HI, Hat, Hr, Htok⟩
  ihave HK := (BI.bigSep_exists_pi Finset.univ (fun (ck : Dev nD × Fin 97) (κ : ℕ) => (cellInv ER (kRd m) κ (kcell ck) : sProp 𝕄))) $$ HI
  icases HK with ⟨%K, HI⟩
  ihave Htk := (toks_around (F := F)) $$ Htok
  iapply (with_persistent (R := records m K) fun c _ => ghost_intro m K c)
  isplitl [HI Hr]
  · unfold records
    iapply (Entails.of_eq (bigSep_sep' Finset.univ (fun ck : Dev nD × Fin 97 => cellInv ER (kRd m) (K ck) (kcell ck)) (fun ck => (reached ER (kcell ck) 0 : sProp 𝕄))).symm)
    isplitl [HI]; · iexact HI
    iexact Hr
  · iapply (Entails.of_eq (bigSep_sep' Finset.univ (fun c : Dev nD => (places c : sProp 𝕄)) payToks).symm)
    isplitl [Hat]
    · iapply (mono_sep (fun c _ => Entails.of_eq (show _ = places (F := F) c from cells_sem c fun g => atPos ER g 0 ∅ 0))); iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed at the launch -/

theorem bar_eq_iff {a b : Dev nD} : barCell a = barCell b ↔ a = b := ⟨fun h => congrArg (fun g : GSem nD τ sig => g.1.1) h, fun h => h ▸ rfl⟩
theorem recv_eq_iff {a b : Dev nD} {i j : Fin 48} : recvCell a i = recvCell b j ↔ a = b ∧ i = j := by
  constructor
  · intro h
    refine ⟨congrArg (fun g : GSem nD τ sig => g.1.1) h, Fin.ext ?_⟩
    have h2 : recvS i = recvS j := SemLoc.dma.inj (congrArg Prod.snd h)
    have h3 : 52 + i.val = 52 + j.val := congrArg Fin.val h2
    omega
  · rintro ⟨rfl, rfl⟩; rfl

theorem owed_bar (d c : Dev nD) : owed d 0 (barCell c) () = ∑ o : Fin 16, if d = sgn c o then 1 else 0 := by
  unfold owed
  rw [Pi.add_apply, Finsupp.add_apply, Finset.sum_apply, Finset.sum_apply, Finsupp.finset_sum_apply, Finsupp.finset_sum_apply,
    Finset.sum_eq_zero (s := (Finset.univ : Finset (Fin 48))), add_zero]
  · refine Finset.sum_congr rfl fun o _ => ?_
    rw [if_pos (Nat.zero_le _), tallyAt_apply]
    refine if_congr ?_ rfl rfl
    rw [bar_eq_iff]
    constructor
    · rintro ⟨h, -⟩; rw [h, sgn_tgt]
    · rintro h; exact ⟨by rw [h, tgt_sgn], rfl⟩
  · intro i _
    rw [if_pos (Nat.zero_le _), tallyAt_apply, if_neg]
    rintro ⟨h, -⟩
    cases (congrArg Prod.snd h)

theorem owed_recv (d c : Dev nD) (i : Fin 48) : owed d 0 (recvCell c i) () = if d = src c i then nAmt i else 0 := by
  unfold owed
  rw [Pi.add_apply, Finsupp.add_apply, Finset.sum_apply, Finset.sum_apply, Finsupp.finset_sum_apply, Finsupp.finset_sum_apply,
    Finset.sum_eq_zero (s := (Finset.univ : Finset (Fin 16))), zero_add, Finset.sum_eq_single i]
  · rw [if_pos (Nat.zero_le _), tallyAt_apply]
    refine if_congr ?_ rfl rfl
    rw [recv_eq_iff]
    constructor
    · rintro ⟨⟨h, -⟩, -⟩; rw [h, src_dst]
    · rintro h; exact ⟨⟨by rw [h, dst_src], rfl⟩, rfl⟩
  · intro j _ hj
    rw [if_pos (Nat.zero_le _), tallyAt_apply, if_neg]
    rintro ⟨h, -⟩
    exact hj (recv_eq_iff.mp h).2.symm
  · intro h; exact absurd (Finset.mem_univ i) h
  · intro o _
    rw [if_pos (Nat.zero_le _), tallyAt_apply, if_neg]
    rintro ⟨h, -⟩
    cases (congrArg Prod.snd h)

theorem launch_bar (c : Dev nD) :
    tallyOn (barCell c) (launchCredit (Pipeline.owing fun d => owed d 0) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun o _ => (Finset.sum_ite_eq' Finset.univ (sgn c o) fun _ => 1).trans (if_pos (Finset.mem_univ _)),
    Finset.sum_const, Finset.card_univ, Fintype.card_fin, smul_eq_mul]

theorem launch_recv (c : Dev nD) (i : Fin 48) :
    tallyOn (recvCell c i) (launchCredit (Pipeline.owing fun d => owed d 0) 0 (recvCell c i)) = (tallyAt (recvCell c i) () (nAmt i) : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (src c i) fun _ => nAmt i,
    if_pos (Finset.mem_univ _)]

theorem creds (c : Dev nD) : (Pipeline.launchCred (fun d => owed d 0) c : sProp 𝕄) ⊢ claims c := by
  unfold Pipeline.launchCred claims
  have e := cells_sem c fun g => (cred (tallyOn g (launchCredit (Pipeline.owing fun d => owed d 0) 0 g)) : sProp 𝕄)
  simp only [launch_bar, launch_recv] at e
  have h1 : (bigSep Finset.univ fun sm : SemLoc sig => (cred (tallyOn ((c : Thread nD τ), sm) (launchCredit (Pipeline.owing fun d => owed d 0) 0 ((c : Thread nD τ), sm))) : sProp 𝕄))
      ⊢ bigSep Finset.univ fun k : Fin 97 => cred (tallyOn (kcell (c, k)) (launchCredit (Pipeline.owing fun d => owed d 0) 0 (kcell (c, k)))) := by
    have e2 := bigSep_map (s := (Finset.univ : Finset (Fin 97))) (⟨csem, csem_inj⟩ : Fin 97 ↪ SemLoc sig)
      (Φ := fun sm : SemLoc sig => (cred (tallyOn ((c : Thread nD τ), sm) (launchCredit (Pipeline.owing fun d => owed d 0) 0 ((c : Thread nD τ), sm))) : sProp 𝕄))
    exact BIBase.Entails.trans (bigSep_subset (Finset.subset_univ _)) (Entails.of_eq e2)
  refine BIBase.Entails.trans h1 ?_
  rw [e]
  iintro ⟨H1, -, H2⟩
  isplitl [H1]; · iexact H1
  iexact H2

/-! ## The side conditions -/

def argP (c : Dev nD) : sProp 𝕄 := iprop(((c : Thread nD τ).loc main_arg1) ↦{fullShare} m ((c : Thread nD τ).loc main_arg1))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ argP m c) := by
  rw [Pipeline.unscopedRestP_none, unscopedRest0_eq c (fun b => m ((c : Thread nD τ).loc b))]
  iintro ⟨Ha, Hlev, Hcr, -, HG⟩
  ihave Hc := (creds (F := F) c) $$ Hcr
  imodintro
  unfold start G'
  isplitr [Ha]
  · isplitl [HG]; · iexact HG
    isplitl [Hc]; · iexact Hc
    iexact Hlev
  · unfold argP; iexact Ha

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ bufs
  iintro H
  iexact H

theorem waits (c : Dev nD) : (levAts L lv : sProp 𝕄) ⊢ Pipeline.cellsWaits cfgs (dats m) () 0 c :=
  Pipeline.cellsWaits_intro cfgs (dats m) () 0 c fun w s t => by
    have h0 : lvS (.dma ((cfg0.win w).sem s)) = 0 := by fin_cases w <;> fin_cases s <;> decide
    rcases t with ⟨_ | _, ht⟩
    · exact mayWait c 0 _ (fun o _ => by rw [h0]; decide) (fun i _ => by rw [h0]; have := lvl_ge i; omega)
    · show (levAts L lv : sProp 𝕄) ⊢ MayWait (c : Thread nD τ) _ () 0
      rw [MayWait_zero]; iintro -; iempintro

theorem share_eq (c : Dev nD) (w : Fin cfg0.W) : (dats m 0 c).share w = fullShare := by unfold Dat.share; split <;> rfl

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

/-- What is read off at the end of the run: the counters outside the launch, and the argument no window stages. -/
def QY (c : Dev nD) (s : MemSt nD τ sig (Elt F)) : Prop :=
  (∀ sm : SemLoc sig, sm.isScoped .tc = false → s.sem ((c : Thread nD τ), sm) = 0) ∧ s.mem ((c : Thread nD τ).loc main_arg1) = m ((c : Thread nD τ).loc main_arg1)

theorem read_end (c : Dev nD) (s' : Phys nD τ sig (Elt F)) :
    iprop(unscopedSems0 c ∗ argP m c ∗ SI s') ⊢ |={Set.univ}=> iprop(⌜QY m c s'.mem⌝ ∗ SI s' : sProp 𝕄) := by
  unfold argP
  iintro ⟨Hu, Ha, HSI⟩
  ihave H := (persistent_entails_left SI_pointsTo_agree) $$ [HSI Ha]
  · isplitl [HSI] <;> iassumption
  icases H with ⟨⟨HSI, Ha⟩, %h⟩
  imod (Pipeline.unscopedSems0_read (X := unscopedSems0 c) (c := c) fupd_intro s') $$ [Hu HSI] with ⟨%h2, HSI⟩
  · isplitl [Hu] <;> iassumption
  imodintro
  isplitr
  · ipureintro; exact ⟨h2, funext fun i => h i (Finset.mem_univ i)⟩
  iexact HSI

set_option maxRecDepth 8000 in
/-- Every weakly fair execution terminates with every array at its computed contents and every counter at zero. -/
theorem run_main (ρ : Dev nD → PrngReg) :
    θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun c => owed c 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := argP m)
    (hX := start_intro m ρ) (hin := phi0_intro m) (hout := phi1_exit m)
    (QY := QY m)
    (hY := read_end m)
    (hQ := fun _ h hs => ⟨fun c => ⟨(h c).1, (h c).2.2.2⟩, sem_eq_zero hs fun c => (h c).2.2.1⟩)

/-- The staged arguments are left as they were. -/
theorem final_arg (c : Dev nD) : finalA m c (0 : Fin 4) = m ((c : Thread nD τ).loc main_arg0)
    ∧ finalA m c (1 : Fin 4) = m ((c : Thread nD τ).loc main_arg2) ∧ finalA m c (2 : Fin 4) = m ((c : Thread nD τ).loc main_arg3) :=
  ⟨(dats m 0 c).arrAt_in (0 : Fin 4) rfl _, (dats m 0 c).arrAt_in (1 : Fin 4) rfl _, (dats m 0 c).arrAt_in (2 : Fin 4) rfl _⟩

/-- The frame: the arguments unchanged on every device, and nothing left counting. -/
theorem run_frame (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨((h.1 c).1 (0 : Fin 4)).trans (final_arg m c).1, (h.1 c).2,
    ((h.1 c).1 (1 : Fin 4)).trans (final_arg m c).2.1, ((h.1 c).1 (2 : Fin 4)).trans (final_arg m c).2.2⟩, h.2⟩) (run_main m ρ)

end Cert.Proof
-- ==== Proof.Frames.lean ====
/-
The frames of the three programs: the kernel's at the machine's floats and at the ideal values from one run of the
program over any float values, and the reference's from its own run.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

/-- The two printings of the kernel have the same body table. -/
theorem bodies_eq : (Cert.Kernel.defs₀ (F := Bits)) = (Cert.KernelIdeal.defs₀ (F := Bits)) := by
  unfold Cert.Kernel.defs₀ Cert.KernelIdeal.defs₀
  congr 1
  funext ⟨l, hl⟩ p
  rcases l with _ | l
  · rfl
  · exact absurd hl (Nat.not_lt.2 (Nat.le_add_left _ _))

theorem defs_eq : (Cert.Kernel.defs (F := Bits)) = (Cert.KernelIdeal.defs (F := Bits)) :=
  congrArg (Pipeline.defs (Cert.KernelIdeal.pcfgs (F := Bits))) bodies_eq

theorem frame_kernel : Cert.quiescent_Kernel := fun m ρ _ =>
  (congrArg (fun D => (θ_run D (onTc (Cert.Kernel.main (F := Bits))) ⟨m, fun _ => 0, ρ⟩)
    fun r => (∀ c : Dev Cert.Kernel.nD, r.2.mem (c.tc.loc Cert.Kernel.main_arg0) = m (c.tc.loc Cert.Kernel.main_arg0)
      ∧ r.2.mem (c.tc.loc Cert.Kernel.main_arg1) = m (c.tc.loc Cert.Kernel.main_arg1)
      ∧ r.2.mem (c.tc.loc Cert.Kernel.main_arg2) = m (c.tc.loc Cert.Kernel.main_arg2)
      ∧ r.2.mem (c.tc.loc Cert.Kernel.main_arg3) = m (c.tc.loc Cert.Kernel.main_arg3)) ∧ r.2.sem = fun _ => 0) defs_eq).mpr
    (run_frame (F := Bits) m ρ)

theorem frame_kernelIdeal : Cert.quiescent_KernelIdeal := fun m ρ _ => run_frame m ρ

theorem frame_reference : Cert.quiescent_ReferenceIdeal :=
  fun m ρ _ => (θ_run Cert.ReferenceIdeal.defs _ _).mono (fun r h => ⟨fun c => (h c).2, sem_eq_zero_of_no_sems rfl r.2⟩) (Cert.ReferenceIdeal.Value.run m ρ)

end Cert.Proof

end
-- ==== Proof.Pays.lean ====
/-
The kernel's vector operations over the ideal values, element by element: the masked products, and the sums.
-/
module

public import proofs.«01_k».proof.Proof.Gen.KernelIdeal.Skeleton
public import Idealize.ShloMosaic.Lib.Pointwise

@[expose] public section

noncomputable section

namespace Cert.Proof

open Cert.KernelIdeal Cert.KernelIdeal.Gen
open Idealize.ShloMosaic

set_option maxRecDepth 16384

/-- The value `v` where the word `t` is `n`, and zero elsewhere. -/
def only (t n : BitVec 32) (v : EReal) : EReal := if t = n then v else 0

/-- Rows multiplied by the bit of a comparison before they are contracted. -/
theorem sum_masked {K : ℕ} (t n : BitVec 32) (x y : Fin K → EReal) :
    (∑ k, x k * (FloatOps.sitofp (F := Ideal) .f32 (BitVec.setWidth 32 (IntOp.cmpi .eq t n)) : EReal) * y k) = only t n (∑ k, x k * y k) := by
  unfold only
  by_cases h : t = n
  · rw [if_pos h, show IntOp.cmpi .eq t n = 1#1 by simp [IntOp.cmpi, h],
      show (FloatOps.sitofp (F := Ideal) .f32 (BitVec.setWidth 32 1#1) : EReal) = 1 by
        show (((BitVec.setWidth 32 1#1).toInt : ℝ) : EReal) = 1
        rw [show (BitVec.setWidth 32 1#1).toInt = 1 by decide]; simp]
    simp
  · rw [if_neg h, show IntOp.cmpi .eq t n = 0#1 by simp [IntOp.cmpi, beq_eq_false_iff_ne.mpr h],
      show (FloatOps.sitofp (F := Ideal) .f32 (BitVec.setWidth 32 0#1) : EReal) = 0 by
        show (((BitVec.setWidth 32 0#1).toInt : ℝ) : EReal) = 0
        rw [show (BitVec.setWidth 32 0#1).toInt = 0 by decide]; simp]
    simp

theorem pay1_apply (w : BitVec 32) (X : Vec Ideal S128x256 .f32) (T : Vec Ideal S128x1 .i32) (W₀ W₁ : Vec Ideal S1x256x512 .f32) (r : Fin 128) (j : Fin 512) :
    k0_pay1 (F := Ideal) w X T W₀ W₁ (ix2 r j)
      = only (T (ix2 r 0)) (Scalar.muli w 2#32) (∑ k, X (ix2 r k) * W₀ (ix3 0 k j))
        + only (T (ix2 r 0)) (Scalar.addi (Scalar.muli w 2#32) 1#32) (∑ k, X (ix2 r k) * W₁ (ix3 0 k j)) := by
  pointwise [k0_pay1]
  rw [sum_masked, sum_masked]

theorem pay2_apply (w : BitVec 32) (X : Vec Ideal S128x256 .f32) (T : Vec Ideal S128x1 .i32) (W₀ W₁ : Vec Ideal S1x256x512 .f32) (r : Fin 128) (j : Fin 512) :
    k0_pay2 (F := Ideal) w X T W₀ W₁ (ix2 r j)
      = only (T (ix2 r 0)) w (∑ k, X (ix2 r k) * W₀ (ix3 0 k j))
        + only (T (ix2 r 0)) (Scalar.addi w 1#32) (∑ k, X (ix2 r k) * W₁ (ix3 0 k j)) := by
  pointwise [k0_pay2]
  rw [sum_masked, sum_masked]

theorem pay3_apply (w : BitVec 32) (X : Vec Ideal S256x256 .f32) (T : Vec Ideal S256x1 .i32) (W₀ W₁ : Vec Ideal S1x256x512 .f32) (r : Fin 256) (j : Fin 512) :
    k0_pay4 (F := Ideal) (k0_pay3 w X T W₀ W₁) (ix2 r j)
      = only (T (ix2 r 0)) w (∑ k, X (ix2 r k) * W₀ (ix3 0 k j))
        + only (T (ix2 r 0)) (Scalar.addi w 1#32) (∑ k, X (ix2 r k) * W₁ (ix3 0 k j)) := by
  pointwise [k0_pay4, k0_pay3]
  rw [sum_masked, sum_masked]

theorem pay5_apply (U V : Vec Ideal S128x512 .bf16) (r : Fin 128) (j : Fin 512) :
    (k0_pay5 (F := Ideal) U V (ix2 r j) : EReal) = (U (ix2 r j) : EReal) + (V (ix2 r j) : EReal) := by
  pointwise [k0_pay5]

theorem pay6_apply (U V : Vec Ideal S128x512 .bf16) (r : Fin 128) (j : Fin 512) :
    (k0_pay6 (F := Ideal) U V (ix2 r j) : EReal) = (U (ix2 r j) : EReal) + (V (ix2 r j) : EReal) := by
  pointwise [k0_pay6]

theorem pay7_apply (U : Vec Ideal S240x512 .bf16) (V : Vec Ideal S16x512 .bf16) (r : Fin 16) (j : Fin 512) :
    (k0_pay7 (F := Ideal) U V (ix2 r j) : EReal)
      = (V (ix2 r j) : EReal) + ∑ o : Fin 15, (U (ix2 (⟨o.val * 16 + r.val, by omega⟩ : Fin 240) j) : EReal) := by
  pointwise [k0_pay7]

theorem pay8_apply (U : Vec Ideal S512x512 .bf16) (i : S512x512.Idx) : (k0_pay8 (F := Ideal) U i : EReal) = (U i : EReal) := by
  pointwise [k0_pay8]

end Cert.Proof

end
-- ==== Proof.Products.lean ====
/-
What the kernel's buffers hold over the ideal values, and the finished result as a sum over the devices.
-/
module

public import proofs.«01_k».proof.Proof.Contents
public import proofs.«01_k».proof.Proof.Pays

@[expose] public section

noncomputable section

namespace Cert.Proof

open Cert.KernelIdeal Cert.KernelIdeal.Gen
open Idealize.ShloMosaic Idealize.ShloMosaic.TcCoe
open Pl

variable {F : FTy → Type} [FloatOps F]

theorem load_x {off : Fin 2 → ℕ} {n lo : ℕ} (h : off = ![lo, 0]) (inb : ∀ a, off a + (![n, 256] : Fin 2 → ℕ) a ≤ S512x256.size a)
    (f : S512x256.Idx → Elt F .f32) (a : Fin n) (k : Fin 256) (q : Fin 512) (hq : q.val = lo + a.val) :
    (xM : Memref sig .tc .vmem S512x256 .f32).view.readAt (Elt F) (Rect.unit (s := S512x256) off ![n, 256] inb).toLoadRect f (ix2 a k)
      = f (ix2 q k) := by
  subst h
  show f _ = f _
  refine congrArg f (funext fun b => Fin.ext ?_)
  match b with
  | ⟨0, _⟩ => show lo + 1 * a.val = q.val; omega
  | ⟨1, _⟩ => show 0 + 1 * k.val = k.val; omega

theorem load_t {off : Fin 2 → ℕ} {n lo : ℕ} (h : off = ![lo, 0]) (inb : ∀ a, off a + (![n, 1] : Fin 2 → ℕ) a ≤ S512x1.size a)
    (f : S512x1.Idx → Elt F .i32) (a : Fin n) (q : Fin 512) (hq : q.val = lo + a.val) :
    (tM : Memref sig .tc .vmem S512x1 .i32).view.readAt (Elt F) (Rect.unit (s := S512x1) off ![n, 1] inb).toLoadRect f (ix2 a 0)
      = f (ix2 q 0) := by
  subst h
  show f _ = f _
  refine congrArg f (funext fun b => Fin.ext ?_)
  match b with
  | ⟨0, _⟩ => show lo + 1 * a.val = q.val; omega
  | ⟨1, _⟩ => show 0 + 1 * 0 = 0; omega

variable (m : (ℓ : Loc nD τ sig) → Buf (Elt Ideal) ℓ)

theorem w0_apply (c : Dev nD) (k : Fin 256) (j : Fin 512) : w0 m c (ix3 0 k j) = ws m c (ix3 0 k j) := by
  unfold w0
  show ws m c _ = ws m c _
  refine congrArg (ws m c) (funext fun b => Fin.ext ?_)
  match b with
  | ⟨0, _⟩ => show 0 + 1 * 0 = 0; omega
  | ⟨1, _⟩ => show 0 + 1 * k.val = k.val; omega
  | ⟨2, _⟩ => show 0 + 1 * j.val = j.val; omega

theorem w1_apply (c : Dev nD) (k : Fin 256) (j : Fin 512) : w1 m c (ix3 0 k j) = ws m c (ix3 1 k j) := by
  unfold w1
  show ws m c _ = ws m c _
  refine congrArg (ws m c) (funext fun b => Fin.ext ?_)
  match b with
  | ⟨0, _⟩ => show 1 + 1 * 0 = 1; omega
  | ⟨1, _⟩ => show 0 + 1 * k.val = k.val; omega
  | ⟨2, _⟩ => show 0 + 1 * j.val = j.val; omega

/-- Row `r`, column `j` of the products of expert `e` of device `c`, for the rows routed to it. -/
def part (c : Dev nD) (e : Fin 2) (n : BitVec 32) (r j : Fin 512) : EReal :=
  only (ts m c (ix2 r 0)) n (∑ k : Fin 256, (xs m c (ix2 r k) : EReal) * (ws m c (ix3 e k j) : EReal))

/-- Both experts of device `c`. -/
def parts (c : Dev nD) (r j : Fin 512) : EReal := part m c 0 (v914w c) r j + part m c 1 (Scalar.addi (v914w c) 1#32) r j

theorem only_congr {t t' n : BitVec 32} {x x' y y' : Fin 256 → EReal} (ht : t = t') (hx : ∀ k, x k = x' k) (hy : ∀ k, y k = y' k) :
    only t n (∑ k, x k * y k) = only t' n (∑ k, x' k * y' k) := by
  rw [ht, funext hx, funext hy]

theorem a1_apply (c : Dev nD) (a : Fin 128) (j q : Fin 512) (hq : q.val = send0 c + a.val) : (a1 m c (ix2 a j) : EReal) = parts m c q j :=
  (pay1_apply _ _ _ _ _ a j).trans (congrArg₂ (· + ·)
    (only_congr (load_t (off2_eq c) _ _ a q hq) (load_x (off1_eq c) _ _ a · q hq) (w0_apply m c · j))
    (only_congr (load_t (off2_eq c) _ _ a q hq) (load_x (off1_eq c) _ _ a · q hq) (w1_apply m c · j)))

theorem a2_apply (c : Dev nD) (a : Fin 128) (j q : Fin 512) (hq : q.val = send0 c + 128 + a.val) : (a2 m c (ix2 a j) : EReal) = parts m c q j :=
  (pay2_apply _ _ _ _ _ a j).trans (congrArg₂ (· + ·)
    (only_congr (load_t (off6_eq c) _ _ a q hq) (load_x (off5_eq c) _ _ a · q hq) (w0_apply m c · j))
    (only_congr (load_t (off6_eq c) _ _ a q hq) (load_x (off5_eq c) _ _ a · q hq) (w1_apply m c · j)))

theorem a3_apply (c : Dev nD) (a : Fin 256) (j q : Fin 512) (hq : q.val = col0 c + a.val) : (k0_pay4 (a3 m c) (ix2 a j) : EReal) = parts m c q j :=
  (pay3_apply _ _ _ _ _ a j).trans (congrArg₂ (· + ·)
    (only_congr (load_t (off10_eq c) _ _ a q hq) (load_x (off9_eq c) _ _ a · q hq) (w0_apply m c · j))
    (only_congr (load_t (off10_eq c) _ _ a q hq) (load_x (off9_eq c) _ _ a · q hq) (w1_apply m c · j)))

/-- Every device's buffer begins as its own products. -/
theorem Afin_apply (c : Dev nD) (i : S512x512.Idx) : (Afin m c i : EReal) = parts m c (i 0) (i 1) := by
  have hx := xh_lt c
  have hi : (i 0).val < 512 := (i 0).isLt
  have e : send0 c = 256 * (1 - xh c) ∧ col0 c = 256 * xh c := ⟨rfl, rfl⟩
  unfold Afin putR
  split_ifs with h₁ h₂ h₃
  · exact a1_apply m c _ (i 1) (i 0) (by show (i 0).val = send0 c + ((i 0).val - send0 c); omega)
  · exact a2_apply m c _ (i 1) (i 0) (by show (i 0).val = send0 c + 128 + ((i 0).val - (send0 c + 128)); omega)
  · exact a3_apply m c _ (i 1) (i 0) (by show (i 0).val = col0 c + ((i 0).val - col0 c); omega)
  · omega

theorem Afin_row (c : Dev nD) (r : ℕ) (hr : r < 512) (j : Fin 512) : (Afin m c (ixR r j) : EReal) = parts m c ⟨r, hr⟩ j :=
  (Afin_apply m c _).trans (congrArg (parts m c · j) (Fin.ext (Nat.mod_eq_of_lt hr)))

theorem Xfin_row (c : Dev nD) (r : ℕ) (hr : r < 256) (j : Fin 512) (q : Fin 512) (hq : q.val = col0 c + r) :
    (Xfin m c (ixG r j) : EReal) = parts m (partner c) q j := by
  have h0 : col0 c + ((ixG r j) 0).val = q.val := (congrArg (col0 c + ·) (Nat.mod_eq_of_lt (by omega : r < 496))).trans hq.symm
  exact (congrArg (fun n => Afin m (partner c) (ixR n j)) h0).trans (Afin_row m _ _ q.isLt j)

/-- The half a device keeps, once the other half's products have been added. -/
theorem Bfin_apply (c : Dev nD) (i : S512x512.Idx) (h : col0 c ≤ (i 0).val) (h' : (i 0).val < col0 c + 256) :
    (Bfin m c i : EReal) = parts m c (i 0) (i 1) + parts m (partner c) (i 0) (i 1) := by
  have hi : (i 0).val < 512 := (i 0).isLt
  unfold Bfin putR
  split_ifs with h₁ h₂
  · refine (pay5_apply _ _ _ _).trans (congrArg₂ (· + ·) ?_ ?_)
    · refine (Afin_row m c (col0 c + ((i 0).val - col0 c)) (by omega) (i 1)).trans (congrArg (parts m c · (i 1)) (Fin.ext ?_))
      show col0 c + ((i 0).val - col0 c) = (i 0).val; omega
    · exact Xfin_row m c (0 + ((i 0).val - col0 c)) (by omega) (i 1) (i 0) (by show (i 0).val = col0 c + (0 + ((i 0).val - col0 c)); omega)
  · refine (pay6_apply _ _ _ _).trans (congrArg₂ (· + ·) ?_ ?_)
    · refine (Afin_row m c (col0 c + 128 + ((i 0).val - (col0 c + 128))) (by omega) (i 1)).trans (congrArg (parts m c · (i 1)) (Fin.ext ?_))
      show col0 c + 128 + ((i 0).val - (col0 c + 128)) = (i 0).val; omega
    · exact Xfin_row m c (128 + ((i 0).val - (col0 c + 128))) (by omega) (i 1) (i 0)
        (by show (i 0).val = col0 c + (128 + ((i 0).val - (col0 c + 128))); omega)
  · omega

theorem Bfin_row (c : Dev nD) (q j : Fin 512) (h : col0 c ≤ q.val) (h' : q.val < col0 c + 256) :
    (Bfin m c (ixR q.val j) : EReal) = parts m c q j + parts m (partner c) q j := by
  rw [show ixR q.val j = ix2 q j from ixR_eq (ix2 q j) q.val j rfl rfl]
  exact Bfin_apply m c (ix2 q j) h h'

/-- The products of the two devices at place `g` of the halves. -/
def pair (x g : ℕ) (q j : Fin 512) : EReal := parts m (mk x g) q j + parts m (mk (1 - x) g) q j

theorem Bfin_pair (c : Dev nD) (q j : Fin 512) (h : col0 c ≤ q.val) (h' : q.val < col0 c + 256) :
    (Bfin m c (ixR q.val j) : EReal) = pair m (xh c) (gp c) q j := by
  rw [Bfin_row m c q j h h', pair, mk_self]
  rfl

theorem up_xh : ∀ (c : Dev nD) (o : Fin 16), xh (up c o.val) = xh c ∧ gp (up c o.val) = (gp c + o.val) % 16 := by decide +kernel

theorem own_apply (c : Dev nD) (a : Fin 16) (q j : Fin 512) (hq : q.val = own0 c + a.val) :
    (own m c (ix2 a j) : EReal) = pair m (xh c) (gp c) q j + ∑ o : Fin 15, pair m (xh c) ((gp c + (o.val + 1)) % 16) q j := by
  have hg := gp_lt c
  have ho : own0 c = 256 * xh c + 16 * (gp c % 16) := rfl
  have hc : ∀ d : Dev nD, xh d = xh c → col0 d ≤ q.val ∧ q.val < col0 d + 256 := fun d hd => by
    have : col0 d = 256 * xh d := rfl
    have := a.isLt
    omega
  unfold own
  refine (pay7_apply _ _ _ _).trans (congrArg₂ (· + ·) ?_ (Finset.sum_congr rfl fun o _ => ?_))
  · show (Bfin m c (ixR (own0 c + a.val) j) : EReal) = _
    rw [← hq]
    exact Bfin_pair m c q j (hc c rfl).1 (hc c rfl).2
  · show (Sfin m c (ixG (256 + (o.val * 16 + a.val)) j) : EReal) = _
    have h0 : ((ixG (256 + (o.val * 16 + a.val)) j) 0).val = 256 + (o.val * 16 + a.val) := Nat.mod_eq_of_lt (by omega)
    have hu := up_xh c ⟨o.val + 1, by omega⟩
    unfold Sfin
    rw [h0, if_neg (by omega), show (256 + (o.val * 16 + a.val) - 256) / 16 + 1 = o.val + 1 by omega,
      show own0 c + (256 + (o.val * 16 + a.val) - 256) % 16 = q.val by omega]
    refine (Bfin_pair m _ q j (hc _ hu.1).1 (hc _ hu.1).2).trans ?_
    rw [hu.1, hu.2]

/-- A sum over the places, begun anywhere. -/
theorem sum_places (f : ℕ → EReal) (g : ℕ) (hg : g < 16) : f g + ∑ o : Fin 15, f ((g + (o.val + 1)) % 16) = ∑ g' : Fin 16, f g'.val := by
  have h := Fin.sum_univ_succ (fun o : Fin 16 => f ((g + o.val) % 16))
  have e : f g + ∑ o : Fin 15, f ((g + (o.val + 1)) % 16) = ∑ o : Fin 16, f ((g + o.val) % 16) := by
    rw [h]
    refine congrArg₂ (· + ·) ?_ rfl
    show f g = f ((g + 0) % 16)
    rw [Nat.add_zero, Nat.mod_eq_of_lt hg]
  rw [e]
  exact Equiv.sum_comp (Equiv.addLeft (⟨g, hg⟩ : Fin 16)) (fun g' : Fin 16 => f g'.val)

/-- The devices, by half and place. -/
theorem sum_devices (f : Dev nD → EReal) (x : Fin 2) : ∑ g : Fin 16, (f (mk x.val g.val) + f (mk (1 - x.val) g.val)) = ∑ c, f c := by
  have h : Function.Bijective (fun p : Bool × Fin 16 => mk (if p.1 then x.val else 1 - x.val) p.2.val) := by
    revert x; decide +kernel
  rw [← h.sum_comp, Fintype.sum_prod_type]
  simp [Finset.sum_add_distrib]

/-- The finished result: at every element, the sum over the devices of their products. -/
theorem Cfin_apply (i : S512x512.Idx) : (Cfin m i : EReal) = ∑ c : Dev nD, parts m c (i 0) (i 1) := by
  have hi : (i 0).val < 512 := (i 0).isLt
  have hm := xh_mk ⟨(i 0).val / 256, by omega⟩ ⟨((i 0).val % 256) / 16, by omega⟩
  have ho : own0 (mk ((i 0).val / 256) (((i 0).val % 256) / 16)) = 256 * ((i 0).val / 256) + 16 * ((((i 0).val % 256) / 16) % 16) := by
    unfold own0 blk; rw [hm.1, hm.2]
  unfold Cfin
  refine (own_apply m _ _ (i 0) (i 1) (by rw [ho]; show (i 0).val = _ + (i 0).val % 16; omega)).trans ?_
  rw [hm.1, hm.2]
  refine (sum_places (fun g => pair m ((i 0).val / 256) g (i 0) (i 1)) _ (by omega)).trans ?_
  exact sum_devices (fun c => parts m c (i 0) (i 1)) ⟨(i 0).val / 256, by omega⟩

theorem outv_apply (i : S512x512.Idx) : (outv m i : EReal) = ∑ c : Dev nD, parts m c (i 0) (i 1) :=
  (pay8_apply _ i).trans (Cfin_apply m i)

end Cert.Proof

end
-- ==== Proof.Value.lean ====
/-
The result array after the run, and what the windows read of the arguments: every window is a whole array.
-/
module

public import proofs.«01_k».proof.Proof.Launch
public import Idealize.ShloMosaic.Lib.Pipeline.Value

@[expose] public section

noncomputable section

namespace Cert.Proof

open Cert.KernelIdeal Cert.KernelIdeal.Gen
open Idealize.ShloMosaic Idealize.ShloMosaic.TcCoe
open Pl

variable {F : FTy → Type} [FloatOps F]
variable (m : (ℓ : Loc nD τ sig) → Buf (Elt F) ℓ)

theorem xs_eq (c : Dev nD) : xs m c = m ((c : Thread nD τ).loc main_arg0) := by
  refine funext fun i => ?_
  show m ((c : Thread nD τ).loc main_arg0) _ = m ((c : Thread nD τ).loc main_arg0) _
  refine congrArg (m ((c : Thread nD τ).loc main_arg0)) (funext fun b => Fin.ext ?_)
  match b with
  | ⟨0, _⟩ => show 0 * 512 + 1 * (i 0).val = (i 0).val; omega
  | ⟨1, _⟩ => show 0 * 256 + 1 * (i 1).val = (i 1).val; omega

theorem ts_eq (c : Dev nD) : ts m c = m ((c : Thread nD τ).loc main_arg2) := by
  refine funext fun i => ?_
  show m ((c : Thread nD τ).loc main_arg2) _ = m ((c : Thread nD τ).loc main_arg2) _
  refine congrArg (m ((c : Thread nD τ).loc main_arg2)) (funext fun b => Fin.ext ?_)
  match b with
  | ⟨0, _⟩ => show 0 * 512 + 1 * (i 0).val = (i 0).val; omega
  | ⟨1, _⟩ => show 0 * 1 + 1 * (i 1).val = (i 1).val; omega

theorem ws_eq (c : Dev nD) : ws m c = m ((c : Thread nD τ).loc main_arg3) := by
  refine funext fun i => ?_
  show m ((c : Thread nD τ).loc main_arg3) _ = m ((c : Thread nD τ).loc main_arg3) _
  refine congrArg (m ((c : Thread nD τ).loc main_arg3)) (funext fun b => Fin.ext ?_)
  match b with
  | ⟨0, _⟩ => show 0 * 2 + 1 * (i 0).val = (i 0).val; omega
  | ⟨1, _⟩ => show 0 * 256 + 1 * (i 1).val = (i 1).val; omega
  | ⟨2, _⟩ => show 0 * 512 + 1 * (i 2).val = (i 2).val; omega

/-- The result array after the run is the finished result. -/
theorem final_out (c : Dev nD) : finalA m c 3 = outv m := by
  have h : (win0_3.blk (0 : Fin 1)).view.read (Elt F) (finalA m c (3 : Fin 4)) = outv m := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from flush0_3 t0_0, if_pos rfl]
    exact View.read_write_univ _ _
  refine funext fun i => ?_
  refine Eq.trans ?_ (congrFun h i)
  show finalA m c (3 : Fin 4) i = finalA m c (3 : Fin 4) _
  refine congrArg (finalA m c (3 : Fin 4)) (funext fun b => Fin.ext ?_)
  match b with
  | ⟨0, _⟩ => show (i 0).val = 0 * 512 + 1 * (i 0).val; omega
  | ⟨1, _⟩ => show (i 1).val = 0 * 512 + 1 * (i 1).val; omega

end Cert.Proof

end
-- ==== Proof.Reference.lean ====
/-
The reference's result over the ideal values, element by element.
-/
module

public import proofs.«01_k».proof.Proof.Gen.ReferenceIdeal
public import Idealize.ShloMosaic.Lib.Pointwise

@[expose] public section

noncomputable section

namespace Cert.Proof.Reference

open Cert.ReferenceIdeal Cert.ReferenceIdeal.Gen
open Idealize.ShloMosaic

set_option maxRecDepth 16384

variable {α : Type}

/-- The gather's dimension numbers. -/
abbrev gd : GatherDims S64x256x512 S512x1 S512x256x512 := gather_S64x256x512_S512x1_S512x256x512_12_0_n_n_0_1_1256512

/-- The expert a route selects, the route read as a signed integer and clamped to the range. -/
def pick (t : BitVec 32) : Fin 64 := ⟨min t.toInt.toNat 63, by omega⟩

/-- The gathered matrices: row `r` takes the matrix of the expert its route selects. -/
theorem gather_apply (W : S64x256x512.Idx → α) (T : IVec S512x1 32) (r : Fin 512) (k : Fin 256) (j : Fin 512) :
    Host.gather gd W T (ix3 r k j) = W (ix3 (pick (T (ix2 r 0))) k j) := by
  unfold Host.gather
  refine congrArg W (funext fun a => Fin.ext ?_)
  show gd.start (ix3 r k j) T a + gd.batchCoord (ix3 r k j) a + gd.offCoord (ix3 r k j) a = _
  rw [GatherDims.batchCoord_eq_zero _ _ _ List.not_mem_nil]
  match a with
  | ⟨0, _⟩ =>
    show gd.start (ix3 r k j) T (0 : Fin 3) + 0 + gd.offCoord (ix3 r k j) (0 : Fin 3) = _
    rw [GatherDims.offCoord_eq_zero _ _ _ (fun h => ((GatherDims.mem_sKept _ _).mp h).1 (List.mem_singleton.mpr rfl))]
    unfold GatherDims.start
    rw [dif_pos (show (0 : Fin 3) ∈ gd.startIndexMap from List.mem_singleton.mpr rfl)]
    have hsi : gd.siIdx (ix3 r k j) ⟨List.idxOf (0 : Fin 3) gd.startIndexMap, List.idxOf_lt_length_iff.2 (List.mem_singleton.mpr rfl)⟩ = ix2 r 0 := by
      funext b; refine Fin.ext ?_
      match b with
      | ⟨0, _⟩ => rfl
      | ⟨1, _⟩ => rfl
    exact congrArg (fun i => min (T i).toInt.toNat 63) hsi
  | ⟨1, _⟩ =>
    show gd.start (ix3 r k j) T (1 : Fin 3) + 0 + gd.offCoord (ix3 r k j) (1 : Fin 3) = _
    unfold GatherDims.start
    rw [dif_neg (show (1 : Fin 3) ∉ gd.startIndexMap by decide)]
    show 0 + 0 + k.val = k.val
    omega
  | ⟨2, _⟩ =>
    show gd.start (ix3 r k j) T (2 : Fin 3) + 0 + gd.offCoord (ix3 r k j) (2 : Fin 3) = _
    unfold GatherDims.start
    rw [dif_neg (show (2 : Fin 3) ∉ gd.startIndexMap by decide)]
    show 0 + 0 + j.val = j.val
    omega

/-- The reference's result, of its arguments. -/
def out (X : Vec Ideal S512x256 .f32) (T : Vec Ideal S512x1 .i32) (W : Vec Ideal S64x256x512 .f32) : Vec Ideal S512x512 .f32 :=
  select (broadcastInDim S512x512 ![0, 1] bcast_S512x1_S512x512_0_1 (broadcastInDim S512x1 ![0] bcast_S512_S512x1_0 (andi (cmpi .sge (shapeCast _ T shapeCasts_S512x1_S512) (broadcastInDim S512 ![] bcast_S_S512 (constantI S_ 32 0#32))) (cmpi .slt (shapeCast _ T shapeCasts_S512x1_S512) (broadcastInDim S512 ![] bcast_S_S512 (constantI S_ 32 64#32)))))) (Host.dotGeneral (F := Ideal) (φ₁ := .f32) (φ₂ := .f32) dot_S512x256_S512x256x512_S512x512_1_1_n_2_0_0 none X (Host.gather gd W (broadcastInDim S512x1 ![0] bcast_S512_S512x1_0 (shapeCast _ T shapeCasts_S512x1_S512)))) (broadcastInDim S512x512 ![] bcast_S_S512x512 (id (constant (F := Ideal) S_ .f32 0x00000000#32)))

/-- The routes as a column. -/
theorem route_apply (T : IVec S512x1 32) (r : Fin 512) :
    broadcastInDim S512x1 ![0] bcast_S512_S512x1_0 (shapeCast S512 T shapeCasts_S512x1_S512) (ix2 r 0) = T (ix2 r 0) := by
  pointwise []

theorem zero_apply : (constant (F := Ideal) S_ .f32 0x00000000#32 ix0 : EReal) = 0 := by
  pointwise []

/-- A selection by whether a route lies in the range of the experts. -/
theorem select_range (t : BitVec 32) (v : EReal) :
    Scalar.select (IntOp.andi (IntOp.cmpi .sge t 0#32) (IntOp.cmpi .slt t 64#32)) v 0 = if 0 ≤ t.toInt ∧ t.toInt < 64 then v else 0 := by
  have h : IntOp.andi (IntOp.cmpi .sge t 0#32) (IntOp.cmpi .slt t 64#32) = if 0 ≤ t.toInt ∧ t.toInt < 64 then 1#1 else 0#1 := by
    unfold IntOp.andi IntOp.cmpi
    have h64 : (64#32).toInt = 64 := by decide
    by_cases h0 : 0 ≤ t.toInt <;> by_cases h1 : t.toInt < 64 <;> simp [BitVec.sle, BitVec.slt, h0, h1, h64]
  rw [h]
  split_ifs <;> rfl

theorem out_apply (X : Vec Ideal S512x256 .f32) (T : Vec Ideal S512x1 .i32) (W : Vec Ideal S64x256x512 .f32) (r j : Fin 512) :
    (out X T W (ix2 r j) : EReal) = if 0 ≤ (T (ix2 r 0)).toInt ∧ (T (ix2 r 0)).toInt < 64 then ∑ k : Fin 256, X (ix2 r k) * W (ix3 (pick (T (ix2 r 0))) k j) else 0 := by
  pointwise [out]
  simp only [gather_apply]
  rw [route_apply, show (id (constant (F := Ideal) S_ .f32 0x00000000#32) ix0 : EReal) = 0 from zero_apply]
  exact select_range _ _

end Cert.Proof.Reference

end
-- ==== Proof.Equation.lean ====
/-
The sum over the devices is the reference's result: of the experts' products at one row, exactly the routed one is kept.
-/
module

public import proofs.«01_k».proof.Proof.Products
public import proofs.«01_k».proof.Proof.Value
public import proofs.«01_k».proof.Proof.Reference
public import Idealize.ShloMosaic.Lib.Layout

@[expose] public section

noncomputable section

namespace Cert.Proof

open Cert.KernelIdeal Cert.KernelIdeal.Gen
open Idealize.ShloMosaic Idealize.ShloMosaic.TcCoe
open Pl

/-- The words a device compares the routes with: twice its number, and the word after. -/
theorem word0 : ∀ c : Dev nD, v914w c = BitVec.ofNat 32 (2 * c.val) := by decide +kernel
theorem word1 : ∀ c : Dev nD, Scalar.addi (v914w c) 1#32 = BitVec.ofNat 32 (2 * c.val + 1) := by decide +kernel

/-- A route is the word of expert `a` exactly when it lies in the range and selects `a`. -/
theorem eq_word (t : BitVec 32) (a : Fin 64) : t = BitVec.ofNat 32 a.val ↔ (0 ≤ t.toInt ∧ t.toInt < 64) ∧ Reference.pick t = a := by
  have ha := a.isLt
  constructor
  · rintro rfl
    have h : (BitVec.ofNat 32 a.val).toInt = a.val := by
      rw [BitVec.toInt_eq_toNat_of_lt (by rw [BitVec.toNat_ofNat]; omega), BitVec.toNat_ofNat]; omega
    refine ⟨by omega, Fin.ext ?_⟩
    show min (BitVec.ofNat 32 a.val).toInt.toNat 63 = a.val
    omega
  · rintro ⟨⟨h0, h1⟩, h⟩
    have h2 : min t.toInt.toNat 63 = a.val := congrArg Fin.val h
    refine BitVec.eq_of_toInt_eq ?_
    rw [BitVec.toInt_eq_toNat_of_lt (x := BitVec.ofNat 32 a.val) (by rw [BitVec.toNat_ofNat]; omega), BitVec.toNat_ofNat]
    omega

/-- Of 64 values, two on each device, each kept where the route is its word: the routed one, if there is one. -/
theorem sum_only (t : BitVec 32) (G : Fin 64 → EReal) :
    ∑ c : Fin 32, (only t (BitVec.ofNat 32 (2 * c.val)) (G ⟨2 * c.val, by omega⟩) + only t (BitVec.ofNat 32 (2 * c.val + 1)) (G ⟨2 * c.val + 1, by omega⟩))
      = if 0 ≤ t.toInt ∧ t.toInt < 64 then G (Reference.pick t) else 0 := by
  have hk : ∀ a : Fin 64, only t (BitVec.ofNat 32 a.val) (G a) = if (0 ≤ t.toInt ∧ t.toInt < 64) ∧ Reference.pick t = a then G a else 0 :=
    fun a => if_congr (eq_word t a) rfl rfl
  have hb : Function.Bijective (fun p : Fin 32 × Fin 2 => (⟨2 * p.1.val + p.2.val, by omega⟩ : Fin 64)) := by decide +kernel
  have hs : ∑ a : Fin 64, only t (BitVec.ofNat 32 a.val) (G a)
      = ∑ c : Fin 32, (only t (BitVec.ofNat 32 (2 * c.val)) (G ⟨2 * c.val, by omega⟩) + only t (BitVec.ofNat 32 (2 * c.val + 1)) (G ⟨2 * c.val + 1, by omega⟩)) := by
    rw [← hb.sum_comp, Fintype.sum_prod_type]
    exact Finset.sum_congr rfl fun c _ => Fin.sum_univ_two _
  rw [← hs, Finset.sum_congr rfl fun a _ => hk a]
  split_ifs with h
  · simp [h]
  · simp [h]

/-- The finished result, when every device holds the same rows and routes and its own two matrices. -/
theorem outv_eq (m : (ℓ : Loc nD τ sig) → Buf (Elt Ideal) ℓ) (X : Vec Ideal S512x256 .f32) (T : Vec Ideal S512x1 .i32) (W : Vec Ideal ⟨3, ![64, 256, 512]⟩ .f32)
    (hX : ∀ c : Dev nD, m ((c : Thread nD τ).loc main_arg0) = X) (hT : ∀ c : Dev nD, m ((c : Thread nD τ).loc main_arg2) = T)
    (hW : ∀ c : Dev nD, m ((c : Thread nD τ).loc main_arg3) = Layout.block ⟨3, ![2, 256, 512]⟩ ⟨3, ![64, 256, 512]⟩ 0 32 c W) :
    outv m = Reference.out X T W := by
  refine funext fun i => ?_
  obtain ⟨r, j, rfl⟩ : ∃ r j, i = ix2 r j := ⟨i 0, i 1, funext fun b => match b with | ⟨0, _⟩ => rfl | ⟨1, _⟩ => rfl⟩
  refine (outv_apply m _).trans (Eq.trans ?_ (Reference.out_apply X T W r j).symm)
  refine Eq.trans (Finset.sum_congr rfl fun c _ => ?_) (sum_only (T (ix2 r 0)) fun e => ∑ k : Fin 256, X (ix2 r k) * W (ix3 e k j))
  have hw : ∀ (e : Fin 2) (k : Fin 256), ws m c (ix3 e k j) = W (ix3 ⟨2 * c.val + e.val, by have := c.isLt; have := e.isLt; show _ < 64; unfold nD at *; omega⟩ k j) := by
    intro e k
    rw [ws_eq, hW c]
    refine congrArg W (funext fun b => Fin.ext ?_)
    match b with
    | ⟨0, _⟩ => show c.val * 2 + e.val = 2 * c.val + e.val; omega
    | ⟨1, _⟩ => rfl
    | ⟨2, _⟩ => rfl
  show parts m c r j = _
  unfold parts part
  rw [word1, word0, ts_eq, xs_eq, hX c, hT c]
  simp only [hw]
  rfl

end Cert.Proof

end
-- ==== Proof.Algebraic.lean ====
/-
The value claim: over the ideal values the kernel's result on every device is the reference's.
-/
module

public import proofs.«01_k».proof.Defs
public import proofs.«01_k».proof.Proof.Equation
public import proofs.«01_k».proof.Proof.Gen.ReferenceIdeal.Run

@[expose] public section

noncomputable section

namespace Cert.Proof

open Idealize.ShloMosaic Idealize.SL.Sem

theorem algebraic : Cert.algebraic_KernelIdeal_ReferenceIdeal := by
  intro m g m' g' _ hm
  have ho := outv_eq m _ _ _ (fun c => (hm c).1) (fun c => (hm c).2.2.1) (fun c => (hm c).2.2.2)
  refine ⟨outv m, (θ_run Cert.KernelIdeal.defs _ _).mono (fun r h c => ?_) (run_main m g),
    (θ_run Cert.ReferenceIdeal.defs _ _).mono (fun r h => ⟨(h 0).1.trans ho.symm, (h 0).2⟩) (Cert.ReferenceIdeal.Value.run m' g')⟩
  obtain ⟨hw, h1⟩ := h.1 c
  have ha := final_arg m c
  exact ⟨(hw (3 : Fin 4)).trans (final_out m c), (hw (0 : Fin 4)).trans ha.1, h1, (hw (1 : Fin 4)).trans ha.2.1, (hw (2 : Fin 4)).trans ha.2.2⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  frame_kernel, frame_kernelIdeal, frame_reference, trivial, algebraic⟩

end Cert.Proof

end
